-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_RefFoxIdeal (m : (ℓ : Loc Cert.RefFoxIdeal.nD Cert.RefFoxIdeal.τ Cert.RefFoxIdeal.sig) → Buf (Elt Ideal) ℓ) : Prop :=
  True

def Pre_RefFoxIdeal_finite_scores [hPre_finite_scores : Cert.Pre_finite_scores.Facts] (m : (ℓ : Loc Cert.RefFoxIdeal.nD Cert.RefFoxIdeal.τ Cert.RefFoxIdeal.sig) → Buf (Elt Ideal) ℓ) : Prop :=
  ∀ c : Dev Cert.RefFoxIdeal.nD,
    (Cert.Pre_finite_scores.fn (F := Ideal) (m ((c.tc : Thread Cert.RefFoxIdeal.nD Cert.RefFoxIdeal.τ).loc Cert.RefFoxIdeal.main_arg0)) (m ((c.tc : Thread Cert.RefFoxIdeal.nD Cert.RefFoxIdeal.τ).loc Cert.RefFoxIdeal.main_arg1)) (m ((c.tc : Thread Cert.RefFoxIdeal.nD Cert.RefFoxIdeal.τ).loc Cert.RefFoxIdeal.main_arg2)) (m ((c.tc : Thread Cert.RefFoxIdeal.nD Cert.RefFoxIdeal.τ).loc Cert.RefFoxIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_RefMixFfnIdeal (m : (ℓ : Loc Cert.RefMixFfnIdeal.nD Cert.RefMixFfnIdeal.τ Cert.RefMixFfnIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_latents [hPre_finite_latents : Cert.Pre_finite_latents.Facts] (m : (ℓ : Loc Cert.MlaIdeal.nD Cert.MlaIdeal.τ Cert.MlaIdeal.sig) → Buf (Elt Ideal) ℓ) : Prop :=
  ∀ c : Dev Cert.MlaIdeal.nD,
    (Cert.Pre_finite_latents.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_RefMlaIdeal (m : (ℓ : Loc Cert.RefMlaIdeal.nD Cert.RefMlaIdeal.τ Cert.RefMlaIdeal.sig) → Buf (Elt Ideal) ℓ) : Prop :=
  True

def Pre_RefMlaIdeal_finite_latents [hPre_finite_latents : Cert.Pre_finite_latents.Facts] (m : (ℓ : Loc Cert.RefMlaIdeal.nD Cert.RefMlaIdeal.τ Cert.RefMlaIdeal.sig) → Buf (Elt Ideal) ℓ) : Prop :=
  ∀ c : Dev Cert.RefMlaIdeal.nD,
    (Cert.Pre_finite_latents.fn (F := Ideal) (m ((c.tc : Thread Cert.RefMlaIdeal.nD Cert.RefMlaIdeal.τ).loc Cert.RefMlaIdeal.main_arg0)) (m ((c.tc : Thread Cert.RefMlaIdeal.nD Cert.RefMlaIdeal.τ).loc Cert.RefMlaIdeal.main_arg1)) (m ((c.tc : Thread Cert.RefMlaIdeal.nD Cert.RefMlaIdeal.τ).loc Cert.RefMlaIdeal.main_arg2))) = (fun _ => 1#1)

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_RefModulIdeal (m : (ℓ : Loc Cert.RefModulIdeal.nD Cert.RefModulIdeal.τ Cert.RefModulIdeal.sig) → Buf (Elt Ideal) ℓ) : Prop :=
  True

def Pre_Hgrn (m : (ℓ : Loc Cert.Hgrn.nD Cert.Hgrn.τ Cert.Hgrn.sig) → Buf (Elt Bits) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_RefFoxIdeal [hRefFoxIdeal : Cert.RefFoxIdeal.Facts] : Prop :=
  ∀ (m : (ℓ : Loc Cert.RefFoxIdeal.nD Cert.RefFoxIdeal.τ Cert.RefFoxIdeal.sig) → Buf (Elt Ideal) ℓ) (g : Dev Cert.RefFoxIdeal.nD → PrngReg), Pre_RefFoxIdeal m →
    θ_run (Cert.RefFoxIdeal.defs (F := Ideal)) (onTc (τ := Cert.RefFoxIdeal.τ) (Cert.RefFoxIdeal.main (F := Ideal))) ⟨m, fun _ => 0, g⟩ (fun r => (∀ c : Dev Cert.RefFoxIdeal.nD,
      r.2.mem ((c.tc : Thread Cert.RefFoxIdeal.nD Cert.RefFoxIdeal.τ).loc Cert.RefFoxIdeal.main_arg0) = m ((c.tc : Thread Cert.RefFoxIdeal.nD Cert.RefFoxIdeal.τ).loc Cert.RefFoxIdeal.main_arg0)
      ∧ r.2.mem ((c.tc : Thread Cert.RefFoxIdeal.nD Cert.RefFoxIdeal.τ).loc Cert.RefFoxIdeal.main_arg1) = m ((c.tc : Thread Cert.RefFoxIdeal.nD Cert.RefFoxIdeal.τ).loc Cert.RefFoxIdeal.main_arg1)
      ∧ r.2.mem ((c.tc : Thread Cert.RefFoxIdeal.nD Cert.RefFoxIdeal.τ).loc Cert.RefFoxIdeal.main_arg2) = m ((c.tc : Thread Cert.RefFoxIdeal.nD Cert.RefFoxIdeal.τ).loc Cert.RefFoxIdeal.main_arg2)
      ∧ r.2.mem ((c.tc : Thread Cert.RefFoxIdeal.nD Cert.RefFoxIdeal.τ).loc Cert.RefFoxIdeal.main_arg3) = m ((c.tc : Thread Cert.RefFoxIdeal.nD Cert.RefFoxIdeal.τ).loc Cert.RefFoxIdeal.main_arg3))
      ∧ r.2.sem = fun _ => 0)

def quiescent_RefFoxIdeal_pre_finite_scores [hRefFoxIdeal : Cert.RefFoxIdeal.Facts] [hPre_finite_scores : Cert.Pre_finite_scores.Facts] : Prop :=
  ∀ (m : (ℓ : Loc Cert.RefFoxIdeal.nD Cert.RefFoxIdeal.τ Cert.RefFoxIdeal.sig) → Buf (Elt Ideal) ℓ) (g : Dev Cert.RefFoxIdeal.nD → PrngReg), Pre_RefFoxIdeal_finite_scores m →
    θ_run (Cert.RefFoxIdeal.defs (F := Ideal)) (onTc (τ := Cert.RefFoxIdeal.τ) (Cert.RefFoxIdeal.main (F := Ideal))) ⟨m, fun _ => 0, g⟩ (fun r => (∀ c : Dev Cert.RefFoxIdeal.nD,
      r.2.mem ((c.tc : Thread Cert.RefFoxIdeal.nD Cert.RefFoxIdeal.τ).loc Cert.RefFoxIdeal.main_arg0) = m ((c.tc : Thread Cert.RefFoxIdeal.nD Cert.RefFoxIdeal.τ).loc Cert.RefFoxIdeal.main_arg0)
      ∧ r.2.mem ((c.tc : Thread Cert.RefFoxIdeal.nD Cert.RefFoxIdeal.τ).loc Cert.RefFoxIdeal.main_arg1) = m ((c.tc : Thread Cert.RefFoxIdeal.nD Cert.RefFoxIdeal.τ).loc Cert.RefFoxIdeal.main_arg1)
      ∧ r.2.mem ((c.tc : Thread Cert.RefFoxIdeal.nD Cert.RefFoxIdeal.τ).loc Cert.RefFoxIdeal.main_arg2) = m ((c.tc : Thread Cert.RefFoxIdeal.nD Cert.RefFoxIdeal.τ).loc Cert.RefFoxIdeal.main_arg2)
      ∧ r.2.mem ((c.tc : Thread Cert.RefFoxIdeal.nD Cert.RefFoxIdeal.τ).loc Cert.RefFoxIdeal.main_arg3) = m ((c.tc : Thread Cert.RefFoxIdeal.nD Cert.RefFoxIdeal.τ).loc Cert.RefFoxIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6)
      ∧ r.2.mem ((c.tc : Thread Cert.MixFfn.nD Cert.MixFfn.τ).loc Cert.MixFfn.main_arg7) = m ((c.tc : Thread Cert.MixFfn.nD Cert.MixFfn.τ).loc Cert.MixFfn.main_arg7)
      ∧ r.2.mem ((c.tc : Thread Cert.MixFfn.nD Cert.MixFfn.τ).loc Cert.MixFfn.main_arg8) = m ((c.tc : Thread Cert.MixFfn.nD Cert.MixFfn.τ).loc Cert.MixFfn.main_arg8)
      ∧ r.2.mem ((c.tc : Thread Cert.MixFfn.nD Cert.MixFfn.τ).loc Cert.MixFfn.main_arg9) = m ((c.tc : Thread Cert.MixFfn.nD Cert.MixFfn.τ).loc Cert.MixFfn.main_arg9)
      ∧ r.2.mem ((c.tc : Thread Cert.MixFfn.nD Cert.MixFfn.τ).loc Cert.MixFfn.main_arg10) = m ((c.tc : Thread Cert.MixFfn.nD Cert.MixFfn.τ).loc Cert.MixFfn.main_arg10))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
      ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
      ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
      ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9)
      ∧ r.2.mem ((c.tc : Thread Cert.MixFfnIdeal.nD Cert.MixFfnIdeal.τ).loc Cert.MixFfnIdeal.main_arg10) = m ((c.tc : Thread Cert.MixFfnIdeal.nD Cert.MixFfnIdeal.τ).loc Cert.MixFfnIdeal.main_arg10))
      ∧ r.2.sem = fun _ => 0)

def quiescent_RefMixFfnIdeal [hRefMixFfnIdeal : Cert.RefMixFfnIdeal.Facts] : Prop :=
  ∀ (m : (ℓ : Loc Cert.RefMixFfnIdeal.nD Cert.RefMixFfnIdeal.τ Cert.RefMixFfnIdeal.sig) → Buf (Elt Ideal) ℓ) (g : Dev Cert.RefMixFfnIdeal.nD → PrngReg), Pre_RefMixFfnIdeal m →
    θ_run (Cert.RefMixFfnIdeal.defs (F := Ideal)) (onTc (τ := Cert.RefMixFfnIdeal.τ) (Cert.RefMixFfnIdeal.main (F := Ideal))) ⟨m, fun _ => 0, g⟩ (fun r => (∀ c : Dev Cert.RefMixFfnIdeal.nD,
      r.2.mem ((c.tc : Thread Cert.RefMixFfnIdeal.nD Cert.RefMixFfnIdeal.τ).loc Cert.RefMixFfnIdeal.main_arg0) = m ((c.tc : Thread Cert.RefMixFfnIdeal.nD Cert.RefMixFfnIdeal.τ).loc Cert.RefMixFfnIdeal.main_arg0)
      ∧ r.2.mem ((c.tc : Thread Cert.RefMixFfnIdeal.nD Cert.RefMixFfnIdeal.τ).loc Cert.RefMixFfnIdeal.main_arg1) = m ((c.tc : Thread Cert.RefMixFfnIdeal.nD Cert.RefMixFfnIdeal.τ).loc Cert.RefMixFfnIdeal.main_arg1)
      ∧ r.2.mem ((c.tc : Thread Cert.RefMixFfnIdeal.nD Cert.RefMixFfnIdeal.τ).loc Cert.RefMixFfnIdeal.main_arg2) = m ((c.tc : Thread Cert.RefMixFfnIdeal.nD Cert.RefMixFfnIdeal.τ).loc Cert.RefMixFfnIdeal.main_arg2)
      ∧ r.2.mem ((c.tc : Thread Cert.RefMixFfnIdeal.nD Cert.RefMixFfnIdeal.τ).loc Cert.RefMixFfnIdeal.main_arg3) = m ((c.tc : Thread Cert.RefMixFfnIdeal.nD Cert.RefMixFfnIdeal.τ).loc Cert.RefMixFfnIdeal.main_arg3)
      ∧ r.2.mem ((c.tc : Thread Cert.RefMixFfnIdeal.nD Cert.RefMixFfnIdeal.τ).loc Cert.RefMixFfnIdeal.main_arg4) = m ((c.tc : Thread Cert.RefMixFfnIdeal.nD Cert.RefMixFfnIdeal.τ).loc Cert.RefMixFfnIdeal.main_arg4)
      ∧ r.2.mem ((c.tc : Thread Cert.RefMixFfnIdeal.nD Cert.RefMixFfnIdeal.τ).loc Cert.RefMixFfnIdeal.main_arg5) = m ((c.tc : Thread Cert.RefMixFfnIdeal.nD Cert.RefMixFfnIdeal.τ).loc Cert.RefMixFfnIdeal.main_arg5)
      ∧ r.2.mem ((c.tc : Thread Cert.RefMixFfnIdeal.nD Cert.RefMixFfnIdeal.τ).loc Cert.RefMixFfnIdeal.main_arg6) = m ((c.tc : Thread Cert.RefMixFfnIdeal.nD Cert.RefMixFfnIdeal.τ).loc Cert.RefMixFfnIdeal.main_arg6)
      ∧ r.2.mem ((c.tc : Thread Cert.RefMixFfnIdeal.nD Cert.RefMixFfnIdeal.τ).loc Cert.RefMixFfnIdeal.main_arg7) = m ((c.tc : Thread Cert.RefMixFfnIdeal.nD Cert.RefMixFfnIdeal.τ).loc Cert.RefMixFfnIdeal.main_arg7)
      ∧ r.2.mem ((c.tc : Thread Cert.RefMixFfnIdeal.nD Cert.RefMixFfnIdeal.τ).loc Cert.RefMixFfnIdeal.main_arg8) = m ((c.tc : Thread Cert.RefMixFfnIdeal.nD Cert.RefMixFfnIdeal.τ).loc Cert.RefMixFfnIdeal.main_arg8)
      ∧ r.2.mem ((c.tc : Thread Cert.RefMixFfnIdeal.nD Cert.RefMixFfnIdeal.τ).loc Cert.RefMixFfnIdeal.main_arg9) = m ((c.tc : Thread Cert.RefMixFfnIdeal.nD Cert.RefMixFfnIdeal.τ).loc Cert.RefMixFfnIdeal.main_arg9)
      ∧ r.2.mem ((c.tc : Thread Cert.RefMixFfnIdeal.nD Cert.RefMixFfnIdeal.τ).loc Cert.RefMixFfnIdeal.main_arg10) = m ((c.tc : Thread Cert.RefMixFfnIdeal.nD Cert.RefMixFfnIdeal.τ).loc Cert.RefMixFfnIdeal.main_arg10))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_latents [hMlaIdeal : Cert.MlaIdeal.Facts] [hPre_finite_latents : Cert.Pre_finite_latents.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_latents m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_RefMlaIdeal [hRefMlaIdeal : Cert.RefMlaIdeal.Facts] : Prop :=
  ∀ (m : (ℓ : Loc Cert.RefMlaIdeal.nD Cert.RefMlaIdeal.τ Cert.RefMlaIdeal.sig) → Buf (Elt Ideal) ℓ) (g : Dev Cert.RefMlaIdeal.nD → PrngReg), Pre_RefMlaIdeal m →
    θ_run (Cert.RefMlaIdeal.defs (F := Ideal)) (onTc (τ := Cert.RefMlaIdeal.τ) (Cert.RefMlaIdeal.main (F := Ideal))) ⟨m, fun _ => 0, g⟩ (fun r => (∀ c : Dev Cert.RefMlaIdeal.nD,
      r.2.mem ((c.tc : Thread Cert.RefMlaIdeal.nD Cert.RefMlaIdeal.τ).loc Cert.RefMlaIdeal.main_arg0) = m ((c.tc : Thread Cert.RefMlaIdeal.nD Cert.RefMlaIdeal.τ).loc Cert.RefMlaIdeal.main_arg0)
      ∧ r.2.mem ((c.tc : Thread Cert.RefMlaIdeal.nD Cert.RefMlaIdeal.τ).loc Cert.RefMlaIdeal.main_arg1) = m ((c.tc : Thread Cert.RefMlaIdeal.nD Cert.RefMlaIdeal.τ).loc Cert.RefMlaIdeal.main_arg1)
      ∧ r.2.mem ((c.tc : Thread Cert.RefMlaIdeal.nD Cert.RefMlaIdeal.τ).loc Cert.RefMlaIdeal.main_arg2) = m ((c.tc : Thread Cert.RefMlaIdeal.nD Cert.RefMlaIdeal.τ).loc Cert.RefMlaIdeal.main_arg2))
      ∧ r.2.sem = fun _ => 0)

def quiescent_RefMlaIdeal_pre_finite_latents [hRefMlaIdeal : Cert.RefMlaIdeal.Facts] [hPre_finite_latents : Cert.Pre_finite_latents.Facts] : Prop :=
  ∀ (m : (ℓ : Loc Cert.RefMlaIdeal.nD Cert.RefMlaIdeal.τ Cert.RefMlaIdeal.sig) → Buf (Elt Ideal) ℓ) (g : Dev Cert.RefMlaIdeal.nD → PrngReg), Pre_RefMlaIdeal_finite_latents m →
    θ_run (Cert.RefMlaIdeal.defs (F := Ideal)) (onTc (τ := Cert.RefMlaIdeal.τ) (Cert.RefMlaIdeal.main (F := Ideal))) ⟨m, fun _ => 0, g⟩ (fun r => (∀ c : Dev Cert.RefMlaIdeal.nD,
      r.2.mem ((c.tc : Thread Cert.RefMlaIdeal.nD Cert.RefMlaIdeal.τ).loc Cert.RefMlaIdeal.main_arg0) = m ((c.tc : Thread Cert.RefMlaIdeal.nD Cert.RefMlaIdeal.τ).loc Cert.RefMlaIdeal.main_arg0)
      ∧ r.2.mem ((c.tc : Thread Cert.RefMlaIdeal.nD Cert.RefMlaIdeal.τ).loc Cert.RefMlaIdeal.main_arg1) = m ((c.tc : Thread Cert.RefMlaIdeal.nD Cert.RefMlaIdeal.τ).loc Cert.RefMlaIdeal.main_arg1)
      ∧ r.2.mem ((c.tc : Thread Cert.RefMlaIdeal.nD Cert.RefMlaIdeal.τ).loc Cert.RefMlaIdeal.main_arg2) = m ((c.tc : Thread Cert.RefMlaIdeal.nD Cert.RefMlaIdeal.τ).loc Cert.RefMlaIdeal.main_arg2))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_RefModulIdeal [hRefModulIdeal : Cert.RefModulIdeal.Facts] : Prop :=
  ∀ (m : (ℓ : Loc Cert.RefModulIdeal.nD Cert.RefModulIdeal.τ Cert.RefModulIdeal.sig) → Buf (Elt Ideal) ℓ) (g : Dev Cert.RefModulIdeal.nD → PrngReg), Pre_RefModulIdeal m →
    θ_run (Cert.RefModulIdeal.defs (F := Ideal)) (onTc (τ := Cert.RefModulIdeal.τ) (Cert.RefModulIdeal.main (F := Ideal))) ⟨m, fun _ => 0, g⟩ (fun r => (∀ c : Dev Cert.RefModulIdeal.nD,
      r.2.mem ((c.tc : Thread Cert.RefModulIdeal.nD Cert.RefModulIdeal.τ).loc Cert.RefModulIdeal.main_arg0) = m ((c.tc : Thread Cert.RefModulIdeal.nD Cert.RefModulIdeal.τ).loc Cert.RefModulIdeal.main_arg0)
      ∧ r.2.mem ((c.tc : Thread Cert.RefModulIdeal.nD Cert.RefModulIdeal.τ).loc Cert.RefModulIdeal.main_arg1) = m ((c.tc : Thread Cert.RefModulIdeal.nD Cert.RefModulIdeal.τ).loc Cert.RefModulIdeal.main_arg1)
      ∧ r.2.mem ((c.tc : Thread Cert.RefModulIdeal.nD Cert.RefModulIdeal.τ).loc Cert.RefModulIdeal.main_arg2) = m ((c.tc : Thread Cert.RefModulIdeal.nD Cert.RefModulIdeal.τ).loc Cert.RefModulIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def preserves_Fox_FoxIdeal : Prop :=
  IdealRules.named_const.Statement Cert.FoxIdeal.κ "log2e" .f32 0x3FB8AA3B#32 (((Real.log 2)⁻¹ : ℝ) : EReal)
  ∧ IdealRules.named_const.Statement Cert.FoxIdeal.κ "neg_inf" .f32 0xF149F2CA#32 ⊥

def algebraic_FoxIdeal_RefFoxIdeal_pre_finite_scores [hFoxIdeal : Cert.FoxIdeal.Facts] [hRefFoxIdeal : Cert.RefFoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.RefFoxIdeal.nD Cert.RefFoxIdeal.τ Cert.RefFoxIdeal.sig) → Buf (Elt Ideal) ℓ) (g' : Dev Cert.RefFoxIdeal.nD → PrngReg), Pre_FoxIdeal_finite_scores m →
    (∀ c : Dev Cert.FoxIdeal.nD,
      m' ((c.tc : Thread Cert.RefFoxIdeal.nD Cert.RefFoxIdeal.τ).loc Cert.RefFoxIdeal.main_arg0) = m ((c.tc : Thread Cert.FoxIdeal.nD Cert.FoxIdeal.τ).loc Cert.FoxIdeal.main_arg0)
      ∧ m' ((c.tc : Thread Cert.RefFoxIdeal.nD Cert.RefFoxIdeal.τ).loc Cert.RefFoxIdeal.main_arg1) = m ((c.tc : Thread Cert.FoxIdeal.nD Cert.FoxIdeal.τ).loc Cert.FoxIdeal.main_arg1)
      ∧ m' ((c.tc : Thread Cert.RefFoxIdeal.nD Cert.RefFoxIdeal.τ).loc Cert.RefFoxIdeal.main_arg2) = m ((c.tc : Thread Cert.FoxIdeal.nD Cert.FoxIdeal.τ).loc Cert.FoxIdeal.main_arg2)
      ∧ m' ((c.tc : Thread Cert.RefFoxIdeal.nD Cert.RefFoxIdeal.τ).loc Cert.RefFoxIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v11)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v11) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.RefFoxIdeal.defs (F := Ideal)) (onTc (τ := Cert.RefFoxIdeal.τ) (Cert.RefFoxIdeal.main (F := Ideal))) ⟨m', fun _ => 0, g'⟩ (fun r => ∀ c : Dev Cert.RefFoxIdeal.nD,
          r.2.mem ((c.tc : Thread Cert.RefFoxIdeal.nD Cert.RefFoxIdeal.τ).loc Cert.RefFoxIdeal.main_v34) = v0 c
          ∧ r.2.mem ((c.tc : Thread Cert.RefFoxIdeal.nD Cert.RefFoxIdeal.τ).loc Cert.RefFoxIdeal.main_arg0) = m' ((c.tc : Thread Cert.RefFoxIdeal.nD Cert.RefFoxIdeal.τ).loc Cert.RefFoxIdeal.main_arg0)
          ∧ r.2.mem ((c.tc : Thread Cert.RefFoxIdeal.nD Cert.RefFoxIdeal.τ).loc Cert.RefFoxIdeal.main_arg1) = m' ((c.tc : Thread Cert.RefFoxIdeal.nD Cert.RefFoxIdeal.τ).loc Cert.RefFoxIdeal.main_arg1)
          ∧ r.2.mem ((c.tc : Thread Cert.RefFoxIdeal.nD Cert.RefFoxIdeal.τ).loc Cert.RefFoxIdeal.main_arg2) = m' ((c.tc : Thread Cert.RefFoxIdeal.nD Cert.RefFoxIdeal.τ).loc Cert.RefFoxIdeal.main_arg2)
          ∧ r.2.mem ((c.tc : Thread Cert.RefFoxIdeal.nD Cert.RefFoxIdeal.τ).loc Cert.RefFoxIdeal.main_arg3) = m' ((c.tc : Thread Cert.RefFoxIdeal.nD Cert.RefFoxIdeal.τ).loc Cert.RefFoxIdeal.main_arg3))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v55) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5))

def preserves_MixFfn_MixFfnIdeal : Prop :=
  True

def algebraic_MixFfnIdeal_RefMixFfnIdeal [hMixFfnIdeal : Cert.MixFfnIdeal.Facts] [hRefMixFfnIdeal : Cert.RefMixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.RefMixFfnIdeal.nD Cert.RefMixFfnIdeal.τ Cert.RefMixFfnIdeal.sig) → Buf (Elt Ideal) ℓ) (g' : Dev Cert.RefMixFfnIdeal.nD → PrngReg), Pre_MixFfnIdeal m →
    (∀ c : Dev Cert.MixFfnIdeal.nD,
      m' ((c.tc : Thread Cert.RefMixFfnIdeal.nD Cert.RefMixFfnIdeal.τ).loc Cert.RefMixFfnIdeal.main_arg0) = m ((c.tc : Thread Cert.MixFfnIdeal.nD Cert.MixFfnIdeal.τ).loc Cert.MixFfnIdeal.main_arg0)
      ∧ m' ((c.tc : Thread Cert.RefMixFfnIdeal.nD Cert.RefMixFfnIdeal.τ).loc Cert.RefMixFfnIdeal.main_arg1) = m ((c.tc : Thread Cert.MixFfnIdeal.nD Cert.MixFfnIdeal.τ).loc Cert.MixFfnIdeal.main_arg1)
      ∧ m' ((c.tc : Thread Cert.RefMixFfnIdeal.nD Cert.RefMixFfnIdeal.τ).loc Cert.RefMixFfnIdeal.main_arg2) = m ((c.tc : Thread Cert.MixFfnIdeal.nD Cert.MixFfnIdeal.τ).loc Cert.MixFfnIdeal.main_arg2)
      ∧ m' ((c.tc : Thread Cert.RefMixFfnIdeal.nD Cert.RefMixFfnIdeal.τ).loc Cert.RefMixFfnIdeal.main_arg3) = m ((c.tc : Thread Cert.MixFfnIdeal.nD Cert.MixFfnIdeal.τ).loc Cert.MixFfnIdeal.main_arg3)
      ∧ m' ((c.tc : Thread Cert.RefMixFfnIdeal.nD Cert.RefMixFfnIdeal.τ).loc Cert.RefMixFfnIdeal.main_arg4) = m ((c.tc : Thread Cert.MixFfnIdeal.nD Cert.MixFfnIdeal.τ).loc Cert.MixFfnIdeal.main_arg4)
      ∧ m' ((c.tc : Thread Cert.RefMixFfnIdeal.nD Cert.RefMixFfnIdeal.τ).loc Cert.RefMixFfnIdeal.main_arg5) = m ((c.tc : Thread Cert.MixFfnIdeal.nD Cert.MixFfnIdeal.τ).loc Cert.MixFfnIdeal.main_arg5)
      ∧ m' ((c.tc : Thread Cert.RefMixFfnIdeal.nD Cert.RefMixFfnIdeal.τ).loc Cert.RefMixFfnIdeal.main_arg6) = m ((c.tc : Thread Cert.MixFfnIdeal.nD Cert.MixFfnIdeal.τ).loc Cert.MixFfnIdeal.main_arg6)
      ∧ m' ((c.tc : Thread Cert.RefMixFfnIdeal.nD Cert.RefMixFfnIdeal.τ).loc Cert.RefMixFfnIdeal.main_arg7) = m ((c.tc : Thread Cert.MixFfnIdeal.nD Cert.MixFfnIdeal.τ).loc Cert.MixFfnIdeal.main_arg7)
      ∧ m' ((c.tc : Thread Cert.RefMixFfnIdeal.nD Cert.RefMixFfnIdeal.τ).loc Cert.RefMixFfnIdeal.main_arg8) = m ((c.tc : Thread Cert.MixFfnIdeal.nD Cert.MixFfnIdeal.τ).loc Cert.MixFfnIdeal.main_arg8)
      ∧ m' ((c.tc : Thread Cert.RefMixFfnIdeal.nD Cert.RefMixFfnIdeal.τ).loc Cert.RefMixFfnIdeal.main_arg9) = m ((c.tc : Thread Cert.MixFfnIdeal.nD Cert.MixFfnIdeal.τ).loc Cert.MixFfnIdeal.main_arg9)
      ∧ m' ((c.tc : Thread Cert.RefMixFfnIdeal.nD Cert.RefMixFfnIdeal.τ).loc Cert.RefMixFfnIdeal.main_arg10) = m ((c.tc : Thread Cert.MixFfnIdeal.nD Cert.MixFfnIdeal.τ).loc Cert.MixFfnIdeal.main_arg10)) →
    ∃ (v0 : (c : Dev Cert.MixFfnIdeal.nD) → Buf (Elt Ideal) ((c.tc : Thread Cert.MixFfnIdeal.nD Cert.MixFfnIdeal.τ).loc Cert.MixFfnIdeal.main_v7)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v7) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
          ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
          ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
          ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9)
          ∧ r.2.mem ((c.tc : Thread Cert.MixFfnIdeal.nD Cert.MixFfnIdeal.τ).loc Cert.MixFfnIdeal.main_arg10) = m ((c.tc : Thread Cert.MixFfnIdeal.nD Cert.MixFfnIdeal.τ).loc Cert.MixFfnIdeal.main_arg10))
      ∧ θ_run (Cert.RefMixFfnIdeal.defs (F := Ideal)) (onTc (τ := Cert.RefMixFfnIdeal.τ) (Cert.RefMixFfnIdeal.main (F := Ideal))) ⟨m', fun _ => 0, g'⟩ (fun r => ∀ c : Dev Cert.RefMixFfnIdeal.nD,
          r.2.mem ((c.tc : Thread Cert.RefMixFfnIdeal.nD Cert.RefMixFfnIdeal.τ).loc Cert.RefMixFfnIdeal.main_v95) = v0 c
          ∧ r.2.mem ((c.tc : Thread Cert.RefMixFfnIdeal.nD Cert.RefMixFfnIdeal.τ).loc Cert.RefMixFfnIdeal.main_arg0) = m' ((c.tc : Thread Cert.RefMixFfnIdeal.nD Cert.RefMixFfnIdeal.τ).loc Cert.RefMixFfnIdeal.main_arg0)
          ∧ r.2.mem ((c.tc : Thread Cert.RefMixFfnIdeal.nD Cert.RefMixFfnIdeal.τ).loc Cert.RefMixFfnIdeal.main_arg1) = m' ((c.tc : Thread Cert.RefMixFfnIdeal.nD Cert.RefMixFfnIdeal.τ).loc Cert.RefMixFfnIdeal.main_arg1)
          ∧ r.2.mem ((c.tc : Thread Cert.RefMixFfnIdeal.nD Cert.RefMixFfnIdeal.τ).loc Cert.RefMixFfnIdeal.main_arg2) = m' ((c.tc : Thread Cert.RefMixFfnIdeal.nD Cert.RefMixFfnIdeal.τ).loc Cert.RefMixFfnIdeal.main_arg2)
          ∧ r.2.mem ((c.tc : Thread Cert.RefMixFfnIdeal.nD Cert.RefMixFfnIdeal.τ).loc Cert.RefMixFfnIdeal.main_arg3) = m' ((c.tc : Thread Cert.RefMixFfnIdeal.nD Cert.RefMixFfnIdeal.τ).loc Cert.RefMixFfnIdeal.main_arg3)
          ∧ r.2.mem ((c.tc : Thread Cert.RefMixFfnIdeal.nD Cert.RefMixFfnIdeal.τ).loc Cert.RefMixFfnIdeal.main_arg4) = m' ((c.tc : Thread Cert.RefMixFfnIdeal.nD Cert.RefMixFfnIdeal.τ).loc Cert.RefMixFfnIdeal.main_arg4)
          ∧ r.2.mem ((c.tc : Thread Cert.RefMixFfnIdeal.nD Cert.RefMixFfnIdeal.τ).loc Cert.RefMixFfnIdeal.main_arg5) = m' ((c.tc : Thread Cert.RefMixFfnIdeal.nD Cert.RefMixFfnIdeal.τ).loc Cert.RefMixFfnIdeal.main_arg5)
          ∧ r.2.mem ((c.tc : Thread Cert.RefMixFfnIdeal.nD Cert.RefMixFfnIdeal.τ).loc Cert.RefMixFfnIdeal.main_arg6) = m' ((c.tc : Thread Cert.RefMixFfnIdeal.nD Cert.RefMixFfnIdeal.τ).loc Cert.RefMixFfnIdeal.main_arg6)
          ∧ r.2.mem ((c.tc : Thread Cert.RefMixFfnIdeal.nD Cert.RefMixFfnIdeal.τ).loc Cert.RefMixFfnIdeal.main_arg7) = m' ((c.tc : Thread Cert.RefMixFfnIdeal.nD Cert.RefMixFfnIdeal.τ).loc Cert.RefMixFfnIdeal.main_arg7)
          ∧ r.2.mem ((c.tc : Thread Cert.RefMixFfnIdeal.nD Cert.RefMixFfnIdeal.τ).loc Cert.RefMixFfnIdeal.main_arg8) = m' ((c.tc : Thread Cert.RefMixFfnIdeal.nD Cert.RefMixFfnIdeal.τ).loc Cert.RefMixFfnIdeal.main_arg8)
          ∧ r.2.mem ((c.tc : Thread Cert.RefMixFfnIdeal.nD Cert.RefMixFfnIdeal.τ).loc Cert.RefMixFfnIdeal.main_arg9) = m' ((c.tc : Thread Cert.RefMixFfnIdeal.nD Cert.RefMixFfnIdeal.τ).loc Cert.RefMixFfnIdeal.main_arg9)
          ∧ r.2.mem ((c.tc : Thread Cert.RefMixFfnIdeal.nD Cert.RefMixFfnIdeal.τ).loc Cert.RefMixFfnIdeal.main_arg10) = m' ((c.tc : Thread Cert.RefMixFfnIdeal.nD Cert.RefMixFfnIdeal.τ).loc Cert.RefMixFfnIdeal.main_arg10))

def preserves_Mla_MlaIdeal : Prop :=
  IdealRules.named_const.Statement Cert.MlaIdeal.κ "neg_inf" .f32 0xF149F2CA#32 ⊥

def algebraic_MlaIdeal_RefMlaIdeal_pre_finite_latents [hMlaIdeal : Cert.MlaIdeal.Facts] [hRefMlaIdeal : Cert.RefMlaIdeal.Facts] [hPre_finite_latents : Cert.Pre_finite_latents.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.RefMlaIdeal.nD Cert.RefMlaIdeal.τ Cert.RefMlaIdeal.sig) → Buf (Elt Ideal) ℓ) (g' : Dev Cert.RefMlaIdeal.nD → PrngReg), Pre_MlaIdeal_finite_latents m →
    (∀ c : Dev Cert.MlaIdeal.nD,
      m' ((c.tc : Thread Cert.RefMlaIdeal.nD Cert.RefMlaIdeal.τ).loc Cert.RefMlaIdeal.main_arg0) = m ((c.tc : Thread Cert.MlaIdeal.nD Cert.MlaIdeal.τ).loc Cert.MlaIdeal.main_arg0)
      ∧ m' ((c.tc : Thread Cert.RefMlaIdeal.nD Cert.RefMlaIdeal.τ).loc Cert.RefMlaIdeal.main_arg1) = m ((c.tc : Thread Cert.MlaIdeal.nD Cert.MlaIdeal.τ).loc Cert.MlaIdeal.main_arg1)
      ∧ m' ((c.tc : Thread Cert.RefMlaIdeal.nD Cert.RefMlaIdeal.τ).loc Cert.RefMlaIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v23)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v23) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.RefMlaIdeal.defs (F := Ideal)) (onTc (τ := Cert.RefMlaIdeal.τ) (Cert.RefMlaIdeal.main (F := Ideal))) ⟨m', fun _ => 0, g'⟩ (fun r => ∀ c : Dev Cert.RefMlaIdeal.nD,
          r.2.mem ((c.tc : Thread Cert.RefMlaIdeal.nD Cert.RefMlaIdeal.τ).loc Cert.RefMlaIdeal.main_v24) = v0 c
          ∧ r.2.mem ((c.tc : Thread Cert.RefMlaIdeal.nD Cert.RefMlaIdeal.τ).loc Cert.RefMlaIdeal.main_arg0) = m' ((c.tc : Thread Cert.RefMlaIdeal.nD Cert.RefMlaIdeal.τ).loc Cert.RefMlaIdeal.main_arg0)
          ∧ r.2.mem ((c.tc : Thread Cert.RefMlaIdeal.nD Cert.RefMlaIdeal.τ).loc Cert.RefMlaIdeal.main_arg1) = m' ((c.tc : Thread Cert.RefMlaIdeal.nD Cert.RefMlaIdeal.τ).loc Cert.RefMlaIdeal.main_arg1)
          ∧ r.2.mem ((c.tc : Thread Cert.RefMlaIdeal.nD Cert.RefMlaIdeal.τ).loc Cert.RefMlaIdeal.main_arg2) = m' ((c.tc : Thread Cert.RefMlaIdeal.nD Cert.RefMlaIdeal.τ).loc Cert.RefMlaIdeal.main_arg2))

def preserves_Modul_ModulIdeal : Prop :=
  True

def algebraic_ModulIdeal_RefModulIdeal [hModulIdeal : Cert.ModulIdeal.Facts] [hRefModulIdeal : Cert.RefModulIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.RefModulIdeal.nD Cert.RefModulIdeal.τ Cert.RefModulIdeal.sig) → Buf (Elt Ideal) ℓ) (g' : Dev Cert.RefModulIdeal.nD → PrngReg), Pre_ModulIdeal m →
    (∀ c : Dev Cert.ModulIdeal.nD,
      m' ((c.tc : Thread Cert.RefModulIdeal.nD Cert.RefModulIdeal.τ).loc Cert.RefModulIdeal.main_arg0) = m ((c.tc : Thread Cert.ModulIdeal.nD Cert.ModulIdeal.τ).loc Cert.ModulIdeal.main_arg0)
      ∧ m' ((c.tc : Thread Cert.RefModulIdeal.nD Cert.RefModulIdeal.τ).loc Cert.RefModulIdeal.main_arg1) = m ((c.tc : Thread Cert.ModulIdeal.nD Cert.ModulIdeal.τ).loc Cert.ModulIdeal.main_arg1)
      ∧ m' ((c.tc : Thread Cert.RefModulIdeal.nD Cert.RefModulIdeal.τ).loc Cert.RefModulIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v1)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v1) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.RefModulIdeal.defs (F := Ideal)) (onTc (τ := Cert.RefModulIdeal.τ) (Cert.RefModulIdeal.main (F := Ideal))) ⟨m', fun _ => 0, g'⟩ (fun r => ∀ c : Dev Cert.RefModulIdeal.nD,
          r.2.mem ((c.tc : Thread Cert.RefModulIdeal.nD Cert.RefModulIdeal.τ).loc Cert.RefModulIdeal.main_v19) = v0 c
          ∧ r.2.mem ((c.tc : Thread Cert.RefModulIdeal.nD Cert.RefModulIdeal.τ).loc Cert.RefModulIdeal.main_arg0) = m' ((c.tc : Thread Cert.RefModulIdeal.nD Cert.RefModulIdeal.τ).loc Cert.RefModulIdeal.main_arg0)
          ∧ r.2.mem ((c.tc : Thread Cert.RefModulIdeal.nD Cert.RefModulIdeal.τ).loc Cert.RefModulIdeal.main_arg1) = m' ((c.tc : Thread Cert.RefModulIdeal.nD Cert.RefModulIdeal.τ).loc Cert.RefModulIdeal.main_arg1)
          ∧ r.2.mem ((c.tc : Thread Cert.RefModulIdeal.nD Cert.RefModulIdeal.τ).loc Cert.RefModulIdeal.main_arg2) = m' ((c.tc : Thread Cert.RefModulIdeal.nD Cert.RefModulIdeal.τ).loc Cert.RefModulIdeal.main_arg2))

def Claim : Prop :=
  ∃ (hFox : Cert.Fox.Facts) (hFoxIdeal : Cert.FoxIdeal.Facts) (hRefFoxIdeal : Cert.RefFoxIdeal.Facts) (hFfn : Cert.Ffn.Facts) (hFfnIdeal : Cert.FfnIdeal.Facts) (hRefFfnIdeal : Cert.RefFfnIdeal.Facts) (hMixFfn : Cert.MixFfn.Facts) (hMixFfnIdeal : Cert.MixFfnIdeal.Facts) (hRefMixFfnIdeal : Cert.RefMixFfnIdeal.Facts) (hMla : Cert.Mla.Facts) (hMlaIdeal : Cert.MlaIdeal.Facts) (hRefMlaIdeal : Cert.RefMlaIdeal.Facts) (hModul : Cert.Modul.Facts) (hModulIdeal : Cert.ModulIdeal.Facts) (hRefModulIdeal : Cert.RefModulIdeal.Facts) (hHgrn : Cert.Hgrn.Facts) (hPre_finite_scores : Cert.Pre_finite_scores.Facts) (hPre_finite_latents : Cert.Pre_finite_latents.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_RefFoxIdeal (hRefFoxIdeal := hRefFoxIdeal)
    ∧ quiescent_RefFoxIdeal_pre_finite_scores (hRefFoxIdeal := hRefFoxIdeal) (hPre_finite_scores := hPre_finite_scores)
    ∧ quiescent_Ffn (hFfn := hFfn)
    ∧ quiescent_FfnIdeal (hFfnIdeal := hFfnIdeal)
    ∧ quiescent_RefFfnIdeal (hRefFfnIdeal := hRefFfnIdeal)
    ∧ quiescent_MixFfn (hMixFfn := hMixFfn)
    ∧ quiescent_MixFfnIdeal (hMixFfnIdeal := hMixFfnIdeal)
    ∧ quiescent_RefMixFfnIdeal (hRefMixFfnIdeal := hRefMixFfnIdeal)
    ∧ quiescent_Mla (hMla := hMla)
    ∧ quiescent_MlaIdeal (hMlaIdeal := hMlaIdeal)
    ∧ quiescent_MlaIdeal_pre_finite_latents (hMlaIdeal := hMlaIdeal) (hPre_finite_latents := hPre_finite_latents)
    ∧ quiescent_RefMlaIdeal (hRefMlaIdeal := hRefMlaIdeal)
    ∧ quiescent_RefMlaIdeal_pre_finite_latents (hRefMlaIdeal := hRefMlaIdeal) (hPre_finite_latents := hPre_finite_latents)
    ∧ quiescent_Modul (hModul := hModul)
    ∧ quiescent_ModulIdeal (hModulIdeal := hModulIdeal)
    ∧ quiescent_RefModulIdeal (hRefModulIdeal := hRefModulIdeal)
    ∧ quiescent_Hgrn (hHgrn := hHgrn)
    ∧ preserves_Fox_FoxIdeal
    ∧ algebraic_FoxIdeal_RefFoxIdeal_pre_finite_scores (hFoxIdeal := hFoxIdeal) (hRefFoxIdeal := hRefFoxIdeal) (hPre_finite_scores := hPre_finite_scores)
    ∧ preserves_Ffn_FfnIdeal
    ∧ algebraic_FfnIdeal_RefFfnIdeal (hFfnIdeal := hFfnIdeal) (hRefFfnIdeal := hRefFfnIdeal)
    ∧ preserves_MixFfn_MixFfnIdeal
    ∧ algebraic_MixFfnIdeal_RefMixFfnIdeal (hMixFfnIdeal := hMixFfnIdeal) (hRefMixFfnIdeal := hRefMixFfnIdeal)
    ∧ preserves_Mla_MlaIdeal
    ∧ algebraic_MlaIdeal_RefMlaIdeal_pre_finite_latents (hMlaIdeal := hMlaIdeal) (hRefMlaIdeal := hRefMlaIdeal) (hPre_finite_latents := hPre_finite_latents)
    ∧ preserves_Modul_ModulIdeal
    ∧ algebraic_ModulIdeal_RefModulIdeal (hModulIdeal := hModulIdeal) (hRefModulIdeal := hRefModulIdeal)
-- ==== Pre_finite_latents.lean ====
abbrev S16x2048x4x96 : Shape := ⟨4, ![16, 2048, 4, 96]⟩
abbrev S16x2048x4x64 : Shape := ⟨4, ![16, 2048, 4, 64]⟩
abbrev S_ : Shape := ⟨0, ![]⟩

class Facts : Prop where
  bcast_S_S16x2048x4x96 : S_.BroadcastsInDim S16x2048x4x96 (![] : Fin 0 → Fin S16x2048x4x96.rank)
  reducesTo_S16x2048x4x96_S_d0_1_2_3 : S16x2048x4x96.ReducesTo [0, 1, 2, 3] S_
  h_S_ : 0 < S_.numel

variable [Facts]

def fn {F : FTy → Type} [FloatOps F] (main_arg0 : FVec F S16x2048x4x96 .f32) (main_arg1 : FVec F S16x2048x4x96 .f32) (main_arg2 : FVec F S16x2048x4x64 .f32) : IVec S_ 1 :=
  let main_v0 : FVec F S16x2048x4x96 .f32 := Host.absf main_arg0
  let main_cst : FVec F S_ .f32 := constant S_ .f32 0x7F800000#32
  let main_v1 : FVec F S16x2048x4x96 .f32 := broadcastInDim S16x2048x4x96 ![] bcast_S_S16x2048x4x96 main_cst
  let main_v2 : IVec S16x2048x4x96 1 := cmpf .olt main_v0 main_v1
  let main_c : IVec S_ 1 := constantI S_ 1 1#1
  let main_v3 : IVec S_ 1 := (fun x v => Host.reduce IntOp.andi x v reducesTo_S16x2048x4x96_S_d0_1_2_3 h_S_) main_v2 main_c
  let main_v4 : FVec F S16x2048x4x96 .f32 := Host.absf main_arg1
  let main_cst_0 : FVec F S_ .f32 := constant S_ .f32 0x7F800000#32
  let main_v5 : FVec F S16x2048x4x96 .f32 := broadcastInDim S16x2048x4x96 ![] bcast_S_S16x2048x4x96 main_cst_0
  let main_v6 : IVec S16x2048x4x96 1 := cmpf .olt main_v4 main_v5
  let main_c_1 : IVec S_ 1 := constantI S_ 1 1#1
  let main_v7 : IVec S_ 1 := (fun x v => Host.reduce IntOp.andi x v reducesTo_S16x2048x4x96_S_d0_1_2_3 h_S_) main_v6 main_c_1
  let main_v8 : IVec S_ 1 := andi main_v3 main_v7
  main_v8
-- ==== Pre_finite_scores.lean ====
abbrev S16x2048x256 : Shape := ⟨3, ![16, 2048, 256]⟩
abbrev S16x2048x4 : Shape := ⟨3, ![16, 2048, 4]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x2048x4 : S_.BroadcastsInDim S16x2048x4 (![] : Fin 0 → Fin S16x2048x4.rank)
  reducesTo_S16x2048x4_S_d0_1_2 : S16x2048x4.ReducesTo [0, 1, 2] S_

variable [Facts]

def fn {F : FTy → Type} [FloatOps F] (main_arg0 : FVec F S16x2048x256 .f32) (main_arg1 : FVec F S16x2048x256 .f32) (main_arg2 : FVec F S16x2048x256 .f32) (main_arg3 : FVec F S16x2048x4 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x4 .f32 := Host.absf main_arg3
  let main_cst_2 : FVec F S_ .f32 := constant S_ .f32 0x7F800000#32
  let main_v10 : FVec F S16x2048x4 .f32 := broadcastInDim S16x2048x4 ![] bcast_S_S16x2048x4 main_cst_2
  let main_v11 : IVec S16x2048x4 1 := cmpf .olt main_v9 main_v10
  let main_c_3 : IVec S_ 1 := constantI S_ 1 1#1
  let main_v12 : IVec S_ 1 := (fun x v => Host.reduce IntOp.andi x v reducesTo_S16x2048x4_S_d0_1_2 h_S_) main_v11 main_c_3
  let main_v13 : IVec S_ 1 := andi main_v8 main_v12
  main_v13
-- ==== Fox.lean ====
abbrev S16x2048x256 : Shape := ⟨3, ![16, 2048, 256]⟩
abbrev S16x2048x4 : Shape := ⟨3, ![16, 2048, 4]⟩
abbrev S_ : Shape := ⟨0, ![]⟩
abbrev S16x256x2048 : Shape := ⟨3, ![16, 256, 2048]⟩
abbrev S16x4x2048 : Shape := ⟨3, ![16, 4, 2048]⟩
abbrev S16x8x2048 : Shape := ⟨3, ![16, 8, 2048]⟩
abbrev S1x2048x128 : Shape := ⟨3, ![1, 2048, 128]⟩
abbrev S1x128x2048 : Shape := ⟨3, ![1, 128, 2048]⟩
abbrev S1x8x2048 : Shape := ⟨3, ![1, 8, 2048]⟩
abbrev S4x256x2048 : Shape := ⟨3, ![4, 256, 2048]⟩
abbrev S256x256 : Shape := ⟨2, ![256, 256]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S8x256 : Shape := ⟨2, ![8, 256]⟩
abbrev S1x8x256 : Shape := ⟨3, ![1, 8, 256]⟩
abbrev S256 : Shape := ⟨1, ![256]⟩
abbrev S1x256 : Shape := ⟨2, ![1, 256]⟩
abbrev S1x256x2048 : Shape := ⟨3, ![1, 256, 2048]⟩
abbrev S256x2048 : Shape := ⟨2, ![256, 2048]⟩
abbrev S256x1 : Shape := ⟨2, ![256, 1]⟩

abbrev nBuf : Space → Nat
  | .hbm => 20
  | .vmem => 11
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x256, .f32⟩
  | .hbm, ⟨10, _⟩ => ⟨S16x2048x256, .f32⟩
  | .hbm, ⟨11, _⟩ => ⟨S16x2048x256, .bf16⟩
  | .hbm, ⟨12, _⟩ => ⟨S16x256x2048, .f32⟩
  | .hbm, ⟨13, _⟩ => ⟨S16x256x2048, .bf16⟩
  | .hbm, ⟨14, _⟩ => ⟨S16x4x2048, .f32⟩
  | .hbm, ⟨15, _⟩ => ⟨S_, .i32⟩
  | .hbm, ⟨16, _⟩ => ⟨S_, .f32⟩
  | .hbm, ⟨17, _⟩ => ⟨S16x8x2048, .f32⟩
  | .hbm, ⟨18, _⟩ => ⟨S16x2048x256, .bf16⟩
  | .hbm, ⟨19, _⟩ => ⟨S16x2048x256, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8x2048, .f32⟩
  | .local _ .vmem, ⟨7, _⟩ => ⟨S1x8x2048, .f32⟩
  | .local _ .vmem, ⟨8, _⟩ => ⟨S1x2048x128, .bf16⟩
  | .local _ .vmem, ⟨9, _⟩ => ⟨S1x2048x128, .bf16⟩
  | .local _ .vmem, ⟨10, _⟩ => ⟨S4x256x2048, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxIdeal.lean ====
variable {F : FTy → Type} [FloatOps F] [Named F]
def κ : String → Option EReal := fun
  | "log2e" => some (((Real.log 2)⁻¹ : ℝ) : EReal)
  | "neg_inf" => some ⊥
  | _ => none
-- ==== RefFoxIdeal.lean ====
abbrev S16x2048x256 : Shape := ⟨3, ![16, 2048, 256]⟩
abbrev S16x2048x4 : Shape := ⟨3, ![16, 2048, 4]⟩
abbrev S16x2048x4x64 : Shape := ⟨4, ![16, 2048, 4, 64]⟩
abbrev S16x4x2048 : Shape := ⟨3, ![16, 4, 2048]⟩
abbrev S16x4x2048x2048 : Shape := ⟨4, ![16, 4, 2048, 2048]⟩
abbrev S_ : Shape := ⟨0, ![]⟩
abbrev S16x4x2048x1 : Shape := ⟨4, ![16, 4, 2048, 1]⟩
abbrev S16x4x1x2048 : Shape := ⟨4, ![16, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x64x2048 : Shape := ⟨4, ![16, 4, 64, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x4, .f32⟩
  | .hbm, ⟨4, _⟩ => ⟨S16x2048x4x64, .f32⟩
  | .hbm, ⟨5, _⟩ => ⟨S16x2048x4x64, .f32⟩
  | .hbm, ⟨6, _⟩ => ⟨S16x2048x4x64, .f32⟩
  | .hbm, ⟨7, _⟩ => ⟨S16x4x2048, .f32⟩
  | .hbm, ⟨8, _⟩ => ⟨S16x4x2048x2048, .f32⟩
  | .hbm, ⟨9, _⟩ => ⟨S_, .f32⟩
  | .hbm, ⟨10, _⟩ => ⟨S16x4x2048x2048, .f32⟩
  | .hbm, ⟨11, _⟩ => ⟨S16x4x2048x2048, .f32⟩
  | .hbm, ⟨12, _⟩ => ⟨S16x4x2048x1, .f32⟩
  | .hbm, ⟨13, _⟩ => ⟨S16x4x1x2048, .f32⟩
  | .hbm, ⟨14, _⟩ => ⟨S16x4x2048x2048, .f32⟩
  | .hbm, ⟨15, _⟩ => ⟨S16x4x2048x2048, .f32⟩
  | .hbm, ⟨16, _⟩ => ⟨S16x4x2048x2048, .f32⟩
  | .hbm, ⟨17, _⟩ => ⟨S16x4x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S16x4x2048x2048, .i1⟩
  | .hbm, ⟨27, _⟩ => ⟨S16x4x2048x2048, .f32⟩
  | .hbm, ⟨28, _⟩ => ⟨S16x4x2048x2048, .f32⟩
  | .hbm, ⟨29, _⟩ => ⟨S_, .f32⟩
  | .hbm, ⟨30, _⟩ => ⟨S16x4x2048, .f32⟩
  | .hbm, ⟨31, _⟩ => ⟨S_, .f32⟩
  | .hbm, ⟨32, _⟩ => ⟨S16x4x2048, .f32⟩
  | .hbm, ⟨33, _⟩ => ⟨S16x4x2048, .f32⟩
  | .hbm, ⟨34, _⟩ => ⟨S16x4x2048x1, .f32⟩
  | .hbm, ⟨35, _⟩ => ⟨S16x4x2048x2048, .f32⟩
  | .hbm, ⟨36, _⟩ => ⟨S16x4x2048x2048, .f32⟩
  | .hbm, ⟨37, _⟩ => ⟨S16x4x2048x2048, .f32⟩
  | .hbm, ⟨38, _⟩ => ⟨S_, .f32⟩
  | .hbm, ⟨39, _⟩ => ⟨S16x4x2048, .f32⟩
  | .hbm, ⟨40, _⟩ => ⟨S16x4x2048x1, .f32⟩
  | .hbm, ⟨41, _⟩ => ⟨S16x4x2048x2048, .f32⟩
  | .hbm, ⟨42, _⟩ => ⟨S16x4x2048x2048, .f32⟩
  | .hbm, ⟨43, _⟩ => ⟨S16x4x64x2048, .f32⟩
  | .hbm, ⟨44, _⟩ => ⟨S16x2048x4x64, .f32⟩
  | .hbm, ⟨45, _⟩ => ⟨S16x2048x256, .f32⟩
  | .hbm, ⟨46, _⟩ => ⟨S16x2048x256, .bf16⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Ffn.lean ====
abbrev S16x2048x1024 : Shape := ⟨3, ![16, 2048, 1024]⟩
abbrev S16x9x1024 : Shape := ⟨3, ![16, 9, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S1x1024x1024 : Shape := ⟨3, ![1, 1024, 1024]⟩
abbrev S1x9x1024 : Shape := ⟨3, ![1, 9, 1024]⟩
abbrev S1x1024x5632 : Shape := ⟨3, ![1, 1024, 5632]⟩
abbrev S1x2816x1024 : Shape := ⟨3, ![1, 2816, 1024]⟩
abbrev S1x3x1024 : Shape := ⟨3, ![1, 3, 1024]⟩
abbrev S2x512x2816 : Shape := ⟨3, ![2, 512, 2816]⟩
abbrev S2x512x1024 : Shape := ⟨3, ![2, 512, 1024]⟩
abbrev S1x1x1024 : Shape := ⟨3, ![1, 1, 1024]⟩
abbrev S1x1024 : Shape := ⟨2, ![1, 1024]⟩
abbrev S16x1024 : Shape := ⟨2, ![16, 1024]⟩
abbrev S1x16x1024 : Shape := ⟨3, ![1, 16, 1024]⟩
abbrev S1x512x1024 : Shape := ⟨3, ![1, 512, 1024]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩
abbrev S16 : Shape := ⟨1, ![16]⟩
abbrev S16x1 : Shape := ⟨2, ![16, 1]⟩

abbrev nBuf : Space → Nat
  | .hbm => 9
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S2x1024x5632, .f32⟩
  | .hbm, ⟨3, _⟩ => ⟨S2x2816x1024, .f32⟩
  | .hbm, ⟨4, _⟩ => ⟨S2x3x1024, .f32⟩
  | .hbm, ⟨5, _⟩ => ⟨S2x3x1024, .f32⟩
  | .hbm, ⟨6, _⟩ => ⟨S2x1024x5632, .bf16⟩
  | .hbm, ⟨7, _⟩ => ⟨S2x2816x1024, .bf16⟩
  | .hbm, ⟨8, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1x3x1024, .f32⟩
  | .local _ .vmem, ⟨7, _⟩ => ⟨S1x3x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S2x512x2816, .bf16⟩
  | .local _ .vmem, ⟨11, _⟩ => ⟨S2x512x1024, .bf16⟩
  | .local _ .vmem, ⟨12, _⟩ => ⟨S2x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefFfnIdeal.lean ====
abbrev S16x2048x1024 : Shape := ⟨3, ![16, 2048, 1024]⟩
abbrev S16x9x1024 : Shape := ⟨3, ![16, 9, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S16x1x1024 : Shape := ⟨3, ![16, 1, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S2x1024x5632, .f32⟩
  | .hbm, ⟨3, _⟩ => ⟨S2x2816x1024, .f32⟩
  | .hbm, ⟨4, _⟩ => ⟨S2x3x1024, .f32⟩
  | .hbm, ⟨5, _⟩ => ⟨S2x3x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S_, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x1x1024, .f32⟩
  | .hbm, ⟨21, _⟩ => ⟨S16x1x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S1x1024x5632, .f32⟩
  | .hbm, ⟨26, _⟩ => ⟨S1024x5632, .f32⟩
  | .hbm, ⟨27, _⟩ => ⟨S1x2816x1024, .f32⟩
  | .hbm, ⟨28, _⟩ => ⟨S2816x1024, .f32⟩
  | .hbm, ⟨29, _⟩ => ⟨S16x2048x5632, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S_, .f32⟩
  | .hbm, ⟨35, _⟩ => ⟨S16x2048x2816, .f32⟩
  | .hbm, ⟨36, _⟩ => ⟨S16x2048x2816, .f32⟩
  | .hbm, ⟨37, _⟩ => ⟨S_, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S1024, .f32⟩
  | .hbm, ⟨48, _⟩ => ⟨S1x1x1024, .f32⟩
  | .hbm, ⟨49, _⟩ => ⟨S1024, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x2048, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S16x2048x1, .f32⟩
  | .hbm, ⟨71, _⟩ => ⟨S16x2048x1024, .f32⟩
  | .hbm, ⟨72, _⟩ => ⟨S16x2048x1024, .f32⟩
  | .hbm, ⟨73, _⟩ => ⟨S1x1x1024, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== MixFfn.lean ====
abbrev S16x2048x1024 : Shape := ⟨3, ![16, 2048, 1024]⟩
abbrev S16x9x1024 : Shape := ⟨3, ![16, 9, 1024]⟩
abbrev S16x2048x256 : Shape := ⟨3, ![16, 2048, 256]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S1x1024x1024 : Shape := ⟨3, ![1, 1024, 1024]⟩
abbrev S1x9x1024 : Shape := ⟨3, ![1, 9, 1024]⟩
abbrev S1x1024x256 : Shape := ⟨3, ![1, 1024, 256]⟩
abbrev S1x1024x5632 : Shape := ⟨3, ![1, 1024, 5632]⟩
abbrev S1x2816x1024 : Shape := ⟨3, ![1, 2816, 1024]⟩
abbrev S1x3x1024 : Shape := ⟨3, ![1, 3, 1024]⟩
abbrev S2x512x2816 : Shape := ⟨3, ![2, 512, 2816]⟩
abbrev S2x512x1024 : Shape := ⟨3, ![2, 512, 1024]⟩
abbrev S1024x1024 : Shape := ⟨2, ![1024, 1024]⟩
abbrev S1x1x1024 : Shape := ⟨3, ![1, 1, 1024]⟩
abbrev S1x1024 : Shape := ⟨2, ![1, 1024]⟩
abbrev S16x1024 : Shape := ⟨2, ![16, 1024]⟩
abbrev S1x512x256 : Shape := ⟨3, ![1, 512, 256]⟩
abbrev S512x256 : Shape := ⟨2, ![512, 256]⟩
abbrev S1x256x1024 : Shape := ⟨3, ![1, 256, 1024]⟩
abbrev S256x1024 : Shape := ⟨2, ![256, 1024]⟩
abbrev S512x1024 : Shape := ⟨2, ![512, 1024]⟩
abbrev S1x16x1024 : Shape := ⟨3, ![1, 16, 1024]⟩
abbrev S16 : Shape := ⟨1, ![16]⟩
abbrev S16x1 : Shape := ⟨2, ![16, 1]⟩
abbrev S1x512x1024 : Shape := ⟨3, ![1, 512, 1024]⟩
abbrev S1024x256 : Shape := ⟨2, ![1024, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 19
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S16x2048x256, .f32⟩
  | .hbm, ⟨3, _⟩ => ⟨S16x2048x256, .f32⟩
  | .hbm, ⟨4, _⟩ => ⟨S16x2048x256, .f32⟩
  | .hbm, ⟨5, _⟩ => ⟨S16x2048x256, .f32⟩
  | .hbm, ⟨6, _⟩ => ⟨S2x1024x1024, .f32⟩
  | .hbm, ⟨7, _⟩ => ⟨S2x1024x5632, .f32⟩
  | .hbm, ⟨8, _⟩ => ⟨S2x2816x1024, .f32⟩
  | .hbm, ⟨9, _⟩ => ⟨S2x3x1024, .f32⟩
  | .hbm, ⟨10, _⟩ => ⟨S2x3x1024, .f32⟩
  | .hbm, ⟨11, _⟩ => ⟨S16x2048x256, .bf16⟩
  | .hbm, ⟨12, _⟩ => ⟨S16x2048x256, .bf16⟩
  | .hbm, ⟨13, _⟩ => ⟨S16x2048x256, .bf16⟩
  | .hbm, ⟨14, _⟩ => ⟨S16x2048x256, .bf16⟩
  | .hbm, ⟨15, _⟩ => ⟨S2x1024x5632, .bf16⟩
  | .hbm, ⟨16, _⟩ => ⟨S2x2816x1024, .bf16⟩
  | .hbm, ⟨17, _⟩ => ⟨S2x1024x1024, .bf16⟩
  | .hbm, ⟨18, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x1024, .bf16⟩
  | .local _ .vmem, ⟨13, _⟩ => ⟨S1x1024x5632, .bf16⟩
  | .local _ .vmem, ⟨14, _⟩ => ⟨S1x2816x1024, .bf16⟩
  | .local _ .vmem, ⟨15, _⟩ => ⟨S1x3x1024, .f32⟩
  | .local _ .vmem, ⟨16, _⟩ => ⟨S1x3x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S2x512x2816, .bf16⟩
  | .local _ .vmem, ⟨20, _⟩ => ⟨S2x512x1024, .bf16⟩
  | .local _ .vmem, ⟨21, _⟩ => ⟨S2x512x1024, .f32⟩
  | .local _ .vmem, ⟨22, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RefMixFfnIdeal.lean ====
abbrev S16x2048x1024 : Shape := ⟨3, ![16, 2048, 1024]⟩
abbrev S16x9x1024 : Shape := ⟨3, ![16, 9, 1024]⟩
abbrev S16x2048x256 : Shape := ⟨3, ![16, 2048, 256]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S16x1x1024 : Shape := ⟨3, ![16, 1, 1024]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 131
  | .vmem => 0
  | .smem => 0
  | _ => 0

abbrev hbmTy0_0 (i : Nat) : BufTy := match i % 128 with
  | 0 => ⟨S16x2048x1024, .f32⟩
  | 1 => ⟨S16x9x1024, .f32⟩
  | 2 => ⟨S16x2048x256, .f32⟩
  | 3 => ⟨S16x2048x256, .f32⟩
  | 4 => ⟨S16x2048x256, .f32⟩
  | 5 => ⟨S16x2048x256, .f32⟩
  | 6 => ⟨S2x1024x1024, .f32⟩
  | 7 => ⟨S2x1024x5632, .f32⟩
  | 8 => ⟨S2x2816x1024, .f32⟩
  | 9 => ⟨S2x3x1024, .f32⟩
  | 10 => ⟨S2x3x1024, .f32⟩
  | 11 => ⟨S16x1x1024, .f32⟩
  | 12 => ⟨S16x1x1024, .f32⟩
  | 13 => ⟨S16x1x1024, .f32⟩
  | 14 => ⟨S16x1x1024, .f32⟩
  | 15 => ⟨S16x2048x1024, .f32⟩
  | 16 => ⟨S1x1024x1024, .f32⟩
  | 17 => ⟨S1024x1024, .f32⟩
  | 18 => ⟨S16x2048x1024, .f32⟩
  | 19 => ⟨S_, .f32⟩
  | 20 => ⟨S16x2048x1024, .f32⟩
  | 21 => ⟨S16x2048x1024, .f32⟩
  | 22 => ⟨S_, .f32⟩
  | 23 => ⟨S16x1x1024, .f32⟩
  | 24 => ⟨S16x1x1024, .f32⟩
  | 25 => ⟨S16x2048x1024, .f32⟩
  | 26 => ⟨S16x2048x1024, .f32⟩
  | 27 => ⟨S16x2048x1024, .f32⟩
  | 28 => ⟨S1x1x1024, .f32⟩
  | 29 => ⟨S1024, .f32⟩
  | 30 => ⟨S1x1x1024, .f32⟩
  | 31 => ⟨S1024, .f32⟩
  | 32 => ⟨S_, .f32⟩
  | 33 => ⟨S16x2048, .f32⟩
  | 34 => ⟨S16x2048x1, .f32⟩
  | 35 => ⟨S_, .f32⟩
  | 36 => ⟨S16x2048x1, .f32⟩
  | 37 => ⟨S16x2048x1, .f32⟩
  | 38 => ⟨S16x2048x1024, .f32⟩
  | 39 => ⟨S16x2048x1024, .f32⟩
  | 40 => ⟨S16x2048x1024, .f32⟩
  | 41 => ⟨S_, .f32⟩
  | 42 => ⟨S16x2048, .f32⟩
  | 43 => ⟨S16x2048x1, .f32⟩
  | 44 => ⟨S_, .f32⟩
  | 45 => ⟨S16x2048x1, .f32⟩
  | 46 => ⟨S16x2048x1, .f32⟩
  | 47 => ⟨S16x2048x1024, .f32⟩
  | 48 => ⟨S16x2048x1024, .f32⟩
  | 49 => ⟨S_, .f32⟩
  | 50 => ⟨S16x2048x1, .f32⟩
  | 51 => ⟨S16x2048x1, .f32⟩
  | 52 => ⟨S16x2048x1, .f32⟩
  | 53 => ⟨S16x2048x1024, .f32⟩
  | 54 => ⟨S16x2048x1024, .f32⟩
  | 55 => ⟨S1x1x1024, .f32⟩
  | 56 => ⟨S16x2048x1024, .f32⟩
  | 57 => ⟨S16x2048x1024, .f32⟩
  | 58 => ⟨S1x1x1024, .f32⟩
  | 59 => ⟨S16x2048x1024, .f32⟩
  | 60 => ⟨S16x2048x1024, .f32⟩
  | 61 => ⟨S_, .f32⟩
  | 62 => ⟨S16x1x1024, .f32⟩
  | 63 => ⟨S16x1x1024, .f32⟩
  | 64 => ⟨S16x2048x1024, .f32⟩
  | 65 => ⟨S16x2048x1024, .f32⟩
  | 66 => ⟨S16x2048x1024, .f32⟩
  | 67 => ⟨S16x2048x1024, .f32⟩
  | 68 => ⟨S_, .f32⟩
  | 69 => ⟨S16x2048x1024, .f32⟩
  | 70 => ⟨S16x2048x1024, .f32⟩
  | 71 => ⟨S_, .f32⟩
  | 72 => ⟨S16x1x1024, .f32⟩
  | 73 => ⟨S16x1x1024, .f32⟩
  | 74 => ⟨S_, .f32⟩
  | 75 => ⟨S16x1x1024, .f32⟩
  | 76 => ⟨S16x1x1024, .f32⟩
  | 77 => ⟨S1x1024x5632, .f32⟩
  | 78 => ⟨S1024x5632, .f32⟩
  | 79 => ⟨S1x2816x1024, .f32⟩
  | 80 => ⟨S2816x1024, .f32⟩
  | 81 => ⟨S16x2048x5632, .f32⟩
  | 82 => ⟨S16x2048x2816, .f32⟩
  | 83 => ⟨S16x2048x2816, .f32⟩
  | 84 => ⟨S16x2048x2816, .f32⟩
  | 85 => ⟨S16x2048x2816, .f32⟩
  | 86 => ⟨S_, .f32⟩
  | 87 => ⟨S16x2048x2816, .f32⟩
  | 88 => ⟨S16x2048x2816, .f32⟩
  | 89 => ⟨S_, .f32⟩
  | 90 => ⟨S16x2048x2816, .f32⟩
  | 91 => ⟨S16x2048x2816, .f32⟩
  | 92 => ⟨S16x2048x2816, .f32⟩
  | 93 => ⟨S16x2048x2816, .f32⟩
  | 94 => ⟨S16x2048x1024, .f32⟩
  | 95 => ⟨S16x2048x1024, .f32⟩
  | 96 => ⟨S16x2048x1024, .f32⟩
  | 97 => ⟨S16x2048x1024, .f32⟩
  | 98 => ⟨S1x1x1024, .f32⟩
  | 99 => ⟨S1024, .f32⟩
  | 100 => ⟨S1x1x1024, .f32⟩
  | 101 => ⟨S1024, .f32⟩
  | 102 => ⟨S_, .f32⟩
  | 103 => ⟨S16x2048, .f32⟩
  | 104 => ⟨S16x2048x1, .f32⟩
  | 105 => ⟨S_, .f32⟩
  | 106 => ⟨S16x2048x1, .f32⟩
  | 107 => ⟨S16x2048x1, .f32⟩
  | 108 => ⟨S16x2048x1024, .f32⟩
  | 109 => ⟨S16x2048x1024, .f32⟩
  | 110 => ⟨S16x2048x1024, .f32⟩
  | 111 => ⟨S_, .f32⟩
  | 112 => ⟨S16x2048, .f32⟩
  | 113 => ⟨S16x2048x1, .f32⟩
  | 114 => ⟨S_, .f32⟩
  | 115 => ⟨S16x2048x1, .f32⟩
  | 116 => ⟨S16x2048x1, .f32⟩
  | 117 => ⟨S16x2048x1024, .f32⟩
  | 118 => ⟨S16x2048x1024, .f32⟩
  | 119 => ⟨S_, .f32⟩
  | 120 => ⟨S16x2048x1, .f32⟩
  | 121 => ⟨S16x2048x1, .f32⟩
  | 122 => ⟨S16x2048x1, .f32⟩
  | 123 => ⟨S16x2048x1024, .f32⟩
  | 124 => ⟨S16x2048x1024, .f32⟩
  | 125 => ⟨S1x1x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S1x1x1024, .f32⟩
  | 1 => ⟨S16x2048x1024, .f32⟩
  | 2 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_cst_11 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_12 : Ref sig .tc := ⟨.hbm, 111, rfl⟩
abbrev main_v79 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Mla.lean ====
abbrev S16x2048x4x96 : Shape := ⟨4, ![16, 2048, 4, 96]⟩
abbrev S16x2048x4x64 : Shape := ⟨4, ![16, 2048, 4, 64]⟩
abbrev S_ : Shape := ⟨0, ![]⟩
abbrev S16x2048x4x128 : Shape := ⟨4, ![16, 2048, 4, 128]⟩
abbrev S16x2048x512 : Shape := ⟨3, ![16, 2048, 512]⟩
abbrev S16x512x2048 : Shape := ⟨3, ![16, 512, 2048]⟩
abbrev S4 : Shape := ⟨1, ![4]⟩
abbrev S1x1x4x1 : Shape := ⟨4, ![1, 1, 4, 1]⟩
abbrev S16x2048x256 : Shape := ⟨3, ![16, 2048, 256]⟩
abbrev S1x2048x256 : Shape := ⟨3, ![1, 2048, 256]⟩
abbrev S1x256x2048 : Shape := ⟨3, ![1, 256, 2048]⟩
abbrev S1x2048x128 : Shape := ⟨3, ![1, 2048, 128]⟩
abbrev S4x256x2048 : Shape := ⟨3, ![4, 256, 2048]⟩
abbrev S256x256 : Shape := ⟨2, ![256, 256]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S256x2048 : Shape := ⟨2, ![256, 2048]⟩
abbrev S256 : Shape := ⟨1, ![256]⟩
abbrev S256x1 : Shape := ⟨2, ![256, 1]⟩

abbrev nBuf : Space → Nat
  | .hbm => 40
  | .vmem => 9
  | .smem => 0
  | _ => 0

abbrev bufTy : (tb : Table) → Fin (tcTables nBuf tb) → BufTy
  | .hbm, ⟨0, _⟩ => ⟨S16x2048x4x96, .f32⟩
  | .hbm, ⟨1, _⟩ => ⟨S16x2048x4x96, .f32⟩
  | .hbm, ⟨2, _⟩ => ⟨S16x2048x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x4x96, .f32⟩
  | .hbm, ⟨9, _⟩ => ⟨S16x2048x4x96, .f32⟩
  | .hbm, ⟨10, _⟩ => ⟨S_, .i32⟩
  | .hbm, ⟨11, _⟩ => ⟨S_, .f32⟩
  | .hbm, ⟨12, _⟩ => ⟨S16x2048x4x128, .f32⟩
  | .hbm, ⟨13, _⟩ => ⟨S16x2048x512, .f32⟩
  | .hbm, ⟨14, _⟩ => ⟨S16x2048x512, .bf16⟩
  | .hbm, ⟨15, _⟩ => ⟨S_, .i32⟩
  | .hbm, ⟨16, _⟩ => ⟨S_, .f32⟩
  | .hbm, ⟨17, _⟩ => ⟨S16x2048x4x128, .f32⟩
  | .hbm, ⟨18, _⟩ => ⟨S16x2048x512, .f32⟩
  | .hbm, ⟨19, _⟩ => ⟨S16x512x2048, .f32⟩
  | .hbm, ⟨20, _⟩ => ⟨S16x512x2048, .bf16⟩
  | .hbm, ⟨21, _⟩ => ⟨S4, .i32⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i1⟩
  | .hbm, ⟨28, _⟩ => ⟨S1x1x4x1, .i1⟩
  | .hbm, ⟨29, _⟩ => ⟨S_, .i32⟩
  | .hbm, ⟨30, _⟩ => ⟨S_, .f32⟩
  | .hbm, ⟨31, _⟩ => ⟨S16x2048x4x128, .f32⟩
  | .hbm, ⟨32, _⟩ => ⟨S_, .i32⟩
  | .hbm, ⟨33, _⟩ => ⟨S_, .f32⟩
  | .hbm, ⟨34, _⟩ => ⟨S16x2048x4x128, .f32⟩
  | .hbm, ⟨35, _⟩ => ⟨S16x2048x4x128, .i1⟩
  | .hbm, ⟨36, _⟩ => ⟨S16x2048x4x128, .f32⟩
  | .hbm, ⟨37, _⟩ => ⟨S16x2048x512, .f32⟩
  | .hbm, ⟨38, _⟩ => ⟨S16x2048x512, .bf16⟩
  | .hbm, ⟨39, _⟩ => ⟨S16x2048x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S4x256x2048, .f32⟩
  | _, _ => ⟨S16x2048x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_call2_v0 : Ref sig .tc := ⟨.hbm, 30, rfl⟩
abbrev main_v18 : Ref sig .tc := ⟨.hbm, 31, rfl⟩
abbrev main_c_5 : Ref sig .tc := ⟨.hbm, 32, rfl⟩
abbrev main_call3_v0 : Ref sig .tc := ⟨.hbm, 33, rfl⟩
abbrev main_v19 : Ref sig .tc := ⟨.hbm, 34, rfl⟩
abbrev main_call4_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "neg_inf" => some ⊥
  | _ => none
-- ==== RefMlaIdeal.lean ====
abbrev S16x2048x4x96 : Shape := ⟨4, ![16, 2048, 4, 96]⟩
abbrev S16x2048x4x64 : Shape := ⟨4, ![16, 2048, 4, 64]⟩
abbrev S16x4x2048x2048 : Shape := ⟨4, ![16, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩
abbrev S16x2048x256 : Shape := ⟨3, ![16, 2048, 256]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x4x96, .f32⟩
  | .hbm, ⟨1, _⟩ => ⟨S16x2048x4x96, .f32⟩
  | .hbm, ⟨2, _⟩ => ⟨S16x2048x4x64, .f32⟩
  | .hbm, ⟨3, _⟩ => ⟨S16x4x2048x2048, .f32⟩
  | .hbm, ⟨4, _⟩ => ⟨S_, .f32⟩
  | .hbm, ⟨5, _⟩ => ⟨S16x4x2048x2048, .f32⟩
  | .hbm, ⟨6, _⟩ => ⟨S16x4x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S16x4x2048x2048, .i1⟩
  | .hbm, ⟨16, _⟩ => ⟨S16x4x2048x2048, .f32⟩
  | .hbm, ⟨17, _⟩ => ⟨S16x4x2048x2048, .f32⟩
  | .hbm, ⟨18, _⟩ => ⟨S_, .f32⟩
  | .hbm, ⟨19, _⟩ => ⟨S16x4x2048, .f32⟩
  | .hbm, ⟨20, _⟩ => ⟨S_, .f32⟩
  | .hbm, ⟨21, _⟩ => ⟨S16x4x2048, .f32⟩
  | .hbm, ⟨22, _⟩ => ⟨S16x4x2048, .f32⟩
  | .hbm, ⟨23, _⟩ => ⟨S16x4x2048x1, .f32⟩
  | .hbm, ⟨24, _⟩ => ⟨S16x4x2048x2048, .f32⟩
  | .hbm, ⟨25, _⟩ => ⟨S16x4x2048x2048, .f32⟩
  | .hbm, ⟨26, _⟩ => ⟨S16x4x2048x2048, .f32⟩
  | .hbm, ⟨27, _⟩ => ⟨S_, .f32⟩
  | .hbm, ⟨28, _⟩ => ⟨S16x4x2048, .f32⟩
  | .hbm, ⟨29, _⟩ => ⟨S16x4x2048x1, .f32⟩
  | .hbm, ⟨30, _⟩ => ⟨S16x4x2048x2048, .f32⟩
  | .hbm, ⟨31, _⟩ => ⟨S16x4x2048x2048, .f32⟩
  | .hbm, ⟨32, _⟩ => ⟨S16x4x64x2048, .f32⟩
  | .hbm, ⟨33, _⟩ => ⟨S16x2048x4x64, .f32⟩
  | .hbm, ⟨34, _⟩ => ⟨S16x2048x256, .f32⟩
  | .hbm, ⟨35, _⟩ => ⟨S16x2048x256, .bf16⟩
  | _, _ => ⟨S16x2048x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Modul.lean ====
abbrev S16x1024 : Shape := ⟨2, ![16, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x16x9216 : Shape := ⟨3, ![2, 16, 9216]⟩
abbrev S1x1024x1152 : Shape := ⟨3, ![1, 1024, 1152]⟩
abbrev S1x1x1152 : Shape := ⟨3, ![1, 1, 1152]⟩
abbrev S1x16x1152 : Shape := ⟨3, ![1, 16, 1152]⟩
abbrev S1024x1152 : Shape := ⟨2, ![1024, 1152]⟩
abbrev S16x1152 : Shape := ⟨2, ![16, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x16x9216, .f32⟩
  | .local _ .vmem, ⟨0, _⟩ => ⟨S16x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x16x1152, .f32⟩
  | .local _ .vmem, ⟨6, _⟩ => ⟨S1x16x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefModulIdeal.lean ====
abbrev S16x1024 : Shape := ⟨2, ![16, 1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S16x9216 : Shape := ⟨2, ![16, 9216]⟩
abbrev S1x9216 : Shape := ⟨2, ![1, 9216]⟩
abbrev S9216 : Shape := ⟨1, ![9216]⟩
abbrev S1x16x9216 : Shape := ⟨3, ![1, 16, 9216]⟩
abbrev S2x16x9216 : Shape := ⟨3, ![2, 16, 9216]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x9216, .f32⟩
  | .hbm, ⟨13, _⟩ => ⟨S1024x9216, .f32⟩
  | .hbm, ⟨14, _⟩ => ⟨S16x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S16x9216, .f32⟩
  | .hbm, ⟨19, _⟩ => ⟨S16x9216, .f32⟩
  | .hbm, ⟨20, _⟩ => ⟨S1x1024x9216, .f32⟩
  | .hbm, ⟨21, _⟩ => ⟨S1024x9216, .f32⟩
  | .hbm, ⟨22, _⟩ => ⟨S16x9216, .f32⟩
  | .hbm, ⟨23, _⟩ => ⟨S1x9216, .f32⟩
  | .hbm, ⟨24, _⟩ => ⟨S9216, .f32⟩
  | .hbm, ⟨25, _⟩ => ⟨S1x9216, .f32⟩
  | .hbm, ⟨26, _⟩ => ⟨S16x9216, .f32⟩
  | .hbm, ⟨27, _⟩ => ⟨S16x9216, .f32⟩
  | .hbm, ⟨28, _⟩ => ⟨S1x16x9216, .f32⟩
  | .hbm, ⟨29, _⟩ => ⟨S1x16x9216, .f32⟩
  | .hbm, ⟨30, _⟩ => ⟨S2x16x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Hgrn.lean ====
abbrev S16x2048x1024 : Shape := ⟨3, ![16, 2048, 1024]⟩
abbrev S2x256 : Shape := ⟨2, ![2, 256]⟩
abbrev S256 : Shape := ⟨1, ![256]⟩
abbrev S1x256 : Shape := ⟨2, ![1, 256]⟩
abbrev S16x2048x256 : Shape := ⟨3, ![16, 2048, 256]⟩
abbrev S1x256x1024 : Shape := ⟨3, ![1, 256, 1024]⟩
abbrev S1x256x256 : Shape := ⟨3, ![1, 256, 256]⟩
abbrev S128x256 : Shape := ⟨2, ![128, 256]⟩
abbrev S256x256 : Shape := ⟨2, ![256, 256]⟩
abbrev S2x256x256 : Shape := ⟨3, ![2, 256, 256]⟩
abbrev S16x128x256 : Shape := ⟨3, ![16, 128, 256]⟩
abbrev S16x256 : Shape := ⟨2, ![16, 256]⟩
abbrev S16x128 : Shape := ⟨2, ![16, 128]⟩
abbrev S8x256 : Shape := ⟨2, ![8, 256]⟩
abbrev S64x128 : Shape := ⟨2, ![64, 128]⟩
abbrev S64x256 : Shape := ⟨2, ![64, 256]⟩
abbrev S1x128x256 : Shape := ⟨3, ![1, 128, 256]⟩
abbrev S32x256 : Shape := ⟨2, ![32, 256]⟩
abbrev S32x128 : Shape := ⟨2, ![32, 128]⟩
abbrev S1x1x256 : Shape := ⟨3, ![1, 1, 256]⟩
abbrev S192x256 : Shape := ⟨2, ![192, 256]⟩

abbrev nBuf : Space → Nat
  | .hbm => 5
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S2x256, .f32⟩
  | .hbm, ⟨2, _⟩ => ⟨S256, .f32⟩
  | .hbm, ⟨3, _⟩ => ⟨S1x256, .f32⟩
  | .hbm, ⟨4, _⟩ => ⟨S16x2048x256, .bf16⟩
  | .local _ .vmem, ⟨0, _⟩ => ⟨S1x256x1024, .f32⟩
  | .local _ .vmem, ⟨1, _⟩ => ⟨S1x256x1024, .f32⟩
  | .local _ .vmem, ⟨2, _⟩ => ⟨S2x256, .f32⟩
  | .local _ .vmem, ⟨3, _⟩ => ⟨S1x256, .f32⟩
  | .local _ .vmem, ⟨4, _⟩ => ⟨S1x256x256, .bf16⟩
  | .local _ .vmem, ⟨5, _⟩ => ⟨S1x256x256, .bf16⟩
  | .local _ .vmem, ⟨6, _⟩ => ⟨S128x256, .f32⟩
  | .local _ .vmem, ⟨7, _⟩ => ⟨S256x256, .f32⟩
  | .local _ .vmem, ⟨8, _⟩ => ⟨S2x256x256, .f32⟩
  | .local _ .vmem, ⟨9, _⟩ => ⟨S16x128x256, .f32⟩
  | .local _ .vmem, ⟨10, _⟩ => ⟨S16x128x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Proof.FoxBlocks.lean ====
/- The vector expressions of the attention kernel's body, named: one score block, the running row maximum, one step of
   the weighted sum, the unit's quotient, and the pieces and reads of the score stage. -/
module

public import proofs.«01_k».proof.Proof.Gen.FoxIdeal.Frame

@[expose] public section

set_option maxRecDepth 16384

noncomputable section

namespace Cert.FoxIdeal.Att

open Cert.FoxIdeal Cert.FoxIdeal.Gen Idealize.ShloMosaic Idealize.ShloMosaic.TcCoe

variable {F : FTy → Type} [FloatOps F] [Named F]

/-- The lanes of the first head of the pair. -/
def own0 : IVec S256x128 1 :=
  cmpi .eq (shrsi (iota .tc S256x128 32 [1] iota_S256x128_d1_w32) (broadcast S256x128 6#32)) (broadcast S256x128 0#32)
/-- The lanes of the second head of the pair. -/
def own1 : IVec S256x128 1 :=
  cmpi .eq (shrsi (iota .tc S256x128 32 [1] iota_S256x128_d1_w32) (broadcast S256x128 6#32)) (broadcast S256x128 1#32)
/-- A lane mask as ones and zeros. -/
def maskF (m : IVec S256x128 1) : FVec F S256x128 .bf16 :=
  truncf .bf16 (sitofp .f32 (extui 32 m natLt_1_32)) bitsLt_bf16_f32
/-- The lane that gathers the row sum. -/
def sumLane (n : BitVec 32) : IVec S256x128 1 :=
  cmpi .eq (iota .tc S256x128 32 [1] iota_S256x128_d1_w32) (broadcast S256x128 n)

/-- The row of the decay table that head number `hd` picks, times log2 e, copied down the block. -/
def biasV (hd : BitVec 32) (b : Vec F S1x8x256 .f32) : FVec F S256x256 .f32 :=
  broadcastTo S256x256 (mulf (shapeCast S1x256 (multiReduction .add [0] S256
      (select (cmpi .eq (iota .tc S8x256 32 [0] iota_S8x256_d0_w32) (broadcast S8x256 hd))
        (shapeCast S8x256 b shapeCasts_S1x8x256_S8x256) (broadcast S8x256 (Scalar.ofBits .f32 0x00000000#32)))
      0x00000000#32 reduces_S8x256_S256 (.inl rfl) rfl) shapeCasts_S256_S1x256)
    (broadcast S1x256 (Named.named κ "log2e" 0x3FB8AA3B#32))) broadcasts_S1x256_S256x256

/-- A score block below the diagonal. -/
def scoreOff (kp : FVec F S256x128 .bf16) (hd : BitVec 32) (q : Vec F S1x256x128 .bf16) (k : Vec F S1x128x256 .bf16)
    (b : Vec F S1x8x256 .f32) : FVec F S256x256 .f32 :=
  subf (matmul dot_S256x128_S128x256_S256x256_1_0_0_1_n_n none (mulf (shapeCast S256x128 q shapeCasts_S1x256x128_S256x128) kp)
    (shapeCast S128x256 k shapeCasts_S1x128x256_S128x256) (constant S256x256 .f32 0x00000000#32)) (biasV hd b)

/-- The score block on the diagonal, masked. -/
def scoreDiag (kp : FVec F S256x128 .bf16) (hd : BitVec 32) (q : Vec F S1x256x128 .bf16) (k : Vec F S1x128x256 .bf16)
    (b : Vec F S1x8x256 .f32) : FVec F S256x256 .f32 :=
  select (cmpi .sge (iota .tc S256x256 32 [0] iota_S256x256_d0_w32) (iota .tc S256x256 32 [1] iota_S256x256_d1_w32))
    (scoreOff kp hd q k b) (broadcast S256x256 (Named.named κ "neg_inf" 0xF149F2CA#32))

/-- The first step of the running maximum: the two column halves of a block. -/
def mxInit (s : FVec F S256x256 .f32) : FVec F S256x128 .f32 :=
  maximumf (extractStridedSlice S256x128 ![0, 0] s slices_S256x256_o0_0_S256x128)
    (extractStridedSlice S256x128 ![0, 128] s slices_S256x256_o0_128_S256x128)
/-- A further step of the running maximum. -/
def mxStep (m : FVec F S256x128 .f32) (s : FVec F S256x256 .f32) : FVec F S256x128 .f32 :=
  maximumf (maximumf m (extractStridedSlice S256x128 ![0, 0] s slices_S256x256_o0_0_S256x128))
    (extractStridedSlice S256x128 ![0, 128] s slices_S256x256_o0_128_S256x128)
/-- The row maxima, copied along the lanes. -/
def mxRow (m : FVec F S256x128 .f32) : FVec F S256x128 .f32 :=
  broadcastTo S256x128 (shapeCast S256x1 (shapeCast S256x1
    (multiReduction .maximumf [1] S256 m 0xFF800000#32 reduces_S256x128_S256 (.inl rfl) rfl) shapeCasts_S256_S256x1)
    shapeCasts_S256x1_S256x1) broadcasts_S256x1_S256x128

/-- The sum's start. -/
def accInit : FVec F S256x128 .f32 := broadcast S256x128 (Scalar.ofBits .f32 0x00000000#32)
/-- The weights of one half block. -/
def expHalf (p : Vec F S256x128 .f32) (m : FVec F S256x128 .f32) : FVec F S256x128 .bf16 :=
  truncf .bf16 (exp2 (subf p m)) bitsLt_bf16_f32
/-- One step of the weighted sum: the block's weights against its values. -/
def accStep (a : FVec F S256x128 .f32) (m : FVec F S256x128 .f32) (p0 p1 : Vec F S256x128 .f32)
    (v : Vec F S1x256x128 .bf16) (kp oc : FVec F S256x128 .bf16) : FVec F S256x128 .f32 :=
  addf a (matmul dot_S256x256_S256x128_S256x128_1_0_0_1_n_n none
    (concatenate S256x256 1 [⟨S256x128, expHalf p0 m⟩, ⟨S256x128, expHalf p1 m⟩] concatenates_S256x128_S256x128_S256x256_d1)
    (addf (mulf (shapeCast S256x128 v shapeCasts_S1x256x128_S256x128) kp) oc) (constant S256x128 .f32 0x00000000#32))
/-- The first head's quotient: the row sum stands in lane 64. -/
def fin0 (a : FVec F S256x128 .f32) : FVec F S256x128 .f32 :=
  mulf (select own0 a (broadcast S256x128 (Scalar.ofBits .f32 0x00000000#32)))
    (broadcastTo S256x128 (divf (broadcast S256x1 (Scalar.ofBits .f32 0x3F800000#32))
      (extractStridedSlice S256x1 ![0, 64] a slices_S256x128_o0_64_S256x1)) broadcasts_S256x1_S256x128)
/-- The second head's quotient: the row sum stands in lane 0. -/
def fin1 (a : FVec F S256x128 .f32) : FVec F S256x128 .f32 :=
  mulf (select own1 a (broadcast S256x128 (Scalar.ofBits .f32 0x00000000#32)))
    (broadcastTo S256x128 (divf (broadcast S256x1 (Scalar.ofBits .f32 0x3F800000#32))
      (extractStridedSlice S256x1 ![0, 0] a slices_S256x128_o0_0_S256x1)) broadcasts_S256x1_S256x128)
/-- What the body stores for a row block: both heads' halves. -/
def pairOut (a b : FVec F S256x128 .f32) : FVec F S1x256x128 .bf16 :=
  shapeCast S1x256x128 (truncf .bf16 (addf a b) bitsLt_bf16_f32) shapeCasts_S256x128_S1x256x128

section Stage

theorem inbStage {s : ℕ} (hs : s < 4) : ∀ a, (![s, 0, 0] : Fin 3 → ℕ) a + S1x256x2048.size a ≤ S4x256x2048.size a := by
  intro a; fin_cases a <;> simp [Shape.size] <;> omega
theorem inbCols {o : ℕ} (ho : o + 256 ≤ 2048) : ∀ a, (![0, o] : Fin 2 → ℕ) a + S256x256.size a ≤ S256x2048.size a := by
  intro a; fin_cases a <;> simp [Shape.size] <;> omega
theorem inbHalf {o : ℕ} (ho : o + 128 ≤ 2048) : ∀ a, (![0, o] : Fin 2 → ℕ) a + S256x128.size a ≤ S256x2048.size a := by
  intro a; fin_cases a <;> simp [Shape.size] <;> omega

/-- The rectangle of the stage's slot `s` and the 256 columns from `o` on. -/
def stRect (s o : ℕ) (hs : s < 4) (ho : o + 256 ≤ 2048) : Rect S4x256x2048 :=
  (Rect.unit (s := S4x256x2048) ![s, 0, 0] S1x256x2048.size (inbStage hs)).within
    ((Rect.unit (s := S256x2048) ![0, o] S256x256.size (inbCols ho)).consLift ![1, 256, 2048] rfl fun i => by fin_cases i <;> rfl) fun _ => rfl

theorem stNumel (s o : ℕ) (hs : s < 4) (ho : o + 256 ≤ 2048) :
    (stRect s o hs ho).shape.numel = (Rect.unit (s := S256x2048) ![0, o] S256x256.size (inbCols ho)).shape.numel :=
  Rect.numel_consLift (Rect.unit (s := S256x2048) ![0, o] S256x256.size (inbCols ho)) ![1, 256, 2048] rfl fun i => by fin_cases i <;> rfl

/-- A score block stored in the stage. -/
def stPiece (s o : ℕ) (hs : s < 4) (ho : o + 256 ≤ 2048) (w : FVec F S256x256 .f32) : View.Piece (Elt F) S4x256x2048 .f32 :=
  ⟨stRect s o hs ho, Rect.payAlong (r := Rect.unit (s := S256x2048) ![0, o] S256x256.size (inbCols ho)) (stNumel s o hs ho)
    (shapeCast S256x256 w shapeCasts_S256x256_S256x256 : FVec F S256x256 .f32)⟩

/-- The box of the stage's slot `s` and the 128 columns from `o` on. -/
def stBox (s o : ℕ) (hs : s < 4) (ho : o + 128 ≤ 2048) : LoadRect S4x256x2048 :=
  (Rect.unit (s := S4x256x2048) ![s, 0, 0] S1x256x2048.size (inbStage hs)).withinL
    ((Rect.unit (s := S256x2048) ![0, o] S256x128.size (inbHalf ho)).consLift ![1, 256, 2048] rfl fun i => by fin_cases i <;> rfl).toLoadRect fun _ => rfl

/-- A half block read back from the stage. -/
def stRead (arg7 : Memref sig .tc .vmem S4x256x2048 .f32) (L : List (View.Piece (Elt F) S4x256x2048 .f32)) (s o : ℕ) (hs : s < 4)
    (ho : o + 128 ≤ 2048) : Vec F S256x128 .f32 :=
  LoadRect.valAlong (lr := (Rect.unit (s := S256x2048) ![0, o] S256x128.size (inbHalf ho)).toLoadRect) (LR := stBox s o hs ho)
    (Rect.numel_consLift (Rect.unit (s := S256x2048) ![0, o] S256x128.size (inbHalf ho)) ![1, 256, 2048] rfl fun i => by fin_cases i <;> rfl).symm
    (arg7.view.readCov L (stBox s o hs ho))

end Stage

section Loads

theorem inbRows {o : ℕ} (ho : o + 256 ≤ 2048) : ∀ a, (![0, o, 0] : Fin 3 → ℕ) a + S1x256x128.size a ≤ S1x2048x128.size a := by
  intro a; fin_cases a <;> simp [Shape.size] <;> omega
theorem inbKeys {o : ℕ} (ho : o + 256 ≤ 2048) : ∀ a, (![0, 0, o] : Fin 3 → ℕ) a + S1x128x256.size a ≤ S1x128x2048.size a := by
  intro a; fin_cases a <;> simp [Shape.size] <;> omega
theorem inbBias {o : ℕ} (ho : o + 256 ≤ 2048) : ∀ a, (![0, 0, o] : Fin 3 → ℕ) a + S1x8x256.size a ≤ S1x8x2048.size a := by
  intro a; fin_cases a <;> simp [Shape.size] <;> omega

/-- The 256 rows of a query or value window from `o` on. -/
def ldRows (m : Memref sig .tc .vmem S1x2048x128 .bf16) (h : m.IsWhole) (x : Vec F S1x2048x128 .bf16) (o : ℕ)
    (ho : o + 256 ≤ 2048) : Vec F S1x256x128 .bf16 :=
  View.readAt (Elt F) m.view (Rect.unit (s := S1x2048x128) ![0, o, 0] S1x256x128.size (inbRows ho)).toLoadRect (h.unread x)
/-- The 256 columns of the key window from `o` on. -/
def ldKeys (m : Memref sig .tc .vmem S1x128x2048 .bf16) (h : m.IsWhole) (x : Vec F S1x128x2048 .bf16) (o : ℕ)
    (ho : o + 256 ≤ 2048) : Vec F S1x128x256 .bf16 :=
  View.readAt (Elt F) m.view (Rect.unit (s := S1x128x2048) ![0, 0, o] S1x128x256.size (inbKeys ho)).toLoadRect (h.unread x)
/-- The 256 columns of the decay window from `o` on. -/
def ldBias (m : Memref sig .tc .vmem S1x8x2048 .f32) (h : m.IsWhole) (x : Vec F S1x8x2048 .f32) (o : ℕ)
    (ho : o + 256 ≤ 2048) : Vec F S1x8x256 .f32 :=
  View.readAt (Elt F) m.view (Rect.unit (s := S1x8x2048) ![0, 0, o] S1x8x256.size (inbBias ho)).toLoadRect (h.unread x)
/-- The head's number in the layer. -/
def headNo (i : grid0.Coords) (n : BitVec 32) : BitVec 32 := Scalar.addi (Scalar.muli 2#32 (BitVec.ofNat 32 (i 1).val)) n

end Loads

end Cert.FoxIdeal.Att

end
-- ==== Proof.FoxStage.lean ====
/- The score stage as the body leaves it after each row block and head: the lists of stored score blocks, and the row maxima. -/
module

public import proofs.«01_k».proof.Proof.FoxBlocks

@[expose] public section

set_option maxRecDepth 16384

noncomputable section

namespace Cert.FoxIdeal.Att

open Cert.FoxIdeal Cert.FoxIdeal.Gen Idealize.ShloMosaic Idealize.ShloMosaic.TcCoe

variable {F : FTy → Type} [FloatOps F] [Named F]
variable (c : Dev nD) (i : grid0.Coords) (arg2 : Memref sig .tc .vmem S1x2048x128 .bf16) (harg2 : arg2.IsWhole) (arg3 : Memref sig .tc .vmem S1x128x2048 .bf16) (harg3 : arg3.IsWhole)
  (arg4 : Memref sig .tc .vmem S1x2048x128 .bf16) (harg4 : arg4.IsWhole) (arg5 : Memref sig .tc .vmem S1x8x2048 .f32) (harg5 : arg5.IsWhole)
  (arg7 : Memref sig .tc .vmem S4x256x2048 .f32)
  (x0 : Vec F S1x2048x128 .bf16) (x1 : Vec F S1x128x2048 .bf16) (x2 : Vec F S1x2048x128 .bf16) (x3 : Vec F S1x8x2048 .f32)

/-- Score block 0 of unit 0. -/
def sb0_0 : FVec F S256x256 .f32 := (scoreDiag (maskF own0) (headNo i 0#32) (ldRows arg2 harg2 x0 0 (by norm_num)) (ldKeys arg3 harg3 x1 0 (by norm_num)) (ldBias arg5 harg5 x3 0 (by norm_num)))
/-- Score block 0 of unit 1. -/
def sb1_0 : FVec F S256x256 .f32 := (scoreDiag (maskF own1) (headNo i 1#32) (ldRows arg2 harg2 x0 0 (by norm_num)) (ldKeys arg3 harg3 x1 0 (by norm_num)) (ldBias arg5 harg5 x3 0 (by norm_num)))
/-- Score block 0 of unit 2. -/
def sb2_0 : FVec F S256x256 .f32 := (scoreOff (maskF own0) (headNo i 0#32) (ldRows arg2 harg2 x0 256 (by norm_num)) (ldKeys arg3 harg3 x1 0 (by norm_num)) (ldBias arg5 harg5 x3 0 (by norm_num)))
/-- Score block 1 of unit 2. -/
def sb2_1 : FVec F S256x256 .f32 := (scoreDiag (maskF own0) (headNo i 0#32) (ldRows arg2 harg2 x0 256 (by norm_num)) (ldKeys arg3 harg3 x1 256 (by norm_num)) (ldBias arg5 harg5 x3 256 (by norm_num)))
/-- Score block 0 of unit 3. -/
def sb3_0 : FVec F S256x256 .f32 := (scoreOff (maskF own1) (headNo i 1#32) (ldRows arg2 harg2 x0 256 (by norm_num)) (ldKeys arg3 harg3 x1 0 (by norm_num)) (ldBias arg5 harg5 x3 0 (by norm_num)))
/-- Score block 1 of unit 3. -/
def sb3_1 : FVec F S256x256 .f32 := (scoreDiag (maskF own1) (headNo i 1#32) (ldRows arg2 harg2 x0 256 (by norm_num)) (ldKeys arg3 harg3 x1 256 (by norm_num)) (ldBias arg5 harg5 x3 256 (by norm_num)))
/-- Score block 0 of unit 4. -/
def sb4_0 : FVec F S256x256 .f32 := (scoreOff (maskF own0) (headNo i 0#32) (ldRows arg2 harg2 x0 512 (by norm_num)) (ldKeys arg3 harg3 x1 0 (by norm_num)) (ldBias arg5 harg5 x3 0 (by norm_num)))
/-- Score block 1 of unit 4. -/
def sb4_1 : FVec F S256x256 .f32 := (scoreOff (maskF own0) (headNo i 0#32) (ldRows arg2 harg2 x0 512 (by norm_num)) (ldKeys arg3 harg3 x1 256 (by norm_num)) (ldBias arg5 harg5 x3 256 (by norm_num)))
/-- Score block 2 of unit 4. -/
def sb4_2 : FVec F S256x256 .f32 := (scoreDiag (maskF own0) (headNo i 0#32) (ldRows arg2 harg2 x0 512 (by norm_num)) (ldKeys arg3 harg3 x1 512 (by norm_num)) (ldBias arg5 harg5 x3 512 (by norm_num)))
/-- Score block 0 of unit 5. -/
def sb5_0 : FVec F S256x256 .f32 := (scoreOff (maskF own1) (headNo i 1#32) (ldRows arg2 harg2 x0 512 (by norm_num)) (ldKeys arg3 harg3 x1 0 (by norm_num)) (ldBias arg5 harg5 x3 0 (by norm_num)))
/-- Score block 1 of unit 5. -/
def sb5_1 : FVec F S256x256 .f32 := (scoreOff (maskF own1) (headNo i 1#32) (ldRows arg2 harg2 x0 512 (by norm_num)) (ldKeys arg3 harg3 x1 256 (by norm_num)) (ldBias arg5 harg5 x3 256 (by norm_num)))
/-- Score block 2 of unit 5. -/
def sb5_2 : FVec F S256x256 .f32 := (scoreDiag (maskF own1) (headNo i 1#32) (ldRows arg2 harg2 x0 512 (by norm_num)) (ldKeys arg3 harg3 x1 512 (by norm_num)) (ldBias arg5 harg5 x3 512 (by norm_num)))
/-- Score block 0 of unit 6. -/
def sb6_0 : FVec F S256x256 .f32 := (scoreOff (maskF own0) (headNo i 0#32) (ldRows arg2 harg2 x0 768 (by norm_num)) (ldKeys arg3 harg3 x1 0 (by norm_num)) (ldBias arg5 harg5 x3 0 (by norm_num)))
/-- Score block 1 of unit 6. -/
def sb6_1 : FVec F S256x256 .f32 := (scoreOff (maskF own0) (headNo i 0#32) (ldRows arg2 harg2 x0 768 (by norm_num)) (ldKeys arg3 harg3 x1 256 (by norm_num)) (ldBias arg5 harg5 x3 256 (by norm_num)))
/-- Score block 2 of unit 6. -/
def sb6_2 : FVec F S256x256 .f32 := (scoreOff (maskF own0) (headNo i 0#32) (ldRows arg2 harg2 x0 768 (by norm_num)) (ldKeys arg3 harg3 x1 512 (by norm_num)) (ldBias arg5 harg5 x3 512 (by norm_num)))
/-- Score block 3 of unit 6. -/
def sb6_3 : FVec F S256x256 .f32 := (scoreDiag (maskF own0) (headNo i 0#32) (ldRows arg2 harg2 x0 768 (by norm_num)) (ldKeys arg3 harg3 x1 768 (by norm_num)) (ldBias arg5 harg5 x3 768 (by norm_num)))
/-- Score block 0 of unit 7. -/
def sb7_0 : FVec F S256x256 .f32 := (scoreOff (maskF own1) (headNo i 1#32) (ldRows arg2 harg2 x0 768 (by norm_num)) (ldKeys arg3 harg3 x1 0 (by norm_num)) (ldBias arg5 harg5 x3 0 (by norm_num)))
/-- Score block 1 of unit 7. -/
def sb7_1 : FVec F S256x256 .f32 := (scoreOff (maskF own1) (headNo i 1#32) (ldRows arg2 harg2 x0 768 (by norm_num)) (ldKeys arg3 harg3 x1 256 (by norm_num)) (ldBias arg5 harg5 x3 256 (by norm_num)))
/-- Score block 2 of unit 7. -/
def sb7_2 : FVec F S256x256 .f32 := (scoreOff (maskF own1) (headNo i 1#32) (ldRows arg2 harg2 x0 768 (by norm_num)) (ldKeys arg3 harg3 x1 512 (by norm_num)) (ldBias arg5 harg5 x3 512 (by norm_num)))
/-- Score block 3 of unit 7. -/
def sb7_3 : FVec F S256x256 .f32 := (scoreDiag (maskF own1) (headNo i 1#32) (ldRows arg2 harg2 x0 768 (by norm_num)) (ldKeys arg3 harg3 x1 768 (by norm_num)) (ldBias arg5 harg5 x3 768 (by norm_num)))
/-- Score block 0 of unit 8. -/
def sb8_0 : FVec F S256x256 .f32 := (scoreOff (maskF own0) (headNo i 0#32) (ldRows arg2 harg2 x0 1024 (by norm_num)) (ldKeys arg3 harg3 x1 0 (by norm_num)) (ldBias arg5 harg5 x3 0 (by norm_num)))
/-- Score block 1 of unit 8. -/
def sb8_1 : FVec F S256x256 .f32 := (scoreOff (maskF own0) (headNo i 0#32) (ldRows arg2 harg2 x0 1024 (by norm_num)) (ldKeys arg3 harg3 x1 256 (by norm_num)) (ldBias arg5 harg5 x3 256 (by norm_num)))
/-- Score block 2 of unit 8. -/
def sb8_2 : FVec F S256x256 .f32 := (scoreOff (maskF own0) (headNo i 0#32) (ldRows arg2 harg2 x0 1024 (by norm_num)) (ldKeys arg3 harg3 x1 512 (by norm_num)) (ldBias arg5 harg5 x3 512 (by norm_num)))
/-- Score block 3 of unit 8. -/
def sb8_3 : FVec F S256x256 .f32 := (scoreOff (maskF own0) (headNo i 0#32) (ldRows arg2 harg2 x0 1024 (by norm_num)) (ldKeys arg3 harg3 x1 768 (by norm_num)) (ldBias arg5 harg5 x3 768 (by norm_num)))
/-- Score block 4 of unit 8. -/
def sb8_4 : FVec F S256x256 .f32 := (scoreDiag (maskF own0) (headNo i 0#32) (ldRows arg2 harg2 x0 1024 (by norm_num)) (ldKeys arg3 harg3 x1 1024 (by norm_num)) (ldBias arg5 harg5 x3 1024 (by norm_num)))
/-- Score block 0 of unit 9. -/
def sb9_0 : FVec F S256x256 .f32 := (scoreOff (maskF own1) (headNo i 1#32) (ldRows arg2 harg2 x0 1024 (by norm_num)) (ldKeys arg3 harg3 x1 0 (by norm_num)) (ldBias arg5 harg5 x3 0 (by norm_num)))
/-- Score block 1 of unit 9. -/
def sb9_1 : FVec F S256x256 .f32 := (scoreOff (maskF own1) (headNo i 1#32) (ldRows arg2 harg2 x0 1024 (by norm_num)) (ldKeys arg3 harg3 x1 256 (by norm_num)) (ldBias arg5 harg5 x3 256 (by norm_num)))
/-- Score block 2 of unit 9. -/
def sb9_2 : FVec F S256x256 .f32 := (scoreOff (maskF own1) (headNo i 1#32) (ldRows arg2 harg2 x0 1024 (by norm_num)) (ldKeys arg3 harg3 x1 512 (by norm_num)) (ldBias arg5 harg5 x3 512 (by norm_num)))
/-- Score block 3 of unit 9. -/
def sb9_3 : FVec F S256x256 .f32 := (scoreOff (maskF own1) (headNo i 1#32) (ldRows arg2 harg2 x0 1024 (by norm_num)) (ldKeys arg3 harg3 x1 768 (by norm_num)) (ldBias arg5 harg5 x3 768 (by norm_num)))
/-- Score block 4 of unit 9. -/
def sb9_4 : FVec F S256x256 .f32 := (scoreDiag (maskF own1) (headNo i 1#32) (ldRows arg2 harg2 x0 1024 (by norm_num)) (ldKeys arg3 harg3 x1 1024 (by norm_num)) (ldBias arg5 harg5 x3 1024 (by norm_num)))
/-- Score block 0 of unit 10. -/
def sb10_0 : FVec F S256x256 .f32 := (scoreOff (maskF own0) (headNo i 0#32) (ldRows arg2 harg2 x0 1280 (by norm_num)) (ldKeys arg3 harg3 x1 0 (by norm_num)) (ldBias arg5 harg5 x3 0 (by norm_num)))
/-- Score block 1 of unit 10. -/
def sb10_1 : FVec F S256x256 .f32 := (scoreOff (maskF own0) (headNo i 0#32) (ldRows arg2 harg2 x0 1280 (by norm_num)) (ldKeys arg3 harg3 x1 256 (by norm_num)) (ldBias arg5 harg5 x3 256 (by norm_num)))
/-- Score block 2 of unit 10. -/
def sb10_2 : FVec F S256x256 .f32 := (scoreOff (maskF own0) (headNo i 0#32) (ldRows arg2 harg2 x0 1280 (by norm_num)) (ldKeys arg3 harg3 x1 512 (by norm_num)) (ldBias arg5 harg5 x3 512 (by norm_num)))
/-- Score block 3 of unit 10. -/
def sb10_3 : FVec F S256x256 .f32 := (scoreOff (maskF own0) (headNo i 0#32) (ldRows arg2 harg2 x0 1280 (by norm_num)) (ldKeys arg3 harg3 x1 768 (by norm_num)) (ldBias arg5 harg5 x3 768 (by norm_num)))
/-- Score block 4 of unit 10. -/
def sb10_4 : FVec F S256x256 .f32 := (scoreOff (maskF own0) (headNo i 0#32) (ldRows arg2 harg2 x0 1280 (by norm_num)) (ldKeys arg3 harg3 x1 1024 (by norm_num)) (ldBias arg5 harg5 x3 1024 (by norm_num)))
/-- Score block 5 of unit 10. -/
def sb10_5 : FVec F S256x256 .f32 := (scoreDiag (maskF own0) (headNo i 0#32) (ldRows arg2 harg2 x0 1280 (by norm_num)) (ldKeys arg3 harg3 x1 1280 (by norm_num)) (ldBias arg5 harg5 x3 1280 (by norm_num)))
/-- Score block 0 of unit 11. -/
def sb11_0 : FVec F S256x256 .f32 := (scoreOff (maskF own1) (headNo i 1#32) (ldRows arg2 harg2 x0 1280 (by norm_num)) (ldKeys arg3 harg3 x1 0 (by norm_num)) (ldBias arg5 harg5 x3 0 (by norm_num)))
/-- Score block 1 of unit 11. -/
def sb11_1 : FVec F S256x256 .f32 := (scoreOff (maskF own1) (headNo i 1#32) (ldRows arg2 harg2 x0 1280 (by norm_num)) (ldKeys arg3 harg3 x1 256 (by norm_num)) (ldBias arg5 harg5 x3 256 (by norm_num)))
/-- Score block 2 of unit 11. -/
def sb11_2 : FVec F S256x256 .f32 := (scoreOff (maskF own1) (headNo i 1#32) (ldRows arg2 harg2 x0 1280 (by norm_num)) (ldKeys arg3 harg3 x1 512 (by norm_num)) (ldBias arg5 harg5 x3 512 (by norm_num)))
/-- Score block 3 of unit 11. -/
def sb11_3 : FVec F S256x256 .f32 := (scoreOff (maskF own1) (headNo i 1#32) (ldRows arg2 harg2 x0 1280 (by norm_num)) (ldKeys arg3 harg3 x1 768 (by norm_num)) (ldBias arg5 harg5 x3 768 (by norm_num)))
/-- Score block 4 of unit 11. -/
def sb11_4 : FVec F S256x256 .f32 := (scoreOff (maskF own1) (headNo i 1#32) (ldRows arg2 harg2 x0 1280 (by norm_num)) (ldKeys arg3 harg3 x1 1024 (by norm_num)) (ldBias arg5 harg5 x3 1024 (by norm_num)))
/-- Score block 5 of unit 11. -/
def sb11_5 : FVec F S256x256 .f32 := (scoreDiag (maskF own1) (headNo i 1#32) (ldRows arg2 harg2 x0 1280 (by norm_num)) (ldKeys arg3 harg3 x1 1280 (by norm_num)) (ldBias arg5 harg5 x3 1280 (by norm_num)))
/-- Score block 0 of unit 12. -/
def sb12_0 : FVec F S256x256 .f32 := (scoreOff (maskF own0) (headNo i 0#32) (ldRows arg2 harg2 x0 1536 (by norm_num)) (ldKeys arg3 harg3 x1 0 (by norm_num)) (ldBias arg5 harg5 x3 0 (by norm_num)))
/-- Score block 1 of unit 12. -/
def sb12_1 : FVec F S256x256 .f32 := (scoreOff (maskF own0) (headNo i 0#32) (ldRows arg2 harg2 x0 1536 (by norm_num)) (ldKeys arg3 harg3 x1 256 (by norm_num)) (ldBias arg5 harg5 x3 256 (by norm_num)))
/-- Score block 2 of unit 12. -/
def sb12_2 : FVec F S256x256 .f32 := (scoreOff (maskF own0) (headNo i 0#32) (ldRows arg2 harg2 x0 1536 (by norm_num)) (ldKeys arg3 harg3 x1 512 (by norm_num)) (ldBias arg5 harg5 x3 512 (by norm_num)))
/-- Score block 3 of unit 12. -/
def sb12_3 : FVec F S256x256 .f32 := (scoreOff (maskF own0) (headNo i 0#32) (ldRows arg2 harg2 x0 1536 (by norm_num)) (ldKeys arg3 harg3 x1 768 (by norm_num)) (ldBias arg5 harg5 x3 768 (by norm_num)))
/-- Score block 4 of unit 12. -/
def sb12_4 : FVec F S256x256 .f32 := (scoreOff (maskF own0) (headNo i 0#32) (ldRows arg2 harg2 x0 1536 (by norm_num)) (ldKeys arg3 harg3 x1 1024 (by norm_num)) (ldBias arg5 harg5 x3 1024 (by norm_num)))
/-- Score block 5 of unit 12. -/
def sb12_5 : FVec F S256x256 .f32 := (scoreOff (maskF own0) (headNo i 0#32) (ldRows arg2 harg2 x0 1536 (by norm_num)) (ldKeys arg3 harg3 x1 1280 (by norm_num)) (ldBias arg5 harg5 x3 1280 (by norm_num)))
/-- Score block 6 of unit 12. -/
def sb12_6 : FVec F S256x256 .f32 := (scoreDiag (maskF own0) (headNo i 0#32) (ldRows arg2 harg2 x0 1536 (by norm_num)) (ldKeys arg3 harg3 x1 1536 (by norm_num)) (ldBias arg5 harg5 x3 1536 (by norm_num)))
/-- Score block 0 of unit 13. -/
def sb13_0 : FVec F S256x256 .f32 := (scoreOff (maskF own1) (headNo i 1#32) (ldRows arg2 harg2 x0 1536 (by norm_num)) (ldKeys arg3 harg3 x1 0 (by norm_num)) (ldBias arg5 harg5 x3 0 (by norm_num)))
/-- Score block 1 of unit 13. -/
def sb13_1 : FVec F S256x256 .f32 := (scoreOff (maskF own1) (headNo i 1#32) (ldRows arg2 harg2 x0 1536 (by norm_num)) (ldKeys arg3 harg3 x1 256 (by norm_num)) (ldBias arg5 harg5 x3 256 (by norm_num)))
/-- Score block 2 of unit 13. -/
def sb13_2 : FVec F S256x256 .f32 := (scoreOff (maskF own1) (headNo i 1#32) (ldRows arg2 harg2 x0 1536 (by norm_num)) (ldKeys arg3 harg3 x1 512 (by norm_num)) (ldBias arg5 harg5 x3 512 (by norm_num)))
/-- Score block 3 of unit 13. -/
def sb13_3 : FVec F S256x256 .f32 := (scoreOff (maskF own1) (headNo i 1#32) (ldRows arg2 harg2 x0 1536 (by norm_num)) (ldKeys arg3 harg3 x1 768 (by norm_num)) (ldBias arg5 harg5 x3 768 (by norm_num)))
/-- Score block 4 of unit 13. -/
def sb13_4 : FVec F S256x256 .f32 := (scoreOff (maskF own1) (headNo i 1#32) (ldRows arg2 harg2 x0 1536 (by norm_num)) (ldKeys arg3 harg3 x1 1024 (by norm_num)) (ldBias arg5 harg5 x3 1024 (by norm_num)))
/-- Score block 5 of unit 13. -/
def sb13_5 : FVec F S256x256 .f32 := (scoreOff (maskF own1) (headNo i 1#32) (ldRows arg2 harg2 x0 1536 (by norm_num)) (ldKeys arg3 harg3 x1 1280 (by norm_num)) (ldBias arg5 harg5 x3 1280 (by norm_num)))
/-- Score block 6 of unit 13. -/
def sb13_6 : FVec F S256x256 .f32 := (scoreDiag (maskF own1) (headNo i 1#32) (ldRows arg2 harg2 x0 1536 (by norm_num)) (ldKeys arg3 harg3 x1 1536 (by norm_num)) (ldBias arg5 harg5 x3 1536 (by norm_num)))
/-- Score block 0 of unit 14. -/
def sb14_0 : FVec F S256x256 .f32 := (scoreOff (maskF own0) (headNo i 0#32) (ldRows arg2 harg2 x0 1792 (by norm_num)) (ldKeys arg3 harg3 x1 0 (by norm_num)) (ldBias arg5 harg5 x3 0 (by norm_num)))
/-- Score block 1 of unit 14. -/
def sb14_1 : FVec F S256x256 .f32 := (scoreOff (maskF own0) (headNo i 0#32) (ldRows arg2 harg2 x0 1792 (by norm_num)) (ldKeys arg3 harg3 x1 256 (by norm_num)) (ldBias arg5 harg5 x3 256 (by norm_num)))
/-- Score block 2 of unit 14. -/
def sb14_2 : FVec F S256x256 .f32 := (scoreOff (maskF own0) (headNo i 0#32) (ldRows arg2 harg2 x0 1792 (by norm_num)) (ldKeys arg3 harg3 x1 512 (by norm_num)) (ldBias arg5 harg5 x3 512 (by norm_num)))
/-- Score block 3 of unit 14. -/
def sb14_3 : FVec F S256x256 .f32 := (scoreOff (maskF own0) (headNo i 0#32) (ldRows arg2 harg2 x0 1792 (by norm_num)) (ldKeys arg3 harg3 x1 768 (by norm_num)) (ldBias arg5 harg5 x3 768 (by norm_num)))
/-- Score block 4 of unit 14. -/
def sb14_4 : FVec F S256x256 .f32 := (scoreOff (maskF own0) (headNo i 0#32) (ldRows arg2 harg2 x0 1792 (by norm_num)) (ldKeys arg3 harg3 x1 1024 (by norm_num)) (ldBias arg5 harg5 x3 1024 (by norm_num)))
/-- Score block 5 of unit 14. -/
def sb14_5 : FVec F S256x256 .f32 := (scoreOff (maskF own0) (headNo i 0#32) (ldRows arg2 harg2 x0 1792 (by norm_num)) (ldKeys arg3 harg3 x1 1280 (by norm_num)) (ldBias arg5 harg5 x3 1280 (by norm_num)))
/-- Score block 6 of unit 14. -/
def sb14_6 : FVec F S256x256 .f32 := (scoreOff (maskF own0) (headNo i 0#32) (ldRows arg2 harg2 x0 1792 (by norm_num)) (ldKeys arg3 harg3 x1 1536 (by norm_num)) (ldBias arg5 harg5 x3 1536 (by norm_num)))
/-- Score block 7 of unit 14. -/
def sb14_7 : FVec F S256x256 .f32 := (scoreDiag (maskF own0) (headNo i 0#32) (ldRows arg2 harg2 x0 1792 (by norm_num)) (ldKeys arg3 harg3 x1 1792 (by norm_num)) (ldBias arg5 harg5 x3 1792 (by norm_num)))
/-- Score block 0 of unit 15. -/
def sb15_0 : FVec F S256x256 .f32 := (scoreOff (maskF own1) (headNo i 1#32) (ldRows arg2 harg2 x0 1792 (by norm_num)) (ldKeys arg3 harg3 x1 0 (by norm_num)) (ldBias arg5 harg5 x3 0 (by norm_num)))
/-- Score block 1 of unit 15. -/
def sb15_1 : FVec F S256x256 .f32 := (scoreOff (maskF own1) (headNo i 1#32) (ldRows arg2 harg2 x0 1792 (by norm_num)) (ldKeys arg3 harg3 x1 256 (by norm_num)) (ldBias arg5 harg5 x3 256 (by norm_num)))
/-- Score block 2 of unit 15. -/
def sb15_2 : FVec F S256x256 .f32 := (scoreOff (maskF own1) (headNo i 1#32) (ldRows arg2 harg2 x0 1792 (by norm_num)) (ldKeys arg3 harg3 x1 512 (by norm_num)) (ldBias arg5 harg5 x3 512 (by norm_num)))
/-- Score block 3 of unit 15. -/
def sb15_3 : FVec F S256x256 .f32 := (scoreOff (maskF own1) (headNo i 1#32) (ldRows arg2 harg2 x0 1792 (by norm_num)) (ldKeys arg3 harg3 x1 768 (by norm_num)) (ldBias arg5 harg5 x3 768 (by norm_num)))
/-- Score block 4 of unit 15. -/
def sb15_4 : FVec F S256x256 .f32 := (scoreOff (maskF own1) (headNo i 1#32) (ldRows arg2 harg2 x0 1792 (by norm_num)) (ldKeys arg3 harg3 x1 1024 (by norm_num)) (ldBias arg5 harg5 x3 1024 (by norm_num)))
/-- Score block 5 of unit 15. -/
def sb15_5 : FVec F S256x256 .f32 := (scoreOff (maskF own1) (headNo i 1#32) (ldRows arg2 harg2 x0 1792 (by norm_num)) (ldKeys arg3 harg3 x1 1280 (by norm_num)) (ldBias arg5 harg5 x3 1280 (by norm_num)))
/-- Score block 6 of unit 15. -/
def sb15_6 : FVec F S256x256 .f32 := (scoreOff (maskF own1) (headNo i 1#32) (ldRows arg2 harg2 x0 1792 (by norm_num)) (ldKeys arg3 harg3 x1 1536 (by norm_num)) (ldBias arg5 harg5 x3 1536 (by norm_num)))
/-- Score block 7 of unit 15. -/
def sb15_7 : FVec F S256x256 .f32 := (scoreDiag (maskF own1) (headNo i 1#32) (ldRows arg2 harg2 x0 1792 (by norm_num)) (ldKeys arg3 harg3 x1 1792 (by norm_num)) (ldBias arg5 harg5 x3 1792 (by norm_num)))

/-- The stage after unit 0's scores. -/
def st0 : List (View.Piece (Elt F) S4x256x2048 .f32) :=
  stPiece 0 0 (by norm_num) (by norm_num) (sb0_0 i arg2 harg2 arg3 harg3 arg5 harg5 x0 x1 x3) ::
    []

/-- The stage after unit 1's scores. -/
def st1 : List (View.Piece (Elt F) S4x256x2048 .f32) :=
  stPiece 1 0 (by norm_num) (by norm_num) (sb1_0 i arg2 harg2 arg3 harg3 arg5 harg5 x0 x1 x3) ::
    st0 i arg2 harg2 arg3 harg3 arg5 harg5 x0 x1 x3

/-- The stage after unit 2's scores. -/
def st2 : List (View.Piece (Elt F) S4x256x2048 .f32) :=
  stPiece 2 256 (by norm_num) (by norm_num) (sb2_1 i arg2 harg2 arg3 harg3 arg5 harg5 x0 x1 x3) ::
    stPiece 2 0 (by norm_num) (by norm_num) (sb2_0 i arg2 harg2 arg3 harg3 arg5 harg5 x0 x1 x3) ::
    st1 i arg2 harg2 arg3 harg3 arg5 harg5 x0 x1 x3

/-- The stage after unit 3's scores. -/
def st3 : List (View.Piece (Elt F) S4x256x2048 .f32) :=
  stPiece 3 256 (by norm_num) (by norm_num) (sb3_1 i arg2 harg2 arg3 harg3 arg5 harg5 x0 x1 x3) ::
    stPiece 3 0 (by norm_num) (by norm_num) (sb3_0 i arg2 harg2 arg3 harg3 arg5 harg5 x0 x1 x3) ::
    st2 i arg2 harg2 arg3 harg3 arg5 harg5 x0 x1 x3

/-- The stage after unit 4's scores. -/
def st4 : List (View.Piece (Elt F) S4x256x2048 .f32) :=
  stPiece 0 512 (by norm_num) (by norm_num) (sb4_2 i arg2 harg2 arg3 harg3 arg5 harg5 x0 x1 x3) ::
    stPiece 0 256 (by norm_num) (by norm_num) (sb4_1 i arg2 harg2 arg3 harg3 arg5 harg5 x0 x1 x3) ::
    stPiece 0 0 (by norm_num) (by norm_num) (sb4_0 i arg2 harg2 arg3 harg3 arg5 harg5 x0 x1 x3) ::
    st3 i arg2 harg2 arg3 harg3 arg5 harg5 x0 x1 x3

/-- The stage after unit 5's scores. -/
def st5 : List (View.Piece (Elt F) S4x256x2048 .f32) :=
  stPiece 1 512 (by norm_num) (by norm_num) (sb5_2 i arg2 harg2 arg3 harg3 arg5 harg5 x0 x1 x3) ::
    stPiece 1 256 (by norm_num) (by norm_num) (sb5_1 i arg2 harg2 arg3 harg3 arg5 harg5 x0 x1 x3) ::
    stPiece 1 0 (by norm_num) (by norm_num) (sb5_0 i arg2 harg2 arg3 harg3 arg5 harg5 x0 x1 x3) ::
    st4 i arg2 harg2 arg3 harg3 arg5 harg5 x0 x1 x3

/-- The stage after unit 6's scores. -/
def st6 : List (View.Piece (Elt F) S4x256x2048 .f32) :=
  stPiece 2 768 (by norm_num) (by norm_num) (sb6_3 i arg2 harg2 arg3 harg3 arg5 harg5 x0 x1 x3) ::
    stPiece 2 512 (by norm_num) (by norm_num) (sb6_2 i arg2 harg2 arg3 harg3 arg5 harg5 x0 x1 x3) ::
    stPiece 2 256 (by norm_num) (by norm_num) (sb6_1 i arg2 harg2 arg3 harg3 arg5 harg5 x0 x1 x3) ::
    stPiece 2 0 (by norm_num) (by norm_num) (sb6_0 i arg2 harg2 arg3 harg3 arg5 harg5 x0 x1 x3) ::
    st5 i arg2 harg2 arg3 harg3 arg5 harg5 x0 x1 x3

/-- The stage after unit 7's scores. -/
def st7 : List (View.Piece (Elt F) S4x256x2048 .f32) :=
  stPiece 3 768 (by norm_num) (by norm_num) (sb7_3 i arg2 harg2 arg3 harg3 arg5 harg5 x0 x1 x3) ::
    stPiece 3 512 (by norm_num) (by norm_num) (sb7_2 i arg2 harg2 arg3 harg3 arg5 harg5 x0 x1 x3) ::
    stPiece 3 256 (by norm_num) (by norm_num) (sb7_1 i arg2 harg2 arg3 harg3 arg5 harg5 x0 x1 x3) ::
    stPiece 3 0 (by norm_num) (by norm_num) (sb7_0 i arg2 harg2 arg3 harg3 arg5 harg5 x0 x1 x3) ::
    st6 i arg2 harg2 arg3 harg3 arg5 harg5 x0 x1 x3

/-- The stage after unit 8's scores. -/
def st8 : List (View.Piece (Elt F) S4x256x2048 .f32) :=
  stPiece 0 1024 (by norm_num) (by norm_num) (sb8_4 i arg2 harg2 arg3 harg3 arg5 harg5 x0 x1 x3) ::
    stPiece 0 768 (by norm_num) (by norm_num) (sb8_3 i arg2 harg2 arg3 harg3 arg5 harg5 x0 x1 x3) ::
    stPiece 0 512 (by norm_num) (by norm_num) (sb8_2 i arg2 harg2 arg3 harg3 arg5 harg5 x0 x1 x3) ::
    stPiece 0 256 (by norm_num) (by norm_num) (sb8_1 i arg2 harg2 arg3 harg3 arg5 harg5 x0 x1 x3) ::
    stPiece 0 0 (by norm_num) (by norm_num) (sb8_0 i arg2 harg2 arg3 harg3 arg5 harg5 x0 x1 x3) ::
    st7 i arg2 harg2 arg3 harg3 arg5 harg5 x0 x1 x3

/-- The stage after unit 9's scores. -/
def st9 : List (View.Piece (Elt F) S4x256x2048 .f32) :=
  stPiece 1 1024 (by norm_num) (by norm_num) (sb9_4 i arg2 harg2 arg3 harg3 arg5 harg5 x0 x1 x3) ::
    stPiece 1 768 (by norm_num) (by norm_num) (sb9_3 i arg2 harg2 arg3 harg3 arg5 harg5 x0 x1 x3) ::
    stPiece 1 512 (by norm_num) (by norm_num) (sb9_2 i arg2 harg2 arg3 harg3 arg5 harg5 x0 x1 x3) ::
    stPiece 1 256 (by norm_num) (by norm_num) (sb9_1 i arg2 harg2 arg3 harg3 arg5 harg5 x0 x1 x3) ::
    stPiece 1 0 (by norm_num) (by norm_num) (sb9_0 i arg2 harg2 arg3 harg3 arg5 harg5 x0 x1 x3) ::
    st8 i arg2 harg2 arg3 harg3 arg5 harg5 x0 x1 x3

/-- The stage after unit 10's scores. -/
def st10 : List (View.Piece (Elt F) S4x256x2048 .f32) :=
  stPiece 2 1280 (by norm_num) (by norm_num) (sb10_5 i arg2 harg2 arg3 harg3 arg5 harg5 x0 x1 x3) ::
    stPiece 2 1024 (by norm_num) (by norm_num) (sb10_4 i arg2 harg2 arg3 harg3 arg5 harg5 x0 x1 x3) ::
    stPiece 2 768 (by norm_num) (by norm_num) (sb10_3 i arg2 harg2 arg3 harg3 arg5 harg5 x0 x1 x3) ::
    stPiece 2 512 (by norm_num) (by norm_num) (sb10_2 i arg2 harg2 arg3 harg3 arg5 harg5 x0 x1 x3) ::
    stPiece 2 256 (by norm_num) (by norm_num) (sb10_1 i arg2 harg2 arg3 harg3 arg5 harg5 x0 x1 x3) ::
    stPiece 2 0 (by norm_num) (by norm_num) (sb10_0 i arg2 harg2 arg3 harg3 arg5 harg5 x0 x1 x3) ::
    st9 i arg2 harg2 arg3 harg3 arg5 harg5 x0 x1 x3

/-- The stage after unit 11's scores. -/
def st11 : List (View.Piece (Elt F) S4x256x2048 .f32) :=
  stPiece 3 1280 (by norm_num) (by norm_num) (sb11_5 i arg2 harg2 arg3 harg3 arg5 harg5 x0 x1 x3) ::
    stPiece 3 1024 (by norm_num) (by norm_num) (sb11_4 i arg2 harg2 arg3 harg3 arg5 harg5 x0 x1 x3) ::
    stPiece 3 768 (by norm_num) (by norm_num) (sb11_3 i arg2 harg2 arg3 harg3 arg5 harg5 x0 x1 x3) ::
    stPiece 3 512 (by norm_num) (by norm_num) (sb11_2 i arg2 harg2 arg3 harg3 arg5 harg5 x0 x1 x3) ::
    stPiece 3 256 (by norm_num) (by norm_num) (sb11_1 i arg2 harg2 arg3 harg3 arg5 harg5 x0 x1 x3) ::
    stPiece 3 0 (by norm_num) (by norm_num) (sb11_0 i arg2 harg2 arg3 harg3 arg5 harg5 x0 x1 x3) ::
    st10 i arg2 harg2 arg3 harg3 arg5 harg5 x0 x1 x3

/-- The stage after unit 12's scores. -/
def st12 : List (View.Piece (Elt F) S4x256x2048 .f32) :=
  stPiece 0 1536 (by norm_num) (by norm_num) (sb12_6 i arg2 harg2 arg3 harg3 arg5 harg5 x0 x1 x3) ::
    stPiece 0 1280 (by norm_num) (by norm_num) (sb12_5 i arg2 harg2 arg3 harg3 arg5 harg5 x0 x1 x3) ::
    stPiece 0 1024 (by norm_num) (by norm_num) (sb12_4 i arg2 harg2 arg3 harg3 arg5 harg5 x0 x1 x3) ::
    stPiece 0 768 (by norm_num) (by norm_num) (sb12_3 i arg2 harg2 arg3 harg3 arg5 harg5 x0 x1 x3) ::
    stPiece 0 512 (by norm_num) (by norm_num) (sb12_2 i arg2 harg2 arg3 harg3 arg5 harg5 x0 x1 x3) ::
    stPiece 0 256 (by norm_num) (by norm_num) (sb12_1 i arg2 harg2 arg3 harg3 arg5 harg5 x0 x1 x3) ::
    stPiece 0 0 (by norm_num) (by norm_num) (sb12_0 i arg2 harg2 arg3 harg3 arg5 harg5 x0 x1 x3) ::
    st11 i arg2 harg2 arg3 harg3 arg5 harg5 x0 x1 x3

/-- The stage after unit 13's scores. -/
def st13 : List (View.Piece (Elt F) S4x256x2048 .f32) :=
  stPiece 1 1536 (by norm_num) (by norm_num) (sb13_6 i arg2 harg2 arg3 harg3 arg5 harg5 x0 x1 x3) ::
    stPiece 1 1280 (by norm_num) (by norm_num) (sb13_5 i arg2 harg2 arg3 harg3 arg5 harg5 x0 x1 x3) ::
    stPiece 1 1024 (by norm_num) (by norm_num) (sb13_4 i arg2 harg2 arg3 harg3 arg5 harg5 x0 x1 x3) ::
    stPiece 1 768 (by norm_num) (by norm_num) (sb13_3 i arg2 harg2 arg3 harg3 arg5 harg5 x0 x1 x3) ::
    stPiece 1 512 (by norm_num) (by norm_num) (sb13_2 i arg2 harg2 arg3 harg3 arg5 harg5 x0 x1 x3) ::
    stPiece 1 256 (by norm_num) (by norm_num) (sb13_1 i arg2 harg2 arg3 harg3 arg5 harg5 x0 x1 x3) ::
    stPiece 1 0 (by norm_num) (by norm_num) (sb13_0 i arg2 harg2 arg3 harg3 arg5 harg5 x0 x1 x3) ::
    st12 i arg2 harg2 arg3 harg3 arg5 harg5 x0 x1 x3

/-- The stage after unit 14's scores. -/
def st14 : List (View.Piece (Elt F) S4x256x2048 .f32) :=
  stPiece 2 1792 (by norm_num) (by norm_num) (sb14_7 i arg2 harg2 arg3 harg3 arg5 harg5 x0 x1 x3) ::
    stPiece 2 1536 (by norm_num) (by norm_num) (sb14_6 i arg2 harg2 arg3 harg3 arg5 harg5 x0 x1 x3) ::
    stPiece 2 1280 (by norm_num) (by norm_num) (sb14_5 i arg2 harg2 arg3 harg3 arg5 harg5 x0 x1 x3) ::
    stPiece 2 1024 (by norm_num) (by norm_num) (sb14_4 i arg2 harg2 arg3 harg3 arg5 harg5 x0 x1 x3) ::
    stPiece 2 768 (by norm_num) (by norm_num) (sb14_3 i arg2 harg2 arg3 harg3 arg5 harg5 x0 x1 x3) ::
    stPiece 2 512 (by norm_num) (by norm_num) (sb14_2 i arg2 harg2 arg3 harg3 arg5 harg5 x0 x1 x3) ::
    stPiece 2 256 (by norm_num) (by norm_num) (sb14_1 i arg2 harg2 arg3 harg3 arg5 harg5 x0 x1 x3) ::
    stPiece 2 0 (by norm_num) (by norm_num) (sb14_0 i arg2 harg2 arg3 harg3 arg5 harg5 x0 x1 x3) ::
    st13 i arg2 harg2 arg3 harg3 arg5 harg5 x0 x1 x3

/-- The stage after unit 15's scores. -/
def st15 : List (View.Piece (Elt F) S4x256x2048 .f32) :=
  stPiece 3 1792 (by norm_num) (by norm_num) (sb15_7 i arg2 harg2 arg3 harg3 arg5 harg5 x0 x1 x3) ::
    stPiece 3 1536 (by norm_num) (by norm_num) (sb15_6 i arg2 harg2 arg3 harg3 arg5 harg5 x0 x1 x3) ::
    stPiece 3 1280 (by norm_num) (by norm_num) (sb15_5 i arg2 harg2 arg3 harg3 arg5 harg5 x0 x1 x3) ::
    stPiece 3 1024 (by norm_num) (by norm_num) (sb15_4 i arg2 harg2 arg3 harg3 arg5 harg5 x0 x1 x3) ::
    stPiece 3 768 (by norm_num) (by norm_num) (sb15_3 i arg2 harg2 arg3 harg3 arg5 harg5 x0 x1 x3) ::
    stPiece 3 512 (by norm_num) (by norm_num) (sb15_2 i arg2 harg2 arg3 harg3 arg5 harg5 x0 x1 x3) ::
    stPiece 3 256 (by norm_num) (by norm_num) (sb15_1 i arg2 harg2 arg3 harg3 arg5 harg5 x0 x1 x3) ::
    stPiece 3 0 (by norm_num) (by norm_num) (sb15_0 i arg2 harg2 arg3 harg3 arg5 harg5 x0 x1 x3) ::
    st14 i arg2 harg2 arg3 harg3 arg5 harg5 x0 x1 x3

/-- The row maxima of unit 0. -/
def mx0 : FVec F S256x128 .f32 := mxRow (mxInit (sb0_0 i arg2 harg2 arg3 harg3 arg5 harg5 x0 x1 x3))

/-- The row maxima of unit 1. -/
def mx1 : FVec F S256x128 .f32 := mxRow (mxInit (sb1_0 i arg2 harg2 arg3 harg3 arg5 harg5 x0 x1 x3))

/-- The row maxima of unit 2. -/
def mx2 : FVec F S256x128 .f32 := mxRow (mxStep (mxInit (sb2_0 i arg2 harg2 arg3 harg3 arg5 harg5 x0 x1 x3)) (sb2_1 i arg2 harg2 arg3 harg3 arg5 harg5 x0 x1 x3))

/-- The row maxima of unit 3. -/
def mx3 : FVec F S256x128 .f32 := mxRow (mxStep (mxInit (sb3_0 i arg2 harg2 arg3 harg3 arg5 harg5 x0 x1 x3)) (sb3_1 i arg2 harg2 arg3 harg3 arg5 harg5 x0 x1 x3))

/-- The row maxima of unit 4. -/
def mx4 : FVec F S256x128 .f32 := mxRow (mxStep (mxStep (mxInit (sb4_0 i arg2 harg2 arg3 harg3 arg5 harg5 x0 x1 x3)) (sb4_1 i arg2 harg2 arg3 harg3 arg5 harg5 x0 x1 x3)) (sb4_2 i arg2 harg2 arg3 harg3 arg5 harg5 x0 x1 x3))

/-- The row maxima of unit 5. -/
def mx5 : FVec F S256x128 .f32 := mxRow (mxStep (mxStep (mxInit (sb5_0 i arg2 harg2 arg3 harg3 arg5 harg5 x0 x1 x3)) (sb5_1 i arg2 harg2 arg3 harg3 arg5 harg5 x0 x1 x3)) (sb5_2 i arg2 harg2 arg3 harg3 arg5 harg5 x0 x1 x3))

/-- The row maxima of unit 6. -/
def mx6 : FVec F S256x128 .f32 := mxRow (mxStep (mxStep (mxStep (mxInit (sb6_0 i arg2 harg2 arg3 harg3 arg5 harg5 x0 x1 x3)) (sb6_1 i arg2 harg2 arg3 harg3 arg5 harg5 x0 x1 x3)) (sb6_2 i arg2 harg2 arg3 harg3 arg5 harg5 x0 x1 x3)) (sb6_3 i arg2 harg2 arg3 harg3 arg5 harg5 x0 x1 x3))

/-- The row maxima of unit 7. -/
def mx7 : FVec F S256x128 .f32 := mxRow (mxStep (mxStep (mxStep (mxInit (sb7_0 i arg2 harg2 arg3 harg3 arg5 harg5 x0 x1 x3)) (sb7_1 i arg2 harg2 arg3 harg3 arg5 harg5 x0 x1 x3)) (sb7_2 i arg2 harg2 arg3 harg3 arg5 harg5 x0 x1 x3)) (sb7_3 i arg2 harg2 arg3 harg3 arg5 harg5 x0 x1 x3))

/-- The row maxima of unit 8. -/
def mx8 : FVec F S256x128 .f32 := mxRow (mxStep (mxStep (mxStep (mxStep (mxInit (sb8_0 i arg2 harg2 arg3 harg3 arg5 harg5 x0 x1 x3)) (sb8_1 i arg2 harg2 arg3 harg3 arg5 harg5 x0 x1 x3)) (sb8_2 i arg2 harg2 arg3 harg3 arg5 harg5 x0 x1 x3)) (sb8_3 i arg2 harg2 arg3 harg3 arg5 harg5 x0 x1 x3)) (sb8_4 i arg2 harg2 arg3 harg3 arg5 harg5 x0 x1 x3))

/-- The row maxima of unit 9. -/
def mx9 : FVec F S256x128 .f32 := mxRow (mxStep (mxStep (mxStep (mxStep (mxInit (sb9_0 i arg2 harg2 arg3 harg3 arg5 harg5 x0 x1 x3)) (sb9_1 i arg2 harg2 arg3 harg3 arg5 harg5 x0 x1 x3)) (sb9_2 i arg2 harg2 arg3 harg3 arg5 harg5 x0 x1 x3)) (sb9_3 i arg2 harg2 arg3 harg3 arg5 harg5 x0 x1 x3)) (sb9_4 i arg2 harg2 arg3 harg3 arg5 harg5 x0 x1 x3))

/-- The row maxima of unit 10. -/
def mx10 : FVec F S256x128 .f32 := mxRow (mxStep (mxStep (mxStep (mxStep (mxStep (mxInit (sb10_0 i arg2 harg2 arg3 harg3 arg5 harg5 x0 x1 x3)) (sb10_1 i arg2 harg2 arg3 harg3 arg5 harg5 x0 x1 x3)) (sb10_2 i arg2 harg2 arg3 harg3 arg5 harg5 x0 x1 x3)) (sb10_3 i arg2 harg2 arg3 harg3 arg5 harg5 x0 x1 x3)) (sb10_4 i arg2 harg2 arg3 harg3 arg5 harg5 x0 x1 x3)) (sb10_5 i arg2 harg2 arg3 harg3 arg5 harg5 x0 x1 x3))

/-- The row maxima of unit 11. -/
def mx11 : FVec F S256x128 .f32 := mxRow (mxStep (mxStep (mxStep (mxStep (mxStep (mxInit (sb11_0 i arg2 harg2 arg3 harg3 arg5 harg5 x0 x1 x3)) (sb11_1 i arg2 harg2 arg3 harg3 arg5 harg5 x0 x1 x3)) (sb11_2 i arg2 harg2 arg3 harg3 arg5 harg5 x0 x1 x3)) (sb11_3 i arg2 harg2 arg3 harg3 arg5 harg5 x0 x1 x3)) (sb11_4 i arg2 harg2 arg3 harg3 arg5 harg5 x0 x1 x3)) (sb11_5 i arg2 harg2 arg3 harg3 arg5 harg5 x0 x1 x3))

/-- The row maxima of unit 12. -/
def mx12 : FVec F S256x128 .f32 := mxRow (mxStep (mxStep (mxStep (mxStep (mxStep (mxStep (mxInit (sb12_0 i arg2 harg2 arg3 harg3 arg5 harg5 x0 x1 x3)) (sb12_1 i arg2 harg2 arg3 harg3 arg5 harg5 x0 x1 x3)) (sb12_2 i arg2 harg2 arg3 harg3 arg5 harg5 x0 x1 x3)) (sb12_3 i arg2 harg2 arg3 harg3 arg5 harg5 x0 x1 x3)) (sb12_4 i arg2 harg2 arg3 harg3 arg5 harg5 x0 x1 x3)) (sb12_5 i arg2 harg2 arg3 harg3 arg5 harg5 x0 x1 x3)) (sb12_6 i arg2 harg2 arg3 harg3 arg5 harg5 x0 x1 x3))

/-- The row maxima of unit 13. -/
def mx13 : FVec F S256x128 .f32 := mxRow (mxStep (mxStep (mxStep (mxStep (mxStep (mxStep (mxInit (sb13_0 i arg2 harg2 arg3 harg3 arg5 harg5 x0 x1 x3)) (sb13_1 i arg2 harg2 arg3 harg3 arg5 harg5 x0 x1 x3)) (sb13_2 i arg2 harg2 arg3 harg3 arg5 harg5 x0 x1 x3)) (sb13_3 i arg2 harg2 arg3 harg3 arg5 harg5 x0 x1 x3)) (sb13_4 i arg2 harg2 arg3 harg3 arg5 harg5 x0 x1 x3)) (sb13_5 i arg2 harg2 arg3 harg3 arg5 harg5 x0 x1 x3)) (sb13_6 i arg2 harg2 arg3 harg3 arg5 harg5 x0 x1 x3))

/-- The row maxima of unit 14. -/
def mx14 : FVec F S256x128 .f32 := mxRow (mxStep (mxStep (mxStep (mxStep (mxStep (mxStep (mxStep (mxInit (sb14_0 i arg2 harg2 arg3 harg3 arg5 harg5 x0 x1 x3)) (sb14_1 i arg2 harg2 arg3 harg3 arg5 harg5 x0 x1 x3)) (sb14_2 i arg2 harg2 arg3 harg3 arg5 harg5 x0 x1 x3)) (sb14_3 i arg2 harg2 arg3 harg3 arg5 harg5 x0 x1 x3)) (sb14_4 i arg2 harg2 arg3 harg3 arg5 harg5 x0 x1 x3)) (sb14_5 i arg2 harg2 arg3 harg3 arg5 harg5 x0 x1 x3)) (sb14_6 i arg2 harg2 arg3 harg3 arg5 harg5 x0 x1 x3)) (sb14_7 i arg2 harg2 arg3 harg3 arg5 harg5 x0 x1 x3))

/-- The row maxima of unit 15. -/
def mx15 : FVec F S256x128 .f32 := mxRow (mxStep (mxStep (mxStep (mxStep (mxStep (mxStep (mxStep (mxInit (sb15_0 i arg2 harg2 arg3 harg3 arg5 harg5 x0 x1 x3)) (sb15_1 i arg2 harg2 arg3 harg3 arg5 harg5 x0 x1 x3)) (sb15_2 i arg2 harg2 arg3 harg3 arg5 harg5 x0 x1 x3)) (sb15_3 i arg2 harg2 arg3 harg3 arg5 harg5 x0 x1 x3)) (sb15_4 i arg2 harg2 arg3 harg3 arg5 harg5 x0 x1 x3)) (sb15_5 i arg2 harg2 arg3 harg3 arg5 harg5 x0 x1 x3)) (sb15_6 i arg2 harg2 arg3 harg3 arg5 harg5 x0 x1 x3)) (sb15_7 i arg2 harg2 arg3 harg3 arg5 harg5 x0 x1 x3))

section Runs

theorem stage3 : kernelRun0_A.sl.HS0_6 c i arg2 harg2 arg3 harg3 arg5 harg5 x0 x1 x3 = st3 i arg2 harg2 arg3 harg3 arg5 harg5 x0 x1 x3 := rfl

theorem stage4 : kernelRun0_A.sl.HS0_9 c i arg2 harg2 arg3 harg3 arg5 harg5 x0 x1 x3 = st4 i arg2 harg2 arg3 harg3 arg5 harg5 x0 x1 x3 := by
  unfold kernelRun0_A.sl.HS0_9 st4
  rw [stage3]
  rfl

theorem stage5 : kernelRun0_A.sl.HS0_12 c i arg2 harg2 arg3 harg3 arg5 harg5 x0 x1 x3 = st5 i arg2 harg2 arg3 harg3 arg5 harg5 x0 x1 x3 := by
  unfold kernelRun0_A.sl.HS0_12 st5
  rw [stage4]
  rfl

theorem stage6 : kernelRun0_A.sl.HS0_16 c i arg2 harg2 arg3 harg3 arg5 harg5 x0 x1 x3 = st6 i arg2 harg2 arg3 harg3 arg5 harg5 x0 x1 x3 := by
  unfold kernelRun0_A.sl.HS0_16 st6
  rw [stage5]
  rfl

theorem stage7 : kernelRun0_A.sl.HS0_20 c i arg2 harg2 arg3 harg3 arg5 harg5 x0 x1 x3 = st7 i arg2 harg2 arg3 harg3 arg5 harg5 x0 x1 x3 := by
  unfold kernelRun0_A.sl.HS0_20 st7
  rw [stage6]
  rfl

theorem stage8 : kernelRun0_A.sl.HS0_25 c i arg2 harg2 arg3 harg3 arg5 harg5 x0 x1 x3 = st8 i arg2 harg2 arg3 harg3 arg5 harg5 x0 x1 x3 := by
  unfold kernelRun0_A.sl.HS0_25 st8
  rw [stage7]
  rfl

theorem stage9 : kernelRun0_A.sl.HS0_30 c i arg2 harg2 arg3 harg3 arg5 harg5 x0 x1 x3 = st9 i arg2 harg2 arg3 harg3 arg5 harg5 x0 x1 x3 := by
  unfold kernelRun0_A.sl.HS0_30 st9
  rw [stage8]
  rfl

theorem stage10 : kernelRun0_A.sl.HS0_36 c i arg2 harg2 arg3 harg3 arg5 harg5 x0 x1 x3 = st10 i arg2 harg2 arg3 harg3 arg5 harg5 x0 x1 x3 := by
  unfold kernelRun0_A.sl.HS0_36 st10
  rw [stage9]
  rfl

theorem stage11 : kernelRun0_A.sl.HS0_42 c i arg2 harg2 arg3 harg3 arg5 harg5 x0 x1 x3 = st11 i arg2 harg2 arg3 harg3 arg5 harg5 x0 x1 x3 := by
  unfold kernelRun0_A.sl.HS0_42 st11
  rw [stage10]
  rfl

theorem stage12 : kernelRun0_A.sl.HS0_49 c i arg2 harg2 arg3 harg3 arg5 harg5 x0 x1 x3 = st12 i arg2 harg2 arg3 harg3 arg5 harg5 x0 x1 x3 := by
  unfold kernelRun0_A.sl.HS0_49 st12
  rw [stage11]
  rfl

theorem stage13 : kernelRun0_A.sl.HS0_56 c i arg2 harg2 arg3 harg3 arg5 harg5 x0 x1 x3 = st13 i arg2 harg2 arg3 harg3 arg5 harg5 x0 x1 x3 := by
  unfold kernelRun0_A.sl.HS0_56 st13
  rw [stage12]
  rfl

theorem stage14 : kernelRun0_A.sl.HS0_64 c i arg2 harg2 arg3 harg3 arg5 harg5 x0 x1 x3 = st14 i arg2 harg2 arg3 harg3 arg5 harg5 x0 x1 x3 := by
  unfold kernelRun0_A.sl.HS0_64 st14
  rw [stage13]
  rfl

theorem stage15 : kernelRun0_A.sl.HS0_72 c i arg2 harg2 arg3 harg3 arg5 harg5 x0 x1 x3 = st15 i arg2 harg2 arg3 harg3 arg5 harg5 x0 x1 x3 := by
  unfold kernelRun0_A.sl.HS0_72 st15
  rw [stage14]
  rfl

end Runs

end Cert.FoxIdeal.Att

end
-- ==== Proof.FoxOut.lean ====
/- The body's weighted sums and the list of row blocks that it stores. -/
module

public import proofs.«01_k».proof.Proof.FoxStage

@[expose] public section

set_option maxRecDepth 16384

noncomputable section

namespace Cert.FoxIdeal.Att

open Cert.FoxIdeal Cert.FoxIdeal.Gen Idealize.ShloMosaic Idealize.ShloMosaic.TcCoe

variable {F : FTy → Type} [FloatOps F] [Named F]
variable (c : Dev nD) (i : grid0.Coords) (arg2 : Memref sig .tc .vmem S1x2048x128 .bf16) (harg2 : arg2.IsWhole) (arg3 : Memref sig .tc .vmem S1x128x2048 .bf16) (harg3 : arg3.IsWhole)
  (arg4 : Memref sig .tc .vmem S1x2048x128 .bf16) (harg4 : arg4.IsWhole) (arg5 : Memref sig .tc .vmem S1x8x2048 .f32) (harg5 : arg5.IsWhole)
  (arg7 : Memref sig .tc .vmem S4x256x2048 .f32)
  (x0 : Vec F S1x2048x128 .bf16) (x1 : Vec F S1x128x2048 .bf16) (x2 : Vec F S1x2048x128 .bf16) (x3 : Vec F S1x8x2048 .f32)

/-- Unit 0's weighted sum, the stage read through the pieces `L`. -/
def ac0 (L : List (View.Piece (Elt F) S4x256x2048 .f32)) : FVec F S256x128 .f32 :=
  accStep (accInit) (mx0 i arg2 harg2 arg3 harg3 arg5 harg5 x0 x1 x3)
    (stRead arg7 L 0 0 (by norm_num) (by norm_num)) (stRead arg7 L 0 128 (by norm_num) (by norm_num)) (ldRows arg4 harg4 x2 0 (by norm_num))
    (maskF own0) (maskF (sumLane 64#32))

/-- Unit 1's weighted sum, the stage read through the pieces `L`. -/
def ac1 (L : List (View.Piece (Elt F) S4x256x2048 .f32)) : FVec F S256x128 .f32 :=
  accStep (accInit) (mx1 i arg2 harg2 arg3 harg3 arg5 harg5 x0 x1 x3)
    (stRead arg7 L 1 0 (by norm_num) (by norm_num)) (stRead arg7 L 1 128 (by norm_num) (by norm_num)) (ldRows arg4 harg4 x2 0 (by norm_num))
    (maskF own1) (maskF (sumLane 0#32))

/-- Unit 2's weighted sum, the stage read through the pieces `L`. -/
def ac2 (L : List (View.Piece (Elt F) S4x256x2048 .f32)) : FVec F S256x128 .f32 :=
  accStep (accStep (accInit) (mx2 i arg2 harg2 arg3 harg3 arg5 harg5 x0 x1 x3)
    (stRead arg7 L 2 0 (by norm_num) (by norm_num)) (stRead arg7 L 2 128 (by norm_num) (by norm_num)) (ldRows arg4 harg4 x2 0 (by norm_num))
    (maskF own0) (maskF (sumLane 64#32))) (mx2 i arg2 harg2 arg3 harg3 arg5 harg5 x0 x1 x3)
    (stRead arg7 L 2 256 (by norm_num) (by norm_num)) (stRead arg7 L 2 384 (by norm_num) (by norm_num)) (ldRows arg4 harg4 x2 256 (by norm_num))
    (maskF own0) (maskF (sumLane 64#32))

/-- Unit 3's weighted sum, the stage read through the pieces `L`. -/
def ac3 (L : List (View.Piece (Elt F) S4x256x2048 .f32)) : FVec F S256x128 .f32 :=
  accStep (accStep (accInit) (mx3 i arg2 harg2 arg3 harg3 arg5 harg5 x0 x1 x3)
    (stRead arg7 L 3 0 (by norm_num) (by norm_num)) (stRead arg7 L 3 128 (by norm_num) (by norm_num)) (ldRows arg4 harg4 x2 0 (by norm_num))
    (maskF own1) (maskF (sumLane 0#32))) (mx3 i arg2 harg2 arg3 harg3 arg5 harg5 x0 x1 x3)
    (stRead arg7 L 3 256 (by norm_num) (by norm_num)) (stRead arg7 L 3 384 (by norm_num) (by norm_num)) (ldRows arg4 harg4 x2 256 (by norm_num))
    (maskF own1) (maskF (sumLane 0#32))

/-- Unit 4's weighted sum, the stage read through the pieces `L`. -/
def ac4 (L : List (View.Piece (Elt F) S4x256x2048 .f32)) : FVec F S256x128 .f32 :=
  accStep (accStep (accStep (accInit) (mx4 i arg2 harg2 arg3 harg3 arg5 harg5 x0 x1 x3)
    (stRead arg7 L 0 0 (by norm_num) (by norm_num)) (stRead arg7 L 0 128 (by norm_num) (by norm_num)) (ldRows arg4 harg4 x2 0 (by norm_num))
    (maskF own0) (maskF (sumLane 64#32))) (mx4 i arg2 harg2 arg3 harg3 arg5 harg5 x0 x1 x3)
    (stRead arg7 L 0 256 (by norm_num) (by norm_num)) (stRead arg7 L 0 384 (by norm_num) (by norm_num)) (ldRows arg4 harg4 x2 256 (by norm_num))
    (maskF own0) (maskF (sumLane 64#32))) (mx4 i arg2 harg2 arg3 harg3 arg5 harg5 x0 x1 x3)
    (stRead arg7 L 0 512 (by norm_num) (by norm_num)) (stRead arg7 L 0 640 (by norm_num) (by norm_num)) (ldRows arg4 harg4 x2 512 (by norm_num))
    (maskF own0) (maskF (sumLane 64#32))

/-- Unit 5's weighted sum, the stage read through the pieces `L`. -/
def ac5 (L : List (View.Piece (Elt F) S4x256x2048 .f32)) : FVec F S256x128 .f32 :=
  accStep (accStep (accStep (accInit) (mx5 i arg2 harg2 arg3 harg3 arg5 harg5 x0 x1 x3)
    (stRead arg7 L 1 0 (by norm_num) (by norm_num)) (stRead arg7 L 1 128 (by norm_num) (by norm_num)) (ldRows arg4 harg4 x2 0 (by norm_num))
    (maskF own1) (maskF (sumLane 0#32))) (mx5 i arg2 harg2 arg3 harg3 arg5 harg5 x0 x1 x3)
    (stRead arg7 L 1 256 (by norm_num) (by norm_num)) (stRead arg7 L 1 384 (by norm_num) (by norm_num)) (ldRows arg4 harg4 x2 256 (by norm_num))
    (maskF own1) (maskF (sumLane 0#32))) (mx5 i arg2 harg2 arg3 harg3 arg5 harg5 x0 x1 x3)
    (stRead arg7 L 1 512 (by norm_num) (by norm_num)) (stRead arg7 L 1 640 (by norm_num) (by norm_num)) (ldRows arg4 harg4 x2 512 (by norm_num))
    (maskF own1) (maskF (sumLane 0#32))

/-- Unit 6's weighted sum, the stage read through the pieces `L`. -/
def ac6 (L : List (View.Piece (Elt F) S4x256x2048 .f32)) : FVec F S256x128 .f32 :=
  accStep (accStep (accStep (accStep (accInit) (mx6 i arg2 harg2 arg3 harg3 arg5 harg5 x0 x1 x3)
    (stRead arg7 L 2 0 (by norm_num) (by norm_num)) (stRead arg7 L 2 128 (by norm_num) (by norm_num)) (ldRows arg4 harg4 x2 0 (by norm_num))
    (maskF own0) (maskF (sumLane 64#32))) (mx6 i arg2 harg2 arg3 harg3 arg5 harg5 x0 x1 x3)
    (stRead arg7 L 2 256 (by norm_num) (by norm_num)) (stRead arg7 L 2 384 (by norm_num) (by norm_num)) (ldRows arg4 harg4 x2 256 (by norm_num))
    (maskF own0) (maskF (sumLane 64#32))) (mx6 i arg2 harg2 arg3 harg3 arg5 harg5 x0 x1 x3)
    (stRead arg7 L 2 512 (by norm_num) (by norm_num)) (stRead arg7 L 2 640 (by norm_num) (by norm_num)) (ldRows arg4 harg4 x2 512 (by norm_num))
    (maskF own0) (maskF (sumLane 64#32))) (mx6 i arg2 harg2 arg3 harg3 arg5 harg5 x0 x1 x3)
    (stRead arg7 L 2 768 (by norm_num) (by norm_num)) (stRead arg7 L 2 896 (by norm_num) (by norm_num)) (ldRows arg4 harg4 x2 768 (by norm_num))
    (maskF own0) (maskF (sumLane 64#32))

/-- Unit 7's weighted sum, the stage read through the pieces `L`. -/
def ac7 (L : List (View.Piece (Elt F) S4x256x2048 .f32)) : FVec F S256x128 .f32 :=
  accStep (accStep (accStep (accStep (accInit) (mx7 i arg2 harg2 arg3 harg3 arg5 harg5 x0 x1 x3)
    (stRead arg7 L 3 0 (by norm_num) (by norm_num)) (stRead arg7 L 3 128 (by norm_num) (by norm_num)) (ldRows arg4 harg4 x2 0 (by norm_num))
    (maskF own1) (maskF (sumLane 0#32))) (mx7 i arg2 harg2 arg3 harg3 arg5 harg5 x0 x1 x3)
    (stRead arg7 L 3 256 (by norm_num) (by norm_num)) (stRead arg7 L 3 384 (by norm_num) (by norm_num)) (ldRows arg4 harg4 x2 256 (by norm_num))
    (maskF own1) (maskF (sumLane 0#32))) (mx7 i arg2 harg2 arg3 harg3 arg5 harg5 x0 x1 x3)
    (stRead arg7 L 3 512 (by norm_num) (by norm_num)) (stRead arg7 L 3 640 (by norm_num) (by norm_num)) (ldRows arg4 harg4 x2 512 (by norm_num))
    (maskF own1) (maskF (sumLane 0#32))) (mx7 i arg2 harg2 arg3 harg3 arg5 harg5 x0 x1 x3)
    (stRead arg7 L 3 768 (by norm_num) (by norm_num)) (stRead arg7 L 3 896 (by norm_num) (by norm_num)) (ldRows arg4 harg4 x2 768 (by norm_num))
    (maskF own1) (maskF (sumLane 0#32))

/-- Unit 8's weighted sum, the stage read through the pieces `L`. -/
def ac8 (L : List (View.Piece (Elt F) S4x256x2048 .f32)) : FVec F S256x128 .f32 :=
  accStep (accStep (accStep (accStep (accStep (accInit) (mx8 i arg2 harg2 arg3 harg3 arg5 harg5 x0 x1 x3)
    (stRead arg7 L 0 0 (by norm_num) (by norm_num)) (stRead arg7 L 0 128 (by norm_num) (by norm_num)) (ldRows arg4 harg4 x2 0 (by norm_num))
    (maskF own0) (maskF (sumLane 64#32))) (mx8 i arg2 harg2 arg3 harg3 arg5 harg5 x0 x1 x3)
    (stRead arg7 L 0 256 (by norm_num) (by norm_num)) (stRead arg7 L 0 384 (by norm_num) (by norm_num)) (ldRows arg4 harg4 x2 256 (by norm_num))
    (maskF own0) (maskF (sumLane 64#32))) (mx8 i arg2 harg2 arg3 harg3 arg5 harg5 x0 x1 x3)
    (stRead arg7 L 0 512 (by norm_num) (by norm_num)) (stRead arg7 L 0 640 (by norm_num) (by norm_num)) (ldRows arg4 harg4 x2 512 (by norm_num))
    (maskF own0) (maskF (sumLane 64#32))) (mx8 i arg2 harg2 arg3 harg3 arg5 harg5 x0 x1 x3)
    (stRead arg7 L 0 768 (by norm_num) (by norm_num)) (stRead arg7 L 0 896 (by norm_num) (by norm_num)) (ldRows arg4 harg4 x2 768 (by norm_num))
    (maskF own0) (maskF (sumLane 64#32))) (mx8 i arg2 harg2 arg3 harg3 arg5 harg5 x0 x1 x3)
    (stRead arg7 L 0 1024 (by norm_num) (by norm_num)) (stRead arg7 L 0 1152 (by norm_num) (by norm_num)) (ldRows arg4 harg4 x2 1024 (by norm_num))
    (maskF own0) (maskF (sumLane 64#32))

/-- Unit 9's weighted sum, the stage read through the pieces `L`. -/
def ac9 (L : List (View.Piece (Elt F) S4x256x2048 .f32)) : FVec F S256x128 .f32 :=
  accStep (accStep (accStep (accStep (accStep (accInit) (mx9 i arg2 harg2 arg3 harg3 arg5 harg5 x0 x1 x3)
    (stRead arg7 L 1 0 (by norm_num) (by norm_num)) (stRead arg7 L 1 128 (by norm_num) (by norm_num)) (ldRows arg4 harg4 x2 0 (by norm_num))
    (maskF own1) (maskF (sumLane 0#32))) (mx9 i arg2 harg2 arg3 harg3 arg5 harg5 x0 x1 x3)
    (stRead arg7 L 1 256 (by norm_num) (by norm_num)) (stRead arg7 L 1 384 (by norm_num) (by norm_num)) (ldRows arg4 harg4 x2 256 (by norm_num))
    (maskF own1) (maskF (sumLane 0#32))) (mx9 i arg2 harg2 arg3 harg3 arg5 harg5 x0 x1 x3)
    (stRead arg7 L 1 512 (by norm_num) (by norm_num)) (stRead arg7 L 1 640 (by norm_num) (by norm_num)) (ldRows arg4 harg4 x2 512 (by norm_num))
    (maskF own1) (maskF (sumLane 0#32))) (mx9 i arg2 harg2 arg3 harg3 arg5 harg5 x0 x1 x3)
    (stRead arg7 L 1 768 (by norm_num) (by norm_num)) (stRead arg7 L 1 896 (by norm_num) (by norm_num)) (ldRows arg4 harg4 x2 768 (by norm_num))
    (maskF own1) (maskF (sumLane 0#32))) (mx9 i arg2 harg2 arg3 harg3 arg5 harg5 x0 x1 x3)
    (stRead arg7 L 1 1024 (by norm_num) (by norm_num)) (stRead arg7 L 1 1152 (by norm_num) (by norm_num)) (ldRows arg4 harg4 x2 1024 (by norm_num))
    (maskF own1) (maskF (sumLane 0#32))

/-- Unit 10's weighted sum, the stage read through the pieces `L`. -/
def ac10 (L : List (View.Piece (Elt F) S4x256x2048 .f32)) : FVec F S256x128 .f32 :=
  accStep (accStep (accStep (accStep (accStep (accStep (accInit) (mx10 i arg2 harg2 arg3 harg3 arg5 harg5 x0 x1 x3)
    (stRead arg7 L 2 0 (by norm_num) (by norm_num)) (stRead arg7 L 2 128 (by norm_num) (by norm_num)) (ldRows arg4 harg4 x2 0 (by norm_num))
    (maskF own0) (maskF (sumLane 64#32))) (mx10 i arg2 harg2 arg3 harg3 arg5 harg5 x0 x1 x3)
    (stRead arg7 L 2 256 (by norm_num) (by norm_num)) (stRead arg7 L 2 384 (by norm_num) (by norm_num)) (ldRows arg4 harg4 x2 256 (by norm_num))
    (maskF own0) (maskF (sumLane 64#32))) (mx10 i arg2 harg2 arg3 harg3 arg5 harg5 x0 x1 x3)
    (stRead arg7 L 2 512 (by norm_num) (by norm_num)) (stRead arg7 L 2 640 (by norm_num) (by norm_num)) (ldRows arg4 harg4 x2 512 (by norm_num))
    (maskF own0) (maskF (sumLane 64#32))) (mx10 i arg2 harg2 arg3 harg3 arg5 harg5 x0 x1 x3)
    (stRead arg7 L 2 768 (by norm_num) (by norm_num)) (stRead arg7 L 2 896 (by norm_num) (by norm_num)) (ldRows arg4 harg4 x2 768 (by norm_num))
    (maskF own0) (maskF (sumLane 64#32))) (mx10 i arg2 harg2 arg3 harg3 arg5 harg5 x0 x1 x3)
    (stRead arg7 L 2 1024 (by norm_num) (by norm_num)) (stRead arg7 L 2 1152 (by norm_num) (by norm_num)) (ldRows arg4 harg4 x2 1024 (by norm_num))
    (maskF own0) (maskF (sumLane 64#32))) (mx10 i arg2 harg2 arg3 harg3 arg5 harg5 x0 x1 x3)
    (stRead arg7 L 2 1280 (by norm_num) (by norm_num)) (stRead arg7 L 2 1408 (by norm_num) (by norm_num)) (ldRows arg4 harg4 x2 1280 (by norm_num))
    (maskF own0) (maskF (sumLane 64#32))

/-- Unit 11's weighted sum, the stage read through the pieces `L`. -/
def ac11 (L : List (View.Piece (Elt F) S4x256x2048 .f32)) : FVec F S256x128 .f32 :=
  accStep (accStep (accStep (accStep (accStep (accStep (accInit) (mx11 i arg2 harg2 arg3 harg3 arg5 harg5 x0 x1 x3)
    (stRead arg7 L 3 0 (by norm_num) (by norm_num)) (stRead arg7 L 3 128 (by norm_num) (by norm_num)) (ldRows arg4 harg4 x2 0 (by norm_num))
    (maskF own1) (maskF (sumLane 0#32))) (mx11 i arg2 harg2 arg3 harg3 arg5 harg5 x0 x1 x3)
    (stRead arg7 L 3 256 (by norm_num) (by norm_num)) (stRead arg7 L 3 384 (by norm_num) (by norm_num)) (ldRows arg4 harg4 x2 256 (by norm_num))
    (maskF own1) (maskF (sumLane 0#32))) (mx11 i arg2 harg2 arg3 harg3 arg5 harg5 x0 x1 x3)
    (stRead arg7 L 3 512 (by norm_num) (by norm_num)) (stRead arg7 L 3 640 (by norm_num) (by norm_num)) (ldRows arg4 harg4 x2 512 (by norm_num))
    (maskF own1) (maskF (sumLane 0#32))) (mx11 i arg2 harg2 arg3 harg3 arg5 harg5 x0 x1 x3)
    (stRead arg7 L 3 768 (by norm_num) (by norm_num)) (stRead arg7 L 3 896 (by norm_num) (by norm_num)) (ldRows arg4 harg4 x2 768 (by norm_num))
    (maskF own1) (maskF (sumLane 0#32))) (mx11 i arg2 harg2 arg3 harg3 arg5 harg5 x0 x1 x3)
    (stRead arg7 L 3 1024 (by norm_num) (by norm_num)) (stRead arg7 L 3 1152 (by norm_num) (by norm_num)) (ldRows arg4 harg4 x2 1024 (by norm_num))
    (maskF own1) (maskF (sumLane 0#32))) (mx11 i arg2 harg2 arg3 harg3 arg5 harg5 x0 x1 x3)
    (stRead arg7 L 3 1280 (by norm_num) (by norm_num)) (stRead arg7 L 3 1408 (by norm_num) (by norm_num)) (ldRows arg4 harg4 x2 1280 (by norm_num))
    (maskF own1) (maskF (sumLane 0#32))

/-- Unit 12's weighted sum, the stage read through the pieces `L`. -/
def ac12 (L : List (View.Piece (Elt F) S4x256x2048 .f32)) : FVec F S256x128 .f32 :=
  accStep (accStep (accStep (accStep (accStep (accStep (accStep (accInit) (mx12 i arg2 harg2 arg3 harg3 arg5 harg5 x0 x1 x3)
    (stRead arg7 L 0 0 (by norm_num) (by norm_num)) (stRead arg7 L 0 128 (by norm_num) (by norm_num)) (ldRows arg4 harg4 x2 0 (by norm_num))
    (maskF own0) (maskF (sumLane 64#32))) (mx12 i arg2 harg2 arg3 harg3 arg5 harg5 x0 x1 x3)
    (stRead arg7 L 0 256 (by norm_num) (by norm_num)) (stRead arg7 L 0 384 (by norm_num) (by norm_num)) (ldRows arg4 harg4 x2 256 (by norm_num))
    (maskF own0) (maskF (sumLane 64#32))) (mx12 i arg2 harg2 arg3 harg3 arg5 harg5 x0 x1 x3)
    (stRead arg7 L 0 512 (by norm_num) (by norm_num)) (stRead arg7 L 0 640 (by norm_num) (by norm_num)) (ldRows arg4 harg4 x2 512 (by norm_num))
    (maskF own0) (maskF (sumLane 64#32))) (mx12 i arg2 harg2 arg3 harg3 arg5 harg5 x0 x1 x3)
    (stRead arg7 L 0 768 (by norm_num) (by norm_num)) (stRead arg7 L 0 896 (by norm_num) (by norm_num)) (ldRows arg4 harg4 x2 768 (by norm_num))
    (maskF own0) (maskF (sumLane 64#32))) (mx12 i arg2 harg2 arg3 harg3 arg5 harg5 x0 x1 x3)
    (stRead arg7 L 0 1024 (by norm_num) (by norm_num)) (stRead arg7 L 0 1152 (by norm_num) (by norm_num)) (ldRows arg4 harg4 x2 1024 (by norm_num))
    (maskF own0) (maskF (sumLane 64#32))) (mx12 i arg2 harg2 arg3 harg3 arg5 harg5 x0 x1 x3)
    (stRead arg7 L 0 1280 (by norm_num) (by norm_num)) (stRead arg7 L 0 1408 (by norm_num) (by norm_num)) (ldRows arg4 harg4 x2 1280 (by norm_num))
    (maskF own0) (maskF (sumLane 64#32))) (mx12 i arg2 harg2 arg3 harg3 arg5 harg5 x0 x1 x3)
    (stRead arg7 L 0 1536 (by norm_num) (by norm_num)) (stRead arg7 L 0 1664 (by norm_num) (by norm_num)) (ldRows arg4 harg4 x2 1536 (by norm_num))
    (maskF own0) (maskF (sumLane 64#32))

/-- Unit 13's weighted sum, the stage read through the pieces `L`. -/
def ac13 (L : List (View.Piece (Elt F) S4x256x2048 .f32)) : FVec F S256x128 .f32 :=
  accStep (accStep (accStep (accStep (accStep (accStep (accStep (accInit) (mx13 i arg2 harg2 arg3 harg3 arg5 harg5 x0 x1 x3)
    (stRead arg7 L 1 0 (by norm_num) (by norm_num)) (stRead arg7 L 1 128 (by norm_num) (by norm_num)) (ldRows arg4 harg4 x2 0 (by norm_num))
    (maskF own1) (maskF (sumLane 0#32))) (mx13 i arg2 harg2 arg3 harg3 arg5 harg5 x0 x1 x3)
    (stRead arg7 L 1 256 (by norm_num) (by norm_num)) (stRead arg7 L 1 384 (by norm_num) (by norm_num)) (ldRows arg4 harg4 x2 256 (by norm_num))
    (maskF own1) (maskF (sumLane 0#32))) (mx13 i arg2 harg2 arg3 harg3 arg5 harg5 x0 x1 x3)
    (stRead arg7 L 1 512 (by norm_num) (by norm_num)) (stRead arg7 L 1 640 (by norm_num) (by norm_num)) (ldRows arg4 harg4 x2 512 (by norm_num))
    (maskF own1) (maskF (sumLane 0#32))) (mx13 i arg2 harg2 arg3 harg3 arg5 harg5 x0 x1 x3)
    (stRead arg7 L 1 768 (by norm_num) (by norm_num)) (stRead arg7 L 1 896 (by norm_num) (by norm_num)) (ldRows arg4 harg4 x2 768 (by norm_num))
    (maskF own1) (maskF (sumLane 0#32))) (mx13 i arg2 harg2 arg3 harg3 arg5 harg5 x0 x1 x3)
    (stRead arg7 L 1 1024 (by norm_num) (by norm_num)) (stRead arg7 L 1 1152 (by norm_num) (by norm_num)) (ldRows arg4 harg4 x2 1024 (by norm_num))
    (maskF own1) (maskF (sumLane 0#32))) (mx13 i arg2 harg2 arg3 harg3 arg5 harg5 x0 x1 x3)
    (stRead arg7 L 1 1280 (by norm_num) (by norm_num)) (stRead arg7 L 1 1408 (by norm_num) (by norm_num)) (ldRows arg4 harg4 x2 1280 (by norm_num))
    (maskF own1) (maskF (sumLane 0#32))) (mx13 i arg2 harg2 arg3 harg3 arg5 harg5 x0 x1 x3)
    (stRead arg7 L 1 1536 (by norm_num) (by norm_num)) (stRead arg7 L 1 1664 (by norm_num) (by norm_num)) (ldRows arg4 harg4 x2 1536 (by norm_num))
    (maskF own1) (maskF (sumLane 0#32))

/-- Unit 14's weighted sum, the stage read through the pieces `L`. -/
def ac14 (L : List (View.Piece (Elt F) S4x256x2048 .f32)) : FVec F S256x128 .f32 :=
  accStep (accStep (accStep (accStep (accStep (accStep (accStep (accStep (accInit) (mx14 i arg2 harg2 arg3 harg3 arg5 harg5 x0 x1 x3)
    (stRead arg7 L 2 0 (by norm_num) (by norm_num)) (stRead arg7 L 2 128 (by norm_num) (by norm_num)) (ldRows arg4 harg4 x2 0 (by norm_num))
    (maskF own0) (maskF (sumLane 64#32))) (mx14 i arg2 harg2 arg3 harg3 arg5 harg5 x0 x1 x3)
    (stRead arg7 L 2 256 (by norm_num) (by norm_num)) (stRead arg7 L 2 384 (by norm_num) (by norm_num)) (ldRows arg4 harg4 x2 256 (by norm_num))
    (maskF own0) (maskF (sumLane 64#32))) (mx14 i arg2 harg2 arg3 harg3 arg5 harg5 x0 x1 x3)
    (stRead arg7 L 2 512 (by norm_num) (by norm_num)) (stRead arg7 L 2 640 (by norm_num) (by norm_num)) (ldRows arg4 harg4 x2 512 (by norm_num))
    (maskF own0) (maskF (sumLane 64#32))) (mx14 i arg2 harg2 arg3 harg3 arg5 harg5 x0 x1 x3)
    (stRead arg7 L 2 768 (by norm_num) (by norm_num)) (stRead arg7 L 2 896 (by norm_num) (by norm_num)) (ldRows arg4 harg4 x2 768 (by norm_num))
    (maskF own0) (maskF (sumLane 64#32))) (mx14 i arg2 harg2 arg3 harg3 arg5 harg5 x0 x1 x3)
    (stRead arg7 L 2 1024 (by norm_num) (by norm_num)) (stRead arg7 L 2 1152 (by norm_num) (by norm_num)) (ldRows arg4 harg4 x2 1024 (by norm_num))
    (maskF own0) (maskF (sumLane 64#32))) (mx14 i arg2 harg2 arg3 harg3 arg5 harg5 x0 x1 x3)
    (stRead arg7 L 2 1280 (by norm_num) (by norm_num)) (stRead arg7 L 2 1408 (by norm_num) (by norm_num)) (ldRows arg4 harg4 x2 1280 (by norm_num))
    (maskF own0) (maskF (sumLane 64#32))) (mx14 i arg2 harg2 arg3 harg3 arg5 harg5 x0 x1 x3)
    (stRead arg7 L 2 1536 (by norm_num) (by norm_num)) (stRead arg7 L 2 1664 (by norm_num) (by norm_num)) (ldRows arg4 harg4 x2 1536 (by norm_num))
    (maskF own0) (maskF (sumLane 64#32))) (mx14 i arg2 harg2 arg3 harg3 arg5 harg5 x0 x1 x3)
    (stRead arg7 L 2 1792 (by norm_num) (by norm_num)) (stRead arg7 L 2 1920 (by norm_num) (by norm_num)) (ldRows arg4 harg4 x2 1792 (by norm_num))
    (maskF own0) (maskF (sumLane 64#32))

/-- Unit 15's weighted sum, the stage read through the pieces `L`. -/
def ac15 (L : List (View.Piece (Elt F) S4x256x2048 .f32)) : FVec F S256x128 .f32 :=
  accStep (accStep (accStep (accStep (accStep (accStep (accStep (accStep (accInit) (mx15 i arg2 harg2 arg3 harg3 arg5 harg5 x0 x1 x3)
    (stRead arg7 L 3 0 (by norm_num) (by norm_num)) (stRead arg7 L 3 128 (by norm_num) (by norm_num)) (ldRows arg4 harg4 x2 0 (by norm_num))
    (maskF own1) (maskF (sumLane 0#32))) (mx15 i arg2 harg2 arg3 harg3 arg5 harg5 x0 x1 x3)
    (stRead arg7 L 3 256 (by norm_num) (by norm_num)) (stRead arg7 L 3 384 (by norm_num) (by norm_num)) (ldRows arg4 harg4 x2 256 (by norm_num))
    (maskF own1) (maskF (sumLane 0#32))) (mx15 i arg2 harg2 arg3 harg3 arg5 harg5 x0 x1 x3)
    (stRead arg7 L 3 512 (by norm_num) (by norm_num)) (stRead arg7 L 3 640 (by norm_num) (by norm_num)) (ldRows arg4 harg4 x2 512 (by norm_num))
    (maskF own1) (maskF (sumLane 0#32))) (mx15 i arg2 harg2 arg3 harg3 arg5 harg5 x0 x1 x3)
    (stRead arg7 L 3 768 (by norm_num) (by norm_num)) (stRead arg7 L 3 896 (by norm_num) (by norm_num)) (ldRows arg4 harg4 x2 768 (by norm_num))
    (maskF own1) (maskF (sumLane 0#32))) (mx15 i arg2 harg2 arg3 harg3 arg5 harg5 x0 x1 x3)
    (stRead arg7 L 3 1024 (by norm_num) (by norm_num)) (stRead arg7 L 3 1152 (by norm_num) (by norm_num)) (ldRows arg4 harg4 x2 1024 (by norm_num))
    (maskF own1) (maskF (sumLane 0#32))) (mx15 i arg2 harg2 arg3 harg3 arg5 harg5 x0 x1 x3)
    (stRead arg7 L 3 1280 (by norm_num) (by norm_num)) (stRead arg7 L 3 1408 (by norm_num) (by norm_num)) (ldRows arg4 harg4 x2 1280 (by norm_num))
    (maskF own1) (maskF (sumLane 0#32))) (mx15 i arg2 harg2 arg3 harg3 arg5 harg5 x0 x1 x3)
    (stRead arg7 L 3 1536 (by norm_num) (by norm_num)) (stRead arg7 L 3 1664 (by norm_num) (by norm_num)) (ldRows arg4 harg4 x2 1536 (by norm_num))
    (maskF own1) (maskF (sumLane 0#32))) (mx15 i arg2 harg2 arg3 harg3 arg5 harg5 x0 x1 x3)
    (stRead arg7 L 3 1792 (by norm_num) (by norm_num)) (stRead arg7 L 3 1920 (by norm_num) (by norm_num)) (ldRows arg4 harg4 x2 1792 (by norm_num))
    (maskF own1) (maskF (sumLane 0#32))

variable (arg6 : Memref sig .tc .vmem S1x2048x128 .bf16) (harg6 : arg6.IsWhole) (harg7 : arg7.IsWhole)

theorem run_pieces : (kernelRun0_A c i arg2 harg2 arg3 harg3 arg4 harg4 arg5 harg5 arg6 harg6 arg7 harg7 x0 x1 x2 x3).1 = [
    (⟨Rect.unit (s := S1x2048x128) ![0, 1792, 0] S1x256x128.size (inbRows (by norm_num)), pairOut (fin0 (ac14 i arg2 harg2 arg3 harg3 arg4 harg4 arg5 harg5 arg7 x0 x1 x2 x3 (kernelRun0_A.sl.HS0_72 c i arg2 harg2 arg3 harg3 arg5 harg5 x0 x1 x3))) (fin1 (ac15 i arg2 harg2 arg3 harg3 arg4 harg4 arg5 harg5 arg7 x0 x1 x2 x3 (kernelRun0_A.sl.HS0_72 c i arg2 harg2 arg3 harg3 arg5 harg5 x0 x1 x3)))⟩ : View.Piece (Elt F) S1x2048x128 .bf16),
    (⟨Rect.unit (s := S1x2048x128) ![0, 1536, 0] S1x256x128.size (inbRows (by norm_num)), pairOut (fin0 (ac12 i arg2 harg2 arg3 harg3 arg4 harg4 arg5 harg5 arg7 x0 x1 x2 x3 (kernelRun0_A.sl.HS0_72 c i arg2 harg2 arg3 harg3 arg5 harg5 x0 x1 x3))) (fin1 (ac13 i arg2 harg2 arg3 harg3 arg4 harg4 arg5 harg5 arg7 x0 x1 x2 x3 (kernelRun0_A.sl.HS0_72 c i arg2 harg2 arg3 harg3 arg5 harg5 x0 x1 x3)))⟩ : View.Piece (Elt F) S1x2048x128 .bf16),
    (⟨Rect.unit (s := S1x2048x128) ![0, 1280, 0] S1x256x128.size (inbRows (by norm_num)), pairOut (fin0 (ac10 i arg2 harg2 arg3 harg3 arg4 harg4 arg5 harg5 arg7 x0 x1 x2 x3 (kernelRun0_A.sl.HS0_56 c i arg2 harg2 arg3 harg3 arg5 harg5 x0 x1 x3))) (fin1 (ac11 i arg2 harg2 arg3 harg3 arg4 harg4 arg5 harg5 arg7 x0 x1 x2 x3 (kernelRun0_A.sl.HS0_64 c i arg2 harg2 arg3 harg3 arg5 harg5 x0 x1 x3)))⟩ : View.Piece (Elt F) S1x2048x128 .bf16),
    (⟨Rect.unit (s := S1x2048x128) ![0, 1024, 0] S1x256x128.size (inbRows (by norm_num)), pairOut (fin0 (ac8 i arg2 harg2 arg3 harg3 arg4 harg4 arg5 harg5 arg7 x0 x1 x2 x3 (kernelRun0_A.sl.HS0_42 c i arg2 harg2 arg3 harg3 arg5 harg5 x0 x1 x3))) (fin1 (ac9 i arg2 harg2 arg3 harg3 arg4 harg4 arg5 harg5 arg7 x0 x1 x2 x3 (kernelRun0_A.sl.HS0_49 c i arg2 harg2 arg3 harg3 arg5 harg5 x0 x1 x3)))⟩ : View.Piece (Elt F) S1x2048x128 .bf16),
    (⟨Rect.unit (s := S1x2048x128) ![0, 768, 0] S1x256x128.size (inbRows (by norm_num)), pairOut (fin0 (ac6 i arg2 harg2 arg3 harg3 arg4 harg4 arg5 harg5 arg7 x0 x1 x2 x3 (kernelRun0_A.sl.HS0_30 c i arg2 harg2 arg3 harg3 arg5 harg5 x0 x1 x3))) (fin1 (ac7 i arg2 harg2 arg3 harg3 arg4 harg4 arg5 harg5 arg7 x0 x1 x2 x3 (kernelRun0_A.sl.HS0_36 c i arg2 harg2 arg3 harg3 arg5 harg5 x0 x1 x3)))⟩ : View.Piece (Elt F) S1x2048x128 .bf16),
    (⟨Rect.unit (s := S1x2048x128) ![0, 512, 0] S1x256x128.size (inbRows (by norm_num)), pairOut (fin0 (ac4 i arg2 harg2 arg3 harg3 arg4 harg4 arg5 harg5 arg7 x0 x1 x2 x3 (kernelRun0_A.sl.HS0_20 c i arg2 harg2 arg3 harg3 arg5 harg5 x0 x1 x3))) (fin1 (ac5 i arg2 harg2 arg3 harg3 arg4 harg4 arg5 harg5 arg7 x0 x1 x2 x3 (kernelRun0_A.sl.HS0_25 c i arg2 harg2 arg3 harg3 arg5 harg5 x0 x1 x3)))⟩ : View.Piece (Elt F) S1x2048x128 .bf16),
    (⟨Rect.unit (s := S1x2048x128) ![0, 256, 0] S1x256x128.size (inbRows (by norm_num)), pairOut (fin0 (ac2 i arg2 harg2 arg3 harg3 arg4 harg4 arg5 harg5 arg7 x0 x1 x2 x3 (kernelRun0_A.sl.HS0_12 c i arg2 harg2 arg3 harg3 arg5 harg5 x0 x1 x3))) (fin1 (ac3 i arg2 harg2 arg3 harg3 arg4 harg4 arg5 harg5 arg7 x0 x1 x2 x3 (kernelRun0_A.sl.HS0_16 c i arg2 harg2 arg3 harg3 arg5 harg5 x0 x1 x3)))⟩ : View.Piece (Elt F) S1x2048x128 .bf16),
    (⟨Rect.unit (s := S1x2048x128) ![0, 0, 0] S1x256x128.size (inbRows (by norm_num)), pairOut (fin0 (ac0 i arg2 harg2 arg3 harg3 arg4 harg4 arg5 harg5 arg7 x0 x1 x2 x3 (kernelRun0_A.sl.HS0_6 c i arg2 harg2 arg3 harg3 arg5 harg5 x0 x1 x3))) (fin1 (ac1 i arg2 harg2 arg3 harg3 arg4 harg4 arg5 harg5 arg7 x0 x1 x2 x3 (kernelRun0_A.sl.HS0_9 c i arg2 harg2 arg3 harg3 arg5 harg5 x0 x1 x3)))⟩ : View.Piece (Elt F) S1x2048x128 .bf16)] := by
  unfold kernelRun0_A
  rfl

theorem run_pieces' : (kernelRun0_A c i arg2 harg2 arg3 harg3 arg4 harg4 arg5 harg5 arg6 harg6 arg7 harg7 x0 x1 x2 x3).1 = [
    (⟨Rect.unit (s := S1x2048x128) ![0, 1792, 0] S1x256x128.size (inbRows (by norm_num)), pairOut (fin0 (ac14 i arg2 harg2 arg3 harg3 arg4 harg4 arg5 harg5 arg7 x0 x1 x2 x3 (st15 i arg2 harg2 arg3 harg3 arg5 harg5 x0 x1 x3))) (fin1 (ac15 i arg2 harg2 arg3 harg3 arg4 harg4 arg5 harg5 arg7 x0 x1 x2 x3 (st15 i arg2 harg2 arg3 harg3 arg5 harg5 x0 x1 x3)))⟩ : View.Piece (Elt F) S1x2048x128 .bf16),
    (⟨Rect.unit (s := S1x2048x128) ![0, 1536, 0] S1x256x128.size (inbRows (by norm_num)), pairOut (fin0 (ac12 i arg2 harg2 arg3 harg3 arg4 harg4 arg5 harg5 arg7 x0 x1 x2 x3 (st15 i arg2 harg2 arg3 harg3 arg5 harg5 x0 x1 x3))) (fin1 (ac13 i arg2 harg2 arg3 harg3 arg4 harg4 arg5 harg5 arg7 x0 x1 x2 x3 (st15 i arg2 harg2 arg3 harg3 arg5 harg5 x0 x1 x3)))⟩ : View.Piece (Elt F) S1x2048x128 .bf16),
    (⟨Rect.unit (s := S1x2048x128) ![0, 1280, 0] S1x256x128.size (inbRows (by norm_num)), pairOut (fin0 (ac10 i arg2 harg2 arg3 harg3 arg4 harg4 arg5 harg5 arg7 x0 x1 x2 x3 (st13 i arg2 harg2 arg3 harg3 arg5 harg5 x0 x1 x3))) (fin1 (ac11 i arg2 harg2 arg3 harg3 arg4 harg4 arg5 harg5 arg7 x0 x1 x2 x3 (st14 i arg2 harg2 arg3 harg3 arg5 harg5 x0 x1 x3)))⟩ : View.Piece (Elt F) S1x2048x128 .bf16),
    (⟨Rect.unit (s := S1x2048x128) ![0, 1024, 0] S1x256x128.size (inbRows (by norm_num)), pairOut (fin0 (ac8 i arg2 harg2 arg3 harg3 arg4 harg4 arg5 harg5 arg7 x0 x1 x2 x3 (st11 i arg2 harg2 arg3 harg3 arg5 harg5 x0 x1 x3))) (fin1 (ac9 i arg2 harg2 arg3 harg3 arg4 harg4 arg5 harg5 arg7 x0 x1 x2 x3 (st12 i arg2 harg2 arg3 harg3 arg5 harg5 x0 x1 x3)))⟩ : View.Piece (Elt F) S1x2048x128 .bf16),
    (⟨Rect.unit (s := S1x2048x128) ![0, 768, 0] S1x256x128.size (inbRows (by norm_num)), pairOut (fin0 (ac6 i arg2 harg2 arg3 harg3 arg4 harg4 arg5 harg5 arg7 x0 x1 x2 x3 (st9 i arg2 harg2 arg3 harg3 arg5 harg5 x0 x1 x3))) (fin1 (ac7 i arg2 harg2 arg3 harg3 arg4 harg4 arg5 harg5 arg7 x0 x1 x2 x3 (st10 i arg2 harg2 arg3 harg3 arg5 harg5 x0 x1 x3)))⟩ : View.Piece (Elt F) S1x2048x128 .bf16),
    (⟨Rect.unit (s := S1x2048x128) ![0, 512, 0] S1x256x128.size (inbRows (by norm_num)), pairOut (fin0 (ac4 i arg2 harg2 arg3 harg3 arg4 harg4 arg5 harg5 arg7 x0 x1 x2 x3 (st7 i arg2 harg2 arg3 harg3 arg5 harg5 x0 x1 x3))) (fin1 (ac5 i arg2 harg2 arg3 harg3 arg4 harg4 arg5 harg5 arg7 x0 x1 x2 x3 (st8 i arg2 harg2 arg3 harg3 arg5 harg5 x0 x1 x3)))⟩ : View.Piece (Elt F) S1x2048x128 .bf16),
    (⟨Rect.unit (s := S1x2048x128) ![0, 256, 0] S1x256x128.size (inbRows (by norm_num)), pairOut (fin0 (ac2 i arg2 harg2 arg3 harg3 arg4 harg4 arg5 harg5 arg7 x0 x1 x2 x3 (st5 i arg2 harg2 arg3 harg3 arg5 harg5 x0 x1 x3))) (fin1 (ac3 i arg2 harg2 arg3 harg3 arg4 harg4 arg5 harg5 arg7 x0 x1 x2 x3 (st6 i arg2 harg2 arg3 harg3 arg5 harg5 x0 x1 x3)))⟩ : View.Piece (Elt F) S1x2048x128 .bf16),
    (⟨Rect.unit (s := S1x2048x128) ![0, 0, 0] S1x256x128.size (inbRows (by norm_num)), pairOut (fin0 (ac0 i arg2 harg2 arg3 harg3 arg4 harg4 arg5 harg5 arg7 x0 x1 x2 x3 (st3 i arg2 harg2 arg3 harg3 arg5 harg5 x0 x1 x3))) (fin1 (ac1 i arg2 harg2 arg3 harg3 arg4 harg4 arg5 harg5 arg7 x0 x1 x2 x3 (st4 i arg2 harg2 arg3 harg3 arg5 harg5 x0 x1 x3)))⟩ : View.Piece (Elt F) S1x2048x128 .bf16)] := by
  rw [run_pieces, stage3, stage4, stage5, stage6, stage7, stage8, stage9, stage10, stage11, stage12, stage13, stage14, stage15]

end Cert.FoxIdeal.Att

end
-- ==== Proof.FoxRead.lean ====
/- The score stage read back: which scores a slot holds after a list of stores. -/
module

public import proofs.«01_k».proof.Proof.FoxBlocks
public import Idealize.ShloMosaic.Lib.Pointwise

@[expose] public section

set_option maxRecDepth 16384

noncomputable section

namespace Cert.FoxIdeal.Att

open Cert.FoxIdeal Cert.FoxIdeal.Gen Idealize.ShloMosaic Idealize.ShloMosaic.TcCoe

/-- The stage's slot `s` holds `f` on its first `n` columns. -/
def Holds (L : List (View.Piece (Elt Ideal) S4x256x2048 .f32)) (s n : ℕ) (hs : s < 4) (f : Fin 256 → ℕ → EReal) : Prop :=
  ∀ (r : Fin 256) (c : Fin 2048), c.val < n → (View.canon L (ix3 (⟨s, hs⟩ : Fin 4) r c) : EReal) = f r c.val

theorem holds_zero (L : List (View.Piece (Elt Ideal) S4x256x2048 .f32)) (s : ℕ) (hs : s < 4) (f : Fin 256 → ℕ → EReal) : Holds L s 0 hs f :=
  fun _ _ h => absurd h (Nat.not_lt_zero _)

theorem mem_stRect {s o : ℕ} (hs : s < 4) (ho : o + 256 ≤ 2048) {s' : Fin 4} {r : Fin 256} {c : Fin 2048}
    (h : (ix3 s' r c : S4x256x2048.Idx) ∈ (stRect s o hs ho).set) : s'.val = s ∧ o ≤ c.val ∧ c.val < o + 256 := by
  rw [LoadRect.mem_set] at h
  obtain ⟨j0, hj0, e0⟩ := h 0
  obtain ⟨j2, hj2, e2⟩ := h 2
  change j0 < 1 at hj0
  change j2 < 256 at hj2
  change s'.val = s + 0 + 1 * j0 at e0
  change c.val = 0 + o + 1 * j2 at e2
  omega

theorem canon_stPiece (s o : ℕ) (hs : s < 4) (ho : o + 256 ≤ 2048) (w : FVec Ideal S256x256 .f32)
    (L : List (View.Piece (Elt Ideal) S4x256x2048 .f32)) (r : Fin 256) (c : Fin 256) :
    (View.canon (stPiece s o hs ho w :: L) (ix3 (⟨s, hs⟩ : Fin 4) r ⟨o + c.val, by omega⟩) : EReal) = w (ix2 r c) := by
  let y : (stRect s o hs ho).shape.Idx := fun a => match a with
      | ⟨0, _⟩ => ⟨0, Nat.one_pos⟩
      | ⟨1, _⟩ => r
      | ⟨2, _⟩ => c
  have e : (ix3 (⟨s, hs⟩ : Fin 4) r ⟨o + c.val, by omega⟩ : S4x256x2048.Idx) = (stRect s o hs ho).emb y := by
    funext a
    apply Fin.ext
    refine Eq.trans ?_ (Rect.emb_apply (stRect s o hs ho) y a).symm
    match a with
    | ⟨0, _⟩ => show s = s + 0 + 1 * 0; omega
    | ⟨1, _⟩ => show r.val = 0 + 0 + 1 * r.val; omega
    | ⟨2, _⟩ => show o + c.val = 0 + o + 1 * c.val; omega
  rw [e]
  refine (View.canon_cons_emb (stRect s o hs ho) _ L y).trans ?_
  refine (Rect.payAlong_consLift (Rect.unit (s := S256x2048) ![0, o] S256x256.size (inbCols ho)) ![1, 256, 2048] rfl
    (fun i => by fin_cases i <;> rfl) _ _ y (ix2 r c : S256x256.Idx) fun i => by fin_cases i <;> rfl).trans ?_
  pointwise

theorem holds_same {L : List (View.Piece (Elt Ideal) S4x256x2048 .f32)} {s o : ℕ} {hs : s < 4} {ho : o + 256 ≤ 2048}
    {f : Fin 256 → ℕ → EReal} {w : FVec Ideal S256x256 .f32} (h : Holds L s o hs f) (hw : ∀ r c : Fin 256, (w (ix2 r c) : EReal) = f r (o + c.val)) :
    Holds (stPiece s o hs ho w :: L) s (o + 256) hs f := by
  intro r c hc
  by_cases hoc : o ≤ c.val
  · have e : c = ⟨o + (⟨c.val - o, by omega⟩ : Fin 256).val, by show o + (c.val - o) < 2048; omega⟩ := Fin.ext (by show c.val = o + (c.val - o); omega)
    have := canon_stPiece s o hs ho w L r ⟨c.val - o, by omega⟩
    rw [← e] at this
    rw [this, hw]
    congr 1
    show o + (c.val - o) = c.val
    omega
  · rw [View.canon_cons_of_not_mem]
    · exact h r c (by omega)
    · intro hm
      have := mem_stRect hs ho hm
      omega

theorem holds_other {L : List (View.Piece (Elt Ideal) S4x256x2048 .f32)} {s s' o n : ℕ} {hs : s < 4} {hs' : s' < 4} {ho : o + 256 ≤ 2048}
    {f : Fin 256 → ℕ → EReal} {w : FVec Ideal S256x256 .f32} (hne : s ≠ s') (h : Holds L s n hs f) :
    Holds (stPiece s' o hs' ho w :: L) s n hs f := by
  intro r c hc
  rw [View.canon_cons_of_not_mem]
  · exact h r c hc
  · intro hm
    exact hne (mem_stRect hs' ho hm).1

theorem stRead_apply {arg7 : Memref sig .tc .vmem S4x256x2048 .f32} {L : List (View.Piece (Elt Ideal) S4x256x2048 .f32)} {s o n : ℕ} {hs : s < 4}
    {f : Fin 256 → ℕ → EReal} (h : Holds L s n hs f) (ho : o + 128 ≤ 2048) (hn : o + 128 ≤ n) (r : Fin 256) (c : Fin 128) :
    (stRead arg7 L s o hs ho (ix2 r c) : EReal) = f r (o + c.val) := by
  have key := h r ⟨o + c.val, by omega⟩ (by show o + c.val < n; omega)
  unfold stRead
  rw [View.readCov_eq_canon']
  refine Eq.trans ?_ key
  show View.canon L _ = View.canon L _
  congr 1
  funext a
  apply Fin.ext
  rw [LoadRect.idx_apply]
  have hR := Rect.numel_consLift (Rect.unit (s := S256x2048) ![0, o] S256x128.size (inbHalf ho)) ![1, 256, 2048] rfl fun i => by fin_cases i <;> rfl
  have hval : ∀ i : Fin 2, ((Shape.reshapeEquiv hR.symm (ix2 r c : S256x128.Idx)) i.succ).val = ((ix2 r c : S256x128.Idx) i).val := fun i => by
    refine (Rect.reshapeEquiv_consLift_succ (Rect.unit (s := S256x2048) ![0, o] S256x128.size (inbHalf ho)) ![1, 256, 2048] rfl
      (fun i => by fin_cases i <;> rfl) (Shape.reshapeEquiv hR.symm (ix2 r c : S256x128.Idx)) i).trans ?_
    have := (Shape.reshapeEquiv hR).apply_symm_apply (ix2 r c : S256x128.Idx)
    rw [Shape.reshapeEquiv_symm] at this
    exact congrArg (fun z : S256x128.Idx => (z i).val) this
  have h0 := ((Shape.reshapeEquiv hR.symm (ix2 r c : S256x128.Idx)) 0).isLt
  match a with
  | ⟨0, _⟩ =>
    change ((Shape.reshapeEquiv hR.symm (ix2 r c : S256x128.Idx)) 0).val < 1 at h0
    show s + 0 + 1 * ((Shape.reshapeEquiv hR.symm (ix2 r c : S256x128.Idx)) 0).val = s
    omega
  | ⟨1, _⟩ =>
    refine Eq.trans (b := 0 + 0 + 1 * r.val) ?_ (by show _ = r.val; omega)
    exact congrArg (fun z => 0 + 0 + 1 * z) (hval 0)
  | ⟨2, _⟩ =>
    refine Eq.trans (b := 0 + o + 1 * c.val) ?_ (by show _ = o + c.val; omega)
    exact congrArg (fun z => 0 + o + 1 * z) (hval 1)

end Cert.FoxIdeal.Att

end
-- ==== Proof.FoxScore.lean ====
/- The score blocks, the row maxima, one step of the weighted sum and the stored pair, each read at one element. -/
module

public import proofs.«01_k».proof.Proof.FoxBlocks
public import Idealize.ShloMosaic.Lib.Pointwise
public import Idealize.ShloMosaic.Lib.IdealHost

@[expose] public section

set_option maxRecDepth 16384

noncomputable section

namespace Cert.FoxIdeal.Att

open Cert.FoxIdeal Cert.FoxIdeal.Gen Idealize.ShloMosaic Idealize.ShloMosaic.TcCoe

/-- The kernel's log2 e. -/
abbrev LOG2E : EReal := Named.named (F := Ideal) κ "log2e" (φ := .f32) 0x3FB8AA3B#32

theorem log2e_eq : LOG2E = (((Real.log 2)⁻¹ : ℝ) : EReal) := rfl
theorem negInf_eq : (Named.named (F := Ideal) κ "neg_inf" (φ := .f32) 0xF149F2CA#32 : EReal) = ⊥ := rfl

/-- One on the lanes of head `hh` of the pair, zero on the other head's. -/
def keep (hh : ℕ) (l : Fin 128) : EReal := if l.val / 64 = hh then 1 else 0

theorem sitofp_one : (FloatOps.sitofp (F := Ideal) .f32 (BitVec.setWidth 32 1#1) : EReal) = 1 := by
  show (((BitVec.setWidth 32 1#1).toInt : ℝ) : EReal) = 1
  norm_num
theorem sitofp_zero : (FloatOps.sitofp (F := Ideal) .f32 (BitVec.setWidth 32 0#1) : EReal) = 0 := by
  show (((BitVec.setWidth 32 0#1).toInt : ℝ) : EReal) = 0
  norm_num

theorem own0_bit : ∀ c : Fin 128, IntOp.cmpi .eq (IntOp.shrsi .vector (BitVec.ofNat 32 c.val) 6#32) 0#32 = if c.val / 64 = 0 then 1#1 else 0#1 := by
  decide
theorem own1_bit : ∀ c : Fin 128, IntOp.cmpi .eq (IntOp.shrsi .vector (BitVec.ofNat 32 c.val) 6#32) 1#32 = if c.val / 64 = 1 then 1#1 else 0#1 := by
  decide
theorem own0_apply (r : Fin 256) (c : Fin 128) : own0 (ix2 r c) = if c.val / 64 = 0 then 1#1 else 0#1 := by
  pointwise [own0]; exact own0_bit c
theorem own1_apply (r : Fin 256) (c : Fin 128) : own1 (ix2 r c) = if c.val / 64 = 1 then 1#1 else 0#1 := by
  pointwise [own1]; exact own1_bit c
theorem mask0_apply (r : Fin 256) (c : Fin 128) : maskF (F := Ideal) own0 (ix2 r c) = keep 0 c := by
  pointwise [maskF]
  rw [own0_apply, keep]
  by_cases h : c.val / 64 = 0
  · rw [if_pos h, if_pos h]; exact sitofp_one
  · rw [if_neg h, if_neg h]; exact sitofp_zero
theorem mask1_apply (r : Fin 256) (c : Fin 128) : maskF (F := Ideal) own1 (ix2 r c) = keep 1 c := by
  pointwise [maskF]
  rw [own1_apply, keep]
  by_cases h : c.val / 64 = 1
  · rw [if_pos h, if_pos h]; exact sitofp_one
  · rw [if_neg h, if_neg h]; exact sitofp_zero
theorem lane64_bit : ∀ c : Fin 128, IntOp.cmpi .eq (BitVec.ofNat 32 c.val) 64#32 = if c.val = 64 then 1#1 else 0#1 := by decide
theorem lane0_bit : ∀ c : Fin 128, IntOp.cmpi .eq (BitVec.ofNat 32 c.val) 0#32 = if c.val = 0 then 1#1 else 0#1 := by decide
theorem lane64_apply (r : Fin 256) (c : Fin 128) : maskF (F := Ideal) (sumLane 64#32) (ix2 r c) = if c.val = 64 then 1 else 0 := by
  pointwise [maskF, sumLane]
  rw [lane64_bit]
  by_cases h : c.val = 64
  · rw [if_pos h, if_pos h]; exact sitofp_one
  · rw [if_neg h, if_neg h]; exact sitofp_zero
theorem lane0_apply (r : Fin 256) (c : Fin 128) : maskF (F := Ideal) (sumLane 0#32) (ix2 r c) = if c.val = 0 then 1 else 0 := by
  pointwise [maskF, sumLane]
  rw [lane0_bit]
  by_cases h : c.val = 0
  · rw [if_pos h, if_pos h]; exact sitofp_one
  · rw [if_neg h, if_neg h]; exact sitofp_zero

theorem ldRows_apply (m : Memref sig .tc .vmem S1x2048x128 .bf16) (h : m.IsWhole) (x : Vec Ideal S1x2048x128 .bf16) (o : ℕ)
    (ho : o + 256 ≤ 2048) (r : Fin 256) (l : Fin 128) : ldRows m h x o ho (ix3 0 r l) = x (ix3 0 ⟨o + r.val, by omega⟩ l) := by
  unfold ldRows
  rw [View.readAt_eq_ld, h.read_unread]
  pointwise
theorem ldKeys_apply (m : Memref sig .tc .vmem S1x128x2048 .bf16) (h : m.IsWhole) (x : Vec Ideal S1x128x2048 .bf16) (o : ℕ)
    (ho : o + 256 ≤ 2048) (l : Fin 128) (c : Fin 256) : ldKeys m h x o ho (ix3 0 l c) = x (ix3 0 l ⟨o + c.val, by omega⟩) := by
  unfold ldKeys
  rw [View.readAt_eq_ld, h.read_unread]
  pointwise
theorem ldBias_apply (m : Memref sig .tc .vmem S1x8x2048 .f32) (h : m.IsWhole) (x : Vec Ideal S1x8x2048 .f32) (o : ℕ)
    (ho : o + 256 ≤ 2048) (l : Fin 8) (c : Fin 256) : ldBias m h x o ho (ix3 0 l c) = x (ix3 0 l ⟨o + c.val, by omega⟩) := by
  unfold ldBias
  rw [View.readAt_eq_ld, h.read_unread]
  pointwise

/-- The kernel's logit of row `r` and column `c`: the head's inner product less the key's decay, in units of log 2. -/
def lg (hd : BitVec 32) (hh : ℕ) (x0 : Vec Ideal S1x2048x128 .bf16) (x1 : Vec Ideal S1x128x2048 .bf16) (x3 : Vec Ideal S1x8x2048 .f32)
    (r c : Fin 2048) : EReal :=
  (∑ l : Fin 128, (x0 (ix3 0 r l) * keep hh l * x1 (ix3 0 l c) : EReal))
    - (∑ x : Fin 8, (Scalar.select (IntOp.cmpi .eq (BitVec.ofNat 32 x.val) hd) (x3 (ix3 0 x c)) 0 : EReal)) * LOG2E
/-- The masked logit, at natural numbers. -/
def sN (hd : BitVec 32) (hh : ℕ) (x0 : Vec Ideal S1x2048x128 .bf16) (x1 : Vec Ideal S1x128x2048 .bf16) (x3 : Vec Ideal S1x8x2048 .f32)
    (r c : ℕ) : EReal :=
  if h : c ≤ r ∧ r < 2048 then lg hd hh x0 x1 x3 ⟨r, h.2⟩ ⟨c, lt_of_le_of_lt h.1 h.2⟩ else ⊥

section Score
variable (m2 : Memref sig .tc .vmem S1x2048x128 .bf16) (h2 : m2.IsWhole) (m3 : Memref sig .tc .vmem S1x128x2048 .bf16) (h3 : m3.IsWhole)
  (m5 : Memref sig .tc .vmem S1x8x2048 .f32) (h5 : m5.IsWhole)
  (x0 : Vec Ideal S1x2048x128 .bf16) (x1 : Vec Ideal S1x128x2048 .bf16) (x3 : Vec Ideal S1x8x2048 .f32)
  (hd : BitVec 32) (hh : ℕ) (kp : FVec Ideal S256x128 .bf16) (hkp : ∀ r c, kp (ix2 r c) = keep hh c)
include hkp

theorem scoreOff_lg (oq ok : ℕ) (hq : oq + 256 ≤ 2048) (hk : ok + 256 ≤ 2048) (r c : Fin 256) :
    scoreOff kp hd (ldRows m2 h2 x0 oq hq) (ldKeys m3 h3 x1 ok hk) (ldBias m5 h5 x3 ok hk) (ix2 r c)
      = lg hd hh x0 x1 x3 ⟨oq + r.val, by omega⟩ ⟨ok + c.val, by omega⟩ := by
  pointwise [scoreOff, biasV, lg, hkp, ldRows_apply, ldKeys_apply, ldBias_apply]
  all_goals rfl

theorem scoreOff_at (oq ok : ℕ) (hq : oq + 256 ≤ 2048) (hk : ok + 256 ≤ 2048) (hlt : ok + 256 ≤ oq) (r c : Fin 256) :
    scoreOff kp hd (ldRows m2 h2 x0 oq hq) (ldKeys m3 h3 x1 ok hk) (ldBias m5 h5 x3 ok hk) (ix2 r c)
      = sN hd hh x0 x1 x3 (oq + r.val) (ok + c.val) := by
  rw [scoreOff_lg m2 h2 m3 h3 m5 h5 x0 x1 x3 hd hh kp hkp, sN, dif_pos (by omega)]

theorem scoreDiag_at (o : ℕ) (ho ho' ho'' : o + 256 ≤ 2048) (r c : Fin 256) :
    scoreDiag kp hd (ldRows m2 h2 x0 o ho) (ldKeys m3 h3 x1 o ho') (ldBias m5 h5 x3 o ho'') (ix2 r c)
      = sN hd hh x0 x1 x3 (o + r.val) (o + c.val) := by
  pointwise [scoreDiag]
  rw [scoreOff_lg m2 h2 m3 h3 m5 h5 x0 x1 x3 hd hh kp hkp, sN, negInf_eq]
  have key : IntOp.cmpi .sge (BitVec.ofNat 32 r.val) (BitVec.ofNat 32 c.val) = if c.val ≤ r.val then 1#1 else 0#1 := by
    word_cmp
    by_cases h : c.val ≤ r.val <;> simp [h]
  rw [key]
  by_cases h : c.val ≤ r.val
  · rw [if_pos h, dif_pos (by omega)]; rfl
  · rw [if_neg h, dif_neg (by omega)]; rfl
end Score

section Max
variable (m : FVec Ideal S256x128 .f32) (s : FVec Ideal S256x256 .f32)

theorem mxInit_apply (r : Fin 256) (c : Fin 128) :
    mxInit s (ix2 r c) = max (s (ix2 r ⟨c.val, by omega⟩) : EReal) (s (ix2 r ⟨128 + c.val, by omega⟩)) := by
  pointwise [mxInit]
theorem mxStep_apply (r : Fin 256) (c : Fin 128) :
    mxStep m s (ix2 r c) = max (max (m (ix2 r c) : EReal) (s (ix2 r ⟨c.val, by omega⟩))) (s (ix2 r ⟨128 + c.val, by omega⟩)) := by
  pointwise [mxStep]

/-- No entry is +∞. -/
def NoTop : Prop := ∀ (r : Fin 256) (c : Fin 128), (m (ix2 r c) : EReal) < ⊤
/-- Each row has an entry above −∞. -/
def RowReal : Prop := ∀ r : Fin 256, ∃ c : Fin 128, (⊥ : EReal) < m (ix2 r c)

variable {m s}
theorem noTop_init (h : ∀ r c : Fin 256, (s (ix2 r c) : EReal) < ⊤) : NoTop (mxInit s) := fun r c => by
  rw [mxInit_apply]; exact max_lt (h _ _) (h _ _)
theorem noTop_step (hm : NoTop m) (h : ∀ r c : Fin 256, (s (ix2 r c) : EReal) < ⊤) : NoTop (mxStep m s) := fun r c => by
  rw [mxStep_apply]; exact max_lt (max_lt (hm _ _) (h _ _)) (h _ _)
theorem rowReal_init (h : ∀ r : Fin 256, (⊥ : EReal) < s (ix2 r r)) : RowReal (mxInit s) := fun r => by
  by_cases hr : r.val < 128
  · refine ⟨⟨r.val, hr⟩, ?_⟩
    rw [mxInit_apply]; exact lt_max_of_lt_left (h r)
  · refine ⟨⟨r.val - 128, by omega⟩, ?_⟩
    rw [mxInit_apply]
    refine lt_max_of_lt_right ?_
    have e : (⟨128 + (r.val - 128), by omega⟩ : Fin 256) = r := Fin.ext (by show 128 + (r.val - 128) = r.val; omega)
    rw [e]; exact h r
theorem rowReal_step (h : ∀ r : Fin 256, (⊥ : EReal) < s (ix2 r r)) : RowReal (mxStep m s) := fun r => by
  by_cases hr : r.val < 128
  · refine ⟨⟨r.val, hr⟩, ?_⟩
    rw [mxStep_apply]; exact lt_max_of_lt_left (lt_max_of_lt_right (h r))
  · refine ⟨⟨r.val - 128, by omega⟩, ?_⟩
    rw [mxStep_apply]
    refine lt_max_of_lt_right ?_
    have e : (⟨128 + (r.val - 128), by omega⟩ : Fin 256) = r := Fin.ext (by show 128 + (r.val - 128) = r.val; omega)
    rw [e]; exact h r

theorem mxRow_real (hm : NoTop m) (hr : RowReal m) : ∃ M : Fin 256 → ℝ, ∀ (r : Fin 256) (c : Fin 128), mxRow m (ix2 r c) = ((M r : ℝ) : EReal) := by
  have hval : ∀ (r : Fin 256) (c : Fin 128), (mxRow m (ix2 r c) : EReal) = Finset.univ.fold max (⊥ : EReal) (fun x : Fin 128 => (m (ix2 r x) : EReal)) := by
    intro r c
    pointwise [mxRow]
    have : Ideal.ofBits .f32 4286578688#32 = (⊥ : EReal) := by
      simp [Ideal.ofBits, Ideal.ieee]
    rw [this]
  have hlt : ∀ r : Fin 256, Finset.univ.fold max (⊥ : EReal) (fun x : Fin 128 => (m (ix2 r x) : EReal)) < ⊤ := fun r =>
    (Finset.fold_max_lt _).2 ⟨bot_lt_top, fun x _ => hm r x⟩
  have hgt : ∀ r : Fin 256, ⊥ < Finset.univ.fold max (⊥ : EReal) (fun x : Fin 128 => (m (ix2 r x) : EReal)) := fun r => by
    obtain ⟨c, hc⟩ := hr r
    exact (Finset.lt_fold_max _).2 (.inr ⟨c, Finset.mem_univ _, hc⟩)
  refine ⟨fun r => (Finset.univ.fold max (⊥ : EReal) (fun x : Fin 128 => (m (ix2 r x) : EReal))).toReal, fun r c => ?_⟩
  rw [hval]
  exact (EReal.coe_toReal (hlt r).ne (hgt r).ne').symm
end Max

section Sum
variable (a m : FVec Ideal S256x128 .f32) (p0 p1 : Vec Ideal S256x128 .f32) (v : Vec Ideal S1x256x128 .bf16) (kp oc : FVec Ideal S256x128 .bf16)

theorem accInit_apply (r : Fin 256) (c : Fin 128) : (accInit (F := Ideal) (ix2 r c) : EReal) = 0 := by
  pointwise [accInit]

theorem accStep_apply (r : Fin 256) (c : Fin 128) : accStep a m p0 p1 v kp oc (ix2 r c) =
    (a (ix2 r c) : EReal) + ((∑ x : Fin 128, Ideal.exp2 ((p0 (ix2 r x) : EReal) - m (ix2 r x)) * ((v (ix3 0 ⟨x.val, by omega⟩ c) : EReal) * kp (ix2 ⟨x.val, by omega⟩ c) + oc (ix2 ⟨x.val, by omega⟩ c)))
      + ∑ x : Fin 128, Ideal.exp2 ((p1 (ix2 r x) : EReal) - m (ix2 r x)) * ((v (ix3 0 ⟨128 + x.val, by omega⟩ c) : EReal) * kp (ix2 ⟨128 + x.val, by omega⟩ c) + oc (ix2 ⟨128 + x.val, by omega⟩ c))) := by
  pointwise [accStep, expHalf]
  rfl

theorem fin0_apply (r : Fin 256) (c : Fin 128) : (fin0 a (ix2 r c) : EReal) =
    if c.val / 64 = 0 then (a (ix2 r c) : EReal) * Ideal.div 1 (a (ix2 r 64)) else 0 := by
  pointwise [fin0]
  rw [own0_apply]
  by_cases h : c.val / 64 = 0
  · rw [if_pos h, if_pos h]; rfl
  · rw [if_neg h, if_neg h]; rfl
theorem fin1_apply (r : Fin 256) (c : Fin 128) : (fin1 a (ix2 r c) : EReal) =
    if c.val / 64 = 1 then (a (ix2 r c) : EReal) * Ideal.div 1 (a (ix2 r 0)) else 0 := by
  pointwise [fin1]
  rw [own1_apply]
  by_cases h : c.val / 64 = 1
  · rw [if_pos h, if_pos h]; rfl
  · rw [if_neg h, if_neg h]; rfl
theorem pairOut_apply (b : FVec Ideal S256x128 .f32) (r : Fin 256) (c : Fin 128) :
    (pairOut a b (ix3 0 r c) : EReal) = (a (ix2 r c) : EReal) + b (ix2 r c) := by
  pointwise [pairOut]
end Sum

end Cert.FoxIdeal.Att

end
-- ==== Proof.FoxSoft.lean ====
/- A row of softmax attention over the extended reals: the base-two form with a late division equals the textbook form. -/
module

public import Idealize.ShloMosaic.PureOps.Ideal
public import Mathlib.Analysis.SpecialFunctions.Pow.Real

@[expose] public section

noncomputable section

namespace Cert.Soft

open Idealize.ShloMosaic

/-- A non-negative real factor goes into a sum of extended reals. -/
theorem sum_mul_coe {ι : Type} (s : Finset ι) (f : ι → EReal) {c : ℝ} (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A masked real score: a real, or −∞ where the mask is off. -/
def masked (b : Prop) [Decidable b] (a : ℝ) : EReal := if b then (a : EReal) else ⊥

theorem exp2_masked (b : Prop) [Decidable b] (a M : ℝ) : Ideal.exp2 (masked b a - (M : EReal)) = ((if b then (2 : ℝ) ^ (a - M) else 0 : ℝ) : EReal) := by
  unfold masked
  by_cases h : b
  · simp only [if_pos h]; rw [← EReal.coe_sub, Ideal.exp2_coe]; rfl
  · simp only [if_neg h]; rw [EReal.bot_sub]; rfl

theorem exp_masked (b : Prop) [Decidable b] (a M : ℝ) : Ideal.exp (masked b a - (M : EReal)) = ((if b then Real.exp (a - M) else 0 : ℝ) : EReal) := by
  unfold masked
  by_cases h : b
  · simp only [if_pos h]; rw [← EReal.coe_sub, Ideal.exp_coe]
  · simp only [if_neg h]; rw [EReal.bot_sub]; rfl

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The row: base-two weights of scores `(a k - q) / log 2` shifted by `M`, divided after the sum, are the weights `exp (a k - m)` divided
    before it. -/
theorem row {n : ℕ} (b : Fin n → Prop) [∀ k, Decidable (b k)] (a : Fin n → ℝ) (q M m : ℝ) (v : Fin n → EReal) (k₀ : Fin n) (h₀ : b k₀) :
    (∑ k, Ideal.exp2 (masked (b k) ((a k - q) * (Real.log 2)⁻¹) - (M : EReal)) * v k)
        * Ideal.div 1 (∑ k, Ideal.exp2 (masked (b k) ((a k - q) * (Real.log 2)⁻¹) - (M : EReal)))
      = ∑ k, v k * Ideal.div (Ideal.exp (masked (b k) (a k) - (m : EReal))) (∑ k, Ideal.exp (masked (b k) (a k) - (m : EReal))) := by
  set C : ℝ := Real.exp (m - q - M * Real.log 2) with hC
  have hCpos : 0 < C := Real.exp_pos _
  have hl2 : Real.log 2 ≠ 0 := (Real.log_pos (by norm_num)).ne'
  let p : Fin n → ℝ := fun k => if b k then Real.exp (a k - m) else 0
  have hp0 : ∀ k, 0 ≤ p k := fun k => by dsimp only [p]; split_ifs; exacts [(Real.exp_pos _).le, le_rfl]
  have hw : ∀ k, (if b k then (2 : ℝ) ^ ((a k - q) * (Real.log 2)⁻¹ - M) else 0 : ℝ) = C * p k := fun k => by
    dsimp only [p]
    by_cases h : b k
    · rw [if_pos h, if_pos h, Real.rpow_def_of_pos (by norm_num), hC, ← Real.exp_add]
      congr 1
      field_simp
      ring
    · rw [if_neg h, if_neg h, mul_zero]
  have hP : 0 < ∑ k, p k := by
    refine Finset.sum_pos' (fun k _ => hp0 k) ⟨k₀, Finset.mem_univ _, ?_⟩
    dsimp only [p]; rw [if_pos h₀]; exact Real.exp_pos _
  simp only [exp2_masked, exp_masked, hw]
  change (∑ k, ((C * p k : ℝ) : EReal) * v k) * Ideal.div 1 (∑ k, ((C * p k : ℝ) : EReal)) = ∑ k, v k * Ideal.div ((p k : ℝ) : EReal) (∑ k, ((p k : ℝ) : EReal))
  rw [← coe_sum, ← coe_sum, ← Finset.mul_sum, Ideal.div_coe (mul_pos hCpos hP).ne', one_mul,
    sum_mul_coe _ _ (one_div_nonneg.2 (mul_pos hCpos hP).le)]
  refine Finset.sum_congr rfl fun k _ => ?_
  rw [Ideal.div_coe hP.ne', mul_comm _ (v k), mul_assoc, ← EReal.coe_mul, ← EReal.coe_mul]
  congr 2
  field_simp

end Cert.Soft

end
-- ==== Proof.FoxSum.lean ====
/- The weighted sum block by block, and a unit's quotient as the textbook row of softmax attention. -/
module

public import proofs.«01_k».proof.Proof.FoxScore
public import proofs.«01_k».proof.Proof.FoxSoft

@[expose] public section

set_option maxRecDepth 16384

noncomputable section

namespace Cert.FoxIdeal.Att

open Cert.FoxIdeal Cert.FoxIdeal.Gen Idealize.ShloMosaic Idealize.ShloMosaic.TcCoe Cert.Soft

/-- The sum `a` runs over the first `n` columns: weights of the scores `f` shifted by `M`, against the values `V`. -/
def AccIs (a : FVec Ideal S256x128 .f32) (n : ℕ) (f : Fin 256 → ℕ → EReal) (M : Fin 256 → ℝ) (V : Fin 128 → ℕ → EReal) : Prop :=
  ∀ (r : Fin 256) (d : Fin 128), (a (ix2 r d) : EReal) = ∑ k ∈ Finset.range n, Ideal.exp2 (f r k - (M r : EReal)) * V d k

theorem acc_init (f : Fin 256 → ℕ → EReal) (M : Fin 256 → ℝ) (V : Fin 128 → ℕ → EReal) : AccIs accInit 0 f M V := fun r d => by
  rw [accInit_apply, Finset.range_zero, Finset.sum_empty]

theorem acc_step {a m : FVec Ideal S256x128 .f32} {p0 p1 : Vec Ideal S256x128 .f32} {v : Vec Ideal S1x256x128 .bf16} {kp oc : FVec Ideal S256x128 .bf16}
    {n : ℕ} {f : Fin 256 → ℕ → EReal} {M : Fin 256 → ℝ} {V : Fin 128 → ℕ → EReal} (h : AccIs a n f M V)
    (h0 : ∀ (r : Fin 256) (c : Fin 128), (p0 (ix2 r c) : EReal) = f r (n + c.val))
    (h1 : ∀ (r : Fin 256) (c : Fin 128), (p1 (ix2 r c) : EReal) = f r (n + 128 + c.val))
    (hm : ∀ (r : Fin 256) (c : Fin 128), m (ix2 r c) = ((M r : ℝ) : EReal))
    (hv : ∀ (r : Fin 256) (d : Fin 128), (v (ix3 0 r d) : EReal) * kp (ix2 r d) + oc (ix2 r d) = V d (n + r.val)) :
    AccIs (accStep a m p0 p1 v kp oc) (n + 256) f M V := fun r d => by
  rw [accStep_apply, h r d, show n + 256 = n + 128 + 128 from rfl, Finset.sum_range_add, Finset.sum_range_add, add_assoc]
  congr 1
  rw [Finset.sum_range, Finset.sum_range]
  congr 1
  · refine Finset.sum_congr rfl fun x _ => ?_
    rw [h0, hm]
    exact congrArg _ (hv ⟨x.val, by omega⟩ d)
  · refine Finset.sum_congr rfl fun x _ => ?_
    rw [h1, hm]
    refine congrArg _ ((hv ⟨128 + x.val, by omega⟩ d).trans ?_)
    show V d (n + (128 + x.val)) = V d (n + 128 + x.val)
    rw [Nat.add_assoc]

/-- The values at natural row numbers. -/
def vN (x2 : Vec Ideal S1x2048x128 .bf16) (d : Fin 128) (k : ℕ) : EReal := if h : k < 2048 then (x2 (ix3 0 ⟨k, h⟩ d) : EReal) else 0
/-- Head `hh`'s value columns with the lane `L` set to one. -/
def vCol (hh L : ℕ) (x2 : Vec Ideal S1x2048x128 .bf16) (d : Fin 128) (k : ℕ) : EReal := vN x2 d k * keep hh d + (if d.val = L then 1 else 0)

theorem vCol_at (m4 : Memref sig .tc .vmem S1x2048x128 .bf16) (h4 : m4.IsWhole) (x2 : Vec Ideal S1x2048x128 .bf16) (hh L : ℕ)
    (kp oc : FVec Ideal S256x128 .bf16) (hkp : ∀ r c, kp (ix2 r c) = keep hh c) (hoc : ∀ (r : Fin 256) (c : Fin 128), oc (ix2 r c) = if c.val = L then (1 : EReal) else 0)
    (o : ℕ) (ho : o + 256 ≤ 2048) (r : Fin 256) (d : Fin 128) :
    ((ldRows m4 h4 x2 o ho) (ix3 0 r d) : EReal) * kp (ix2 r d) + oc (ix2 r d) = vCol hh L x2 d (o + r.val) := by
  rw [ldRows_apply, hkp, hoc, vCol, vN, dif_pos (by omega)]

/-- The textbook row: values weighted by the softmax of the masked scores `A`, shifted by `m`. -/
def soft (A : Fin 2048 → Fin 2048 → ℝ) (m : Fin 2048 → ℝ) (x2 : Vec Ideal S1x2048x128 .bf16) (R : Fin 2048) (d : Fin 128) : EReal :=
  ∑ k : Fin 2048, (x2 (ix3 0 k d) : EReal)
    * Ideal.div (Ideal.exp (masked (k.val ≤ R.val) (A R k) - (m R : EReal))) (∑ k : Fin 2048, Ideal.exp (masked (k.val ≤ R.val) (A R k) - (m R : EReal)))

section Unit
variable {hd : BitVec 32} {hh : ℕ} {x0 : Vec Ideal S1x2048x128 .bf16} {x1 : Vec Ideal S1x128x2048 .bf16} {x2 : Vec Ideal S1x2048x128 .bf16} {x3 : Vec Ideal S1x8x2048 .f32}
  {A : Fin 2048 → Fin 2048 → ℝ} {Q : Fin 2048 → ℝ}

/-- The logits are the scores `A` less a row constant, in units of log 2. -/
def LgIs (hd : BitVec 32) (hh : ℕ) (x0 : Vec Ideal S1x2048x128 .bf16) (x1 : Vec Ideal S1x128x2048 .bf16) (x3 : Vec Ideal S1x8x2048 .f32)
    (A : Fin 2048 → Fin 2048 → ℝ) (Q : Fin 2048 → ℝ) : Prop :=
  ∀ R k : Fin 2048, lg hd hh x0 x1 x3 R k = (((A R k - Q R) * (Real.log 2)⁻¹ : ℝ) : EReal)

theorem sN_masked (hlg : LgIs hd hh x0 x1 x3 A Q) (R k : Fin 2048) :
    sN hd hh x0 x1 x3 R.val k.val = masked (k.val ≤ R.val) ((A R k - Q R) * (Real.log 2)⁻¹) := by
  unfold sN masked
  by_cases h : k.val ≤ R.val
  · rw [dif_pos ⟨h, R.isLt⟩, if_pos h]; exact hlg R k
  · rw [dif_neg (fun h' => h h'.1), if_neg h]

theorem sN_lt_top (hlg : LgIs hd hh x0 x1 x3 A Q) (r c : ℕ) : sN hd hh x0 x1 x3 r c < ⊤ := by
  unfold sN
  split_ifs with h
  · rw [hlg]; exact EReal.coe_lt_top _
  · exact bot_lt_top

theorem bot_lt_sN (hlg : LgIs hd hh x0 x1 x3 A Q) (r : ℕ) (hr : r < 2048) : ⊥ < sN hd hh x0 x1 x3 r r := by
  unfold sN
  rw [dif_pos ⟨le_rfl, hr⟩, hlg]; exact EReal.bot_lt_coe _

/-- A sum over the columns up to the block's end is the sum over all columns: the rest is masked. -/
theorem sum_all (R : Fin 2048) (n : ℕ) (hR : R.val < n) (hn : n ≤ 2048) (M : ℝ) (V : ℕ → EReal) :
    ∑ k ∈ Finset.range n, Ideal.exp2 (sN hd hh x0 x1 x3 R.val k - (M : EReal)) * V k
      = ∑ k : Fin 2048, Ideal.exp2 (sN hd hh x0 x1 x3 R.val k.val - (M : EReal)) * V k.val := by
  rw [Fin.sum_univ_eq_sum_range (fun k => Ideal.exp2 (sN hd hh x0 x1 x3 R.val k - (M : EReal)) * V k) 2048]
  refine Finset.sum_subset (Finset.range_subset_range.2 hn) fun k _ hk => ?_
  have hk' : ¬ k < n := fun h => hk (Finset.mem_range.2 h)
  rw [sN, dif_neg (by omega), EReal.bot_sub, Ideal.exp2_bot, zero_mul]

theorem unit_quot (hlg : LgIs hd hh x0 x1 x3 A Q) {a : FVec Ideal S256x128 .f32} {o : ℕ} (ho : o + 256 ≤ 2048) {L : ℕ} (hL : L < 128) (hL' : L / 64 ≠ hh) {M : Fin 256 → ℝ}
    (ha : AccIs a (o + 256) (fun r k => sN hd hh x0 x1 x3 (o + r.val) k) M (vCol hh L x2)) (m : Fin 2048 → ℝ) (r : Fin 256) (d : Fin 128) (hd' : d.val / 64 = hh) :
    (a (ix2 r d) : EReal) * Ideal.div 1 (a (ix2 r (⟨L, hL⟩ : Fin 128))) = soft A m x2 ⟨o + r.val, by omega⟩ d := by
  have hdL : d.val ≠ L := fun h => hL' (h ▸ hd')
  have e1 : (a (ix2 r d) : EReal) = ∑ k : Fin 2048, Ideal.exp2 (masked (k.val ≤ o + r.val) ((A ⟨o + r.val, by omega⟩ k - Q ⟨o + r.val, by omega⟩) * (Real.log 2)⁻¹) - (M r : EReal)) * x2 (ix3 0 k d) := by
    rw [ha r d, sum_all ⟨o + r.val, by omega⟩ _ (by show o + r.val < o + 256; omega) ho]
    refine Finset.sum_congr rfl fun k _ => ?_
    rw [sN_masked hlg]
    congr 1
    rw [vCol, vN, dif_pos k.isLt, keep, if_pos hd', if_neg hdL, mul_one, add_zero]
  have e2 : (a (ix2 r (⟨L, hL⟩ : Fin 128)) : EReal) = ∑ k : Fin 2048, Ideal.exp2 (masked (k.val ≤ o + r.val) ((A ⟨o + r.val, by omega⟩ k - Q ⟨o + r.val, by omega⟩) * (Real.log 2)⁻¹) - (M r : EReal)) := by
    rw [ha r _, sum_all ⟨o + r.val, by omega⟩ _ (by show o + r.val < o + 256; omega) ho]
    refine Finset.sum_congr rfl fun k _ => ?_
    rw [sN_masked hlg, vCol, keep, if_neg hL', if_pos rfl, mul_zero, zero_add, mul_one]
  rw [e1, e2]
  exact row (fun k : Fin 2048 => k.val ≤ o + r.val) (A ⟨o + r.val, by omega⟩) _ _ (m ⟨o + r.val, by omega⟩) _ ⟨o + r.val, by omega⟩ le_rfl

end Unit

end Cert.FoxIdeal.Att

end
-- ==== Proof.FoxUnit.lean ====
/- Each unit of the body read through: its score blocks, its slot of the stage, its row maxima, its weighted sum. -/
module

public import proofs.«01_k».proof.Proof.FoxOut
public import proofs.«01_k».proof.Proof.FoxRead
public import proofs.«01_k».proof.Proof.FoxSum

@[expose] public section

set_option maxRecDepth 16384

noncomputable section

namespace Cert.FoxIdeal.Att

open Cert.FoxIdeal Cert.FoxIdeal.Gen Idealize.ShloMosaic Idealize.ShloMosaic.TcCoe

variable {F : FTy → Type} [FloatOps F] [Named F]
variable (i : grid0.Coords) (arg2 : Memref sig .tc .vmem S1x2048x128 .bf16) (harg2 : arg2.IsWhole) (arg3 : Memref sig .tc .vmem S1x128x2048 .bf16) (harg3 : arg3.IsWhole)
  (arg4 : Memref sig .tc .vmem S1x2048x128 .bf16) (harg4 : arg4.IsWhole) (arg5 : Memref sig .tc .vmem S1x8x2048 .f32) (harg5 : arg5.IsWhole)
  (arg7 : Memref sig .tc .vmem S4x256x2048 .f32)
  (x0 : Vec Ideal S1x2048x128 .bf16) (x1 : Vec Ideal S1x128x2048 .bf16) (x2 : Vec Ideal S1x2048x128 .bf16) (x3 : Vec Ideal S1x8x2048 .f32)

/-- A unit's masked scores from row `o` on. -/
def sR (hh o : ℕ) : Fin 256 → ℕ → EReal := fun r k => sN (headNo i (BitVec.ofNat 32 hh)) hh x0 x1 x3 (o + r.val) k

theorem sb0_0_at (r c : Fin 256) : (sb0_0 (F := Ideal) i arg2 harg2 arg3 harg3 arg5 harg5 x0 x1 x3 (ix2 r c) : EReal) = (sR i x0 x1 x3 0 0) r (0 + c.val) :=
  scoreDiag_at _ _ _ _ _ _ _ _ _ _ _ _ mask0_apply 0 (by norm_num) (by norm_num) (by norm_num) r c
theorem sb1_0_at (r c : Fin 256) : (sb1_0 (F := Ideal) i arg2 harg2 arg3 harg3 arg5 harg5 x0 x1 x3 (ix2 r c) : EReal) = (sR i x0 x1 x3 1 0) r (0 + c.val) :=
  scoreDiag_at _ _ _ _ _ _ _ _ _ _ _ _ mask1_apply 0 (by norm_num) (by norm_num) (by norm_num) r c
theorem sb2_0_at (r c : Fin 256) : (sb2_0 (F := Ideal) i arg2 harg2 arg3 harg3 arg5 harg5 x0 x1 x3 (ix2 r c) : EReal) = (sR i x0 x1 x3 0 256) r (0 + c.val) :=
  scoreOff_at _ _ _ _ _ _ _ _ _ _ _ _ mask0_apply 256 0 (by norm_num) (by norm_num) (by norm_num) r c
theorem sb2_1_at (r c : Fin 256) : (sb2_1 (F := Ideal) i arg2 harg2 arg3 harg3 arg5 harg5 x0 x1 x3 (ix2 r c) : EReal) = (sR i x0 x1 x3 0 256) r (256 + c.val) :=
  scoreDiag_at _ _ _ _ _ _ _ _ _ _ _ _ mask0_apply 256 (by norm_num) (by norm_num) (by norm_num) r c
theorem sb3_0_at (r c : Fin 256) : (sb3_0 (F := Ideal) i arg2 harg2 arg3 harg3 arg5 harg5 x0 x1 x3 (ix2 r c) : EReal) = (sR i x0 x1 x3 1 256) r (0 + c.val) :=
  scoreOff_at _ _ _ _ _ _ _ _ _ _ _ _ mask1_apply 256 0 (by norm_num) (by norm_num) (by norm_num) r c
theorem sb3_1_at (r c : Fin 256) : (sb3_1 (F := Ideal) i arg2 harg2 arg3 harg3 arg5 harg5 x0 x1 x3 (ix2 r c) : EReal) = (sR i x0 x1 x3 1 256) r (256 + c.val) :=
  scoreDiag_at _ _ _ _ _ _ _ _ _ _ _ _ mask1_apply 256 (by norm_num) (by norm_num) (by norm_num) r c
theorem sb4_0_at (r c : Fin 256) : (sb4_0 (F := Ideal) i arg2 harg2 arg3 harg3 arg5 harg5 x0 x1 x3 (ix2 r c) : EReal) = (sR i x0 x1 x3 0 512) r (0 + c.val) :=
  scoreOff_at _ _ _ _ _ _ _ _ _ _ _ _ mask0_apply 512 0 (by norm_num) (by norm_num) (by norm_num) r c
theorem sb4_1_at (r c : Fin 256) : (sb4_1 (F := Ideal) i arg2 harg2 arg3 harg3 arg5 harg5 x0 x1 x3 (ix2 r c) : EReal) = (sR i x0 x1 x3 0 512) r (256 + c.val) :=
  scoreOff_at _ _ _ _ _ _ _ _ _ _ _ _ mask0_apply 512 256 (by norm_num) (by norm_num) (by norm_num) r c
theorem sb4_2_at (r c : Fin 256) : (sb4_2 (F := Ideal) i arg2 harg2 arg3 harg3 arg5 harg5 x0 x1 x3 (ix2 r c) : EReal) = (sR i x0 x1 x3 0 512) r (512 + c.val) :=
  scoreDiag_at _ _ _ _ _ _ _ _ _ _ _ _ mask0_apply 512 (by norm_num) (by norm_num) (by norm_num) r c
theorem sb5_0_at (r c : Fin 256) : (sb5_0 (F := Ideal) i arg2 harg2 arg3 harg3 arg5 harg5 x0 x1 x3 (ix2 r c) : EReal) = (sR i x0 x1 x3 1 512) r (0 + c.val) :=
  scoreOff_at _ _ _ _ _ _ _ _ _ _ _ _ mask1_apply 512 0 (by norm_num) (by norm_num) (by norm_num) r c
theorem sb5_1_at (r c : Fin 256) : (sb5_1 (F := Ideal) i arg2 harg2 arg3 harg3 arg5 harg5 x0 x1 x3 (ix2 r c) : EReal) = (sR i x0 x1 x3 1 512) r (256 + c.val) :=
  scoreOff_at _ _ _ _ _ _ _ _ _ _ _ _ mask1_apply 512 256 (by norm_num) (by norm_num) (by norm_num) r c
theorem sb5_2_at (r c : Fin 256) : (sb5_2 (F := Ideal) i arg2 harg2 arg3 harg3 arg5 harg5 x0 x1 x3 (ix2 r c) : EReal) = (sR i x0 x1 x3 1 512) r (512 + c.val) :=
  scoreDiag_at _ _ _ _ _ _ _ _ _ _ _ _ mask1_apply 512 (by norm_num) (by norm_num) (by norm_num) r c
theorem sb6_0_at (r c : Fin 256) : (sb6_0 (F := Ideal) i arg2 harg2 arg3 harg3 arg5 harg5 x0 x1 x3 (ix2 r c) : EReal) = (sR i x0 x1 x3 0 768) r (0 + c.val) :=
  scoreOff_at _ _ _ _ _ _ _ _ _ _ _ _ mask0_apply 768 0 (by norm_num) (by norm_num) (by norm_num) r c
theorem sb6_1_at (r c : Fin 256) : (sb6_1 (F := Ideal) i arg2 harg2 arg3 harg3 arg5 harg5 x0 x1 x3 (ix2 r c) : EReal) = (sR i x0 x1 x3 0 768) r (256 + c.val) :=
  scoreOff_at _ _ _ _ _ _ _ _ _ _ _ _ mask0_apply 768 256 (by norm_num) (by norm_num) (by norm_num) r c
theorem sb6_2_at (r c : Fin 256) : (sb6_2 (F := Ideal) i arg2 harg2 arg3 harg3 arg5 harg5 x0 x1 x3 (ix2 r c) : EReal) = (sR i x0 x1 x3 0 768) r (512 + c.val) :=
  scoreOff_at _ _ _ _ _ _ _ _ _ _ _ _ mask0_apply 768 512 (by norm_num) (by norm_num) (by norm_num) r c
theorem sb6_3_at (r c : Fin 256) : (sb6_3 (F := Ideal) i arg2 harg2 arg3 harg3 arg5 harg5 x0 x1 x3 (ix2 r c) : EReal) = (sR i x0 x1 x3 0 768) r (768 + c.val) :=
  scoreDiag_at _ _ _ _ _ _ _ _ _ _ _ _ mask0_apply 768 (by norm_num) (by norm_num) (by norm_num) r c
theorem sb7_0_at (r c : Fin 256) : (sb7_0 (F := Ideal) i arg2 harg2 arg3 harg3 arg5 harg5 x0 x1 x3 (ix2 r c) : EReal) = (sR i x0 x1 x3 1 768) r (0 + c.val) :=
  scoreOff_at _ _ _ _ _ _ _ _ _ _ _ _ mask1_apply 768 0 (by norm_num) (by norm_num) (by norm_num) r c
theorem sb7_1_at (r c : Fin 256) : (sb7_1 (F := Ideal) i arg2 harg2 arg3 harg3 arg5 harg5 x0 x1 x3 (ix2 r c) : EReal) = (sR i x0 x1 x3 1 768) r (256 + c.val) :=
  scoreOff_at _ _ _ _ _ _ _ _ _ _ _ _ mask1_apply 768 256 (by norm_num) (by norm_num) (by norm_num) r c
theorem sb7_2_at (r c : Fin 256) : (sb7_2 (F := Ideal) i arg2 harg2 arg3 harg3 arg5 harg5 x0 x1 x3 (ix2 r c) : EReal) = (sR i x0 x1 x3 1 768) r (512 + c.val) :=
  scoreOff_at _ _ _ _ _ _ _ _ _ _ _ _ mask1_apply 768 512 (by norm_num) (by norm_num) (by norm_num) r c
theorem sb7_3_at (r c : Fin 256) : (sb7_3 (F := Ideal) i arg2 harg2 arg3 harg3 arg5 harg5 x0 x1 x3 (ix2 r c) : EReal) = (sR i x0 x1 x3 1 768) r (768 + c.val) :=
  scoreDiag_at _ _ _ _ _ _ _ _ _ _ _ _ mask1_apply 768 (by norm_num) (by norm_num) (by norm_num) r c
theorem sb8_0_at (r c : Fin 256) : (sb8_0 (F := Ideal) i arg2 harg2 arg3 harg3 arg5 harg5 x0 x1 x3 (ix2 r c) : EReal) = (sR i x0 x1 x3 0 1024) r (0 + c.val) :=
  scoreOff_at _ _ _ _ _ _ _ _ _ _ _ _ mask0_apply 1024 0 (by norm_num) (by norm_num) (by norm_num) r c
theorem sb8_1_at (r c : Fin 256) : (sb8_1 (F := Ideal) i arg2 harg2 arg3 harg3 arg5 harg5 x0 x1 x3 (ix2 r c) : EReal) = (sR i x0 x1 x3 0 1024) r (256 + c.val) :=
  scoreOff_at _ _ _ _ _ _ _ _ _ _ _ _ mask0_apply 1024 256 (by norm_num) (by norm_num) (by norm_num) r c
theorem sb8_2_at (r c : Fin 256) : (sb8_2 (F := Ideal) i arg2 harg2 arg3 harg3 arg5 harg5 x0 x1 x3 (ix2 r c) : EReal) = (sR i x0 x1 x3 0 1024) r (512 + c.val) :=
  scoreOff_at _ _ _ _ _ _ _ _ _ _ _ _ mask0_apply 1024 512 (by norm_num) (by norm_num) (by norm_num) r c
theorem sb8_3_at (r c : Fin 256) : (sb8_3 (F := Ideal) i arg2 harg2 arg3 harg3 arg5 harg5 x0 x1 x3 (ix2 r c) : EReal) = (sR i x0 x1 x3 0 1024) r (768 + c.val) :=
  scoreOff_at _ _ _ _ _ _ _ _ _ _ _ _ mask0_apply 1024 768 (by norm_num) (by norm_num) (by norm_num) r c
theorem sb8_4_at (r c : Fin 256) : (sb8_4 (F := Ideal) i arg2 harg2 arg3 harg3 arg5 harg5 x0 x1 x3 (ix2 r c) : EReal) = (sR i x0 x1 x3 0 1024) r (1024 + c.val) :=
  scoreDiag_at _ _ _ _ _ _ _ _ _ _ _ _ mask0_apply 1024 (by norm_num) (by norm_num) (by norm_num) r c
theorem sb9_0_at (r c : Fin 256) : (sb9_0 (F := Ideal) i arg2 harg2 arg3 harg3 arg5 harg5 x0 x1 x3 (ix2 r c) : EReal) = (sR i x0 x1 x3 1 1024) r (0 + c.val) :=
  scoreOff_at _ _ _ _ _ _ _ _ _ _ _ _ mask1_apply 1024 0 (by norm_num) (by norm_num) (by norm_num) r c
theorem sb9_1_at (r c : Fin 256) : (sb9_1 (F := Ideal) i arg2 harg2 arg3 harg3 arg5 harg5 x0 x1 x3 (ix2 r c) : EReal) = (sR i x0 x1 x3 1 1024) r (256 + c.val) :=
  scoreOff_at _ _ _ _ _ _ _ _ _ _ _ _ mask1_apply 1024 256 (by norm_num) (by norm_num) (by norm_num) r c
theorem sb9_2_at (r c : Fin 256) : (sb9_2 (F := Ideal) i arg2 harg2 arg3 harg3 arg5 harg5 x0 x1 x3 (ix2 r c) : EReal) = (sR i x0 x1 x3 1 1024) r (512 + c.val) :=
  scoreOff_at _ _ _ _ _ _ _ _ _ _ _ _ mask1_apply 1024 512 (by norm_num) (by norm_num) (by norm_num) r c
theorem sb9_3_at (r c : Fin 256) : (sb9_3 (F := Ideal) i arg2 harg2 arg3 harg3 arg5 harg5 x0 x1 x3 (ix2 r c) : EReal) = (sR i x0 x1 x3 1 1024) r (768 + c.val) :=
  scoreOff_at _ _ _ _ _ _ _ _ _ _ _ _ mask1_apply 1024 768 (by norm_num) (by norm_num) (by norm_num) r c
theorem sb9_4_at (r c : Fin 256) : (sb9_4 (F := Ideal) i arg2 harg2 arg3 harg3 arg5 harg5 x0 x1 x3 (ix2 r c) : EReal) = (sR i x0 x1 x3 1 1024) r (1024 + c.val) :=
  scoreDiag_at _ _ _ _ _ _ _ _ _ _ _ _ mask1_apply 1024 (by norm_num) (by norm_num) (by norm_num) r c
theorem sb10_0_at (r c : Fin 256) : (sb10_0 (F := Ideal) i arg2 harg2 arg3 harg3 arg5 harg5 x0 x1 x3 (ix2 r c) : EReal) = (sR i x0 x1 x3 0 1280) r (0 + c.val) :=
  scoreOff_at _ _ _ _ _ _ _ _ _ _ _ _ mask0_apply 1280 0 (by norm_num) (by norm_num) (by norm_num) r c
theorem sb10_1_at (r c : Fin 256) : (sb10_1 (F := Ideal) i arg2 harg2 arg3 harg3 arg5 harg5 x0 x1 x3 (ix2 r c) : EReal) = (sR i x0 x1 x3 0 1280) r (256 + c.val) :=
  scoreOff_at _ _ _ _ _ _ _ _ _ _ _ _ mask0_apply 1280 256 (by norm_num) (by norm_num) (by norm_num) r c
theorem sb10_2_at (r c : Fin 256) : (sb10_2 (F := Ideal) i arg2 harg2 arg3 harg3 arg5 harg5 x0 x1 x3 (ix2 r c) : EReal) = (sR i x0 x1 x3 0 1280) r (512 + c.val) :=
  scoreOff_at _ _ _ _ _ _ _ _ _ _ _ _ mask0_apply 1280 512 (by norm_num) (by norm_num) (by norm_num) r c
theorem sb10_3_at (r c : Fin 256) : (sb10_3 (F := Ideal) i arg2 harg2 arg3 harg3 arg5 harg5 x0 x1 x3 (ix2 r c) : EReal) = (sR i x0 x1 x3 0 1280) r (768 + c.val) :=
  scoreOff_at _ _ _ _ _ _ _ _ _ _ _ _ mask0_apply 1280 768 (by norm_num) (by norm_num) (by norm_num) r c
theorem sb10_4_at (r c : Fin 256) : (sb10_4 (F := Ideal) i arg2 harg2 arg3 harg3 arg5 harg5 x0 x1 x3 (ix2 r c) : EReal) = (sR i x0 x1 x3 0 1280) r (1024 + c.val) :=
  scoreOff_at _ _ _ _ _ _ _ _ _ _ _ _ mask0_apply 1280 1024 (by norm_num) (by norm_num) (by norm_num) r c
theorem sb10_5_at (r c : Fin 256) : (sb10_5 (F := Ideal) i arg2 harg2 arg3 harg3 arg5 harg5 x0 x1 x3 (ix2 r c) : EReal) = (sR i x0 x1 x3 0 1280) r (1280 + c.val) :=
  scoreDiag_at _ _ _ _ _ _ _ _ _ _ _ _ mask0_apply 1280 (by norm_num) (by norm_num) (by norm_num) r c
theorem sb11_0_at (r c : Fin 256) : (sb11_0 (F := Ideal) i arg2 harg2 arg3 harg3 arg5 harg5 x0 x1 x3 (ix2 r c) : EReal) = (sR i x0 x1 x3 1 1280) r (0 + c.val) :=
  scoreOff_at _ _ _ _ _ _ _ _ _ _ _ _ mask1_apply 1280 0 (by norm_num) (by norm_num) (by norm_num) r c
theorem sb11_1_at (r c : Fin 256) : (sb11_1 (F := Ideal) i arg2 harg2 arg3 harg3 arg5 harg5 x0 x1 x3 (ix2 r c) : EReal) = (sR i x0 x1 x3 1 1280) r (256 + c.val) :=
  scoreOff_at _ _ _ _ _ _ _ _ _ _ _ _ mask1_apply 1280 256 (by norm_num) (by norm_num) (by norm_num) r c
theorem sb11_2_at (r c : Fin 256) : (sb11_2 (F := Ideal) i arg2 harg2 arg3 harg3 arg5 harg5 x0 x1 x3 (ix2 r c) : EReal) = (sR i x0 x1 x3 1 1280) r (512 + c.val) :=
  scoreOff_at _ _ _ _ _ _ _ _ _ _ _ _ mask1_apply 1280 512 (by norm_num) (by norm_num) (by norm_num) r c
theorem sb11_3_at (r c : Fin 256) : (sb11_3 (F := Ideal) i arg2 harg2 arg3 harg3 arg5 harg5 x0 x1 x3 (ix2 r c) : EReal) = (sR i x0 x1 x3 1 1280) r (768 + c.val) :=
  scoreOff_at _ _ _ _ _ _ _ _ _ _ _ _ mask1_apply 1280 768 (by norm_num) (by norm_num) (by norm_num) r c
theorem sb11_4_at (r c : Fin 256) : (sb11_4 (F := Ideal) i arg2 harg2 arg3 harg3 arg5 harg5 x0 x1 x3 (ix2 r c) : EReal) = (sR i x0 x1 x3 1 1280) r (1024 + c.val) :=
  scoreOff_at _ _ _ _ _ _ _ _ _ _ _ _ mask1_apply 1280 1024 (by norm_num) (by norm_num) (by norm_num) r c
theorem sb11_5_at (r c : Fin 256) : (sb11_5 (F := Ideal) i arg2 harg2 arg3 harg3 arg5 harg5 x0 x1 x3 (ix2 r c) : EReal) = (sR i x0 x1 x3 1 1280) r (1280 + c.val) :=
  scoreDiag_at _ _ _ _ _ _ _ _ _ _ _ _ mask1_apply 1280 (by norm_num) (by norm_num) (by norm_num) r c
theorem sb12_0_at (r c : Fin 256) : (sb12_0 (F := Ideal) i arg2 harg2 arg3 harg3 arg5 harg5 x0 x1 x3 (ix2 r c) : EReal) = (sR i x0 x1 x3 0 1536) r (0 + c.val) :=
  scoreOff_at _ _ _ _ _ _ _ _ _ _ _ _ mask0_apply 1536 0 (by norm_num) (by norm_num) (by norm_num) r c
theorem sb12_1_at (r c : Fin 256) : (sb12_1 (F := Ideal) i arg2 harg2 arg3 harg3 arg5 harg5 x0 x1 x3 (ix2 r c) : EReal) = (sR i x0 x1 x3 0 1536) r (256 + c.val) :=
  scoreOff_at _ _ _ _ _ _ _ _ _ _ _ _ mask0_apply 1536 256 (by norm_num) (by norm_num) (by norm_num) r c
theorem sb12_2_at (r c : Fin 256) : (sb12_2 (F := Ideal) i arg2 harg2 arg3 harg3 arg5 harg5 x0 x1 x3 (ix2 r c) : EReal) = (sR i x0 x1 x3 0 1536) r (512 + c.val) :=
  scoreOff_at _ _ _ _ _ _ _ _ _ _ _ _ mask0_apply 1536 512 (by norm_num) (by norm_num) (by norm_num) r c
theorem sb12_3_at (r c : Fin 256) : (sb12_3 (F := Ideal) i arg2 harg2 arg3 harg3 arg5 harg5 x0 x1 x3 (ix2 r c) : EReal) = (sR i x0 x1 x3 0 1536) r (768 + c.val) :=
  scoreOff_at _ _ _ _ _ _ _ _ _ _ _ _ mask0_apply 1536 768 (by norm_num) (by norm_num) (by norm_num) r c
theorem sb12_4_at (r c : Fin 256) : (sb12_4 (F := Ideal) i arg2 harg2 arg3 harg3 arg5 harg5 x0 x1 x3 (ix2 r c) : EReal) = (sR i x0 x1 x3 0 1536) r (1024 + c.val) :=
  scoreOff_at _ _ _ _ _ _ _ _ _ _ _ _ mask0_apply 1536 1024 (by norm_num) (by norm_num) (by norm_num) r c
theorem sb12_5_at (r c : Fin 256) : (sb12_5 (F := Ideal) i arg2 harg2 arg3 harg3 arg5 harg5 x0 x1 x3 (ix2 r c) : EReal) = (sR i x0 x1 x3 0 1536) r (1280 + c.val) :=
  scoreOff_at _ _ _ _ _ _ _ _ _ _ _ _ mask0_apply 1536 1280 (by norm_num) (by norm_num) (by norm_num) r c
theorem sb12_6_at (r c : Fin 256) : (sb12_6 (F := Ideal) i arg2 harg2 arg3 harg3 arg5 harg5 x0 x1 x3 (ix2 r c) : EReal) = (sR i x0 x1 x3 0 1536) r (1536 + c.val) :=
  scoreDiag_at _ _ _ _ _ _ _ _ _ _ _ _ mask0_apply 1536 (by norm_num) (by norm_num) (by norm_num) r c
theorem sb13_0_at (r c : Fin 256) : (sb13_0 (F := Ideal) i arg2 harg2 arg3 harg3 arg5 harg5 x0 x1 x3 (ix2 r c) : EReal) = (sR i x0 x1 x3 1 1536) r (0 + c.val) :=
  scoreOff_at _ _ _ _ _ _ _ _ _ _ _ _ mask1_apply 1536 0 (by norm_num) (by norm_num) (by norm_num) r c
theorem sb13_1_at (r c : Fin 256) : (sb13_1 (F := Ideal) i arg2 harg2 arg3 harg3 arg5 harg5 x0 x1 x3 (ix2 r c) : EReal) = (sR i x0 x1 x3 1 1536) r (256 + c.val) :=
  scoreOff_at _ _ _ _ _ _ _ _ _ _ _ _ mask1_apply 1536 256 (by norm_num) (by norm_num) (by norm_num) r c
theorem sb13_2_at (r c : Fin 256) : (sb13_2 (F := Ideal) i arg2 harg2 arg3 harg3 arg5 harg5 x0 x1 x3 (ix2 r c) : EReal) = (sR i x0 x1 x3 1 1536) r (512 + c.val) :=
  scoreOff_at _ _ _ _ _ _ _ _ _ _ _ _ mask1_apply 1536 512 (by norm_num) (by norm_num) (by norm_num) r c
theorem sb13_3_at (r c : Fin 256) : (sb13_3 (F := Ideal) i arg2 harg2 arg3 harg3 arg5 harg5 x0 x1 x3 (ix2 r c) : EReal) = (sR i x0 x1 x3 1 1536) r (768 + c.val) :=
  scoreOff_at _ _ _ _ _ _ _ _ _ _ _ _ mask1_apply 1536 768 (by norm_num) (by norm_num) (by norm_num) r c
theorem sb13_4_at (r c : Fin 256) : (sb13_4 (F := Ideal) i arg2 harg2 arg3 harg3 arg5 harg5 x0 x1 x3 (ix2 r c) : EReal) = (sR i x0 x1 x3 1 1536) r (1024 + c.val) :=
  scoreOff_at _ _ _ _ _ _ _ _ _ _ _ _ mask1_apply 1536 1024 (by norm_num) (by norm_num) (by norm_num) r c
theorem sb13_5_at (r c : Fin 256) : (sb13_5 (F := Ideal) i arg2 harg2 arg3 harg3 arg5 harg5 x0 x1 x3 (ix2 r c) : EReal) = (sR i x0 x1 x3 1 1536) r (1280 + c.val) :=
  scoreOff_at _ _ _ _ _ _ _ _ _ _ _ _ mask1_apply 1536 1280 (by norm_num) (by norm_num) (by norm_num) r c
theorem sb13_6_at (r c : Fin 256) : (sb13_6 (F := Ideal) i arg2 harg2 arg3 harg3 arg5 harg5 x0 x1 x3 (ix2 r c) : EReal) = (sR i x0 x1 x3 1 1536) r (1536 + c.val) :=
  scoreDiag_at _ _ _ _ _ _ _ _ _ _ _ _ mask1_apply 1536 (by norm_num) (by norm_num) (by norm_num) r c
theorem sb14_0_at (r c : Fin 256) : (sb14_0 (F := Ideal) i arg2 harg2 arg3 harg3 arg5 harg5 x0 x1 x3 (ix2 r c) : EReal) = (sR i x0 x1 x3 0 1792) r (0 + c.val) :=
  scoreOff_at _ _ _ _ _ _ _ _ _ _ _ _ mask0_apply 1792 0 (by norm_num) (by norm_num) (by norm_num) r c
theorem sb14_1_at (r c : Fin 256) : (sb14_1 (F := Ideal) i arg2 harg2 arg3 harg3 arg5 harg5 x0 x1 x3 (ix2 r c) : EReal) = (sR i x0 x1 x3 0 1792) r (256 + c.val) :=
  scoreOff_at _ _ _ _ _ _ _ _ _ _ _ _ mask0_apply 1792 256 (by norm_num) (by norm_num) (by norm_num) r c
theorem sb14_2_at (r c : Fin 256) : (sb14_2 (F := Ideal) i arg2 harg2 arg3 harg3 arg5 harg5 x0 x1 x3 (ix2 r c) : EReal) = (sR i x0 x1 x3 0 1792) r (512 + c.val) :=
  scoreOff_at _ _ _ _ _ _ _ _ _ _ _ _ mask0_apply 1792 512 (by norm_num) (by norm_num) (by norm_num) r c
theorem sb14_3_at (r c : Fin 256) : (sb14_3 (F := Ideal) i arg2 harg2 arg3 harg3 arg5 harg5 x0 x1 x3 (ix2 r c) : EReal) = (sR i x0 x1 x3 0 1792) r (768 + c.val) :=
  scoreOff_at _ _ _ _ _ _ _ _ _ _ _ _ mask0_apply 1792 768 (by norm_num) (by norm_num) (by norm_num) r c
theorem sb14_4_at (r c : Fin 256) : (sb14_4 (F := Ideal) i arg2 harg2 arg3 harg3 arg5 harg5 x0 x1 x3 (ix2 r c) : EReal) = (sR i x0 x1 x3 0 1792) r (1024 + c.val) :=
  scoreOff_at _ _ _ _ _ _ _ _ _ _ _ _ mask0_apply 1792 1024 (by norm_num) (by norm_num) (by norm_num) r c
theorem sb14_5_at (r c : Fin 256) : (sb14_5 (F := Ideal) i arg2 harg2 arg3 harg3 arg5 harg5 x0 x1 x3 (ix2 r c) : EReal) = (sR i x0 x1 x3 0 1792) r (1280 + c.val) :=
  scoreOff_at _ _ _ _ _ _ _ _ _ _ _ _ mask0_apply 1792 1280 (by norm_num) (by norm_num) (by norm_num) r c
theorem sb14_6_at (r c : Fin 256) : (sb14_6 (F := Ideal) i arg2 harg2 arg3 harg3 arg5 harg5 x0 x1 x3 (ix2 r c) : EReal) = (sR i x0 x1 x3 0 1792) r (1536 + c.val) :=
  scoreOff_at _ _ _ _ _ _ _ _ _ _ _ _ mask0_apply 1792 1536 (by norm_num) (by norm_num) (by norm_num) r c
theorem sb14_7_at (r c : Fin 256) : (sb14_7 (F := Ideal) i arg2 harg2 arg3 harg3 arg5 harg5 x0 x1 x3 (ix2 r c) : EReal) = (sR i x0 x1 x3 0 1792) r (1792 + c.val) :=
  scoreDiag_at _ _ _ _ _ _ _ _ _ _ _ _ mask0_apply 1792 (by norm_num) (by norm_num) (by norm_num) r c
theorem sb15_0_at (r c : Fin 256) : (sb15_0 (F := Ideal) i arg2 harg2 arg3 harg3 arg5 harg5 x0 x1 x3 (ix2 r c) : EReal) = (sR i x0 x1 x3 1 1792) r (0 + c.val) :=
  scoreOff_at _ _ _ _ _ _ _ _ _ _ _ _ mask1_apply 1792 0 (by norm_num) (by norm_num) (by norm_num) r c
theorem sb15_1_at (r c : Fin 256) : (sb15_1 (F := Ideal) i arg2 harg2 arg3 harg3 arg5 harg5 x0 x1 x3 (ix2 r c) : EReal) = (sR i x0 x1 x3 1 1792) r (256 + c.val) :=
  scoreOff_at _ _ _ _ _ _ _ _ _ _ _ _ mask1_apply 1792 256 (by norm_num) (by norm_num) (by norm_num) r c
theorem sb15_2_at (r c : Fin 256) : (sb15_2 (F := Ideal) i arg2 harg2 arg3 harg3 arg5 harg5 x0 x1 x3 (ix2 r c) : EReal) = (sR i x0 x1 x3 1 1792) r (512 + c.val) :=
  scoreOff_at _ _ _ _ _ _ _ _ _ _ _ _ mask1_apply 1792 512 (by norm_num) (by norm_num) (by norm_num) r c
theorem sb15_3_at (r c : Fin 256) : (sb15_3 (F := Ideal) i arg2 harg2 arg3 harg3 arg5 harg5 x0 x1 x3 (ix2 r c) : EReal) = (sR i x0 x1 x3 1 1792) r (768 + c.val) :=
  scoreOff_at _ _ _ _ _ _ _ _ _ _ _ _ mask1_apply 1792 768 (by norm_num) (by norm_num) (by norm_num) r c
theorem sb15_4_at (r c : Fin 256) : (sb15_4 (F := Ideal) i arg2 harg2 arg3 harg3 arg5 harg5 x0 x1 x3 (ix2 r c) : EReal) = (sR i x0 x1 x3 1 1792) r (1024 + c.val) :=
  scoreOff_at _ _ _ _ _ _ _ _ _ _ _ _ mask1_apply 1792 1024 (by norm_num) (by norm_num) (by norm_num) r c
theorem sb15_5_at (r c : Fin 256) : (sb15_5 (F := Ideal) i arg2 harg2 arg3 harg3 arg5 harg5 x0 x1 x3 (ix2 r c) : EReal) = (sR i x0 x1 x3 1 1792) r (1280 + c.val) :=
  scoreOff_at _ _ _ _ _ _ _ _ _ _ _ _ mask1_apply 1792 1280 (by norm_num) (by norm_num) (by norm_num) r c
theorem sb15_6_at (r c : Fin 256) : (sb15_6 (F := Ideal) i arg2 harg2 arg3 harg3 arg5 harg5 x0 x1 x3 (ix2 r c) : EReal) = (sR i x0 x1 x3 1 1792) r (1536 + c.val) :=
  scoreOff_at _ _ _ _ _ _ _ _ _ _ _ _ mask1_apply 1792 1536 (by norm_num) (by norm_num) (by norm_num) r c
theorem sb15_7_at (r c : Fin 256) : (sb15_7 (F := Ideal) i arg2 harg2 arg3 harg3 arg5 harg5 x0 x1 x3 (ix2 r c) : EReal) = (sR i x0 x1 x3 1 1792) r (1792 + c.val) :=
  scoreDiag_at _ _ _ _ _ _ _ _ _ _ _ _ mask1_apply 1792 (by norm_num) (by norm_num) (by norm_num) r c
theorem holds0_0 : Holds (st0 (F := Ideal) i arg2 harg2 arg3 harg3 arg5 harg5 x0 x1 x3) 0 256 (by norm_num) (sR i x0 x1 x3 0 0) :=
  holds_same (holds_zero _ _ _ _) (sb0_0_at i arg2 harg2 arg3 harg3 arg5 harg5 x0 x1 x3)
theorem holds0_1 : Holds (st1 (F := Ideal) i arg2 harg2 arg3 harg3 arg5 harg5 x0 x1 x3) 0 256 (by norm_num) (sR i x0 x1 x3 0 0) :=
  holds_other (by norm_num) (holds0_0 i arg2 harg2 arg3 harg3 arg5 harg5 x0 x1 x3)
theorem holds1_1 : Holds (st1 (F := Ideal) i arg2 harg2 arg3 harg3 arg5 harg5 x0 x1 x3) 1 256 (by norm_num) (sR i x0 x1 x3 1 0) :=
  holds_same (holds_zero _ _ _ _) (sb1_0_at i arg2 harg2 arg3 harg3 arg5 harg5 x0 x1 x3)
theorem holds0_2 : Holds (st2 (F := Ideal) i arg2 harg2 arg3 harg3 arg5 harg5 x0 x1 x3) 0 256 (by norm_num) (sR i x0 x1 x3 0 0) :=
  holds_other (by norm_num) (holds_other (by norm_num) (holds0_1 i arg2 harg2 arg3 harg3 arg5 harg5 x0 x1 x3))
theorem holds1_2 : Holds (st2 (F := Ideal) i arg2 harg2 arg3 harg3 arg5 harg5 x0 x1 x3) 1 256 (by norm_num) (sR i x0 x1 x3 1 0) :=
  holds_other (by norm_num) (holds_other (by norm_num) (holds1_1 i arg2 harg2 arg3 harg3 arg5 harg5 x0 x1 x3))
theorem holds2_2 : Holds (st2 (F := Ideal) i arg2 harg2 arg3 harg3 arg5 harg5 x0 x1 x3) 2 512 (by norm_num) (sR i x0 x1 x3 0 256) :=
  holds_same (holds_same (holds_zero _ _ _ _) (sb2_0_at i arg2 harg2 arg3 harg3 arg5 harg5 x0 x1 x3)) (sb2_1_at i arg2 harg2 arg3 harg3 arg5 harg5 x0 x1 x3)
theorem holds0_3 : Holds (st3 (F := Ideal) i arg2 harg2 arg3 harg3 arg5 harg5 x0 x1 x3) 0 256 (by norm_num) (sR i x0 x1 x3 0 0) :=
  holds_other (by norm_num) (holds_other (by norm_num) (holds0_2 i arg2 harg2 arg3 harg3 arg5 harg5 x0 x1 x3))
theorem holds1_3 : Holds (st3 (F := Ideal) i arg2 harg2 arg3 harg3 arg5 harg5 x0 x1 x3) 1 256 (by norm_num) (sR i x0 x1 x3 1 0) :=
  holds_other (by norm_num) (holds_other (by norm_num) (holds1_2 i arg2 harg2 arg3 harg3 arg5 harg5 x0 x1 x3))
theorem holds2_3 : Holds (st3 (F := Ideal) i arg2 harg2 arg3 harg3 arg5 harg5 x0 x1 x3) 2 512 (by norm_num) (sR i x0 x1 x3 0 256) :=
  holds_other (by norm_num) (holds_other (by norm_num) (holds2_2 i arg2 harg2 arg3 harg3 arg5 harg5 x0 x1 x3))
theorem holds3_3 : Holds (st3 (F := Ideal) i arg2 harg2 arg3 harg3 arg5 harg5 x0 x1 x3) 3 512 (by norm_num) (sR i x0 x1 x3 1 256) :=
  holds_same (holds_same (holds_zero _ _ _ _) (sb3_0_at i arg2 harg2 arg3 harg3 arg5 harg5 x0 x1 x3)) (sb3_1_at i arg2 harg2 arg3 harg3 arg5 harg5 x0 x1 x3)
theorem holds1_4 : Holds (st4 (F := Ideal) i arg2 harg2 arg3 harg3 arg5 harg5 x0 x1 x3) 1 256 (by norm_num) (sR i x0 x1 x3 1 0) :=
  holds_other (by norm_num) (holds_other (by norm_num) (holds_other (by norm_num) (holds1_3 i arg2 harg2 arg3 harg3 arg5 harg5 x0 x1 x3)))
theorem holds2_4 : Holds (st4 (F := Ideal) i arg2 harg2 arg3 harg3 arg5 harg5 x0 x1 x3) 2 512 (by norm_num) (sR i x0 x1 x3 0 256) :=
  holds_other (by norm_num) (holds_other (by norm_num) (holds_other (by norm_num) (holds2_3 i arg2 harg2 arg3 harg3 arg5 harg5 x0 x1 x3)))
theorem holds3_4 : Holds (st4 (F := Ideal) i arg2 harg2 arg3 harg3 arg5 harg5 x0 x1 x3) 3 512 (by norm_num) (sR i x0 x1 x3 1 256) :=
  holds_other (by norm_num) (holds_other (by norm_num) (holds_other (by norm_num) (holds3_3 i arg2 harg2 arg3 harg3 arg5 harg5 x0 x1 x3)))
theorem holds4_4 : Holds (st4 (F := Ideal) i arg2 harg2 arg3 harg3 arg5 harg5 x0 x1 x3) 0 768 (by norm_num) (sR i x0 x1 x3 0 512) :=
  holds_same (holds_same (holds_same (holds_zero _ _ _ _) (sb4_0_at i arg2 harg2 arg3 harg3 arg5 harg5 x0 x1 x3)) (sb4_1_at i arg2 harg2 arg3 harg3 arg5 harg5 x0 x1 x3)) (sb4_2_at i arg2 harg2 arg3 harg3 arg5 harg5 x0 x1 x3)
theorem holds2_5 : Holds (st5 (F := Ideal) i arg2 harg2 arg3 harg3 arg5 harg5 x0 x1 x3) 2 512 (by norm_num) (sR i x0 x1 x3 0 256) :=
  holds_other (by norm_num) (holds_other (by norm_num) (holds_other (by norm_num) (holds2_4 i arg2 harg2 arg3 harg3 arg5 harg5 x0 x1 x3)))
theorem holds3_5 : Holds (st5 (F := Ideal) i arg2 harg2 arg3 harg3 arg5 harg5 x0 x1 x3) 3 512 (by norm_num) (sR i x0 x1 x3 1 256) :=
  holds_other (by norm_num) (holds_other (by norm_num) (holds_other (by norm_num) (holds3_4 i arg2 harg2 arg3 harg3 arg5 harg5 x0 x1 x3)))
theorem holds4_5 : Holds (st5 (F := Ideal) i arg2 harg2 arg3 harg3 arg5 harg5 x0 x1 x3) 0 768 (by norm_num) (sR i x0 x1 x3 0 512) :=
  holds_other (by norm_num) (holds_other (by norm_num) (holds_other (by norm_num) (holds4_4 i arg2 harg2 arg3 harg3 arg5 harg5 x0 x1 x3)))
theorem holds5_5 : Holds (st5 (F := Ideal) i arg2 harg2 arg3 harg3 arg5 harg5 x0 x1 x3) 1 768 (by norm_num) (sR i x0 x1 x3 1 512) :=
  holds_same (holds_same (holds_same (holds_zero _ _ _ _) (sb5_0_at i arg2 harg2 arg3 harg3 arg5 harg5 x0 x1 x3)) (sb5_1_at i arg2 harg2 arg3 harg3 arg5 harg5 x0 x1 x3)) (sb5_2_at i arg2 harg2 arg3 harg3 arg5 harg5 x0 x1 x3)
theorem holds3_6 : Holds (st6 (F := Ideal) i arg2 harg2 arg3 harg3 arg5 harg5 x0 x1 x3) 3 512 (by norm_num) (sR i x0 x1 x3 1 256) :=
  holds_other (by norm_num) (holds_other (by norm_num) (holds_other (by norm_num) (holds_other (by norm_num) (holds3_5 i arg2 harg2 arg3 harg3 arg5 harg5 x0 x1 x3))))
theorem holds4_6 : Holds (st6 (F := Ideal) i arg2 harg2 arg3 harg3 arg5 harg5 x0 x1 x3) 0 768 (by norm_num) (sR i x0 x1 x3 0 512) :=
  holds_other (by norm_num) (holds_other (by norm_num) (holds_other (by norm_num) (holds_other (by norm_num) (holds4_5 i arg2 harg2 arg3 harg3 arg5 harg5 x0 x1 x3))))
theorem holds5_6 : Holds (st6 (F := Ideal) i arg2 harg2 arg3 harg3 arg5 harg5 x0 x1 x3) 1 768 (by norm_num) (sR i x0 x1 x3 1 512) :=
  holds_other (by norm_num) (holds_other (by norm_num) (holds_other (by norm_num) (holds_other (by norm_num) (holds5_5 i arg2 harg2 arg3 harg3 arg5 harg5 x0 x1 x3))))
theorem holds6_6 : Holds (st6 (F := Ideal) i arg2 harg2 arg3 harg3 arg5 harg5 x0 x1 x3) 2 1024 (by norm_num) (sR i x0 x1 x3 0 768) :=
  holds_same (holds_same (holds_same (holds_same (holds_zero _ _ _ _) (sb6_0_at i arg2 harg2 arg3 harg3 arg5 harg5 x0 x1 x3)) (sb6_1_at i arg2 harg2 arg3 harg3 arg5 harg5 x0 x1 x3)) (sb6_2_at i arg2 harg2 arg3 harg3 arg5 harg5 x0 x1 x3)) (sb6_3_at i arg2 harg2 arg3 harg3 arg5 harg5 x0 x1 x3)
theorem holds4_7 : Holds (st7 (F := Ideal) i arg2 harg2 arg3 harg3 arg5 harg5 x0 x1 x3) 0 768 (by norm_num) (sR i x0 x1 x3 0 512) :=
  holds_other (by norm_num) (holds_other (by norm_num) (holds_other (by norm_num) (holds_other (by norm_num) (holds4_6 i arg2 harg2 arg3 harg3 arg5 harg5 x0 x1 x3))))
theorem holds5_7 : Holds (st7 (F := Ideal) i arg2 harg2 arg3 harg3 arg5 harg5 x0 x1 x3) 1 768 (by norm_num) (sR i x0 x1 x3 1 512) :=
  holds_other (by norm_num) (holds_other (by norm_num) (holds_other (by norm_num) (holds_other (by norm_num) (holds5_6 i arg2 harg2 arg3 harg3 arg5 harg5 x0 x1 x3))))
theorem holds6_7 : Holds (st7 (F := Ideal) i arg2 harg2 arg3 harg3 arg5 harg5 x0 x1 x3) 2 1024 (by norm_num) (sR i x0 x1 x3 0 768) :=
  holds_other (by norm_num) (holds_other (by norm_num) (holds_other (by norm_num) (holds_other (by norm_num) (holds6_6 i arg2 harg2 arg3 harg3 arg5 harg5 x0 x1 x3))))
theorem holds7_7 : Holds (st7 (F := Ideal) i arg2 harg2 arg3 harg3 arg5 harg5 x0 x1 x3) 3 1024 (by norm_num) (sR i x0 x1 x3 1 768) :=
  holds_same (holds_same (holds_same (holds_same (holds_zero _ _ _ _) (sb7_0_at i arg2 harg2 arg3 harg3 arg5 harg5 x0 x1 x3)) (sb7_1_at i arg2 harg2 arg3 harg3 arg5 harg5 x0 x1 x3)) (sb7_2_at i arg2 harg2 arg3 harg3 arg5 harg5 x0 x1 x3)) (sb7_3_at i arg2 harg2 arg3 harg3 arg5 harg5 x0 x1 x3)
theorem holds5_8 : Holds (st8 (F := Ideal) i arg2 harg2 arg3 harg3 arg5 harg5 x0 x1 x3) 1 768 (by norm_num) (sR i x0 x1 x3 1 512) :=
  holds_other (by norm_num) (holds_other (by norm_num) (holds_other (by norm_num) (holds_other (by norm_num) (holds_other (by norm_num) (holds5_7 i arg2 harg2 arg3 harg3 arg5 harg5 x0 x1 x3)))))
theorem holds6_8 : Holds (st8 (F := Ideal) i arg2 harg2 arg3 harg3 arg5 harg5 x0 x1 x3) 2 1024 (by norm_num) (sR i x0 x1 x3 0 768) :=
  holds_other (by norm_num) (holds_other (by norm_num) (holds_other (by norm_num) (holds_other (by norm_num) (holds_other (by norm_num) (holds6_7 i arg2 harg2 arg3 harg3 arg5 harg5 x0 x1 x3)))))
theorem holds7_8 : Holds (st8 (F := Ideal) i arg2 harg2 arg3 harg3 arg5 harg5 x0 x1 x3) 3 1024 (by norm_num) (sR i x0 x1 x3 1 768) :=
  holds_other (by norm_num) (holds_other (by norm_num) (holds_other (by norm_num) (holds_other (by norm_num) (holds_other (by norm_num) (holds7_7 i arg2 harg2 arg3 harg3 arg5 harg5 x0 x1 x3)))))
theorem holds8_8 : Holds (st8 (F := Ideal) i arg2 harg2 arg3 harg3 arg5 harg5 x0 x1 x3) 0 1280 (by norm_num) (sR i x0 x1 x3 0 1024) :=
  holds_same (holds_same (holds_same (holds_same (holds_same (holds_zero _ _ _ _) (sb8_0_at i arg2 harg2 arg3 harg3 arg5 harg5 x0 x1 x3)) (sb8_1_at i arg2 harg2 arg3 harg3 arg5 harg5 x0 x1 x3)) (sb8_2_at i arg2 harg2 arg3 harg3 arg5 harg5 x0 x1 x3)) (sb8_3_at i arg2 harg2 arg3 harg3 arg5 harg5 x0 x1 x3)) (sb8_4_at i arg2 harg2 arg3 harg3 arg5 harg5 x0 x1 x3)
theorem holds6_9 : Holds (st9 (F := Ideal) i arg2 harg2 arg3 harg3 arg5 harg5 x0 x1 x3) 2 1024 (by norm_num) (sR i x0 x1 x3 0 768) :=
  holds_other (by norm_num) (holds_other (by norm_num) (holds_other (by norm_num) (holds_other (by norm_num) (holds_other (by norm_num) (holds6_8 i arg2 harg2 arg3 harg3 arg5 harg5 x0 x1 x3)))))
theorem holds7_9 : Holds (st9 (F := Ideal) i arg2 harg2 arg3 harg3 arg5 harg5 x0 x1 x3) 3 1024 (by norm_num) (sR i x0 x1 x3 1 768) :=
  holds_other (by norm_num) (holds_other (by norm_num) (holds_other (by norm_num) (holds_other (by norm_num) (holds_other (by norm_num) (holds7_8 i arg2 harg2 arg3 harg3 arg5 harg5 x0 x1 x3)))))
theorem holds8_9 : Holds (st9 (F := Ideal) i arg2 harg2 arg3 harg3 arg5 harg5 x0 x1 x3) 0 1280 (by norm_num) (sR i x0 x1 x3 0 1024) :=
  holds_other (by norm_num) (holds_other (by norm_num) (holds_other (by norm_num) (holds_other (by norm_num) (holds_other (by norm_num) (holds8_8 i arg2 harg2 arg3 harg3 arg5 harg5 x0 x1 x3)))))
theorem holds9_9 : Holds (st9 (F := Ideal) i arg2 harg2 arg3 harg3 arg5 harg5 x0 x1 x3) 1 1280 (by norm_num) (sR i x0 x1 x3 1 1024) :=
  holds_same (holds_same (holds_same (holds_same (holds_same (holds_zero _ _ _ _) (sb9_0_at i arg2 harg2 arg3 harg3 arg5 harg5 x0 x1 x3)) (sb9_1_at i arg2 harg2 arg3 harg3 arg5 harg5 x0 x1 x3)) (sb9_2_at i arg2 harg2 arg3 harg3 arg5 harg5 x0 x1 x3)) (sb9_3_at i arg2 harg2 arg3 harg3 arg5 harg5 x0 x1 x3)) (sb9_4_at i arg2 harg2 arg3 harg3 arg5 harg5 x0 x1 x3)
theorem holds7_10 : Holds (st10 (F := Ideal) i arg2 harg2 arg3 harg3 arg5 harg5 x0 x1 x3) 3 1024 (by norm_num) (sR i x0 x1 x3 1 768) :=
  holds_other (by norm_num) (holds_other (by norm_num) (holds_other (by norm_num) (holds_other (by norm_num) (holds_other (by norm_num) (holds_other (by norm_num) (holds7_9 i arg2 harg2 arg3 harg3 arg5 harg5 x0 x1 x3))))))
theorem holds8_10 : Holds (st10 (F := Ideal) i arg2 harg2 arg3 harg3 arg5 harg5 x0 x1 x3) 0 1280 (by norm_num) (sR i x0 x1 x3 0 1024) :=
  holds_other (by norm_num) (holds_other (by norm_num) (holds_other (by norm_num) (holds_other (by norm_num) (holds_other (by norm_num) (holds_other (by norm_num) (holds8_9 i arg2 harg2 arg3 harg3 arg5 harg5 x0 x1 x3))))))
theorem holds9_10 : Holds (st10 (F := Ideal) i arg2 harg2 arg3 harg3 arg5 harg5 x0 x1 x3) 1 1280 (by norm_num) (sR i x0 x1 x3 1 1024) :=
  holds_other (by norm_num) (holds_other (by norm_num) (holds_other (by norm_num) (holds_other (by norm_num) (holds_other (by norm_num) (holds_other (by norm_num) (holds9_9 i arg2 harg2 arg3 harg3 arg5 harg5 x0 x1 x3))))))
theorem holds10_10 : Holds (st10 (F := Ideal) i arg2 harg2 arg3 harg3 arg5 harg5 x0 x1 x3) 2 1536 (by norm_num) (sR i x0 x1 x3 0 1280) :=
  holds_same (holds_same (holds_same (holds_same (holds_same (holds_same (holds_zero _ _ _ _) (sb10_0_at i arg2 harg2 arg3 harg3 arg5 harg5 x0 x1 x3)) (sb10_1_at i arg2 harg2 arg3 harg3 arg5 harg5 x0 x1 x3)) (sb10_2_at i arg2 harg2 arg3 harg3 arg5 harg5 x0 x1 x3)) (sb10_3_at i arg2 harg2 arg3 harg3 arg5 harg5 x0 x1 x3)) (sb10_4_at i arg2 harg2 arg3 harg3 arg5 harg5 x0 x1 x3)) (sb10_5_at i arg2 harg2 arg3 harg3 arg5 harg5 x0 x1 x3)
theorem holds8_11 : Holds (st11 (F := Ideal) i arg2 harg2 arg3 harg3 arg5 harg5 x0 x1 x3) 0 1280 (by norm_num) (sR i x0 x1 x3 0 1024) :=
  holds_other (by norm_num) (holds_other (by norm_num) (holds_other (by norm_num) (holds_other (by norm_num) (holds_other (by norm_num) (holds_other (by norm_num) (holds8_10 i arg2 harg2 arg3 harg3 arg5 harg5 x0 x1 x3))))))
theorem holds9_11 : Holds (st11 (F := Ideal) i arg2 harg2 arg3 harg3 arg5 harg5 x0 x1 x3) 1 1280 (by norm_num) (sR i x0 x1 x3 1 1024) :=
  holds_other (by norm_num) (holds_other (by norm_num) (holds_other (by norm_num) (holds_other (by norm_num) (holds_other (by norm_num) (holds_other (by norm_num) (holds9_10 i arg2 harg2 arg3 harg3 arg5 harg5 x0 x1 x3))))))
theorem holds10_11 : Holds (st11 (F := Ideal) i arg2 harg2 arg3 harg3 arg5 harg5 x0 x1 x3) 2 1536 (by norm_num) (sR i x0 x1 x3 0 1280) :=
  holds_other (by norm_num) (holds_other (by norm_num) (holds_other (by norm_num) (holds_other (by norm_num) (holds_other (by norm_num) (holds_other (by norm_num) (holds10_10 i arg2 harg2 arg3 harg3 arg5 harg5 x0 x1 x3))))))
theorem holds11_11 : Holds (st11 (F := Ideal) i arg2 harg2 arg3 harg3 arg5 harg5 x0 x1 x3) 3 1536 (by norm_num) (sR i x0 x1 x3 1 1280) :=
  holds_same (holds_same (holds_same (holds_same (holds_same (holds_same (holds_zero _ _ _ _) (sb11_0_at i arg2 harg2 arg3 harg3 arg5 harg5 x0 x1 x3)) (sb11_1_at i arg2 harg2 arg3 harg3 arg5 harg5 x0 x1 x3)) (sb11_2_at i arg2 harg2 arg3 harg3 arg5 harg5 x0 x1 x3)) (sb11_3_at i arg2 harg2 arg3 harg3 arg5 harg5 x0 x1 x3)) (sb11_4_at i arg2 harg2 arg3 harg3 arg5 harg5 x0 x1 x3)) (sb11_5_at i arg2 harg2 arg3 harg3 arg5 harg5 x0 x1 x3)
theorem holds9_12 : Holds (st12 (F := Ideal) i arg2 harg2 arg3 harg3 arg5 harg5 x0 x1 x3) 1 1280 (by norm_num) (sR i x0 x1 x3 1 1024) :=
  holds_other (by norm_num) (holds_other (by norm_num) (holds_other (by norm_num) (holds_other (by norm_num) (holds_other (by norm_num) (holds_other (by norm_num) (holds_other (by norm_num) (holds9_11 i arg2 harg2 arg3 harg3 arg5 harg5 x0 x1 x3)))))))
theorem holds10_12 : Holds (st12 (F := Ideal) i arg2 harg2 arg3 harg3 arg5 harg5 x0 x1 x3) 2 1536 (by norm_num) (sR i x0 x1 x3 0 1280) :=
  holds_other (by norm_num) (holds_other (by norm_num) (holds_other (by norm_num) (holds_other (by norm_num) (holds_other (by norm_num) (holds_other (by norm_num) (holds_other (by norm_num) (holds10_11 i arg2 harg2 arg3 harg3 arg5 harg5 x0 x1 x3)))))))
theorem holds11_12 : Holds (st12 (F := Ideal) i arg2 harg2 arg3 harg3 arg5 harg5 x0 x1 x3) 3 1536 (by norm_num) (sR i x0 x1 x3 1 1280) :=
  holds_other (by norm_num) (holds_other (by norm_num) (holds_other (by norm_num) (holds_other (by norm_num) (holds_other (by norm_num) (holds_other (by norm_num) (holds_other (by norm_num) (holds11_11 i arg2 harg2 arg3 harg3 arg5 harg5 x0 x1 x3)))))))
theorem holds12_12 : Holds (st12 (F := Ideal) i arg2 harg2 arg3 harg3 arg5 harg5 x0 x1 x3) 0 1792 (by norm_num) (sR i x0 x1 x3 0 1536) :=
  holds_same (holds_same (holds_same (holds_same (holds_same (holds_same (holds_same (holds_zero _ _ _ _) (sb12_0_at i arg2 harg2 arg3 harg3 arg5 harg5 x0 x1 x3)) (sb12_1_at i arg2 harg2 arg3 harg3 arg5 harg5 x0 x1 x3)) (sb12_2_at i arg2 harg2 arg3 harg3 arg5 harg5 x0 x1 x3)) (sb12_3_at i arg2 harg2 arg3 harg3 arg5 harg5 x0 x1 x3)) (sb12_4_at i arg2 harg2 arg3 harg3 arg5 harg5 x0 x1 x3)) (sb12_5_at i arg2 harg2 arg3 harg3 arg5 harg5 x0 x1 x3)) (sb12_6_at i arg2 harg2 arg3 harg3 arg5 harg5 x0 x1 x3)
theorem holds10_13 : Holds (st13 (F := Ideal) i arg2 harg2 arg3 harg3 arg5 harg5 x0 x1 x3) 2 1536 (by norm_num) (sR i x0 x1 x3 0 1280) :=
  holds_other (by norm_num) (holds_other (by norm_num) (holds_other (by norm_num) (holds_other (by norm_num) (holds_other (by norm_num) (holds_other (by norm_num) (holds_other (by norm_num) (holds10_12 i arg2 harg2 arg3 harg3 arg5 harg5 x0 x1 x3)))))))
theorem holds11_13 : Holds (st13 (F := Ideal) i arg2 harg2 arg3 harg3 arg5 harg5 x0 x1 x3) 3 1536 (by norm_num) (sR i x0 x1 x3 1 1280) :=
  holds_other (by norm_num) (holds_other (by norm_num) (holds_other (by norm_num) (holds_other (by norm_num) (holds_other (by norm_num) (holds_other (by norm_num) (holds_other (by norm_num) (holds11_12 i arg2 harg2 arg3 harg3 arg5 harg5 x0 x1 x3)))))))
theorem holds12_13 : Holds (st13 (F := Ideal) i arg2 harg2 arg3 harg3 arg5 harg5 x0 x1 x3) 0 1792 (by norm_num) (sR i x0 x1 x3 0 1536) :=
  holds_other (by norm_num) (holds_other (by norm_num) (holds_other (by norm_num) (holds_other (by norm_num) (holds_other (by norm_num) (holds_other (by norm_num) (holds_other (by norm_num) (holds12_12 i arg2 harg2 arg3 harg3 arg5 harg5 x0 x1 x3)))))))
theorem holds13_13 : Holds (st13 (F := Ideal) i arg2 harg2 arg3 harg3 arg5 harg5 x0 x1 x3) 1 1792 (by norm_num) (sR i x0 x1 x3 1 1536) :=
  holds_same (holds_same (holds_same (holds_same (holds_same (holds_same (holds_same (holds_zero _ _ _ _) (sb13_0_at i arg2 harg2 arg3 harg3 arg5 harg5 x0 x1 x3)) (sb13_1_at i arg2 harg2 arg3 harg3 arg5 harg5 x0 x1 x3)) (sb13_2_at i arg2 harg2 arg3 harg3 arg5 harg5 x0 x1 x3)) (sb13_3_at i arg2 harg2 arg3 harg3 arg5 harg5 x0 x1 x3)) (sb13_4_at i arg2 harg2 arg3 harg3 arg5 harg5 x0 x1 x3)) (sb13_5_at i arg2 harg2 arg3 harg3 arg5 harg5 x0 x1 x3)) (sb13_6_at i arg2 harg2 arg3 harg3 arg5 harg5 x0 x1 x3)
theorem holds11_14 : Holds (st14 (F := Ideal) i arg2 harg2 arg3 harg3 arg5 harg5 x0 x1 x3) 3 1536 (by norm_num) (sR i x0 x1 x3 1 1280) :=
  holds_other (by norm_num) (holds_other (by norm_num) (holds_other (by norm_num) (holds_other (by norm_num) (holds_other (by norm_num) (holds_other (by norm_num) (holds_other (by norm_num) (holds_other (by norm_num) (holds11_13 i arg2 harg2 arg3 harg3 arg5 harg5 x0 x1 x3))))))))
theorem holds12_14 : Holds (st14 (F := Ideal) i arg2 harg2 arg3 harg3 arg5 harg5 x0 x1 x3) 0 1792 (by norm_num) (sR i x0 x1 x3 0 1536) :=
  holds_other (by norm_num) (holds_other (by norm_num) (holds_other (by norm_num) (holds_other (by norm_num) (holds_other (by norm_num) (holds_other (by norm_num) (holds_other (by norm_num) (holds_other (by norm_num) (holds12_13 i arg2 harg2 arg3 harg3 arg5 harg5 x0 x1 x3))))))))
theorem holds13_14 : Holds (st14 (F := Ideal) i arg2 harg2 arg3 harg3 arg5 harg5 x0 x1 x3) 1 1792 (by norm_num) (sR i x0 x1 x3 1 1536) :=
  holds_other (by norm_num) (holds_other (by norm_num) (holds_other (by norm_num) (holds_other (by norm_num) (holds_other (by norm_num) (holds_other (by norm_num) (holds_other (by norm_num) (holds_other (by norm_num) (holds13_13 i arg2 harg2 arg3 harg3 arg5 harg5 x0 x1 x3))))))))
theorem holds14_14 : Holds (st14 (F := Ideal) i arg2 harg2 arg3 harg3 arg5 harg5 x0 x1 x3) 2 2048 (by norm_num) (sR i x0 x1 x3 0 1792) :=
  holds_same (holds_same (holds_same (holds_same (holds_same (holds_same (holds_same (holds_same (holds_zero _ _ _ _) (sb14_0_at i arg2 harg2 arg3 harg3 arg5 harg5 x0 x1 x3)) (sb14_1_at i arg2 harg2 arg3 harg3 arg5 harg5 x0 x1 x3)) (sb14_2_at i arg2 harg2 arg3 harg3 arg5 harg5 x0 x1 x3)) (sb14_3_at i arg2 harg2 arg3 harg3 arg5 harg5 x0 x1 x3)) (sb14_4_at i arg2 harg2 arg3 harg3 arg5 harg5 x0 x1 x3)) (sb14_5_at i arg2 harg2 arg3 harg3 arg5 harg5 x0 x1 x3)) (sb14_6_at i arg2 harg2 arg3 harg3 arg5 harg5 x0 x1 x3)) (sb14_7_at i arg2 harg2 arg3 harg3 arg5 harg5 x0 x1 x3)
theorem holds12_15 : Holds (st15 (F := Ideal) i arg2 harg2 arg3 harg3 arg5 harg5 x0 x1 x3) 0 1792 (by norm_num) (sR i x0 x1 x3 0 1536) :=
  holds_other (by norm_num) (holds_other (by norm_num) (holds_other (by norm_num) (holds_other (by norm_num) (holds_other (by norm_num) (holds_other (by norm_num) (holds_other (by norm_num) (holds_other (by norm_num) (holds12_14 i arg2 harg2 arg3 harg3 arg5 harg5 x0 x1 x3))))))))
theorem holds13_15 : Holds (st15 (F := Ideal) i arg2 harg2 arg3 harg3 arg5 harg5 x0 x1 x3) 1 1792 (by norm_num) (sR i x0 x1 x3 1 1536) :=
  holds_other (by norm_num) (holds_other (by norm_num) (holds_other (by norm_num) (holds_other (by norm_num) (holds_other (by norm_num) (holds_other (by norm_num) (holds_other (by norm_num) (holds_other (by norm_num) (holds13_14 i arg2 harg2 arg3 harg3 arg5 harg5 x0 x1 x3))))))))
theorem holds14_15 : Holds (st15 (F := Ideal) i arg2 harg2 arg3 harg3 arg5 harg5 x0 x1 x3) 2 2048 (by norm_num) (sR i x0 x1 x3 0 1792) :=
  holds_other (by norm_num) (holds_other (by norm_num) (holds_other (by norm_num) (holds_other (by norm_num) (holds_other (by norm_num) (holds_other (by norm_num) (holds_other (by norm_num) (holds_other (by norm_num) (holds14_14 i arg2 harg2 arg3 harg3 arg5 harg5 x0 x1 x3))))))))
theorem holds15_15 : Holds (st15 (F := Ideal) i arg2 harg2 arg3 harg3 arg5 harg5 x0 x1 x3) 3 2048 (by norm_num) (sR i x0 x1 x3 1 1792) :=
  holds_same (holds_same (holds_same (holds_same (holds_same (holds_same (holds_same (holds_same (holds_zero _ _ _ _) (sb15_0_at i arg2 harg2 arg3 harg3 arg5 harg5 x0 x1 x3)) (sb15_1_at i arg2 harg2 arg3 harg3 arg5 harg5 x0 x1 x3)) (sb15_2_at i arg2 harg2 arg3 harg3 arg5 harg5 x0 x1 x3)) (sb15_3_at i arg2 harg2 arg3 harg3 arg5 harg5 x0 x1 x3)) (sb15_4_at i arg2 harg2 arg3 harg3 arg5 harg5 x0 x1 x3)) (sb15_5_at i arg2 harg2 arg3 harg3 arg5 harg5 x0 x1 x3)) (sb15_6_at i arg2 harg2 arg3 harg3 arg5 harg5 x0 x1 x3)) (sb15_7_at i arg2 harg2 arg3 harg3 arg5 harg5 x0 x1 x3)

section Real
variable {A0 A1 : Fin 2048 → Fin 2048 → ℝ} {Q0 Q1 : Fin 2048 → ℝ}
variable (hl0 : LgIs (headNo i (BitVec.ofNat 32 0)) 0 x0 x1 x3 A0 Q0) (hl1 : LgIs (headNo i (BitVec.ofNat 32 1)) 1 x0 x1 x3 A1 Q1)
include hl0 in
theorem mx0_real : ∃ M : Fin 256 → ℝ, ∀ (r : Fin 256) (c : Fin 128), mx0 (F := Ideal) i arg2 harg2 arg3 harg3 arg5 harg5 x0 x1 x3 (ix2 r c) = ((M r : ℝ) : EReal) := by
  unfold mx0
  exact mxRow_real (noTop_init (fun r c => by rw [sb0_0_at]; exact sN_lt_top hl0 _ _)) (rowReal_init (fun r => by rw [sb0_0_at]; exact bot_lt_sN hl0 _ (by omega)))
include hl1 in
theorem mx1_real : ∃ M : Fin 256 → ℝ, ∀ (r : Fin 256) (c : Fin 128), mx1 (F := Ideal) i arg2 harg2 arg3 harg3 arg5 harg5 x0 x1 x3 (ix2 r c) = ((M r : ℝ) : EReal) := by
  unfold mx1
  exact mxRow_real (noTop_init (fun r c => by rw [sb1_0_at]; exact sN_lt_top hl1 _ _)) (rowReal_init (fun r => by rw [sb1_0_at]; exact bot_lt_sN hl1 _ (by omega)))
include hl0 in
theorem mx2_real : ∃ M : Fin 256 → ℝ, ∀ (r : Fin 256) (c : Fin 128), mx2 (F := Ideal) i arg2 harg2 arg3 harg3 arg5 harg5 x0 x1 x3 (ix2 r c) = ((M r : ℝ) : EReal) := by
  unfold mx2
  exact mxRow_real (noTop_step (noTop_init (fun r c => by rw [sb2_0_at]; exact sN_lt_top hl0 _ _)) (fun r c => by rw [sb2_1_at]; exact sN_lt_top hl0 _ _)) (rowReal_step (fun r => by rw [sb2_1_at]; exact bot_lt_sN hl0 _ (by omega)))
include hl1 in
theorem mx3_real : ∃ M : Fin 256 → ℝ, ∀ (r : Fin 256) (c : Fin 128), mx3 (F := Ideal) i arg2 harg2 arg3 harg3 arg5 harg5 x0 x1 x3 (ix2 r c) = ((M r : ℝ) : EReal) := by
  unfold mx3
  exact mxRow_real (noTop_step (noTop_init (fun r c => by rw [sb3_0_at]; exact sN_lt_top hl1 _ _)) (fun r c => by rw [sb3_1_at]; exact sN_lt_top hl1 _ _)) (rowReal_step (fun r => by rw [sb3_1_at]; exact bot_lt_sN hl1 _ (by omega)))
include hl0 in
theorem mx4_real : ∃ M : Fin 256 → ℝ, ∀ (r : Fin 256) (c : Fin 128), mx4 (F := Ideal) i arg2 harg2 arg3 harg3 arg5 harg5 x0 x1 x3 (ix2 r c) = ((M r : ℝ) : EReal) := by
  unfold mx4
  exact mxRow_real (noTop_step (noTop_step (noTop_init (fun r c => by rw [sb4_0_at]; exact sN_lt_top hl0 _ _)) (fun r c => by rw [sb4_1_at]; exact sN_lt_top hl0 _ _)) (fun r c => by rw [sb4_2_at]; exact sN_lt_top hl0 _ _)) (rowReal_step (fun r => by rw [sb4_2_at]; exact bot_lt_sN hl0 _ (by omega)))
include hl1 in
theorem mx5_real : ∃ M : Fin 256 → ℝ, ∀ (r : Fin 256) (c : Fin 128), mx5 (F := Ideal) i arg2 harg2 arg3 harg3 arg5 harg5 x0 x1 x3 (ix2 r c) = ((M r : ℝ) : EReal) := by
  unfold mx5
  exact mxRow_real (noTop_step (noTop_step (noTop_init (fun r c => by rw [sb5_0_at]; exact sN_lt_top hl1 _ _)) (fun r c => by rw [sb5_1_at]; exact sN_lt_top hl1 _ _)) (fun r c => by rw [sb5_2_at]; exact sN_lt_top hl1 _ _)) (rowReal_step (fun r => by rw [sb5_2_at]; exact bot_lt_sN hl1 _ (by omega)))
include hl0 in
theorem mx6_real : ∃ M : Fin 256 → ℝ, ∀ (r : Fin 256) (c : Fin 128), mx6 (F := Ideal) i arg2 harg2 arg3 harg3 arg5 harg5 x0 x1 x3 (ix2 r c) = ((M r : ℝ) : EReal) := by
  unfold mx6
  exact mxRow_real (noTop_step (noTop_step (noTop_step (noTop_init (fun r c => by rw [sb6_0_at]; exact sN_lt_top hl0 _ _)) (fun r c => by rw [sb6_1_at]; exact sN_lt_top hl0 _ _)) (fun r c => by rw [sb6_2_at]; exact sN_lt_top hl0 _ _)) (fun r c => by rw [sb6_3_at]; exact sN_lt_top hl0 _ _)) (rowReal_step (fun r => by rw [sb6_3_at]; exact bot_lt_sN hl0 _ (by omega)))
include hl1 in
theorem mx7_real : ∃ M : Fin 256 → ℝ, ∀ (r : Fin 256) (c : Fin 128), mx7 (F := Ideal) i arg2 harg2 arg3 harg3 arg5 harg5 x0 x1 x3 (ix2 r c) = ((M r : ℝ) : EReal) := by
  unfold mx7
  exact mxRow_real (noTop_step (noTop_step (noTop_step (noTop_init (fun r c => by rw [sb7_0_at]; exact sN_lt_top hl1 _ _)) (fun r c => by rw [sb7_1_at]; exact sN_lt_top hl1 _ _)) (fun r c => by rw [sb7_2_at]; exact sN_lt_top hl1 _ _)) (fun r c => by rw [sb7_3_at]; exact sN_lt_top hl1 _ _)) (rowReal_step (fun r => by rw [sb7_3_at]; exact bot_lt_sN hl1 _ (by omega)))
include hl0 in
theorem mx8_real : ∃ M : Fin 256 → ℝ, ∀ (r : Fin 256) (c : Fin 128), mx8 (F := Ideal) i arg2 harg2 arg3 harg3 arg5 harg5 x0 x1 x3 (ix2 r c) = ((M r : ℝ) : EReal) := by
  unfold mx8
  exact mxRow_real (noTop_step (noTop_step (noTop_step (noTop_step (noTop_init (fun r c => by rw [sb8_0_at]; exact sN_lt_top hl0 _ _)) (fun r c => by rw [sb8_1_at]; exact sN_lt_top hl0 _ _)) (fun r c => by rw [sb8_2_at]; exact sN_lt_top hl0 _ _)) (fun r c => by rw [sb8_3_at]; exact sN_lt_top hl0 _ _)) (fun r c => by rw [sb8_4_at]; exact sN_lt_top hl0 _ _)) (rowReal_step (fun r => by rw [sb8_4_at]; exact bot_lt_sN hl0 _ (by omega)))
include hl1 in
theorem mx9_real : ∃ M : Fin 256 → ℝ, ∀ (r : Fin 256) (c : Fin 128), mx9 (F := Ideal) i arg2 harg2 arg3 harg3 arg5 harg5 x0 x1 x3 (ix2 r c) = ((M r : ℝ) : EReal) := by
  unfold mx9
  exact mxRow_real (noTop_step (noTop_step (noTop_step (noTop_step (noTop_init (fun r c => by rw [sb9_0_at]; exact sN_lt_top hl1 _ _)) (fun r c => by rw [sb9_1_at]; exact sN_lt_top hl1 _ _)) (fun r c => by rw [sb9_2_at]; exact sN_lt_top hl1 _ _)) (fun r c => by rw [sb9_3_at]; exact sN_lt_top hl1 _ _)) (fun r c => by rw [sb9_4_at]; exact sN_lt_top hl1 _ _)) (rowReal_step (fun r => by rw [sb9_4_at]; exact bot_lt_sN hl1 _ (by omega)))
include hl0 in
theorem mx10_real : ∃ M : Fin 256 → ℝ, ∀ (r : Fin 256) (c : Fin 128), mx10 (F := Ideal) i arg2 harg2 arg3 harg3 arg5 harg5 x0 x1 x3 (ix2 r c) = ((M r : ℝ) : EReal) := by
  unfold mx10
  exact mxRow_real (noTop_step (noTop_step (noTop_step (noTop_step (noTop_step (noTop_init (fun r c => by rw [sb10_0_at]; exact sN_lt_top hl0 _ _)) (fun r c => by rw [sb10_1_at]; exact sN_lt_top hl0 _ _)) (fun r c => by rw [sb10_2_at]; exact sN_lt_top hl0 _ _)) (fun r c => by rw [sb10_3_at]; exact sN_lt_top hl0 _ _)) (fun r c => by rw [sb10_4_at]; exact sN_lt_top hl0 _ _)) (fun r c => by rw [sb10_5_at]; exact sN_lt_top hl0 _ _)) (rowReal_step (fun r => by rw [sb10_5_at]; exact bot_lt_sN hl0 _ (by omega)))
include hl1 in
theorem mx11_real : ∃ M : Fin 256 → ℝ, ∀ (r : Fin 256) (c : Fin 128), mx11 (F := Ideal) i arg2 harg2 arg3 harg3 arg5 harg5 x0 x1 x3 (ix2 r c) = ((M r : ℝ) : EReal) := by
  unfold mx11
  exact mxRow_real (noTop_step (noTop_step (noTop_step (noTop_step (noTop_step (noTop_init (fun r c => by rw [sb11_0_at]; exact sN_lt_top hl1 _ _)) (fun r c => by rw [sb11_1_at]; exact sN_lt_top hl1 _ _)) (fun r c => by rw [sb11_2_at]; exact sN_lt_top hl1 _ _)) (fun r c => by rw [sb11_3_at]; exact sN_lt_top hl1 _ _)) (fun r c => by rw [sb11_4_at]; exact sN_lt_top hl1 _ _)) (fun r c => by rw [sb11_5_at]; exact sN_lt_top hl1 _ _)) (rowReal_step (fun r => by rw [sb11_5_at]; exact bot_lt_sN hl1 _ (by omega)))
include hl0 in
theorem mx12_real : ∃ M : Fin 256 → ℝ, ∀ (r : Fin 256) (c : Fin 128), mx12 (F := Ideal) i arg2 harg2 arg3 harg3 arg5 harg5 x0 x1 x3 (ix2 r c) = ((M r : ℝ) : EReal) := by
  unfold mx12
  exact mxRow_real (noTop_step (noTop_step (noTop_step (noTop_step (noTop_step (noTop_step (noTop_init (fun r c => by rw [sb12_0_at]; exact sN_lt_top hl0 _ _)) (fun r c => by rw [sb12_1_at]; exact sN_lt_top hl0 _ _)) (fun r c => by rw [sb12_2_at]; exact sN_lt_top hl0 _ _)) (fun r c => by rw [sb12_3_at]; exact sN_lt_top hl0 _ _)) (fun r c => by rw [sb12_4_at]; exact sN_lt_top hl0 _ _)) (fun r c => by rw [sb12_5_at]; exact sN_lt_top hl0 _ _)) (fun r c => by rw [sb12_6_at]; exact sN_lt_top hl0 _ _)) (rowReal_step (fun r => by rw [sb12_6_at]; exact bot_lt_sN hl0 _ (by omega)))
include hl1 in
theorem mx13_real : ∃ M : Fin 256 → ℝ, ∀ (r : Fin 256) (c : Fin 128), mx13 (F := Ideal) i arg2 harg2 arg3 harg3 arg5 harg5 x0 x1 x3 (ix2 r c) = ((M r : ℝ) : EReal) := by
  unfold mx13
  exact mxRow_real (noTop_step (noTop_step (noTop_step (noTop_step (noTop_step (noTop_step (noTop_init (fun r c => by rw [sb13_0_at]; exact sN_lt_top hl1 _ _)) (fun r c => by rw [sb13_1_at]; exact sN_lt_top hl1 _ _)) (fun r c => by rw [sb13_2_at]; exact sN_lt_top hl1 _ _)) (fun r c => by rw [sb13_3_at]; exact sN_lt_top hl1 _ _)) (fun r c => by rw [sb13_4_at]; exact sN_lt_top hl1 _ _)) (fun r c => by rw [sb13_5_at]; exact sN_lt_top hl1 _ _)) (fun r c => by rw [sb13_6_at]; exact sN_lt_top hl1 _ _)) (rowReal_step (fun r => by rw [sb13_6_at]; exact bot_lt_sN hl1 _ (by omega)))
include hl0 in
theorem mx14_real : ∃ M : Fin 256 → ℝ, ∀ (r : Fin 256) (c : Fin 128), mx14 (F := Ideal) i arg2 harg2 arg3 harg3 arg5 harg5 x0 x1 x3 (ix2 r c) = ((M r : ℝ) : EReal) := by
  unfold mx14
  exact mxRow_real (noTop_step (noTop_step (noTop_step (noTop_step (noTop_step (noTop_step (noTop_step (noTop_init (fun r c => by rw [sb14_0_at]; exact sN_lt_top hl0 _ _)) (fun r c => by rw [sb14_1_at]; exact sN_lt_top hl0 _ _)) (fun r c => by rw [sb14_2_at]; exact sN_lt_top hl0 _ _)) (fun r c => by rw [sb14_3_at]; exact sN_lt_top hl0 _ _)) (fun r c => by rw [sb14_4_at]; exact sN_lt_top hl0 _ _)) (fun r c => by rw [sb14_5_at]; exact sN_lt_top hl0 _ _)) (fun r c => by rw [sb14_6_at]; exact sN_lt_top hl0 _ _)) (fun r c => by rw [sb14_7_at]; exact sN_lt_top hl0 _ _)) (rowReal_step (fun r => by rw [sb14_7_at]; exact bot_lt_sN hl0 _ (by omega)))
include hl1 in
theorem mx15_real : ∃ M : Fin 256 → ℝ, ∀ (r : Fin 256) (c : Fin 128), mx15 (F := Ideal) i arg2 harg2 arg3 harg3 arg5 harg5 x0 x1 x3 (ix2 r c) = ((M r : ℝ) : EReal) := by
  unfold mx15
  exact mxRow_real (noTop_step (noTop_step (noTop_step (noTop_step (noTop_step (noTop_step (noTop_step (noTop_init (fun r c => by rw [sb15_0_at]; exact sN_lt_top hl1 _ _)) (fun r c => by rw [sb15_1_at]; exact sN_lt_top hl1 _ _)) (fun r c => by rw [sb15_2_at]; exact sN_lt_top hl1 _ _)) (fun r c => by rw [sb15_3_at]; exact sN_lt_top hl1 _ _)) (fun r c => by rw [sb15_4_at]; exact sN_lt_top hl1 _ _)) (fun r c => by rw [sb15_5_at]; exact sN_lt_top hl1 _ _)) (fun r c => by rw [sb15_6_at]; exact sN_lt_top hl1 _ _)) (fun r c => by rw [sb15_7_at]; exact sN_lt_top hl1 _ _)) (rowReal_step (fun r => by rw [sb15_7_at]; exact bot_lt_sN hl1 _ (by omega)))
include hl0 in
theorem ac0_is : ∃ M : Fin 256 → ℝ, AccIs (ac0 i arg2 harg2 arg3 harg3 arg4 harg4 arg5 harg5 arg7 x0 x1 x2 x3 (st3 (F := Ideal) i arg2 harg2 arg3 harg3 arg5 harg5 x0 x1 x3)) 256 (sR i x0 x1 x3 0 0) M (vCol 0 64 x2) := by
  obtain ⟨M, hM⟩ := mx0_real i arg2 harg2 arg3 harg3 arg5 harg5 x0 x1 x3 hl0
  refine ⟨M, ?_⟩
  have hH := holds0_3 i arg2 harg2 arg3 harg3 arg5 harg5 x0 x1 x3
  unfold ac0
  exact acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d)
include hl1 in
theorem ac1_is : ∃ M : Fin 256 → ℝ, AccIs (ac1 i arg2 harg2 arg3 harg3 arg4 harg4 arg5 harg5 arg7 x0 x1 x2 x3 (st4 (F := Ideal) i arg2 harg2 arg3 harg3 arg5 harg5 x0 x1 x3)) 256 (sR i x0 x1 x3 1 0) M (vCol 1 0 x2) := by
  obtain ⟨M, hM⟩ := mx1_real i arg2 harg2 arg3 harg3 arg5 harg5 x0 x1 x3 hl1
  refine ⟨M, ?_⟩
  have hH := holds1_4 i arg2 harg2 arg3 harg3 arg5 harg5 x0 x1 x3
  unfold ac1
  exact acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d)
include hl0 in
theorem ac2_is : ∃ M : Fin 256 → ℝ, AccIs (ac2 i arg2 harg2 arg3 harg3 arg4 harg4 arg5 harg5 arg7 x0 x1 x2 x3 (st5 (F := Ideal) i arg2 harg2 arg3 harg3 arg5 harg5 x0 x1 x3)) 512 (sR i x0 x1 x3 0 256) M (vCol 0 64 x2) := by
  obtain ⟨M, hM⟩ := mx2_real i arg2 harg2 arg3 harg3 arg5 harg5 x0 x1 x3 hl0
  refine ⟨M, ?_⟩
  have hH := holds2_5 i arg2 harg2 arg3 harg3 arg5 harg5 x0 x1 x3
  unfold ac2
  exact acc_step (acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d))
    (fun r c => stRead_apply hH (by norm_num) (by norm_num) r c) (fun r c => stRead_apply hH (by norm_num) (by norm_num) r c) hM
    (fun r d => vCol_at _ _ x2 0 64 _ _ mask0_apply lane64_apply 256 (by norm_num) r d)
include hl1 in
theorem ac3_is : ∃ M : Fin 256 → ℝ, AccIs (ac3 i arg2 harg2 arg3 harg3 arg4 harg4 arg5 harg5 arg7 x0 x1 x2 x3 (st6 (F := Ideal) i arg2 harg2 arg3 harg3 arg5 harg5 x0 x1 x3)) 512 (sR i x0 x1 x3 1 256) M (vCol 1 0 x2) := by
  obtain ⟨M, hM⟩ := mx3_real i arg2 harg2 arg3 harg3 arg5 harg5 x0 x1 x3 hl1
  refine ⟨M, ?_⟩
  have hH := holds3_6 i arg2 harg2 arg3 harg3 arg5 harg5 x0 x1 x3
  unfold ac3
  exact acc_step (acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d))
    (fun r c => stRead_apply hH (by norm_num) (by norm_num) r c) (fun r c => stRead_apply hH (by norm_num) (by norm_num) r c) hM
    (fun r d => vCol_at _ _ x2 1 0 _ _ mask1_apply lane0_apply 256 (by norm_num) r d)
include hl0 in
theorem ac4_is : ∃ M : Fin 256 → ℝ, AccIs (ac4 i arg2 harg2 arg3 harg3 arg4 harg4 arg5 harg5 arg7 x0 x1 x2 x3 (st7 (F := Ideal) i arg2 harg2 arg3 harg3 arg5 harg5 x0 x1 x3)) 768 (sR i x0 x1 x3 0 512) M (vCol 0 64 x2) := by
  obtain ⟨M, hM⟩ := mx4_real i arg2 harg2 arg3 harg3 arg5 harg5 x0 x1 x3 hl0
  refine ⟨M, ?_⟩
  have hH := holds4_7 i arg2 harg2 arg3 harg3 arg5 harg5 x0 x1 x3
  unfold ac4
  exact acc_step (acc_step (acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d))
    (fun r c => stRead_apply hH (by norm_num) (by norm_num) r c) (fun r c => stRead_apply hH (by norm_num) (by norm_num) r c) hM
    (fun r d => vCol_at _ _ x2 0 64 _ _ mask0_apply lane64_apply 256 (by norm_num) r d))
    (fun r c => stRead_apply hH (by norm_num) (by norm_num) r c) (fun r c => stRead_apply hH (by norm_num) (by norm_num) r c) hM
    (fun r d => vCol_at _ _ x2 0 64 _ _ mask0_apply lane64_apply 512 (by norm_num) r d)
include hl1 in
theorem ac5_is : ∃ M : Fin 256 → ℝ, AccIs (ac5 i arg2 harg2 arg3 harg3 arg4 harg4 arg5 harg5 arg7 x0 x1 x2 x3 (st8 (F := Ideal) i arg2 harg2 arg3 harg3 arg5 harg5 x0 x1 x3)) 768 (sR i x0 x1 x3 1 512) M (vCol 1 0 x2) := by
  obtain ⟨M, hM⟩ := mx5_real i arg2 harg2 arg3 harg3 arg5 harg5 x0 x1 x3 hl1
  refine ⟨M, ?_⟩
  have hH := holds5_8 i arg2 harg2 arg3 harg3 arg5 harg5 x0 x1 x3
  unfold ac5
  exact acc_step (acc_step (acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d))
    (fun r c => stRead_apply hH (by norm_num) (by norm_num) r c) (fun r c => stRead_apply hH (by norm_num) (by norm_num) r c) hM
    (fun r d => vCol_at _ _ x2 1 0 _ _ mask1_apply lane0_apply 256 (by norm_num) r d))
    (fun r c => stRead_apply hH (by norm_num) (by norm_num) r c) (fun r c => stRead_apply hH (by norm_num) (by norm_num) r c) hM
    (fun r d => vCol_at _ _ x2 1 0 _ _ mask1_apply lane0_apply 512 (by norm_num) r d)
include hl0 in
theorem ac6_is : ∃ M : Fin 256 → ℝ, AccIs (ac6 i arg2 harg2 arg3 harg3 arg4 harg4 arg5 harg5 arg7 x0 x1 x2 x3 (st9 (F := Ideal) i arg2 harg2 arg3 harg3 arg5 harg5 x0 x1 x3)) 1024 (sR i x0 x1 x3 0 768) M (vCol 0 64 x2) := by
  obtain ⟨M, hM⟩ := mx6_real i arg2 harg2 arg3 harg3 arg5 harg5 x0 x1 x3 hl0
  refine ⟨M, ?_⟩
  have hH := holds6_9 i arg2 harg2 arg3 harg3 arg5 harg5 x0 x1 x3
  unfold ac6
  exact acc_step (acc_step (acc_step (acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d))
    (fun r c => stRead_apply hH (by norm_num) (by norm_num) r c) (fun r c => stRead_apply hH (by norm_num) (by norm_num) r c) hM
    (fun r d => vCol_at _ _ x2 0 64 _ _ mask0_apply lane64_apply 256 (by norm_num) r d))
    (fun r c => stRead_apply hH (by norm_num) (by norm_num) r c) (fun r c => stRead_apply hH (by norm_num) (by norm_num) r c) hM
    (fun r d => vCol_at _ _ x2 0 64 _ _ mask0_apply lane64_apply 512 (by norm_num) r d))
    (fun r c => stRead_apply hH (by norm_num) (by norm_num) r c) (fun r c => stRead_apply hH (by norm_num) (by norm_num) r c) hM
    (fun r d => vCol_at _ _ x2 0 64 _ _ mask0_apply lane64_apply 768 (by norm_num) r d)
include hl1 in
theorem ac7_is : ∃ M : Fin 256 → ℝ, AccIs (ac7 i arg2 harg2 arg3 harg3 arg4 harg4 arg5 harg5 arg7 x0 x1 x2 x3 (st10 (F := Ideal) i arg2 harg2 arg3 harg3 arg5 harg5 x0 x1 x3)) 1024 (sR i x0 x1 x3 1 768) M (vCol 1 0 x2) := by
  obtain ⟨M, hM⟩ := mx7_real i arg2 harg2 arg3 harg3 arg5 harg5 x0 x1 x3 hl1
  refine ⟨M, ?_⟩
  have hH := holds7_10 i arg2 harg2 arg3 harg3 arg5 harg5 x0 x1 x3
  unfold ac7
  exact acc_step (acc_step (acc_step (acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d))
    (fun r c => stRead_apply hH (by norm_num) (by norm_num) r c) (fun r c => stRead_apply hH (by norm_num) (by norm_num) r c) hM
    (fun r d => vCol_at _ _ x2 1 0 _ _ mask1_apply lane0_apply 256 (by norm_num) r d))
    (fun r c => stRead_apply hH (by norm_num) (by norm_num) r c) (fun r c => stRead_apply hH (by norm_num) (by norm_num) r c) hM
    (fun r d => vCol_at _ _ x2 1 0 _ _ mask1_apply lane0_apply 512 (by norm_num) r d))
    (fun r c => stRead_apply hH (by norm_num) (by norm_num) r c) (fun r c => stRead_apply hH (by norm_num) (by norm_num) r c) hM
    (fun r d => vCol_at _ _ x2 1 0 _ _ mask1_apply lane0_apply 768 (by norm_num) r d)
include hl0 in
theorem ac8_is : ∃ M : Fin 256 → ℝ, AccIs (ac8 i arg2 harg2 arg3 harg3 arg4 harg4 arg5 harg5 arg7 x0 x1 x2 x3 (st11 (F := Ideal) i arg2 harg2 arg3 harg3 arg5 harg5 x0 x1 x3)) 1280 (sR i x0 x1 x3 0 1024) M (vCol 0 64 x2) := by
  obtain ⟨M, hM⟩ := mx8_real i arg2 harg2 arg3 harg3 arg5 harg5 x0 x1 x3 hl0
  refine ⟨M, ?_⟩
  have hH := holds8_11 i arg2 harg2 arg3 harg3 arg5 harg5 x0 x1 x3
  unfold ac8
  exact acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d))
    (fun r c => stRead_apply hH (by norm_num) (by norm_num) r c) (fun r c => stRead_apply hH (by norm_num) (by norm_num) r c) hM
    (fun r d => vCol_at _ _ x2 0 64 _ _ mask0_apply lane64_apply 256 (by norm_num) r d))
    (fun r c => stRead_apply hH (by norm_num) (by norm_num) r c) (fun r c => stRead_apply hH (by norm_num) (by norm_num) r c) hM
    (fun r d => vCol_at _ _ x2 0 64 _ _ mask0_apply lane64_apply 512 (by norm_num) r d))
    (fun r c => stRead_apply hH (by norm_num) (by norm_num) r c) (fun r c => stRead_apply hH (by norm_num) (by norm_num) r c) hM
    (fun r d => vCol_at _ _ x2 0 64 _ _ mask0_apply lane64_apply 768 (by norm_num) r d))
    (fun r c => stRead_apply hH (by norm_num) (by norm_num) r c) (fun r c => stRead_apply hH (by norm_num) (by norm_num) r c) hM
    (fun r d => vCol_at _ _ x2 0 64 _ _ mask0_apply lane64_apply 1024 (by norm_num) r d)
include hl1 in
theorem ac9_is : ∃ M : Fin 256 → ℝ, AccIs (ac9 i arg2 harg2 arg3 harg3 arg4 harg4 arg5 harg5 arg7 x0 x1 x2 x3 (st12 (F := Ideal) i arg2 harg2 arg3 harg3 arg5 harg5 x0 x1 x3)) 1280 (sR i x0 x1 x3 1 1024) M (vCol 1 0 x2) := by
  obtain ⟨M, hM⟩ := mx9_real i arg2 harg2 arg3 harg3 arg5 harg5 x0 x1 x3 hl1
  refine ⟨M, ?_⟩
  have hH := holds9_12 i arg2 harg2 arg3 harg3 arg5 harg5 x0 x1 x3
  unfold ac9
  exact acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d))
    (fun r c => stRead_apply hH (by norm_num) (by norm_num) r c) (fun r c => stRead_apply hH (by norm_num) (by norm_num) r c) hM
    (fun r d => vCol_at _ _ x2 1 0 _ _ mask1_apply lane0_apply 256 (by norm_num) r d))
    (fun r c => stRead_apply hH (by norm_num) (by norm_num) r c) (fun r c => stRead_apply hH (by norm_num) (by norm_num) r c) hM
    (fun r d => vCol_at _ _ x2 1 0 _ _ mask1_apply lane0_apply 512 (by norm_num) r d))
    (fun r c => stRead_apply hH (by norm_num) (by norm_num) r c) (fun r c => stRead_apply hH (by norm_num) (by norm_num) r c) hM
    (fun r d => vCol_at _ _ x2 1 0 _ _ mask1_apply lane0_apply 768 (by norm_num) r d))
    (fun r c => stRead_apply hH (by norm_num) (by norm_num) r c) (fun r c => stRead_apply hH (by norm_num) (by norm_num) r c) hM
    (fun r d => vCol_at _ _ x2 1 0 _ _ mask1_apply lane0_apply 1024 (by norm_num) r d)
include hl0 in
theorem ac10_is : ∃ M : Fin 256 → ℝ, AccIs (ac10 i arg2 harg2 arg3 harg3 arg4 harg4 arg5 harg5 arg7 x0 x1 x2 x3 (st13 (F := Ideal) i arg2 harg2 arg3 harg3 arg5 harg5 x0 x1 x3)) 1536 (sR i x0 x1 x3 0 1280) M (vCol 0 64 x2) := by
  obtain ⟨M, hM⟩ := mx10_real i arg2 harg2 arg3 harg3 arg5 harg5 x0 x1 x3 hl0
  refine ⟨M, ?_⟩
  have hH := holds10_13 i arg2 harg2 arg3 harg3 arg5 harg5 x0 x1 x3
  unfold ac10
  exact acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d))
    (fun r c => stRead_apply hH (by norm_num) (by norm_num) r c) (fun r c => stRead_apply hH (by norm_num) (by norm_num) r c) hM
    (fun r d => vCol_at _ _ x2 0 64 _ _ mask0_apply lane64_apply 256 (by norm_num) r d))
    (fun r c => stRead_apply hH (by norm_num) (by norm_num) r c) (fun r c => stRead_apply hH (by norm_num) (by norm_num) r c) hM
    (fun r d => vCol_at _ _ x2 0 64 _ _ mask0_apply lane64_apply 512 (by norm_num) r d))
    (fun r c => stRead_apply hH (by norm_num) (by norm_num) r c) (fun r c => stRead_apply hH (by norm_num) (by norm_num) r c) hM
    (fun r d => vCol_at _ _ x2 0 64 _ _ mask0_apply lane64_apply 768 (by norm_num) r d))
    (fun r c => stRead_apply hH (by norm_num) (by norm_num) r c) (fun r c => stRead_apply hH (by norm_num) (by norm_num) r c) hM
    (fun r d => vCol_at _ _ x2 0 64 _ _ mask0_apply lane64_apply 1024 (by norm_num) r d))
    (fun r c => stRead_apply hH (by norm_num) (by norm_num) r c) (fun r c => stRead_apply hH (by norm_num) (by norm_num) r c) hM
    (fun r d => vCol_at _ _ x2 0 64 _ _ mask0_apply lane64_apply 1280 (by norm_num) r d)
include hl1 in
theorem ac11_is : ∃ M : Fin 256 → ℝ, AccIs (ac11 i arg2 harg2 arg3 harg3 arg4 harg4 arg5 harg5 arg7 x0 x1 x2 x3 (st14 (F := Ideal) i arg2 harg2 arg3 harg3 arg5 harg5 x0 x1 x3)) 1536 (sR i x0 x1 x3 1 1280) M (vCol 1 0 x2) := by
  obtain ⟨M, hM⟩ := mx11_real i arg2 harg2 arg3 harg3 arg5 harg5 x0 x1 x3 hl1
  refine ⟨M, ?_⟩
  have hH := holds11_14 i arg2 harg2 arg3 harg3 arg5 harg5 x0 x1 x3
  unfold ac11
  exact acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d))
    (fun r c => stRead_apply hH (by norm_num) (by norm_num) r c) (fun r c => stRead_apply hH (by norm_num) (by norm_num) r c) hM
    (fun r d => vCol_at _ _ x2 1 0 _ _ mask1_apply lane0_apply 256 (by norm_num) r d))
    (fun r c => stRead_apply hH (by norm_num) (by norm_num) r c) (fun r c => stRead_apply hH (by norm_num) (by norm_num) r c) hM
    (fun r d => vCol_at _ _ x2 1 0 _ _ mask1_apply lane0_apply 512 (by norm_num) r d))
    (fun r c => stRead_apply hH (by norm_num) (by norm_num) r c) (fun r c => stRead_apply hH (by norm_num) (by norm_num) r c) hM
    (fun r d => vCol_at _ _ x2 1 0 _ _ mask1_apply lane0_apply 768 (by norm_num) r d))
    (fun r c => stRead_apply hH (by norm_num) (by norm_num) r c) (fun r c => stRead_apply hH (by norm_num) (by norm_num) r c) hM
    (fun r d => vCol_at _ _ x2 1 0 _ _ mask1_apply lane0_apply 1024 (by norm_num) r d))
    (fun r c => stRead_apply hH (by norm_num) (by norm_num) r c) (fun r c => stRead_apply hH (by norm_num) (by norm_num) r c) hM
    (fun r d => vCol_at _ _ x2 1 0 _ _ mask1_apply lane0_apply 1280 (by norm_num) r d)
include hl0 in
theorem ac12_is : ∃ M : Fin 256 → ℝ, AccIs (ac12 i arg2 harg2 arg3 harg3 arg4 harg4 arg5 harg5 arg7 x0 x1 x2 x3 (st15 (F := Ideal) i arg2 harg2 arg3 harg3 arg5 harg5 x0 x1 x3)) 1792 (sR i x0 x1 x3 0 1536) M (vCol 0 64 x2) := by
  obtain ⟨M, hM⟩ := mx12_real i arg2 harg2 arg3 harg3 arg5 harg5 x0 x1 x3 hl0
  refine ⟨M, ?_⟩
  have hH := holds12_15 i arg2 harg2 arg3 harg3 arg5 harg5 x0 x1 x3
  unfold ac12
  exact acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d))
    (fun r c => stRead_apply hH (by norm_num) (by norm_num) r c) (fun r c => stRead_apply hH (by norm_num) (by norm_num) r c) hM
    (fun r d => vCol_at _ _ x2 0 64 _ _ mask0_apply lane64_apply 256 (by norm_num) r d))
    (fun r c => stRead_apply hH (by norm_num) (by norm_num) r c) (fun r c => stRead_apply hH (by norm_num) (by norm_num) r c) hM
    (fun r d => vCol_at _ _ x2 0 64 _ _ mask0_apply lane64_apply 512 (by norm_num) r d))
    (fun r c => stRead_apply hH (by norm_num) (by norm_num) r c) (fun r c => stRead_apply hH (by norm_num) (by norm_num) r c) hM
    (fun r d => vCol_at _ _ x2 0 64 _ _ mask0_apply lane64_apply 768 (by norm_num) r d))
    (fun r c => stRead_apply hH (by norm_num) (by norm_num) r c) (fun r c => stRead_apply hH (by norm_num) (by norm_num) r c) hM
    (fun r d => vCol_at _ _ x2 0 64 _ _ mask0_apply lane64_apply 1024 (by norm_num) r d))
    (fun r c => stRead_apply hH (by norm_num) (by norm_num) r c) (fun r c => stRead_apply hH (by norm_num) (by norm_num) r c) hM
    (fun r d => vCol_at _ _ x2 0 64 _ _ mask0_apply lane64_apply 1280 (by norm_num) r d))
    (fun r c => stRead_apply hH (by norm_num) (by norm_num) r c) (fun r c => stRead_apply hH (by norm_num) (by norm_num) r c) hM
    (fun r d => vCol_at _ _ x2 0 64 _ _ mask0_apply lane64_apply 1536 (by norm_num) r d)
include hl1 in
theorem ac13_is : ∃ M : Fin 256 → ℝ, AccIs (ac13 i arg2 harg2 arg3 harg3 arg4 harg4 arg5 harg5 arg7 x0 x1 x2 x3 (st15 (F := Ideal) i arg2 harg2 arg3 harg3 arg5 harg5 x0 x1 x3)) 1792 (sR i x0 x1 x3 1 1536) M (vCol 1 0 x2) := by
  obtain ⟨M, hM⟩ := mx13_real i arg2 harg2 arg3 harg3 arg5 harg5 x0 x1 x3 hl1
  refine ⟨M, ?_⟩
  have hH := holds13_15 i arg2 harg2 arg3 harg3 arg5 harg5 x0 x1 x3
  unfold ac13
  exact acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d))
    (fun r c => stRead_apply hH (by norm_num) (by norm_num) r c) (fun r c => stRead_apply hH (by norm_num) (by norm_num) r c) hM
    (fun r d => vCol_at _ _ x2 1 0 _ _ mask1_apply lane0_apply 256 (by norm_num) r d))
    (fun r c => stRead_apply hH (by norm_num) (by norm_num) r c) (fun r c => stRead_apply hH (by norm_num) (by norm_num) r c) hM
    (fun r d => vCol_at _ _ x2 1 0 _ _ mask1_apply lane0_apply 512 (by norm_num) r d))
    (fun r c => stRead_apply hH (by norm_num) (by norm_num) r c) (fun r c => stRead_apply hH (by norm_num) (by norm_num) r c) hM
    (fun r d => vCol_at _ _ x2 1 0 _ _ mask1_apply lane0_apply 768 (by norm_num) r d))
    (fun r c => stRead_apply hH (by norm_num) (by norm_num) r c) (fun r c => stRead_apply hH (by norm_num) (by norm_num) r c) hM
    (fun r d => vCol_at _ _ x2 1 0 _ _ mask1_apply lane0_apply 1024 (by norm_num) r d))
    (fun r c => stRead_apply hH (by norm_num) (by norm_num) r c) (fun r c => stRead_apply hH (by norm_num) (by norm_num) r c) hM
    (fun r d => vCol_at _ _ x2 1 0 _ _ mask1_apply lane0_apply 1280 (by norm_num) r d))
    (fun r c => stRead_apply hH (by norm_num) (by norm_num) r c) (fun r c => stRead_apply hH (by norm_num) (by norm_num) r c) hM
    (fun r d => vCol_at _ _ x2 1 0 _ _ mask1_apply lane0_apply 1536 (by norm_num) r d)
include hl0 in
theorem ac14_is : ∃ M : Fin 256 → ℝ, AccIs (ac14 i arg2 harg2 arg3 harg3 arg4 harg4 arg5 harg5 arg7 x0 x1 x2 x3 (st15 (F := Ideal) i arg2 harg2 arg3 harg3 arg5 harg5 x0 x1 x3)) 2048 (sR i x0 x1 x3 0 1792) M (vCol 0 64 x2) := by
  obtain ⟨M, hM⟩ := mx14_real i arg2 harg2 arg3 harg3 arg5 harg5 x0 x1 x3 hl0
  refine ⟨M, ?_⟩
  have hH := holds14_15 i arg2 harg2 arg3 harg3 arg5 harg5 x0 x1 x3
  unfold ac14
  exact acc_step (acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ _ mask0_apply lane64_apply 0 (by norm_num) r d))
    (fun r c => stRead_apply hH (by norm_num) (by norm_num) r c) (fun r c => stRead_apply hH (by norm_num) (by norm_num) r c) hM
    (fun r d => vCol_at _ _ x2 0 64 _ _ mask0_apply lane64_apply 256 (by norm_num) r d))
    (fun r c => stRead_apply hH (by norm_num) (by norm_num) r c) (fun r c => stRead_apply hH (by norm_num) (by norm_num) r c) hM
    (fun r d => vCol_at _ _ x2 0 64 _ _ mask0_apply lane64_apply 512 (by norm_num) r d))
    (fun r c => stRead_apply hH (by norm_num) (by norm_num) r c) (fun r c => stRead_apply hH (by norm_num) (by norm_num) r c) hM
    (fun r d => vCol_at _ _ x2 0 64 _ _ mask0_apply lane64_apply 768 (by norm_num) r d))
    (fun r c => stRead_apply hH (by norm_num) (by norm_num) r c) (fun r c => stRead_apply hH (by norm_num) (by norm_num) r c) hM
    (fun r d => vCol_at _ _ x2 0 64 _ _ mask0_apply lane64_apply 1024 (by norm_num) r d))
    (fun r c => stRead_apply hH (by norm_num) (by norm_num) r c) (fun r c => stRead_apply hH (by norm_num) (by norm_num) r c) hM
    (fun r d => vCol_at _ _ x2 0 64 _ _ mask0_apply lane64_apply 1280 (by norm_num) r d))
    (fun r c => stRead_apply hH (by norm_num) (by norm_num) r c) (fun r c => stRead_apply hH (by norm_num) (by norm_num) r c) hM
    (fun r d => vCol_at _ _ x2 0 64 _ _ mask0_apply lane64_apply 1536 (by norm_num) r d))
    (fun r c => stRead_apply hH (by norm_num) (by norm_num) r c) (fun r c => stRead_apply hH (by norm_num) (by norm_num) r c) hM
    (fun r d => vCol_at _ _ x2 0 64 _ _ mask0_apply lane64_apply 1792 (by norm_num) r d)
include hl1 in
theorem ac15_is : ∃ M : Fin 256 → ℝ, AccIs (ac15 i arg2 harg2 arg3 harg3 arg4 harg4 arg5 harg5 arg7 x0 x1 x2 x3 (st15 (F := Ideal) i arg2 harg2 arg3 harg3 arg5 harg5 x0 x1 x3)) 2048 (sR i x0 x1 x3 1 1792) M (vCol 1 0 x2) := by
  obtain ⟨M, hM⟩ := mx15_real i arg2 harg2 arg3 harg3 arg5 harg5 x0 x1 x3 hl1
  refine ⟨M, ?_⟩
  have hH := holds15_15 i arg2 harg2 arg3 harg3 arg5 harg5 x0 x1 x3
  unfold ac15
  exact acc_step (acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ _ mask1_apply lane0_apply 0 (by norm_num) r d))
    (fun r c => stRead_apply hH (by norm_num) (by norm_num) r c) (fun r c => stRead_apply hH (by norm_num) (by norm_num) r c) hM
    (fun r d => vCol_at _ _ x2 1 0 _ _ mask1_apply lane0_apply 256 (by norm_num) r d))
    (fun r c => stRead_apply hH (by norm_num) (by norm_num) r c) (fun r c => stRead_apply hH (by norm_num) (by norm_num) r c) hM
    (fun r d => vCol_at _ _ x2 1 0 _ _ mask1_apply lane0_apply 512 (by norm_num) r d))
    (fun r c => stRead_apply hH (by norm_num) (by norm_num) r c) (fun r c => stRead_apply hH (by norm_num) (by norm_num) r c) hM
    (fun r d => vCol_at _ _ x2 1 0 _ _ mask1_apply lane0_apply 768 (by norm_num) r d))
    (fun r c => stRead_apply hH (by norm_num) (by norm_num) r c) (fun r c => stRead_apply hH (by norm_num) (by norm_num) r c) hM
    (fun r d => vCol_at _ _ x2 1 0 _ _ mask1_apply lane0_apply 1024 (by norm_num) r d))
    (fun r c => stRead_apply hH (by norm_num) (by norm_num) r c) (fun r c => stRead_apply hH (by norm_num) (by norm_num) r c) hM
    (fun r d => vCol_at _ _ x2 1 0 _ _ mask1_apply lane0_apply 1280 (by norm_num) r d))
    (fun r c => stRead_apply hH (by norm_num) (by norm_num) r c) (fun r c => stRead_apply hH (by norm_num) (by norm_num) r c) hM
    (fun r d => vCol_at _ _ x2 1 0 _ _ mask1_apply lane0_apply 1536 (by norm_num) r d))
    (fun r c => stRead_apply hH (by norm_num) (by norm_num) r c) (fun r c => stRead_apply hH (by norm_num) (by norm_num) r c) hM
    (fun r d => vCol_at _ _ x2 1 0 _ _ mask1_apply lane0_apply 1792 (by norm_num) r d)

/-- The row of the textbook form that lane `d` of the pair reads. -/
def softPair (A0 A1 : Fin 2048 → Fin 2048 → ℝ) (m0 m1 : Fin 2048 → ℝ) (x2 : Vec Ideal S1x2048x128 .bf16) (R : Fin 2048) (d : Fin 128) : EReal :=
  if d.val / 64 = 0 then soft A0 m0 x2 R d else soft A1 m1 x2 R d

theorem pair_at {a b : FVec Ideal S256x128 .f32} {o : ℕ} (ho : o + 256 ≤ 2048) {Ma Mb : Fin 256 → ℝ}
    (hl0 : LgIs (headNo i (BitVec.ofNat 32 0)) 0 x0 x1 x3 A0 Q0) (hl1 : LgIs (headNo i (BitVec.ofNat 32 1)) 1 x0 x1 x3 A1 Q1)
    (ha : AccIs a (o + 256) (sR i x0 x1 x3 0 o) Ma (vCol 0 64 x2)) (hb : AccIs b (o + 256) (sR i x0 x1 x3 1 o) Mb (vCol 1 0 x2))
    (m0 m1 : Fin 2048 → ℝ) (r : Fin 256) (d : Fin 128) :
    (pairOut (fin0 a) (fin1 b) (ix3 0 r d) : EReal) = softPair A0 A1 m0 m1 x2 ⟨o + r.val, by omega⟩ d := by
  rw [pairOut_apply, fin0_apply, fin1_apply, softPair]
  by_cases h : d.val / 64 = 0
  · rw [if_pos h, if_pos h, if_neg (by omega), add_zero]
    exact unit_quot hl0 ho (by norm_num) (by norm_num) ha m0 r d h
  · rw [if_neg h, if_neg h, if_pos (by omega), zero_add]
    exact unit_quot hl1 ho (by norm_num) (by norm_num) hb m1 r d (by omega)

theorem piece_emb {o : ℕ} (ho : o + 256 ≤ 2048) (x : S1x256x128.Idx) :
    (Rect.unit (s := S1x2048x128) ![0, o, 0] S1x256x128.size (inbRows ho)).emb x = ix3 0 (⟨o + (x 1).val, by have := (x 1).isLt; change (x 1).val < 256 at this; omega⟩ : Fin 2048) (x 2) := by
  funext a
  apply Fin.ext
  refine (Rect.emb_apply (Rect.unit (s := S1x2048x128) ![0, o, 0] S1x256x128.size (inbRows ho)) x a).trans ?_
  have h0 := (x 0).isLt
  change (x 0).val < 1 at h0
  match a with
  | ⟨0, _⟩ => show 0 + 1 * (x 0).val = 0; omega
  | ⟨1, _⟩ => show o + 1 * (x 1).val = o + (x 1).val; omega
  | ⟨2, _⟩ => show 0 + 1 * (x 2).val = (x 2).val; omega

theorem piece_at {a b : FVec Ideal S256x128 .f32} {o : ℕ} (ho : o + 256 ≤ 2048) {Ma Mb : Fin 256 → ℝ}
    (hl0 : LgIs (headNo i (BitVec.ofNat 32 0)) 0 x0 x1 x3 A0 Q0) (hl1 : LgIs (headNo i (BitVec.ofNat 32 1)) 1 x0 x1 x3 A1 Q1)
    (ha : AccIs a (o + 256) (sR i x0 x1 x3 0 o) Ma (vCol 0 64 x2)) (hb : AccIs b (o + 256) (sR i x0 x1 x3 1 o) Mb (vCol 1 0 x2))
    (m0 m1 : Fin 2048 → ℝ) (x : S1x256x128.Idx) :
    (pairOut (fin0 a) (fin1 b) x : EReal) = (fun y : S1x2048x128.Idx => softPair A0 A1 m0 m1 x2 (y 1) (y 2))
      ((Rect.unit (s := S1x2048x128) ![0, o, 0] S1x256x128.size (inbRows ho)).emb x) := by
  rw [piece_emb ho]
  have hx : x = (ix3 0 (x 1) (x 2) : S1x256x128.Idx) := by
    funext a
    apply Fin.ext
    have h0 := (x 0).isLt
    change (x 0).val < 1 at h0
    match a with
    | ⟨0, _⟩ => show (x 0).val = 0; omega
    | ⟨1, _⟩ => rfl
    | ⟨2, _⟩ => rfl
  refine (congrArg (pairOut (fin0 a) (fin1 b)) hx).trans ?_
  exact pair_at i x0 x1 x2 x3 ho hl0 hl1 ha hb m0 m1 (x 1) (x 2)

variable (c : Dev nD) (arg6 : Memref sig .tc .vmem S1x2048x128 .bf16) (harg6 : arg6.IsWhole) (harg7 : arg7.IsWhole)

include hl0 hl1 in
/-- What the body leaves in the output block: every row the textbook row. -/
theorem out_at (m0 m1 : Fin 2048 → ℝ) (y : S1x2048x128.Idx) :
    (View.canon (kernelRun0_A (F := Ideal) c i arg2 harg2 arg3 harg3 arg4 harg4 arg5 harg5 arg6 harg6 arg7 harg7 x0 x1 x2 x3).1 y : EReal)
      = softPair A0 A1 m0 m1 x2 (y 1) (y 2) := by
  rw [run_pieces']
  obtain ⟨M0, h0⟩ := ac0_is i arg2 harg2 arg3 harg3 arg4 harg4 arg5 harg5 arg7 x0 x1 x2 x3 hl0
  obtain ⟨M1, h1⟩ := ac1_is i arg2 harg2 arg3 harg3 arg4 harg4 arg5 harg5 arg7 x0 x1 x2 x3 hl1
  obtain ⟨M2, h2⟩ := ac2_is i arg2 harg2 arg3 harg3 arg4 harg4 arg5 harg5 arg7 x0 x1 x2 x3 hl0
  obtain ⟨M3, h3⟩ := ac3_is i arg2 harg2 arg3 harg3 arg4 harg4 arg5 harg5 arg7 x0 x1 x2 x3 hl1
  obtain ⟨M4, h4⟩ := ac4_is i arg2 harg2 arg3 harg3 arg4 harg4 arg5 harg5 arg7 x0 x1 x2 x3 hl0
  obtain ⟨M5, h5⟩ := ac5_is i arg2 harg2 arg3 harg3 arg4 harg4 arg5 harg5 arg7 x0 x1 x2 x3 hl1
  obtain ⟨M6, h6⟩ := ac6_is i arg2 harg2 arg3 harg3 arg4 harg4 arg5 harg5 arg7 x0 x1 x2 x3 hl0
  obtain ⟨M7, h7⟩ := ac7_is i arg2 harg2 arg3 harg3 arg4 harg4 arg5 harg5 arg7 x0 x1 x2 x3 hl1
  obtain ⟨M8, h8⟩ := ac8_is i arg2 harg2 arg3 harg3 arg4 harg4 arg5 harg5 arg7 x0 x1 x2 x3 hl0
  obtain ⟨M9, h9⟩ := ac9_is i arg2 harg2 arg3 harg3 arg4 harg4 arg5 harg5 arg7 x0 x1 x2 x3 hl1
  obtain ⟨M10, h10⟩ := ac10_is i arg2 harg2 arg3 harg3 arg4 harg4 arg5 harg5 arg7 x0 x1 x2 x3 hl0
  obtain ⟨M11, h11⟩ := ac11_is i arg2 harg2 arg3 harg3 arg4 harg4 arg5 harg5 arg7 x0 x1 x2 x3 hl1
  obtain ⟨M12, h12⟩ := ac12_is i arg2 harg2 arg3 harg3 arg4 harg4 arg5 harg5 arg7 x0 x1 x2 x3 hl0
  obtain ⟨M13, h13⟩ := ac13_is i arg2 harg2 arg3 harg3 arg4 harg4 arg5 harg5 arg7 x0 x1 x2 x3 hl1
  obtain ⟨M14, h14⟩ := ac14_is i arg2 harg2 arg3 harg3 arg4 harg4 arg5 harg5 arg7 x0 x1 x2 x3 hl0
  obtain ⟨M15, h15⟩ := ac15_is i arg2 harg2 arg3 harg3 arg4 harg4 arg5 harg5 arg7 x0 x1 x2 x3 hl1
  refine View.canon_apply_of_pieces (Val := Elt Ideal) (S := S1x2048x128) (e := .bf16) (fun y : S1x2048x128.Idx => softPair A0 A1 m0 m1 x2 (y 1) (y 2)) _ ?_ y ?_
  · intro p hp
    simp only [List.mem_cons, List.not_mem_nil, or_false] at hp
    rcases hp with rfl | rfl | rfl | rfl | rfl | rfl | rfl | rfl
    · exact piece_at i x0 x1 x2 x3 (by norm_num) hl0 hl1 h14 h15 m0 m1
    · exact piece_at i x0 x1 x2 x3 (by norm_num) hl0 hl1 h12 h13 m0 m1
    · exact piece_at i x0 x1 x2 x3 (by norm_num) hl0 hl1 h10 h11 m0 m1
    · exact piece_at i x0 x1 x2 x3 (by norm_num) hl0 hl1 h8 h9 m0 m1
    · exact piece_at i x0 x1 x2 x3 (by norm_num) hl0 hl1 h6 h7 m0 m1
    · exact piece_at i x0 x1 x2 x3 (by norm_num) hl0 hl1 h4 h5 m0 m1
    · exact piece_at i x0 x1 x2 x3 (by norm_num) hl0 hl1 h2 h3 m0 m1
    · exact piece_at i x0 x1 x2 x3 (by norm_num) hl0 hl1 h0 h1 m0 m1
  · have h0 := (y 0).isLt
    have h1 := (y 1).isLt
    have h2 := (y 2).isLt
    change (y 0).val < 1 at h0
    change (y 1).val < 2048 at h1
    change (y 2).val < 128 at h2
    have hc : ∀ o : ℕ, ∀ ho : o + 256 ≤ 2048, o ≤ (y 1).val → (y 1).val < o + 256 →
        y ∈ (Rect.unit (s := S1x2048x128) ![0, o, 0] S1x256x128.size (inbRows ho)).set := fun o ho h h' => by
      rw [Rect.mem_set_unit]
      intro a
      match a with
      | ⟨0, _⟩ => show 0 ≤ (y 0).val ∧ (y 0).val < 0 + 1; omega
      | ⟨1, _⟩ => exact ⟨h, h'⟩
      | ⟨2, _⟩ => show 0 ≤ (y 2).val ∧ (y 2).val < 0 + 128; omega
    by_cases c7 : 1792 ≤ (y 1).val
    · exact ⟨_, .head _, hc 1792 (by norm_num) c7 (by omega)⟩
    by_cases c6 : 1536 ≤ (y 1).val
    · exact ⟨_, .tail _ (.head _), hc 1536 (by norm_num) c6 (by omega)⟩
    by_cases c5 : 1280 ≤ (y 1).val
    · exact ⟨_, .tail _ (.tail _ (.head _)), hc 1280 (by norm_num) c5 (by omega)⟩
    by_cases c4 : 1024 ≤ (y 1).val
    · exact ⟨_, .tail _ (.tail _ (.tail _ (.head _))), hc 1024 (by norm_num) c4 (by omega)⟩
    by_cases c3 : 768 ≤ (y 1).val
    · exact ⟨_, .tail _ (.tail _ (.tail _ (.tail _ (.head _)))), hc 768 (by norm_num) c3 (by omega)⟩
    by_cases c2 : 512 ≤ (y 1).val
    · exact ⟨_, .tail _ (.tail _ (.tail _ (.tail _ (.tail _ (.head _))))), hc 512 (by norm_num) c2 (by omega)⟩
    by_cases c1 : 256 ≤ (y 1).val
    · exact ⟨_, .tail _ (.tail _ (.tail _ (.tail _ (.tail _ (.tail _ (.head _)))))), hc 256 (by norm_num) c1 (by omega)⟩
    · exact ⟨_, .tail _ (.tail _ (.tail _ (.tail _ (.tail _ (.tail _ (.tail _ (.head _))))))), hc 0 (by norm_num) (by omega) (by omega)⟩

end Real

end Cert.FoxIdeal.Att

end
-- ==== Proof.FoxArr.lean ====
/- The blocks that a grid point reads, at the argument arrays' elements. -/
module

public import proofs.«01_k».proof.Proof.FoxUnit
public import proofs.«01_k».proof.Proof.Gen.FoxIdeal.Value
public import Idealize.ShloMosaic.Lib.Pipeline.ValueKit
public import Idealize.ShloMosaic.Lib.Claim

@[expose] public section

set_option maxRecDepth 16384

noncomputable section

namespace Cert.FoxIdeal.Att

open Cert.FoxIdeal Cert.FoxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0, t.val % 2] ∧ win0_1.index t = ![t.val / 2, t.val % 2, 0]
    ∧ win0_2.index t = ![t.val / 2, 0, t.val % 2] ∧ win0_3.index t = ![t.val / 2, 0, 0] ∧ win0_4.index t = ![t.val / 2, 0, t.val % 2]
    ∧ t.val / 2 < 16 ∧ (grid0.coords t 1).val = t.val % 2 :=
  (by decide +kernel : ∀ t : Fin grid0.N, _)

theorem V5 (c : Dev nD) : (V m c main_v5 : FVec Ideal S16x2048x256 .bf16) = truncf .bf16 (mulf (m ((c : Thread nD τ).loc main_arg0) : FVec Ideal S16x2048x256 .f32)
    (broadcastInDim S16x2048x256 ![] bcast_S_S16x2048x256 (id (Host.divf (constant (F := Ideal) S_ .f32 0x3E000000#32) (Host.log (constant (F := Ideal) S_ .f32 0x40000000#32)))))) bitsLt_bf16_f32 := by
  show StableHlo.after [hostOps0, hostOps0_1, hostOps0_2].flatten (fun b => m (c, b)) (Proc.tc.devRef main_v5) = _
  simp only [hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp <;> rfl
theorem V7 (c : Dev nD) : (V m c main_v7 : FVec Ideal S16x256x2048 .bf16) = (truncf (F := Ideal) (φ := .f32) .bf16 (transpose S16x256x2048 [0, 2, 1] (m ((c : Thread nD τ).loc main_arg1)) transposes_S16x2048x256_S16x256x2048_0_2_1 : FVec Ideal S16x256x2048 .f32) bitsLt_bf16_f32 : FVec Ideal S16x256x2048 .bf16) := by
  show StableHlo.after [hostOps0, hostOps0_1, hostOps0_2].flatten (fun b => m (c, b)) (Proc.tc.devRef main_v7) = _
  simp only [hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp <;> rfl
theorem V9 (c : Dev nD) : (V m c main_v9 : FVec Ideal S16x8x2048 .f32) = pad S16x8x2048 ![0, 0, 0] ![0, 4, 0] ![0, 0, 0]
    (transpose S16x4x2048 [0, 2, 1] (m ((c : Thread nD τ).loc main_arg3) : FVec Ideal S16x2048x4 .f32) transposes_S16x2048x4_S16x4x2048_0_2_1)
    (sitofp (F := Ideal) .f32 (constantI S_ 32 0#32)) pads_S16x4x2048_S16x8x2048_000_040_000 h_S_ := by
  show StableHlo.after [hostOps0, hostOps0_1, hostOps0_2].flatten (fun b => m (c, b)) (Proc.tc.devRef main_v9) = _
  simp only [hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp <;> rfl

section Host
variable (Q K : FVec Ideal S16x2048x256 .f32) (C : FVec Ideal S16x2048x4 .f32)
theorem host0 (b : Fin 16) (r : Fin 2048) (n : Fin 256) : (truncf .bf16 (mulf Q
    (broadcastInDim S16x2048x256 ![] bcast_S_S16x2048x256 (id (Host.divf (constant (F := Ideal) S_ .f32 0x3E000000#32) (Host.log (constant (F := Ideal) S_ .f32 0x40000000#32)))))) bitsLt_bf16_f32 : FVec Ideal S16x2048x256 .bf16) (ix3 b r n)
    = (Q (ix3 b r n) : EReal) * (((1 / 8) * (Real.log 2)⁻¹ : ℝ) : EReal) := by
  pointwise
  congr 1
  show Ideal.div (Ideal.ofBits .f32 0x3E000000#32) (Ideal.log (Ideal.ofBits .f32 0x40000000#32)) = _
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h8, h2, Ideal.log_coe, if_neg (by norm_num), Ideal.div_coe (Real.log_pos (by norm_num)).ne', ← EReal.coe_mul, one_div (Real.log 2)]
theorem host1 (b : Fin 16) (r : Fin 2048) (n : Fin 256) : (truncf .bf16 (transpose S16x256x2048 [0, 2, 1] K transposes_S16x2048x256_S16x256x2048_0_2_1) bitsLt_bf16_f32 : FVec Ideal S16x256x2048 .bf16) (ix3 b n r)
    = K (ix3 b r n) := by
  pointwise
theorem host3 (b : Fin 16) (r : Fin 2048) (x : Fin 8) : (pad S16x8x2048 ![0, 0, 0] ![0, 4, 0] ![0, 0, 0]
    (transpose S16x4x2048 [0, 2, 1] C transposes_S16x2048x4_S16x4x2048_0_2_1)
    (sitofp (F := Ideal) .f32 (constantI S_ 32 0#32)) pads_S16x4x2048_S16x8x2048_000_040_000 h_S_ : FVec Ideal S16x8x2048 .f32) (ix3 b x r)
    = if h : x.val < 4 then (C (ix3 b r (⟨x.val, h⟩ : Fin 4)) : EReal) else 0 := by
  pointwise
  have h0 : (FloatOps.sitofp (F := Ideal) .f32 0#32 : EReal) = 0 := by
    show (((0#32 : BitVec 32).toInt : ℝ) : EReal) = 0
    norm_num
  by_cases h : x.val < 4
  · rw [dif_pos h, dif_pos h]
  · rw [dif_neg h, dif_neg h]; exact h0
end Host

theorem blk0 (c : Dev nD) (t : Fin cfg0.N) (r : Fin 2048) (l : Fin 128) :
    (iblk m c 0 t (ix3 0 r l) : EReal) = V m c main_v5 (ix3 (⟨t.val / 2, (idx t).2.2.2.2.2.1⟩ : Fin 16) r (⟨128 * (t.val % 2) + l.val, by omega⟩ : Fin 256)) := by
  blk_simp [iblk]
  blk_ext [idx t]
theorem blk1 (c : Dev nD) (t : Fin cfg0.N) (r : Fin 2048) (l : Fin 128) :
    (iblk m c 1 t (ix3 0 l r) : EReal) = V m c main_v7 (ix3 (⟨t.val / 2, (idx t).2.2.2.2.2.1⟩ : Fin 16) (⟨128 * (t.val % 2) + l.val, by omega⟩ : Fin 256) r) := by
  blk_simp [iblk]
  blk_ext [idx t]
theorem blk2 (c : Dev nD) (t : Fin cfg0.N) (r : Fin 2048) (l : Fin 128) :
    (iblk m c 2 t (ix3 0 r l) : EReal) = m ((c : Thread nD τ).loc main_arg2) (ix3 (⟨t.val / 2, (idx t).2.2.2.2.2.1⟩ : Fin 16) r (⟨128 * (t.val % 2) + l.val, by omega⟩ : Fin 256)) := by
  blk_simp [iblk]
  entry_read
  pointwise
  blk_ext [idx t]
theorem blk3 (c : Dev nD) (t : Fin cfg0.N) (r : Fin 2048) (x : Fin 8) :
    (iblk m c 3 t (ix3 0 x r) : EReal) = V m c main_v9 (ix3 (⟨t.val / 2, (idx t).2.2.2.2.2.1⟩ : Fin 16) x r) := by
  blk_simp [iblk]
  blk_ext [idx t]

end Cert.FoxIdeal.Att

end
-- ==== Proof.FoxRef.lean ====
/- The reference's result, read at one element. -/
module

public import proofs.«01_k».proof.Proof.Gen.RefFoxIdeal.Run
public import proofs.«01_k».proof.Proof.FoxSoft
public import Idealize.ShloMosaic.Lib.Pointwise
public import Idealize.ShloMosaic.Lib.IdealHost

@[expose] public section

set_option maxRecDepth 16384

noncomputable section

namespace Cert.RefFoxIdeal.Att

open Cert.RefFoxIdeal Cert.RefFoxIdeal.Gen Idealize.ShloMosaic Idealize.ShloMosaic.TcCoe Cert.Soft

/-- Which keys a query may see. -/
def seen : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))
/-- The masked scores. -/
def scores (Q K : FVec Ideal S16x2048x256 .f32) (C : FVec Ideal S16x2048x4 .f32) : FVec Ideal S16x4x2048x2048 .f32 :=
  select (broadcastInDim S16x4x2048x2048 ![2, 3] bcast_S2048x2048_S16x4x2048x2048_2_3 seen)
    (addf (mulf (Host.dotGeneral dot_S16x2048x4x64_S16x2048x4x64_S16x4x2048x2048_3_3_1_1_02_02 none (shapeCast _ Q shapeCasts_S16x2048x256_S16x2048x4x64) (shapeCast _ K shapeCasts_S16x2048x256_S16x2048x4x64))
        (broadcastInDim S16x4x2048x2048 ![] bcast_S_S16x4x2048x2048 (constant S_ .f32 0x3E000000#32)))
      (subf (broadcastInDim S16x4x2048x2048 ![0, 1, 2, 3] bcast_S16x4x2048x1_S16x4x2048x2048_0_1_2_3 (broadcastInDim S16x4x2048x1 ![0, 1, 2] bcast_S16x4x2048_S16x4x2048x1_0_1_2 (transpose S16x4x2048 [0, 2, 1] C transposes_S16x2048x4_S16x4x2048_0_2_1)))
        (broadcastInDim S16x4x2048x2048 ![0, 1, 2, 3] bcast_S16x4x1x2048_S16x4x2048x2048_0_1_2_3 (broadcastInDim S16x4x1x2048 ![0, 1, 3] bcast_S16x4x2048_S16x4x1x2048_0_1_3 (transpose S16x4x2048 [0, 2, 1] C transposes_S16x2048x4_S16x4x2048_0_2_1)))))
    (broadcastInDim S16x4x2048x2048 ![] bcast_S_S16x4x2048x2048 (id (constant S_ .f32 0xFF800000#32)))
/-- The row maxima. -/
def tops (L : FVec Ideal S16x4x2048x2048 .f32) : FVec Ideal S16x4x2048 .f32 :=
  maximumf (broadcastInDim S16x4x2048 ![] bcast_S_S16x4x2048 (constant S_ .f32 0xFF800000#32)) (Host.reduce FloatOps.maximumf L (constant S_ .f32 0xFF800000#32) reducesTo_S16x4x2048x2048_S16x4x2048_d3 h_S_)
/-- A row statistic along the row. -/
def along (M : FVec Ideal S16x4x2048 .f32) : FVec Ideal S16x4x2048x2048 .f32 :=
  broadcastInDim S16x4x2048x2048 ![0, 1, 2, 3] bcast_S16x4x2048x1_S16x4x2048x2048_0_1_2_3 (broadcastInDim S16x4x2048x1 ![0, 1, 2] bcast_S16x4x2048_S16x4x2048x1_0_1_2 M)
/-- The unnormalized weights. -/
def raw (L : FVec Ideal S16x4x2048x2048 .f32) : FVec Ideal S16x4x2048x2048 .f32 := Host.exp (subf L (along (tops L)))
/-- The weights. -/
def weights (E : FVec Ideal S16x4x2048x2048 .f32) : FVec Ideal S16x4x2048x2048 .f32 :=
  Host.divf E (along (Host.reduceAdd E (constant S_ .f32 0x00000000#32) reducesTo_S16x4x2048x2048_S16x4x2048_d3 h_S_))
/-- The weighted values, heads side by side. -/
def result (V : FVec Ideal S16x2048x256 .f32) (P : FVec Ideal S16x4x2048x2048 .f32) : FVec Ideal S16x2048x256 .bf16 :=
  truncf .bf16 (shapeCast _ (transpose S16x2048x4x64 [0, 3, 1, 2] (Host.dotGeneral dot_S16x2048x4x64_S16x4x2048x2048_S16x4x64x2048_1_3_3_2_02_01 none (shapeCast _ V shapeCasts_S16x2048x256_S16x2048x4x64) P) transposes_S16x4x64x2048_S16x2048x4x64_0_3_1_2) shapeCasts_S16x2048x4x64_S16x2048x256) bitsLt_bf16_f32

theorem res_eq (m : (ℓ : Loc nD τ sig) → Buf (Elt Ideal) ℓ) (c : Dev nD) : (Value.res_main_v34 m c : FVec Ideal S16x2048x256 .bf16)
    = result (m ((c.tc : Thread nD τ).loc main_arg2)) (weights (raw (scores (m ((c.tc : Thread nD τ).loc main_arg0)) (m ((c.tc : Thread nD τ).loc main_arg1)) (m ((c.tc : Thread nD τ).loc main_arg3))))) := rfl

variable (Q K V : FVec Ideal S16x2048x256 .f32) (C : FVec Ideal S16x2048x4 .f32) (L E P : FVec Ideal S16x4x2048x2048 .f32)

theorem seen_apply (r k : Fin 2048) : seen (ix2 r k) = if k.val ≤ r.val then 1#1 else 0#1 := by
  pointwise [seen]
  have hr := r.isLt
  have hk := k.isLt
  have e : (BitVec.ofNat 32 k.val).sle (BitVec.ofNat 32 r.val) = decide (k.val ≤ r.val) := by
    simp only [BitVec.sle, BitVec.toInt_eq_toNat_of_lt (show 2 * (BitVec.ofNat 32 k.val).toNat < 2 ^ 32 by simp only [BitVec.toNat_ofNat]; omega), BitVec.toInt_eq_toNat_of_lt (show 2 * (BitVec.ofNat 32 r.val).toNat < 2 ^ 32 by simp only [BitVec.toNat_ofNat]; omega), BitVec.toNat_ofNat]
    congr 1
    apply propext
    omega
  show BitVec.ofBool ((BitVec.ofNat 32 k.val).sle (BitVec.ofNat 32 r.val)) = _
  rw [e]
  by_cases h : k.val ≤ r.val <;> simp [h]
theorem negTop : Ideal.ofBits .f32 0xFF800000#32 = (⊥ : EReal) := by
  simp [Ideal.ofBits, Ideal.ieee]
theorem eighth : Ideal.ofBits .f32 0x3E000000#32 = ((1 / 8 : ℝ) : EReal) := by
  simp [Ideal.ofBits, Ideal.ieee, -EReal.coe_mul]; norm_num
theorem scores_apply (b : Fin 16) (h : Fin 4) (r k : Fin 2048) : (scores Q K C (ix4 b h r k) : EReal)
    = if k.val ≤ r.val then (∑ d : Fin 64, (Q (ix3 b r (⟨h.val * 64 + d.val, by omega⟩ : Fin 256)) : EReal) * K (ix3 b k (⟨h.val * 64 + d.val, by omega⟩ : Fin 256))) * ((1 / 8 : ℝ) : EReal)
        + ((C (ix3 b r h) : EReal) - C (ix3 b k h)) else ⊥ := by
  pointwise [scores]
  rw [seen_apply, eighth]
  by_cases hk : k.val ≤ r.val
  · rw [if_pos hk, if_pos hk]; rfl
  · rw [if_neg hk, if_neg hk]; exact negTop
/-- A row maximum over numbers below the top, one of them above the bottom, is a real. -/
theorem fold_real {s t u : Shape} {a : Fin s.rank} (x : FVec Ideal s .f32) (init : FVec Ideal u .f32) (hi : ∀ i, (init i : EReal) = ⊥) (h' : s.ReducesTo [a] t) (h : s.Reduces [a] t)
    (hu : 0 < u.numel) (j : t.Idx) (hlt : ∀ i, (x i : EReal) < ⊤) (k : Fin (s.size a)) (hk : (⊥ : EReal) < x (h.lift j k)) :
    ∃ M : ℝ, (Host.reduce (FloatOps.maximumf (F := Ideal) (φ := .f32)) x init h' hu j : EReal) = (M : EReal) := by
  rw [Host.reduce_eq_fold_single (FloatOps.maximumf (F := Ideal) (φ := .f32)) x init h' h hu j, hi]
  have hT : Finset.univ.fold (FloatOps.maximumf (F := Ideal) (φ := .f32)) (⊥ : EReal) (x ∘ h.lift j) < (⊤ : EReal) :=
    (Finset.fold_max_lt _).2 ⟨bot_lt_top, fun y _ => hlt _⟩
  have hB : (⊥ : EReal) < Finset.univ.fold (FloatOps.maximumf (F := Ideal) (φ := .f32)) (⊥ : EReal) (x ∘ h.lift j) :=
    (Finset.lt_fold_max _).2 (Or.inr ⟨k, Finset.mem_univ _, hk⟩)
  exact ⟨EReal.toReal _, (EReal.coe_toReal hT.ne hB.ne').symm⟩
theorem floor_apply (R : FVec Ideal S16x4x2048 .f32) (b : Fin 16) (h : Fin 4) (r : Fin 2048) :
    (maximumf (broadcastInDim S16x4x2048 ![] bcast_S_S16x4x2048 (constant S_ .f32 0xFF800000#32)) R (ix3 b h r) : EReal) = R (ix3 b h r) := by
  pointwise
  rw [negTop]; exact max_eq_right bot_le
theorem lift_eq (hred : S16x4x2048x2048.Reduces [3] S16x4x2048) (b : Fin 16) (h : Fin 4) (r k : Fin 2048) : hred.lift (ix3 b h r) k = ix4 b h r k := by
  funext c
  apply Fin.ext
  refine (hred.lift_val (ix3 b h r) k c).trans ?_
  fin_cases c <;> rfl
theorem tops_real (hlt : ∀ i, (L i : EReal) < ⊤) (b : Fin 16) (h : Fin 4) (r : Fin 2048) (hex : ∃ k, (⊥ : EReal) < L (ix4 b h r k)) :
    ∃ M : ℝ, (tops L (ix3 b h r) : EReal) = (M : EReal) := by
  obtain ⟨k, hk⟩ := hex
  have hred : S16x4x2048x2048.Reduces [3] S16x4x2048 := by decide
  obtain ⟨M, hM⟩ := fold_real (s := S16x4x2048x2048) (a := 3) L (constant S_ .f32 0xFF800000#32) (fun _ => negTop) reducesTo_S16x4x2048x2048_S16x4x2048_d3 hred h_S_ (ix3 b h r) hlt k (by rw [lift_eq]; exact hk)
  exact ⟨M, (floor_apply _ b h r).trans hM⟩
theorem raw_apply (b : Fin 16) (h : Fin 4) (r k : Fin 2048) : (raw L (ix4 b h r k) : EReal) = Ideal.exp ((L (ix4 b h r k) : EReal) - tops L (ix3 b h r)) := by
  pointwise [raw, along]
theorem weights_apply (b : Fin 16) (h : Fin 4) (r k : Fin 2048) : (weights E (ix4 b h r k) : EReal) = Ideal.div (E (ix4 b h r k)) (∑ k : Fin 2048, (E (ix4 b h r k) : EReal)) := by
  pointwise [weights, along]
theorem result_apply (b : Fin 16) (r : Fin 2048) (n : Fin 256) : (result V P (ix3 b r n) : EReal)
    = ∑ k : Fin 2048, (V (ix3 b k n) : EReal) * P (ix4 b (⟨n.val / 64, by omega⟩ : Fin 4) r k) := by
  pointwise [result]

end Cert.RefFoxIdeal.Att

end
-- ==== Proof.FoxFinal.lean ====
/- The kernel's result array is the reference's result array, for finite queries, keys and forget sums. -/
module

public import proofs.«01_k».proof.Proof.FoxArr
public import proofs.«01_k».proof.Proof.FoxRef

@[expose] public section

set_option maxRecDepth 16384

noncomputable section

namespace Cert.FoxIdeal.Att

open Cert.FoxIdeal Cert.FoxIdeal.Gen Idealize.ShloMosaic Idealize.ShloMosaic.TcCoe Idealize.SL.Sem Cert.Soft
open Idealize.ShloMosaic.Pipeline (Dat)

/-- A head's masked-in score of a query row and a key row, as a real. -/
def score (q k : S16x2048x256.Idx → ℝ) (cc : S16x2048x4.Idx → ℝ) (b : Fin 16) (h : Fin 4) (R K : Fin 2048) : ℝ :=
  (∑ d : Fin 64, q (ix3 b R (⟨h.val * 64 + d.val, by omega⟩ : Fin 256)) * k (ix3 b K (⟨h.val * 64 + d.val, by omega⟩ : Fin 256))) * (1 / 8) + (cc (ix3 b R h) - cc (ix3 b K h))

theorem pick_bit : ∀ (x : Fin 8) (h : Fin 4), IntOp.cmpi .eq (BitVec.ofNat 32 x.val) (BitVec.ofNat 32 h.val) = if x = ⟨h.val, by omega⟩ then 1#1 else 0#1 := by decide

theorem pick (h : Fin 4) (v : Fin 8 → EReal) : (∑ x : Fin 8, Scalar.select (IntOp.cmpi .eq (BitVec.ofNat 32 x.val) (BitVec.ofNat 32 h.val)) (v x) 0) = v ⟨h.val, by omega⟩ := by
  have : ∀ x : Fin 8, Scalar.select (IntOp.cmpi .eq (BitVec.ofNat 32 x.val) (BitVec.ofNat 32 h.val)) (v x) 0 = if x = (⟨h.val, by omega⟩ : Fin 8) then v x else 0 := fun x => by
    rw [pick_bit]
    by_cases e : x = (⟨h.val, by omega⟩ : Fin 8)
    · rw [if_pos e, if_pos e]; rfl
    · rw [if_neg e, if_neg e]; rfl
  rw [Finset.sum_congr rfl fun x _ => this x, Finset.sum_ite_eq' Finset.univ, if_pos (Finset.mem_univ _)]

theorem half (hh : ℕ) (hb : hh < 2) (f : Fin 128 → EReal) (g : Fin 128 → EReal) :
    (∑ l : Fin 128, f l * keep hh l * g l) = ∑ d : Fin 64, f ⟨hh * 64 + d.val, by omega⟩ * g ⟨hh * 64 + d.val, by omega⟩ := by
  rw [show (∑ l : Fin 128, f l * keep hh l * g l) = ∑ l : Fin (64 + 64), f l * keep hh l * g l from rfl, Fin.sum_univ_add]
  rcases (show hh = 0 ∨ hh = 1 by omega) with rfl | rfl
  · rw [Finset.sum_eq_zero (s := Finset.univ) (f := fun i : Fin 64 => f (Fin.natAdd 64 i) * keep 0 (Fin.natAdd 64 i) * g (Fin.natAdd 64 i)), add_zero]
    · refine Finset.sum_congr rfl fun d _ => ?_
      have e : Fin.castAdd 64 d = (⟨0 * 64 + d.val, by omega⟩ : Fin 128) := Fin.ext (by show d.val = 0 * 64 + d.val; omega)
      rw [e, keep, if_pos (by show (0 * 64 + d.val) / 64 = 0; omega), mul_one]
    · intro d _
      rw [keep, if_neg (by show ¬ (64 + d.val) / 64 = 0; omega), mul_zero, zero_mul]
  · rw [Finset.sum_eq_zero (s := Finset.univ) (f := fun i : Fin 64 => f (Fin.castAdd 64 i) * keep 1 (Fin.castAdd 64 i) * g (Fin.castAdd 64 i)), zero_add]
    · refine Finset.sum_congr rfl fun d _ => ?_
      have e : Fin.natAdd 64 d = (⟨1 * 64 + d.val, by omega⟩ : Fin 128) := Fin.ext (by show 64 + d.val = 1 * 64 + d.val; omega)
      rw [e, keep, if_pos (by show (1 * 64 + d.val) / 64 = 1; omega), mul_one]
    · intro d _
      rw [keep, if_neg (by show ¬ d.val / 64 = 1; omega), mul_zero, zero_mul]

theorem headNo_eq (i : grid0.Coords) (p hh : ℕ) (hp : (i 1).val = p) (hb : p < 2) (hh2 : hh < 2) : headNo i (BitVec.ofNat 32 hh) = BitVec.ofNat 32 (2 * p + hh) := by
  unfold headNo
  rw [hp]
  rcases (show p = 0 ∨ p = 1 by omega) with rfl | rfl <;> rcases (show hh = 0 ∨ hh = 1 by omega) with rfl | rfl <;> rfl

section Blocks
variable {x0 : Vec Ideal S1x2048x128 .bf16} {x1 : Vec Ideal S1x128x2048 .bf16} {x3 : Vec Ideal S1x8x2048 .f32}
  {q k : S16x2048x256.Idx → ℝ} {cc : S16x2048x4.Idx → ℝ}

theorem lgIs_of (b : Fin 16) (p hh : ℕ) (hb : p < 2) (hh2 : hh < 2)
    (h0 : ∀ (r : Fin 2048) (l : Fin 128), (x0 (ix3 0 r l) : EReal) = ((q (ix3 b r (⟨128 * p + l.val, by omega⟩ : Fin 256)) : ℝ) : EReal) * (((1 / 8) * (Real.log 2)⁻¹ : ℝ) : EReal))
    (h1 : ∀ (r : Fin 2048) (l : Fin 128), (x1 (ix3 0 l r) : EReal) = ((k (ix3 b r (⟨128 * p + l.val, by omega⟩ : Fin 256)) : ℝ) : EReal))
    (h3 : ∀ (r : Fin 2048) (x : Fin 8), (x3 (ix3 0 x r) : EReal) = if h : x.val < 4 then ((cc (ix3 b r (⟨x.val, h⟩ : Fin 4)) : ℝ) : EReal) else 0) :
    LgIs (BitVec.ofNat 32 (2 * p + hh)) hh x0 x1 x3 (score q k cc b ⟨2 * p + hh, by omega⟩) (fun R => cc (ix3 b R (⟨2 * p + hh, by omega⟩ : Fin 4))) := fun R K => by
  unfold lg
  rw [pick (⟨2 * p + hh, by omega⟩ : Fin 4) (fun x => x3 (ix3 0 x K)), h3, dif_pos (show 2 * p + hh < 4 by omega), log2e_eq,
    half hh hh2 (fun l => x0 (ix3 0 R l)) (fun l => x1 (ix3 0 l K))]
  have e : ∀ d : Fin 64, (x0 (ix3 0 R (⟨hh * 64 + d.val, by omega⟩ : Fin 128)) : EReal) * x1 (ix3 0 (⟨hh * 64 + d.val, by omega⟩ : Fin 128) K)
      = (((q (ix3 b R (⟨(2 * p + hh) * 64 + d.val, by omega⟩ : Fin 256)) * k (ix3 b K (⟨(2 * p + hh) * 64 + d.val, by omega⟩ : Fin 256))) * ((1 / 8) * (Real.log 2)⁻¹) : ℝ) : EReal) := fun d => by
    rw [h0, h1, ← EReal.coe_mul, ← EReal.coe_mul]
    have e1 : (⟨128 * p + (hh * 64 + d.val), by omega⟩ : Fin 256) = ⟨(2 * p + hh) * 64 + d.val, by omega⟩ := Fin.ext (by show 128 * p + (hh * 64 + d.val) = (2 * p + hh) * 64 + d.val; omega)
    rw [e1]
    congr 1; ring
  rw [Finset.sum_congr rfl fun d _ => e d, ← coe_sum, ← Finset.sum_mul, ← EReal.coe_mul, ← EReal.coe_sub]
  congr 1
  unfold score
  ring
end Blocks

variable (m : (ℓ : Loc nD τ sig) → Buf (Elt Ideal) ℓ)

/-- The kernel's arguments at their literal types. -/
abbrev argQ (c : Dev nD) : FVec Ideal S16x2048x256 .f32 := m ((c : Thread nD τ).loc main_arg0)
abbrev argK (c : Dev nD) : FVec Ideal S16x2048x256 .f32 := m ((c : Thread nD τ).loc main_arg1)
abbrev argV (c : Dev nD) : FVec Ideal S16x2048x256 .f32 := m ((c : Thread nD τ).loc main_arg2)
abbrev argC (c : Dev nD) : FVec Ideal S16x2048x4 .f32 := m ((c : Thread nD τ).loc main_arg3)

section Fin
variable (c : Dev nD) {q k : S16x2048x256.Idx → ℝ} {cc : S16x2048x4.Idx → ℝ}
  (hq : ∀ i, argQ m c i = ((q i : ℝ) : EReal)) (hk : ∀ i, argK m c i = ((k i : ℝ) : EReal)) (hc : ∀ i, argC m c i = ((cc i : ℝ) : EReal))

include hq hk hc in
theorem lgIs_at (t : Fin cfg0.N) (hh : ℕ) (hh2 : hh < 2) :
    LgIs (headNo (grid0.coords t) (BitVec.ofNat 32 hh)) hh (iblk m c 0 t) (iblk m c 1 t) (iblk m c 3 t)
      (score q k cc (⟨t.val / 2, (idx t).2.2.2.2.2.1⟩ : Fin 16) ⟨2 * (t.val % 2) + hh, by omega⟩)
      (fun R => cc (ix3 (⟨t.val / 2, (idx t).2.2.2.2.2.1⟩ : Fin 16) R (⟨2 * (t.val % 2) + hh, by omega⟩ : Fin 4))) := by
  rw [headNo_eq (grid0.coords t) (t.val % 2) hh (idx t).2.2.2.2.2.2 (by omega) hh2]
  refine lgIs_of _ _ _ (by omega) hh2 (fun r l => ?_) (fun r l => ?_) (fun r x => ?_)
  · refine (blk0 m c t r l).trans ?_
    rw [V5]
    refine (host0 (argQ m c) _ _ _).trans ?_
    rw [hq]
  · refine (blk1 m c t r l).trans ?_
    rw [V7]
    refine (host1 (argK m c) _ _ _).trans ?_
    rw [hk]
  · refine (blk3 m c t r x).trans ?_
    rw [V9]
    refine (host3 (argC m c) _ _ _).trans ?_
    by_cases h : x.val < 4
    · rw [dif_pos h, dif_pos h, hc]
    · rw [dif_neg h, dif_neg h]

/-- The reference's masked scores. -/
abbrev refL : FVec Ideal Cert.RefFoxIdeal.S16x4x2048x2048 .f32 := Cert.RefFoxIdeal.Att.scores (argQ m c) (argK m c) (argC m c)

include hq hk hc in
theorem refL_apply (b : Fin 16) (h : Fin 4) (R K : Fin 2048) : (refL m c (ix4 b h R K) : EReal) = masked (K.val ≤ R.val) (score q k cc b h R K) := by
  refine (Cert.RefFoxIdeal.Att.scores_apply _ _ _ b h R K).trans ?_
  unfold masked
  by_cases hK : K.val ≤ R.val
  · rw [if_pos hK, if_pos hK, hc, hc]
    rw [Finset.sum_congr rfl fun d _ => (by rw [hq, hk, ← EReal.coe_mul] : (argQ m c (ix3 b R (⟨h.val * 64 + d.val, by omega⟩ : Fin 256)) : EReal) * argK m c (ix3 b K (⟨h.val * 64 + d.val, by omega⟩ : Fin 256)) = _),
      ← coe_sum, ← EReal.coe_mul, ← EReal.coe_sub, ← EReal.coe_add]
    rfl
  · rw [if_neg hK, if_neg hK]

include hq hk hc in
theorem top_real (b : Fin 16) (h : Fin 4) (R : Fin 2048) : ∃ M : ℝ, (Cert.RefFoxIdeal.Att.tops (refL m c) (ix3 b h R) : EReal) = (M : EReal) := by
  refine Cert.RefFoxIdeal.Att.tops_real _ (fun i => ?_) b h R ⟨R, ?_⟩
  · have : i = ix4 (i 0) (i 1) (i 2) (i 3) := by funext a; fin_cases a <;> rfl
    rw [this]
    refine (refL_apply m c hq hk hc _ _ _ _).trans_lt ?_
    unfold masked
    split_ifs
    · exact EReal.coe_lt_top _
    · exact bot_lt_top
  · rw [refL_apply m c hq hk hc, masked, if_pos le_rfl]; exact EReal.bot_lt_coe _

/-- The reference's result over the kernel's arguments. -/
abbrev refR : FVec Ideal S16x2048x256 .bf16 := Cert.RefFoxIdeal.Att.result (argV m c) (Cert.RefFoxIdeal.Att.weights (Cert.RefFoxIdeal.Att.raw (refL m c)))

include hq hk hc in
theorem refR_apply (t : Fin cfg0.N) (mm : Fin 4 → Fin 2048 → ℝ) (hm : ∀ h R, (Cert.RefFoxIdeal.Att.tops (refL m c) (ix3 (⟨t.val / 2, (idx t).2.2.2.2.2.1⟩ : Fin 16) h R) : EReal) = (mm h R : EReal))
    (R : Fin 2048) (d : Fin 128) (h : Fin 4) (hd : (128 * (t.val % 2) + d.val) / 64 = h.val) :
    (refR m c (ix3 (⟨t.val / 2, (idx t).2.2.2.2.2.1⟩ : Fin 16) R (⟨128 * (t.val % 2) + d.val, by omega⟩ : Fin 256)) : EReal)
      = soft (score q k cc (⟨t.val / 2, (idx t).2.2.2.2.2.1⟩ : Fin 16) h) (mm h) (iblk m c 2 t) R d := by
  refine (Cert.RefFoxIdeal.Att.result_apply _ _ _ _ _).trans ?_
  unfold soft
  refine Finset.sum_congr rfl fun K _ => ?_
  have eh : (⟨(128 * (t.val % 2) + d.val) / 64, by omega⟩ : Fin 4) = h := Fin.ext hd
  have er : ∀ K, (Cert.RefFoxIdeal.Att.raw (refL m c) (ix4 (⟨t.val / 2, (idx t).2.2.2.2.2.1⟩ : Fin 16) h R K) : EReal)
      = Ideal.exp (masked (K.val ≤ R.val) (score q k cc (⟨t.val / 2, (idx t).2.2.2.2.2.1⟩ : Fin 16) h R K) - (mm h R : EReal)) := fun K => by
    rw [Cert.RefFoxIdeal.Att.raw_apply, refL_apply m c hq hk hc, hm]
  congr 1
  · exact (blk2 m c t K d).symm
  · refine (Cert.RefFoxIdeal.Att.weights_apply _ _ _ _ _).trans ?_
    show Ideal.div (Cert.RefFoxIdeal.Att.raw (refL m c) (ix4 _ (⟨(128 * (t.val % 2) + d.val) / 64, by omega⟩ : Fin 4) R K)) (∑ K : Fin 2048, Cert.RefFoxIdeal.Att.raw (refL m c) (ix4 _ (⟨(128 * (t.val % 2) + d.val) / 64, by omega⟩ : Fin 4) R K)) = _
    rw [eh, er, Finset.sum_congr rfl fun K _ => er K]

include hq hk hc in
theorem after_at (t : Fin cfg0.N) (y : S1x2048x128.Idx) :
    ((outsAt0 m c t : Vec Ideal S1x2048x128 .bf16) y : EReal) = refR m c (ix3 (⟨t.val / 2, (idx t).2.2.2.2.2.1⟩ : Fin 16) (y 1) (⟨128 * (t.val % 2) + (y 2).val, by have := (y 2).isLt; change (y 2).val < 128 at this; omega⟩ : Fin 256)) := by
  choose mm hm using fun (h : Fin 4) (R : Fin 2048) => top_real m c hq hk hc (⟨t.val / 2, (idx t).2.2.2.2.2.1⟩ : Fin 16) h R
  have hy : (y 2).val < 128 := (y 2).isLt
  unfold outsAt0 out0_A_4
  rw [View.read_writes_junk_apply_eq_canon]
  refine (out_at _ _ _ _ _ _ _ _ _ _ _ _ _ _ (lgIs_at m c hq hk hc t 0 (by norm_num)) (lgIs_at m c hq hk hc t 1 (by norm_num)) c _ _ _ (mm ⟨2 * (t.val % 2) + 0, by omega⟩) (mm ⟨2 * (t.val % 2) + 1, by omega⟩) y).trans ?_
  unfold softPair
  by_cases h0 : (y 2).val / 64 = 0
  · rw [if_pos h0]
    exact (refR_apply m c hq hk hc t mm hm (y 1) (y 2) ⟨2 * (t.val % 2) + 0, by omega⟩ (by show (128 * (t.val % 2) + (y 2).val) / 64 = 2 * (t.val % 2) + 0; omega)).symm
  · rw [if_neg h0]
    exact (refR_apply m c hq hk hc t mm hm (y 1) (y 2) ⟨2 * (t.val % 2) + 1, by omega⟩ (by show (128 * (t.val % 2) + (y 2).val) / 64 = 2 * (t.val % 2) + 1; omega)).symm

include hq hk hc in
theorem final : (dats m 0 c).arrAt 4 (cfgs 0).N = refR m c := by
  refine (dats m 0 c).arrAt_eq_of_covers 4 _ (by decide +kernel) fun t _ y => ?_
  blk_simp
  rw [after0_4]
  refine (after_at m c hq hk hc t y).trans ?_
  blk_ext [idx t]
end Fin

end Cert.FoxIdeal.Att

end
-- ==== Proof.FfnTiles.lean ====
/- Stacks of blocks stored in a buffer of three axes, and what a load reads back; the layer's row function over the extended reals. -/
module

public import Idealize.ShloMosaic.Lib.Pipeline.Value
public import Idealize.ShloMosaic.Lib.Pointwise
public import Idealize.ShloMosaic.Lib.IdealHost

@[expose] public section

set_option maxRecDepth 16384

noncomputable section

namespace Cert.Mlp

open Idealize.ShloMosaic

section Stack
variable {Val : EltTy → Type} {S : Shape} {e : EltTy} {N : ℕ}

/-- The first `n` blocks of a family, the last first. -/
def stack (P : ∀ n, n < N → View.Piece Val S e) : (n : ℕ) → n ≤ N → List (View.Piece Val S e)
  | 0, _ => []
  | n + 1, h => P n h :: stack P n (Nat.le_of_succ_le h)

theorem mem_stack {P : ∀ n, n < N → View.Piece Val S e} {p : View.Piece Val S e} : ∀ {n : ℕ} {h : n ≤ N}, p ∈ stack P n h → ∃ j, ∃ hj : j < N, p = P j hj
  | 0, _, hp => by simp [stack] at hp
  | n + 1, h, hp => by
    rcases List.mem_cons.1 hp with rfl | hp
    · exact ⟨n, h, rfl⟩
    · exact mem_stack hp

theorem stack_mem (P : ∀ n, n < N → View.Piece Val S e) : ∀ (n : ℕ) (h : n ≤ N) (j : ℕ) (hj : j < n), P j (hj.trans_le h) ∈ stack P n h
  | 0, _, _, hj => absurd hj (Nat.not_lt_zero _)
  | n + 1, h, j, hj => by
    rcases Nat.lt_succ_iff_lt_or_eq.1 hj with hj | rfl
    · exact List.mem_cons_of_mem _ (stack_mem P n _ j hj)
    · exact List.mem_cons_self
end Stack

/-- A shape of three axes. -/
abbrev C3 (a b c : ℕ) : Shape := ⟨3, ![a, b, c]⟩

section Tiles
variable {A B C p q N : ℕ} {e : EltTy} {o0 o1 o2 : ℕ → ℕ}

theorem ix3_flat (x : (C3 1 p q).Idx) : x = ix3 0 (x 1) (x 2) := by
  funext a
  apply Fin.ext
  have h0 := (x 0).isLt
  change (x 0).val < 1 at h0
  match a with
  | ⟨0, _⟩ => show (x 0).val = 0; omega
  | ⟨1, _⟩ => rfl
  | ⟨2, _⟩ => rfl

/-- Where every block of a stack holds `G`, so does the buffer at an index that a block covers. -/
theorem stack_canon (inb : ∀ n, n < N → ∀ a, (![o0 n, o1 n, o2 n] : Fin 3 → ℕ) a + (C3 1 p q).size a ≤ (C3 A B C).size a)
    (f : ∀ n, n < N → Vec Ideal (C3 1 p q) e) (G : Fin A → Fin B → Fin C → Elt Ideal e)
    (hf : ∀ n hn (r : Fin p) (k : Fin q) (a : Fin A) (b : Fin B) (c : Fin C), a.val = o0 n → b.val = o1 n + r.val → c.val = o2 n + k.val → f n hn (ix3 0 r k) = G a b c)
    (n : ℕ) (hn : n ≤ N) (a : Fin A) (b : Fin B) (c : Fin C) (j : ℕ) (hj : j < n) (h0 : a.val = o0 j) (h1 : o1 j ≤ b.val ∧ b.val < o1 j + p) (h2 : o2 j ≤ c.val ∧ c.val < o2 j + q) :
    View.canon (Val := Elt Ideal) (stack (fun n hn => ⟨Rect.unit (s := C3 A B C) ![o0 n, o1 n, o2 n] (C3 1 p q).size (inb n hn), f n hn⟩) n hn) (ix3 a b c) = G a b c := by
  refine (View.canon_apply_of_pieces (Val := Elt Ideal) (S := C3 A B C) (e := e) (fun i => G (i 0) (i 1) (i 2)) _ ?_ (ix3 a b c) ?_)
  · intro P hP
    obtain ⟨j, hj, rfl⟩ := mem_stack hP
    intro x
    have h0 := (x 0).isLt
    change (x 0).val < 1 at h0
    refine (congrArg (f j hj) (ix3_flat x)).trans (hf j hj (x 1) (x 2) _ _ _ ?_ ?_ ?_)
    · show o0 j + 1 * (x 0).val = o0 j; omega
    · show o1 j + 1 * (x 1).val = o1 j + (x 1).val; omega
    · show o2 j + 1 * (x 2).val = o2 j + (x 2).val; omega
  · refine ⟨_, stack_mem _ n hn j hj, ?_⟩
    show ix3 a b c ∈ (Rect.unit (s := C3 A B C) ![o0 j, o1 j, o2 j] (C3 1 p q).size (inb j (hj.trans_le hn))).set
    rw [Rect.mem_set_unit]
    intro i
    match i with
    | ⟨0, _⟩ => show o0 j ≤ a.val ∧ a.val < o0 j + 1; omega
    | ⟨1, _⟩ => exact h1
    | ⟨2, _⟩ => exact h2

theorem idx3 {x y z : ℕ} (inb : ∀ a, (![x, y, z] : Fin 3 → ℕ) a + (C3 1 p q).size a ≤ (C3 A B C).size a) (r : Fin p) (k : Fin q)
    (a : Fin A) (b : Fin B) (c : Fin C) (h0 : a.val = x) (h1 : b.val = y + r.val) (h2 : c.val = z + k.val) :
    (Rect.unit (s := C3 A B C) ![x, y, z] (C3 1 p q).size inb).toLoadRect.idx (ix3 0 r k : (C3 1 p q).Idx) = ix3 a b c := by
  funext i
  apply Fin.ext
  match i with
  | ⟨0, _⟩ => show x + 1 * 0 = a.val; omega
  | ⟨1, _⟩ => show y + 1 * r.val = b.val; omega
  | ⟨2, _⟩ => show z + 1 * k.val = c.val; omega

variable {sig : RefSig} {κ : Kind} {sp : Space}

/-- A load from a buffer that blocks were stored in. -/
theorem cov3 (v : View sig κ sp (C3 A B C) e) (L : List (View.Piece (Elt Ideal) (C3 A B C) e)) {x y z : ℕ}
    (inb : ∀ a, (![x, y, z] : Fin 3 → ℕ) a + (C3 1 p q).size a ≤ (C3 A B C).size a) (r : Fin p) (k : Fin q)
    (a : Fin A) (b : Fin B) (c : Fin C) (h0 : a.val = x) (h1 : b.val = y + r.val) (h2 : c.val = z + k.val) :
    v.readCov L (Rect.unit (s := C3 A B C) ![x, y, z] (C3 1 p q).size inb).toLoadRect (ix3 0 r k : (C3 1 p q).Idx) = View.canon L (ix3 a b c) := by
  rw [View.readCov_eq_canon']
  exact congrArg (View.canon L) (idx3 inb r k a b c h0 h1 h2)

/-- A load from an input's window. -/
theorem load3 (m : Memref sig κ sp (C3 A B C) e) (h : m.IsWhole) (X : Vec Ideal (C3 A B C) e) {x y z : ℕ}
    (inb : ∀ a, (![x, y, z] : Fin 3 → ℕ) a + (C3 1 p q).size a ≤ (C3 A B C).size a) (r : Fin p) (k : Fin q)
    (a : Fin A) (b : Fin B) (c : Fin C) (h0 : a.val = x) (h1 : b.val = y + r.val) (h2 : c.val = z + k.val) :
    View.readAt (Elt Ideal) m.view (Rect.unit (s := C3 A B C) ![x, y, z] (C3 1 p q).size inb).toLoadRect (h.unread X) (ix3 0 r k : (C3 1 p q).Idx) = X (ix3 a b c) := by
  rw [View.readAt_apply, h.read_unread]
  exact congrArg X (idx3 inb r k a b c h0 h1 h2)
end Tiles

section Rows
/-- A row's mean. -/
def mean (v : Fin 1024 → EReal) : EReal := Ideal.div (∑ k, v k) (Ideal.ofBits .f32 0x44800000#32)
/-- A row less its mean. -/
def cent (v : Fin 1024 → EReal) (k : Fin 1024) : EReal := v k - mean v
/-- A row's layer norm. -/
def norm (v g b : Fin 1024 → EReal) (k : Fin 1024) : EReal :=
  cent v k * Ideal.rsqrt (mean (fun j => cent v j * cent v j) + Ideal.ofBits .f32 0x3727C5AC#32) * g k + b k
/-- A row, scaled by one plus `sc` and shifted by `sh`. -/
def modR (x sh sc : Fin 1024 → EReal) (k : Fin 1024) : EReal := x k * (Ideal.ofBits .f32 0x3F800000#32 + sc k) + sh k
/-- A row times one column of the first weights. -/
def proj (h : Fin 1024 → EReal) (W : Fin 1024 → Fin 5632 → EReal) (j : Fin 5632) : EReal := ∑ k, h k * W k j
/-- The gated hidden row. -/
def hid (h : Fin 1024 → EReal) (W : Fin 1024 → Fin 5632 → EReal) (j : Fin 2816) : EReal :=
  proj h W ⟨j.val, by omega⟩ * Ideal.logistic (proj h W ⟨j.val, by omega⟩) * proj h W ⟨2816 + j.val, by omega⟩
/-- The hidden row times the second weights. -/
def down (a : Fin 2816 → EReal) (W : Fin 2816 → Fin 1024 → EReal) (k : Fin 1024) : EReal := ∑ j, a j * W j k
/-- The residual sum: `x` scaled, plus `y` gated. -/
def resR (x gt y : Fin 1024 → EReal) (k : Fin 1024) : EReal := Ideal.ofBits .f32 0x3FB504F3#32 * x k + gt k * y k
/-- Half of one plus a gate. -/
def halfR (g : Fin 1024 → EReal) (k : Fin 1024) : EReal := Ideal.ofBits .f32 0x3F000000#32 * (Ideal.ofBits .f32 0x3F800000#32 + g k)
/-- The feed-forward sublayer's row. -/
def ffnR (x sh sc gt : Fin 1024 → EReal) (W1 : Fin 1024 → Fin 5632 → EReal) (W2 : Fin 2816 → Fin 1024 → EReal) (g b : Fin 1024 → EReal) : Fin 1024 → EReal :=
  norm (resR x (halfR gt) (down (hid (modR x sh sc) W1) W2)) g b
end Rows

end Cert.Mlp

end
-- ==== Proof.FfnStage.lean ====
/- The vector expressions of the feed-forward kernel's body, named, and the lists of blocks that it stores. -/
module

public import proofs.«01_k».proof.Proof.Gen.FfnIdeal.Frame
public import proofs.«01_k».proof.Proof.FfnTiles

@[expose] public section

set_option maxRecDepth 16384

noncomputable section

namespace Cert.FfnIdeal.Val

open Cert.FfnIdeal Cert.FfnIdeal.Gen Idealize.ShloMosaic Idealize.ShloMosaic.TcCoe Cert.Mlp

variable {F : FTy → Type} [FloatOps F]

/-- A row of a table, copied down sixteen rows. -/
def rowV (v : Vec F S1x1x1024 .f32) : FVec F S16x1024 .f32 :=
  broadcastTo S16x1024 (shapeCast S1x1024 (shapeCast S1x1024 v shapeCasts_S1x1x1024_S1x1024) shapeCasts_S1x1024_S1x1024) broadcasts_S1x1024_S16x1024
/-- One plus a row, copied down sixteen rows. -/
def rowOne (v : Vec F S1x1x1024 .f32) : FVec F S16x1024 .f32 :=
  broadcastTo S16x1024 (shapeCast S1x1024 (addf (broadcast S1x1024 (Scalar.ofBits .f32 0x3F800000#32 : F .f32)) (shapeCast S1x1024 v shapeCasts_S1x1x1024_S1x1024)) shapeCasts_S1x1024_S1x1024) broadcasts_S1x1024_S16x1024
/-- Half of one plus a row, copied down sixteen rows. -/
def rowHalf (v : Vec F S1x1x1024 .f32) : FVec F S16x1024 .f32 :=
  broadcastTo S16x1024 (shapeCast S1x1024 (mulf (broadcast S1x1024 (Scalar.ofBits .f32 0x3F000000#32 : F .f32))
    (addf (broadcast S1x1024 (Scalar.ofBits .f32 0x3F800000#32 : F .f32)) (shapeCast S1x1024 v shapeCasts_S1x1x1024_S1x1024))) shapeCasts_S1x1024_S1x1024) broadcasts_S1x1024_S16x1024
/-- Sixteen rows, scaled and shifted. -/
def modV (sh sc x : FVec F S16x1024 .f32) : FVec F S1x16x1024 .bf16 :=
  shapeCast S1x16x1024 (truncf .bf16 (addf (mulf x sc) sh) bitsLt_bf16_f32) shapeCasts_S16x1024_S1x16x1024
/-- The gated product of one chunk of 256 hidden columns. -/
def chunkV (h : Vec F S1x512x1024 .bf16) (wg wu : Vec F S1x1024x256 .bf16) : FVec F S1x512x256 .bf16 :=
  let g : FVec F S512x256 .f32 := matmul dot_S512x1024_S1024x256_S512x256_1_0_0_1_n_n none (shapeCast S512x1024 h shapeCasts_S1x512x1024_S512x1024) (shapeCast S1024x256 wg shapeCasts_S1x1024x256_S1024x256) (constant S512x256 .f32 0x00000000#32)
  let u : FVec F S512x256 .f32 := matmul dot_S512x1024_S1024x256_S512x256_1_0_0_1_n_n none (shapeCast S512x1024 h shapeCasts_S1x512x1024_S512x1024) (shapeCast S1024x256 wu shapeCasts_S1x1024x256_S1024x256) (constant S512x256 .f32 0x00000000#32)
  shapeCast S1x512x256 (truncf .bf16 (mulf (mulf g (logistic g)) u) bitsLt_bf16_f32) shapeCasts_S512x256_S1x512x256
/-- The hidden columns times the second weights. -/
def downV (a : Vec F S1x512x2816 .bf16) (w : Vec F S1x2816x1024 .bf16) : FVec F S1x512x1024 .f32 :=
  shapeCast S1x512x1024 (matmul dot_S512x2816_S2816x1024_S512x1024_1_0_0_1_n_n none (shapeCast S512x2816 a shapeCasts_S1x512x2816_S512x2816)
    (shapeCast S2816x1024 w shapeCasts_S1x2816x1024_S2816x1024) (constant S512x1024 .f32 0x00000000#32)) shapeCasts_S512x1024_S1x512x1024
/-- A row's mean, copied along it. -/
def meanV (v : FVec F S16x1024 .f32) : FVec F S16x1 .f32 :=
  divf (shapeCast S16x1 (multiReduction .add [1] S16 v 0x00000000#32 reduces_S16x1024_S16 (.inl rfl) rfl) shapeCasts_S16_S16x1) (broadcast S16x1 (Scalar.ofBits .f32 0x44800000#32 : F .f32))
/-- Rows less their means. -/
def centV (v : FVec F S16x1024 .f32) : FVec F S16x1024 .f32 :=
  subf v (broadcastTo S16x1024 (meanV v) broadcasts_S16x1_S16x1024)
/-- The layer norm of sixteen rows. -/
def normV (lg lb v : FVec F S16x1024 .f32) : FVec F S16x1024 .f32 :=
  addf (mulf (mulf (centV v) (broadcastTo S16x1024 (rsqrt (addf (meanV (mulf (centV v) (centV v))) (broadcast S16x1 (Scalar.ofBits .f32 0x3727C5AC#32 : F .f32)))) broadcasts_S16x1_S16x1024)) lg) lb
/-- The residual sum of sixteen rows. -/
def resV (gt x : FVec F S16x1024 .f32) (y : FVec F S16x1024 .f32) : FVec F S16x1024 .f32 :=
  addf (mulf (broadcast S16x1024 (Scalar.ofBits .f32 0x3FB504F3#32 : F .f32)) x) (mulf gt y)
/-- Sixteen rows without their leading unit axis. -/
def flatV (x : Vec F S1x16x1024 .f32) : FVec F S16x1024 .f32 := shapeCast S16x1024 x shapeCasts_S1x16x1024_S16x1024
/-- Sixteen rows with a leading unit axis. -/
def liftV (x : FVec F S16x1024 .f32) : FVec F S1x16x1024 .f32 := shapeCast S1x16x1024 x shapeCasts_S16x1024_S1x16x1024

theorem inbX {o : ℕ} (ho : o + 16 ≤ 1024) : ∀ a, (![0, o, 0] : Fin 3 → ℕ) a + S1x16x1024.size a ≤ S1x1024x1024.size a := by
  intro a; fin_cases a <;> simp [Shape.size] <;> omega
theorem inbM {o : ℕ} (ho : o < 9) : ∀ a, (![0, o, 0] : Fin 3 → ℕ) a + S1x1x1024.size a ≤ S1x9x1024.size a := by
  intro a; fin_cases a <;> simp [Shape.size] <;> omega
theorem inbL {o : ℕ} (ho : o < 3) : ∀ a, (![0, o, 0] : Fin 3 → ℕ) a + S1x1x1024.size a ≤ S1x3x1024.size a := by
  intro a; fin_cases a <;> simp [Shape.size] <;> omega
theorem inbW {o : ℕ} (ho : o + 256 ≤ 5632) : ∀ a, (![0, 0, o] : Fin 3 → ℕ) a + S1x1024x256.size a ≤ S1x1024x5632.size a := by
  intro a; fin_cases a <;> simp [Shape.size] <;> omega
theorem inbO : ∀ a, (![0, 0, 0] : Fin 3 → ℕ) a + S1x2816x1024.size a ≤ S1x2816x1024.size a := by decide
theorem inbH {s o : ℕ} (hs : s < 2) (ho : o + 16 ≤ 512) : ∀ a, (![s, o, 0] : Fin 3 → ℕ) a + S1x16x1024.size a ≤ S2x512x1024.size a := by
  intro a; fin_cases a <;> simp [Shape.size] <;> omega
theorem inbT {s : ℕ} (hs : s < 2) : ∀ a, (![s, 0, 0] : Fin 3 → ℕ) a + S1x512x1024.size a ≤ S2x512x1024.size a := by
  intro a; fin_cases a <;> simp [Shape.size] <;> omega
theorem inbA {s o : ℕ} (hs : s < 2) (ho : o + 256 ≤ 2816) : ∀ a, (![s, 0, o] : Fin 3 → ℕ) a + S1x512x256.size a ≤ S2x512x2816.size a := by
  intro a; fin_cases a <;> simp [Shape.size] <;> omega
theorem inbB {s : ℕ} (hs : s < 2) : ∀ a, (![s, 0, 0] : Fin 3 → ℕ) a + S1x512x2816.size a ≤ S2x512x2816.size a := by
  intro a; fin_cases a <;> simp [Shape.size] <;> omega

section Loads
variable {sg : RefSig}
/-- The sixteen rows of the activations from `o` on. -/
def ldX (m : Memref sg .tc .vmem S1x1024x1024 .f32) (h : m.IsWhole) (x : Vec F S1x1024x1024 .f32) (o : ℕ) (ho : o + 16 ≤ 1024) : Vec F S1x16x1024 .f32 :=
  View.readAt (Elt F) m.view (Rect.unit (s := S1x1024x1024) ![0, o, 0] S1x16x1024.size (inbX ho)).toLoadRect (h.unread x)
/-- Row `o` of the modulation. -/
def ldM (m : Memref sg .tc .vmem S1x9x1024 .f32) (h : m.IsWhole) (x : Vec F S1x9x1024 .f32) (o : ℕ) (ho : o < 9) : Vec F S1x1x1024 .f32 :=
  View.readAt (Elt F) m.view (Rect.unit (s := S1x9x1024) ![0, o, 0] S1x1x1024.size (inbM ho)).toLoadRect (h.unread x)
/-- Row `o` of a norm's table. -/
def ldL (m : Memref sg .tc .vmem S1x3x1024 .f32) (h : m.IsWhole) (x : Vec F S1x3x1024 .f32) (o : ℕ) (ho : o < 3) : Vec F S1x1x1024 .f32 :=
  View.readAt (Elt F) m.view (Rect.unit (s := S1x3x1024) ![0, o, 0] S1x1x1024.size (inbL ho)).toLoadRect (h.unread x)
/-- The 256 columns of the first weights from `o` on. -/
def ldW (m : Memref sg .tc .vmem S1x1024x5632 .bf16) (h : m.IsWhole) (x : Vec F S1x1024x5632 .bf16) (o : ℕ) (ho : o + 256 ≤ 5632) : Vec F S1x1024x256 .bf16 :=
  View.readAt (Elt F) m.view (Rect.unit (s := S1x1024x5632) ![0, 0, o] S1x1024x256.size (inbW ho)).toLoadRect (h.unread x)
/-- The second weights. -/
def ldO (m : Memref sg .tc .vmem S1x2816x1024 .bf16) (h : m.IsWhole) (x : Vec F S1x2816x1024 .bf16) : Vec F S1x2816x1024 .bf16 :=
  View.readAt (Elt F) m.view (Rect.unit (s := S1x2816x1024) ![0, 0, 0] S1x2816x1024.size inbO).toLoadRect (h.unread x)
end Loads

section Lists
variable {sg : RefSig}
/-- Group `n` of sixteen rows, stored in the tile of scaled rows. -/
def hPiece (f : ∀ n, n < 64 → FVec F S1x16x1024 .bf16) (n : ℕ) (hn : n < 64) : View.Piece (Elt F) S2x512x1024 .bf16 :=
  ⟨Rect.unit (s := S2x512x1024) ![n / 32, 16 * (n % 32), 0] S1x16x1024.size (inbH (by omega) (by omega)), f n hn⟩
/-- The first `n` groups stored, last first. -/
def hList (f : ∀ n, n < 64 → FVec F S1x16x1024 .bf16) (n : ℕ) (hn : n ≤ 64) : List (View.Piece (Elt F) S2x512x1024 .bf16) :=
  stack (N := 64) (hPiece f) n hn
/-- Half of the tile of scaled rows, read after `n` groups. -/
def hRead (arg10 : Memref sg .tc .vmem S2x512x1024 .bf16) (f : ∀ n, n < 64 → FVec F S1x16x1024 .bf16) (n : ℕ) (hn : n ≤ 64) (s : ℕ) (hs : s < 2) : Vec F S1x512x1024 .bf16 :=
  arg10.view.readCov (hList f n hn) (Rect.unit (s := S2x512x1024) ![s, 0, 0] S1x512x1024.size (inbT hs)).toLoadRect
/-- Chunk `n`, stored in the tile of hidden columns. -/
def aPiece (f : ∀ n, n < 22 → FVec F S1x512x256 .bf16) (n : ℕ) (hn : n < 22) : View.Piece (Elt F) S2x512x2816 .bf16 :=
  ⟨Rect.unit (s := S2x512x2816) ![n / 11, 0, 256 * (n % 11)] S1x512x256.size (inbA (by omega) (by omega)), f n hn⟩
/-- The first `n` chunks stored, last first. -/
def aList (f : ∀ n, n < 22 → FVec F S1x512x256 .bf16) (n : ℕ) (hn : n ≤ 22) : List (View.Piece (Elt F) S2x512x2816 .bf16) :=
  stack (N := 22) (aPiece f) n hn
/-- Half of the tile of hidden columns, read after `n` chunks. -/
def aRead (arg9 : Memref sg .tc .vmem S2x512x2816 .bf16) (f : ∀ n, n < 22 → FVec F S1x512x256 .bf16) (n : ℕ) (hn : n ≤ 22) (s : ℕ) (hs : s < 2) : Vec F S1x512x2816 .bf16 :=
  arg9.view.readCov (aList f n hn) (Rect.unit (s := S2x512x2816) ![s, 0, 0] S1x512x2816.size (inbB hs)).toLoadRect
/-- Half `s`, stored in the tile of products. -/
def yPiece (f : ∀ s, s < 2 → FVec F S1x512x1024 .f32) (s : ℕ) (hs : s < 2) : View.Piece (Elt F) S2x512x1024 .f32 :=
  ⟨Rect.unit (s := S2x512x1024) ![s, 0, 0] S1x512x1024.size (inbT hs), f s hs⟩
/-- The first `n` halves stored, last first. -/
def yList (f : ∀ s, s < 2 → FVec F S1x512x1024 .f32) (n : ℕ) (hn : n ≤ 2) : List (View.Piece (Elt F) S2x512x1024 .f32) :=
  stack (N := 2) (yPiece f) n hn
/-- Sixteen rows of the tile of products, read after `n` halves. -/
def yRead (arg11 : Memref sg .tc .vmem S2x512x1024 .f32) (f : ∀ s, s < 2 → FVec F S1x512x1024 .f32) (n : ℕ) (hn : n ≤ 2) (s o : ℕ) (hs : s < 2) (ho : o + 16 ≤ 512) : Vec F S1x16x1024 .f32 :=
  arg11.view.readCov (yList f n hn) (Rect.unit (s := S2x512x1024) ![s, o, 0] S1x16x1024.size (inbH hs ho)).toLoadRect
/-- Group `n` of sixteen rows of the result. -/
def oPiece (f : ∀ n, n < 64 → FVec F S1x16x1024 .f32) (n : ℕ) (hn : n < 64) : View.Piece (Elt F) S1x1024x1024 .f32 :=
  ⟨Rect.unit (s := S1x1024x1024) ![0, 16 * n, 0] S1x16x1024.size (inbX (by omega)), f n hn⟩
/-- The first `n` groups of the result, last first. -/
def oList (f : ∀ n, n < 64 → FVec F S1x16x1024 .f32) (n : ℕ) (hn : n ≤ 64) : List (View.Piece (Elt F) S1x1024x1024 .f32) :=
  stack (N := 64) (oPiece f) n hn
end Lists

section Tiles
variable {sg : RefSig} (arg4 : Memref sg .tc .vmem S1x1024x5632 .bf16) (harg4 : arg4.IsWhole) (arg5 : Memref sg .tc .vmem S1x2816x1024 .bf16) (harg5 : arg5.IsWhole)
  (arg9 : Memref sg .tc .vmem S2x512x2816 .bf16) (arg10 : Memref sg .tc .vmem S2x512x1024 .bf16) (x2 : Vec F S1x1024x5632 .bf16) (x3 : Vec F S1x2816x1024 .bf16)
  (h : ∀ n, n < 64 → FVec F S1x16x1024 .bf16)

/-- The hidden columns of chunk `n`, over the stored rows. -/
def aG (n : ℕ) (hn : n < 22) : FVec F S1x512x256 .bf16 :=
  chunkV (hRead arg10 h (min (32 + 3 * n) 64) (Nat.min_le_right _ _) (n / 11) (by omega))
    (ldW arg4 harg4 x2 (256 * (n % 11)) (by omega)) (ldW arg4 harg4 x2 (2816 + 256 * (n % 11)) (by omega))
/-- The products of half `s`, over the stored rows. -/
def yG (s : ℕ) (hs : s < 2) : FVec F S1x512x1024 .f32 :=
  downV (aRead arg9 (aG arg4 harg4 arg10 x2 h) (11 * (s + 1)) (by omega) s hs) (ldO arg5 harg5 x3)
end Tiles

section Body
variable (arg2 : Memref sig .tc .vmem S1x1024x1024 .f32) (harg2 : arg2.IsWhole) (arg3 : Memref sig .tc .vmem S1x9x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S1x3x1024 .f32) (harg6 : arg6.IsWhole) (arg7 : Memref sig .tc .vmem S1x3x1024 .f32) (harg7 : arg7.IsWhole)
  (arg9 : Memref sig .tc .vmem S2x512x2816 .bf16) (arg10 : Memref sig .tc .vmem S2x512x1024 .bf16) (arg11 : Memref sig .tc .vmem S2x512x1024 .f32)
  (x0 : Vec F S1x1024x1024 .f32) (x1 : Vec F S1x9x1024 .f32) (x2 : Vec F S1x1024x5632 .bf16) (x3 : Vec F S1x2816x1024 .bf16) (x4 : Vec F S1x3x1024 .f32) (x5 : Vec F S1x3x1024 .f32)

/-- The scaled rows of group `n`. -/
def hF (n : ℕ) (hn : n < 64) : FVec F S1x16x1024 .bf16 :=
  modV (rowV (ldM arg3 harg3 x1 0 (by decide))) (rowOne (ldM arg3 harg3 x1 1 (by decide))) (flatV (ldX arg2 harg2 x0 (16 * n) (by omega)))
/-- The result's rows of group `n`. -/
def oF (n : ℕ) (hn : n < 64) : FVec F S1x16x1024 .f32 :=
  liftV (normV (rowV (ldL arg6 harg6 x4 0 (by decide))) (rowV (ldL arg7 harg7 x5 0 (by decide)))
    (resV (rowHalf (ldM arg3 harg3 x1 2 (by decide))) (flatV (ldX arg2 harg2 x0 (16 * n) (by omega)))
      (flatV (yRead arg11 (yG arg4 harg4 arg5 harg5 arg9 arg10 x2 x3 (hF arg2 harg2 arg3 harg3 x0 x1)) (n / 32 + 1) (by omega) (n / 32) (16 * (n % 32)) (by omega) (by omega)))))
end Body

end Cert.FfnIdeal.Val

end
-- ==== Proof.FfnRead.lean ====
/- The feed-forward kernel's vector expressions, read at an index. -/
module

public import proofs.«01_k».proof.Proof.FfnStage

@[expose] public section

set_option maxRecDepth 16384

noncomputable section

namespace Cert.FfnIdeal.Val

open Cert.FfnIdeal Cert.FfnIdeal.Gen Idealize.ShloMosaic Idealize.ShloMosaic.TcCoe Cert.Mlp

section Vectors
theorem rowV_at (v : Vec Ideal S1x1x1024 .f32) (i : Fin 16) (k : Fin 1024) : (rowV v (ix2 i k) : EReal) = v (ix3 0 0 k) := by
  pointwise [rowV]
theorem rowOne_at (v : Vec Ideal S1x1x1024 .f32) (i : Fin 16) (k : Fin 1024) : (rowOne v (ix2 i k) : EReal) = Ideal.ofBits .f32 0x3F800000#32 + v (ix3 0 0 k) := by
  pointwise [rowOne]
theorem rowHalf_at (v : Vec Ideal S1x1x1024 .f32) (i : Fin 16) (k : Fin 1024) : (rowHalf v (ix2 i k) : EReal) = halfR (fun k => v (ix3 0 0 k)) k := by
  pointwise [rowHalf, halfR]
theorem flatV_at (x : Vec Ideal S1x16x1024 .f32) (i : Fin 16) (k : Fin 1024) : (flatV x (ix2 i k) : EReal) = x (ix3 0 i k) := by
  pointwise [flatV]
theorem liftV_at (x : FVec Ideal S16x1024 .f32) (i : Fin 16) (k : Fin 1024) : (liftV x (ix3 0 i k) : EReal) = x (ix2 i k) := by
  pointwise [liftV]
theorem modV_at (sh sc x : FVec Ideal S16x1024 .f32) (i : Fin 16) (k : Fin 1024) : (modV sh sc x (ix3 0 i k) : EReal) = (x (ix2 i k) : EReal) * sc (ix2 i k) + sh (ix2 i k) := by
  pointwise [modV]
theorem chunkV_at (h : Vec Ideal S1x512x1024 .bf16) (wg wu : Vec Ideal S1x1024x256 .bf16) (r : Fin 512) (j : Fin 256) :
    (chunkV h wg wu (ix3 0 r j) : EReal) = (∑ k : Fin 1024, (h (ix3 0 r k) : EReal) * wg (ix3 0 k j)) * Ideal.logistic (∑ k : Fin 1024, (h (ix3 0 r k) : EReal) * wg (ix3 0 k j)) * ∑ k : Fin 1024, (h (ix3 0 r k) : EReal) * wu (ix3 0 k j) := by
  pointwise [chunkV]
theorem downV_at (a : Vec Ideal S1x512x2816 .bf16) (w : Vec Ideal S1x2816x1024 .bf16) (r : Fin 512) (k : Fin 1024) :
    (downV a w (ix3 0 r k) : EReal) = ∑ j : Fin 2816, (a (ix3 0 r j) : EReal) * w (ix3 0 j k) := by
  pointwise [downV]
theorem meanV_at (v : FVec Ideal S16x1024 .f32) (i : Fin 16) : (meanV v (ix2 i 0) : EReal) = mean (fun k => v (ix2 i k)) := by
  pointwise [meanV, mean]
theorem centV_at (v : FVec Ideal S16x1024 .f32) (i : Fin 16) (k : Fin 1024) : (centV v (ix2 i k) : EReal) = cent (fun k => v (ix2 i k)) k := by
  pointwise [centV]
  rw [meanV_at]; rfl
theorem normV_at (lg lb v : FVec Ideal S16x1024 .f32) (i : Fin 16) (k : Fin 1024) :
    (normV lg lb v (ix2 i k) : EReal) = norm (fun k => v (ix2 i k)) (fun k => lg (ix2 i k)) (fun k => lb (ix2 i k)) k := by
  pointwise [normV]
  rw [meanV_at, centV_at]
  have h : (fun k => (mulf (centV v) (centV v) (ix2 i k) : EReal)) = fun k => cent (fun k => v (ix2 i k)) k * cent (fun k => v (ix2 i k)) k := by
    funext k; pointwise; rw [centV_at]
  rw [h]; rfl
theorem resV_at (gt x y : FVec Ideal S16x1024 .f32) (i : Fin 16) (k : Fin 1024) :
    (resV gt x y (ix2 i k) : EReal) = resR (fun k => x (ix2 i k)) (fun k => gt (ix2 i k)) (fun k => y (ix2 i k)) k := by
  pointwise [resV, resR]
end Vectors

end Cert.FfnIdeal.Val

end
-- ==== Proof.FfnRow.lean ====
/- The feed-forward kernel's stored blocks, at the layer's row function. -/
module

public import proofs.«01_k».proof.Proof.FfnRead

@[expose] public section

set_option maxRecDepth 16384

noncomputable section

namespace Cert.FfnIdeal.Val

open Cert.FfnIdeal Cert.FfnIdeal.Gen Idealize.ShloMosaic Idealize.ShloMosaic.TcCoe Cert.Mlp

/-- Row `512 a + b` of the tile. -/
abbrev rowOf (a : Fin 2) (b : Fin 512) : Fin 1024 := ⟨512 * a.val + b.val, by omega⟩

section Reads
variable {sg : RefSig}
theorem hRead_at (arg10 : Memref sg .tc .vmem S2x512x1024 .bf16) (f : ∀ n, n < 64 → FVec Ideal S1x16x1024 .bf16) (G : Fin 2 → Fin 512 → Fin 1024 → EReal)
    (hf : ∀ n hn (r : Fin 16) (k : Fin 1024) (a : Fin 2) (b : Fin 512), a.val = n / 32 → b.val = 16 * (n % 32) + r.val → (f n hn (ix3 0 r k) : EReal) = G a b k)
    (n : ℕ) (hn : n ≤ 64) (s : ℕ) (hs : s < 2) (hc : 32 * s + 32 ≤ n) (r : Fin 512) (k : Fin 1024) :
    (hRead arg10 f n hn s hs (ix3 0 r k) : EReal) = G ⟨s, hs⟩ r k := by
  refine (cov3 _ _ _ r k (⟨s, hs⟩ : Fin 2) r k rfl (by omega) (by omega)).trans ?_
  refine stack_canon (A := 2) (B := 512) (C := 1024) (p := 16) (q := 1024) (N := 64) (e := .bf16) (o0 := fun n => n / 32) (o1 := fun n => 16 * (n % 32)) (o2 := fun _ => 0) _ f G ?_ n hn _ _ _ (32 * s + r.val / 16) (by omega) ?_ ?_ ?_
  · intro n hn r k a b c h0 h1 h2
    obtain rfl : c = k := Fin.ext (by simpa using h2)
    exact hf n hn r c a b h0 h1
  · show s = _; omega
  · omega
  · omega
theorem aRead_at (arg9 : Memref sg .tc .vmem S2x512x2816 .bf16) (f : ∀ n, n < 22 → FVec Ideal S1x512x256 .bf16) (G : Fin 2 → Fin 512 → Fin 2816 → EReal)
    (hf : ∀ n hn (r : Fin 512) (k : Fin 256) (a : Fin 2) (c : Fin 2816), a.val = n / 11 → c.val = 256 * (n % 11) + k.val → (f n hn (ix3 0 r k) : EReal) = G a r c)
    (n : ℕ) (hn : n ≤ 22) (s : ℕ) (hs : s < 2) (hc : 11 * s + 11 ≤ n) (r : Fin 512) (k : Fin 2816) :
    (aRead arg9 f n hn s hs (ix3 0 r k) : EReal) = G ⟨s, hs⟩ r k := by
  refine (cov3 _ _ _ r k (⟨s, hs⟩ : Fin 2) r k rfl (by omega) (by omega)).trans ?_
  refine stack_canon (A := 2) (B := 512) (C := 2816) (p := 512) (q := 256) (N := 22) (e := .bf16) (o0 := fun n => n / 11) (o1 := fun _ => 0) (o2 := fun n => 256 * (n % 11)) _ f G ?_ n hn _ _ _ (11 * s + k.val / 256) (by omega) ?_ ?_ ?_
  · intro n hn r k a b c h0 h1 h2
    obtain rfl : b = r := Fin.ext (by simpa using h1)
    exact hf n hn b k a c h0 h2
  · show s = _; omega
  · omega
  · omega
theorem yRead_at (arg11 : Memref sg .tc .vmem S2x512x1024 .f32) (f : ∀ s, s < 2 → FVec Ideal S1x512x1024 .f32) (G : Fin 2 → Fin 512 → Fin 1024 → EReal)
    (hf : ∀ s hs (r : Fin 512) (k : Fin 1024), (f s hs (ix3 0 r k) : EReal) = G ⟨s, hs⟩ r k)
    (n : ℕ) (hn : n ≤ 2) (s o : ℕ) (hs : s < 2) (ho : o + 16 ≤ 512) (hc : s + 1 ≤ n) (r : Fin 16) (k : Fin 1024) :
    (yRead arg11 f n hn s o hs ho (ix3 0 r k) : EReal) = G ⟨s, hs⟩ ⟨o + r.val, by omega⟩ k := by
  refine (cov3 _ _ _ r k (⟨s, hs⟩ : Fin 2) (⟨o + r.val, by omega⟩ : Fin 512) k rfl rfl (by omega)).trans ?_
  refine stack_canon (A := 2) (B := 512) (C := 1024) (p := 512) (q := 1024) (N := 2) (e := .f32) (o0 := fun s => s) (o1 := fun _ => 0) (o2 := fun _ => 0) _ f G ?_ n hn _ _ _ s (by omega) rfl ?_ ?_
  · intro n hn r k a b c h0 h1 h2
    obtain rfl : b = r := Fin.ext (by simpa using h1)
    obtain rfl : c = k := Fin.ext (by simpa using h2)
    obtain rfl : a = ⟨n, hn⟩ := Fin.ext h0
    exact hf n hn b c
  · omega
  · omega
end Reads

section Loads
variable {sg : RefSig} (arg2 : Memref sg .tc .vmem S1x1024x1024 .f32) (harg2 : arg2.IsWhole) (arg3 : Memref sg .tc .vmem S1x9x1024 .f32) (harg3 : arg3.IsWhole) (arg4 : Memref sg .tc .vmem S1x1024x5632 .bf16) (harg4 : arg4.IsWhole) (arg5 : Memref sg .tc .vmem S1x2816x1024 .bf16) (harg5 : arg5.IsWhole) (arg6 : Memref sg .tc .vmem S1x3x1024 .f32) (harg6 : arg6.IsWhole)
  (x0 : Vec Ideal S1x1024x1024 .f32) (x1 : Vec Ideal S1x9x1024 .f32) (x2 : Vec Ideal S1x1024x5632 .bf16) (x3 : Vec Ideal S1x2816x1024 .bf16) (x4 : Vec Ideal S1x3x1024 .f32)

theorem ldX_at (o : ℕ) (ho : o + 16 ≤ 1024) (r : Fin 16) (k : Fin 1024) : (ldX arg2 harg2 x0 o ho (ix3 0 r k) : EReal) = x0 (ix3 0 (⟨o + r.val, by omega⟩ : Fin 1024) k) :=
  load3 arg2 harg2 x0 _ r k 0 _ k rfl rfl (by omega)
theorem ldM_at (o : ℕ) (ho : o < 9) (k : Fin 1024) : (ldM arg3 harg3 x1 o ho (ix3 0 0 k) : EReal) = x1 (ix3 0 (⟨o, ho⟩ : Fin 9) k) :=
  load3 arg3 harg3 x1 _ 0 k 0 _ k rfl rfl (by omega)
theorem ldL_at (o : ℕ) (ho : o < 3) (k : Fin 1024) : (ldL arg6 harg6 x4 o ho (ix3 0 0 k) : EReal) = x4 (ix3 0 (⟨o, ho⟩ : Fin 3) k) :=
  load3 arg6 harg6 x4 _ 0 k 0 _ k rfl rfl (by omega)
theorem ldW_at (o : ℕ) (ho : o + 256 ≤ 5632) (i : Fin 1024) (k : Fin 256) : (ldW arg4 harg4 x2 o ho (ix3 0 i k) : EReal) = x2 (ix3 0 i (⟨o + k.val, by omega⟩ : Fin 5632)) :=
  load3 arg4 harg4 x2 _ i k 0 i _ rfl (by omega) rfl
theorem ldO_at (i : Fin 2816) (k : Fin 1024) : (ldO arg5 harg5 x3 (ix3 0 i k) : EReal) = x3 (ix3 0 i k) :=
  load3 arg5 harg5 x3 _ i k 0 i k rfl (by omega) (by omega)

/-- Row `r` of the tile. -/
def Xr (r k : Fin 1024) : EReal := x0 (ix3 0 r k)
/-- Row `i` of the modulation. -/
def Mr (i : Fin 9) (k : Fin 1024) : EReal := x1 (ix3 0 i k)
/-- Row `i` of a norm's table. -/
def Lr (i : Fin 3) (k : Fin 1024) : EReal := x4 (ix3 0 i k)
/-- The first weights. -/
def W1r (k : Fin 1024) (j : Fin 5632) : EReal := x2 (ix3 0 k j)
/-- The second weights. -/
def W2r (j : Fin 2816) (k : Fin 1024) : EReal := x3 (ix3 0 j k)
end Loads

section Tiles
variable {sg : RefSig} (arg4 : Memref sg .tc .vmem S1x1024x5632 .bf16) (harg4 : arg4.IsWhole) (arg5 : Memref sg .tc .vmem S1x2816x1024 .bf16) (harg5 : arg5.IsWhole)
  (arg9 : Memref sg .tc .vmem S2x512x2816 .bf16) (arg10 : Memref sg .tc .vmem S2x512x1024 .bf16) (arg11 : Memref sg .tc .vmem S2x512x1024 .f32) (x2 : Vec Ideal S1x1024x5632 .bf16) (x3 : Vec Ideal S1x2816x1024 .bf16)
  (h : ∀ n, n < 64 → FVec Ideal S1x16x1024 .bf16) (H : Fin 1024 → Fin 1024 → EReal)
  (hh : ∀ n hn (i : Fin 16) (k : Fin 1024) (r : Fin 1024), r.val = 16 * n + i.val → (h n hn (ix3 0 i k) : EReal) = H r k)

include hh in
theorem aG_at (n : ℕ) (hn : n < 22) (r : Fin 512) (j : Fin 256) (a : Fin 2) (c : Fin 2816) (h0 : a.val = n / 11) (h2 : c.val = 256 * (n % 11) + j.val) :
    (aG arg4 harg4 arg10 x2 h n hn (ix3 0 r j) : EReal) = hid (H (rowOf a r)) (W1r x2) c := by
  have hr : ∀ k, (hRead arg10 h (min (32 + 3 * n) 64) (Nat.min_le_right _ _) (n / 11) (by omega) (ix3 0 r k) : EReal) = H (rowOf a r) k := by
    intro k
    rw [hRead_at arg10 _ (fun a b k => H (rowOf a b) k) (fun n hn r k a b h0 h1 => hh n hn r k _ (by show 512 * a.val + b.val = _; omega)) _ _ _ _ (by omega)]
    have : (⟨n / 11, by omega⟩ : Fin 2) = a := Fin.ext h0.symm
    rw [this]
  unfold aG
  rw [chunkV_at]
  simp only [hr, ldW_at]
  have e0 : (⟨256 * (n % 11) + j.val, by omega⟩ : Fin 5632) = ⟨c.val, by omega⟩ := Fin.ext h2.symm
  have e1 : (⟨2816 + 256 * (n % 11) + j.val, by omega⟩ : Fin 5632) = ⟨2816 + c.val, by omega⟩ := Fin.ext (by dsimp only; omega)
  simp only [e0, e1]
  rfl
include hh in
theorem yG_at (s : ℕ) (hs : s < 2) (r : Fin 512) (k : Fin 1024) :
    (yG arg4 harg4 arg5 harg5 arg9 arg10 x2 x3 h s hs (ix3 0 r k) : EReal) = down (hid (H (rowOf ⟨s, hs⟩ r)) (W1r x2)) (W2r x3) k := by
  unfold yG
  rw [downV_at]
  refine Finset.sum_congr rfl fun j _ => ?_
  rw [ldO_at, aRead_at arg9 _ (fun a b j => hid (H (rowOf a b)) (W1r x2) j) (fun n hn r j a c h0 h2 => aG_at arg4 harg4 arg10 x2 h H hh n hn r j a c h0 h2) _ _ _ _ (by omega)]
  rfl
include hh in
theorem yG_read (n : ℕ) (hn : n < 64) (i : Fin 16) (k : Fin 1024) (r : Fin 1024) (hr : r.val = 16 * n + i.val) :
    (yRead arg11 (yG arg4 harg4 arg5 harg5 arg9 arg10 x2 x3 h) (n / 32 + 1) (by omega) (n / 32) (16 * (n % 32)) (by omega) (by omega) (ix3 0 i k) : EReal)
      = down (hid (H r) (W1r x2)) (W2r x3) k := by
  rw [yRead_at arg11 _ (fun a b k => down (hid (H (rowOf a b)) (W1r x2)) (W2r x3) k) (fun s hs r k => yG_at arg4 harg4 arg5 harg5 arg9 arg10 x2 x3 h H hh s hs r k) _ _ _ _ _ _ (by omega)]
  have : rowOf ⟨n / 32, by omega⟩ ⟨16 * (n % 32) + i.val, by omega⟩ = r := Fin.ext (by show 512 * (n / 32) + (16 * (n % 32) + i.val) = _; omega)
  rw [this]
/-- A tile of the result, stored by groups of sixteen rows. -/
theorem oList_at (f : ∀ n, n < 64 → FVec Ideal S1x16x1024 .f32) (G : Fin 1024 → Fin 1024 → EReal)
    (hf : ∀ n hn (i : Fin 16) (k : Fin 1024) (r : Fin 1024), r.val = 16 * n + i.val → (f n hn (ix3 0 i k) : EReal) = G r k) (r k : Fin 1024) :
    View.canon (Val := Elt Ideal) (oList f 64 (by decide)) (ix3 0 r k) = G r k := by
  refine stack_canon (A := 1) (B := 1024) (C := 1024) (p := 16) (q := 1024) (N := 64) (e := .f32) (o0 := fun _ => 0) (o1 := fun n => 16 * n) (o2 := fun _ => 0) _ _ (fun _ r k => G r k) ?_ 64 (by decide) 0 r k (r.val / 16) (by omega) rfl ?_ ?_
  · intro n hn i k a b c _ h1 h2
    obtain rfl : c = k := Fin.ext (by simpa using h2)
    exact hf n hn i c b h1
  · omega
  · omega
end Tiles

section Body
variable (arg2 : Memref sig .tc .vmem S1x1024x1024 .f32) (harg2 : arg2.IsWhole) (arg3 : Memref sig .tc .vmem S1x9x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S1x3x1024 .f32) (harg6 : arg6.IsWhole) (arg7 : Memref sig .tc .vmem S1x3x1024 .f32) (harg7 : arg7.IsWhole)
  (arg9 : Memref sig .tc .vmem S2x512x2816 .bf16) (arg10 : Memref sig .tc .vmem S2x512x1024 .bf16) (arg11 : Memref sig .tc .vmem S2x512x1024 .f32)
  (x0 : Vec Ideal S1x1024x1024 .f32) (x1 : Vec Ideal S1x9x1024 .f32) (x2 : Vec Ideal S1x1024x5632 .bf16) (x3 : Vec Ideal S1x2816x1024 .bf16) (x4 : Vec Ideal S1x3x1024 .f32) (x5 : Vec Ideal S1x3x1024 .f32)

/-- A scaled row. -/
def Hr (r : Fin 1024) : Fin 1024 → EReal := modR (Xr x0 r) (Mr x1 0) (Mr x1 1)

theorem hF_at (n : ℕ) (hn : n < 64) (i : Fin 16) (k : Fin 1024) (r : Fin 1024) (hr : r.val = 16 * n + i.val) :
    (hF arg2 harg2 arg3 harg3 x0 x1 n hn (ix3 0 i k) : EReal) = Hr x0 x1 r k := by
  unfold hF
  rw [modV_at, rowV_at, rowOne_at, flatV_at, ldX_at, ldM_at, ldM_at]
  have : (⟨16 * n + i.val, by omega⟩ : Fin 1024) = r := Fin.ext hr.symm
  rw [this]; rfl
theorem oF_at (n : ℕ) (hn : n < 64) (i : Fin 16) (k : Fin 1024) (r : Fin 1024) (hr : r.val = 16 * n + i.val) :
    (oF arg2 harg2 arg3 harg3 arg4 harg4 arg5 harg5 arg6 harg6 arg7 harg7 arg9 arg10 arg11 x0 x1 x2 x3 x4 x5 n hn (ix3 0 i k) : EReal)
      = ffnR (Xr x0 r) (Mr x1 0) (Mr x1 1) (Mr x1 2) (W1r x2) (W2r x3) (Lr x4 0) (Lr x5 0) k := by
  unfold oF
  rw [liftV_at, normV_at]
  simp only [resV_at, rowV_at, rowHalf_at, flatV_at, ldX_at, ldM_at, ldL_at]
  simp only [fun k => yG_read arg4 harg4 arg5 harg5 arg9 arg10 arg11 x2 x3 _ (Hr x0 x1) (hF_at arg2 harg2 arg3 harg3 x0 x1) n hn i k r hr]
  have : (⟨16 * n + i.val, by omega⟩ : Fin 1024) = r := Fin.ext hr.symm
  simp only [this]
  rfl
/-- The result's block at an element. -/
theorem out_at (r k : Fin 1024) :
    View.canon (Val := Elt Ideal) (oList (oF arg2 harg2 arg3 harg3 arg4 harg4 arg5 harg5 arg6 harg6 arg7 harg7 arg9 arg10 arg11 x0 x1 x2 x3 x4 x5) 64 (by decide)) (ix3 0 r k)
      = ffnR (Xr x0 r) (Mr x1 0) (Mr x1 1) (Mr x1 2) (W1r x2) (W2r x3) (Lr x4 0) (Lr x5 0) k := by
  exact oList_at _ (fun r k => ffnR (Xr x0 r) (Mr x1 0) (Mr x1 1) (Mr x1 2) (W1r x2) (W2r x3) (Lr x4 0) (Lr x5 0) k) (oF_at arg2 harg2 arg3 harg3 arg4 harg4 arg5 harg5 arg6 harg6 arg7 harg7 arg9 arg10 arg11 x0 x1 x2 x3 x4 x5) r k
end Body

end Cert.FfnIdeal.Val

end
-- ==== Proof.FfnOut.lean ====
/- The body's list of stored blocks is the named one. -/
module

public import proofs.«01_k».proof.Proof.FfnStage

@[expose] public section

set_option maxRecDepth 16384

noncomputable section

namespace Cert.FfnIdeal.Val

open Cert.FfnIdeal Cert.FfnIdeal.Gen Idealize.ShloMosaic Idealize.ShloMosaic.TcCoe

variable {F : FTy → Type} [FloatOps F]
variable (c : Dev nD) (i : grid0.Coords) (arg2 : Memref sig .tc .vmem S1x1024x1024 .f32) (harg2 : arg2.IsWhole) (arg3 : Memref sig .tc .vmem S1x9x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S1x3x1024 .f32) (harg6 : arg6.IsWhole) (arg7 : Memref sig .tc .vmem S1x3x1024 .f32) (harg7 : arg7.IsWhole)
  (arg8 : Memref sig .tc .vmem S1x1024x1024 .f32) (harg8 : arg8.IsWhole) (arg9 : Memref sig .tc .vmem S2x512x2816 .bf16) (harg9 : arg9.IsWhole) (arg10 : Memref sig .tc .vmem S2x512x1024 .bf16) (harg10 : arg10.IsWhole) (arg11 : Memref sig .tc .vmem S2x512x1024 .f32) (harg11 : arg11.IsWhole)
  (x0 : Vec F S1x1024x1024 .f32) (x1 : Vec F S1x9x1024 .f32) (x2 : Vec F S1x1024x5632 .bf16) (x3 : Vec F S1x2816x1024 .bf16) (x4 : Vec F S1x3x1024 .f32) (x5 : Vec F S1x3x1024 .f32)

set_option maxHeartbeats 4000000 in
/-- The body's stores are the named ones. -/
theorem pieces : (kernelRun0_A c i arg2 harg2 arg3 harg3 arg4 harg4 arg5 harg5 arg6 harg6 arg7 harg7 arg8 harg8 arg9 harg9 arg10 harg10 arg11 harg11 x0 x1 x2 x3 x4 x5).1
    = oList (oF arg2 harg2 arg3 harg3 arg4 harg4 arg5 harg5 arg6 harg6 arg7 harg7 arg9 arg10 arg11 x0 x1 x2 x3 x4 x5) 64 (by decide) := rfl

end Cert.FfnIdeal.Val

end
-- ==== Proof.FfnRef.lean ====
/- The reference feed-forward sublayer's array expressions, named and read at an element. -/
module

public import proofs.«01_k».proof.Proof.Gen.RefFfnIdeal.Run
public import proofs.«01_k».proof.Proof.FfnTiles

@[expose] public section

set_option maxRecDepth 16384

noncomputable section

namespace Cert.RefFfnIdeal.Val

open Cert.RefFfnIdeal Cert.RefFfnIdeal.Gen Idealize.ShloMosaic Idealize.ShloMosaic.TcCoe Cert.Mlp

/-- A modulation row, along the sequence. -/
def upS (s : FVec Ideal S16x1x1024 .f32) : FVec Ideal S16x2048x1024 .f32 :=
  broadcastInDim S16x2048x1024 ![0, 1, 2] bcast_S16x1x1024_S16x2048x1024_0_1_2 s
/-- One plus a modulation row. -/
def oneS (s : FVec Ideal S16x1x1024 .f32) : FVec Ideal S16x1x1024 .f32 :=
  addf (broadcastInDim S16x1x1024 ![] bcast_S_S16x1x1024 (constant S_ .f32 0x3F800000#32)) s
/-- Half of one plus a modulation row. -/
def halfS (s : FVec Ideal S16x1x1024 .f32) : FVec Ideal S16x1x1024 .f32 :=
  mulf (broadcastInDim S16x1x1024 ![] bcast_S_S16x1x1024 (constant S_ .f32 0x3F000000#32)) (oneS s)
/-- The scaled and shifted rows. -/
def modS (x : FVec Ideal S16x2048x1024 .f32) (sh sc : FVec Ideal S16x1x1024 .f32) : FVec Ideal S16x2048x1024 .f32 :=
  addf (mulf x (upS (oneS sc))) (upS sh)
/-- The products with the first weights. -/
def projS (h : FVec Ideal S16x2048x1024 .f32) (w : FVec Ideal S1024x5632 .f32) : FVec Ideal S16x2048x5632 .f32 :=
  Host.dotGeneral dot_S16x2048x1024_S1024x5632_S16x2048x5632_2_0_01_1_n_n none h w
/-- The gate's columns. -/
def gateS (p : FVec Ideal S16x2048x5632 .f32) : FVec Ideal S16x2048x2816 .f32 :=
  extractStridedSlice S16x2048x2816 ![0, 0, 0] p slices_S16x2048x5632_S16x2048x2816_0_0_0
/-- The gated hidden rows. -/
def hidS (p : FVec Ideal S16x2048x5632 .f32) : FVec Ideal S16x2048x2816 .f32 :=
  mulf (mulf (gateS p) (Host.divf (broadcastInDim S16x2048x2816 ![] bcast_S_S16x2048x2816 (constant S_ .f32 0x3F800000#32))
      (addf (broadcastInDim S16x2048x2816 ![] bcast_S_S16x2048x2816 (constant S_ .f32 0x3F800000#32)) (Host.exp (Host.negf (gateS p))))))
    (extractStridedSlice S16x2048x2816 ![0, 0, 2816] p slices_S16x2048x5632_S16x2048x2816_0_0_2816)
/-- The products with the second weights. -/
def downS (a : FVec Ideal S16x2048x2816 .f32) (w : FVec Ideal S2816x1024 .f32) : FVec Ideal S16x2048x1024 .f32 :=
  Host.dotGeneral dot_S16x2048x2816_S2816x1024_S16x2048x1024_2_0_01_1_n_n none a w
/-- The residual sum. -/
def resS (x : FVec Ideal S16x2048x1024 .f32) (gt : FVec Ideal S16x1x1024 .f32) (y : FVec Ideal S16x2048x1024 .f32) : FVec Ideal S16x2048x1024 .f32 :=
  addf (mulf (broadcastInDim S16x2048x1024 ![] bcast_S_S16x2048x1024 (constant S_ .f32 0x3FB504F3#32)) x) (mulf (upS gt) y)
/-- The rows' means. -/
def meanS (v : FVec Ideal S16x2048x1024 .f32) : FVec Ideal S16x2048x1 .f32 :=
  Host.divf (broadcastInDim S16x2048x1 ![0, 1] bcast_S16x2048_S16x2048x1_0_1 (Host.reduceAdd v (constant S_ .f32 0x00000000#32) reducesTo_S16x2048x1024_S16x2048_d2 h_S_))
    (broadcastInDim S16x2048x1 ![] bcast_S_S16x2048x1 (constant S_ .f32 0x44800000#32))
/-- A row statistic, along the row. -/
def alongS (v : FVec Ideal S16x2048x1 .f32) : FVec Ideal S16x2048x1024 .f32 :=
  broadcastInDim S16x2048x1024 ![0, 1, 2] bcast_S16x2048x1_S16x2048x1024_0_1_2 v
/-- The rows less their means. -/
def centS (v : FVec Ideal S16x2048x1024 .f32) : FVec Ideal S16x2048x1024 .f32 := subf v (alongS (meanS v))
/-- A norm's row, along the batch and the sequence. -/
def lnS (g : FVec Ideal S1024 .f32) : FVec Ideal S16x2048x1024 .f32 :=
  broadcastInDim S16x2048x1024 ![0, 1, 2] bcast_S1x1x1024_S16x2048x1024_0_1_2 (broadcastInDim S1x1x1024 ![2] bcast_S1024_S1x1x1024_2 g)
/-- The layer norm. -/
def normS (v : FVec Ideal S16x2048x1024 .f32) (g b : FVec Ideal S1024 .f32) : FVec Ideal S16x2048x1024 .f32 :=
  addf (mulf (mulf (centS v) (alongS (Host.rsqrt (addf (meanS (mulf (centS v) (centS v))) (broadcastInDim S16x2048x1 ![] bcast_S_S16x2048x1 (constant S_ .f32 0x3727C5AC#32)))))) (lnS g)) (lnS b)

section Read
variable (b : Fin 16) (r : Fin 2048) (k : Fin 1024)
theorem upS_at (s : FVec Ideal S16x1x1024 .f32) : (upS s (ix3 b r k) : EReal) = s (ix3 b 0 k) := by
  pointwise [upS]
theorem oneS_at (s : FVec Ideal S16x1x1024 .f32) : (oneS s (ix3 b 0 k) : EReal) = Ideal.ofBits .f32 0x3F800000#32 + s (ix3 b 0 k) := by
  pointwise [oneS]
theorem halfS_at (s : FVec Ideal S16x1x1024 .f32) : (halfS s (ix3 b 0 k) : EReal) = halfR (fun k => s (ix3 b 0 k)) k := by
  pointwise [halfS]
  rw [oneS_at]; rfl
theorem modS_at (x : FVec Ideal S16x2048x1024 .f32) (sh sc : FVec Ideal S16x1x1024 .f32) :
    (modS x sh sc (ix3 b r k) : EReal) = modR (fun k => x (ix3 b r k)) (fun k => sh (ix3 b 0 k)) (fun k => sc (ix3 b 0 k)) k := by
  pointwise [modS]
  rw [upS_at, upS_at, oneS_at]; rfl
theorem projS_at (h : FVec Ideal S16x2048x1024 .f32) (w : FVec Ideal S1024x5632 .f32) (j : Fin 5632) :
    (projS h w (ix3 b r j) : EReal) = proj (fun k => h (ix3 b r k)) (fun k j => w (ix2 k j)) j := by
  pointwise [projS, proj]
theorem gateS_at (p : FVec Ideal S16x2048x5632 .f32) (j : Fin 2816) : (gateS p (ix3 b r j) : EReal) = p (ix3 b r (⟨j.val, by omega⟩ : Fin 5632)) := by
  pointwise [gateS]
theorem hidS_at (p : FVec Ideal S16x2048x5632 .f32) (j : Fin 2816) : (hidS p (ix3 b r j) : EReal)
    = (p (ix3 b r (⟨j.val, by omega⟩ : Fin 5632)) : EReal) * Ideal.logistic (p (ix3 b r (⟨j.val, by omega⟩ : Fin 5632))) * p (ix3 b r (⟨2816 + j.val, by omega⟩ : Fin 5632)) := by
  pointwise [hidS]
  rw [gateS_at]; rfl
theorem downS_at (a : FVec Ideal S16x2048x2816 .f32) (w : FVec Ideal S2816x1024 .f32) :
    (downS a w (ix3 b r k) : EReal) = down (fun j => a (ix3 b r j)) (fun j k => w (ix2 j k)) k := by
  pointwise [downS, down]
theorem resS_at (x : FVec Ideal S16x2048x1024 .f32) (gt : FVec Ideal S16x1x1024 .f32) (y : FVec Ideal S16x2048x1024 .f32) :
    (resS x gt y (ix3 b r k) : EReal) = resR (fun k => x (ix3 b r k)) (fun k => gt (ix3 b 0 k)) (fun k => y (ix3 b r k)) k := by
  pointwise [resS, resR]
  rw [upS_at]
theorem meanS_at (v : FVec Ideal S16x2048x1024 .f32) : (meanS v (ix3 b r 0) : EReal) = mean (fun k => v (ix3 b r k)) := by
  pointwise [meanS, mean]
theorem alongS_at (v : FVec Ideal S16x2048x1 .f32) : (alongS v (ix3 b r k) : EReal) = v (ix3 b r 0) := by
  pointwise [alongS]
theorem centS_at (v : FVec Ideal S16x2048x1024 .f32) : (centS v (ix3 b r k) : EReal) = cent (fun k => v (ix3 b r k)) k := by
  pointwise [centS]
  rw [alongS_at, meanS_at]; rfl
theorem lnS_at (g : FVec Ideal S1024 .f32) : (lnS g (ix3 b r k) : EReal) = g (ix1 k) := by
  pointwise [lnS]
theorem varS_at (v : FVec Ideal S16x2048x1024 .f32) :
    (Host.rsqrt (addf (meanS (mulf (centS v) (centS v))) (broadcastInDim S16x2048x1 ![] bcast_S_S16x2048x1 (constant S_ .f32 0x3727C5AC#32))) (ix3 b r 0) : EReal)
      = Ideal.rsqrt (mean (fun j => cent (fun k => v (ix3 b r k)) j * cent (fun k => v (ix3 b r k)) j) + Ideal.ofBits .f32 0x3727C5AC#32) := by
  pointwise
  rw [meanS_at]
  have h : (fun k => (mulf (centS v) (centS v) (ix3 b r k) : EReal)) = fun k => cent (fun k => v (ix3 b r k)) k * cent (fun k => v (ix3 b r k)) k := by
    funext k; pointwise; rw [centS_at]
  rw [h]
theorem normS_at (v : FVec Ideal S16x2048x1024 .f32) (g b' : FVec Ideal S1024 .f32) :
    (normS v g b' (ix3 b r k) : EReal) = norm (fun k => v (ix3 b r k)) (fun k => g (ix1 k)) (fun k => b' (ix1 k)) k := by
  pointwise [normS]
  rw [centS_at, alongS_at, lnS_at, lnS_at, varS_at]; rfl
end Read

/-- The sublayer over its input, its modulation rows, its weights and its norm's rows. -/
def ffnS (x : FVec Ideal S16x2048x1024 .f32) (sh sc gt : FVec Ideal S16x1x1024 .f32) (w1 : FVec Ideal S1024x5632 .f32) (w2 : FVec Ideal S2816x1024 .f32) (g b : FVec Ideal S1024 .f32) : FVec Ideal S16x2048x1024 .f32 :=
  normS (resS x (halfS gt) (downS (hidS (projS (modS x sh sc) w1)) w2)) g b

theorem ffnS_at (x : FVec Ideal S16x2048x1024 .f32) (sh sc gt : FVec Ideal S16x1x1024 .f32) (w1 : FVec Ideal S1024x5632 .f32) (w2 : FVec Ideal S2816x1024 .f32) (g b : FVec Ideal S1024 .f32) (i : Fin 16) (r : Fin 2048) (k : Fin 1024) :
    (ffnS x sh sc gt w1 w2 g b (ix3 i r k) : EReal)
      = ffnR (fun k => x (ix3 i r k)) (fun k => sh (ix3 i 0 k)) (fun k => sc (ix3 i 0 k)) (fun k => gt (ix3 i 0 k)) (fun k j => w1 (ix2 k j)) (fun j k => w2 (ix2 j k)) (fun k => g (ix1 k)) (fun k => b (ix1 k)) k := by
  unfold ffnS
  rw [normS_at]
  simp only [resS_at, halfS_at, downS_at, hidS_at, projS_at, modS_at]
  rfl

/-- Modulation row `o`. -/
def rowM (o : ℕ) (M : FVec Ideal S16x9x1024 .f32) (h : S16x9x1024.Slices ![0, o, 0] S16x1x1024) : FVec Ideal S16x1x1024 .f32 := extractStridedSlice S16x1x1024 ![0, o, 0] M h
/-- Row `o` of layer `l` of a norm's table. -/
def rowL (l o : ℕ) (G : FVec Ideal S2x3x1024 .f32) (h : S2x3x1024.Slices ![l, o, 0] S1x1x1024) : FVec Ideal S1024 .f32 := shapeCast S1024 (extractStridedSlice S1x1x1024 ![l, o, 0] G h) shapeCasts_S1x1x1024_S1024
/-- Layer `l` of the first weights. -/
def layW (l : ℕ) (W : FVec Ideal S2x1024x5632 .f32) (h : S2x1024x5632.Slices ![l, 0, 0] S1x1024x5632) : FVec Ideal S1024x5632 .f32 := shapeCast S1024x5632 (extractStridedSlice S1x1024x5632 ![l, 0, 0] W h) shapeCasts_S1x1024x5632_S1024x5632
/-- Layer `l` of the second weights. -/
def layO (l : ℕ) (W : FVec Ideal S2x2816x1024 .f32) (h : S2x2816x1024.Slices ![l, 0, 0] S1x2816x1024) : FVec Ideal S2816x1024 .f32 := shapeCast S2816x1024 (extractStridedSlice S1x2816x1024 ![l, 0, 0] W h) shapeCasts_S1x2816x1024_S2816x1024

theorem rowM_at (o : ℕ) (ho : o < 9) (M : FVec Ideal S16x9x1024 .f32) (h : S16x9x1024.Slices ![0, o, 0] S16x1x1024) (b : Fin 16) (k : Fin 1024) : (rowM o M h (ix3 b 0 k) : EReal) = M (ix3 b (⟨o, ho⟩ : Fin 9) k) := by
  pointwise [rowM]
theorem rowL_at (l o : ℕ) (hl : l < 2) (ho : o < 3) (G : FVec Ideal S2x3x1024 .f32) (h : S2x3x1024.Slices ![l, o, 0] S1x1x1024) (k : Fin 1024) : (rowL l o G h (ix1 k) : EReal) = G (ix3 (⟨l, hl⟩ : Fin 2) (⟨o, ho⟩ : Fin 3) k) := by
  pointwise [rowL]
theorem layW_at (l : ℕ) (hl : l < 2) (W : FVec Ideal S2x1024x5632 .f32) (h : S2x1024x5632.Slices ![l, 0, 0] S1x1024x5632) (k : Fin 1024) (j : Fin 5632) : (layW l W h (ix2 k j) : EReal) = W (ix3 (⟨l, hl⟩ : Fin 2) k j) := by
  pointwise [layW]
theorem layO_at (l : ℕ) (hl : l < 2) (W : FVec Ideal S2x2816x1024 .f32) (h : S2x2816x1024.Slices ![l, 0, 0] S1x2816x1024) (j : Fin 2816) (k : Fin 1024) : (layO l W h (ix2 j k) : EReal) = W (ix3 (⟨l, hl⟩ : Fin 2) j k) := by
  pointwise [layO]

/-- The reference's result over its arguments. -/
def result (X : FVec Ideal S16x2048x1024 .f32) (M : FVec Ideal S16x9x1024 .f32) (W : FVec Ideal S2x1024x5632 .f32) (O : FVec Ideal S2x2816x1024 .f32) (G B : FVec Ideal S2x3x1024 .f32) : FVec Ideal S16x2048x1024 .f32 :=
  ffnS X (rowM 0 M slices_S16x9x1024_S16x1x1024_0_0_0) (rowM 1 M slices_S16x9x1024_S16x1x1024_0_1_0) (rowM 2 M slices_S16x9x1024_S16x1x1024_0_2_0)
    (layW 0 W slices_S2x1024x5632_S1x1024x5632_0_0_0) (layO 0 O slices_S2x2816x1024_S1x2816x1024_0_0_0) (rowL 0 0 G slices_S2x3x1024_S1x1x1024_0_0_0) (rowL 0 0 B slices_S2x3x1024_S1x1x1024_0_0_0)

theorem result_at (X : FVec Ideal S16x2048x1024 .f32) (M : FVec Ideal S16x9x1024 .f32) (W : FVec Ideal S2x1024x5632 .f32) (O : FVec Ideal S2x2816x1024 .f32) (G B : FVec Ideal S2x3x1024 .f32) (b : Fin 16) (r : Fin 2048) (k : Fin 1024) :
    (result X M W O G B (ix3 b r k) : EReal)
      = ffnR (fun k => X (ix3 b r k)) (fun k => M (ix3 b 0 k)) (fun k => M (ix3 b 1 k)) (fun k => M (ix3 b 2 k)) (fun k j => W (ix3 0 k j)) (fun j k => O (ix3 0 j k)) (fun k => G (ix3 0 0 k)) (fun k => B (ix3 0 0 k)) k := by
  unfold result
  rw [ffnS_at]
  simp only [rowM_at 0 (by decide), rowM_at 1 (by decide), rowM_at 2 (by decide), layW_at 0 (by decide), layO_at 0 (by decide), rowL_at 0 0 (by decide) (by decide)]
  rfl

theorem res_eq (m : (ℓ : Loc nD τ sig) → Buf (Elt Ideal) ℓ) (c : Dev nD) : (Value.res_main_v55 m c : FVec Ideal S16x2048x1024 .f32)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.RefFfnIdeal.Val

end
-- ==== Proof.FfnFinal.lean ====
/- The feed-forward kernel's result array is the reference's. -/
module

public import proofs.«01_k».proof.Proof.FfnRow
public import proofs.«01_k».proof.Proof.FfnOut
public import proofs.«01_k».proof.Proof.FfnRef
public import proofs.«01_k».proof.Proof.Gen.FfnIdeal.Value
public import Idealize.ShloMosaic.Lib.Pipeline.ValueKit
public import Idealize.ShloMosaic.Lib.Claim

@[expose] public section

set_option maxRecDepth 16384

noncomputable section

namespace Cert.FfnIdeal.Val

open Cert.FfnIdeal Cert.FfnIdeal.Gen Idealize.ShloMosaic Idealize.ShloMosaic.TcCoe Idealize.SL.Sem Cert.Mlp
open Idealize.ShloMosaic.Pipeline (Dat)

variable (m : (ℓ : Loc nD τ sig) → Buf (Elt Ideal) ℓ)

theorem idx : ∀ t : Fin cfg0.N, win0_0.index t = ![t.val / 2, t.val % 2, 0] ∧ win0_1.index t = ![t.val / 2, 0, 0]
    ∧ win0_2.index t = ![0, 0, 0] ∧ win0_3.index t = ![0, 0, 0] ∧ win0_4.index t = ![0, 0, 0] ∧ win0_5.index t = ![0, 0, 0] ∧ win0_6.index t = ![t.val / 2, t.val % 2, 0]
    ∧ t.val / 2 < 16 :=
  (by decide +kernel : ∀ t : Fin grid0.N, _)

/-- The kernel's arguments at their literal types. -/
abbrev argX (c : Dev nD) : FVec Ideal S16x2048x1024 .f32 := m ((c : Thread nD τ).loc main_arg0)
abbrev argM (c : Dev nD) : FVec Ideal S16x9x1024 .f32 := m ((c : Thread nD τ).loc main_arg1)
abbrev argW (c : Dev nD) : FVec Ideal S2x1024x5632 .f32 := m ((c : Thread nD τ).loc main_arg2)
abbrev argO (c : Dev nD) : FVec Ideal S2x2816x1024 .f32 := m ((c : Thread nD τ).loc main_arg3)
abbrev argG (c : Dev nD) : FVec Ideal S2x3x1024 .f32 := m ((c : Thread nD τ).loc main_arg4)
abbrev argB (c : Dev nD) : FVec Ideal S2x3x1024 .f32 := m ((c : Thread nD τ).loc main_arg5)

theorem V0 (c : Dev nD) : (V m c main_v0 : FVec Ideal S2x1024x5632 .bf16) = truncf .bf16 (argW m c) bitsLt_bf16_f32 := by
  show StableHlo.after [hostOps0].flatten (fun b => m (c, b)) (Proc.tc.devRef main_v0) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem V1 (c : Dev nD) : (V m c main_v1 : FVec Ideal S2x2816x1024 .bf16) = truncf .bf16 (argO m c) bitsLt_bf16_f32 := by
  show StableHlo.after [hostOps0].flatten (fun b => m (c, b)) (Proc.tc.devRef main_v1) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl

/-- The batch of a grid point. -/
abbrev bOf (t : Fin cfg0.N) : Fin 16 := ⟨t.val / 2, (idx t).2.2.2.2.2.2.2⟩
/-- The sequence position of row `r` of a grid point's tile. -/
abbrev sOf (t : Fin cfg0.N) (r : Fin 1024) : Fin 2048 := ⟨1024 * (t.val % 2) + r.val, by omega⟩

theorem blk0 (c : Dev nD) (t : Fin cfg0.N) (r k : Fin 1024) : (iblk m c 0 t (ix3 0 r k) : EReal) = argX m c (ix3 (bOf t) (sOf t r) k) := by
  blk_simp [iblk]; entry_read; pointwise; blk_ext [idx t]
theorem blk1 (c : Dev nD) (t : Fin cfg0.N) (i : Fin 9) (k : Fin 1024) : (iblk m c 1 t (ix3 0 i k) : EReal) = argM m c (ix3 (bOf t) i k) := by
  blk_simp [iblk]; entry_read; pointwise; blk_ext [idx t]
theorem blk2 (c : Dev nD) (t : Fin cfg0.N) (k : Fin 1024) (j : Fin 5632) : (iblk m c 2 t (ix3 0 k j) : EReal) = V m c main_v0 (ix3 (0 : Fin 2) k j) := by
  blk_simp [iblk]
  blk_ext [idx t]
theorem blk3 (c : Dev nD) (t : Fin cfg0.N) (j : Fin 2816) (k : Fin 1024) : (iblk m c 3 t (ix3 0 j k) : EReal) = V m c main_v1 (ix3 (0 : Fin 2) j k) := by
  blk_simp [iblk]
  blk_ext [idx t]
theorem blk4 (c : Dev nD) (t : Fin cfg0.N) (i : Fin 3) (k : Fin 1024) : (iblk m c 4 t (ix3 0 i k) : EReal) = argG m c (ix3 (0 : Fin 2) i k) := by
  blk_simp [iblk]; entry_read; pointwise; blk_ext [idx t]
theorem blk5 (c : Dev nD) (t : Fin cfg0.N) (i : Fin 3) (k : Fin 1024) : (iblk m c 5 t (ix3 0 i k) : EReal) = argB m c (ix3 (0 : Fin 2) i k) := by
  blk_simp [iblk]; entry_read; pointwise; blk_ext [idx t]

/-- The reference's result over the kernel's arguments. -/
abbrev refR (c : Dev nD) : FVec Ideal S16x2048x1024 .f32 := Cert.RefFfnIdeal.Val.result (argX m c) (argM m c) (argW m c) (argO m c) (argG m c) (argB m c)

theorem after_at (c : Dev nD) (t : Fin cfg0.N) (r k : Fin 1024) :
    ((outsAt0 m c t : Vec Ideal S1x1024x1024 .f32) (ix3 0 r k) : EReal) = refR m c (ix3 (bOf t) (sOf t r) k) := by
  unfold outsAt0 out0_A_6
  rw [View.read_writes_junk_apply_eq_canon, pieces]
  refine (out_at _ _ _ _ _ _ _ _ _ _ _ _ _ _ _ _ _ _ _ _ _ r k).trans ?_
  refine Eq.trans ?_ (Cert.RefFfnIdeal.Val.result_at _ _ _ _ _ _ _ _ _).symm
  have e0 : Xr (iblk m c 0 t) r = fun k => argX m c (ix3 (bOf t) (sOf t r) k) := funext fun k => blk0 m c t r k
  have e1 : ∀ i, Mr (iblk m c 1 t) i = fun k => argM m c (ix3 (bOf t) i k) := fun i => funext fun k => blk1 m c t i k
  have e2 : W1r (iblk m c 2 t) = fun k j => argW m c (ix3 0 k j) := funext fun k => funext fun j => (blk2 m c t k j).trans (by rw [V0]; pointwise)
  have e3 : W2r (iblk m c 3 t) = fun j k => argO m c (ix3 0 j k) := funext fun j => funext fun k => (blk3 m c t j k).trans (by rw [V1]; pointwise)
  have e4 : Lr (iblk m c 4 t) 0 = fun k => argG m c (ix3 0 0 k) := funext fun k => blk4 m c t 0 k
  have e5 : Lr (iblk m c 5 t) 0 = fun k => argB m c (ix3 0 0 k) := funext fun k => blk5 m c t 0 k
  rw [e0, e1, e1, e1, e2, e3, e4, e5]

theorem final (c : Dev nD) : (dats m 0 c).arrAt 6 (cfgs 0).N = refR m c := by
  refine (dats m 0 c).arrAt_eq_of_covers 6 _ (by decide +kernel) fun t _ y => ?_
  blk_simp
  rw [after0_6]
  refine (congrArg (outsAt0 m c t : Vec Ideal S1x1024x1024 .f32) (ix3_flat y)).trans ?_
  refine (after_at m c t (y 1) (y 2)).trans ?_
  blk_ext [idx t]

end Cert.FfnIdeal.Val

end
-- ==== Proof.MixTiles.lean ====
/- Blocks of rows stored in a buffer of two axes, and the mixers' projection of a row. -/
module

public import proofs.«01_k».proof.Proof.FfnTiles

@[expose] public section

set_option maxRecDepth 16384

noncomputable section

namespace Cert.Mlp

open Idealize.ShloMosaic

/-- A shape of two axes. -/
abbrev C2 (b c : ℕ) : Shape := ⟨2, ![b, c]⟩

section Tiles
variable {B C p N : ℕ} {e : EltTy} {o : ℕ → ℕ} {sig : RefSig} {κ : Kind} {sp : Space}

theorem ix2_eta {p q : ℕ} (x : (C2 p q).Idx) : x = ix2 (x 0) (x 1) := by
  funext a
  match a with
  | ⟨0, _⟩ => rfl
  | ⟨1, _⟩ => rfl

/-- A load of rows from a buffer that blocks of rows were stored in, where every block holds `G`. -/
theorem rows_cov (v : View sig κ sp (C2 B C) e) (inb : ∀ n, n < N → ∀ a, (![o n, 0] : Fin 2 → ℕ) a + (C2 p C).size a ≤ (C2 B C).size a)
    (f : ∀ n, n < N → Vec Ideal (C2 p C) e) (G : Fin B → Fin C → Elt Ideal e)
    (hf : ∀ n hn (r : Fin p) (k : Fin C) (b : Fin B), b.val = o n + r.val → f n hn (ix2 r k) = G b k)
    (n : ℕ) (hn : n ≤ N) (j : ℕ) (hj : j < n) (r : Fin p) (k : Fin C) (b : Fin B) (hb : b.val = o j + r.val) :
    v.readCov (stack (fun n hn => ⟨Rect.unit (s := C2 B C) ![o n, 0] (C2 p C).size (inb n hn), f n hn⟩) n hn)
      (Rect.unit (s := C2 B C) ![o j, 0] (C2 p C).size (inb j (hj.trans_le hn))).toLoadRect (ix2 r k : (C2 p C).Idx) = G b k := by
  rw [View.readCov_eq_canon']
  have hi : (Rect.unit (s := C2 B C) ![o j, 0] (C2 p C).size (inb j (hj.trans_le hn))).toLoadRect.idx (ix2 r k : (C2 p C).Idx) = ix2 b k := by
    funext a
    apply Fin.ext
    match a with
    | ⟨0, _⟩ => show o j + 1 * r.val = b.val; omega
    | ⟨1, _⟩ => show 0 + 1 * k.val = k.val; omega
  refine (congrArg (View.canon _) hi).trans ?_
  refine (View.canon_apply_of_pieces (Val := Elt Ideal) (S := C2 B C) (e := e) (fun i => G (i 0) (i 1)) _ ?_ (ix2 b k) ?_)
  · intro P hP
    obtain ⟨j, hj, rfl⟩ := mem_stack hP
    intro x
    refine (congrArg (f j hj) (ix2_eta x)).trans ((hf j hj (x 0) (x 1) _ ?_).trans (congrArg _ (Fin.ext ?_)))
    · show o j + 1 * (x 0).val = o j + (x 0).val; omega
    · show (x 1).val = 0 + 1 * (x 1).val; omega
  · refine ⟨_, stack_mem _ n hn j hj, ?_⟩
    show ix2 b k ∈ (Rect.unit (s := C2 B C) ![o j, 0] (C2 p C).size (inb j (hj.trans_le hn))).set
    rw [Rect.mem_set_unit]
    intro i
    match i with
    | ⟨0, _⟩ => show o j ≤ b.val ∧ b.val < o j + p; omega
    | ⟨1, _⟩ => show 0 ≤ k.val ∧ k.val < 0 + C; omega
end Tiles

section Rows
/-- Four mixers' columns, projected by the rows of `W` that each meets, and added. -/
def mixR (a b c d : Fin 256 → EReal) (W : Fin 1024 → Fin 1024 → EReal) (k : Fin 1024) : EReal :=
  (∑ i : Fin 256, a i * W ⟨i.val, by omega⟩ k) + (∑ i : Fin 256, b i * W ⟨256 + i.val, by omega⟩ k)
    + (∑ i : Fin 256, c i * W ⟨512 + i.val, by omega⟩ k) + (∑ i : Fin 256, d i * W ⟨768 + i.val, by omega⟩ k)
/-- A sum of 1024 terms, by quarters. -/
theorem sum_quarters (f : Fin 1024 → EReal) : (∑ i, f i) = (∑ i : Fin 256, f ⟨i.val, by omega⟩) + (∑ i : Fin 256, f ⟨256 + i.val, by omega⟩)
    + (∑ i : Fin 256, f ⟨512 + i.val, by omega⟩) + (∑ i : Fin 256, f ⟨768 + i.val, by omega⟩) := by
  have h3 := Fin.sum_univ_add (a := 256 + 256 + 256) (b := 256) (f := (f : Fin (256 + 256 + 256 + 256) → EReal))
  have h2 := Fin.sum_univ_add (a := 256 + 256) (b := 256) (f := fun i : Fin (256 + 256 + 256) => f ⟨i.val, by omega⟩)
  have h1 := Fin.sum_univ_add (a := 256) (b := 256) (f := fun i : Fin (256 + 256) => f ⟨i.val, by omega⟩)
  exact h3.trans (congrArg (· + _) (h2.trans (congrArg (· + _) h1)))
end Rows

end Cert.Mlp

end
-- ==== Proof.MixStage.lean ====
/- The vector expressions that the projecting feed-forward kernel adds, and the lists of blocks that its body stores. -/
module

public import proofs.«01_k».proof.Proof.Gen.MixFfnIdeal.Frame
public import proofs.«01_k».proof.Proof.FfnStage
public import proofs.«01_k».proof.Proof.MixTiles

@[expose] public section

set_option maxRecDepth 16384

noncomputable section

namespace Cert.MixFfnIdeal.Val

open Cert.MixFfnIdeal Cert.MixFfnIdeal.Gen Idealize.ShloMosaic Idealize.ShloMosaic.TcCoe Cert.Mlp Cert.FfnIdeal.Val

variable {F : FTy → Type} [FloatOps F]

/-- One mixer's columns times the rows of the projection that they meet. -/
def dotV (a : Vec F S1x512x256 .bf16) (w : Vec F S1x256x1024 .bf16) : FVec F S512x1024 .f32 :=
  matmul dot_S512x256_S256x1024_S512x1024_1_0_0_1_n_n none (shapeCast S512x256 a shapeCasts_S1x512x256_S512x256) (shapeCast S256x1024 w shapeCasts_S1x256x1024_S256x1024) (constant S512x1024 .f32 0x00000000#32)

theorem inbP {o : ℕ} (ho : o + 512 ≤ 1024) : ∀ a, (![0, o, 0] : Fin 3 → ℕ) a + S1x512x256.size a ≤ S1x1024x256.size a := by
  intro a; fin_cases a <;> simp [Shape.size] <;> omega
theorem inbQ {o : ℕ} (ho : o + 256 ≤ 1024) : ∀ a, (![0, o, 0] : Fin 3 → ℕ) a + S1x256x1024.size a ≤ S1x1024x1024.size a := by
  intro a; fin_cases a <;> simp [Shape.size] <;> omega
theorem inbR {o : ℕ} (ho : o + 16 ≤ 1024) : ∀ a, (![o, 0] : Fin 2 → ℕ) a + S16x1024.size a ≤ S1024x1024.size a := by
  intro a; fin_cases a <;> simp [Shape.size] <;> omega
theorem sliceR {o : ℕ} (ho : o + 16 ≤ 512) : S512x1024.Slices ![o, 0] S16x1024 := by
  refine ⟨rfl, fun a => ?_⟩
  fin_cases a <;> simp [Shape.size] <;> omega

/-- Sixteen rows of the projections. -/
def cutV (o : ℕ) (ho : o + 16 ≤ 512) (v : FVec F S512x1024 .f32) : FVec F S16x1024 .f32 := extractStridedSlice S16x1024 ![o, 0] v (sliceR ho)

section Loads
variable {sg : RefSig}
/-- The 512 rows of a mixer's columns from `o` on. -/
def ldP (m : Memref sg .tc .vmem S1x1024x256 .bf16) (h : m.IsWhole) (x : Vec F S1x1024x256 .bf16) (o : ℕ) (ho : o + 512 ≤ 1024) : Vec F S1x512x256 .bf16 :=
  View.readAt (Elt F) m.view (Rect.unit (s := S1x1024x256) ![0, o, 0] S1x512x256.size (inbP ho)).toLoadRect (h.unread x)
/-- The 256 rows of the projection from `o` on. -/
def ldQ (m : Memref sg .tc .vmem S1x1024x1024 .bf16) (h : m.IsWhole) (x : Vec F S1x1024x1024 .bf16) (o : ℕ) (ho : o + 256 ≤ 1024) : Vec F S1x256x1024 .bf16 :=
  View.readAt (Elt F) m.view (Rect.unit (s := S1x1024x1024) ![0, o, 0] S1x256x1024.size (inbQ ho)).toLoadRect (h.unread x)
/-- Group `n` of sixteen rows, stored in the tile of the first norm's rows. -/
def xPiece (f : ∀ n, n < 64 → FVec F S16x1024 .f32) (n : ℕ) (hn : n < 64) : View.Piece (Elt F) S1024x1024 .f32 :=
  ⟨Rect.unit (s := S1024x1024) ![16 * n, 0] S16x1024.size (inbR (by omega)), f n hn⟩
/-- The first `n` groups stored, last first. -/
def xList (f : ∀ n, n < 64 → FVec F S16x1024 .f32) (n : ℕ) (hn : n ≤ 64) : List (View.Piece (Elt F) S1024x1024 .f32) :=
  stack (N := 64) (xPiece f) n hn
/-- Group `n`, read after all were stored. -/
def xRead (arg17 : Memref sg .tc .vmem S1024x1024 .f32) (f : ∀ n, n < 64 → FVec F S16x1024 .f32) (n : ℕ) (hn : n < 64) : Vec F S16x1024 .f32 :=
  arg17.view.readCov (xList f 64 (by decide)) (Rect.unit (s := S1024x1024) ![16 * n, 0] S16x1024.size (inbR (by omega))).toLoadRect
end Loads

section Body
variable (arg2 : Memref sig .tc .vmem S1x1024x1024 .f32) (harg2 : arg2.IsWhole) (arg3 : Memref sig .tc .vmem S1x9x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x1024 .bf16) (harg8 : arg8.IsWhole) (arg9 : Memref sig .tc .vmem S1x1024x5632 .bf16) (harg9 : arg9.IsWhole) (arg10 : Memref sig .tc .vmem S1x2816x1024 .bf16) (harg10 : arg10.IsWhole) (arg11 : Memref sig .tc .vmem S1x3x1024 .f32) (harg11 : arg11.IsWhole) (arg12 : Memref sig .tc .vmem S1x3x1024 .f32) (harg12 : arg12.IsWhole)
  (arg14 : Memref sig .tc .vmem S2x512x2816 .bf16) (arg15 : Memref sig .tc .vmem S2x512x1024 .bf16) (arg16 : Memref sig .tc .vmem S2x512x1024 .f32) (arg17 : Memref sig .tc .vmem S1024x1024 .f32)
  (x0 : Vec F S1x1024x1024 .f32) (x1 : Vec F S1x9x1024 .f32) (x2 x3 x4 x5 : Vec F S1x1024x256 .bf16) (x6 : Vec F S1x1024x1024 .bf16) (x7 : Vec F S1x1024x5632 .bf16) (x8 : Vec F S1x2816x1024 .bf16) (x9 x10 : Vec F S1x3x1024 .f32)

/-- The projections of half `s`. -/
def pF (s : ℕ) (hs : s < 2) : FVec F S512x1024 .f32 :=
  addf (addf (addf (dotV (ldP arg4 harg4 x2 (512 * s) (by omega)) (ldQ arg8 harg8 x6 0 (by decide))) (dotV (ldP arg5 harg5 x3 (512 * s) (by omega)) (ldQ arg8 harg8 x6 256 (by decide))))
    (dotV (ldP arg6 harg6 x4 (512 * s) (by omega)) (ldQ arg8 harg8 x6 512 (by decide)))) (dotV (ldP arg7 harg7 x5 (512 * s) (by omega)) (ldQ arg8 harg8 x6 768 (by decide)))
/-- The first norm's rows of group `n`. -/
def xF (n : ℕ) (hn : n < 64) : FVec F S16x1024 .f32 :=
  normV (rowV (ldL arg11 harg11 x9 1 (by decide))) (rowV (ldL arg12 harg12 x10 1 (by decide)))
    (resV (rowOne (ldM arg3 harg3 x1 5 (by decide))) (flatV (ldX arg2 harg2 x0 (16 * n) (by omega)))
      (cutV (16 * (n % 32)) (by omega) (pF arg4 harg4 arg5 harg5 arg6 harg6 arg7 harg7 arg8 harg8 x2 x3 x4 x5 x6 (n / 32) (by omega))))
/-- The first norm's rows of group `n`, as stored. -/
def xS (n : ℕ) (hn : n < 64) : FVec F S16x1024 .f32 :=
  shapeCast S16x1024 (xF arg2 harg2 arg3 harg3 arg4 harg4 arg5 harg5 arg6 harg6 arg7 harg7 arg8 harg8 arg11 harg11 arg12 harg12 x0 x1 x2 x3 x4 x5 x6 x9 x10 n hn) shapeCasts_S16x1024_S16x1024
/-- The scaled rows of group `n`. -/
def hM (n : ℕ) (hn : n < 64) : FVec F S1x16x1024 .bf16 :=
  modV (rowV (ldM arg3 harg3 x1 6 (by decide))) (rowOne (ldM arg3 harg3 x1 7 (by decide)))
    (xF arg2 harg2 arg3 harg3 arg4 harg4 arg5 harg5 arg6 harg6 arg7 harg7 arg8 harg8 arg11 harg11 arg12 harg12 x0 x1 x2 x3 x4 x5 x6 x9 x10 n hn)
/-- The result's rows of group `n`. -/
def oM (n : ℕ) (hn : n < 64) : FVec F S1x16x1024 .f32 :=
  liftV (normV (rowV (ldL arg11 harg11 x9 2 (by decide))) (rowV (ldL arg12 harg12 x10 2 (by decide)))
    (resV (rowHalf (ldM arg3 harg3 x1 8 (by decide))) (xRead arg17 (xS arg2 harg2 arg3 harg3 arg4 harg4 arg5 harg5 arg6 harg6 arg7 harg7 arg8 harg8 arg11 harg11 arg12 harg12 x0 x1 x2 x3 x4 x5 x6 x9 x10) n hn)
      (flatV (yRead arg16 (yG arg9 harg9 arg10 harg10 arg14 arg15 x7 x8 (hM arg2 harg2 arg3 harg3 arg4 harg4 arg5 harg5 arg6 harg6 arg7 harg7 arg8 harg8 arg11 harg11 arg12 harg12 x0 x1 x2 x3 x4 x5 x6 x9 x10)) (n / 32 + 1) (by omega) (n / 32) (16 * (n % 32)) (by omega) (by omega)))))
end Body

end Cert.MixFfnIdeal.Val

end
-- ==== Proof.MixRow.lean ====
/- The projecting feed-forward kernel's stored blocks, at the layer's row functions. -/
module

public import proofs.«01_k».proof.Proof.MixStage
public import proofs.«01_k».proof.Proof.FfnRow

@[expose] public section

set_option maxRecDepth 16384

noncomputable section

namespace Cert.MixFfnIdeal.Val

open Cert.MixFfnIdeal Cert.MixFfnIdeal.Gen Idealize.ShloMosaic Idealize.ShloMosaic.TcCoe Cert.Mlp Cert.FfnIdeal.Val

theorem dotV_at (a : Vec Ideal S1x512x256 .bf16) (w : Vec Ideal S1x256x1024 .bf16) (r : Fin 512) (k : Fin 1024) :
    (dotV a w (ix2 r k) : EReal) = ∑ i : Fin 256, (a (ix3 0 r i) : EReal) * w (ix3 0 i k) := by
  pointwise [dotV]
theorem cutV_at (o : ℕ) (ho : o + 16 ≤ 512) (v : FVec Ideal S512x1024 .f32) (i : Fin 16) (k : Fin 1024) :
    (cutV o ho v (ix2 i k) : EReal) = v (ix2 (⟨o + i.val, by omega⟩ : Fin 512) k) := by
  pointwise [cutV]

section Loads
variable {sg : RefSig}
theorem ldP_at (m : Memref sg .tc .vmem S1x1024x256 .bf16) (h : m.IsWhole) (x : Vec Ideal S1x1024x256 .bf16) (o : ℕ) (ho : o + 512 ≤ 1024) (r : Fin 512) (k : Fin 256) :
    (ldP m h x o ho (ix3 0 r k) : EReal) = x (ix3 0 (⟨o + r.val, by omega⟩ : Fin 1024) k) :=
  load3 _ _ _ _ r k 0 _ k rfl rfl (by omega)
theorem ldQ_at (m : Memref sg .tc .vmem S1x1024x1024 .bf16) (h : m.IsWhole) (x : Vec Ideal S1x1024x1024 .bf16) (o : ℕ) (ho : o + 256 ≤ 1024) (r : Fin 256) (k : Fin 1024) :
    (ldQ m h x o ho (ix3 0 r k) : EReal) = x (ix3 0 (⟨o + r.val, by omega⟩ : Fin 1024) k) :=
  load3 _ _ _ _ r k 0 _ k rfl rfl (by omega)
theorem xRead_at (arg17 : Memref sg .tc .vmem S1024x1024 .f32) (f : ∀ n, n < 64 → FVec Ideal S16x1024 .f32) (G : Fin 1024 → Fin 1024 → EReal)
    (hf : ∀ n hn (i : Fin 16) (k : Fin 1024) (r : Fin 1024), r.val = 16 * n + i.val → (f n hn (ix2 i k) : EReal) = G r k)
    (n : ℕ) (hn : n < 64) (i : Fin 16) (k : Fin 1024) (r : Fin 1024) (hr : r.val = 16 * n + i.val) :
    (xRead arg17 f n hn (ix2 i k) : EReal) = G r k :=
  rows_cov (B := 1024) (C := 1024) (p := 16) (N := 64) (e := .f32) (o := fun n => 16 * n) _ _ f G hf 64 (by decide) n hn i k r hr
end Loads

/-- A mixer's columns of row `r` of the tile. -/
abbrev Pr (x : Vec Ideal S1x1024x256 .bf16) (r : Fin 1024) : Fin 256 → EReal := fun i => x (ix3 0 r i)
/-- The projection. -/
abbrev Qr (x : Vec Ideal S1x1024x1024 .bf16) : Fin 1024 → Fin 1024 → EReal := fun i k => x (ix3 0 i k)

section Body
variable (arg2 : Memref sig .tc .vmem S1x1024x1024 .f32) (harg2 : arg2.IsWhole) (arg3 : Memref sig .tc .vmem S1x9x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x1024 .bf16) (harg8 : arg8.IsWhole) (arg9 : Memref sig .tc .vmem S1x1024x5632 .bf16) (harg9 : arg9.IsWhole) (arg10 : Memref sig .tc .vmem S1x2816x1024 .bf16) (harg10 : arg10.IsWhole) (arg11 : Memref sig .tc .vmem S1x3x1024 .f32) (harg11 : arg11.IsWhole) (arg12 : Memref sig .tc .vmem S1x3x1024 .f32) (harg12 : arg12.IsWhole)
  (arg14 : Memref sig .tc .vmem S2x512x2816 .bf16) (arg15 : Memref sig .tc .vmem S2x512x1024 .bf16) (arg16 : Memref sig .tc .vmem S2x512x1024 .f32) (arg17 : Memref sig .tc .vmem S1024x1024 .f32)
  (x0 : Vec Ideal S1x1024x1024 .f32) (x1 : Vec Ideal S1x9x1024 .f32) (x2 x3 x4 x5 : Vec Ideal S1x1024x256 .bf16) (x6 : Vec Ideal S1x1024x1024 .bf16) (x7 : Vec Ideal S1x1024x5632 .bf16) (x8 : Vec Ideal S1x2816x1024 .bf16) (x9 x10 : Vec Ideal S1x3x1024 .f32)

/-- The first norm's row. -/
def x1R (r : Fin 1024) : Fin 1024 → EReal :=
  norm (resR (Xr x0 r) (fun k => Ideal.ofBits .f32 0x3F800000#32 + Mr x1 5 k) (mixR (Pr x2 r) (Pr x3 r) (Pr x4 r) (Pr x5 r) (Qr x6))) (Lr x9 1) (Lr x10 1)

theorem pF_at (s : ℕ) (hs : s < 2) (q : Fin 512) (k : Fin 1024) (r : Fin 1024) (hr : r.val = 512 * s + q.val) :
    (pF arg4 harg4 arg5 harg5 arg6 harg6 arg7 harg7 arg8 harg8 x2 x3 x4 x5 x6 s hs (ix2 q k) : EReal) = mixR (Pr x2 r) (Pr x3 r) (Pr x4 r) (Pr x5 r) (Qr x6) k := by
  pointwise [pF]
  simp only [dotV_at, ldP_at, ldQ_at]
  have : (⟨512 * s + q.val, by omega⟩ : Fin 1024) = r := Fin.ext hr.symm
  simp only [this, Nat.zero_add]
  rfl
theorem xF_at (n : ℕ) (hn : n < 64) (i : Fin 16) (k : Fin 1024) (r : Fin 1024) (hr : r.val = 16 * n + i.val) :
    (xF arg2 harg2 arg3 harg3 arg4 harg4 arg5 harg5 arg6 harg6 arg7 harg7 arg8 harg8 arg11 harg11 arg12 harg12 x0 x1 x2 x3 x4 x5 x6 x9 x10 n hn (ix2 i k) : EReal) = x1R x0 x1 x2 x3 x4 x5 x6 x9 x10 r k := by
  unfold xF
  rw [normV_at]
  simp only [resV_at, rowV_at, rowOne_at, flatV_at, ldX_at, ldM_at, ldL_at, cutV_at]
  simp only [fun k => pF_at arg4 harg4 arg5 harg5 arg6 harg6 arg7 harg7 arg8 harg8 x2 x3 x4 x5 x6 (n / 32) (by omega) (⟨16 * (n % 32) + i.val, by omega⟩ : Fin 512) k r (by show r.val = 512 * (n / 32) + (16 * (n % 32) + i.val); omega)]
  have : (⟨16 * n + i.val, by omega⟩ : Fin 1024) = r := Fin.ext hr.symm
  simp only [this]
  rfl
theorem xS_at (n : ℕ) (hn : n < 64) (i : Fin 16) (k : Fin 1024) (r : Fin 1024) (hr : r.val = 16 * n + i.val) :
    (xS arg2 harg2 arg3 harg3 arg4 harg4 arg5 harg5 arg6 harg6 arg7 harg7 arg8 harg8 arg11 harg11 arg12 harg12 x0 x1 x2 x3 x4 x5 x6 x9 x10 n hn (ix2 i k) : EReal) = x1R x0 x1 x2 x3 x4 x5 x6 x9 x10 r k := by
  pointwise [xS]
  exact xF_at arg2 harg2 arg3 harg3 arg4 harg4 arg5 harg5 arg6 harg6 arg7 harg7 arg8 harg8 arg11 harg11 arg12 harg12 x0 x1 x2 x3 x4 x5 x6 x9 x10 n hn i k r hr
theorem hM_at (n : ℕ) (hn : n < 64) (i : Fin 16) (k : Fin 1024) (r : Fin 1024) (hr : r.val = 16 * n + i.val) :
    (hM arg2 harg2 arg3 harg3 arg4 harg4 arg5 harg5 arg6 harg6 arg7 harg7 arg8 harg8 arg11 harg11 arg12 harg12 x0 x1 x2 x3 x4 x5 x6 x9 x10 n hn (ix3 0 i k) : EReal) = modR (x1R x0 x1 x2 x3 x4 x5 x6 x9 x10 r) (Mr x1 6) (Mr x1 7) k := by
  unfold hM
  rw [modV_at, rowV_at, rowOne_at, ldM_at, ldM_at, xF_at arg2 harg2 arg3 harg3 arg4 harg4 arg5 harg5 arg6 harg6 arg7 harg7 arg8 harg8 arg11 harg11 arg12 harg12 x0 x1 x2 x3 x4 x5 x6 x9 x10 n hn i k r hr]
  rfl
theorem oM_at (n : ℕ) (hn : n < 64) (i : Fin 16) (k : Fin 1024) (r : Fin 1024) (hr : r.val = 16 * n + i.val) :
    (oM arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 n hn (ix3 0 i k) : EReal)
      = ffnR (x1R x0 x1 x2 x3 x4 x5 x6 x9 x10 r) (Mr x1 6) (Mr x1 7) (Mr x1 8) (W1r x7) (W2r x8) (Lr x9 2) (Lr x10 2) k := by
  unfold oM
  rw [liftV_at, normV_at]
  simp only [resV_at, rowV_at, rowHalf_at, flatV_at, ldM_at, ldL_at]
  simp only [fun k => yG_read arg9 harg9 arg10 harg10 arg14 arg15 arg16 x7 x8 _ (fun r => modR (x1R x0 x1 x2 x3 x4 x5 x6 x9 x10 r) (Mr x1 6) (Mr x1 7)) (hM_at arg2 harg2 arg3 harg3 arg4 harg4 arg5 harg5 arg6 harg6 arg7 harg7 arg8 harg8 arg11 harg11 arg12 harg12 x0 x1 x2 x3 x4 x5 x6 x9 x10) n hn i k r hr]
  simp only [fun k => xRead_at arg17 _ (x1R x0 x1 x2 x3 x4 x5 x6 x9 x10) (xS_at arg2 harg2 arg3 harg3 arg4 harg4 arg5 harg5 arg6 harg6 arg7 harg7 arg8 harg8 arg11 harg11 arg12 harg12 x0 x1 x2 x3 x4 x5 x6 x9 x10) n hn i k r hr]
  rfl
/-- The result's block at an element. -/
theorem out_at (r k : Fin 1024) :
    View.canon (Val := Elt Ideal) (oList (oM arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) 64 (by decide)) (ix3 0 r k)
      = ffnR (x1R x0 x1 x2 x3 x4 x5 x6 x9 x10 r) (Mr x1 6) (Mr x1 7) (Mr x1 8) (W1r x7) (W2r x8) (Lr x9 2) (Lr x10 2) k :=
  oList_at _ (fun r k => ffnR (x1R x0 x1 x2 x3 x4 x5 x6 x9 x10 r) (Mr x1 6) (Mr x1 7) (Mr x1 8) (W1r x7) (W2r x8) (Lr x9 2) (Lr x10 2) k) (oM_at arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) r k
end Body

end Cert.MixFfnIdeal.Val

end
-- ==== Proof.MixOut.lean ====
/- The body's list of stored blocks is the named one. -/
module

public import proofs.«01_k».proof.Proof.MixStage

@[expose] public section

set_option maxRecDepth 16384

noncomputable section

namespace Cert.MixFfnIdeal.Val

open Cert.MixFfnIdeal Cert.MixFfnIdeal.Gen Idealize.ShloMosaic Idealize.ShloMosaic.TcCoe Cert.Mlp Cert.FfnIdeal.Val

variable {F : FTy → Type} [FloatOps F]
section Named
variable (c : Dev nD) (arg2 : Memref sig .tc .vmem S1x1024x1024 .f32) (harg2 : arg2.IsWhole) (arg3 : Memref sig .tc .vmem S1x9x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x1024 .bf16) (harg8 : arg8.IsWhole) (arg9 : Memref sig .tc .vmem S1x1024x5632 .bf16) (harg9 : arg9.IsWhole) (arg10 : Memref sig .tc .vmem S1x2816x1024 .bf16) (harg10 : arg10.IsWhole) (arg11 : Memref sig .tc .vmem S1x3x1024 .f32) (harg11 : arg11.IsWhole) (arg12 : Memref sig .tc .vmem S1x3x1024 .f32) (harg12 : arg12.IsWhole)
  (arg14 : Memref sig .tc .vmem S2x512x2816 .bf16) (arg15 : Memref sig .tc .vmem S2x512x1024 .bf16) (arg16 : Memref sig .tc .vmem S2x512x1024 .f32) (arg17 : Memref sig .tc .vmem S1024x1024 .f32)
  (x0 : Vec F S1x1024x1024 .f32) (x1 : Vec F S1x9x1024 .f32) (x2 x3 x4 x5 : Vec F S1x1024x256 .bf16) (x6 : Vec F S1x1024x1024 .bf16) (x7 : Vec F S1x1024x5632 .bf16) (x8 : Vec F S1x2816x1024 .bf16) (x9 x10 : Vec F S1x3x1024 .f32)

/-- The first norm's rows, as the body stores them. -/
theorem xs_eq : kernelRun0_A.sl.HS3_64 c arg2 harg2 arg3 harg3 arg4 harg4 arg5 harg5 arg6 harg6 arg7 harg7 arg8 harg8 arg11 harg11 arg12 harg12 x0 x1 x2 x3 x4 x5 x6 x9 x10 = xList (xS arg2 harg2 arg3 harg3 arg4 harg4 arg5 harg5 arg6 harg6 arg7 harg7 arg8 harg8 arg11 harg11 arg12 harg12 x0 x1 x2 x3 x4 x5 x6 x9 x10) 64 (by decide) := rfl
set_option maxHeartbeats 4000000 in
/-- The first half's products, as the body stores them. -/
theorem ys1_eq : kernelRun0_A.sl.HS2_1 c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10 = yList (yG arg9 harg9 arg10 harg10 arg14 arg15 x7 x8 (hM arg2 harg2 arg3 harg3 arg4 harg4 arg5 harg5 arg6 harg6 arg7 harg7 arg8 harg8 arg11 harg11 arg12 harg12 x0 x1 x2 x3 x4 x5 x6 x9 x10)) 1 (by decide) := rfl
set_option maxHeartbeats 4000000 in
/-- Both halves' products, as the body stores them. -/
theorem ys2_eq : kernelRun0_A.sl.HS2_2 c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10 = yList (yG arg9 harg9 arg10 harg10 arg14 arg15 x7 x8 (hM arg2 harg2 arg3 harg3 arg4 harg4 arg5 harg5 arg6 harg6 arg7 harg7 arg8 harg8 arg11 harg11 arg12 harg12 x0 x1 x2 x3 x4 x5 x6 x9 x10)) 2 (by decide) := rfl
/-- The products stored after `n` halves. -/
def yK : ℕ → List (View.Piece (Elt F) S2x512x1024 .f32)
  | 1 => kernelRun0_A.sl.HS2_1 c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10
  | _ => kernelRun0_A.sl.HS2_2 c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10
theorem yK_eq : ∀ (n : ℕ) (hn : n ≤ 2), 1 ≤ n → yK c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10 n = yList (yG arg9 harg9 arg10 harg10 arg14 arg15 x7 x8 (hM arg2 harg2 arg3 harg3 arg4 harg4 arg5 harg5 arg6 harg6 arg7 harg7 arg8 harg8 arg11 harg11 arg12 harg12 x0 x1 x2 x3 x4 x5 x6 x9 x10)) n hn
  | 1, _, _ => ys1_eq c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10
  | 2, _, _ => ys2_eq c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10
/-- The result's rows of group `n`, over the lists that the body stores. -/
def oK (n : ℕ) (hn : n < 64) : FVec F S1x16x1024 .f32 :=
  liftV (normV (rowV (ldL arg11 harg11 x9 2 (by decide))) (rowV (ldL arg12 harg12 x10 2 (by decide)))
    (resV (rowHalf (ldM arg3 harg3 x1 8 (by decide)))
      (arg17.view.readCov (kernelRun0_A.sl.HS3_64 c arg2 harg2 arg3 harg3 arg4 harg4 arg5 harg5 arg6 harg6 arg7 harg7 arg8 harg8 arg11 harg11 arg12 harg12 x0 x1 x2 x3 x4 x5 x6 x9 x10) (Rect.unit (s := S1024x1024) ![16 * n, 0] S16x1024.size (inbR (by omega))).toLoadRect)
      (flatV (arg16.view.readCov (yK c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10 (n / 32 + 1)) (Rect.unit (s := S2x512x1024) ![n / 32, 16 * (n % 32), 0] S1x16x1024.size (inbH (by omega) (by omega))).toLoadRect))))
theorem oK_eq : oK c arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 = oM arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 := by
  funext n hn
  unfold oK oM xRead yRead
  rw [xs_eq, yK_eq c arg2 harg2 arg3 harg3 arg4 harg4 arg5 harg5 arg6 harg6 arg7 harg7 arg8 harg8 arg9 harg9 arg10 harg10 arg11 harg11 arg12 harg12 arg14 arg15 x0 x1 x2 x3 x4 x5 x6 x7 x8 x9 x10 (n / 32 + 1) (by omega) (by omega)]
end Named

variable (c : Dev nD) (i : grid0.Coords) (arg2 : Memref sig .tc .vmem S1x1024x1024 .f32) (harg2 : arg2.IsWhole) (arg3 : Memref sig .tc .vmem S1x9x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x1024 .bf16) (harg8 : arg8.IsWhole) (arg9 : Memref sig .tc .vmem S1x1024x5632 .bf16) (harg9 : arg9.IsWhole) (arg10 : Memref sig .tc .vmem S1x2816x1024 .bf16) (harg10 : arg10.IsWhole) (arg11 : Memref sig .tc .vmem S1x3x1024 .f32) (harg11 : arg11.IsWhole) (arg12 : Memref sig .tc .vmem S1x3x1024 .f32) (harg12 : arg12.IsWhole)
  (arg13 : Memref sig .tc .vmem S1x1024x1024 .f32) (harg13 : arg13.IsWhole) (arg14 : Memref sig .tc .vmem S2x512x2816 .bf16) (harg14 : arg14.IsWhole) (arg15 : Memref sig .tc .vmem S2x512x1024 .bf16) (harg15 : arg15.IsWhole) (arg16 : Memref sig .tc .vmem S2x512x1024 .f32) (harg16 : arg16.IsWhole) (arg17 : Memref sig .tc .vmem S1024x1024 .f32) (harg17 : arg17.IsWhole)
  (x0 : Vec F S1x1024x1024 .f32) (x1 : Vec F S1x9x1024 .f32) (x2 x3 x4 x5 : Vec F S1x1024x256 .bf16) (x6 : Vec F S1x1024x1024 .bf16) (x7 : Vec F S1x1024x5632 .bf16) (x8 : Vec F S1x2816x1024 .bf16) (x9 x10 : Vec F S1x3x1024 .f32)

set_option maxHeartbeats 4000000 in
/-- The body's stores are the named ones. -/
theorem pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).1
    = oList (oM arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) 64 (by decide) := by
  rw [← oK_eq c]
  rfl

end Cert.MixFfnIdeal.Val

end
-- ==== Proof.MixRef.lean ====
/- The reference second feed-forward sublayer's array expressions, named and read at an element. -/
module

public import proofs.«01_k».proof.Proof.Gen.RefMixFfnIdeal.Run
public import proofs.«01_k».proof.Proof.FfnRef
public import proofs.«01_k».proof.Proof.MixTiles

@[expose] public section

set_option maxRecDepth 16384

noncomputable section

namespace Cert.RefMixFfnIdeal.Val

open Cert.RefMixFfnIdeal Cert.RefMixFfnIdeal.Gen Idealize.ShloMosaic Idealize.ShloMosaic.StableHlo Idealize.ShloMosaic.TcCoe Cert.Mlp Cert.RefFfnIdeal.Val

/-- The mixers' columns, side by side. -/
def catS (a b c d : FVec Ideal S16x2048x256 .f32) : FVec Ideal S16x2048x1024 .f32 :=
  concatenate S16x2048x1024 2 [⟨S16x2048x256, a⟩, ⟨S16x2048x256, b⟩, ⟨S16x2048x256, c⟩, ⟨S16x2048x256, d⟩] concatenates_S16x2048x256_S16x2048x256_S16x2048x256_S16x2048x256_S16x2048x1024_d2
/-- Layer `l` of the projection. -/
def layP (l : ℕ) (W : FVec Ideal S2x1024x1024 .f32) (h : S2x1024x1024.Slices ![l, 0, 0] S1x1024x1024) : FVec Ideal S1024x1024 .f32 := shapeCast S1024x1024 (extractStridedSlice S1x1024x1024 ![l, 0, 0] W h) shapeCasts_S1x1024x1024_S1024x1024
/-- The columns times the projection. -/
def mixS (x : FVec Ideal S16x2048x1024 .f32) (w : FVec Ideal S1024x1024 .f32) : FVec Ideal S16x2048x1024 .f32 :=
  Host.dotGeneral dot_S16x2048x1024_S1024x1024_S16x2048x1024_2_0_01_1_n_n none x w

theorem layP_at (l : ℕ) (hl : l < 2) (W : FVec Ideal S2x1024x1024 .f32) (h : S2x1024x1024.Slices ![l, 0, 0] S1x1024x1024) (j k : Fin 1024) : (layP l W h (ix2 j k) : EReal) = W (ix3 (⟨l, hl⟩ : Fin 2) j k) := by
  pointwise [layP]

section Cat
variable (x : Fin 4 → FVec Ideal S16x2048x256 .f32) (i : Fin 16) (r : Fin 2048) (k : Fin 256)
theorem catS_at (q : Fin 4) : (catS (x 0) (x 1) (x 2) (x 3) (ix3 i r (⟨256 * q.val + k.val, by omega⟩ : Fin 1024)) : EReal) = x q (ix3 i r k) := by
  refine concatenate_apply_piece (t := S16x2048x1024) 2 [⟨S16x2048x256, x 0⟩, ⟨S16x2048x256, x 1⟩, ⟨S16x2048x256, x 2⟩, ⟨S16x2048x256, x 3⟩] _ _ q.val q.isLt S16x2048x256 (x q) ?_ rfl (256 * q.val) ?_ (ix3 i r k) ?_ ?_
  · fin_cases q <;> rfl
  · fin_cases q <;> rfl
  · intro b hb
    fin_cases b
    · rfl
    · rfl
    · exact absurd rfl hb
  · rfl
end Cat

theorem mixS_at (a b c d : FVec Ideal S16x2048x256 .f32) (w : FVec Ideal S1024x1024 .f32) (i : Fin 16) (r : Fin 2048) (k : Fin 1024) :
    (mixS (catS a b c d) w (ix3 i r k) : EReal)
      = mixR (fun j => a (ix3 i r j)) (fun j => b (ix3 i r j)) (fun j => c (ix3 i r j)) (fun j => d (ix3 i r j)) (fun j k => w (ix2 j k)) k := by
  pointwise [mixS]
  refine (sum_quarters _).trans ?_
  have h := fun (q : Fin 4) (j : Fin 256) => catS_at ![a, b, c, d] i r j q
  have e0 : ∀ j : Fin 256, (catS a b c d (ix3 i r (⟨j.val, by omega⟩ : Fin 1024)) : EReal) = a (ix3 i r j) := fun j =>
    (congrArg (fun q : Fin 1024 => (catS a b c d (ix3 i r q) : EReal)) (Fin.ext (by show j.val = 256 * 0 + j.val; omega))).trans (h 0 j)
  have e1 : ∀ j : Fin 256, (catS a b c d (ix3 i r (⟨256 + j.val, by omega⟩ : Fin 1024)) : EReal) = b (ix3 i r j) := fun j => h 1 j
  have e2 : ∀ j : Fin 256, (catS a b c d (ix3 i r (⟨512 + j.val, by omega⟩ : Fin 1024)) : EReal) = c (ix3 i r j) := fun j => h 2 j
  have e3 : ∀ j : Fin 256, (catS a b c d (ix3 i r (⟨768 + j.val, by omega⟩ : Fin 1024)) : EReal) = d (ix3 i r j) := fun j => h 3 j
  simp only [e0, e1, e2, e3]
  rfl

/-- The first norm's rows. -/
def x1S (X : FVec Ideal S16x2048x1024 .f32) (M : FVec Ideal S16x9x1024 .f32) (a b c d : FVec Ideal S16x2048x256 .f32) (Q : FVec Ideal S2x1024x1024 .f32) (G B : FVec Ideal S2x3x1024 .f32) : FVec Ideal S16x2048x1024 .f32 :=
  normS (resS X (oneS (rowM 5 M slices_S16x9x1024_S16x1x1024_0_5_0)) (mixS (catS a b c d) (layP 1 Q slices_S2x1024x1024_S1x1024x1024_1_0_0)))
    (rowL 1 1 G slices_S2x3x1024_S1x1x1024_1_1_0) (rowL 1 1 B slices_S2x3x1024_S1x1x1024_1_1_0)
/-- The reference's result over its arguments. -/
def result (X : FVec Ideal S16x2048x1024 .f32) (M : FVec Ideal S16x9x1024 .f32) (a b c d : FVec Ideal S16x2048x256 .f32) (Q : FVec Ideal S2x1024x1024 .f32) (W : FVec Ideal S2x1024x5632 .f32) (O : FVec Ideal S2x2816x1024 .f32) (G B : FVec Ideal S2x3x1024 .f32) : FVec Ideal S16x2048x1024 .f32 :=
  ffnS (x1S X M a b c d Q G B) (rowM 6 M slices_S16x9x1024_S16x1x1024_0_6_0) (rowM 7 M slices_S16x9x1024_S16x1x1024_0_7_0) (rowM 8 M slices_S16x9x1024_S16x1x1024_0_8_0)
    (layW 1 W slices_S2x1024x5632_S1x1024x5632_1_0_0) (layO 1 O slices_S2x2816x1024_S1x2816x1024_1_0_0) (rowL 1 2 G slices_S2x3x1024_S1x1x1024_1_2_0) (rowL 1 2 B slices_S2x3x1024_S1x1x1024_1_2_0)

theorem x1S_at (X : FVec Ideal S16x2048x1024 .f32) (M : FVec Ideal S16x9x1024 .f32) (a b c d : FVec Ideal S16x2048x256 .f32) (Q : FVec Ideal S2x1024x1024 .f32) (G B : FVec Ideal S2x3x1024 .f32) (i : Fin 16) (r : Fin 2048) (k : Fin 1024) :
    (x1S X M a b c d Q G B (ix3 i r k) : EReal)
      = norm (resR (fun k => X (ix3 i r k)) (fun k => Ideal.ofBits .f32 0x3F800000#32 + M (ix3 i 5 k))
          (mixR (fun j => a (ix3 i r j)) (fun j => b (ix3 i r j)) (fun j => c (ix3 i r j)) (fun j => d (ix3 i r j)) (fun j k => Q (ix3 1 j k))))
        (fun k => G (ix3 1 1 k)) (fun k => B (ix3 1 1 k)) k := by
  unfold x1S
  rw [normS_at]
  simp only [resS_at, oneS_at, mixS_at, rowM_at 5 (by decide), layP_at 1 (by decide), rowL_at 1 1 (by decide) (by decide)]
  rfl

theorem result_at (X : FVec Ideal S16x2048x1024 .f32) (M : FVec Ideal S16x9x1024 .f32) (a b c d : FVec Ideal S16x2048x256 .f32) (Q : FVec Ideal S2x1024x1024 .f32) (W : FVec Ideal S2x1024x5632 .f32) (O : FVec Ideal S2x2816x1024 .f32) (G B : FVec Ideal S2x3x1024 .f32) (i : Fin 16) (r : Fin 2048) (k : Fin 1024) :
    (result X M a b c d Q W O G B (ix3 i r k) : EReal)
      = ffnR (norm (resR (fun k => X (ix3 i r k)) (fun k => Ideal.ofBits .f32 0x3F800000#32 + M (ix3 i 5 k))
          (mixR (fun j => a (ix3 i r j)) (fun j => b (ix3 i r j)) (fun j => c (ix3 i r j)) (fun j => d (ix3 i r j)) (fun j k => Q (ix3 1 j k))))
        (fun k => G (ix3 1 1 k)) (fun k => B (ix3 1 1 k)))
        (fun k => M (ix3 i 6 k)) (fun k => M (ix3 i 7 k)) (fun k => M (ix3 i 8 k)) (fun k j => W (ix3 1 k j)) (fun j k => O (ix3 1 j k)) (fun k => G (ix3 1 2 k)) (fun k => B (ix3 1 2 k)) k := by
  unfold result
  rw [ffnS_at]
  simp only [x1S_at, rowM_at 6 (by decide), rowM_at 7 (by decide), rowM_at 8 (by decide), layW_at 1 (by decide), layO_at 1 (by decide), rowL_at 1 2 (by decide) (by decide)]
  rfl

theorem res_eq (m : (ℓ : Loc nD τ sig) → Buf (Elt Ideal) ℓ) (c : Dev nD) : (Value.val2 (launchContents m c) (Proc.devRef .tc main_v95) : FVec Ideal S16x2048x1024 .f32)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Value.val2_main_v95 (launchContents m c)).trans rfl

end Cert.RefMixFfnIdeal.Val

end
-- ==== Proof.MixFinal.lean ====
/- The projecting feed-forward kernel's result array is the reference's. -/
module

public import proofs.«01_k».proof.Proof.MixRow
public import proofs.«01_k».proof.Proof.MixOut
public import proofs.«01_k».proof.Proof.MixRef
public import proofs.«01_k».proof.Proof.Gen.MixFfnIdeal.Value
public import Idealize.ShloMosaic.Lib.Pipeline.ValueKit
public import Idealize.ShloMosaic.Lib.Claim

@[expose] public section

set_option maxRecDepth 16384

noncomputable section

namespace Cert.MixFfnIdeal.Val

open Cert.MixFfnIdeal Cert.MixFfnIdeal.Gen Idealize.ShloMosaic Idealize.ShloMosaic.TcCoe Idealize.SL.Sem Cert.Mlp
open Cert.FfnIdeal.Val (Xr Mr Lr W1r W2r)
open Idealize.ShloMosaic.Pipeline (Dat)

variable (m : (ℓ : Loc nD τ sig) → Buf (Elt Ideal) ℓ)

theorem idx : ∀ t : Fin cfg0.N, win0_0.index t = ![t.val / 2, t.val % 2, 0] ∧ win0_1.index t = ![t.val / 2, 0, 0]
    ∧ win0_2.index t = ![t.val / 2, t.val % 2, 0] ∧ win0_3.index t = ![t.val / 2, t.val % 2, 0] ∧ win0_4.index t = ![t.val / 2, t.val % 2, 0] ∧ win0_5.index t = ![t.val / 2, t.val % 2, 0]
    ∧ win0_6.index t = ![1, 0, 0] ∧ win0_7.index t = ![1, 0, 0] ∧ win0_8.index t = ![1, 0, 0] ∧ win0_9.index t = ![1, 0, 0] ∧ win0_10.index t = ![1, 0, 0] ∧ win0_11.index t = ![t.val / 2, t.val % 2, 0]
    ∧ t.val / 2 < 16 :=
  (by decide +kernel : ∀ t : Fin grid0.N, _)

/-- The kernel's arguments at their literal types. -/
abbrev argX (c : Dev nD) : FVec Ideal S16x2048x1024 .f32 := m ((c : Thread nD τ).loc main_arg0)
abbrev argM (c : Dev nD) : FVec Ideal S16x9x1024 .f32 := m ((c : Thread nD τ).loc main_arg1)
abbrev argA (c : Dev nD) : FVec Ideal S16x2048x256 .f32 := m ((c : Thread nD τ).loc main_arg2)
abbrev argB (c : Dev nD) : FVec Ideal S16x2048x256 .f32 := m ((c : Thread nD τ).loc main_arg3)
abbrev argC (c : Dev nD) : FVec Ideal S16x2048x256 .f32 := m ((c : Thread nD τ).loc main_arg4)
abbrev argD (c : Dev nD) : FVec Ideal S16x2048x256 .f32 := m ((c : Thread nD τ).loc main_arg5)
abbrev argQ (c : Dev nD) : FVec Ideal S2x1024x1024 .f32 := m ((c : Thread nD τ).loc main_arg6)
abbrev argW (c : Dev nD) : FVec Ideal S2x1024x5632 .f32 := m ((c : Thread nD τ).loc main_arg7)
abbrev argO (c : Dev nD) : FVec Ideal S2x2816x1024 .f32 := m ((c : Thread nD τ).loc main_arg8)
abbrev argG (c : Dev nD) : FVec Ideal S2x3x1024 .f32 := m ((c : Thread nD τ).loc main_arg9)
abbrev argH (c : Dev nD) : FVec Ideal S2x3x1024 .f32 := m ((c : Thread nD τ).loc main_arg10)

theorem V0 (c : Dev nD) : (V m c main_v0 : FVec Ideal S16x2048x256 .bf16) = truncf .bf16 (argA m c) bitsLt_bf16_f32 := by
  show StableHlo.after [hostOps0].flatten (fun b => m (c, b)) (Proc.tc.devRef main_v0) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem V1 (c : Dev nD) : (V m c main_v1 : FVec Ideal S16x2048x256 .bf16) = truncf .bf16 (argB m c) bitsLt_bf16_f32 := by
  show StableHlo.after [hostOps0].flatten (fun b => m (c, b)) (Proc.tc.devRef main_v1) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem V2 (c : Dev nD) : (V m c main_v2 : FVec Ideal S16x2048x256 .bf16) = truncf .bf16 (argC m c) bitsLt_bf16_f32 := by
  show StableHlo.after [hostOps0].flatten (fun b => m (c, b)) (Proc.tc.devRef main_v2) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem V3 (c : Dev nD) : (V m c main_v3 : FVec Ideal S16x2048x256 .bf16) = truncf .bf16 (argD m c) bitsLt_bf16_f32 := by
  show StableHlo.after [hostOps0].flatten (fun b => m (c, b)) (Proc.tc.devRef main_v3) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem V4 (c : Dev nD) : (V m c main_v4 : FVec Ideal S2x1024x5632 .bf16) = truncf .bf16 (argW m c) bitsLt_bf16_f32 := by
  show StableHlo.after [hostOps0].flatten (fun b => m (c, b)) (Proc.tc.devRef main_v4) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem V5 (c : Dev nD) : (V m c main_v5 : FVec Ideal S2x2816x1024 .bf16) = truncf .bf16 (argO m c) bitsLt_bf16_f32 := by
  show StableHlo.after [hostOps0].flatten (fun b => m (c, b)) (Proc.tc.devRef main_v5) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem V6 (c : Dev nD) : (V m c main_v6 : FVec Ideal S2x1024x1024 .bf16) = truncf .bf16 (argQ m c) bitsLt_bf16_f32 := by
  show StableHlo.after [hostOps0].flatten (fun b => m (c, b)) (Proc.tc.devRef main_v6) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl

/-- The batch of a grid point. -/
abbrev bOf (t : Fin cfg0.N) : Fin 16 := ⟨t.val / 2, (idx t).2.2.2.2.2.2.2.2.2.2.2.2⟩
/-- The sequence position of row `r` of a grid point's tile. -/
abbrev sOf (t : Fin cfg0.N) (r : Fin 1024) : Fin 2048 := ⟨1024 * (t.val % 2) + r.val, by omega⟩

theorem blk0 (c : Dev nD) (t : Fin cfg0.N) (r k : Fin 1024) : (iblk m c 0 t (ix3 0 r k) : EReal) = argX m c (ix3 (bOf t) (sOf t r) k) := by
  blk_simp [iblk]; entry_read; pointwise; blk_ext [idx t]
theorem blk1 (c : Dev nD) (t : Fin cfg0.N) (i : Fin 9) (k : Fin 1024) : (iblk m c 1 t (ix3 0 i k) : EReal) = argM m c (ix3 (bOf t) i k) := by
  blk_simp [iblk]; entry_read; pointwise; blk_ext [idx t]
theorem blk2 (c : Dev nD) (t : Fin cfg0.N) (r : Fin 1024) (j : Fin 256) : (iblk m c 2 t (ix3 0 r j) : EReal) = V m c main_v0 (ix3 (bOf t) (sOf t r) j) := by
  blk_simp [iblk]
  blk_ext [idx t]
theorem blk3 (c : Dev nD) (t : Fin cfg0.N) (r : Fin 1024) (j : Fin 256) : (iblk m c 3 t (ix3 0 r j) : EReal) = V m c main_v1 (ix3 (bOf t) (sOf t r) j) := by
  blk_simp [iblk]
  blk_ext [idx t]
theorem blk4 (c : Dev nD) (t : Fin cfg0.N) (r : Fin 1024) (j : Fin 256) : (iblk m c 4 t (ix3 0 r j) : EReal) = V m c main_v2 (ix3 (bOf t) (sOf t r) j) := by
  blk_simp [iblk]
  blk_ext [idx t]
theorem blk5 (c : Dev nD) (t : Fin cfg0.N) (r : Fin 1024) (j : Fin 256) : (iblk m c 5 t (ix3 0 r j) : EReal) = V m c main_v3 (ix3 (bOf t) (sOf t r) j) := by
  blk_simp [iblk]
  blk_ext [idx t]
theorem blk6 (c : Dev nD) (t : Fin cfg0.N) (j k : Fin 1024) : (iblk m c 6 t (ix3 0 j k) : EReal) = V m c main_v6 (ix3 (1 : Fin 2) j k) := by
  blk_simp [iblk]
  blk_ext [idx t]
theorem blk7 (c : Dev nD) (t : Fin cfg0.N) (k : Fin 1024) (j : Fin 5632) : (iblk m c 7 t (ix3 0 k j) : EReal) = V m c main_v4 (ix3 (1 : Fin 2) k j) := by
  blk_simp [iblk]
  blk_ext [idx t]
theorem blk8 (c : Dev nD) (t : Fin cfg0.N) (j : Fin 2816) (k : Fin 1024) : (iblk m c 8 t (ix3 0 j k) : EReal) = V m c main_v5 (ix3 (1 : Fin 2) j k) := by
  blk_simp [iblk]
  blk_ext [idx t]
theorem blk9 (c : Dev nD) (t : Fin cfg0.N) (i : Fin 3) (k : Fin 1024) : (iblk m c 9 t (ix3 0 i k) : EReal) = argG m c (ix3 (1 : Fin 2) i k) := by
  blk_simp [iblk]; entry_read; pointwise; blk_ext [idx t]
theorem blk10 (c : Dev nD) (t : Fin cfg0.N) (i : Fin 3) (k : Fin 1024) : (iblk m c 10 t (ix3 0 i k) : EReal) = argH m c (ix3 (1 : Fin 2) i k) := by
  blk_simp [iblk]; entry_read; pointwise; blk_ext [idx t]

/-- The reference's result over the kernel's arguments. -/
abbrev refR (c : Dev nD) : FVec Ideal S16x2048x1024 .f32 := Cert.RefMixFfnIdeal.Val.result (argX m c) (argM m c) (argA m c) (argB m c) (argC m c) (argD m c) (argQ m c) (argW m c) (argO m c) (argG m c) (argH m c)

theorem after_at (c : Dev nD) (t : Fin cfg0.N) (r k : Fin 1024) :
    ((outsAt0 m c t : Vec Ideal S1x1024x1024 .f32) (ix3 0 r k) : EReal) = refR m c (ix3 (bOf t) (sOf t r) k) := by
  unfold outsAt0 out0_A_11
  rw [View.read_writes_junk_apply_eq_canon, pieces]
  refine (out_at _ _ _ _ _ _ _ _ _ _ _ _ _ _ _ _ _ _ _ _ _ _ _ _ _ _ _ _ _ _ _ _ _ _ _ _ _ r k).trans ?_
  refine Eq.trans ?_ (Cert.RefMixFfnIdeal.Val.result_at _ _ _ _ _ _ _ _ _ _ _ _ _ _ ).symm
  have e0 : Xr (iblk m c 0 t) r = fun k => argX m c (ix3 (bOf t) (sOf t r) k) := funext fun k => blk0 m c t r k
  have e1 : ∀ i, Mr (iblk m c 1 t) i = fun k => argM m c (ix3 (bOf t) i k) := fun i => funext fun k => blk1 m c t i k
  have e2 : Pr (iblk m c 2 t) r = fun j => argA m c (ix3 (bOf t) (sOf t r) j) := funext fun j => (blk2 m c t r j).trans (by rw [V0]; pointwise)
  have e3 : Pr (iblk m c 3 t) r = fun j => argB m c (ix3 (bOf t) (sOf t r) j) := funext fun j => (blk3 m c t r j).trans (by rw [V1]; pointwise)
  have e4 : Pr (iblk m c 4 t) r = fun j => argC m c (ix3 (bOf t) (sOf t r) j) := funext fun j => (blk4 m c t r j).trans (by rw [V2]; pointwise)
  have e5 : Pr (iblk m c 5 t) r = fun j => argD m c (ix3 (bOf t) (sOf t r) j) := funext fun j => (blk5 m c t r j).trans (by rw [V3]; pointwise)
  have e6 : Qr (iblk m c 6 t) = fun j k => argQ m c (ix3 1 j k) := funext fun j => funext fun k => (blk6 m c t j k).trans (by rw [V6]; pointwise)
  have e7 : W1r (iblk m c 7 t) = fun k j => argW m c (ix3 1 k j) := funext fun k => funext fun j => (blk7 m c t k j).trans (by rw [V4]; pointwise)
  have e8 : W2r (iblk m c 8 t) = fun j k => argO m c (ix3 1 j k) := funext fun j => funext fun k => (blk8 m c t j k).trans (by rw [V5]; pointwise)
  have e9 : ∀ i, Lr (iblk m c 9 t) i = fun k => argG m c (ix3 1 i k) := fun i => funext fun k => blk9 m c t i k
  have e10 : ∀ i, Lr (iblk m c 10 t) i = fun k => argH m c (ix3 1 i k) := fun i => funext fun k => blk10 m c t i k
  unfold x1R
  rw [e0, e2, e3, e4, e5, e6, e7, e8]
  simp only [e1, e9, e10]

theorem final (c : Dev nD) : (dats m 0 c).arrAt 11 (cfgs 0).N = refR m c := by
  refine (dats m 0 c).arrAt_eq_of_covers 11 _ (by decide +kernel) fun t _ y => ?_
  blk_simp
  rw [after0_11]
  refine (congrArg (outsAt0 m c t : Vec Ideal S1x1024x1024 .f32) (ix3_flat y)).trans ?_
  refine (after_at m c t (y 1) (y 2)).trans ?_
  blk_ext [idx t]

end Cert.MixFfnIdeal.Val

end
-- ==== Proof.FoxPre.lean ====
/- What the precondition says of the arguments' elements. -/
module

public import proofs.«01_k».proof.Proof.Gen.Pre_finite_scores
public import Idealize.ShloMosaic.Lib.Pointwise
public import Idealize.ShloMosaic.Lib.IdealHost
public import Idealize.ShloMosaic.Lib.ReduceAll

@[expose] public section

set_option maxRecDepth 16384

noncomputable section

namespace Cert.Pre_finite_scores.Att

open Cert.Pre_finite_scores Cert.Pre_finite_scores.Gen Idealize.ShloMosaic

/-- An extended real whose absolute value lies below the top is a real. -/
theorem real_of_lt (x : EReal) (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

theorem and_one : ∀ a b : BitVec 1, IntOp.andi a b = 1#1 → a = 1#1 ∧ b = 1#1 := by decide

instance : Subsingleton S_.Idx := ⟨fun a b => funext fun x => x.elim0⟩

theorem fin_of (s : Shape) (hb : S_.BroadcastsInDim s (![] : Fin 0 → Fin s.rank)) (axes : List (Fin s.rank)) (hr : s.ReducesTo axes S_)
    (x : FVec Ideal s .f32) (j : S_.Idx)
    (h : Host.reduce IntOp.andi (cmpf .olt (Host.absf x) (broadcastInDim s ![] hb (constant (F := Ideal) S_ .f32 0x7F800000#32))) (constantI S_ 1 1#1) hr h_S_ j = 1#1)
    (i : s.Idx) : ∃ r : ℝ, x i = (r : EReal) := by
  have := Host.reduce_andi_all _ _ _ _ _ h i
  have ht : Ideal.ofBits .f32 0x7F800000#32 = ⊤ := by simp [Ideal.ofBits, Ideal.ieee]
  refine real_of_lt _ ?_
  rw [← ht]
  exact this

theorem fin_args (q k v : FVec Ideal S16x2048x256 .f32) (c : FVec Ideal S16x2048x4 .f32) (h : fn (F := Ideal) q k v c = fun _ => 1#1) :
    (∀ i, ∃ r : ℝ, q i = (r : EReal)) ∧ (∀ i, ∃ r : ℝ, k i = (r : EReal)) ∧ (∀ i, ∃ r : ℝ, c i = (r : EReal)) := by
  have h0 := congrFun h (fun x => x.elim0)
  obtain ⟨h1, h2⟩ := and_one _ _ h0
  obtain ⟨h3, h4⟩ := and_one _ _ h1
  exact ⟨fin_of _ _ _ _ q _ h3, fin_of _ _ _ _ k _ h4, fin_of _ _ _ _ c _ h2⟩

end Cert.Pre_finite_scores.Att

end
-- ==== Proof.MlaBlocks.lean ====
/- The vector expressions of the attention kernel's body, named: one score block, the running row maximum, one step of
   the weighted sum, the unit's quotient, and the pieces and reads of the score stage. -/
module

public import proofs.«01_k».proof.Proof.Gen.MlaIdeal.Frame

@[expose] public section

set_option maxRecDepth 16384

noncomputable section

namespace Cert.MlaIdeal.Att

open Cert.MlaIdeal Cert.MlaIdeal.Gen Idealize.ShloMosaic Idealize.ShloMosaic.TcCoe

variable {F : FTy → Type} [FloatOps F] [Named F]

/-- The lanes of the first head of the pair. -/
def own0 : IVec S256x128 1 :=
  cmpi .eq (shrsi (iota .tc S256x128 32 [1] iota_S256x128_d1_w32) (broadcast S256x128 6#32)) (broadcast S256x128 0#32)
/-- The lanes of the second head of the pair. -/
def own1 : IVec S256x128 1 :=
  cmpi .eq (shrsi (iota .tc S256x128 32 [1] iota_S256x128_d1_w32) (broadcast S256x128 6#32)) (broadcast S256x128 1#32)
/-- A lane mask as ones and zeros. -/
def maskF (m : IVec S256x128 1) : FVec F S256x128 .bf16 :=
  truncf .bf16 (sitofp .f32 (extui 32 m natLt_1_32)) bitsLt_bf16_f32
/-- The lane that gathers the row sum. -/
def sumLane (n : BitVec 32) : IVec S256x128 1 :=
  cmpi .eq (iota .tc S256x128 32 [1] iota_S256x128_d1_w32) (broadcast S256x128 n)

/-- A score block below the diagonal. -/
def scoreOff (q : Vec F S1x256x128 .bf16) (k : Vec F S1x128x256 .bf16) : FVec F S256x256 .f32 :=
  matmul dot_S256x128_S128x256_S256x256_1_0_0_1_n_n none (shapeCast S256x128 q shapeCasts_S1x256x128_S256x128)
    (shapeCast S128x256 k shapeCasts_S1x128x256_S128x256) (constant S256x256 .f32 0x00000000#32)

/-- The score block on the diagonal, masked. -/
def scoreDiag (q : Vec F S1x256x128 .bf16) (k : Vec F S1x128x256 .bf16) : FVec F S256x256 .f32 :=
  select (cmpi .sge (iota .tc S256x256 32 [0] iota_S256x256_d0_w32) (iota .tc S256x256 32 [1] iota_S256x256_d1_w32))
    (scoreOff q k) (broadcast S256x256 (Named.named κ "neg_inf" 0xF149F2CA#32))

/-- The first step of the running maximum: the two column halves of a block. -/
def mxInit (s : FVec F S256x256 .f32) : FVec F S256x128 .f32 :=
  maximumf (extractStridedSlice S256x128 ![0, 0] s slices_S256x256_o0_0_S256x128)
    (extractStridedSlice S256x128 ![0, 128] s slices_S256x256_o0_128_S256x128)
/-- A further step of the running maximum. -/
def mxStep (m : FVec F S256x128 .f32) (s : FVec F S256x256 .f32) : FVec F S256x128 .f32 :=
  maximumf (maximumf m (extractStridedSlice S256x128 ![0, 0] s slices_S256x256_o0_0_S256x128))
    (extractStridedSlice S256x128 ![0, 128] s slices_S256x256_o0_128_S256x128)
/-- The row maxima, copied along the lanes. -/
def mxRow (m : FVec F S256x128 .f32) : FVec F S256x128 .f32 :=
  broadcastTo S256x128 (shapeCast S256x1 (shapeCast S256x1
    (multiReduction .maximumf [1] S256 m 0xFF800000#32 reduces_S256x128_S256 (.inl rfl) rfl) shapeCasts_S256_S256x1)
    shapeCasts_S256x1_S256x1) broadcasts_S256x1_S256x128

/-- The sum's start. -/
def accInit : FVec F S256x128 .f32 := broadcast S256x128 (Scalar.ofBits .f32 0x00000000#32)
/-- The weights of one half block. -/
def expHalf (p : Vec F S256x128 .f32) (m : FVec F S256x128 .f32) : FVec F S256x128 .bf16 :=
  truncf .bf16 (exp2 (subf p m)) bitsLt_bf16_f32
/-- One step of the weighted sum: the block's weights against its values. -/
def accStep (a : FVec F S256x128 .f32) (m : FVec F S256x128 .f32) (p0 p1 : Vec F S256x128 .f32)
    (v : Vec F S1x256x128 .bf16) (oc : FVec F S256x128 .bf16) : FVec F S256x128 .f32 :=
  addf a (matmul dot_S256x256_S256x128_S256x128_1_0_0_1_n_n none
    (concatenate S256x256 1 [⟨S256x128, expHalf p0 m⟩, ⟨S256x128, expHalf p1 m⟩] concatenates_S256x128_S256x128_S256x256_d1)
    (addf (shapeCast S256x128 v shapeCasts_S1x256x128_S256x128) oc) (constant S256x128 .f32 0x00000000#32))
/-- The first head's quotient: the row sum stands in lane 64. -/
def fin0 (a : FVec F S256x128 .f32) : FVec F S256x128 .f32 :=
  mulf (select own0 a (broadcast S256x128 (Scalar.ofBits .f32 0x00000000#32)))
    (broadcastTo S256x128 (divf (broadcast S256x1 (Scalar.ofBits .f32 0x3F800000#32))
      (extractStridedSlice S256x1 ![0, 64] a slices_S256x128_o0_64_S256x1)) broadcasts_S256x1_S256x128)
/-- The second head's quotient: the row sum stands in lane 0. -/
def fin1 (a : FVec F S256x128 .f32) : FVec F S256x128 .f32 :=
  mulf (select own1 a (broadcast S256x128 (Scalar.ofBits .f32 0x00000000#32)))
    (broadcastTo S256x128 (divf (broadcast S256x1 (Scalar.ofBits .f32 0x3F800000#32))
      (extractStridedSlice S256x1 ![0, 0] a slices_S256x128_o0_0_S256x1)) broadcasts_S256x1_S256x128)
/-- What the body stores for a row block: both heads' halves. -/
def pairOut (a b : FVec F S256x128 .f32) : FVec F S1x256x128 .bf16 :=
  shapeCast S1x256x128 (truncf .bf16 (addf a b) bitsLt_bf16_f32) shapeCasts_S256x128_S1x256x128

section Stage

theorem inbStage {s : ℕ} (hs : s < 4) : ∀ a, (![s, 0, 0] : Fin 3 → ℕ) a + S1x256x2048.size a ≤ S4x256x2048.size a := by
  intro a; fin_cases a <;> simp [Shape.size] <;> omega
theorem inbCols {o : ℕ} (ho : o + 256 ≤ 2048) : ∀ a, (![0, o] : Fin 2 → ℕ) a + S256x256.size a ≤ S256x2048.size a := by
  intro a; fin_cases a <;> simp [Shape.size] <;> omega
theorem inbHalf {o : ℕ} (ho : o + 128 ≤ 2048) : ∀ a, (![0, o] : Fin 2 → ℕ) a + S256x128.size a ≤ S256x2048.size a := by
  intro a; fin_cases a <;> simp [Shape.size] <;> omega

/-- The rectangle of the stage's slot `s` and the 256 columns from `o` on. -/
def stRect (s o : ℕ) (hs : s < 4) (ho : o + 256 ≤ 2048) : Rect S4x256x2048 :=
  (Rect.unit (s := S4x256x2048) ![s, 0, 0] S1x256x2048.size (inbStage hs)).within
    ((Rect.unit (s := S256x2048) ![0, o] S256x256.size (inbCols ho)).consLift ![1, 256, 2048] rfl fun i => by fin_cases i <;> rfl) fun _ => rfl

theorem stNumel (s o : ℕ) (hs : s < 4) (ho : o + 256 ≤ 2048) :
    (stRect s o hs ho).shape.numel = (Rect.unit (s := S256x2048) ![0, o] S256x256.size (inbCols ho)).shape.numel :=
  Rect.numel_consLift (Rect.unit (s := S256x2048) ![0, o] S256x256.size (inbCols ho)) ![1, 256, 2048] rfl fun i => by fin_cases i <;> rfl

/-- A score block stored in the stage. -/
def stPiece (s o : ℕ) (hs : s < 4) (ho : o + 256 ≤ 2048) (w : FVec F S256x256 .f32) : View.Piece (Elt F) S4x256x2048 .f32 :=
  ⟨stRect s o hs ho, Rect.payAlong (r := Rect.unit (s := S256x2048) ![0, o] S256x256.size (inbCols ho)) (stNumel s o hs ho)
    (shapeCast S256x256 w shapeCasts_S256x256_S256x256 : FVec F S256x256 .f32)⟩

/-- The box of the stage's slot `s` and the 128 columns from `o` on. -/
def stBox (s o : ℕ) (hs : s < 4) (ho : o + 128 ≤ 2048) : LoadRect S4x256x2048 :=
  (Rect.unit (s := S4x256x2048) ![s, 0, 0] S1x256x2048.size (inbStage hs)).withinL
    ((Rect.unit (s := S256x2048) ![0, o] S256x128.size (inbHalf ho)).consLift ![1, 256, 2048] rfl fun i => by fin_cases i <;> rfl).toLoadRect fun _ => rfl

/-- A half block read back from the stage. -/
def stRead (arg6 : Memref sig .tc .vmem S4x256x2048 .f32) (L : List (View.Piece (Elt F) S4x256x2048 .f32)) (s o : ℕ) (hs : s < 4)
    (ho : o + 128 ≤ 2048) : Vec F S256x128 .f32 :=
  LoadRect.valAlong (lr := (Rect.unit (s := S256x2048) ![0, o] S256x128.size (inbHalf ho)).toLoadRect) (LR := stBox s o hs ho)
    (Rect.numel_consLift (Rect.unit (s := S256x2048) ![0, o] S256x128.size (inbHalf ho)) ![1, 256, 2048] rfl fun i => by fin_cases i <;> rfl).symm
    (arg6.view.readCov L (stBox s o hs ho))

end Stage

section Loads

theorem inbRows {o : ℕ} (ho : o + 256 ≤ 2048) : ∀ a, (![0, o, 0] : Fin 3 → ℕ) a + S1x256x128.size a ≤ S1x2048x128.size a := by
  intro a; fin_cases a <;> simp [Shape.size] <;> omega
theorem inbHead {o l : ℕ} (ho : o + 256 ≤ 2048) (hl : l + 128 ≤ 256) : ∀ a, (![0, o, l] : Fin 3 → ℕ) a + S1x256x128.size a ≤ S1x2048x256.size a := by
  intro a; fin_cases a <;> simp [Shape.size] <;> omega
theorem inbKeys {l o : ℕ} (hl : l + 128 ≤ 256) (ho : o + 256 ≤ 2048) : ∀ a, (![0, l, o] : Fin 3 → ℕ) a + S1x128x256.size a ≤ S1x256x2048.size a := by
  intro a; fin_cases a <;> simp [Shape.size] <;> omega

/-- The 256 rows of a query or value window from `o` on, in the 128 lanes from `l` on. -/
def ldRows (m : Memref sig .tc .vmem S1x2048x256 .bf16) (h : m.IsWhole) (x : Vec F S1x2048x256 .bf16) (o l : ℕ)
    (ho : o + 256 ≤ 2048) (hl : l + 128 ≤ 256) : Vec F S1x256x128 .bf16 :=
  View.readAt (Elt F) m.view (Rect.unit (s := S1x2048x256) ![0, o, l] S1x256x128.size (inbHead ho hl)).toLoadRect (h.unread x)
/-- The 256 columns of the key window from `o` on, in the 128 lanes from `l` on. -/
def ldKeys (m : Memref sig .tc .vmem S1x256x2048 .bf16) (h : m.IsWhole) (x : Vec F S1x256x2048 .bf16) (l o : ℕ)
    (hl : l + 128 ≤ 256) (ho : o + 256 ≤ 2048) : Vec F S1x128x256 .bf16 :=
  View.readAt (Elt F) m.view (Rect.unit (s := S1x256x2048) ![0, l, o] S1x128x256.size (inbKeys hl ho)).toLoadRect (h.unread x)

end Loads

end Cert.MlaIdeal.Att

end
-- ==== Proof.MlaStage.lean ====
/- The score stage as the body leaves it after each row block and head: the lists of stored score blocks, and the row maxima. -/
module

public import proofs.«01_k».proof.Proof.MlaBlocks

@[expose] public section

set_option maxRecDepth 16384

noncomputable section

namespace Cert.MlaIdeal.Att

open Cert.MlaIdeal Cert.MlaIdeal.Gen Idealize.ShloMosaic Idealize.ShloMosaic.TcCoe

variable {F : FTy → Type} [FloatOps F] [Named F]
variable (c : Dev nD) (i : grid0.Coords) (arg2 : Memref sig .tc .vmem S1x2048x256 .bf16) (harg2 : arg2.IsWhole) (arg3 : Memref sig .tc .vmem S1x256x2048 .bf16) (harg3 : arg3.IsWhole)
  (arg4 : Memref sig .tc .vmem S1x2048x256 .bf16) (harg4 : arg4.IsWhole)
  (arg6 : Memref sig .tc .vmem S4x256x2048 .f32)
  (x0 : Vec F S1x2048x256 .bf16) (x1 : Vec F S1x256x2048 .bf16) (x2 : Vec F S1x2048x256 .bf16)

/-- Score block 0 of unit 0. -/
def sb0_0 : FVec F S256x256 .f32 := (scoreDiag (ldRows arg2 harg2 x0 0 0 (by norm_num) (by norm_num)) (ldKeys arg3 harg3 x1 0 0 (by norm_num) (by norm_num)))
/-- Score block 0 of unit 1. -/
def sb1_0 : FVec F S256x256 .f32 := (scoreDiag (ldRows arg2 harg2 x0 0 128 (by norm_num) (by norm_num)) (ldKeys arg3 harg3 x1 128 0 (by norm_num) (by norm_num)))
/-- Score block 0 of unit 2. -/
def sb2_0 : FVec F S256x256 .f32 := (scoreOff (ldRows arg2 harg2 x0 256 0 (by norm_num) (by norm_num)) (ldKeys arg3 harg3 x1 0 0 (by norm_num) (by norm_num)))
/-- Score block 1 of unit 2. -/
def sb2_1 : FVec F S256x256 .f32 := (scoreDiag (ldRows arg2 harg2 x0 256 0 (by norm_num) (by norm_num)) (ldKeys arg3 harg3 x1 0 256 (by norm_num) (by norm_num)))
/-- Score block 0 of unit 3. -/
def sb3_0 : FVec F S256x256 .f32 := (scoreOff (ldRows arg2 harg2 x0 256 128 (by norm_num) (by norm_num)) (ldKeys arg3 harg3 x1 128 0 (by norm_num) (by norm_num)))
/-- Score block 1 of unit 3. -/
def sb3_1 : FVec F S256x256 .f32 := (scoreDiag (ldRows arg2 harg2 x0 256 128 (by norm_num) (by norm_num)) (ldKeys arg3 harg3 x1 128 256 (by norm_num) (by norm_num)))
/-- Score block 0 of unit 4. -/
def sb4_0 : FVec F S256x256 .f32 := (scoreOff (ldRows arg2 harg2 x0 512 0 (by norm_num) (by norm_num)) (ldKeys arg3 harg3 x1 0 0 (by norm_num) (by norm_num)))
/-- Score block 1 of unit 4. -/
def sb4_1 : FVec F S256x256 .f32 := (scoreOff (ldRows arg2 harg2 x0 512 0 (by norm_num) (by norm_num)) (ldKeys arg3 harg3 x1 0 256 (by norm_num) (by norm_num)))
/-- Score block 2 of unit 4. -/
def sb4_2 : FVec F S256x256 .f32 := (scoreDiag (ldRows arg2 harg2 x0 512 0 (by norm_num) (by norm_num)) (ldKeys arg3 harg3 x1 0 512 (by norm_num) (by norm_num)))
/-- Score block 0 of unit 5. -/
def sb5_0 : FVec F S256x256 .f32 := (scoreOff (ldRows arg2 harg2 x0 512 128 (by norm_num) (by norm_num)) (ldKeys arg3 harg3 x1 128 0 (by norm_num) (by norm_num)))
/-- Score block 1 of unit 5. -/
def sb5_1 : FVec F S256x256 .f32 := (scoreOff (ldRows arg2 harg2 x0 512 128 (by norm_num) (by norm_num)) (ldKeys arg3 harg3 x1 128 256 (by norm_num) (by norm_num)))
/-- Score block 2 of unit 5. -/
def sb5_2 : FVec F S256x256 .f32 := (scoreDiag (ldRows arg2 harg2 x0 512 128 (by norm_num) (by norm_num)) (ldKeys arg3 harg3 x1 128 512 (by norm_num) (by norm_num)))
/-- Score block 0 of unit 6. -/
def sb6_0 : FVec F S256x256 .f32 := (scoreOff (ldRows arg2 harg2 x0 768 0 (by norm_num) (by norm_num)) (ldKeys arg3 harg3 x1 0 0 (by norm_num) (by norm_num)))
/-- Score block 1 of unit 6. -/
def sb6_1 : FVec F S256x256 .f32 := (scoreOff (ldRows arg2 harg2 x0 768 0 (by norm_num) (by norm_num)) (ldKeys arg3 harg3 x1 0 256 (by norm_num) (by norm_num)))
/-- Score block 2 of unit 6. -/
def sb6_2 : FVec F S256x256 .f32 := (scoreOff (ldRows arg2 harg2 x0 768 0 (by norm_num) (by norm_num)) (ldKeys arg3 harg3 x1 0 512 (by norm_num) (by norm_num)))
/-- Score block 3 of unit 6. -/
def sb6_3 : FVec F S256x256 .f32 := (scoreDiag (ldRows arg2 harg2 x0 768 0 (by norm_num) (by norm_num)) (ldKeys arg3 harg3 x1 0 768 (by norm_num) (by norm_num)))
/-- Score block 0 of unit 7. -/
def sb7_0 : FVec F S256x256 .f32 := (scoreOff (ldRows arg2 harg2 x0 768 128 (by norm_num) (by norm_num)) (ldKeys arg3 harg3 x1 128 0 (by norm_num) (by norm_num)))
/-- Score block 1 of unit 7. -/
def sb7_1 : FVec F S256x256 .f32 := (scoreOff (ldRows arg2 harg2 x0 768 128 (by norm_num) (by norm_num)) (ldKeys arg3 harg3 x1 128 256 (by norm_num) (by norm_num)))
/-- Score block 2 of unit 7. -/
def sb7_2 : FVec F S256x256 .f32 := (scoreOff (ldRows arg2 harg2 x0 768 128 (by norm_num) (by norm_num)) (ldKeys arg3 harg3 x1 128 512 (by norm_num) (by norm_num)))
/-- Score block 3 of unit 7. -/
def sb7_3 : FVec F S256x256 .f32 := (scoreDiag (ldRows arg2 harg2 x0 768 128 (by norm_num) (by norm_num)) (ldKeys arg3 harg3 x1 128 768 (by norm_num) (by norm_num)))
/-- Score block 0 of unit 8. -/
def sb8_0 : FVec F S256x256 .f32 := (scoreOff (ldRows arg2 harg2 x0 1024 0 (by norm_num) (by norm_num)) (ldKeys arg3 harg3 x1 0 0 (by norm_num) (by norm_num)))
/-- Score block 1 of unit 8. -/
def sb8_1 : FVec F S256x256 .f32 := (scoreOff (ldRows arg2 harg2 x0 1024 0 (by norm_num) (by norm_num)) (ldKeys arg3 harg3 x1 0 256 (by norm_num) (by norm_num)))
/-- Score block 2 of unit 8. -/
def sb8_2 : FVec F S256x256 .f32 := (scoreOff (ldRows arg2 harg2 x0 1024 0 (by norm_num) (by norm_num)) (ldKeys arg3 harg3 x1 0 512 (by norm_num) (by norm_num)))
/-- Score block 3 of unit 8. -/
def sb8_3 : FVec F S256x256 .f32 := (scoreOff (ldRows arg2 harg2 x0 1024 0 (by norm_num) (by norm_num)) (ldKeys arg3 harg3 x1 0 768 (by norm_num) (by norm_num)))
/-- Score block 4 of unit 8. -/
def sb8_4 : FVec F S256x256 .f32 := (scoreDiag (ldRows arg2 harg2 x0 1024 0 (by norm_num) (by norm_num)) (ldKeys arg3 harg3 x1 0 1024 (by norm_num) (by norm_num)))
/-- Score block 0 of unit 9. -/
def sb9_0 : FVec F S256x256 .f32 := (scoreOff (ldRows arg2 harg2 x0 1024 128 (by norm_num) (by norm_num)) (ldKeys arg3 harg3 x1 128 0 (by norm_num) (by norm_num)))
/-- Score block 1 of unit 9. -/
def sb9_1 : FVec F S256x256 .f32 := (scoreOff (ldRows arg2 harg2 x0 1024 128 (by norm_num) (by norm_num)) (ldKeys arg3 harg3 x1 128 256 (by norm_num) (by norm_num)))
/-- Score block 2 of unit 9. -/
def sb9_2 : FVec F S256x256 .f32 := (scoreOff (ldRows arg2 harg2 x0 1024 128 (by norm_num) (by norm_num)) (ldKeys arg3 harg3 x1 128 512 (by norm_num) (by norm_num)))
/-- Score block 3 of unit 9. -/
def sb9_3 : FVec F S256x256 .f32 := (scoreOff (ldRows arg2 harg2 x0 1024 128 (by norm_num) (by norm_num)) (ldKeys arg3 harg3 x1 128 768 (by norm_num) (by norm_num)))
/-- Score block 4 of unit 9. -/
def sb9_4 : FVec F S256x256 .f32 := (scoreDiag (ldRows arg2 harg2 x0 1024 128 (by norm_num) (by norm_num)) (ldKeys arg3 harg3 x1 128 1024 (by norm_num) (by norm_num)))
/-- Score block 0 of unit 10. -/
def sb10_0 : FVec F S256x256 .f32 := (scoreOff (ldRows arg2 harg2 x0 1280 0 (by norm_num) (by norm_num)) (ldKeys arg3 harg3 x1 0 0 (by norm_num) (by norm_num)))
/-- Score block 1 of unit 10. -/
def sb10_1 : FVec F S256x256 .f32 := (scoreOff (ldRows arg2 harg2 x0 1280 0 (by norm_num) (by norm_num)) (ldKeys arg3 harg3 x1 0 256 (by norm_num) (by norm_num)))
/-- Score block 2 of unit 10. -/
def sb10_2 : FVec F S256x256 .f32 := (scoreOff (ldRows arg2 harg2 x0 1280 0 (by norm_num) (by norm_num)) (ldKeys arg3 harg3 x1 0 512 (by norm_num) (by norm_num)))
/-- Score block 3 of unit 10. -/
def sb10_3 : FVec F S256x256 .f32 := (scoreOff (ldRows arg2 harg2 x0 1280 0 (by norm_num) (by norm_num)) (ldKeys arg3 harg3 x1 0 768 (by norm_num) (by norm_num)))
/-- Score block 4 of unit 10. -/
def sb10_4 : FVec F S256x256 .f32 := (scoreOff (ldRows arg2 harg2 x0 1280 0 (by norm_num) (by norm_num)) (ldKeys arg3 harg3 x1 0 1024 (by norm_num) (by norm_num)))
/-- Score block 5 of unit 10. -/
def sb10_5 : FVec F S256x256 .f32 := (scoreDiag (ldRows arg2 harg2 x0 1280 0 (by norm_num) (by norm_num)) (ldKeys arg3 harg3 x1 0 1280 (by norm_num) (by norm_num)))
/-- Score block 0 of unit 11. -/
def sb11_0 : FVec F S256x256 .f32 := (scoreOff (ldRows arg2 harg2 x0 1280 128 (by norm_num) (by norm_num)) (ldKeys arg3 harg3 x1 128 0 (by norm_num) (by norm_num)))
/-- Score block 1 of unit 11. -/
def sb11_1 : FVec F S256x256 .f32 := (scoreOff (ldRows arg2 harg2 x0 1280 128 (by norm_num) (by norm_num)) (ldKeys arg3 harg3 x1 128 256 (by norm_num) (by norm_num)))
/-- Score block 2 of unit 11. -/
def sb11_2 : FVec F S256x256 .f32 := (scoreOff (ldRows arg2 harg2 x0 1280 128 (by norm_num) (by norm_num)) (ldKeys arg3 harg3 x1 128 512 (by norm_num) (by norm_num)))
/-- Score block 3 of unit 11. -/
def sb11_3 : FVec F S256x256 .f32 := (scoreOff (ldRows arg2 harg2 x0 1280 128 (by norm_num) (by norm_num)) (ldKeys arg3 harg3 x1 128 768 (by norm_num) (by norm_num)))
/-- Score block 4 of unit 11. -/
def sb11_4 : FVec F S256x256 .f32 := (scoreOff (ldRows arg2 harg2 x0 1280 128 (by norm_num) (by norm_num)) (ldKeys arg3 harg3 x1 128 1024 (by norm_num) (by norm_num)))
/-- Score block 5 of unit 11. -/
def sb11_5 : FVec F S256x256 .f32 := (scoreDiag (ldRows arg2 harg2 x0 1280 128 (by norm_num) (by norm_num)) (ldKeys arg3 harg3 x1 128 1280 (by norm_num) (by norm_num)))
/-- Score block 0 of unit 12. -/
def sb12_0 : FVec F S256x256 .f32 := (scoreOff (ldRows arg2 harg2 x0 1536 0 (by norm_num) (by norm_num)) (ldKeys arg3 harg3 x1 0 0 (by norm_num) (by norm_num)))
/-- Score block 1 of unit 12. -/
def sb12_1 : FVec F S256x256 .f32 := (scoreOff (ldRows arg2 harg2 x0 1536 0 (by norm_num) (by norm_num)) (ldKeys arg3 harg3 x1 0 256 (by norm_num) (by norm_num)))
/-- Score block 2 of unit 12. -/
def sb12_2 : FVec F S256x256 .f32 := (scoreOff (ldRows arg2 harg2 x0 1536 0 (by norm_num) (by norm_num)) (ldKeys arg3 harg3 x1 0 512 (by norm_num) (by norm_num)))
/-- Score block 3 of unit 12. -/
def sb12_3 : FVec F S256x256 .f32 := (scoreOff (ldRows arg2 harg2 x0 1536 0 (by norm_num) (by norm_num)) (ldKeys arg3 harg3 x1 0 768 (by norm_num) (by norm_num)))
/-- Score block 4 of unit 12. -/
def sb12_4 : FVec F S256x256 .f32 := (scoreOff (ldRows arg2 harg2 x0 1536 0 (by norm_num) (by norm_num)) (ldKeys arg3 harg3 x1 0 1024 (by norm_num) (by norm_num)))
/-- Score block 5 of unit 12. -/
def sb12_5 : FVec F S256x256 .f32 := (scoreOff (ldRows arg2 harg2 x0 1536 0 (by norm_num) (by norm_num)) (ldKeys arg3 harg3 x1 0 1280 (by norm_num) (by norm_num)))
/-- Score block 6 of unit 12. -/
def sb12_6 : FVec F S256x256 .f32 := (scoreDiag (ldRows arg2 harg2 x0 1536 0 (by norm_num) (by norm_num)) (ldKeys arg3 harg3 x1 0 1536 (by norm_num) (by norm_num)))
/-- Score block 0 of unit 13. -/
def sb13_0 : FVec F S256x256 .f32 := (scoreOff (ldRows arg2 harg2 x0 1536 128 (by norm_num) (by norm_num)) (ldKeys arg3 harg3 x1 128 0 (by norm_num) (by norm_num)))
/-- Score block 1 of unit 13. -/
def sb13_1 : FVec F S256x256 .f32 := (scoreOff (ldRows arg2 harg2 x0 1536 128 (by norm_num) (by norm_num)) (ldKeys arg3 harg3 x1 128 256 (by norm_num) (by norm_num)))
/-- Score block 2 of unit 13. -/
def sb13_2 : FVec F S256x256 .f32 := (scoreOff (ldRows arg2 harg2 x0 1536 128 (by norm_num) (by norm_num)) (ldKeys arg3 harg3 x1 128 512 (by norm_num) (by norm_num)))
/-- Score block 3 of unit 13. -/
def sb13_3 : FVec F S256x256 .f32 := (scoreOff (ldRows arg2 harg2 x0 1536 128 (by norm_num) (by norm_num)) (ldKeys arg3 harg3 x1 128 768 (by norm_num) (by norm_num)))
/-- Score block 4 of unit 13. -/
def sb13_4 : FVec F S256x256 .f32 := (scoreOff (ldRows arg2 harg2 x0 1536 128 (by norm_num) (by norm_num)) (ldKeys arg3 harg3 x1 128 1024 (by norm_num) (by norm_num)))
/-- Score block 5 of unit 13. -/
def sb13_5 : FVec F S256x256 .f32 := (scoreOff (ldRows arg2 harg2 x0 1536 128 (by norm_num) (by norm_num)) (ldKeys arg3 harg3 x1 128 1280 (by norm_num) (by norm_num)))
/-- Score block 6 of unit 13. -/
def sb13_6 : FVec F S256x256 .f32 := (scoreDiag (ldRows arg2 harg2 x0 1536 128 (by norm_num) (by norm_num)) (ldKeys arg3 harg3 x1 128 1536 (by norm_num) (by norm_num)))
/-- Score block 0 of unit 14. -/
def sb14_0 : FVec F S256x256 .f32 := (scoreOff (ldRows arg2 harg2 x0 1792 0 (by norm_num) (by norm_num)) (ldKeys arg3 harg3 x1 0 0 (by norm_num) (by norm_num)))
/-- Score block 1 of unit 14. -/
def sb14_1 : FVec F S256x256 .f32 := (scoreOff (ldRows arg2 harg2 x0 1792 0 (by norm_num) (by norm_num)) (ldKeys arg3 harg3 x1 0 256 (by norm_num) (by norm_num)))
/-- Score block 2 of unit 14. -/
def sb14_2 : FVec F S256x256 .f32 := (scoreOff (ldRows arg2 harg2 x0 1792 0 (by norm_num) (by norm_num)) (ldKeys arg3 harg3 x1 0 512 (by norm_num) (by norm_num)))
/-- Score block 3 of unit 14. -/
def sb14_3 : FVec F S256x256 .f32 := (scoreOff (ldRows arg2 harg2 x0 1792 0 (by norm_num) (by norm_num)) (ldKeys arg3 harg3 x1 0 768 (by norm_num) (by norm_num)))
/-- Score block 4 of unit 14. -/
def sb14_4 : FVec F S256x256 .f32 := (scoreOff (ldRows arg2 harg2 x0 1792 0 (by norm_num) (by norm_num)) (ldKeys arg3 harg3 x1 0 1024 (by norm_num) (by norm_num)))
/-- Score block 5 of unit 14. -/
def sb14_5 : FVec F S256x256 .f32 := (scoreOff (ldRows arg2 harg2 x0 1792 0 (by norm_num) (by norm_num)) (ldKeys arg3 harg3 x1 0 1280 (by norm_num) (by norm_num)))
/-- Score block 6 of unit 14. -/
def sb14_6 : FVec F S256x256 .f32 := (scoreOff (ldRows arg2 harg2 x0 1792 0 (by norm_num) (by norm_num)) (ldKeys arg3 harg3 x1 0 1536 (by norm_num) (by norm_num)))
/-- Score block 7 of unit 14. -/
def sb14_7 : FVec F S256x256 .f32 := (scoreDiag (ldRows arg2 harg2 x0 1792 0 (by norm_num) (by norm_num)) (ldKeys arg3 harg3 x1 0 1792 (by norm_num) (by norm_num)))
/-- Score block 0 of unit 15. -/
def sb15_0 : FVec F S256x256 .f32 := (scoreOff (ldRows arg2 harg2 x0 1792 128 (by norm_num) (by norm_num)) (ldKeys arg3 harg3 x1 128 0 (by norm_num) (by norm_num)))
/-- Score block 1 of unit 15. -/
def sb15_1 : FVec F S256x256 .f32 := (scoreOff (ldRows arg2 harg2 x0 1792 128 (by norm_num) (by norm_num)) (ldKeys arg3 harg3 x1 128 256 (by norm_num) (by norm_num)))
/-- Score block 2 of unit 15. -/
def sb15_2 : FVec F S256x256 .f32 := (scoreOff (ldRows arg2 harg2 x0 1792 128 (by norm_num) (by norm_num)) (ldKeys arg3 harg3 x1 128 512 (by norm_num) (by norm_num)))
/-- Score block 3 of unit 15. -/
def sb15_3 : FVec F S256x256 .f32 := (scoreOff (ldRows arg2 harg2 x0 1792 128 (by norm_num) (by norm_num)) (ldKeys arg3 harg3 x1 128 768 (by norm_num) (by norm_num)))
/-- Score block 4 of unit 15. -/
def sb15_4 : FVec F S256x256 .f32 := (scoreOff (ldRows arg2 harg2 x0 1792 128 (by norm_num) (by norm_num)) (ldKeys arg3 harg3 x1 128 1024 (by norm_num) (by norm_num)))
/-- Score block 5 of unit 15. -/
def sb15_5 : FVec F S256x256 .f32 := (scoreOff (ldRows arg2 harg2 x0 1792 128 (by norm_num) (by norm_num)) (ldKeys arg3 harg3 x1 128 1280 (by norm_num) (by norm_num)))
/-- Score block 6 of unit 15. -/
def sb15_6 : FVec F S256x256 .f32 := (scoreOff (ldRows arg2 harg2 x0 1792 128 (by norm_num) (by norm_num)) (ldKeys arg3 harg3 x1 128 1536 (by norm_num) (by norm_num)))
/-- Score block 7 of unit 15. -/
def sb15_7 : FVec F S256x256 .f32 := (scoreDiag (ldRows arg2 harg2 x0 1792 128 (by norm_num) (by norm_num)) (ldKeys arg3 harg3 x1 128 1792 (by norm_num) (by norm_num)))

/-- The stage after unit 0's scores. -/
def st0 : List (View.Piece (Elt F) S4x256x2048 .f32) :=
  stPiece 0 0 (by norm_num) (by norm_num) (sb0_0 arg2 harg2 arg3 harg3 x0 x1) ::
    []

/-- The stage after unit 1's scores. -/
def st1 : List (View.Piece (Elt F) S4x256x2048 .f32) :=
  stPiece 1 0 (by norm_num) (by norm_num) (sb1_0 arg2 harg2 arg3 harg3 x0 x1) ::
    st0 arg2 harg2 arg3 harg3 x0 x1

/-- The stage after unit 2's scores. -/
def st2 : List (View.Piece (Elt F) S4x256x2048 .f32) :=
  stPiece 2 256 (by norm_num) (by norm_num) (sb2_1 arg2 harg2 arg3 harg3 x0 x1) ::
    stPiece 2 0 (by norm_num) (by norm_num) (sb2_0 arg2 harg2 arg3 harg3 x0 x1) ::
    st1 arg2 harg2 arg3 harg3 x0 x1

/-- The stage after unit 3's scores. -/
def st3 : List (View.Piece (Elt F) S4x256x2048 .f32) :=
  stPiece 3 256 (by norm_num) (by norm_num) (sb3_1 arg2 harg2 arg3 harg3 x0 x1) ::
    stPiece 3 0 (by norm_num) (by norm_num) (sb3_0 arg2 harg2 arg3 harg3 x0 x1) ::
    st2 arg2 harg2 arg3 harg3 x0 x1

/-- The stage after unit 4's scores. -/
def st4 : List (View.Piece (Elt F) S4x256x2048 .f32) :=
  stPiece 0 512 (by norm_num) (by norm_num) (sb4_2 arg2 harg2 arg3 harg3 x0 x1) ::
    stPiece 0 256 (by norm_num) (by norm_num) (sb4_1 arg2 harg2 arg3 harg3 x0 x1) ::
    stPiece 0 0 (by norm_num) (by norm_num) (sb4_0 arg2 harg2 arg3 harg3 x0 x1) ::
    st3 arg2 harg2 arg3 harg3 x0 x1

/-- The stage after unit 5's scores. -/
def st5 : List (View.Piece (Elt F) S4x256x2048 .f32) :=
  stPiece 1 512 (by norm_num) (by norm_num) (sb5_2 arg2 harg2 arg3 harg3 x0 x1) ::
    stPiece 1 256 (by norm_num) (by norm_num) (sb5_1 arg2 harg2 arg3 harg3 x0 x1) ::
    stPiece 1 0 (by norm_num) (by norm_num) (sb5_0 arg2 harg2 arg3 harg3 x0 x1) ::
    st4 arg2 harg2 arg3 harg3 x0 x1

/-- The stage after unit 6's scores. -/
def st6 : List (View.Piece (Elt F) S4x256x2048 .f32) :=
  stPiece 2 768 (by norm_num) (by norm_num) (sb6_3 arg2 harg2 arg3 harg3 x0 x1) ::
    stPiece 2 512 (by norm_num) (by norm_num) (sb6_2 arg2 harg2 arg3 harg3 x0 x1) ::
    stPiece 2 256 (by norm_num) (by norm_num) (sb6_1 arg2 harg2 arg3 harg3 x0 x1) ::
    stPiece 2 0 (by norm_num) (by norm_num) (sb6_0 arg2 harg2 arg3 harg3 x0 x1) ::
    st5 arg2 harg2 arg3 harg3 x0 x1

/-- The stage after unit 7's scores. -/
def st7 : List (View.Piece (Elt F) S4x256x2048 .f32) :=
  stPiece 3 768 (by norm_num) (by norm_num) (sb7_3 arg2 harg2 arg3 harg3 x0 x1) ::
    stPiece 3 512 (by norm_num) (by norm_num) (sb7_2 arg2 harg2 arg3 harg3 x0 x1) ::
    stPiece 3 256 (by norm_num) (by norm_num) (sb7_1 arg2 harg2 arg3 harg3 x0 x1) ::
    stPiece 3 0 (by norm_num) (by norm_num) (sb7_0 arg2 harg2 arg3 harg3 x0 x1) ::
    st6 arg2 harg2 arg3 harg3 x0 x1

/-- The stage after unit 8's scores. -/
def st8 : List (View.Piece (Elt F) S4x256x2048 .f32) :=
  stPiece 0 1024 (by norm_num) (by norm_num) (sb8_4 arg2 harg2 arg3 harg3 x0 x1) ::
    stPiece 0 768 (by norm_num) (by norm_num) (sb8_3 arg2 harg2 arg3 harg3 x0 x1) ::
    stPiece 0 512 (by norm_num) (by norm_num) (sb8_2 arg2 harg2 arg3 harg3 x0 x1) ::
    stPiece 0 256 (by norm_num) (by norm_num) (sb8_1 arg2 harg2 arg3 harg3 x0 x1) ::
    stPiece 0 0 (by norm_num) (by norm_num) (sb8_0 arg2 harg2 arg3 harg3 x0 x1) ::
    st7 arg2 harg2 arg3 harg3 x0 x1

/-- The stage after unit 9's scores. -/
def st9 : List (View.Piece (Elt F) S4x256x2048 .f32) :=
  stPiece 1 1024 (by norm_num) (by norm_num) (sb9_4 arg2 harg2 arg3 harg3 x0 x1) ::
    stPiece 1 768 (by norm_num) (by norm_num) (sb9_3 arg2 harg2 arg3 harg3 x0 x1) ::
    stPiece 1 512 (by norm_num) (by norm_num) (sb9_2 arg2 harg2 arg3 harg3 x0 x1) ::
    stPiece 1 256 (by norm_num) (by norm_num) (sb9_1 arg2 harg2 arg3 harg3 x0 x1) ::
    stPiece 1 0 (by norm_num) (by norm_num) (sb9_0 arg2 harg2 arg3 harg3 x0 x1) ::
    st8 arg2 harg2 arg3 harg3 x0 x1

/-- The stage after unit 10's scores. -/
def st10 : List (View.Piece (Elt F) S4x256x2048 .f32) :=
  stPiece 2 1280 (by norm_num) (by norm_num) (sb10_5 arg2 harg2 arg3 harg3 x0 x1) ::
    stPiece 2 1024 (by norm_num) (by norm_num) (sb10_4 arg2 harg2 arg3 harg3 x0 x1) ::
    stPiece 2 768 (by norm_num) (by norm_num) (sb10_3 arg2 harg2 arg3 harg3 x0 x1) ::
    stPiece 2 512 (by norm_num) (by norm_num) (sb10_2 arg2 harg2 arg3 harg3 x0 x1) ::
    stPiece 2 256 (by norm_num) (by norm_num) (sb10_1 arg2 harg2 arg3 harg3 x0 x1) ::
    stPiece 2 0 (by norm_num) (by norm_num) (sb10_0 arg2 harg2 arg3 harg3 x0 x1) ::
    st9 arg2 harg2 arg3 harg3 x0 x1

/-- The stage after unit 11's scores. -/
def st11 : List (View.Piece (Elt F) S4x256x2048 .f32) :=
  stPiece 3 1280 (by norm_num) (by norm_num) (sb11_5 arg2 harg2 arg3 harg3 x0 x1) ::
    stPiece 3 1024 (by norm_num) (by norm_num) (sb11_4 arg2 harg2 arg3 harg3 x0 x1) ::
    stPiece 3 768 (by norm_num) (by norm_num) (sb11_3 arg2 harg2 arg3 harg3 x0 x1) ::
    stPiece 3 512 (by norm_num) (by norm_num) (sb11_2 arg2 harg2 arg3 harg3 x0 x1) ::
    stPiece 3 256 (by norm_num) (by norm_num) (sb11_1 arg2 harg2 arg3 harg3 x0 x1) ::
    stPiece 3 0 (by norm_num) (by norm_num) (sb11_0 arg2 harg2 arg3 harg3 x0 x1) ::
    st10 arg2 harg2 arg3 harg3 x0 x1

/-- The stage after unit 12's scores. -/
def st12 : List (View.Piece (Elt F) S4x256x2048 .f32) :=
  stPiece 0 1536 (by norm_num) (by norm_num) (sb12_6 arg2 harg2 arg3 harg3 x0 x1) ::
    stPiece 0 1280 (by norm_num) (by norm_num) (sb12_5 arg2 harg2 arg3 harg3 x0 x1) ::
    stPiece 0 1024 (by norm_num) (by norm_num) (sb12_4 arg2 harg2 arg3 harg3 x0 x1) ::
    stPiece 0 768 (by norm_num) (by norm_num) (sb12_3 arg2 harg2 arg3 harg3 x0 x1) ::
    stPiece 0 512 (by norm_num) (by norm_num) (sb12_2 arg2 harg2 arg3 harg3 x0 x1) ::
    stPiece 0 256 (by norm_num) (by norm_num) (sb12_1 arg2 harg2 arg3 harg3 x0 x1) ::
    stPiece 0 0 (by norm_num) (by norm_num) (sb12_0 arg2 harg2 arg3 harg3 x0 x1) ::
    st11 arg2 harg2 arg3 harg3 x0 x1

/-- The stage after unit 13's scores. -/
def st13 : List (View.Piece (Elt F) S4x256x2048 .f32) :=
  stPiece 1 1536 (by norm_num) (by norm_num) (sb13_6 arg2 harg2 arg3 harg3 x0 x1) ::
    stPiece 1 1280 (by norm_num) (by norm_num) (sb13_5 arg2 harg2 arg3 harg3 x0 x1) ::
    stPiece 1 1024 (by norm_num) (by norm_num) (sb13_4 arg2 harg2 arg3 harg3 x0 x1) ::
    stPiece 1 768 (by norm_num) (by norm_num) (sb13_3 arg2 harg2 arg3 harg3 x0 x1) ::
    stPiece 1 512 (by norm_num) (by norm_num) (sb13_2 arg2 harg2 arg3 harg3 x0 x1) ::
    stPiece 1 256 (by norm_num) (by norm_num) (sb13_1 arg2 harg2 arg3 harg3 x0 x1) ::
    stPiece 1 0 (by norm_num) (by norm_num) (sb13_0 arg2 harg2 arg3 harg3 x0 x1) ::
    st12 arg2 harg2 arg3 harg3 x0 x1

/-- The stage after unit 14's scores. -/
def st14 : List (View.Piece (Elt F) S4x256x2048 .f32) :=
  stPiece 2 1792 (by norm_num) (by norm_num) (sb14_7 arg2 harg2 arg3 harg3 x0 x1) ::
    stPiece 2 1536 (by norm_num) (by norm_num) (sb14_6 arg2 harg2 arg3 harg3 x0 x1) ::
    stPiece 2 1280 (by norm_num) (by norm_num) (sb14_5 arg2 harg2 arg3 harg3 x0 x1) ::
    stPiece 2 1024 (by norm_num) (by norm_num) (sb14_4 arg2 harg2 arg3 harg3 x0 x1) ::
    stPiece 2 768 (by norm_num) (by norm_num) (sb14_3 arg2 harg2 arg3 harg3 x0 x1) ::
    stPiece 2 512 (by norm_num) (by norm_num) (sb14_2 arg2 harg2 arg3 harg3 x0 x1) ::
    stPiece 2 256 (by norm_num) (by norm_num) (sb14_1 arg2 harg2 arg3 harg3 x0 x1) ::
    stPiece 2 0 (by norm_num) (by norm_num) (sb14_0 arg2 harg2 arg3 harg3 x0 x1) ::
    st13 arg2 harg2 arg3 harg3 x0 x1

/-- The stage after unit 15's scores. -/
def st15 : List (View.Piece (Elt F) S4x256x2048 .f32) :=
  stPiece 3 1792 (by norm_num) (by norm_num) (sb15_7 arg2 harg2 arg3 harg3 x0 x1) ::
    stPiece 3 1536 (by norm_num) (by norm_num) (sb15_6 arg2 harg2 arg3 harg3 x0 x1) ::
    stPiece 3 1280 (by norm_num) (by norm_num) (sb15_5 arg2 harg2 arg3 harg3 x0 x1) ::
    stPiece 3 1024 (by norm_num) (by norm_num) (sb15_4 arg2 harg2 arg3 harg3 x0 x1) ::
    stPiece 3 768 (by norm_num) (by norm_num) (sb15_3 arg2 harg2 arg3 harg3 x0 x1) ::
    stPiece 3 512 (by norm_num) (by norm_num) (sb15_2 arg2 harg2 arg3 harg3 x0 x1) ::
    stPiece 3 256 (by norm_num) (by norm_num) (sb15_1 arg2 harg2 arg3 harg3 x0 x1) ::
    stPiece 3 0 (by norm_num) (by norm_num) (sb15_0 arg2 harg2 arg3 harg3 x0 x1) ::
    st14 arg2 harg2 arg3 harg3 x0 x1

/-- The row maxima of unit 0. -/
def mx0 : FVec F S256x128 .f32 := mxRow (mxInit (sb0_0 arg2 harg2 arg3 harg3 x0 x1))

/-- The row maxima of unit 1. -/
def mx1 : FVec F S256x128 .f32 := mxRow (mxInit (sb1_0 arg2 harg2 arg3 harg3 x0 x1))

/-- The row maxima of unit 2. -/
def mx2 : FVec F S256x128 .f32 := mxRow (mxStep (mxInit (sb2_0 arg2 harg2 arg3 harg3 x0 x1)) (sb2_1 arg2 harg2 arg3 harg3 x0 x1))

/-- The row maxima of unit 3. -/
def mx3 : FVec F S256x128 .f32 := mxRow (mxStep (mxInit (sb3_0 arg2 harg2 arg3 harg3 x0 x1)) (sb3_1 arg2 harg2 arg3 harg3 x0 x1))

/-- The row maxima of unit 4. -/
def mx4 : FVec F S256x128 .f32 := mxRow (mxStep (mxStep (mxInit (sb4_0 arg2 harg2 arg3 harg3 x0 x1)) (sb4_1 arg2 harg2 arg3 harg3 x0 x1)) (sb4_2 arg2 harg2 arg3 harg3 x0 x1))

/-- The row maxima of unit 5. -/
def mx5 : FVec F S256x128 .f32 := mxRow (mxStep (mxStep (mxInit (sb5_0 arg2 harg2 arg3 harg3 x0 x1)) (sb5_1 arg2 harg2 arg3 harg3 x0 x1)) (sb5_2 arg2 harg2 arg3 harg3 x0 x1))

/-- The row maxima of unit 6. -/
def mx6 : FVec F S256x128 .f32 := mxRow (mxStep (mxStep (mxStep (mxInit (sb6_0 arg2 harg2 arg3 harg3 x0 x1)) (sb6_1 arg2 harg2 arg3 harg3 x0 x1)) (sb6_2 arg2 harg2 arg3 harg3 x0 x1)) (sb6_3 arg2 harg2 arg3 harg3 x0 x1))

/-- The row maxima of unit 7. -/
def mx7 : FVec F S256x128 .f32 := mxRow (mxStep (mxStep (mxStep (mxInit (sb7_0 arg2 harg2 arg3 harg3 x0 x1)) (sb7_1 arg2 harg2 arg3 harg3 x0 x1)) (sb7_2 arg2 harg2 arg3 harg3 x0 x1)) (sb7_3 arg2 harg2 arg3 harg3 x0 x1))

/-- The row maxima of unit 8. -/
def mx8 : FVec F S256x128 .f32 := mxRow (mxStep (mxStep (mxStep (mxStep (mxInit (sb8_0 arg2 harg2 arg3 harg3 x0 x1)) (sb8_1 arg2 harg2 arg3 harg3 x0 x1)) (sb8_2 arg2 harg2 arg3 harg3 x0 x1)) (sb8_3 arg2 harg2 arg3 harg3 x0 x1)) (sb8_4 arg2 harg2 arg3 harg3 x0 x1))

/-- The row maxima of unit 9. -/
def mx9 : FVec F S256x128 .f32 := mxRow (mxStep (mxStep (mxStep (mxStep (mxInit (sb9_0 arg2 harg2 arg3 harg3 x0 x1)) (sb9_1 arg2 harg2 arg3 harg3 x0 x1)) (sb9_2 arg2 harg2 arg3 harg3 x0 x1)) (sb9_3 arg2 harg2 arg3 harg3 x0 x1)) (sb9_4 arg2 harg2 arg3 harg3 x0 x1))

/-- The row maxima of unit 10. -/
def mx10 : FVec F S256x128 .f32 := mxRow (mxStep (mxStep (mxStep (mxStep (mxStep (mxInit (sb10_0 arg2 harg2 arg3 harg3 x0 x1)) (sb10_1 arg2 harg2 arg3 harg3 x0 x1)) (sb10_2 arg2 harg2 arg3 harg3 x0 x1)) (sb10_3 arg2 harg2 arg3 harg3 x0 x1)) (sb10_4 arg2 harg2 arg3 harg3 x0 x1)) (sb10_5 arg2 harg2 arg3 harg3 x0 x1))

/-- The row maxima of unit 11. -/
def mx11 : FVec F S256x128 .f32 := mxRow (mxStep (mxStep (mxStep (mxStep (mxStep (mxInit (sb11_0 arg2 harg2 arg3 harg3 x0 x1)) (sb11_1 arg2 harg2 arg3 harg3 x0 x1)) (sb11_2 arg2 harg2 arg3 harg3 x0 x1)) (sb11_3 arg2 harg2 arg3 harg3 x0 x1)) (sb11_4 arg2 harg2 arg3 harg3 x0 x1)) (sb11_5 arg2 harg2 arg3 harg3 x0 x1))

/-- The row maxima of unit 12. -/
def mx12 : FVec F S256x128 .f32 := mxRow (mxStep (mxStep (mxStep (mxStep (mxStep (mxStep (mxInit (sb12_0 arg2 harg2 arg3 harg3 x0 x1)) (sb12_1 arg2 harg2 arg3 harg3 x0 x1)) (sb12_2 arg2 harg2 arg3 harg3 x0 x1)) (sb12_3 arg2 harg2 arg3 harg3 x0 x1)) (sb12_4 arg2 harg2 arg3 harg3 x0 x1)) (sb12_5 arg2 harg2 arg3 harg3 x0 x1)) (sb12_6 arg2 harg2 arg3 harg3 x0 x1))

/-- The row maxima of unit 13. -/
def mx13 : FVec F S256x128 .f32 := mxRow (mxStep (mxStep (mxStep (mxStep (mxStep (mxStep (mxInit (sb13_0 arg2 harg2 arg3 harg3 x0 x1)) (sb13_1 arg2 harg2 arg3 harg3 x0 x1)) (sb13_2 arg2 harg2 arg3 harg3 x0 x1)) (sb13_3 arg2 harg2 arg3 harg3 x0 x1)) (sb13_4 arg2 harg2 arg3 harg3 x0 x1)) (sb13_5 arg2 harg2 arg3 harg3 x0 x1)) (sb13_6 arg2 harg2 arg3 harg3 x0 x1))

/-- The row maxima of unit 14. -/
def mx14 : FVec F S256x128 .f32 := mxRow (mxStep (mxStep (mxStep (mxStep (mxStep (mxStep (mxStep (mxInit (sb14_0 arg2 harg2 arg3 harg3 x0 x1)) (sb14_1 arg2 harg2 arg3 harg3 x0 x1)) (sb14_2 arg2 harg2 arg3 harg3 x0 x1)) (sb14_3 arg2 harg2 arg3 harg3 x0 x1)) (sb14_4 arg2 harg2 arg3 harg3 x0 x1)) (sb14_5 arg2 harg2 arg3 harg3 x0 x1)) (sb14_6 arg2 harg2 arg3 harg3 x0 x1)) (sb14_7 arg2 harg2 arg3 harg3 x0 x1))

/-- The row maxima of unit 15. -/
def mx15 : FVec F S256x128 .f32 := mxRow (mxStep (mxStep (mxStep (mxStep (mxStep (mxStep (mxStep (mxInit (sb15_0 arg2 harg2 arg3 harg3 x0 x1)) (sb15_1 arg2 harg2 arg3 harg3 x0 x1)) (sb15_2 arg2 harg2 arg3 harg3 x0 x1)) (sb15_3 arg2 harg2 arg3 harg3 x0 x1)) (sb15_4 arg2 harg2 arg3 harg3 x0 x1)) (sb15_5 arg2 harg2 arg3 harg3 x0 x1)) (sb15_6 arg2 harg2 arg3 harg3 x0 x1)) (sb15_7 arg2 harg2 arg3 harg3 x0 x1))

section Runs

theorem stage3 : kernelRun0_A.sl.HS0_6 c arg2 harg2 arg3 harg3 x0 x1 = st3 arg2 harg2 arg3 harg3 x0 x1 := rfl

theorem stage4 : kernelRun0_A.sl.HS0_9 c arg2 harg2 arg3 harg3 x0 x1 = st4 arg2 harg2 arg3 harg3 x0 x1 := by
  exact congrArg (fun L : List (View.Piece (Elt F) S4x256x2048 .f32) =>
    stPiece 0 512 (by norm_num) (by norm_num) (sb4_2 arg2 harg2 arg3 harg3 x0 x1) ::
      stPiece 0 256 (by norm_num) (by norm_num) (sb4_1 arg2 harg2 arg3 harg3 x0 x1) ::
      stPiece 0 0 (by norm_num) (by norm_num) (sb4_0 arg2 harg2 arg3 harg3 x0 x1) ::
      L) (stage3 c arg2 harg2 arg3 harg3 x0 x1)

theorem stage5 : kernelRun0_A.sl.HS0_12 c arg2 harg2 arg3 harg3 x0 x1 = st5 arg2 harg2 arg3 harg3 x0 x1 := by
  exact congrArg (fun L : List (View.Piece (Elt F) S4x256x2048 .f32) =>
    stPiece 1 512 (by norm_num) (by norm_num) (sb5_2 arg2 harg2 arg3 harg3 x0 x1) ::
      stPiece 1 256 (by norm_num) (by norm_num) (sb5_1 arg2 harg2 arg3 harg3 x0 x1) ::
      stPiece 1 0 (by norm_num) (by norm_num) (sb5_0 arg2 harg2 arg3 harg3 x0 x1) ::
      L) (stage4 c arg2 harg2 arg3 harg3 x0 x1)

theorem stage6 : kernelRun0_A.sl.HS0_16 c arg2 harg2 arg3 harg3 x0 x1 = st6 arg2 harg2 arg3 harg3 x0 x1 := by
  exact congrArg (fun L : List (View.Piece (Elt F) S4x256x2048 .f32) =>
    stPiece 2 768 (by norm_num) (by norm_num) (sb6_3 arg2 harg2 arg3 harg3 x0 x1) ::
      stPiece 2 512 (by norm_num) (by norm_num) (sb6_2 arg2 harg2 arg3 harg3 x0 x1) ::
      stPiece 2 256 (by norm_num) (by norm_num) (sb6_1 arg2 harg2 arg3 harg3 x0 x1) ::
      stPiece 2 0 (by norm_num) (by norm_num) (sb6_0 arg2 harg2 arg3 harg3 x0 x1) ::
      L) (stage5 c arg2 harg2 arg3 harg3 x0 x1)

theorem stage7 : kernelRun0_A.sl.HS0_20 c arg2 harg2 arg3 harg3 x0 x1 = st7 arg2 harg2 arg3 harg3 x0 x1 := by
  exact congrArg (fun L : List (View.Piece (Elt F) S4x256x2048 .f32) =>
    stPiece 3 768 (by norm_num) (by norm_num) (sb7_3 arg2 harg2 arg3 harg3 x0 x1) ::
      stPiece 3 512 (by norm_num) (by norm_num) (sb7_2 arg2 harg2 arg3 harg3 x0 x1) ::
      stPiece 3 256 (by norm_num) (by norm_num) (sb7_1 arg2 harg2 arg3 harg3 x0 x1) ::
      stPiece 3 0 (by norm_num) (by norm_num) (sb7_0 arg2 harg2 arg3 harg3 x0 x1) ::
      L) (stage6 c arg2 harg2 arg3 harg3 x0 x1)

theorem stage8 : kernelRun0_A.sl.HS0_25 c arg2 harg2 arg3 harg3 x0 x1 = st8 arg2 harg2 arg3 harg3 x0 x1 := by
  exact congrArg (fun L : List (View.Piece (Elt F) S4x256x2048 .f32) =>
    stPiece 0 1024 (by norm_num) (by norm_num) (sb8_4 arg2 harg2 arg3 harg3 x0 x1) ::
      stPiece 0 768 (by norm_num) (by norm_num) (sb8_3 arg2 harg2 arg3 harg3 x0 x1) ::
      stPiece 0 512 (by norm_num) (by norm_num) (sb8_2 arg2 harg2 arg3 harg3 x0 x1) ::
      stPiece 0 256 (by norm_num) (by norm_num) (sb8_1 arg2 harg2 arg3 harg3 x0 x1) ::
      stPiece 0 0 (by norm_num) (by norm_num) (sb8_0 arg2 harg2 arg3 harg3 x0 x1) ::
      L) (stage7 c arg2 harg2 arg3 harg3 x0 x1)

theorem stage9 : kernelRun0_A.sl.HS0_30 c arg2 harg2 arg3 harg3 x0 x1 = st9 arg2 harg2 arg3 harg3 x0 x1 := by
  exact congrArg (fun L : List (View.Piece (Elt F) S4x256x2048 .f32) =>
    stPiece 1 1024 (by norm_num) (by norm_num) (sb9_4 arg2 harg2 arg3 harg3 x0 x1) ::
      stPiece 1 768 (by norm_num) (by norm_num) (sb9_3 arg2 harg2 arg3 harg3 x0 x1) ::
      stPiece 1 512 (by norm_num) (by norm_num) (sb9_2 arg2 harg2 arg3 harg3 x0 x1) ::
      stPiece 1 256 (by norm_num) (by norm_num) (sb9_1 arg2 harg2 arg3 harg3 x0 x1) ::
      stPiece 1 0 (by norm_num) (by norm_num) (sb9_0 arg2 harg2 arg3 harg3 x0 x1) ::
      L) (stage8 c arg2 harg2 arg3 harg3 x0 x1)

theorem stage10 : kernelRun0_A.sl.HS0_36 c arg2 harg2 arg3 harg3 x0 x1 = st10 arg2 harg2 arg3 harg3 x0 x1 := by
  exact congrArg (fun L : List (View.Piece (Elt F) S4x256x2048 .f32) =>
    stPiece 2 1280 (by norm_num) (by norm_num) (sb10_5 arg2 harg2 arg3 harg3 x0 x1) ::
      stPiece 2 1024 (by norm_num) (by norm_num) (sb10_4 arg2 harg2 arg3 harg3 x0 x1) ::
      stPiece 2 768 (by norm_num) (by norm_num) (sb10_3 arg2 harg2 arg3 harg3 x0 x1) ::
      stPiece 2 512 (by norm_num) (by norm_num) (sb10_2 arg2 harg2 arg3 harg3 x0 x1) ::
      stPiece 2 256 (by norm_num) (by norm_num) (sb10_1 arg2 harg2 arg3 harg3 x0 x1) ::
      stPiece 2 0 (by norm_num) (by norm_num) (sb10_0 arg2 harg2 arg3 harg3 x0 x1) ::
      L) (stage9 c arg2 harg2 arg3 harg3 x0 x1)

theorem stage11 : kernelRun0_A.sl.HS0_42 c arg2 harg2 arg3 harg3 x0 x1 = st11 arg2 harg2 arg3 harg3 x0 x1 := by
  exact congrArg (fun L : List (View.Piece (Elt F) S4x256x2048 .f32) =>
    stPiece 3 1280 (by norm_num) (by norm_num) (sb11_5 arg2 harg2 arg3 harg3 x0 x1) ::
      stPiece 3 1024 (by norm_num) (by norm_num) (sb11_4 arg2 harg2 arg3 harg3 x0 x1) ::
      stPiece 3 768 (by norm_num) (by norm_num) (sb11_3 arg2 harg2 arg3 harg3 x0 x1) ::
      stPiece 3 512 (by norm_num) (by norm_num) (sb11_2 arg2 harg2 arg3 harg3 x0 x1) ::
      stPiece 3 256 (by norm_num) (by norm_num) (sb11_1 arg2 harg2 arg3 harg3 x0 x1) ::
      stPiece 3 0 (by norm_num) (by norm_num) (sb11_0 arg2 harg2 arg3 harg3 x0 x1) ::
      L) (stage10 c arg2 harg2 arg3 harg3 x0 x1)

theorem stage12 : kernelRun0_A.sl.HS0_49 c arg2 harg2 arg3 harg3 x0 x1 = st12 arg2 harg2 arg3 harg3 x0 x1 := by
  exact congrArg (fun L : List (View.Piece (Elt F) S4x256x2048 .f32) =>
    stPiece 0 1536 (by norm_num) (by norm_num) (sb12_6 arg2 harg2 arg3 harg3 x0 x1) ::
      stPiece 0 1280 (by norm_num) (by norm_num) (sb12_5 arg2 harg2 arg3 harg3 x0 x1) ::
      stPiece 0 1024 (by norm_num) (by norm_num) (sb12_4 arg2 harg2 arg3 harg3 x0 x1) ::
      stPiece 0 768 (by norm_num) (by norm_num) (sb12_3 arg2 harg2 arg3 harg3 x0 x1) ::
      stPiece 0 512 (by norm_num) (by norm_num) (sb12_2 arg2 harg2 arg3 harg3 x0 x1) ::
      stPiece 0 256 (by norm_num) (by norm_num) (sb12_1 arg2 harg2 arg3 harg3 x0 x1) ::
      stPiece 0 0 (by norm_num) (by norm_num) (sb12_0 arg2 harg2 arg3 harg3 x0 x1) ::
      L) (stage11 c arg2 harg2 arg3 harg3 x0 x1)

theorem stage13 : kernelRun0_A.sl.HS0_56 c arg2 harg2 arg3 harg3 x0 x1 = st13 arg2 harg2 arg3 harg3 x0 x1 := by
  exact congrArg (fun L : List (View.Piece (Elt F) S4x256x2048 .f32) =>
    stPiece 1 1536 (by norm_num) (by norm_num) (sb13_6 arg2 harg2 arg3 harg3 x0 x1) ::
      stPiece 1 1280 (by norm_num) (by norm_num) (sb13_5 arg2 harg2 arg3 harg3 x0 x1) ::
      stPiece 1 1024 (by norm_num) (by norm_num) (sb13_4 arg2 harg2 arg3 harg3 x0 x1) ::
      stPiece 1 768 (by norm_num) (by norm_num) (sb13_3 arg2 harg2 arg3 harg3 x0 x1) ::
      stPiece 1 512 (by norm_num) (by norm_num) (sb13_2 arg2 harg2 arg3 harg3 x0 x1) ::
      stPiece 1 256 (by norm_num) (by norm_num) (sb13_1 arg2 harg2 arg3 harg3 x0 x1) ::
      stPiece 1 0 (by norm_num) (by norm_num) (sb13_0 arg2 harg2 arg3 harg3 x0 x1) ::
      L) (stage12 c arg2 harg2 arg3 harg3 x0 x1)

theorem stage14 : kernelRun0_A.sl.HS0_64 c arg2 harg2 arg3 harg3 x0 x1 = st14 arg2 harg2 arg3 harg3 x0 x1 := by
  exact congrArg (fun L : List (View.Piece (Elt F) S4x256x2048 .f32) =>
    stPiece 2 1792 (by norm_num) (by norm_num) (sb14_7 arg2 harg2 arg3 harg3 x0 x1) ::
      stPiece 2 1536 (by norm_num) (by norm_num) (sb14_6 arg2 harg2 arg3 harg3 x0 x1) ::
      stPiece 2 1280 (by norm_num) (by norm_num) (sb14_5 arg2 harg2 arg3 harg3 x0 x1) ::
      stPiece 2 1024 (by norm_num) (by norm_num) (sb14_4 arg2 harg2 arg3 harg3 x0 x1) ::
      stPiece 2 768 (by norm_num) (by norm_num) (sb14_3 arg2 harg2 arg3 harg3 x0 x1) ::
      stPiece 2 512 (by norm_num) (by norm_num) (sb14_2 arg2 harg2 arg3 harg3 x0 x1) ::
      stPiece 2 256 (by norm_num) (by norm_num) (sb14_1 arg2 harg2 arg3 harg3 x0 x1) ::
      stPiece 2 0 (by norm_num) (by norm_num) (sb14_0 arg2 harg2 arg3 harg3 x0 x1) ::
      L) (stage13 c arg2 harg2 arg3 harg3 x0 x1)

theorem stage15 : kernelRun0_A.sl.HS0_72 c arg2 harg2 arg3 harg3 x0 x1 = st15 arg2 harg2 arg3 harg3 x0 x1 := by
  exact congrArg (fun L : List (View.Piece (Elt F) S4x256x2048 .f32) =>
    stPiece 3 1792 (by norm_num) (by norm_num) (sb15_7 arg2 harg2 arg3 harg3 x0 x1) ::
      stPiece 3 1536 (by norm_num) (by norm_num) (sb15_6 arg2 harg2 arg3 harg3 x0 x1) ::
      stPiece 3 1280 (by norm_num) (by norm_num) (sb15_5 arg2 harg2 arg3 harg3 x0 x1) ::
      stPiece 3 1024 (by norm_num) (by norm_num) (sb15_4 arg2 harg2 arg3 harg3 x0 x1) ::
      stPiece 3 768 (by norm_num) (by norm_num) (sb15_3 arg2 harg2 arg3 harg3 x0 x1) ::
      stPiece 3 512 (by norm_num) (by norm_num) (sb15_2 arg2 harg2 arg3 harg3 x0 x1) ::
      stPiece 3 256 (by norm_num) (by norm_num) (sb15_1 arg2 harg2 arg3 harg3 x0 x1) ::
      stPiece 3 0 (by norm_num) (by norm_num) (sb15_0 arg2 harg2 arg3 harg3 x0 x1) ::
      L) (stage14 c arg2 harg2 arg3 harg3 x0 x1)

end Runs

end Cert.MlaIdeal.Att

end
-- ==== Proof.MlaOut.lean ====
/- The body's weighted sums and the list of row blocks that it stores. -/
module

public import proofs.«01_k».proof.Proof.MlaStage

@[expose] public section

set_option maxRecDepth 16384

noncomputable section

namespace Cert.MlaIdeal.Att

open Cert.MlaIdeal Cert.MlaIdeal.Gen Idealize.ShloMosaic Idealize.ShloMosaic.TcCoe

variable {F : FTy → Type} [FloatOps F] [Named F]
variable (c : Dev nD) (i : grid0.Coords) (arg2 : Memref sig .tc .vmem S1x2048x256 .bf16) (harg2 : arg2.IsWhole) (arg3 : Memref sig .tc .vmem S1x256x2048 .bf16) (harg3 : arg3.IsWhole)
  (arg4 : Memref sig .tc .vmem S1x2048x256 .bf16) (harg4 : arg4.IsWhole)
  (arg6 : Memref sig .tc .vmem S4x256x2048 .f32)
  (x0 : Vec F S1x2048x256 .bf16) (x1 : Vec F S1x256x2048 .bf16) (x2 : Vec F S1x2048x256 .bf16)

/-- Unit 0's weighted sum, the stage read through the pieces `L`. -/
def ac0 (L : List (View.Piece (Elt F) S4x256x2048 .f32)) : FVec F S256x128 .f32 :=
  accStep (accInit) (mx0 arg2 harg2 arg3 harg3 x0 x1)
    (stRead arg6 L 0 0 (by norm_num) (by norm_num)) (stRead arg6 L 0 128 (by norm_num) (by norm_num)) (ldRows arg4 harg4 x2 0 0 (by norm_num) (by norm_num))
    (maskF (sumLane 64#32))

/-- Unit 1's weighted sum, the stage read through the pieces `L`. -/
def ac1 (L : List (View.Piece (Elt F) S4x256x2048 .f32)) : FVec F S256x128 .f32 :=
  accStep (accInit) (mx1 arg2 harg2 arg3 harg3 x0 x1)
    (stRead arg6 L 1 0 (by norm_num) (by norm_num)) (stRead arg6 L 1 128 (by norm_num) (by norm_num)) (ldRows arg4 harg4 x2 0 128 (by norm_num) (by norm_num))
    (maskF (sumLane 0#32))

/-- Unit 2's weighted sum, the stage read through the pieces `L`. -/
def ac2 (L : List (View.Piece (Elt F) S4x256x2048 .f32)) : FVec F S256x128 .f32 :=
  accStep (accStep (accInit) (mx2 arg2 harg2 arg3 harg3 x0 x1)
    (stRead arg6 L 2 0 (by norm_num) (by norm_num)) (stRead arg6 L 2 128 (by norm_num) (by norm_num)) (ldRows arg4 harg4 x2 0 0 (by norm_num) (by norm_num))
    (maskF (sumLane 64#32))) (mx2 arg2 harg2 arg3 harg3 x0 x1)
    (stRead arg6 L 2 256 (by norm_num) (by norm_num)) (stRead arg6 L 2 384 (by norm_num) (by norm_num)) (ldRows arg4 harg4 x2 256 0 (by norm_num) (by norm_num))
    (maskF (sumLane 64#32))

/-- Unit 3's weighted sum, the stage read through the pieces `L`. -/
def ac3 (L : List (View.Piece (Elt F) S4x256x2048 .f32)) : FVec F S256x128 .f32 :=
  accStep (accStep (accInit) (mx3 arg2 harg2 arg3 harg3 x0 x1)
    (stRead arg6 L 3 0 (by norm_num) (by norm_num)) (stRead arg6 L 3 128 (by norm_num) (by norm_num)) (ldRows arg4 harg4 x2 0 128 (by norm_num) (by norm_num))
    (maskF (sumLane 0#32))) (mx3 arg2 harg2 arg3 harg3 x0 x1)
    (stRead arg6 L 3 256 (by norm_num) (by norm_num)) (stRead arg6 L 3 384 (by norm_num) (by norm_num)) (ldRows arg4 harg4 x2 256 128 (by norm_num) (by norm_num))
    (maskF (sumLane 0#32))

/-- Unit 4's weighted sum, the stage read through the pieces `L`. -/
def ac4 (L : List (View.Piece (Elt F) S4x256x2048 .f32)) : FVec F S256x128 .f32 :=
  accStep (accStep (accStep (accInit) (mx4 arg2 harg2 arg3 harg3 x0 x1)
    (stRead arg6 L 0 0 (by norm_num) (by norm_num)) (stRead arg6 L 0 128 (by norm_num) (by norm_num)) (ldRows arg4 harg4 x2 0 0 (by norm_num) (by norm_num))
    (maskF (sumLane 64#32))) (mx4 arg2 harg2 arg3 harg3 x0 x1)
    (stRead arg6 L 0 256 (by norm_num) (by norm_num)) (stRead arg6 L 0 384 (by norm_num) (by norm_num)) (ldRows arg4 harg4 x2 256 0 (by norm_num) (by norm_num))
    (maskF (sumLane 64#32))) (mx4 arg2 harg2 arg3 harg3 x0 x1)
    (stRead arg6 L 0 512 (by norm_num) (by norm_num)) (stRead arg6 L 0 640 (by norm_num) (by norm_num)) (ldRows arg4 harg4 x2 512 0 (by norm_num) (by norm_num))
    (maskF (sumLane 64#32))

/-- Unit 5's weighted sum, the stage read through the pieces `L`. -/
def ac5 (L : List (View.Piece (Elt F) S4x256x2048 .f32)) : FVec F S256x128 .f32 :=
  accStep (accStep (accStep (accInit) (mx5 arg2 harg2 arg3 harg3 x0 x1)
    (stRead arg6 L 1 0 (by norm_num) (by norm_num)) (stRead arg6 L 1 128 (by norm_num) (by norm_num)) (ldRows arg4 harg4 x2 0 128 (by norm_num) (by norm_num))
    (maskF (sumLane 0#32))) (mx5 arg2 harg2 arg3 harg3 x0 x1)
    (stRead arg6 L 1 256 (by norm_num) (by norm_num)) (stRead arg6 L 1 384 (by norm_num) (by norm_num)) (ldRows arg4 harg4 x2 256 128 (by norm_num) (by norm_num))
    (maskF (sumLane 0#32))) (mx5 arg2 harg2 arg3 harg3 x0 x1)
    (stRead arg6 L 1 512 (by norm_num) (by norm_num)) (stRead arg6 L 1 640 (by norm_num) (by norm_num)) (ldRows arg4 harg4 x2 512 128 (by norm_num) (by norm_num))
    (maskF (sumLane 0#32))

/-- Unit 6's weighted sum, the stage read through the pieces `L`. -/
def ac6 (L : List (View.Piece (Elt F) S4x256x2048 .f32)) : FVec F S256x128 .f32 :=
  accStep (accStep (accStep (accStep (accInit) (mx6 arg2 harg2 arg3 harg3 x0 x1)
    (stRead arg6 L 2 0 (by norm_num) (by norm_num)) (stRead arg6 L 2 128 (by norm_num) (by norm_num)) (ldRows arg4 harg4 x2 0 0 (by norm_num) (by norm_num))
    (maskF (sumLane 64#32))) (mx6 arg2 harg2 arg3 harg3 x0 x1)
    (stRead arg6 L 2 256 (by norm_num) (by norm_num)) (stRead arg6 L 2 384 (by norm_num) (by norm_num)) (ldRows arg4 harg4 x2 256 0 (by norm_num) (by norm_num))
    (maskF (sumLane 64#32))) (mx6 arg2 harg2 arg3 harg3 x0 x1)
    (stRead arg6 L 2 512 (by norm_num) (by norm_num)) (stRead arg6 L 2 640 (by norm_num) (by norm_num)) (ldRows arg4 harg4 x2 512 0 (by norm_num) (by norm_num))
    (maskF (sumLane 64#32))) (mx6 arg2 harg2 arg3 harg3 x0 x1)
    (stRead arg6 L 2 768 (by norm_num) (by norm_num)) (stRead arg6 L 2 896 (by norm_num) (by norm_num)) (ldRows arg4 harg4 x2 768 0 (by norm_num) (by norm_num))
    (maskF (sumLane 64#32))

/-- Unit 7's weighted sum, the stage read through the pieces `L`. -/
def ac7 (L : List (View.Piece (Elt F) S4x256x2048 .f32)) : FVec F S256x128 .f32 :=
  accStep (accStep (accStep (accStep (accInit) (mx7 arg2 harg2 arg3 harg3 x0 x1)
    (stRead arg6 L 3 0 (by norm_num) (by norm_num)) (stRead arg6 L 3 128 (by norm_num) (by norm_num)) (ldRows arg4 harg4 x2 0 128 (by norm_num) (by norm_num))
    (maskF (sumLane 0#32))) (mx7 arg2 harg2 arg3 harg3 x0 x1)
    (stRead arg6 L 3 256 (by norm_num) (by norm_num)) (stRead arg6 L 3 384 (by norm_num) (by norm_num)) (ldRows arg4 harg4 x2 256 128 (by norm_num) (by norm_num))
    (maskF (sumLane 0#32))) (mx7 arg2 harg2 arg3 harg3 x0 x1)
    (stRead arg6 L 3 512 (by norm_num) (by norm_num)) (stRead arg6 L 3 640 (by norm_num) (by norm_num)) (ldRows arg4 harg4 x2 512 128 (by norm_num) (by norm_num))
    (maskF (sumLane 0#32))) (mx7 arg2 harg2 arg3 harg3 x0 x1)
    (stRead arg6 L 3 768 (by norm_num) (by norm_num)) (stRead arg6 L 3 896 (by norm_num) (by norm_num)) (ldRows arg4 harg4 x2 768 128 (by norm_num) (by norm_num))
    (maskF (sumLane 0#32))

/-- Unit 8's weighted sum, the stage read through the pieces `L`. -/
def ac8 (L : List (View.Piece (Elt F) S4x256x2048 .f32)) : FVec F S256x128 .f32 :=
  accStep (accStep (accStep (accStep (accStep (accInit) (mx8 arg2 harg2 arg3 harg3 x0 x1)
    (stRead arg6 L 0 0 (by norm_num) (by norm_num)) (stRead arg6 L 0 128 (by norm_num) (by norm_num)) (ldRows arg4 harg4 x2 0 0 (by norm_num) (by norm_num))
    (maskF (sumLane 64#32))) (mx8 arg2 harg2 arg3 harg3 x0 x1)
    (stRead arg6 L 0 256 (by norm_num) (by norm_num)) (stRead arg6 L 0 384 (by norm_num) (by norm_num)) (ldRows arg4 harg4 x2 256 0 (by norm_num) (by norm_num))
    (maskF (sumLane 64#32))) (mx8 arg2 harg2 arg3 harg3 x0 x1)
    (stRead arg6 L 0 512 (by norm_num) (by norm_num)) (stRead arg6 L 0 640 (by norm_num) (by norm_num)) (ldRows arg4 harg4 x2 512 0 (by norm_num) (by norm_num))
    (maskF (sumLane 64#32))) (mx8 arg2 harg2 arg3 harg3 x0 x1)
    (stRead arg6 L 0 768 (by norm_num) (by norm_num)) (stRead arg6 L 0 896 (by norm_num) (by norm_num)) (ldRows arg4 harg4 x2 768 0 (by norm_num) (by norm_num))
    (maskF (sumLane 64#32))) (mx8 arg2 harg2 arg3 harg3 x0 x1)
    (stRead arg6 L 0 1024 (by norm_num) (by norm_num)) (stRead arg6 L 0 1152 (by norm_num) (by norm_num)) (ldRows arg4 harg4 x2 1024 0 (by norm_num) (by norm_num))
    (maskF (sumLane 64#32))

/-- Unit 9's weighted sum, the stage read through the pieces `L`. -/
def ac9 (L : List (View.Piece (Elt F) S4x256x2048 .f32)) : FVec F S256x128 .f32 :=
  accStep (accStep (accStep (accStep (accStep (accInit) (mx9 arg2 harg2 arg3 harg3 x0 x1)
    (stRead arg6 L 1 0 (by norm_num) (by norm_num)) (stRead arg6 L 1 128 (by norm_num) (by norm_num)) (ldRows arg4 harg4 x2 0 128 (by norm_num) (by norm_num))
    (maskF (sumLane 0#32))) (mx9 arg2 harg2 arg3 harg3 x0 x1)
    (stRead arg6 L 1 256 (by norm_num) (by norm_num)) (stRead arg6 L 1 384 (by norm_num) (by norm_num)) (ldRows arg4 harg4 x2 256 128 (by norm_num) (by norm_num))
    (maskF (sumLane 0#32))) (mx9 arg2 harg2 arg3 harg3 x0 x1)
    (stRead arg6 L 1 512 (by norm_num) (by norm_num)) (stRead arg6 L 1 640 (by norm_num) (by norm_num)) (ldRows arg4 harg4 x2 512 128 (by norm_num) (by norm_num))
    (maskF (sumLane 0#32))) (mx9 arg2 harg2 arg3 harg3 x0 x1)
    (stRead arg6 L 1 768 (by norm_num) (by norm_num)) (stRead arg6 L 1 896 (by norm_num) (by norm_num)) (ldRows arg4 harg4 x2 768 128 (by norm_num) (by norm_num))
    (maskF (sumLane 0#32))) (mx9 arg2 harg2 arg3 harg3 x0 x1)
    (stRead arg6 L 1 1024 (by norm_num) (by norm_num)) (stRead arg6 L 1 1152 (by norm_num) (by norm_num)) (ldRows arg4 harg4 x2 1024 128 (by norm_num) (by norm_num))
    (maskF (sumLane 0#32))

/-- Unit 10's weighted sum, the stage read through the pieces `L`. -/
def ac10 (L : List (View.Piece (Elt F) S4x256x2048 .f32)) : FVec F S256x128 .f32 :=
  accStep (accStep (accStep (accStep (accStep (accStep (accInit) (mx10 arg2 harg2 arg3 harg3 x0 x1)
    (stRead arg6 L 2 0 (by norm_num) (by norm_num)) (stRead arg6 L 2 128 (by norm_num) (by norm_num)) (ldRows arg4 harg4 x2 0 0 (by norm_num) (by norm_num))
    (maskF (sumLane 64#32))) (mx10 arg2 harg2 arg3 harg3 x0 x1)
    (stRead arg6 L 2 256 (by norm_num) (by norm_num)) (stRead arg6 L 2 384 (by norm_num) (by norm_num)) (ldRows arg4 harg4 x2 256 0 (by norm_num) (by norm_num))
    (maskF (sumLane 64#32))) (mx10 arg2 harg2 arg3 harg3 x0 x1)
    (stRead arg6 L 2 512 (by norm_num) (by norm_num)) (stRead arg6 L 2 640 (by norm_num) (by norm_num)) (ldRows arg4 harg4 x2 512 0 (by norm_num) (by norm_num))
    (maskF (sumLane 64#32))) (mx10 arg2 harg2 arg3 harg3 x0 x1)
    (stRead arg6 L 2 768 (by norm_num) (by norm_num)) (stRead arg6 L 2 896 (by norm_num) (by norm_num)) (ldRows arg4 harg4 x2 768 0 (by norm_num) (by norm_num))
    (maskF (sumLane 64#32))) (mx10 arg2 harg2 arg3 harg3 x0 x1)
    (stRead arg6 L 2 1024 (by norm_num) (by norm_num)) (stRead arg6 L 2 1152 (by norm_num) (by norm_num)) (ldRows arg4 harg4 x2 1024 0 (by norm_num) (by norm_num))
    (maskF (sumLane 64#32))) (mx10 arg2 harg2 arg3 harg3 x0 x1)
    (stRead arg6 L 2 1280 (by norm_num) (by norm_num)) (stRead arg6 L 2 1408 (by norm_num) (by norm_num)) (ldRows arg4 harg4 x2 1280 0 (by norm_num) (by norm_num))
    (maskF (sumLane 64#32))

/-- Unit 11's weighted sum, the stage read through the pieces `L`. -/
def ac11 (L : List (View.Piece (Elt F) S4x256x2048 .f32)) : FVec F S256x128 .f32 :=
  accStep (accStep (accStep (accStep (accStep (accStep (accInit) (mx11 arg2 harg2 arg3 harg3 x0 x1)
    (stRead arg6 L 3 0 (by norm_num) (by norm_num)) (stRead arg6 L 3 128 (by norm_num) (by norm_num)) (ldRows arg4 harg4 x2 0 128 (by norm_num) (by norm_num))
    (maskF (sumLane 0#32))) (mx11 arg2 harg2 arg3 harg3 x0 x1)
    (stRead arg6 L 3 256 (by norm_num) (by norm_num)) (stRead arg6 L 3 384 (by norm_num) (by norm_num)) (ldRows arg4 harg4 x2 256 128 (by norm_num) (by norm_num))
    (maskF (sumLane 0#32))) (mx11 arg2 harg2 arg3 harg3 x0 x1)
    (stRead arg6 L 3 512 (by norm_num) (by norm_num)) (stRead arg6 L 3 640 (by norm_num) (by norm_num)) (ldRows arg4 harg4 x2 512 128 (by norm_num) (by norm_num))
    (maskF (sumLane 0#32))) (mx11 arg2 harg2 arg3 harg3 x0 x1)
    (stRead arg6 L 3 768 (by norm_num) (by norm_num)) (stRead arg6 L 3 896 (by norm_num) (by norm_num)) (ldRows arg4 harg4 x2 768 128 (by norm_num) (by norm_num))
    (maskF (sumLane 0#32))) (mx11 arg2 harg2 arg3 harg3 x0 x1)
    (stRead arg6 L 3 1024 (by norm_num) (by norm_num)) (stRead arg6 L 3 1152 (by norm_num) (by norm_num)) (ldRows arg4 harg4 x2 1024 128 (by norm_num) (by norm_num))
    (maskF (sumLane 0#32))) (mx11 arg2 harg2 arg3 harg3 x0 x1)
    (stRead arg6 L 3 1280 (by norm_num) (by norm_num)) (stRead arg6 L 3 1408 (by norm_num) (by norm_num)) (ldRows arg4 harg4 x2 1280 128 (by norm_num) (by norm_num))
    (maskF (sumLane 0#32))

/-- Unit 12's weighted sum, the stage read through the pieces `L`. -/
def ac12 (L : List (View.Piece (Elt F) S4x256x2048 .f32)) : FVec F S256x128 .f32 :=
  accStep (accStep (accStep (accStep (accStep (accStep (accStep (accInit) (mx12 arg2 harg2 arg3 harg3 x0 x1)
    (stRead arg6 L 0 0 (by norm_num) (by norm_num)) (stRead arg6 L 0 128 (by norm_num) (by norm_num)) (ldRows arg4 harg4 x2 0 0 (by norm_num) (by norm_num))
    (maskF (sumLane 64#32))) (mx12 arg2 harg2 arg3 harg3 x0 x1)
    (stRead arg6 L 0 256 (by norm_num) (by norm_num)) (stRead arg6 L 0 384 (by norm_num) (by norm_num)) (ldRows arg4 harg4 x2 256 0 (by norm_num) (by norm_num))
    (maskF (sumLane 64#32))) (mx12 arg2 harg2 arg3 harg3 x0 x1)
    (stRead arg6 L 0 512 (by norm_num) (by norm_num)) (stRead arg6 L 0 640 (by norm_num) (by norm_num)) (ldRows arg4 harg4 x2 512 0 (by norm_num) (by norm_num))
    (maskF (sumLane 64#32))) (mx12 arg2 harg2 arg3 harg3 x0 x1)
    (stRead arg6 L 0 768 (by norm_num) (by norm_num)) (stRead arg6 L 0 896 (by norm_num) (by norm_num)) (ldRows arg4 harg4 x2 768 0 (by norm_num) (by norm_num))
    (maskF (sumLane 64#32))) (mx12 arg2 harg2 arg3 harg3 x0 x1)
    (stRead arg6 L 0 1024 (by norm_num) (by norm_num)) (stRead arg6 L 0 1152 (by norm_num) (by norm_num)) (ldRows arg4 harg4 x2 1024 0 (by norm_num) (by norm_num))
    (maskF (sumLane 64#32))) (mx12 arg2 harg2 arg3 harg3 x0 x1)
    (stRead arg6 L 0 1280 (by norm_num) (by norm_num)) (stRead arg6 L 0 1408 (by norm_num) (by norm_num)) (ldRows arg4 harg4 x2 1280 0 (by norm_num) (by norm_num))
    (maskF (sumLane 64#32))) (mx12 arg2 harg2 arg3 harg3 x0 x1)
    (stRead arg6 L 0 1536 (by norm_num) (by norm_num)) (stRead arg6 L 0 1664 (by norm_num) (by norm_num)) (ldRows arg4 harg4 x2 1536 0 (by norm_num) (by norm_num))
    (maskF (sumLane 64#32))

/-- Unit 13's weighted sum, the stage read through the pieces `L`. -/
def ac13 (L : List (View.Piece (Elt F) S4x256x2048 .f32)) : FVec F S256x128 .f32 :=
  accStep (accStep (accStep (accStep (accStep (accStep (accStep (accInit) (mx13 arg2 harg2 arg3 harg3 x0 x1)
    (stRead arg6 L 1 0 (by norm_num) (by norm_num)) (stRead arg6 L 1 128 (by norm_num) (by norm_num)) (ldRows arg4 harg4 x2 0 128 (by norm_num) (by norm_num))
    (maskF (sumLane 0#32))) (mx13 arg2 harg2 arg3 harg3 x0 x1)
    (stRead arg6 L 1 256 (by norm_num) (by norm_num)) (stRead arg6 L 1 384 (by norm_num) (by norm_num)) (ldRows arg4 harg4 x2 256 128 (by norm_num) (by norm_num))
    (maskF (sumLane 0#32))) (mx13 arg2 harg2 arg3 harg3 x0 x1)
    (stRead arg6 L 1 512 (by norm_num) (by norm_num)) (stRead arg6 L 1 640 (by norm_num) (by norm_num)) (ldRows arg4 harg4 x2 512 128 (by norm_num) (by norm_num))
    (maskF (sumLane 0#32))) (mx13 arg2 harg2 arg3 harg3 x0 x1)
    (stRead arg6 L 1 768 (by norm_num) (by norm_num)) (stRead arg6 L 1 896 (by norm_num) (by norm_num)) (ldRows arg4 harg4 x2 768 128 (by norm_num) (by norm_num))
    (maskF (sumLane 0#32))) (mx13 arg2 harg2 arg3 harg3 x0 x1)
    (stRead arg6 L 1 1024 (by norm_num) (by norm_num)) (stRead arg6 L 1 1152 (by norm_num) (by norm_num)) (ldRows arg4 harg4 x2 1024 128 (by norm_num) (by norm_num))
    (maskF (sumLane 0#32))) (mx13 arg2 harg2 arg3 harg3 x0 x1)
    (stRead arg6 L 1 1280 (by norm_num) (by norm_num)) (stRead arg6 L 1 1408 (by norm_num) (by norm_num)) (ldRows arg4 harg4 x2 1280 128 (by norm_num) (by norm_num))
    (maskF (sumLane 0#32))) (mx13 arg2 harg2 arg3 harg3 x0 x1)
    (stRead arg6 L 1 1536 (by norm_num) (by norm_num)) (stRead arg6 L 1 1664 (by norm_num) (by norm_num)) (ldRows arg4 harg4 x2 1536 128 (by norm_num) (by norm_num))
    (maskF (sumLane 0#32))

/-- Unit 14's weighted sum, the stage read through the pieces `L`. -/
def ac14 (L : List (View.Piece (Elt F) S4x256x2048 .f32)) : FVec F S256x128 .f32 :=
  accStep (accStep (accStep (accStep (accStep (accStep (accStep (accStep (accInit) (mx14 arg2 harg2 arg3 harg3 x0 x1)
    (stRead arg6 L 2 0 (by norm_num) (by norm_num)) (stRead arg6 L 2 128 (by norm_num) (by norm_num)) (ldRows arg4 harg4 x2 0 0 (by norm_num) (by norm_num))
    (maskF (sumLane 64#32))) (mx14 arg2 harg2 arg3 harg3 x0 x1)
    (stRead arg6 L 2 256 (by norm_num) (by norm_num)) (stRead arg6 L 2 384 (by norm_num) (by norm_num)) (ldRows arg4 harg4 x2 256 0 (by norm_num) (by norm_num))
    (maskF (sumLane 64#32))) (mx14 arg2 harg2 arg3 harg3 x0 x1)
    (stRead arg6 L 2 512 (by norm_num) (by norm_num)) (stRead arg6 L 2 640 (by norm_num) (by norm_num)) (ldRows arg4 harg4 x2 512 0 (by norm_num) (by norm_num))
    (maskF (sumLane 64#32))) (mx14 arg2 harg2 arg3 harg3 x0 x1)
    (stRead arg6 L 2 768 (by norm_num) (by norm_num)) (stRead arg6 L 2 896 (by norm_num) (by norm_num)) (ldRows arg4 harg4 x2 768 0 (by norm_num) (by norm_num))
    (maskF (sumLane 64#32))) (mx14 arg2 harg2 arg3 harg3 x0 x1)
    (stRead arg6 L 2 1024 (by norm_num) (by norm_num)) (stRead arg6 L 2 1152 (by norm_num) (by norm_num)) (ldRows arg4 harg4 x2 1024 0 (by norm_num) (by norm_num))
    (maskF (sumLane 64#32))) (mx14 arg2 harg2 arg3 harg3 x0 x1)
    (stRead arg6 L 2 1280 (by norm_num) (by norm_num)) (stRead arg6 L 2 1408 (by norm_num) (by norm_num)) (ldRows arg4 harg4 x2 1280 0 (by norm_num) (by norm_num))
    (maskF (sumLane 64#32))) (mx14 arg2 harg2 arg3 harg3 x0 x1)
    (stRead arg6 L 2 1536 (by norm_num) (by norm_num)) (stRead arg6 L 2 1664 (by norm_num) (by norm_num)) (ldRows arg4 harg4 x2 1536 0 (by norm_num) (by norm_num))
    (maskF (sumLane 64#32))) (mx14 arg2 harg2 arg3 harg3 x0 x1)
    (stRead arg6 L 2 1792 (by norm_num) (by norm_num)) (stRead arg6 L 2 1920 (by norm_num) (by norm_num)) (ldRows arg4 harg4 x2 1792 0 (by norm_num) (by norm_num))
    (maskF (sumLane 64#32))

/-- Unit 15's weighted sum, the stage read through the pieces `L`. -/
def ac15 (L : List (View.Piece (Elt F) S4x256x2048 .f32)) : FVec F S256x128 .f32 :=
  accStep (accStep (accStep (accStep (accStep (accStep (accStep (accStep (accInit) (mx15 arg2 harg2 arg3 harg3 x0 x1)
    (stRead arg6 L 3 0 (by norm_num) (by norm_num)) (stRead arg6 L 3 128 (by norm_num) (by norm_num)) (ldRows arg4 harg4 x2 0 128 (by norm_num) (by norm_num))
    (maskF (sumLane 0#32))) (mx15 arg2 harg2 arg3 harg3 x0 x1)
    (stRead arg6 L 3 256 (by norm_num) (by norm_num)) (stRead arg6 L 3 384 (by norm_num) (by norm_num)) (ldRows arg4 harg4 x2 256 128 (by norm_num) (by norm_num))
    (maskF (sumLane 0#32))) (mx15 arg2 harg2 arg3 harg3 x0 x1)
    (stRead arg6 L 3 512 (by norm_num) (by norm_num)) (stRead arg6 L 3 640 (by norm_num) (by norm_num)) (ldRows arg4 harg4 x2 512 128 (by norm_num) (by norm_num))
    (maskF (sumLane 0#32))) (mx15 arg2 harg2 arg3 harg3 x0 x1)
    (stRead arg6 L 3 768 (by norm_num) (by norm_num)) (stRead arg6 L 3 896 (by norm_num) (by norm_num)) (ldRows arg4 harg4 x2 768 128 (by norm_num) (by norm_num))
    (maskF (sumLane 0#32))) (mx15 arg2 harg2 arg3 harg3 x0 x1)
    (stRead arg6 L 3 1024 (by norm_num) (by norm_num)) (stRead arg6 L 3 1152 (by norm_num) (by norm_num)) (ldRows arg4 harg4 x2 1024 128 (by norm_num) (by norm_num))
    (maskF (sumLane 0#32))) (mx15 arg2 harg2 arg3 harg3 x0 x1)
    (stRead arg6 L 3 1280 (by norm_num) (by norm_num)) (stRead arg6 L 3 1408 (by norm_num) (by norm_num)) (ldRows arg4 harg4 x2 1280 128 (by norm_num) (by norm_num))
    (maskF (sumLane 0#32))) (mx15 arg2 harg2 arg3 harg3 x0 x1)
    (stRead arg6 L 3 1536 (by norm_num) (by norm_num)) (stRead arg6 L 3 1664 (by norm_num) (by norm_num)) (ldRows arg4 harg4 x2 1536 128 (by norm_num) (by norm_num))
    (maskF (sumLane 0#32))) (mx15 arg2 harg2 arg3 harg3 x0 x1)
    (stRead arg6 L 3 1792 (by norm_num) (by norm_num)) (stRead arg6 L 3 1920 (by norm_num) (by norm_num)) (ldRows arg4 harg4 x2 1792 128 (by norm_num) (by norm_num))
    (maskF (sumLane 0#32))

variable (arg5 : Memref sig .tc .vmem S1x2048x128 .bf16) (harg5 : arg5.IsWhole) (harg6 : arg6.IsWhole)

theorem run_pieces : (kernelRun0_A c i arg2 harg2 arg3 harg3 arg4 harg4 arg5 harg5 arg6 harg6 x0 x1 x2).1 = [
    (⟨Rect.unit (s := S1x2048x128) ![0, 1792, 0] S1x256x128.size (inbRows (by norm_num)), pairOut (fin0 (ac14 arg2 harg2 arg3 harg3 arg4 harg4 arg6 x0 x1 x2 (kernelRun0_A.sl.HS0_72 c arg2 harg2 arg3 harg3 x0 x1))) (fin1 (ac15 arg2 harg2 arg3 harg3 arg4 harg4 arg6 x0 x1 x2 (kernelRun0_A.sl.HS0_72 c arg2 harg2 arg3 harg3 x0 x1)))⟩ : View.Piece (Elt F) S1x2048x128 .bf16),
    (⟨Rect.unit (s := S1x2048x128) ![0, 1536, 0] S1x256x128.size (inbRows (by norm_num)), pairOut (fin0 (ac12 arg2 harg2 arg3 harg3 arg4 harg4 arg6 x0 x1 x2 (kernelRun0_A.sl.HS0_72 c arg2 harg2 arg3 harg3 x0 x1))) (fin1 (ac13 arg2 harg2 arg3 harg3 arg4 harg4 arg6 x0 x1 x2 (kernelRun0_A.sl.HS0_72 c arg2 harg2 arg3 harg3 x0 x1)))⟩ : View.Piece (Elt F) S1x2048x128 .bf16),
    (⟨Rect.unit (s := S1x2048x128) ![0, 1280, 0] S1x256x128.size (inbRows (by norm_num)), pairOut (fin0 (ac10 arg2 harg2 arg3 harg3 arg4 harg4 arg6 x0 x1 x2 (kernelRun0_A.sl.HS0_56 c arg2 harg2 arg3 harg3 x0 x1))) (fin1 (ac11 arg2 harg2 arg3 harg3 arg4 harg4 arg6 x0 x1 x2 (kernelRun0_A.sl.HS0_64 c arg2 harg2 arg3 harg3 x0 x1)))⟩ : View.Piece (Elt F) S1x2048x128 .bf16),
    (⟨Rect.unit (s := S1x2048x128) ![0, 1024, 0] S1x256x128.size (inbRows (by norm_num)), pairOut (fin0 (ac8 arg2 harg2 arg3 harg3 arg4 harg4 arg6 x0 x1 x2 (kernelRun0_A.sl.HS0_42 c arg2 harg2 arg3 harg3 x0 x1))) (fin1 (ac9 arg2 harg2 arg3 harg3 arg4 harg4 arg6 x0 x1 x2 (kernelRun0_A.sl.HS0_49 c arg2 harg2 arg3 harg3 x0 x1)))⟩ : View.Piece (Elt F) S1x2048x128 .bf16),
    (⟨Rect.unit (s := S1x2048x128) ![0, 768, 0] S1x256x128.size (inbRows (by norm_num)), pairOut (fin0 (ac6 arg2 harg2 arg3 harg3 arg4 harg4 arg6 x0 x1 x2 (kernelRun0_A.sl.HS0_30 c arg2 harg2 arg3 harg3 x0 x1))) (fin1 (ac7 arg2 harg2 arg3 harg3 arg4 harg4 arg6 x0 x1 x2 (kernelRun0_A.sl.HS0_36 c arg2 harg2 arg3 harg3 x0 x1)))⟩ : View.Piece (Elt F) S1x2048x128 .bf16),
    (⟨Rect.unit (s := S1x2048x128) ![0, 512, 0] S1x256x128.size (inbRows (by norm_num)), pairOut (fin0 (ac4 arg2 harg2 arg3 harg3 arg4 harg4 arg6 x0 x1 x2 (kernelRun0_A.sl.HS0_20 c arg2 harg2 arg3 harg3 x0 x1))) (fin1 (ac5 arg2 harg2 arg3 harg3 arg4 harg4 arg6 x0 x1 x2 (kernelRun0_A.sl.HS0_25 c arg2 harg2 arg3 harg3 x0 x1)))⟩ : View.Piece (Elt F) S1x2048x128 .bf16),
    (⟨Rect.unit (s := S1x2048x128) ![0, 256, 0] S1x256x128.size (inbRows (by norm_num)), pairOut (fin0 (ac2 arg2 harg2 arg3 harg3 arg4 harg4 arg6 x0 x1 x2 (kernelRun0_A.sl.HS0_12 c arg2 harg2 arg3 harg3 x0 x1))) (fin1 (ac3 arg2 harg2 arg3 harg3 arg4 harg4 arg6 x0 x1 x2 (kernelRun0_A.sl.HS0_16 c arg2 harg2 arg3 harg3 x0 x1)))⟩ : View.Piece (Elt F) S1x2048x128 .bf16),
    (⟨Rect.unit (s := S1x2048x128) ![0, 0, 0] S1x256x128.size (inbRows (by norm_num)), pairOut (fin0 (ac0 arg2 harg2 arg3 harg3 arg4 harg4 arg6 x0 x1 x2 (kernelRun0_A.sl.HS0_6 c arg2 harg2 arg3 harg3 x0 x1))) (fin1 (ac1 arg2 harg2 arg3 harg3 arg4 harg4 arg6 x0 x1 x2 (kernelRun0_A.sl.HS0_9 c arg2 harg2 arg3 harg3 x0 x1)))⟩ : View.Piece (Elt F) S1x2048x128 .bf16)] := by
  unfold kernelRun0_A
  rfl

theorem run_pieces' : (kernelRun0_A c i arg2 harg2 arg3 harg3 arg4 harg4 arg5 harg5 arg6 harg6 x0 x1 x2).1 = [
    (⟨Rect.unit (s := S1x2048x128) ![0, 1792, 0] S1x256x128.size (inbRows (by norm_num)), pairOut (fin0 (ac14 arg2 harg2 arg3 harg3 arg4 harg4 arg6 x0 x1 x2 (st15 arg2 harg2 arg3 harg3 x0 x1))) (fin1 (ac15 arg2 harg2 arg3 harg3 arg4 harg4 arg6 x0 x1 x2 (st15 arg2 harg2 arg3 harg3 x0 x1)))⟩ : View.Piece (Elt F) S1x2048x128 .bf16),
    (⟨Rect.unit (s := S1x2048x128) ![0, 1536, 0] S1x256x128.size (inbRows (by norm_num)), pairOut (fin0 (ac12 arg2 harg2 arg3 harg3 arg4 harg4 arg6 x0 x1 x2 (st15 arg2 harg2 arg3 harg3 x0 x1))) (fin1 (ac13 arg2 harg2 arg3 harg3 arg4 harg4 arg6 x0 x1 x2 (st15 arg2 harg2 arg3 harg3 x0 x1)))⟩ : View.Piece (Elt F) S1x2048x128 .bf16),
    (⟨Rect.unit (s := S1x2048x128) ![0, 1280, 0] S1x256x128.size (inbRows (by norm_num)), pairOut (fin0 (ac10 arg2 harg2 arg3 harg3 arg4 harg4 arg6 x0 x1 x2 (st13 arg2 harg2 arg3 harg3 x0 x1))) (fin1 (ac11 arg2 harg2 arg3 harg3 arg4 harg4 arg6 x0 x1 x2 (st14 arg2 harg2 arg3 harg3 x0 x1)))⟩ : View.Piece (Elt F) S1x2048x128 .bf16),
    (⟨Rect.unit (s := S1x2048x128) ![0, 1024, 0] S1x256x128.size (inbRows (by norm_num)), pairOut (fin0 (ac8 arg2 harg2 arg3 harg3 arg4 harg4 arg6 x0 x1 x2 (st11 arg2 harg2 arg3 harg3 x0 x1))) (fin1 (ac9 arg2 harg2 arg3 harg3 arg4 harg4 arg6 x0 x1 x2 (st12 arg2 harg2 arg3 harg3 x0 x1)))⟩ : View.Piece (Elt F) S1x2048x128 .bf16),
    (⟨Rect.unit (s := S1x2048x128) ![0, 768, 0] S1x256x128.size (inbRows (by norm_num)), pairOut (fin0 (ac6 arg2 harg2 arg3 harg3 arg4 harg4 arg6 x0 x1 x2 (st9 arg2 harg2 arg3 harg3 x0 x1))) (fin1 (ac7 arg2 harg2 arg3 harg3 arg4 harg4 arg6 x0 x1 x2 (st10 arg2 harg2 arg3 harg3 x0 x1)))⟩ : View.Piece (Elt F) S1x2048x128 .bf16),
    (⟨Rect.unit (s := S1x2048x128) ![0, 512, 0] S1x256x128.size (inbRows (by norm_num)), pairOut (fin0 (ac4 arg2 harg2 arg3 harg3 arg4 harg4 arg6 x0 x1 x2 (st7 arg2 harg2 arg3 harg3 x0 x1))) (fin1 (ac5 arg2 harg2 arg3 harg3 arg4 harg4 arg6 x0 x1 x2 (st8 arg2 harg2 arg3 harg3 x0 x1)))⟩ : View.Piece (Elt F) S1x2048x128 .bf16),
    (⟨Rect.unit (s := S1x2048x128) ![0, 256, 0] S1x256x128.size (inbRows (by norm_num)), pairOut (fin0 (ac2 arg2 harg2 arg3 harg3 arg4 harg4 arg6 x0 x1 x2 (st5 arg2 harg2 arg3 harg3 x0 x1))) (fin1 (ac3 arg2 harg2 arg3 harg3 arg4 harg4 arg6 x0 x1 x2 (st6 arg2 harg2 arg3 harg3 x0 x1)))⟩ : View.Piece (Elt F) S1x2048x128 .bf16),
    (⟨Rect.unit (s := S1x2048x128) ![0, 0, 0] S1x256x128.size (inbRows (by norm_num)), pairOut (fin0 (ac0 arg2 harg2 arg3 harg3 arg4 harg4 arg6 x0 x1 x2 (st3 arg2 harg2 arg3 harg3 x0 x1))) (fin1 (ac1 arg2 harg2 arg3 harg3 arg4 harg4 arg6 x0 x1 x2 (st4 arg2 harg2 arg3 harg3 x0 x1)))⟩ : View.Piece (Elt F) S1x2048x128 .bf16)] := by
  rw [run_pieces, stage3, stage4, stage5, stage6, stage7, stage8, stage9, stage10, stage11, stage12, stage13, stage14, stage15]

end Cert.MlaIdeal.Att

end
-- ==== Proof.MlaRead.lean ====
/- The score stage read back: which scores a slot holds after a list of stores. -/
module

public import proofs.«01_k».proof.Proof.MlaBlocks
public import Idealize.ShloMosaic.Lib.Pointwise

@[expose] public section

set_option maxRecDepth 16384

noncomputable section

namespace Cert.MlaIdeal.Att

open Cert.MlaIdeal Cert.MlaIdeal.Gen Idealize.ShloMosaic Idealize.ShloMosaic.TcCoe

/-- The stage's slot `s` holds `f` on its first `n` columns. -/
def Holds (L : List (View.Piece (Elt Ideal) S4x256x2048 .f32)) (s n : ℕ) (hs : s < 4) (f : Fin 256 → ℕ → EReal) : Prop :=
  ∀ (r : Fin 256) (c : Fin 2048), c.val < n → (View.canon L (ix3 (⟨s, hs⟩ : Fin 4) r c) : EReal) = f r c.val

theorem holds_zero (L : List (View.Piece (Elt Ideal) S4x256x2048 .f32)) (s : ℕ) (hs : s < 4) (f : Fin 256 → ℕ → EReal) : Holds L s 0 hs f :=
  fun _ _ h => absurd h (Nat.not_lt_zero _)

theorem mem_stRect {s o : ℕ} (hs : s < 4) (ho : o + 256 ≤ 2048) {s' : Fin 4} {r : Fin 256} {c : Fin 2048}
    (h : (ix3 s' r c : S4x256x2048.Idx) ∈ (stRect s o hs ho).set) : s'.val = s ∧ o ≤ c.val ∧ c.val < o + 256 := by
  rw [LoadRect.mem_set] at h
  obtain ⟨j0, hj0, e0⟩ := h 0
  obtain ⟨j2, hj2, e2⟩ := h 2
  change j0 < 1 at hj0
  change j2 < 256 at hj2
  change s'.val = s + 0 + 1 * j0 at e0
  change c.val = 0 + o + 1 * j2 at e2
  omega

theorem canon_stPiece (s o : ℕ) (hs : s < 4) (ho : o + 256 ≤ 2048) (w : FVec Ideal S256x256 .f32)
    (L : List (View.Piece (Elt Ideal) S4x256x2048 .f32)) (r : Fin 256) (c : Fin 256) :
    (View.canon (stPiece s o hs ho w :: L) (ix3 (⟨s, hs⟩ : Fin 4) r ⟨o + c.val, by omega⟩) : EReal) = w (ix2 r c) := by
  let y : (stRect s o hs ho).shape.Idx := fun a => match a with
      | ⟨0, _⟩ => ⟨0, Nat.one_pos⟩
      | ⟨1, _⟩ => r
      | ⟨2, _⟩ => c
  have e : (ix3 (⟨s, hs⟩ : Fin 4) r ⟨o + c.val, by omega⟩ : S4x256x2048.Idx) = (stRect s o hs ho).emb y := by
    funext a
    apply Fin.ext
    refine Eq.trans ?_ (Rect.emb_apply (stRect s o hs ho) y a).symm
    match a with
    | ⟨0, _⟩ => show s = s + 0 + 1 * 0; omega
    | ⟨1, _⟩ => show r.val = 0 + 0 + 1 * r.val; omega
    | ⟨2, _⟩ => show o + c.val = 0 + o + 1 * c.val; omega
  rw [e]
  refine (View.canon_cons_emb (stRect s o hs ho) _ L y).trans ?_
  refine (Rect.payAlong_consLift (Rect.unit (s := S256x2048) ![0, o] S256x256.size (inbCols ho)) ![1, 256, 2048] rfl
    (fun i => by fin_cases i <;> rfl) _ _ y (ix2 r c : S256x256.Idx) fun i => by fin_cases i <;> rfl).trans ?_
  pointwise

theorem holds_same {L : List (View.Piece (Elt Ideal) S4x256x2048 .f32)} {s o : ℕ} {hs : s < 4} {ho : o + 256 ≤ 2048}
    {f : Fin 256 → ℕ → EReal} {w : FVec Ideal S256x256 .f32} (h : Holds L s o hs f) (hw : ∀ r c : Fin 256, (w (ix2 r c) : EReal) = f r (o + c.val)) :
    Holds (stPiece s o hs ho w :: L) s (o + 256) hs f := by
  intro r c hc
  by_cases hoc : o ≤ c.val
  · have e : c = ⟨o + (⟨c.val - o, by omega⟩ : Fin 256).val, by show o + (c.val - o) < 2048; omega⟩ := Fin.ext (by show c.val = o + (c.val - o); omega)
    have := canon_stPiece s o hs ho w L r ⟨c.val - o, by omega⟩
    rw [← e] at this
    rw [this, hw]
    congr 1
    show o + (c.val - o) = c.val
    omega
  · rw [View.canon_cons_of_not_mem]
    · exact h r c (by omega)
    · intro hm
      have := mem_stRect hs ho hm
      omega

theorem holds_other {L : List (View.Piece (Elt Ideal) S4x256x2048 .f32)} {s s' o n : ℕ} {hs : s < 4} {hs' : s' < 4} {ho : o + 256 ≤ 2048}
    {f : Fin 256 → ℕ → EReal} {w : FVec Ideal S256x256 .f32} (hne : s ≠ s') (h : Holds L s n hs f) :
    Holds (stPiece s' o hs' ho w :: L) s n hs f := by
  intro r c hc
  rw [View.canon_cons_of_not_mem]
  · exact h r c hc
  · intro hm
    exact hne (mem_stRect hs' ho hm).1

theorem stRead_apply {arg6 : Memref sig .tc .vmem S4x256x2048 .f32} {L : List (View.Piece (Elt Ideal) S4x256x2048 .f32)} {s o n : ℕ} {hs : s < 4}
    {f : Fin 256 → ℕ → EReal} (h : Holds L s n hs f) (ho : o + 128 ≤ 2048) (hn : o + 128 ≤ n) (r : Fin 256) (c : Fin 128) :
    (stRead arg6 L s o hs ho (ix2 r c) : EReal) = f r (o + c.val) := by
  have key := h r ⟨o + c.val, by omega⟩ (by show o + c.val < n; omega)
  unfold stRead
  rw [View.readCov_eq_canon']
  refine Eq.trans ?_ key
  show View.canon L _ = View.canon L _
  congr 1
  funext a
  apply Fin.ext
  rw [LoadRect.idx_apply]
  have hR := Rect.numel_consLift (Rect.unit (s := S256x2048) ![0, o] S256x128.size (inbHalf ho)) ![1, 256, 2048] rfl fun i => by fin_cases i <;> rfl
  have hval : ∀ i : Fin 2, ((Shape.reshapeEquiv hR.symm (ix2 r c : S256x128.Idx)) i.succ).val = ((ix2 r c : S256x128.Idx) i).val := fun i => by
    refine (Rect.reshapeEquiv_consLift_succ (Rect.unit (s := S256x2048) ![0, o] S256x128.size (inbHalf ho)) ![1, 256, 2048] rfl
      (fun i => by fin_cases i <;> rfl) (Shape.reshapeEquiv hR.symm (ix2 r c : S256x128.Idx)) i).trans ?_
    have := (Shape.reshapeEquiv hR).apply_symm_apply (ix2 r c : S256x128.Idx)
    rw [Shape.reshapeEquiv_symm] at this
    exact congrArg (fun z : S256x128.Idx => (z i).val) this
  have h0 := ((Shape.reshapeEquiv hR.symm (ix2 r c : S256x128.Idx)) 0).isLt
  match a with
  | ⟨0, _⟩ =>
    change ((Shape.reshapeEquiv hR.symm (ix2 r c : S256x128.Idx)) 0).val < 1 at h0
    show s + 0 + 1 * ((Shape.reshapeEquiv hR.symm (ix2 r c : S256x128.Idx)) 0).val = s
    omega
  | ⟨1, _⟩ =>
    refine Eq.trans (b := 0 + 0 + 1 * r.val) ?_ (by show _ = r.val; omega)
    exact congrArg (fun z => 0 + 0 + 1 * z) (hval 0)
  | ⟨2, _⟩ =>
    refine Eq.trans (b := 0 + o + 1 * c.val) ?_ (by show _ = o + c.val; omega)
    exact congrArg (fun z => 0 + o + 1 * z) (hval 1)

end Cert.MlaIdeal.Att

end
-- ==== Proof.MlaScore.lean ====
/- The score blocks, the row maxima, one step of the weighted sum and the stored pair, each read at one element. -/
module

public import proofs.«01_k».proof.Proof.MlaBlocks
public import Idealize.ShloMosaic.Lib.Pointwise
public import Idealize.ShloMosaic.Lib.IdealHost

@[expose] public section

set_option maxRecDepth 16384

noncomputable section

namespace Cert.MlaIdeal.Att

open Cert.MlaIdeal Cert.MlaIdeal.Gen Idealize.ShloMosaic Idealize.ShloMosaic.TcCoe

theorem negInf_eq : (Named.named (F := Ideal) κ "neg_inf" (φ := .f32) 0xF149F2CA#32 : EReal) = ⊥ := rfl

theorem sitofp_one : (FloatOps.sitofp (F := Ideal) .f32 (BitVec.setWidth 32 1#1) : EReal) = 1 := by
  show (((BitVec.setWidth 32 1#1).toInt : ℝ) : EReal) = 1
  norm_num
theorem sitofp_zero : (FloatOps.sitofp (F := Ideal) .f32 (BitVec.setWidth 32 0#1) : EReal) = 0 := by
  show (((BitVec.setWidth 32 0#1).toInt : ℝ) : EReal) = 0
  norm_num

theorem own0_bit : ∀ c : Fin 128, IntOp.cmpi .eq (IntOp.shrsi .vector (BitVec.ofNat 32 c.val) 6#32) 0#32 = if c.val / 64 = 0 then 1#1 else 0#1 := by
  decide
theorem own1_bit : ∀ c : Fin 128, IntOp.cmpi .eq (IntOp.shrsi .vector (BitVec.ofNat 32 c.val) 6#32) 1#32 = if c.val / 64 = 1 then 1#1 else 0#1 := by
  decide
theorem own0_apply (r : Fin 256) (c : Fin 128) : own0 (ix2 r c) = if c.val / 64 = 0 then 1#1 else 0#1 := by
  pointwise [own0]; exact own0_bit c
theorem own1_apply (r : Fin 256) (c : Fin 128) : own1 (ix2 r c) = if c.val / 64 = 1 then 1#1 else 0#1 := by
  pointwise [own1]; exact own1_bit c
theorem lane64_bit : ∀ c : Fin 128, IntOp.cmpi .eq (BitVec.ofNat 32 c.val) 64#32 = if c.val = 64 then 1#1 else 0#1 := by decide
theorem lane0_bit : ∀ c : Fin 128, IntOp.cmpi .eq (BitVec.ofNat 32 c.val) 0#32 = if c.val = 0 then 1#1 else 0#1 := by decide
theorem lane64_apply (r : Fin 256) (c : Fin 128) : maskF (F := Ideal) (sumLane 64#32) (ix2 r c) = if c.val = 64 then 1 else 0 := by
  pointwise [maskF, sumLane]
  rw [lane64_bit]
  by_cases h : c.val = 64
  · rw [if_pos h, if_pos h]; exact sitofp_one
  · rw [if_neg h, if_neg h]; exact sitofp_zero
theorem lane0_apply (r : Fin 256) (c : Fin 128) : maskF (F := Ideal) (sumLane 0#32) (ix2 r c) = if c.val = 0 then 1 else 0 := by
  pointwise [maskF, sumLane]
  rw [lane0_bit]
  by_cases h : c.val = 0
  · rw [if_pos h, if_pos h]; exact sitofp_one
  · rw [if_neg h, if_neg h]; exact sitofp_zero

/-- Lane `l` of head `hh` of the pair. -/
def lane (hh : Fin 2) (l : Fin 128) : Fin 256 := ⟨128 * hh.val + l.val, by omega⟩

theorem ldRows_apply (m : Memref sig .tc .vmem S1x2048x256 .bf16) (h : m.IsWhole) (x : Vec Ideal S1x2048x256 .bf16) (o : ℕ) (hh : Fin 2)
    (ho : o + 256 ≤ 2048) (hl : 128 * hh.val + 128 ≤ 256) (r : Fin 256) (l : Fin 128) :
    ldRows m h x o (128 * hh.val) ho hl (ix3 0 r l) = x (ix3 0 ⟨o + r.val, by omega⟩ (lane hh l)) := by
  unfold ldRows lane
  rw [View.readAt_eq_ld, h.read_unread]
  pointwise
theorem ldKeys_apply (m : Memref sig .tc .vmem S1x256x2048 .bf16) (h : m.IsWhole) (x : Vec Ideal S1x256x2048 .bf16) (hh : Fin 2) (o : ℕ)
    (hl : 128 * hh.val + 128 ≤ 256) (ho : o + 256 ≤ 2048) (l : Fin 128) (c : Fin 256) :
    ldKeys m h x (128 * hh.val) o hl ho (ix3 0 l c) = x (ix3 0 (lane hh l) ⟨o + c.val, by omega⟩) := by
  unfold ldKeys lane
  rw [View.readAt_eq_ld, h.read_unread]
  pointwise

/-- The kernel's logit of row `r` and column `c`: the head's inner product over its 128 lanes. -/
def lg (hh : Fin 2) (x0 : Vec Ideal S1x2048x256 .bf16) (x1 : Vec Ideal S1x256x2048 .bf16) (r c : Fin 2048) : EReal :=
  ∑ l : Fin 128, (x0 (ix3 0 r (lane hh l)) * x1 (ix3 0 (lane hh l) c) : EReal)
/-- The masked logit, at natural numbers. -/
def sN (hh : Fin 2) (x0 : Vec Ideal S1x2048x256 .bf16) (x1 : Vec Ideal S1x256x2048 .bf16) (r c : ℕ) : EReal :=
  if h : c ≤ r ∧ r < 2048 then lg hh x0 x1 ⟨r, h.2⟩ ⟨c, lt_of_le_of_lt h.1 h.2⟩ else ⊥

section Score
variable (m2 : Memref sig .tc .vmem S1x2048x256 .bf16) (h2 : m2.IsWhole) (m3 : Memref sig .tc .vmem S1x256x2048 .bf16) (h3 : m3.IsWhole)
  (x0 : Vec Ideal S1x2048x256 .bf16) (x1 : Vec Ideal S1x256x2048 .bf16) (hh : Fin 2)

theorem scoreOff_lg (oq ok : ℕ) (hq : oq + 256 ≤ 2048) (hk : ok + 256 ≤ 2048) (hl hl' : 128 * hh.val + 128 ≤ 256) (r c : Fin 256) :
    scoreOff (ldRows m2 h2 x0 oq (128 * hh.val) hq hl) (ldKeys m3 h3 x1 (128 * hh.val) ok hl' hk) (ix2 r c)
      = lg hh x0 x1 ⟨oq + r.val, by omega⟩ ⟨ok + c.val, by omega⟩ := by
  pointwise [scoreOff, lg, ldRows_apply, ldKeys_apply]

theorem scoreOff_at (oq ok : ℕ) (hq : oq + 256 ≤ 2048) (hk : ok + 256 ≤ 2048) (hl hl' : 128 * hh.val + 128 ≤ 256) (hlt : ok + 256 ≤ oq) (r c : Fin 256) :
    scoreOff (ldRows m2 h2 x0 oq (128 * hh.val) hq hl) (ldKeys m3 h3 x1 (128 * hh.val) ok hl' hk) (ix2 r c)
      = sN hh x0 x1 (oq + r.val) (ok + c.val) := by
  rw [scoreOff_lg m2 h2 m3 h3 x0 x1, sN, dif_pos (by omega)]

theorem scoreDiag_at (o : ℕ) (ho ho' : o + 256 ≤ 2048) (hl hl' : 128 * hh.val + 128 ≤ 256) (r c : Fin 256) :
    scoreDiag (ldRows m2 h2 x0 o (128 * hh.val) ho hl) (ldKeys m3 h3 x1 (128 * hh.val) o hl' ho') (ix2 r c)
      = sN hh x0 x1 (o + r.val) (o + c.val) := by
  pointwise [scoreDiag]
  rw [scoreOff_lg m2 h2 m3 h3 x0 x1, sN, negInf_eq]
  have key : IntOp.cmpi .sge (BitVec.ofNat 32 r.val) (BitVec.ofNat 32 c.val) = if c.val ≤ r.val then 1#1 else 0#1 := by
    word_cmp
    by_cases h : c.val ≤ r.val <;> simp [h]
  rw [key]
  by_cases h : c.val ≤ r.val
  · rw [if_pos h, dif_pos (by omega)]; rfl
  · rw [if_neg h, dif_neg (by omega)]; rfl
end Score

section Max
variable (m : FVec Ideal S256x128 .f32) (s : FVec Ideal S256x256 .f32)

theorem mxInit_apply (r : Fin 256) (c : Fin 128) :
    mxInit s (ix2 r c) = max (s (ix2 r ⟨c.val, by omega⟩) : EReal) (s (ix2 r ⟨128 + c.val, by omega⟩)) := by
  pointwise [mxInit]
theorem mxStep_apply (r : Fin 256) (c : Fin 128) :
    mxStep m s (ix2 r c) = max (max (m (ix2 r c) : EReal) (s (ix2 r ⟨c.val, by omega⟩))) (s (ix2 r ⟨128 + c.val, by omega⟩)) := by
  pointwise [mxStep]

/-- No entry is +∞. -/
def NoTop : Prop := ∀ (r : Fin 256) (c : Fin 128), (m (ix2 r c) : EReal) < ⊤
/-- Each row has an entry above −∞. -/
def RowReal : Prop := ∀ r : Fin 256, ∃ c : Fin 128, (⊥ : EReal) < m (ix2 r c)

variable {m s}
theorem noTop_init (h : ∀ r c : Fin 256, (s (ix2 r c) : EReal) < ⊤) : NoTop (mxInit s) := fun r c => by
  rw [mxInit_apply]; exact max_lt (h _ _) (h _ _)
theorem noTop_step (hm : NoTop m) (h : ∀ r c : Fin 256, (s (ix2 r c) : EReal) < ⊤) : NoTop (mxStep m s) := fun r c => by
  rw [mxStep_apply]; exact max_lt (max_lt (hm _ _) (h _ _)) (h _ _)
theorem rowReal_init (h : ∀ r : Fin 256, (⊥ : EReal) < s (ix2 r r)) : RowReal (mxInit s) := fun r => by
  by_cases hr : r.val < 128
  · refine ⟨⟨r.val, hr⟩, ?_⟩
    rw [mxInit_apply]; exact lt_max_of_lt_left (h r)
  · refine ⟨⟨r.val - 128, by omega⟩, ?_⟩
    rw [mxInit_apply]
    refine lt_max_of_lt_right ?_
    have e : (⟨128 + (r.val - 128), by omega⟩ : Fin 256) = r := Fin.ext (by show 128 + (r.val - 128) = r.val; omega)
    rw [e]; exact h r
theorem rowReal_step (h : ∀ r : Fin 256, (⊥ : EReal) < s (ix2 r r)) : RowReal (mxStep m s) := fun r => by
  by_cases hr : r.val < 128
  · refine ⟨⟨r.val, hr⟩, ?_⟩
    rw [mxStep_apply]; exact lt_max_of_lt_left (lt_max_of_lt_right (h r))
  · refine ⟨⟨r.val - 128, by omega⟩, ?_⟩
    rw [mxStep_apply]
    refine lt_max_of_lt_right ?_
    have e : (⟨128 + (r.val - 128), by omega⟩ : Fin 256) = r := Fin.ext (by show 128 + (r.val - 128) = r.val; omega)
    rw [e]; exact h r

theorem mxRow_real (hm : NoTop m) (hr : RowReal m) : ∃ M : Fin 256 → ℝ, ∀ (r : Fin 256) (c : Fin 128), mxRow m (ix2 r c) = ((M r : ℝ) : EReal) := by
  have hval : ∀ (r : Fin 256) (c : Fin 128), (mxRow m (ix2 r c) : EReal) = Finset.univ.fold max (⊥ : EReal) (fun x : Fin 128 => (m (ix2 r x) : EReal)) := by
    intro r c
    pointwise [mxRow]
    have : Ideal.ofBits .f32 4286578688#32 = (⊥ : EReal) := by
      simp [Ideal.ofBits, Ideal.ieee]
    rw [this]
  have hlt : ∀ r : Fin 256, Finset.univ.fold max (⊥ : EReal) (fun x : Fin 128 => (m (ix2 r x) : EReal)) < ⊤ := fun r =>
    (Finset.fold_max_lt _).2 ⟨bot_lt_top, fun x _ => hm r x⟩
  have hgt : ∀ r : Fin 256, ⊥ < Finset.univ.fold max (⊥ : EReal) (fun x : Fin 128 => (m (ix2 r x) : EReal)) := fun r => by
    obtain ⟨c, hc⟩ := hr r
    exact (Finset.lt_fold_max _).2 (.inr ⟨c, Finset.mem_univ _, hc⟩)
  refine ⟨fun r => (Finset.univ.fold max (⊥ : EReal) (fun x : Fin 128 => (m (ix2 r x) : EReal))).toReal, fun r c => ?_⟩
  rw [hval]
  exact (EReal.coe_toReal (hlt r).ne (hgt r).ne').symm
end Max

section Sum
variable (a m : FVec Ideal S256x128 .f32) (p0 p1 : Vec Ideal S256x128 .f32) (v : Vec Ideal S1x256x128 .bf16) (oc : FVec Ideal S256x128 .bf16)

theorem accInit_apply (r : Fin 256) (c : Fin 128) : (accInit (F := Ideal) (ix2 r c) : EReal) = 0 := by
  pointwise [accInit]

theorem accStep_apply (r : Fin 256) (c : Fin 128) : accStep a m p0 p1 v oc (ix2 r c) =
    (a (ix2 r c) : EReal) + ((∑ x : Fin 128, Ideal.exp2 ((p0 (ix2 r x) : EReal) - m (ix2 r x)) * ((v (ix3 0 ⟨x.val, by omega⟩ c) : EReal) + oc (ix2 ⟨x.val, by omega⟩ c)))
      + ∑ x : Fin 128, Ideal.exp2 ((p1 (ix2 r x) : EReal) - m (ix2 r x)) * ((v (ix3 0 ⟨128 + x.val, by omega⟩ c) : EReal) + oc (ix2 ⟨128 + x.val, by omega⟩ c))) := by
  pointwise [accStep, expHalf]
  rfl

theorem fin0_apply (r : Fin 256) (c : Fin 128) : (fin0 a (ix2 r c) : EReal) =
    if c.val / 64 = 0 then (a (ix2 r c) : EReal) * Ideal.div 1 (a (ix2 r 64)) else 0 := by
  pointwise [fin0]
  rw [own0_apply]
  by_cases h : c.val / 64 = 0
  · rw [if_pos h, if_pos h]; rfl
  · rw [if_neg h, if_neg h]; rfl
theorem fin1_apply (r : Fin 256) (c : Fin 128) : (fin1 a (ix2 r c) : EReal) =
    if c.val / 64 = 1 then (a (ix2 r c) : EReal) * Ideal.div 1 (a (ix2 r 0)) else 0 := by
  pointwise [fin1]
  rw [own1_apply]
  by_cases h : c.val / 64 = 1
  · rw [if_pos h, if_pos h]; rfl
  · rw [if_neg h, if_neg h]; rfl
theorem pairOut_apply (b : FVec Ideal S256x128 .f32) (r : Fin 256) (c : Fin 128) :
    (pairOut a b (ix3 0 r c) : EReal) = (a (ix2 r c) : EReal) + b (ix2 r c) := by
  pointwise [pairOut]
end Sum

end Cert.MlaIdeal.Att

end
-- ==== Proof.MlaSum.lean ====
/- The weighted sum block by block, and a unit's quotient as the textbook row of softmax attention. -/
module

public import proofs.«01_k».proof.Proof.MlaScore
public import proofs.«01_k».proof.Proof.FoxSoft

@[expose] public section

set_option maxRecDepth 16384

noncomputable section

namespace Cert.MlaIdeal.Att

open Cert.MlaIdeal Cert.MlaIdeal.Gen Idealize.ShloMosaic Idealize.ShloMosaic.TcCoe Cert.Soft

/-- The sum `a` runs over the first `n` columns: weights of the scores `f` shifted by `M`, against the values `V`. -/
def AccIs (a : FVec Ideal S256x128 .f32) (n : ℕ) (f : Fin 256 → ℕ → EReal) (M : Fin 256 → ℝ) (V : Fin 128 → ℕ → EReal) : Prop :=
  ∀ (r : Fin 256) (d : Fin 128), (a (ix2 r d) : EReal) = ∑ k ∈ Finset.range n, Ideal.exp2 (f r k - (M r : EReal)) * V d k

theorem acc_init (f : Fin 256 → ℕ → EReal) (M : Fin 256 → ℝ) (V : Fin 128 → ℕ → EReal) : AccIs accInit 0 f M V := fun r d => by
  rw [accInit_apply, Finset.range_zero, Finset.sum_empty]

theorem acc_step {a m : FVec Ideal S256x128 .f32} {p0 p1 : Vec Ideal S256x128 .f32} {v : Vec Ideal S1x256x128 .bf16} {oc : FVec Ideal S256x128 .bf16}
    {n : ℕ} {f : Fin 256 → ℕ → EReal} {M : Fin 256 → ℝ} {V : Fin 128 → ℕ → EReal} (h : AccIs a n f M V)
    (h0 : ∀ (r : Fin 256) (c : Fin 128), (p0 (ix2 r c) : EReal) = f r (n + c.val))
    (h1 : ∀ (r : Fin 256) (c : Fin 128), (p1 (ix2 r c) : EReal) = f r (n + 128 + c.val))
    (hm : ∀ (r : Fin 256) (c : Fin 128), m (ix2 r c) = ((M r : ℝ) : EReal))
    (hv : ∀ (r : Fin 256) (d : Fin 128), (v (ix3 0 r d) : EReal) + oc (ix2 r d) = V d (n + r.val)) :
    AccIs (accStep a m p0 p1 v oc) (n + 256) f M V := fun r d => by
  rw [accStep_apply, h r d, show n + 256 = n + 128 + 128 from rfl, Finset.sum_range_add, Finset.sum_range_add, add_assoc]
  congr 1
  rw [Finset.sum_range, Finset.sum_range]
  congr 1
  · refine Finset.sum_congr rfl fun x _ => ?_
    rw [h0, hm]
    exact congrArg _ (hv ⟨x.val, by omega⟩ d)
  · refine Finset.sum_congr rfl fun x _ => ?_
    rw [h1, hm]
    refine congrArg _ ((hv ⟨128 + x.val, by omega⟩ d).trans ?_)
    show V d (n + (128 + x.val)) = V d (n + 128 + x.val)
    rw [Nat.add_assoc]

/-- The values at natural row numbers. -/
def vN (x2 : Vec Ideal S1x2048x256 .bf16) (n : Fin 256) (k : ℕ) : EReal := if h : k < 2048 then (x2 (ix3 0 ⟨k, h⟩ n) : EReal) else 0
/-- Head `hh`'s value columns with the lane `L` set to one. -/
def vCol (hh : Fin 2) (L : ℕ) (x2 : Vec Ideal S1x2048x256 .bf16) (d : Fin 128) (k : ℕ) : EReal := vN x2 (lane hh d) k + (if d.val = L then 1 else 0)

theorem vCol_at (m4 : Memref sig .tc .vmem S1x2048x256 .bf16) (h4 : m4.IsWhole) (x2 : Vec Ideal S1x2048x256 .bf16) (hh : Fin 2) (L : ℕ)
    (oc : FVec Ideal S256x128 .bf16) (hoc : ∀ (r : Fin 256) (c : Fin 128), oc (ix2 r c) = if c.val = L then (1 : EReal) else 0)
    (o : ℕ) (ho : o + 256 ≤ 2048) (hl : 128 * hh.val + 128 ≤ 256) (r : Fin 256) (d : Fin 128) :
    ((ldRows m4 h4 x2 o (128 * hh.val) ho hl) (ix3 0 r d) : EReal) + oc (ix2 r d) = vCol hh L x2 d (o + r.val) := by
  rw [ldRows_apply, hoc, vCol, vN, dif_pos (by omega)]

/-- The textbook row: head `hh`'s values weighted by the softmax of the masked scores `A`, shifted by `m`. -/
def soft (hh : Fin 2) (A : Fin 2048 → Fin 2048 → ℝ) (m : Fin 2048 → ℝ) (x2 : Vec Ideal S1x2048x256 .bf16) (R : Fin 2048) (d : Fin 128) : EReal :=
  ∑ k : Fin 2048, (x2 (ix3 0 k (lane hh d)) : EReal)
    * Ideal.div (Ideal.exp (masked (k.val ≤ R.val) (A R k) - (m R : EReal))) (∑ k : Fin 2048, Ideal.exp (masked (k.val ≤ R.val) (A R k) - (m R : EReal)))

section Unit
variable {hh : Fin 2} {x0 : Vec Ideal S1x2048x256 .bf16} {x1 : Vec Ideal S1x256x2048 .bf16} {x2 : Vec Ideal S1x2048x256 .bf16}
  {A : Fin 2048 → Fin 2048 → ℝ}

/-- The logits are the scores `A` in units of log 2. -/
def LgIs (hh : Fin 2) (x0 : Vec Ideal S1x2048x256 .bf16) (x1 : Vec Ideal S1x256x2048 .bf16) (A : Fin 2048 → Fin 2048 → ℝ) : Prop :=
  ∀ R k : Fin 2048, lg hh x0 x1 R k = ((A R k * (Real.log 2)⁻¹ : ℝ) : EReal)

theorem sN_masked (hlg : LgIs hh x0 x1 A) (R k : Fin 2048) :
    sN hh x0 x1 R.val k.val = masked (k.val ≤ R.val) (A R k * (Real.log 2)⁻¹) := by
  unfold sN masked
  by_cases h : k.val ≤ R.val
  · rw [dif_pos ⟨h, R.isLt⟩, if_pos h]; exact hlg R k
  · rw [dif_neg (fun h' => h h'.1), if_neg h]

theorem sN_lt_top (hlg : LgIs hh x0 x1 A) (r c : ℕ) : sN hh x0 x1 r c < ⊤ := by
  unfold sN
  split_ifs with h
  · rw [hlg]; exact EReal.coe_lt_top _
  · exact bot_lt_top

theorem bot_lt_sN (hlg : LgIs hh x0 x1 A) (r : ℕ) (hr : r < 2048) : ⊥ < sN hh x0 x1 r r := by
  unfold sN
  rw [dif_pos ⟨le_rfl, hr⟩, hlg]; exact EReal.bot_lt_coe _

/-- A sum over the columns up to the block's end is the sum over all columns: the rest is masked. -/
theorem sum_all (R : Fin 2048) (n : ℕ) (hR : R.val < n) (hn : n ≤ 2048) (M : ℝ) (V : ℕ → EReal) :
    ∑ k ∈ Finset.range n, Ideal.exp2 (sN hh x0 x1 R.val k - (M : EReal)) * V k
      = ∑ k : Fin 2048, Ideal.exp2 (sN hh x0 x1 R.val k.val - (M : EReal)) * V k.val := by
  rw [Fin.sum_univ_eq_sum_range (fun k => Ideal.exp2 (sN hh x0 x1 R.val k - (M : EReal)) * V k) 2048]
  refine Finset.sum_subset (Finset.range_subset_range.2 hn) fun k _ hk => ?_
  have hk' : ¬ k < n := fun h => hk (Finset.mem_range.2 h)
  rw [sN, dif_neg (by omega), EReal.bot_sub, Ideal.exp2_bot, zero_mul]

theorem unit_quot (hlg : LgIs hh x0 x1 A) {a : FVec Ideal S256x128 .f32} {o : ℕ} (ho : o + 256 ≤ 2048) {L : ℕ} (hL : L < 128) (hz : ∀ k : Fin 2048, (x2 (ix3 0 k (lane hh ⟨L, hL⟩)) : EReal) = 0) {M : Fin 256 → ℝ}
    (ha : AccIs a (o + 256) (fun r k => sN hh x0 x1 (o + r.val) k) M (vCol hh L x2)) (m : Fin 2048 → ℝ) (r : Fin 256) (d : Fin 128) (hdL : d.val ≠ L) :
    (a (ix2 r d) : EReal) * Ideal.div 1 (a (ix2 r (⟨L, hL⟩ : Fin 128))) = soft hh A m x2 ⟨o + r.val, by omega⟩ d := by
  have e1 : (a (ix2 r d) : EReal) = ∑ k : Fin 2048, Ideal.exp2 (masked (k.val ≤ o + r.val) (A ⟨o + r.val, by omega⟩ k * (Real.log 2)⁻¹) - (M r : EReal)) * x2 (ix3 0 k (lane hh d)) := by
    rw [ha r d, sum_all ⟨o + r.val, by omega⟩ _ (by show o + r.val < o + 256; omega) ho]
    refine Finset.sum_congr rfl fun k _ => ?_
    rw [sN_masked hlg]
    congr 1
    rw [vCol, vN, dif_pos k.isLt, if_neg hdL, add_zero]
  have e2 : (a (ix2 r (⟨L, hL⟩ : Fin 128)) : EReal) = ∑ k : Fin 2048, Ideal.exp2 (masked (k.val ≤ o + r.val) (A ⟨o + r.val, by omega⟩ k * (Real.log 2)⁻¹) - (M r : EReal)) := by
    rw [ha r _, sum_all ⟨o + r.val, by omega⟩ _ (by show o + r.val < o + 256; omega) ho]
    refine Finset.sum_congr rfl fun k _ => ?_
    rw [sN_masked hlg, vCol, vN, dif_pos k.isLt, hz, if_pos rfl, zero_add, mul_one]
  rw [e1, e2]
  have h := row (fun k : Fin 2048 => k.val ≤ o + r.val) (A ⟨o + r.val, by omega⟩) 0 (M r) (m ⟨o + r.val, by omega⟩) (fun k => (x2 (ix3 0 k (lane hh d)) : EReal)) ⟨o + r.val, by omega⟩ le_rfl
  simp only [sub_zero] at h
  exact h

end Unit

end Cert.MlaIdeal.Att

end
-- ==== Proof.MlaUnit.lean ====
/- Each unit of the body read through: its score blocks, its slot of the stage, its row maxima, its weighted sum. -/
module

public import proofs.«01_k».proof.Proof.MlaOut
public import proofs.«01_k».proof.Proof.MlaRead
public import proofs.«01_k».proof.Proof.MlaSum

@[expose] public section

set_option maxRecDepth 16384

noncomputable section

namespace Cert.MlaIdeal.Att

open Cert.MlaIdeal Cert.MlaIdeal.Gen Idealize.ShloMosaic Idealize.ShloMosaic.TcCoe

variable {F : FTy → Type} [FloatOps F] [Named F]
variable (i : grid0.Coords) (arg2 : Memref sig .tc .vmem S1x2048x256 .bf16) (harg2 : arg2.IsWhole) (arg3 : Memref sig .tc .vmem S1x256x2048 .bf16) (harg3 : arg3.IsWhole)
  (arg4 : Memref sig .tc .vmem S1x2048x256 .bf16) (harg4 : arg4.IsWhole)
  (arg6 : Memref sig .tc .vmem S4x256x2048 .f32)
  (x0 : Vec Ideal S1x2048x256 .bf16) (x1 : Vec Ideal S1x256x2048 .bf16) (x2 : Vec Ideal S1x2048x256 .bf16)

/-- A unit's masked scores from row `o` on. -/
def sR (hh : Fin 2) (o : ℕ) : Fin 256 → ℕ → EReal := fun r k => sN hh x0 x1 (o + r.val) k

theorem sb0_0_at (r c : Fin 256) : (sb0_0 (F := Ideal) arg2 harg2 arg3 harg3 x0 x1 (ix2 r c) : EReal) = (sR x0 x1 0 0) r (0 + c.val) :=
  scoreDiag_at _ _ _ _ _ _ 0 0 (by norm_num) (by norm_num) (by norm_num) (by norm_num) r c
theorem sb1_0_at (r c : Fin 256) : (sb1_0 (F := Ideal) arg2 harg2 arg3 harg3 x0 x1 (ix2 r c) : EReal) = (sR x0 x1 1 0) r (0 + c.val) :=
  scoreDiag_at _ _ _ _ _ _ 1 0 (by norm_num) (by norm_num) (by norm_num) (by norm_num) r c
theorem sb2_0_at (r c : Fin 256) : (sb2_0 (F := Ideal) arg2 harg2 arg3 harg3 x0 x1 (ix2 r c) : EReal) = (sR x0 x1 0 256) r (0 + c.val) :=
  scoreOff_at _ _ _ _ _ _ 0 256 0 (by norm_num) (by norm_num) (by norm_num) (by norm_num) (by norm_num) r c
theorem sb2_1_at (r c : Fin 256) : (sb2_1 (F := Ideal) arg2 harg2 arg3 harg3 x0 x1 (ix2 r c) : EReal) = (sR x0 x1 0 256) r (256 + c.val) :=
  scoreDiag_at _ _ _ _ _ _ 0 256 (by norm_num) (by norm_num) (by norm_num) (by norm_num) r c
theorem sb3_0_at (r c : Fin 256) : (sb3_0 (F := Ideal) arg2 harg2 arg3 harg3 x0 x1 (ix2 r c) : EReal) = (sR x0 x1 1 256) r (0 + c.val) :=
  scoreOff_at _ _ _ _ _ _ 1 256 0 (by norm_num) (by norm_num) (by norm_num) (by norm_num) (by norm_num) r c
theorem sb3_1_at (r c : Fin 256) : (sb3_1 (F := Ideal) arg2 harg2 arg3 harg3 x0 x1 (ix2 r c) : EReal) = (sR x0 x1 1 256) r (256 + c.val) :=
  scoreDiag_at _ _ _ _ _ _ 1 256 (by norm_num) (by norm_num) (by norm_num) (by norm_num) r c
theorem sb4_0_at (r c : Fin 256) : (sb4_0 (F := Ideal) arg2 harg2 arg3 harg3 x0 x1 (ix2 r c) : EReal) = (sR x0 x1 0 512) r (0 + c.val) :=
  scoreOff_at _ _ _ _ _ _ 0 512 0 (by norm_num) (by norm_num) (by norm_num) (by norm_num) (by norm_num) r c
theorem sb4_1_at (r c : Fin 256) : (sb4_1 (F := Ideal) arg2 harg2 arg3 harg3 x0 x1 (ix2 r c) : EReal) = (sR x0 x1 0 512) r (256 + c.val) :=
  scoreOff_at _ _ _ _ _ _ 0 512 256 (by norm_num) (by norm_num) (by norm_num) (by norm_num) (by norm_num) r c
theorem sb4_2_at (r c : Fin 256) : (sb4_2 (F := Ideal) arg2 harg2 arg3 harg3 x0 x1 (ix2 r c) : EReal) = (sR x0 x1 0 512) r (512 + c.val) :=
  scoreDiag_at _ _ _ _ _ _ 0 512 (by norm_num) (by norm_num) (by norm_num) (by norm_num) r c
theorem sb5_0_at (r c : Fin 256) : (sb5_0 (F := Ideal) arg2 harg2 arg3 harg3 x0 x1 (ix2 r c) : EReal) = (sR x0 x1 1 512) r (0 + c.val) :=
  scoreOff_at _ _ _ _ _ _ 1 512 0 (by norm_num) (by norm_num) (by norm_num) (by norm_num) (by norm_num) r c
theorem sb5_1_at (r c : Fin 256) : (sb5_1 (F := Ideal) arg2 harg2 arg3 harg3 x0 x1 (ix2 r c) : EReal) = (sR x0 x1 1 512) r (256 + c.val) :=
  scoreOff_at _ _ _ _ _ _ 1 512 256 (by norm_num) (by norm_num) (by norm_num) (by norm_num) (by norm_num) r c
theorem sb5_2_at (r c : Fin 256) : (sb5_2 (F := Ideal) arg2 harg2 arg3 harg3 x0 x1 (ix2 r c) : EReal) = (sR x0 x1 1 512) r (512 + c.val) :=
  scoreDiag_at _ _ _ _ _ _ 1 512 (by norm_num) (by norm_num) (by norm_num) (by norm_num) r c
theorem sb6_0_at (r c : Fin 256) : (sb6_0 (F := Ideal) arg2 harg2 arg3 harg3 x0 x1 (ix2 r c) : EReal) = (sR x0 x1 0 768) r (0 + c.val) :=
  scoreOff_at _ _ _ _ _ _ 0 768 0 (by norm_num) (by norm_num) (by norm_num) (by norm_num) (by norm_num) r c
theorem sb6_1_at (r c : Fin 256) : (sb6_1 (F := Ideal) arg2 harg2 arg3 harg3 x0 x1 (ix2 r c) : EReal) = (sR x0 x1 0 768) r (256 + c.val) :=
  scoreOff_at _ _ _ _ _ _ 0 768 256 (by norm_num) (by norm_num) (by norm_num) (by norm_num) (by norm_num) r c
theorem sb6_2_at (r c : Fin 256) : (sb6_2 (F := Ideal) arg2 harg2 arg3 harg3 x0 x1 (ix2 r c) : EReal) = (sR x0 x1 0 768) r (512 + c.val) :=
  scoreOff_at _ _ _ _ _ _ 0 768 512 (by norm_num) (by norm_num) (by norm_num) (by norm_num) (by norm_num) r c
theorem sb6_3_at (r c : Fin 256) : (sb6_3 (F := Ideal) arg2 harg2 arg3 harg3 x0 x1 (ix2 r c) : EReal) = (sR x0 x1 0 768) r (768 + c.val) :=
  scoreDiag_at _ _ _ _ _ _ 0 768 (by norm_num) (by norm_num) (by norm_num) (by norm_num) r c
theorem sb7_0_at (r c : Fin 256) : (sb7_0 (F := Ideal) arg2 harg2 arg3 harg3 x0 x1 (ix2 r c) : EReal) = (sR x0 x1 1 768) r (0 + c.val) :=
  scoreOff_at _ _ _ _ _ _ 1 768 0 (by norm_num) (by norm_num) (by norm_num) (by norm_num) (by norm_num) r c
theorem sb7_1_at (r c : Fin 256) : (sb7_1 (F := Ideal) arg2 harg2 arg3 harg3 x0 x1 (ix2 r c) : EReal) = (sR x0 x1 1 768) r (256 + c.val) :=
  scoreOff_at _ _ _ _ _ _ 1 768 256 (by norm_num) (by norm_num) (by norm_num) (by norm_num) (by norm_num) r c
theorem sb7_2_at (r c : Fin 256) : (sb7_2 (F := Ideal) arg2 harg2 arg3 harg3 x0 x1 (ix2 r c) : EReal) = (sR x0 x1 1 768) r (512 + c.val) :=
  scoreOff_at _ _ _ _ _ _ 1 768 512 (by norm_num) (by norm_num) (by norm_num) (by norm_num) (by norm_num) r c
theorem sb7_3_at (r c : Fin 256) : (sb7_3 (F := Ideal) arg2 harg2 arg3 harg3 x0 x1 (ix2 r c) : EReal) = (sR x0 x1 1 768) r (768 + c.val) :=
  scoreDiag_at _ _ _ _ _ _ 1 768 (by norm_num) (by norm_num) (by norm_num) (by norm_num) r c
theorem sb8_0_at (r c : Fin 256) : (sb8_0 (F := Ideal) arg2 harg2 arg3 harg3 x0 x1 (ix2 r c) : EReal) = (sR x0 x1 0 1024) r (0 + c.val) :=
  scoreOff_at _ _ _ _ _ _ 0 1024 0 (by norm_num) (by norm_num) (by norm_num) (by norm_num) (by norm_num) r c
theorem sb8_1_at (r c : Fin 256) : (sb8_1 (F := Ideal) arg2 harg2 arg3 harg3 x0 x1 (ix2 r c) : EReal) = (sR x0 x1 0 1024) r (256 + c.val) :=
  scoreOff_at _ _ _ _ _ _ 0 1024 256 (by norm_num) (by norm_num) (by norm_num) (by norm_num) (by norm_num) r c
theorem sb8_2_at (r c : Fin 256) : (sb8_2 (F := Ideal) arg2 harg2 arg3 harg3 x0 x1 (ix2 r c) : EReal) = (sR x0 x1 0 1024) r (512 + c.val) :=
  scoreOff_at _ _ _ _ _ _ 0 1024 512 (by norm_num) (by norm_num) (by norm_num) (by norm_num) (by norm_num) r c
theorem sb8_3_at (r c : Fin 256) : (sb8_3 (F := Ideal) arg2 harg2 arg3 harg3 x0 x1 (ix2 r c) : EReal) = (sR x0 x1 0 1024) r (768 + c.val) :=
  scoreOff_at _ _ _ _ _ _ 0 1024 768 (by norm_num) (by norm_num) (by norm_num) (by norm_num) (by norm_num) r c
theorem sb8_4_at (r c : Fin 256) : (sb8_4 (F := Ideal) arg2 harg2 arg3 harg3 x0 x1 (ix2 r c) : EReal) = (sR x0 x1 0 1024) r (1024 + c.val) :=
  scoreDiag_at _ _ _ _ _ _ 0 1024 (by norm_num) (by norm_num) (by norm_num) (by norm_num) r c
theorem sb9_0_at (r c : Fin 256) : (sb9_0 (F := Ideal) arg2 harg2 arg3 harg3 x0 x1 (ix2 r c) : EReal) = (sR x0 x1 1 1024) r (0 + c.val) :=
  scoreOff_at _ _ _ _ _ _ 1 1024 0 (by norm_num) (by norm_num) (by norm_num) (by norm_num) (by norm_num) r c
theorem sb9_1_at (r c : Fin 256) : (sb9_1 (F := Ideal) arg2 harg2 arg3 harg3 x0 x1 (ix2 r c) : EReal) = (sR x0 x1 1 1024) r (256 + c.val) :=
  scoreOff_at _ _ _ _ _ _ 1 1024 256 (by norm_num) (by norm_num) (by norm_num) (by norm_num) (by norm_num) r c
theorem sb9_2_at (r c : Fin 256) : (sb9_2 (F := Ideal) arg2 harg2 arg3 harg3 x0 x1 (ix2 r c) : EReal) = (sR x0 x1 1 1024) r (512 + c.val) :=
  scoreOff_at _ _ _ _ _ _ 1 1024 512 (by norm_num) (by norm_num) (by norm_num) (by norm_num) (by norm_num) r c
theorem sb9_3_at (r c : Fin 256) : (sb9_3 (F := Ideal) arg2 harg2 arg3 harg3 x0 x1 (ix2 r c) : EReal) = (sR x0 x1 1 1024) r (768 + c.val) :=
  scoreOff_at _ _ _ _ _ _ 1 1024 768 (by norm_num) (by norm_num) (by norm_num) (by norm_num) (by norm_num) r c
theorem sb9_4_at (r c : Fin 256) : (sb9_4 (F := Ideal) arg2 harg2 arg3 harg3 x0 x1 (ix2 r c) : EReal) = (sR x0 x1 1 1024) r (1024 + c.val) :=
  scoreDiag_at _ _ _ _ _ _ 1 1024 (by norm_num) (by norm_num) (by norm_num) (by norm_num) r c
theorem sb10_0_at (r c : Fin 256) : (sb10_0 (F := Ideal) arg2 harg2 arg3 harg3 x0 x1 (ix2 r c) : EReal) = (sR x0 x1 0 1280) r (0 + c.val) :=
  scoreOff_at _ _ _ _ _ _ 0 1280 0 (by norm_num) (by norm_num) (by norm_num) (by norm_num) (by norm_num) r c
theorem sb10_1_at (r c : Fin 256) : (sb10_1 (F := Ideal) arg2 harg2 arg3 harg3 x0 x1 (ix2 r c) : EReal) = (sR x0 x1 0 1280) r (256 + c.val) :=
  scoreOff_at _ _ _ _ _ _ 0 1280 256 (by norm_num) (by norm_num) (by norm_num) (by norm_num) (by norm_num) r c
theorem sb10_2_at (r c : Fin 256) : (sb10_2 (F := Ideal) arg2 harg2 arg3 harg3 x0 x1 (ix2 r c) : EReal) = (sR x0 x1 0 1280) r (512 + c.val) :=
  scoreOff_at _ _ _ _ _ _ 0 1280 512 (by norm_num) (by norm_num) (by norm_num) (by norm_num) (by norm_num) r c
theorem sb10_3_at (r c : Fin 256) : (sb10_3 (F := Ideal) arg2 harg2 arg3 harg3 x0 x1 (ix2 r c) : EReal) = (sR x0 x1 0 1280) r (768 + c.val) :=
  scoreOff_at _ _ _ _ _ _ 0 1280 768 (by norm_num) (by norm_num) (by norm_num) (by norm_num) (by norm_num) r c
theorem sb10_4_at (r c : Fin 256) : (sb10_4 (F := Ideal) arg2 harg2 arg3 harg3 x0 x1 (ix2 r c) : EReal) = (sR x0 x1 0 1280) r (1024 + c.val) :=
  scoreOff_at _ _ _ _ _ _ 0 1280 1024 (by norm_num) (by norm_num) (by norm_num) (by norm_num) (by norm_num) r c
theorem sb10_5_at (r c : Fin 256) : (sb10_5 (F := Ideal) arg2 harg2 arg3 harg3 x0 x1 (ix2 r c) : EReal) = (sR x0 x1 0 1280) r (1280 + c.val) :=
  scoreDiag_at _ _ _ _ _ _ 0 1280 (by norm_num) (by norm_num) (by norm_num) (by norm_num) r c
theorem sb11_0_at (r c : Fin 256) : (sb11_0 (F := Ideal) arg2 harg2 arg3 harg3 x0 x1 (ix2 r c) : EReal) = (sR x0 x1 1 1280) r (0 + c.val) :=
  scoreOff_at _ _ _ _ _ _ 1 1280 0 (by norm_num) (by norm_num) (by norm_num) (by norm_num) (by norm_num) r c
theorem sb11_1_at (r c : Fin 256) : (sb11_1 (F := Ideal) arg2 harg2 arg3 harg3 x0 x1 (ix2 r c) : EReal) = (sR x0 x1 1 1280) r (256 + c.val) :=
  scoreOff_at _ _ _ _ _ _ 1 1280 256 (by norm_num) (by norm_num) (by norm_num) (by norm_num) (by norm_num) r c
theorem sb11_2_at (r c : Fin 256) : (sb11_2 (F := Ideal) arg2 harg2 arg3 harg3 x0 x1 (ix2 r c) : EReal) = (sR x0 x1 1 1280) r (512 + c.val) :=
  scoreOff_at _ _ _ _ _ _ 1 1280 512 (by norm_num) (by norm_num) (by norm_num) (by norm_num) (by norm_num) r c
theorem sb11_3_at (r c : Fin 256) : (sb11_3 (F := Ideal) arg2 harg2 arg3 harg3 x0 x1 (ix2 r c) : EReal) = (sR x0 x1 1 1280) r (768 + c.val) :=
  scoreOff_at _ _ _ _ _ _ 1 1280 768 (by norm_num) (by norm_num) (by norm_num) (by norm_num) (by norm_num) r c
theorem sb11_4_at (r c : Fin 256) : (sb11_4 (F := Ideal) arg2 harg2 arg3 harg3 x0 x1 (ix2 r c) : EReal) = (sR x0 x1 1 1280) r (1024 + c.val) :=
  scoreOff_at _ _ _ _ _ _ 1 1280 1024 (by norm_num) (by norm_num) (by norm_num) (by norm_num) (by norm_num) r c
theorem sb11_5_at (r c : Fin 256) : (sb11_5 (F := Ideal) arg2 harg2 arg3 harg3 x0 x1 (ix2 r c) : EReal) = (sR x0 x1 1 1280) r (1280 + c.val) :=
  scoreDiag_at _ _ _ _ _ _ 1 1280 (by norm_num) (by norm_num) (by norm_num) (by norm_num) r c
theorem sb12_0_at (r c : Fin 256) : (sb12_0 (F := Ideal) arg2 harg2 arg3 harg3 x0 x1 (ix2 r c) : EReal) = (sR x0 x1 0 1536) r (0 + c.val) :=
  scoreOff_at _ _ _ _ _ _ 0 1536 0 (by norm_num) (by norm_num) (by norm_num) (by norm_num) (by norm_num) r c
theorem sb12_1_at (r c : Fin 256) : (sb12_1 (F := Ideal) arg2 harg2 arg3 harg3 x0 x1 (ix2 r c) : EReal) = (sR x0 x1 0 1536) r (256 + c.val) :=
  scoreOff_at _ _ _ _ _ _ 0 1536 256 (by norm_num) (by norm_num) (by norm_num) (by norm_num) (by norm_num) r c
theorem sb12_2_at (r c : Fin 256) : (sb12_2 (F := Ideal) arg2 harg2 arg3 harg3 x0 x1 (ix2 r c) : EReal) = (sR x0 x1 0 1536) r (512 + c.val) :=
  scoreOff_at _ _ _ _ _ _ 0 1536 512 (by norm_num) (by norm_num) (by norm_num) (by norm_num) (by norm_num) r c
theorem sb12_3_at (r c : Fin 256) : (sb12_3 (F := Ideal) arg2 harg2 arg3 harg3 x0 x1 (ix2 r c) : EReal) = (sR x0 x1 0 1536) r (768 + c.val) :=
  scoreOff_at _ _ _ _ _ _ 0 1536 768 (by norm_num) (by norm_num) (by norm_num) (by norm_num) (by norm_num) r c
theorem sb12_4_at (r c : Fin 256) : (sb12_4 (F := Ideal) arg2 harg2 arg3 harg3 x0 x1 (ix2 r c) : EReal) = (sR x0 x1 0 1536) r (1024 + c.val) :=
  scoreOff_at _ _ _ _ _ _ 0 1536 1024 (by norm_num) (by norm_num) (by norm_num) (by norm_num) (by norm_num) r c
theorem sb12_5_at (r c : Fin 256) : (sb12_5 (F := Ideal) arg2 harg2 arg3 harg3 x0 x1 (ix2 r c) : EReal) = (sR x0 x1 0 1536) r (1280 + c.val) :=
  scoreOff_at _ _ _ _ _ _ 0 1536 1280 (by norm_num) (by norm_num) (by norm_num) (by norm_num) (by norm_num) r c
theorem sb12_6_at (r c : Fin 256) : (sb12_6 (F := Ideal) arg2 harg2 arg3 harg3 x0 x1 (ix2 r c) : EReal) = (sR x0 x1 0 1536) r (1536 + c.val) :=
  scoreDiag_at _ _ _ _ _ _ 0 1536 (by norm_num) (by norm_num) (by norm_num) (by norm_num) r c
theorem sb13_0_at (r c : Fin 256) : (sb13_0 (F := Ideal) arg2 harg2 arg3 harg3 x0 x1 (ix2 r c) : EReal) = (sR x0 x1 1 1536) r (0 + c.val) :=
  scoreOff_at _ _ _ _ _ _ 1 1536 0 (by norm_num) (by norm_num) (by norm_num) (by norm_num) (by norm_num) r c
theorem sb13_1_at (r c : Fin 256) : (sb13_1 (F := Ideal) arg2 harg2 arg3 harg3 x0 x1 (ix2 r c) : EReal) = (sR x0 x1 1 1536) r (256 + c.val) :=
  scoreOff_at _ _ _ _ _ _ 1 1536 256 (by norm_num) (by norm_num) (by norm_num) (by norm_num) (by norm_num) r c
theorem sb13_2_at (r c : Fin 256) : (sb13_2 (F := Ideal) arg2 harg2 arg3 harg3 x0 x1 (ix2 r c) : EReal) = (sR x0 x1 1 1536) r (512 + c.val) :=
  scoreOff_at _ _ _ _ _ _ 1 1536 512 (by norm_num) (by norm_num) (by norm_num) (by norm_num) (by norm_num) r c
theorem sb13_3_at (r c : Fin 256) : (sb13_3 (F := Ideal) arg2 harg2 arg3 harg3 x0 x1 (ix2 r c) : EReal) = (sR x0 x1 1 1536) r (768 + c.val) :=
  scoreOff_at _ _ _ _ _ _ 1 1536 768 (by norm_num) (by norm_num) (by norm_num) (by norm_num) (by norm_num) r c
theorem sb13_4_at (r c : Fin 256) : (sb13_4 (F := Ideal) arg2 harg2 arg3 harg3 x0 x1 (ix2 r c) : EReal) = (sR x0 x1 1 1536) r (1024 + c.val) :=
  scoreOff_at _ _ _ _ _ _ 1 1536 1024 (by norm_num) (by norm_num) (by norm_num) (by norm_num) (by norm_num) r c
theorem sb13_5_at (r c : Fin 256) : (sb13_5 (F := Ideal) arg2 harg2 arg3 harg3 x0 x1 (ix2 r c) : EReal) = (sR x0 x1 1 1536) r (1280 + c.val) :=
  scoreOff_at _ _ _ _ _ _ 1 1536 1280 (by norm_num) (by norm_num) (by norm_num) (by norm_num) (by norm_num) r c
theorem sb13_6_at (r c : Fin 256) : (sb13_6 (F := Ideal) arg2 harg2 arg3 harg3 x0 x1 (ix2 r c) : EReal) = (sR x0 x1 1 1536) r (1536 + c.val) :=
  scoreDiag_at _ _ _ _ _ _ 1 1536 (by norm_num) (by norm_num) (by norm_num) (by norm_num) r c
theorem sb14_0_at (r c : Fin 256) : (sb14_0 (F := Ideal) arg2 harg2 arg3 harg3 x0 x1 (ix2 r c) : EReal) = (sR x0 x1 0 1792) r (0 + c.val) :=
  scoreOff_at _ _ _ _ _ _ 0 1792 0 (by norm_num) (by norm_num) (by norm_num) (by norm_num) (by norm_num) r c
theorem sb14_1_at (r c : Fin 256) : (sb14_1 (F := Ideal) arg2 harg2 arg3 harg3 x0 x1 (ix2 r c) : EReal) = (sR x0 x1 0 1792) r (256 + c.val) :=
  scoreOff_at _ _ _ _ _ _ 0 1792 256 (by norm_num) (by norm_num) (by norm_num) (by norm_num) (by norm_num) r c
theorem sb14_2_at (r c : Fin 256) : (sb14_2 (F := Ideal) arg2 harg2 arg3 harg3 x0 x1 (ix2 r c) : EReal) = (sR x0 x1 0 1792) r (512 + c.val) :=
  scoreOff_at _ _ _ _ _ _ 0 1792 512 (by norm_num) (by norm_num) (by norm_num) (by norm_num) (by norm_num) r c
theorem sb14_3_at (r c : Fin 256) : (sb14_3 (F := Ideal) arg2 harg2 arg3 harg3 x0 x1 (ix2 r c) : EReal) = (sR x0 x1 0 1792) r (768 + c.val) :=
  scoreOff_at _ _ _ _ _ _ 0 1792 768 (by norm_num) (by norm_num) (by norm_num) (by norm_num) (by norm_num) r c
theorem sb14_4_at (r c : Fin 256) : (sb14_4 (F := Ideal) arg2 harg2 arg3 harg3 x0 x1 (ix2 r c) : EReal) = (sR x0 x1 0 1792) r (1024 + c.val) :=
  scoreOff_at _ _ _ _ _ _ 0 1792 1024 (by norm_num) (by norm_num) (by norm_num) (by norm_num) (by norm_num) r c
theorem sb14_5_at (r c : Fin 256) : (sb14_5 (F := Ideal) arg2 harg2 arg3 harg3 x0 x1 (ix2 r c) : EReal) = (sR x0 x1 0 1792) r (1280 + c.val) :=
  scoreOff_at _ _ _ _ _ _ 0 1792 1280 (by norm_num) (by norm_num) (by norm_num) (by norm_num) (by norm_num) r c
theorem sb14_6_at (r c : Fin 256) : (sb14_6 (F := Ideal) arg2 harg2 arg3 harg3 x0 x1 (ix2 r c) : EReal) = (sR x0 x1 0 1792) r (1536 + c.val) :=
  scoreOff_at _ _ _ _ _ _ 0 1792 1536 (by norm_num) (by norm_num) (by norm_num) (by norm_num) (by norm_num) r c
theorem sb14_7_at (r c : Fin 256) : (sb14_7 (F := Ideal) arg2 harg2 arg3 harg3 x0 x1 (ix2 r c) : EReal) = (sR x0 x1 0 1792) r (1792 + c.val) :=
  scoreDiag_at _ _ _ _ _ _ 0 1792 (by norm_num) (by norm_num) (by norm_num) (by norm_num) r c
theorem sb15_0_at (r c : Fin 256) : (sb15_0 (F := Ideal) arg2 harg2 arg3 harg3 x0 x1 (ix2 r c) : EReal) = (sR x0 x1 1 1792) r (0 + c.val) :=
  scoreOff_at _ _ _ _ _ _ 1 1792 0 (by norm_num) (by norm_num) (by norm_num) (by norm_num) (by norm_num) r c
theorem sb15_1_at (r c : Fin 256) : (sb15_1 (F := Ideal) arg2 harg2 arg3 harg3 x0 x1 (ix2 r c) : EReal) = (sR x0 x1 1 1792) r (256 + c.val) :=
  scoreOff_at _ _ _ _ _ _ 1 1792 256 (by norm_num) (by norm_num) (by norm_num) (by norm_num) (by norm_num) r c
theorem sb15_2_at (r c : Fin 256) : (sb15_2 (F := Ideal) arg2 harg2 arg3 harg3 x0 x1 (ix2 r c) : EReal) = (sR x0 x1 1 1792) r (512 + c.val) :=
  scoreOff_at _ _ _ _ _ _ 1 1792 512 (by norm_num) (by norm_num) (by norm_num) (by norm_num) (by norm_num) r c
theorem sb15_3_at (r c : Fin 256) : (sb15_3 (F := Ideal) arg2 harg2 arg3 harg3 x0 x1 (ix2 r c) : EReal) = (sR x0 x1 1 1792) r (768 + c.val) :=
  scoreOff_at _ _ _ _ _ _ 1 1792 768 (by norm_num) (by norm_num) (by norm_num) (by norm_num) (by norm_num) r c
theorem sb15_4_at (r c : Fin 256) : (sb15_4 (F := Ideal) arg2 harg2 arg3 harg3 x0 x1 (ix2 r c) : EReal) = (sR x0 x1 1 1792) r (1024 + c.val) :=
  scoreOff_at _ _ _ _ _ _ 1 1792 1024 (by norm_num) (by norm_num) (by norm_num) (by norm_num) (by norm_num) r c
theorem sb15_5_at (r c : Fin 256) : (sb15_5 (F := Ideal) arg2 harg2 arg3 harg3 x0 x1 (ix2 r c) : EReal) = (sR x0 x1 1 1792) r (1280 + c.val) :=
  scoreOff_at _ _ _ _ _ _ 1 1792 1280 (by norm_num) (by norm_num) (by norm_num) (by norm_num) (by norm_num) r c
theorem sb15_6_at (r c : Fin 256) : (sb15_6 (F := Ideal) arg2 harg2 arg3 harg3 x0 x1 (ix2 r c) : EReal) = (sR x0 x1 1 1792) r (1536 + c.val) :=
  scoreOff_at _ _ _ _ _ _ 1 1792 1536 (by norm_num) (by norm_num) (by norm_num) (by norm_num) (by norm_num) r c
theorem sb15_7_at (r c : Fin 256) : (sb15_7 (F := Ideal) arg2 harg2 arg3 harg3 x0 x1 (ix2 r c) : EReal) = (sR x0 x1 1 1792) r (1792 + c.val) :=
  scoreDiag_at _ _ _ _ _ _ 1 1792 (by norm_num) (by norm_num) (by norm_num) (by norm_num) r c
theorem holds0_0 : Holds (st0 (F := Ideal) arg2 harg2 arg3 harg3 x0 x1) 0 256 (by norm_num) (sR x0 x1 0 0) :=
  holds_same (holds_zero _ _ _ _) (sb0_0_at arg2 harg2 arg3 harg3 x0 x1)
theorem holds0_1 : Holds (st1 (F := Ideal) arg2 harg2 arg3 harg3 x0 x1) 0 256 (by norm_num) (sR x0 x1 0 0) :=
  holds_other (by norm_num) (holds0_0 arg2 harg2 arg3 harg3 x0 x1)
theorem holds1_1 : Holds (st1 (F := Ideal) arg2 harg2 arg3 harg3 x0 x1) 1 256 (by norm_num) (sR x0 x1 1 0) :=
  holds_same (holds_zero _ _ _ _) (sb1_0_at arg2 harg2 arg3 harg3 x0 x1)
theorem holds0_2 : Holds (st2 (F := Ideal) arg2 harg2 arg3 harg3 x0 x1) 0 256 (by norm_num) (sR x0 x1 0 0) :=
  holds_other (by norm_num) (holds_other (by norm_num) (holds0_1 arg2 harg2 arg3 harg3 x0 x1))
theorem holds1_2 : Holds (st2 (F := Ideal) arg2 harg2 arg3 harg3 x0 x1) 1 256 (by norm_num) (sR x0 x1 1 0) :=
  holds_other (by norm_num) (holds_other (by norm_num) (holds1_1 arg2 harg2 arg3 harg3 x0 x1))
theorem holds2_2 : Holds (st2 (F := Ideal) arg2 harg2 arg3 harg3 x0 x1) 2 512 (by norm_num) (sR x0 x1 0 256) :=
  holds_same (holds_same (holds_zero _ _ _ _) (sb2_0_at arg2 harg2 arg3 harg3 x0 x1)) (sb2_1_at arg2 harg2 arg3 harg3 x0 x1)
theorem holds0_3 : Holds (st3 (F := Ideal) arg2 harg2 arg3 harg3 x0 x1) 0 256 (by norm_num) (sR x0 x1 0 0) :=
  holds_other (by norm_num) (holds_other (by norm_num) (holds0_2 arg2 harg2 arg3 harg3 x0 x1))
theorem holds1_3 : Holds (st3 (F := Ideal) arg2 harg2 arg3 harg3 x0 x1) 1 256 (by norm_num) (sR x0 x1 1 0) :=
  holds_other (by norm_num) (holds_other (by norm_num) (holds1_2 arg2 harg2 arg3 harg3 x0 x1))
theorem holds2_3 : Holds (st3 (F := Ideal) arg2 harg2 arg3 harg3 x0 x1) 2 512 (by norm_num) (sR x0 x1 0 256) :=
  holds_other (by norm_num) (holds_other (by norm_num) (holds2_2 arg2 harg2 arg3 harg3 x0 x1))
theorem holds3_3 : Holds (st3 (F := Ideal) arg2 harg2 arg3 harg3 x0 x1) 3 512 (by norm_num) (sR x0 x1 1 256) :=
  holds_same (holds_same (holds_zero _ _ _ _) (sb3_0_at arg2 harg2 arg3 harg3 x0 x1)) (sb3_1_at arg2 harg2 arg3 harg3 x0 x1)
theorem holds1_4 : Holds (st4 (F := Ideal) arg2 harg2 arg3 harg3 x0 x1) 1 256 (by norm_num) (sR x0 x1 1 0) :=
  holds_other (by norm_num) (holds_other (by norm_num) (holds_other (by norm_num) (holds1_3 arg2 harg2 arg3 harg3 x0 x1)))
theorem holds2_4 : Holds (st4 (F := Ideal) arg2 harg2 arg3 harg3 x0 x1) 2 512 (by norm_num) (sR x0 x1 0 256) :=
  holds_other (by norm_num) (holds_other (by norm_num) (holds_other (by norm_num) (holds2_3 arg2 harg2 arg3 harg3 x0 x1)))
theorem holds3_4 : Holds (st4 (F := Ideal) arg2 harg2 arg3 harg3 x0 x1) 3 512 (by norm_num) (sR x0 x1 1 256) :=
  holds_other (by norm_num) (holds_other (by norm_num) (holds_other (by norm_num) (holds3_3 arg2 harg2 arg3 harg3 x0 x1)))
theorem holds4_4 : Holds (st4 (F := Ideal) arg2 harg2 arg3 harg3 x0 x1) 0 768 (by norm_num) (sR x0 x1 0 512) :=
  holds_same (holds_same (holds_same (holds_zero _ _ _ _) (sb4_0_at arg2 harg2 arg3 harg3 x0 x1)) (sb4_1_at arg2 harg2 arg3 harg3 x0 x1)) (sb4_2_at arg2 harg2 arg3 harg3 x0 x1)
theorem holds2_5 : Holds (st5 (F := Ideal) arg2 harg2 arg3 harg3 x0 x1) 2 512 (by norm_num) (sR x0 x1 0 256) :=
  holds_other (by norm_num) (holds_other (by norm_num) (holds_other (by norm_num) (holds2_4 arg2 harg2 arg3 harg3 x0 x1)))
theorem holds3_5 : Holds (st5 (F := Ideal) arg2 harg2 arg3 harg3 x0 x1) 3 512 (by norm_num) (sR x0 x1 1 256) :=
  holds_other (by norm_num) (holds_other (by norm_num) (holds_other (by norm_num) (holds3_4 arg2 harg2 arg3 harg3 x0 x1)))
theorem holds4_5 : Holds (st5 (F := Ideal) arg2 harg2 arg3 harg3 x0 x1) 0 768 (by norm_num) (sR x0 x1 0 512) :=
  holds_other (by norm_num) (holds_other (by norm_num) (holds_other (by norm_num) (holds4_4 arg2 harg2 arg3 harg3 x0 x1)))
theorem holds5_5 : Holds (st5 (F := Ideal) arg2 harg2 arg3 harg3 x0 x1) 1 768 (by norm_num) (sR x0 x1 1 512) :=
  holds_same (holds_same (holds_same (holds_zero _ _ _ _) (sb5_0_at arg2 harg2 arg3 harg3 x0 x1)) (sb5_1_at arg2 harg2 arg3 harg3 x0 x1)) (sb5_2_at arg2 harg2 arg3 harg3 x0 x1)
theorem holds3_6 : Holds (st6 (F := Ideal) arg2 harg2 arg3 harg3 x0 x1) 3 512 (by norm_num) (sR x0 x1 1 256) :=
  holds_other (by norm_num) (holds_other (by norm_num) (holds_other (by norm_num) (holds_other (by norm_num) (holds3_5 arg2 harg2 arg3 harg3 x0 x1))))
theorem holds4_6 : Holds (st6 (F := Ideal) arg2 harg2 arg3 harg3 x0 x1) 0 768 (by norm_num) (sR x0 x1 0 512) :=
  holds_other (by norm_num) (holds_other (by norm_num) (holds_other (by norm_num) (holds_other (by norm_num) (holds4_5 arg2 harg2 arg3 harg3 x0 x1))))
theorem holds5_6 : Holds (st6 (F := Ideal) arg2 harg2 arg3 harg3 x0 x1) 1 768 (by norm_num) (sR x0 x1 1 512) :=
  holds_other (by norm_num) (holds_other (by norm_num) (holds_other (by norm_num) (holds_other (by norm_num) (holds5_5 arg2 harg2 arg3 harg3 x0 x1))))
theorem holds6_6 : Holds (st6 (F := Ideal) arg2 harg2 arg3 harg3 x0 x1) 2 1024 (by norm_num) (sR x0 x1 0 768) :=
  holds_same (holds_same (holds_same (holds_same (holds_zero _ _ _ _) (sb6_0_at arg2 harg2 arg3 harg3 x0 x1)) (sb6_1_at arg2 harg2 arg3 harg3 x0 x1)) (sb6_2_at arg2 harg2 arg3 harg3 x0 x1)) (sb6_3_at arg2 harg2 arg3 harg3 x0 x1)
theorem holds4_7 : Holds (st7 (F := Ideal) arg2 harg2 arg3 harg3 x0 x1) 0 768 (by norm_num) (sR x0 x1 0 512) :=
  holds_other (by norm_num) (holds_other (by norm_num) (holds_other (by norm_num) (holds_other (by norm_num) (holds4_6 arg2 harg2 arg3 harg3 x0 x1))))
theorem holds5_7 : Holds (st7 (F := Ideal) arg2 harg2 arg3 harg3 x0 x1) 1 768 (by norm_num) (sR x0 x1 1 512) :=
  holds_other (by norm_num) (holds_other (by norm_num) (holds_other (by norm_num) (holds_other (by norm_num) (holds5_6 arg2 harg2 arg3 harg3 x0 x1))))
theorem holds6_7 : Holds (st7 (F := Ideal) arg2 harg2 arg3 harg3 x0 x1) 2 1024 (by norm_num) (sR x0 x1 0 768) :=
  holds_other (by norm_num) (holds_other (by norm_num) (holds_other (by norm_num) (holds_other (by norm_num) (holds6_6 arg2 harg2 arg3 harg3 x0 x1))))
theorem holds7_7 : Holds (st7 (F := Ideal) arg2 harg2 arg3 harg3 x0 x1) 3 1024 (by norm_num) (sR x0 x1 1 768) :=
  holds_same (holds_same (holds_same (holds_same (holds_zero _ _ _ _) (sb7_0_at arg2 harg2 arg3 harg3 x0 x1)) (sb7_1_at arg2 harg2 arg3 harg3 x0 x1)) (sb7_2_at arg2 harg2 arg3 harg3 x0 x1)) (sb7_3_at arg2 harg2 arg3 harg3 x0 x1)
theorem holds5_8 : Holds (st8 (F := Ideal) arg2 harg2 arg3 harg3 x0 x1) 1 768 (by norm_num) (sR x0 x1 1 512) :=
  holds_other (by norm_num) (holds_other (by norm_num) (holds_other (by norm_num) (holds_other (by norm_num) (holds_other (by norm_num) (holds5_7 arg2 harg2 arg3 harg3 x0 x1)))))
theorem holds6_8 : Holds (st8 (F := Ideal) arg2 harg2 arg3 harg3 x0 x1) 2 1024 (by norm_num) (sR x0 x1 0 768) :=
  holds_other (by norm_num) (holds_other (by norm_num) (holds_other (by norm_num) (holds_other (by norm_num) (holds_other (by norm_num) (holds6_7 arg2 harg2 arg3 harg3 x0 x1)))))
theorem holds7_8 : Holds (st8 (F := Ideal) arg2 harg2 arg3 harg3 x0 x1) 3 1024 (by norm_num) (sR x0 x1 1 768) :=
  holds_other (by norm_num) (holds_other (by norm_num) (holds_other (by norm_num) (holds_other (by norm_num) (holds_other (by norm_num) (holds7_7 arg2 harg2 arg3 harg3 x0 x1)))))
theorem holds8_8 : Holds (st8 (F := Ideal) arg2 harg2 arg3 harg3 x0 x1) 0 1280 (by norm_num) (sR x0 x1 0 1024) :=
  holds_same (holds_same (holds_same (holds_same (holds_same (holds_zero _ _ _ _) (sb8_0_at arg2 harg2 arg3 harg3 x0 x1)) (sb8_1_at arg2 harg2 arg3 harg3 x0 x1)) (sb8_2_at arg2 harg2 arg3 harg3 x0 x1)) (sb8_3_at arg2 harg2 arg3 harg3 x0 x1)) (sb8_4_at arg2 harg2 arg3 harg3 x0 x1)
theorem holds6_9 : Holds (st9 (F := Ideal) arg2 harg2 arg3 harg3 x0 x1) 2 1024 (by norm_num) (sR x0 x1 0 768) :=
  holds_other (by norm_num) (holds_other (by norm_num) (holds_other (by norm_num) (holds_other (by norm_num) (holds_other (by norm_num) (holds6_8 arg2 harg2 arg3 harg3 x0 x1)))))
theorem holds7_9 : Holds (st9 (F := Ideal) arg2 harg2 arg3 harg3 x0 x1) 3 1024 (by norm_num) (sR x0 x1 1 768) :=
  holds_other (by norm_num) (holds_other (by norm_num) (holds_other (by norm_num) (holds_other (by norm_num) (holds_other (by norm_num) (holds7_8 arg2 harg2 arg3 harg3 x0 x1)))))
theorem holds8_9 : Holds (st9 (F := Ideal) arg2 harg2 arg3 harg3 x0 x1) 0 1280 (by norm_num) (sR x0 x1 0 1024) :=
  holds_other (by norm_num) (holds_other (by norm_num) (holds_other (by norm_num) (holds_other (by norm_num) (holds_other (by norm_num) (holds8_8 arg2 harg2 arg3 harg3 x0 x1)))))
theorem holds9_9 : Holds (st9 (F := Ideal) arg2 harg2 arg3 harg3 x0 x1) 1 1280 (by norm_num) (sR x0 x1 1 1024) :=
  holds_same (holds_same (holds_same (holds_same (holds_same (holds_zero _ _ _ _) (sb9_0_at arg2 harg2 arg3 harg3 x0 x1)) (sb9_1_at arg2 harg2 arg3 harg3 x0 x1)) (sb9_2_at arg2 harg2 arg3 harg3 x0 x1)) (sb9_3_at arg2 harg2 arg3 harg3 x0 x1)) (sb9_4_at arg2 harg2 arg3 harg3 x0 x1)
theorem holds7_10 : Holds (st10 (F := Ideal) arg2 harg2 arg3 harg3 x0 x1) 3 1024 (by norm_num) (sR x0 x1 1 768) :=
  holds_other (by norm_num) (holds_other (by norm_num) (holds_other (by norm_num) (holds_other (by norm_num) (holds_other (by norm_num) (holds_other (by norm_num) (holds7_9 arg2 harg2 arg3 harg3 x0 x1))))))
theorem holds8_10 : Holds (st10 (F := Ideal) arg2 harg2 arg3 harg3 x0 x1) 0 1280 (by norm_num) (sR x0 x1 0 1024) :=
  holds_other (by norm_num) (holds_other (by norm_num) (holds_other (by norm_num) (holds_other (by norm_num) (holds_other (by norm_num) (holds_other (by norm_num) (holds8_9 arg2 harg2 arg3 harg3 x0 x1))))))
theorem holds9_10 : Holds (st10 (F := Ideal) arg2 harg2 arg3 harg3 x0 x1) 1 1280 (by norm_num) (sR x0 x1 1 1024) :=
  holds_other (by norm_num) (holds_other (by norm_num) (holds_other (by norm_num) (holds_other (by norm_num) (holds_other (by norm_num) (holds_other (by norm_num) (holds9_9 arg2 harg2 arg3 harg3 x0 x1))))))
theorem holds10_10 : Holds (st10 (F := Ideal) arg2 harg2 arg3 harg3 x0 x1) 2 1536 (by norm_num) (sR x0 x1 0 1280) :=
  holds_same (holds_same (holds_same (holds_same (holds_same (holds_same (holds_zero _ _ _ _) (sb10_0_at arg2 harg2 arg3 harg3 x0 x1)) (sb10_1_at arg2 harg2 arg3 harg3 x0 x1)) (sb10_2_at arg2 harg2 arg3 harg3 x0 x1)) (sb10_3_at arg2 harg2 arg3 harg3 x0 x1)) (sb10_4_at arg2 harg2 arg3 harg3 x0 x1)) (sb10_5_at arg2 harg2 arg3 harg3 x0 x1)
theorem holds8_11 : Holds (st11 (F := Ideal) arg2 harg2 arg3 harg3 x0 x1) 0 1280 (by norm_num) (sR x0 x1 0 1024) :=
  holds_other (by norm_num) (holds_other (by norm_num) (holds_other (by norm_num) (holds_other (by norm_num) (holds_other (by norm_num) (holds_other (by norm_num) (holds8_10 arg2 harg2 arg3 harg3 x0 x1))))))
theorem holds9_11 : Holds (st11 (F := Ideal) arg2 harg2 arg3 harg3 x0 x1) 1 1280 (by norm_num) (sR x0 x1 1 1024) :=
  holds_other (by norm_num) (holds_other (by norm_num) (holds_other (by norm_num) (holds_other (by norm_num) (holds_other (by norm_num) (holds_other (by norm_num) (holds9_10 arg2 harg2 arg3 harg3 x0 x1))))))
theorem holds10_11 : Holds (st11 (F := Ideal) arg2 harg2 arg3 harg3 x0 x1) 2 1536 (by norm_num) (sR x0 x1 0 1280) :=
  holds_other (by norm_num) (holds_other (by norm_num) (holds_other (by norm_num) (holds_other (by norm_num) (holds_other (by norm_num) (holds_other (by norm_num) (holds10_10 arg2 harg2 arg3 harg3 x0 x1))))))
theorem holds11_11 : Holds (st11 (F := Ideal) arg2 harg2 arg3 harg3 x0 x1) 3 1536 (by norm_num) (sR x0 x1 1 1280) :=
  holds_same (holds_same (holds_same (holds_same (holds_same (holds_same (holds_zero _ _ _ _) (sb11_0_at arg2 harg2 arg3 harg3 x0 x1)) (sb11_1_at arg2 harg2 arg3 harg3 x0 x1)) (sb11_2_at arg2 harg2 arg3 harg3 x0 x1)) (sb11_3_at arg2 harg2 arg3 harg3 x0 x1)) (sb11_4_at arg2 harg2 arg3 harg3 x0 x1)) (sb11_5_at arg2 harg2 arg3 harg3 x0 x1)
theorem holds9_12 : Holds (st12 (F := Ideal) arg2 harg2 arg3 harg3 x0 x1) 1 1280 (by norm_num) (sR x0 x1 1 1024) :=
  holds_other (by norm_num) (holds_other (by norm_num) (holds_other (by norm_num) (holds_other (by norm_num) (holds_other (by norm_num) (holds_other (by norm_num) (holds_other (by norm_num) (holds9_11 arg2 harg2 arg3 harg3 x0 x1)))))))
theorem holds10_12 : Holds (st12 (F := Ideal) arg2 harg2 arg3 harg3 x0 x1) 2 1536 (by norm_num) (sR x0 x1 0 1280) :=
  holds_other (by norm_num) (holds_other (by norm_num) (holds_other (by norm_num) (holds_other (by norm_num) (holds_other (by norm_num) (holds_other (by norm_num) (holds_other (by norm_num) (holds10_11 arg2 harg2 arg3 harg3 x0 x1)))))))
theorem holds11_12 : Holds (st12 (F := Ideal) arg2 harg2 arg3 harg3 x0 x1) 3 1536 (by norm_num) (sR x0 x1 1 1280) :=
  holds_other (by norm_num) (holds_other (by norm_num) (holds_other (by norm_num) (holds_other (by norm_num) (holds_other (by norm_num) (holds_other (by norm_num) (holds_other (by norm_num) (holds11_11 arg2 harg2 arg3 harg3 x0 x1)))))))
theorem holds12_12 : Holds (st12 (F := Ideal) arg2 harg2 arg3 harg3 x0 x1) 0 1792 (by norm_num) (sR x0 x1 0 1536) :=
  holds_same (holds_same (holds_same (holds_same (holds_same (holds_same (holds_same (holds_zero _ _ _ _) (sb12_0_at arg2 harg2 arg3 harg3 x0 x1)) (sb12_1_at arg2 harg2 arg3 harg3 x0 x1)) (sb12_2_at arg2 harg2 arg3 harg3 x0 x1)) (sb12_3_at arg2 harg2 arg3 harg3 x0 x1)) (sb12_4_at arg2 harg2 arg3 harg3 x0 x1)) (sb12_5_at arg2 harg2 arg3 harg3 x0 x1)) (sb12_6_at arg2 harg2 arg3 harg3 x0 x1)
theorem holds10_13 : Holds (st13 (F := Ideal) arg2 harg2 arg3 harg3 x0 x1) 2 1536 (by norm_num) (sR x0 x1 0 1280) :=
  holds_other (by norm_num) (holds_other (by norm_num) (holds_other (by norm_num) (holds_other (by norm_num) (holds_other (by norm_num) (holds_other (by norm_num) (holds_other (by norm_num) (holds10_12 arg2 harg2 arg3 harg3 x0 x1)))))))
theorem holds11_13 : Holds (st13 (F := Ideal) arg2 harg2 arg3 harg3 x0 x1) 3 1536 (by norm_num) (sR x0 x1 1 1280) :=
  holds_other (by norm_num) (holds_other (by norm_num) (holds_other (by norm_num) (holds_other (by norm_num) (holds_other (by norm_num) (holds_other (by norm_num) (holds_other (by norm_num) (holds11_12 arg2 harg2 arg3 harg3 x0 x1)))))))
theorem holds12_13 : Holds (st13 (F := Ideal) arg2 harg2 arg3 harg3 x0 x1) 0 1792 (by norm_num) (sR x0 x1 0 1536) :=
  holds_other (by norm_num) (holds_other (by norm_num) (holds_other (by norm_num) (holds_other (by norm_num) (holds_other (by norm_num) (holds_other (by norm_num) (holds_other (by norm_num) (holds12_12 arg2 harg2 arg3 harg3 x0 x1)))))))
theorem holds13_13 : Holds (st13 (F := Ideal) arg2 harg2 arg3 harg3 x0 x1) 1 1792 (by norm_num) (sR x0 x1 1 1536) :=
  holds_same (holds_same (holds_same (holds_same (holds_same (holds_same (holds_same (holds_zero _ _ _ _) (sb13_0_at arg2 harg2 arg3 harg3 x0 x1)) (sb13_1_at arg2 harg2 arg3 harg3 x0 x1)) (sb13_2_at arg2 harg2 arg3 harg3 x0 x1)) (sb13_3_at arg2 harg2 arg3 harg3 x0 x1)) (sb13_4_at arg2 harg2 arg3 harg3 x0 x1)) (sb13_5_at arg2 harg2 arg3 harg3 x0 x1)) (sb13_6_at arg2 harg2 arg3 harg3 x0 x1)
theorem holds11_14 : Holds (st14 (F := Ideal) arg2 harg2 arg3 harg3 x0 x1) 3 1536 (by norm_num) (sR x0 x1 1 1280) :=
  holds_other (by norm_num) (holds_other (by norm_num) (holds_other (by norm_num) (holds_other (by norm_num) (holds_other (by norm_num) (holds_other (by norm_num) (holds_other (by norm_num) (holds_other (by norm_num) (holds11_13 arg2 harg2 arg3 harg3 x0 x1))))))))
theorem holds12_14 : Holds (st14 (F := Ideal) arg2 harg2 arg3 harg3 x0 x1) 0 1792 (by norm_num) (sR x0 x1 0 1536) :=
  holds_other (by norm_num) (holds_other (by norm_num) (holds_other (by norm_num) (holds_other (by norm_num) (holds_other (by norm_num) (holds_other (by norm_num) (holds_other (by norm_num) (holds_other (by norm_num) (holds12_13 arg2 harg2 arg3 harg3 x0 x1))))))))
theorem holds13_14 : Holds (st14 (F := Ideal) arg2 harg2 arg3 harg3 x0 x1) 1 1792 (by norm_num) (sR x0 x1 1 1536) :=
  holds_other (by norm_num) (holds_other (by norm_num) (holds_other (by norm_num) (holds_other (by norm_num) (holds_other (by norm_num) (holds_other (by norm_num) (holds_other (by norm_num) (holds_other (by norm_num) (holds13_13 arg2 harg2 arg3 harg3 x0 x1))))))))
theorem holds14_14 : Holds (st14 (F := Ideal) arg2 harg2 arg3 harg3 x0 x1) 2 2048 (by norm_num) (sR x0 x1 0 1792) :=
  holds_same (holds_same (holds_same (holds_same (holds_same (holds_same (holds_same (holds_same (holds_zero _ _ _ _) (sb14_0_at arg2 harg2 arg3 harg3 x0 x1)) (sb14_1_at arg2 harg2 arg3 harg3 x0 x1)) (sb14_2_at arg2 harg2 arg3 harg3 x0 x1)) (sb14_3_at arg2 harg2 arg3 harg3 x0 x1)) (sb14_4_at arg2 harg2 arg3 harg3 x0 x1)) (sb14_5_at arg2 harg2 arg3 harg3 x0 x1)) (sb14_6_at arg2 harg2 arg3 harg3 x0 x1)) (sb14_7_at arg2 harg2 arg3 harg3 x0 x1)
theorem holds12_15 : Holds (st15 (F := Ideal) arg2 harg2 arg3 harg3 x0 x1) 0 1792 (by norm_num) (sR x0 x1 0 1536) :=
  holds_other (by norm_num) (holds_other (by norm_num) (holds_other (by norm_num) (holds_other (by norm_num) (holds_other (by norm_num) (holds_other (by norm_num) (holds_other (by norm_num) (holds_other (by norm_num) (holds12_14 arg2 harg2 arg3 harg3 x0 x1))))))))
theorem holds13_15 : Holds (st15 (F := Ideal) arg2 harg2 arg3 harg3 x0 x1) 1 1792 (by norm_num) (sR x0 x1 1 1536) :=
  holds_other (by norm_num) (holds_other (by norm_num) (holds_other (by norm_num) (holds_other (by norm_num) (holds_other (by norm_num) (holds_other (by norm_num) (holds_other (by norm_num) (holds_other (by norm_num) (holds13_14 arg2 harg2 arg3 harg3 x0 x1))))))))
theorem holds14_15 : Holds (st15 (F := Ideal) arg2 harg2 arg3 harg3 x0 x1) 2 2048 (by norm_num) (sR x0 x1 0 1792) :=
  holds_other (by norm_num) (holds_other (by norm_num) (holds_other (by norm_num) (holds_other (by norm_num) (holds_other (by norm_num) (holds_other (by norm_num) (holds_other (by norm_num) (holds_other (by norm_num) (holds14_14 arg2 harg2 arg3 harg3 x0 x1))))))))
theorem holds15_15 : Holds (st15 (F := Ideal) arg2 harg2 arg3 harg3 x0 x1) 3 2048 (by norm_num) (sR x0 x1 1 1792) :=
  holds_same (holds_same (holds_same (holds_same (holds_same (holds_same (holds_same (holds_same (holds_zero _ _ _ _) (sb15_0_at arg2 harg2 arg3 harg3 x0 x1)) (sb15_1_at arg2 harg2 arg3 harg3 x0 x1)) (sb15_2_at arg2 harg2 arg3 harg3 x0 x1)) (sb15_3_at arg2 harg2 arg3 harg3 x0 x1)) (sb15_4_at arg2 harg2 arg3 harg3 x0 x1)) (sb15_5_at arg2 harg2 arg3 harg3 x0 x1)) (sb15_6_at arg2 harg2 arg3 harg3 x0 x1)) (sb15_7_at arg2 harg2 arg3 harg3 x0 x1)

section Real
variable {A0 A1 : Fin 2048 → Fin 2048 → ℝ}
variable (hl0 : LgIs 0 x0 x1 A0) (hl1 : LgIs 1 x0 x1 A1)
include hl0 in
theorem mx0_real : ∃ M : Fin 256 → ℝ, ∀ (r : Fin 256) (c : Fin 128), mx0 (F := Ideal) arg2 harg2 arg3 harg3 x0 x1 (ix2 r c) = ((M r : ℝ) : EReal) := by
  unfold mx0
  exact mxRow_real (noTop_init (fun r c => by rw [sb0_0_at]; exact sN_lt_top hl0 _ _)) (rowReal_init (fun r => by rw [sb0_0_at]; exact bot_lt_sN hl0 _ (by omega)))
include hl1 in
theorem mx1_real : ∃ M : Fin 256 → ℝ, ∀ (r : Fin 256) (c : Fin 128), mx1 (F := Ideal) arg2 harg2 arg3 harg3 x0 x1 (ix2 r c) = ((M r : ℝ) : EReal) := by
  unfold mx1
  exact mxRow_real (noTop_init (fun r c => by rw [sb1_0_at]; exact sN_lt_top hl1 _ _)) (rowReal_init (fun r => by rw [sb1_0_at]; exact bot_lt_sN hl1 _ (by omega)))
include hl0 in
theorem mx2_real : ∃ M : Fin 256 → ℝ, ∀ (r : Fin 256) (c : Fin 128), mx2 (F := Ideal) arg2 harg2 arg3 harg3 x0 x1 (ix2 r c) = ((M r : ℝ) : EReal) := by
  unfold mx2
  exact mxRow_real (noTop_step (noTop_init (fun r c => by rw [sb2_0_at]; exact sN_lt_top hl0 _ _)) (fun r c => by rw [sb2_1_at]; exact sN_lt_top hl0 _ _)) (rowReal_step (fun r => by rw [sb2_1_at]; exact bot_lt_sN hl0 _ (by omega)))
include hl1 in
theorem mx3_real : ∃ M : Fin 256 → ℝ, ∀ (r : Fin 256) (c : Fin 128), mx3 (F := Ideal) arg2 harg2 arg3 harg3 x0 x1 (ix2 r c) = ((M r : ℝ) : EReal) := by
  unfold mx3
  exact mxRow_real (noTop_step (noTop_init (fun r c => by rw [sb3_0_at]; exact sN_lt_top hl1 _ _)) (fun r c => by rw [sb3_1_at]; exact sN_lt_top hl1 _ _)) (rowReal_step (fun r => by rw [sb3_1_at]; exact bot_lt_sN hl1 _ (by omega)))
include hl0 in
theorem mx4_real : ∃ M : Fin 256 → ℝ, ∀ (r : Fin 256) (c : Fin 128), mx4 (F := Ideal) arg2 harg2 arg3 harg3 x0 x1 (ix2 r c) = ((M r : ℝ) : EReal) := by
  unfold mx4
  exact mxRow_real (noTop_step (noTop_step (noTop_init (fun r c => by rw [sb4_0_at]; exact sN_lt_top hl0 _ _)) (fun r c => by rw [sb4_1_at]; exact sN_lt_top hl0 _ _)) (fun r c => by rw [sb4_2_at]; exact sN_lt_top hl0 _ _)) (rowReal_step (fun r => by rw [sb4_2_at]; exact bot_lt_sN hl0 _ (by omega)))
include hl1 in
theorem mx5_real : ∃ M : Fin 256 → ℝ, ∀ (r : Fin 256) (c : Fin 128), mx5 (F := Ideal) arg2 harg2 arg3 harg3 x0 x1 (ix2 r c) = ((M r : ℝ) : EReal) := by
  unfold mx5
  exact mxRow_real (noTop_step (noTop_step (noTop_init (fun r c => by rw [sb5_0_at]; exact sN_lt_top hl1 _ _)) (fun r c => by rw [sb5_1_at]; exact sN_lt_top hl1 _ _)) (fun r c => by rw [sb5_2_at]; exact sN_lt_top hl1 _ _)) (rowReal_step (fun r => by rw [sb5_2_at]; exact bot_lt_sN hl1 _ (by omega)))
include hl0 in
theorem mx6_real : ∃ M : Fin 256 → ℝ, ∀ (r : Fin 256) (c : Fin 128), mx6 (F := Ideal) arg2 harg2 arg3 harg3 x0 x1 (ix2 r c) = ((M r : ℝ) : EReal) := by
  unfold mx6
  exact mxRow_real (noTop_step (noTop_step (noTop_step (noTop_init (fun r c => by rw [sb6_0_at]; exact sN_lt_top hl0 _ _)) (fun r c => by rw [sb6_1_at]; exact sN_lt_top hl0 _ _)) (fun r c => by rw [sb6_2_at]; exact sN_lt_top hl0 _ _)) (fun r c => by rw [sb6_3_at]; exact sN_lt_top hl0 _ _)) (rowReal_step (fun r => by rw [sb6_3_at]; exact bot_lt_sN hl0 _ (by omega)))
include hl1 in
theorem mx7_real : ∃ M : Fin 256 → ℝ, ∀ (r : Fin 256) (c : Fin 128), mx7 (F := Ideal) arg2 harg2 arg3 harg3 x0 x1 (ix2 r c) = ((M r : ℝ) : EReal) := by
  unfold mx7
  exact mxRow_real (noTop_step (noTop_step (noTop_step (noTop_init (fun r c => by rw [sb7_0_at]; exact sN_lt_top hl1 _ _)) (fun r c => by rw [sb7_1_at]; exact sN_lt_top hl1 _ _)) (fun r c => by rw [sb7_2_at]; exact sN_lt_top hl1 _ _)) (fun r c => by rw [sb7_3_at]; exact sN_lt_top hl1 _ _)) (rowReal_step (fun r => by rw [sb7_3_at]; exact bot_lt_sN hl1 _ (by omega)))
include hl0 in
theorem mx8_real : ∃ M : Fin 256 → ℝ, ∀ (r : Fin 256) (c : Fin 128), mx8 (F := Ideal) arg2 harg2 arg3 harg3 x0 x1 (ix2 r c) = ((M r : ℝ) : EReal) := by
  unfold mx8
  exact mxRow_real (noTop_step (noTop_step (noTop_step (noTop_step (noTop_init (fun r c => by rw [sb8_0_at]; exact sN_lt_top hl0 _ _)) (fun r c => by rw [sb8_1_at]; exact sN_lt_top hl0 _ _)) (fun r c => by rw [sb8_2_at]; exact sN_lt_top hl0 _ _)) (fun r c => by rw [sb8_3_at]; exact sN_lt_top hl0 _ _)) (fun r c => by rw [sb8_4_at]; exact sN_lt_top hl0 _ _)) (rowReal_step (fun r => by rw [sb8_4_at]; exact bot_lt_sN hl0 _ (by omega)))
include hl1 in
theorem mx9_real : ∃ M : Fin 256 → ℝ, ∀ (r : Fin 256) (c : Fin 128), mx9 (F := Ideal) arg2 harg2 arg3 harg3 x0 x1 (ix2 r c) = ((M r : ℝ) : EReal) := by
  unfold mx9
  exact mxRow_real (noTop_step (noTop_step (noTop_step (noTop_step (noTop_init (fun r c => by rw [sb9_0_at]; exact sN_lt_top hl1 _ _)) (fun r c => by rw [sb9_1_at]; exact sN_lt_top hl1 _ _)) (fun r c => by rw [sb9_2_at]; exact sN_lt_top hl1 _ _)) (fun r c => by rw [sb9_3_at]; exact sN_lt_top hl1 _ _)) (fun r c => by rw [sb9_4_at]; exact sN_lt_top hl1 _ _)) (rowReal_step (fun r => by rw [sb9_4_at]; exact bot_lt_sN hl1 _ (by omega)))
include hl0 in
theorem mx10_real : ∃ M : Fin 256 → ℝ, ∀ (r : Fin 256) (c : Fin 128), mx10 (F := Ideal) arg2 harg2 arg3 harg3 x0 x1 (ix2 r c) = ((M r : ℝ) : EReal) := by
  unfold mx10
  exact mxRow_real (noTop_step (noTop_step (noTop_step (noTop_step (noTop_step (noTop_init (fun r c => by rw [sb10_0_at]; exact sN_lt_top hl0 _ _)) (fun r c => by rw [sb10_1_at]; exact sN_lt_top hl0 _ _)) (fun r c => by rw [sb10_2_at]; exact sN_lt_top hl0 _ _)) (fun r c => by rw [sb10_3_at]; exact sN_lt_top hl0 _ _)) (fun r c => by rw [sb10_4_at]; exact sN_lt_top hl0 _ _)) (fun r c => by rw [sb10_5_at]; exact sN_lt_top hl0 _ _)) (rowReal_step (fun r => by rw [sb10_5_at]; exact bot_lt_sN hl0 _ (by omega)))
include hl1 in
theorem mx11_real : ∃ M : Fin 256 → ℝ, ∀ (r : Fin 256) (c : Fin 128), mx11 (F := Ideal) arg2 harg2 arg3 harg3 x0 x1 (ix2 r c) = ((M r : ℝ) : EReal) := by
  unfold mx11
  exact mxRow_real (noTop_step (noTop_step (noTop_step (noTop_step (noTop_step (noTop_init (fun r c => by rw [sb11_0_at]; exact sN_lt_top hl1 _ _)) (fun r c => by rw [sb11_1_at]; exact sN_lt_top hl1 _ _)) (fun r c => by rw [sb11_2_at]; exact sN_lt_top hl1 _ _)) (fun r c => by rw [sb11_3_at]; exact sN_lt_top hl1 _ _)) (fun r c => by rw [sb11_4_at]; exact sN_lt_top hl1 _ _)) (fun r c => by rw [sb11_5_at]; exact sN_lt_top hl1 _ _)) (rowReal_step (fun r => by rw [sb11_5_at]; exact bot_lt_sN hl1 _ (by omega)))
include hl0 in
theorem mx12_real : ∃ M : Fin 256 → ℝ, ∀ (r : Fin 256) (c : Fin 128), mx12 (F := Ideal) arg2 harg2 arg3 harg3 x0 x1 (ix2 r c) = ((M r : ℝ) : EReal) := by
  unfold mx12
  exact mxRow_real (noTop_step (noTop_step (noTop_step (noTop_step (noTop_step (noTop_step (noTop_init (fun r c => by rw [sb12_0_at]; exact sN_lt_top hl0 _ _)) (fun r c => by rw [sb12_1_at]; exact sN_lt_top hl0 _ _)) (fun r c => by rw [sb12_2_at]; exact sN_lt_top hl0 _ _)) (fun r c => by rw [sb12_3_at]; exact sN_lt_top hl0 _ _)) (fun r c => by rw [sb12_4_at]; exact sN_lt_top hl0 _ _)) (fun r c => by rw [sb12_5_at]; exact sN_lt_top hl0 _ _)) (fun r c => by rw [sb12_6_at]; exact sN_lt_top hl0 _ _)) (rowReal_step (fun r => by rw [sb12_6_at]; exact bot_lt_sN hl0 _ (by omega)))
include hl1 in
theorem mx13_real : ∃ M : Fin 256 → ℝ, ∀ (r : Fin 256) (c : Fin 128), mx13 (F := Ideal) arg2 harg2 arg3 harg3 x0 x1 (ix2 r c) = ((M r : ℝ) : EReal) := by
  unfold mx13
  exact mxRow_real (noTop_step (noTop_step (noTop_step (noTop_step (noTop_step (noTop_step (noTop_init (fun r c => by rw [sb13_0_at]; exact sN_lt_top hl1 _ _)) (fun r c => by rw [sb13_1_at]; exact sN_lt_top hl1 _ _)) (fun r c => by rw [sb13_2_at]; exact sN_lt_top hl1 _ _)) (fun r c => by rw [sb13_3_at]; exact sN_lt_top hl1 _ _)) (fun r c => by rw [sb13_4_at]; exact sN_lt_top hl1 _ _)) (fun r c => by rw [sb13_5_at]; exact sN_lt_top hl1 _ _)) (fun r c => by rw [sb13_6_at]; exact sN_lt_top hl1 _ _)) (rowReal_step (fun r => by rw [sb13_6_at]; exact bot_lt_sN hl1 _ (by omega)))
include hl0 in
theorem mx14_real : ∃ M : Fin 256 → ℝ, ∀ (r : Fin 256) (c : Fin 128), mx14 (F := Ideal) arg2 harg2 arg3 harg3 x0 x1 (ix2 r c) = ((M r : ℝ) : EReal) := by
  unfold mx14
  exact mxRow_real (noTop_step (noTop_step (noTop_step (noTop_step (noTop_step (noTop_step (noTop_step (noTop_init (fun r c => by rw [sb14_0_at]; exact sN_lt_top hl0 _ _)) (fun r c => by rw [sb14_1_at]; exact sN_lt_top hl0 _ _)) (fun r c => by rw [sb14_2_at]; exact sN_lt_top hl0 _ _)) (fun r c => by rw [sb14_3_at]; exact sN_lt_top hl0 _ _)) (fun r c => by rw [sb14_4_at]; exact sN_lt_top hl0 _ _)) (fun r c => by rw [sb14_5_at]; exact sN_lt_top hl0 _ _)) (fun r c => by rw [sb14_6_at]; exact sN_lt_top hl0 _ _)) (fun r c => by rw [sb14_7_at]; exact sN_lt_top hl0 _ _)) (rowReal_step (fun r => by rw [sb14_7_at]; exact bot_lt_sN hl0 _ (by omega)))
include hl1 in
theorem mx15_real : ∃ M : Fin 256 → ℝ, ∀ (r : Fin 256) (c : Fin 128), mx15 (F := Ideal) arg2 harg2 arg3 harg3 x0 x1 (ix2 r c) = ((M r : ℝ) : EReal) := by
  unfold mx15
  exact mxRow_real (noTop_step (noTop_step (noTop_step (noTop_step (noTop_step (noTop_step (noTop_step (noTop_init (fun r c => by rw [sb15_0_at]; exact sN_lt_top hl1 _ _)) (fun r c => by rw [sb15_1_at]; exact sN_lt_top hl1 _ _)) (fun r c => by rw [sb15_2_at]; exact sN_lt_top hl1 _ _)) (fun r c => by rw [sb15_3_at]; exact sN_lt_top hl1 _ _)) (fun r c => by rw [sb15_4_at]; exact sN_lt_top hl1 _ _)) (fun r c => by rw [sb15_5_at]; exact sN_lt_top hl1 _ _)) (fun r c => by rw [sb15_6_at]; exact sN_lt_top hl1 _ _)) (fun r c => by rw [sb15_7_at]; exact sN_lt_top hl1 _ _)) (rowReal_step (fun r => by rw [sb15_7_at]; exact bot_lt_sN hl1 _ (by omega)))
include hl0 in
theorem ac0_is : ∃ M : Fin 256 → ℝ, AccIs (ac0 arg2 harg2 arg3 harg3 arg4 harg4 arg6 x0 x1 x2 (st3 (F := Ideal) arg2 harg2 arg3 harg3 x0 x1)) 256 (sR x0 x1 0 0) M (vCol 0 64 x2) := by
  obtain ⟨M, hM⟩ := mx0_real arg2 harg2 arg3 harg3 x0 x1 hl0
  refine ⟨M, ?_⟩
  have hH := holds0_3 arg2 harg2 arg3 harg3 x0 x1
  unfold ac0
  exact acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d)
include hl1 in
theorem ac1_is : ∃ M : Fin 256 → ℝ, AccIs (ac1 arg2 harg2 arg3 harg3 arg4 harg4 arg6 x0 x1 x2 (st4 (F := Ideal) arg2 harg2 arg3 harg3 x0 x1)) 256 (sR x0 x1 1 0) M (vCol 1 0 x2) := by
  obtain ⟨M, hM⟩ := mx1_real arg2 harg2 arg3 harg3 x0 x1 hl1
  refine ⟨M, ?_⟩
  have hH := holds1_4 arg2 harg2 arg3 harg3 x0 x1
  unfold ac1
  exact acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d)
include hl0 in
theorem ac2_is : ∃ M : Fin 256 → ℝ, AccIs (ac2 arg2 harg2 arg3 harg3 arg4 harg4 arg6 x0 x1 x2 (st5 (F := Ideal) arg2 harg2 arg3 harg3 x0 x1)) 512 (sR x0 x1 0 256) M (vCol 0 64 x2) := by
  obtain ⟨M, hM⟩ := mx2_real arg2 harg2 arg3 harg3 x0 x1 hl0
  refine ⟨M, ?_⟩
  have hH := holds2_5 arg2 harg2 arg3 harg3 x0 x1
  unfold ac2
  exact acc_step (acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d))
    (fun r c => stRead_apply hH (by norm_num) (by norm_num) r c) (fun r c => stRead_apply hH (by norm_num) (by norm_num) r c) hM
    (fun r d => vCol_at _ _ x2 0 64 _ lane64_apply 256 (by norm_num) (by norm_num) r d)
include hl1 in
theorem ac3_is : ∃ M : Fin 256 → ℝ, AccIs (ac3 arg2 harg2 arg3 harg3 arg4 harg4 arg6 x0 x1 x2 (st6 (F := Ideal) arg2 harg2 arg3 harg3 x0 x1)) 512 (sR x0 x1 1 256) M (vCol 1 0 x2) := by
  obtain ⟨M, hM⟩ := mx3_real arg2 harg2 arg3 harg3 x0 x1 hl1
  refine ⟨M, ?_⟩
  have hH := holds3_6 arg2 harg2 arg3 harg3 x0 x1
  unfold ac3
  exact acc_step (acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d))
    (fun r c => stRead_apply hH (by norm_num) (by norm_num) r c) (fun r c => stRead_apply hH (by norm_num) (by norm_num) r c) hM
    (fun r d => vCol_at _ _ x2 1 0 _ lane0_apply 256 (by norm_num) (by norm_num) r d)
include hl0 in
theorem ac4_is : ∃ M : Fin 256 → ℝ, AccIs (ac4 arg2 harg2 arg3 harg3 arg4 harg4 arg6 x0 x1 x2 (st7 (F := Ideal) arg2 harg2 arg3 harg3 x0 x1)) 768 (sR x0 x1 0 512) M (vCol 0 64 x2) := by
  obtain ⟨M, hM⟩ := mx4_real arg2 harg2 arg3 harg3 x0 x1 hl0
  refine ⟨M, ?_⟩
  have hH := holds4_7 arg2 harg2 arg3 harg3 x0 x1
  unfold ac4
  exact acc_step (acc_step (acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d))
    (fun r c => stRead_apply hH (by norm_num) (by norm_num) r c) (fun r c => stRead_apply hH (by norm_num) (by norm_num) r c) hM
    (fun r d => vCol_at _ _ x2 0 64 _ lane64_apply 256 (by norm_num) (by norm_num) r d))
    (fun r c => stRead_apply hH (by norm_num) (by norm_num) r c) (fun r c => stRead_apply hH (by norm_num) (by norm_num) r c) hM
    (fun r d => vCol_at _ _ x2 0 64 _ lane64_apply 512 (by norm_num) (by norm_num) r d)
include hl1 in
theorem ac5_is : ∃ M : Fin 256 → ℝ, AccIs (ac5 arg2 harg2 arg3 harg3 arg4 harg4 arg6 x0 x1 x2 (st8 (F := Ideal) arg2 harg2 arg3 harg3 x0 x1)) 768 (sR x0 x1 1 512) M (vCol 1 0 x2) := by
  obtain ⟨M, hM⟩ := mx5_real arg2 harg2 arg3 harg3 x0 x1 hl1
  refine ⟨M, ?_⟩
  have hH := holds5_8 arg2 harg2 arg3 harg3 x0 x1
  unfold ac5
  exact acc_step (acc_step (acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d))
    (fun r c => stRead_apply hH (by norm_num) (by norm_num) r c) (fun r c => stRead_apply hH (by norm_num) (by norm_num) r c) hM
    (fun r d => vCol_at _ _ x2 1 0 _ lane0_apply 256 (by norm_num) (by norm_num) r d))
    (fun r c => stRead_apply hH (by norm_num) (by norm_num) r c) (fun r c => stRead_apply hH (by norm_num) (by norm_num) r c) hM
    (fun r d => vCol_at _ _ x2 1 0 _ lane0_apply 512 (by norm_num) (by norm_num) r d)
include hl0 in
theorem ac6_is : ∃ M : Fin 256 → ℝ, AccIs (ac6 arg2 harg2 arg3 harg3 arg4 harg4 arg6 x0 x1 x2 (st9 (F := Ideal) arg2 harg2 arg3 harg3 x0 x1)) 1024 (sR x0 x1 0 768) M (vCol 0 64 x2) := by
  obtain ⟨M, hM⟩ := mx6_real arg2 harg2 arg3 harg3 x0 x1 hl0
  refine ⟨M, ?_⟩
  have hH := holds6_9 arg2 harg2 arg3 harg3 x0 x1
  unfold ac6
  exact acc_step (acc_step (acc_step (acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d))
    (fun r c => stRead_apply hH (by norm_num) (by norm_num) r c) (fun r c => stRead_apply hH (by norm_num) (by norm_num) r c) hM
    (fun r d => vCol_at _ _ x2 0 64 _ lane64_apply 256 (by norm_num) (by norm_num) r d))
    (fun r c => stRead_apply hH (by norm_num) (by norm_num) r c) (fun r c => stRead_apply hH (by norm_num) (by norm_num) r c) hM
    (fun r d => vCol_at _ _ x2 0 64 _ lane64_apply 512 (by norm_num) (by norm_num) r d))
    (fun r c => stRead_apply hH (by norm_num) (by norm_num) r c) (fun r c => stRead_apply hH (by norm_num) (by norm_num) r c) hM
    (fun r d => vCol_at _ _ x2 0 64 _ lane64_apply 768 (by norm_num) (by norm_num) r d)
include hl1 in
theorem ac7_is : ∃ M : Fin 256 → ℝ, AccIs (ac7 arg2 harg2 arg3 harg3 arg4 harg4 arg6 x0 x1 x2 (st10 (F := Ideal) arg2 harg2 arg3 harg3 x0 x1)) 1024 (sR x0 x1 1 768) M (vCol 1 0 x2) := by
  obtain ⟨M, hM⟩ := mx7_real arg2 harg2 arg3 harg3 x0 x1 hl1
  refine ⟨M, ?_⟩
  have hH := holds7_10 arg2 harg2 arg3 harg3 x0 x1
  unfold ac7
  exact acc_step (acc_step (acc_step (acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d))
    (fun r c => stRead_apply hH (by norm_num) (by norm_num) r c) (fun r c => stRead_apply hH (by norm_num) (by norm_num) r c) hM
    (fun r d => vCol_at _ _ x2 1 0 _ lane0_apply 256 (by norm_num) (by norm_num) r d))
    (fun r c => stRead_apply hH (by norm_num) (by norm_num) r c) (fun r c => stRead_apply hH (by norm_num) (by norm_num) r c) hM
    (fun r d => vCol_at _ _ x2 1 0 _ lane0_apply 512 (by norm_num) (by norm_num) r d))
    (fun r c => stRead_apply hH (by norm_num) (by norm_num) r c) (fun r c => stRead_apply hH (by norm_num) (by norm_num) r c) hM
    (fun r d => vCol_at _ _ x2 1 0 _ lane0_apply 768 (by norm_num) (by norm_num) r d)
include hl0 in
theorem ac8_is : ∃ M : Fin 256 → ℝ, AccIs (ac8 arg2 harg2 arg3 harg3 arg4 harg4 arg6 x0 x1 x2 (st11 (F := Ideal) arg2 harg2 arg3 harg3 x0 x1)) 1280 (sR x0 x1 0 1024) M (vCol 0 64 x2) := by
  obtain ⟨M, hM⟩ := mx8_real arg2 harg2 arg3 harg3 x0 x1 hl0
  refine ⟨M, ?_⟩
  have hH := holds8_11 arg2 harg2 arg3 harg3 x0 x1
  unfold ac8
  exact acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d))
    (fun r c => stRead_apply hH (by norm_num) (by norm_num) r c) (fun r c => stRead_apply hH (by norm_num) (by norm_num) r c) hM
    (fun r d => vCol_at _ _ x2 0 64 _ lane64_apply 256 (by norm_num) (by norm_num) r d))
    (fun r c => stRead_apply hH (by norm_num) (by norm_num) r c) (fun r c => stRead_apply hH (by norm_num) (by norm_num) r c) hM
    (fun r d => vCol_at _ _ x2 0 64 _ lane64_apply 512 (by norm_num) (by norm_num) r d))
    (fun r c => stRead_apply hH (by norm_num) (by norm_num) r c) (fun r c => stRead_apply hH (by norm_num) (by norm_num) r c) hM
    (fun r d => vCol_at _ _ x2 0 64 _ lane64_apply 768 (by norm_num) (by norm_num) r d))
    (fun r c => stRead_apply hH (by norm_num) (by norm_num) r c) (fun r c => stRead_apply hH (by norm_num) (by norm_num) r c) hM
    (fun r d => vCol_at _ _ x2 0 64 _ lane64_apply 1024 (by norm_num) (by norm_num) r d)
include hl1 in
theorem ac9_is : ∃ M : Fin 256 → ℝ, AccIs (ac9 arg2 harg2 arg3 harg3 arg4 harg4 arg6 x0 x1 x2 (st12 (F := Ideal) arg2 harg2 arg3 harg3 x0 x1)) 1280 (sR x0 x1 1 1024) M (vCol 1 0 x2) := by
  obtain ⟨M, hM⟩ := mx9_real arg2 harg2 arg3 harg3 x0 x1 hl1
  refine ⟨M, ?_⟩
  have hH := holds9_12 arg2 harg2 arg3 harg3 x0 x1
  unfold ac9
  exact acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d))
    (fun r c => stRead_apply hH (by norm_num) (by norm_num) r c) (fun r c => stRead_apply hH (by norm_num) (by norm_num) r c) hM
    (fun r d => vCol_at _ _ x2 1 0 _ lane0_apply 256 (by norm_num) (by norm_num) r d))
    (fun r c => stRead_apply hH (by norm_num) (by norm_num) r c) (fun r c => stRead_apply hH (by norm_num) (by norm_num) r c) hM
    (fun r d => vCol_at _ _ x2 1 0 _ lane0_apply 512 (by norm_num) (by norm_num) r d))
    (fun r c => stRead_apply hH (by norm_num) (by norm_num) r c) (fun r c => stRead_apply hH (by norm_num) (by norm_num) r c) hM
    (fun r d => vCol_at _ _ x2 1 0 _ lane0_apply 768 (by norm_num) (by norm_num) r d))
    (fun r c => stRead_apply hH (by norm_num) (by norm_num) r c) (fun r c => stRead_apply hH (by norm_num) (by norm_num) r c) hM
    (fun r d => vCol_at _ _ x2 1 0 _ lane0_apply 1024 (by norm_num) (by norm_num) r d)
include hl0 in
theorem ac10_is : ∃ M : Fin 256 → ℝ, AccIs (ac10 arg2 harg2 arg3 harg3 arg4 harg4 arg6 x0 x1 x2 (st13 (F := Ideal) arg2 harg2 arg3 harg3 x0 x1)) 1536 (sR x0 x1 0 1280) M (vCol 0 64 x2) := by
  obtain ⟨M, hM⟩ := mx10_real arg2 harg2 arg3 harg3 x0 x1 hl0
  refine ⟨M, ?_⟩
  have hH := holds10_13 arg2 harg2 arg3 harg3 x0 x1
  unfold ac10
  exact acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d))
    (fun r c => stRead_apply hH (by norm_num) (by norm_num) r c) (fun r c => stRead_apply hH (by norm_num) (by norm_num) r c) hM
    (fun r d => vCol_at _ _ x2 0 64 _ lane64_apply 256 (by norm_num) (by norm_num) r d))
    (fun r c => stRead_apply hH (by norm_num) (by norm_num) r c) (fun r c => stRead_apply hH (by norm_num) (by norm_num) r c) hM
    (fun r d => vCol_at _ _ x2 0 64 _ lane64_apply 512 (by norm_num) (by norm_num) r d))
    (fun r c => stRead_apply hH (by norm_num) (by norm_num) r c) (fun r c => stRead_apply hH (by norm_num) (by norm_num) r c) hM
    (fun r d => vCol_at _ _ x2 0 64 _ lane64_apply 768 (by norm_num) (by norm_num) r d))
    (fun r c => stRead_apply hH (by norm_num) (by norm_num) r c) (fun r c => stRead_apply hH (by norm_num) (by norm_num) r c) hM
    (fun r d => vCol_at _ _ x2 0 64 _ lane64_apply 1024 (by norm_num) (by norm_num) r d))
    (fun r c => stRead_apply hH (by norm_num) (by norm_num) r c) (fun r c => stRead_apply hH (by norm_num) (by norm_num) r c) hM
    (fun r d => vCol_at _ _ x2 0 64 _ lane64_apply 1280 (by norm_num) (by norm_num) r d)
include hl1 in
theorem ac11_is : ∃ M : Fin 256 → ℝ, AccIs (ac11 arg2 harg2 arg3 harg3 arg4 harg4 arg6 x0 x1 x2 (st14 (F := Ideal) arg2 harg2 arg3 harg3 x0 x1)) 1536 (sR x0 x1 1 1280) M (vCol 1 0 x2) := by
  obtain ⟨M, hM⟩ := mx11_real arg2 harg2 arg3 harg3 x0 x1 hl1
  refine ⟨M, ?_⟩
  have hH := holds11_14 arg2 harg2 arg3 harg3 x0 x1
  unfold ac11
  exact acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d))
    (fun r c => stRead_apply hH (by norm_num) (by norm_num) r c) (fun r c => stRead_apply hH (by norm_num) (by norm_num) r c) hM
    (fun r d => vCol_at _ _ x2 1 0 _ lane0_apply 256 (by norm_num) (by norm_num) r d))
    (fun r c => stRead_apply hH (by norm_num) (by norm_num) r c) (fun r c => stRead_apply hH (by norm_num) (by norm_num) r c) hM
    (fun r d => vCol_at _ _ x2 1 0 _ lane0_apply 512 (by norm_num) (by norm_num) r d))
    (fun r c => stRead_apply hH (by norm_num) (by norm_num) r c) (fun r c => stRead_apply hH (by norm_num) (by norm_num) r c) hM
    (fun r d => vCol_at _ _ x2 1 0 _ lane0_apply 768 (by norm_num) (by norm_num) r d))
    (fun r c => stRead_apply hH (by norm_num) (by norm_num) r c) (fun r c => stRead_apply hH (by norm_num) (by norm_num) r c) hM
    (fun r d => vCol_at _ _ x2 1 0 _ lane0_apply 1024 (by norm_num) (by norm_num) r d))
    (fun r c => stRead_apply hH (by norm_num) (by norm_num) r c) (fun r c => stRead_apply hH (by norm_num) (by norm_num) r c) hM
    (fun r d => vCol_at _ _ x2 1 0 _ lane0_apply 1280 (by norm_num) (by norm_num) r d)
include hl0 in
theorem ac12_is : ∃ M : Fin 256 → ℝ, AccIs (ac12 arg2 harg2 arg3 harg3 arg4 harg4 arg6 x0 x1 x2 (st15 (F := Ideal) arg2 harg2 arg3 harg3 x0 x1)) 1792 (sR x0 x1 0 1536) M (vCol 0 64 x2) := by
  obtain ⟨M, hM⟩ := mx12_real arg2 harg2 arg3 harg3 x0 x1 hl0
  refine ⟨M, ?_⟩
  have hH := holds12_15 arg2 harg2 arg3 harg3 x0 x1
  unfold ac12
  exact acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d))
    (fun r c => stRead_apply hH (by norm_num) (by norm_num) r c) (fun r c => stRead_apply hH (by norm_num) (by norm_num) r c) hM
    (fun r d => vCol_at _ _ x2 0 64 _ lane64_apply 256 (by norm_num) (by norm_num) r d))
    (fun r c => stRead_apply hH (by norm_num) (by norm_num) r c) (fun r c => stRead_apply hH (by norm_num) (by norm_num) r c) hM
    (fun r d => vCol_at _ _ x2 0 64 _ lane64_apply 512 (by norm_num) (by norm_num) r d))
    (fun r c => stRead_apply hH (by norm_num) (by norm_num) r c) (fun r c => stRead_apply hH (by norm_num) (by norm_num) r c) hM
    (fun r d => vCol_at _ _ x2 0 64 _ lane64_apply 768 (by norm_num) (by norm_num) r d))
    (fun r c => stRead_apply hH (by norm_num) (by norm_num) r c) (fun r c => stRead_apply hH (by norm_num) (by norm_num) r c) hM
    (fun r d => vCol_at _ _ x2 0 64 _ lane64_apply 1024 (by norm_num) (by norm_num) r d))
    (fun r c => stRead_apply hH (by norm_num) (by norm_num) r c) (fun r c => stRead_apply hH (by norm_num) (by norm_num) r c) hM
    (fun r d => vCol_at _ _ x2 0 64 _ lane64_apply 1280 (by norm_num) (by norm_num) r d))
    (fun r c => stRead_apply hH (by norm_num) (by norm_num) r c) (fun r c => stRead_apply hH (by norm_num) (by norm_num) r c) hM
    (fun r d => vCol_at _ _ x2 0 64 _ lane64_apply 1536 (by norm_num) (by norm_num) r d)
include hl1 in
theorem ac13_is : ∃ M : Fin 256 → ℝ, AccIs (ac13 arg2 harg2 arg3 harg3 arg4 harg4 arg6 x0 x1 x2 (st15 (F := Ideal) arg2 harg2 arg3 harg3 x0 x1)) 1792 (sR x0 x1 1 1536) M (vCol 1 0 x2) := by
  obtain ⟨M, hM⟩ := mx13_real arg2 harg2 arg3 harg3 x0 x1 hl1
  refine ⟨M, ?_⟩
  have hH := holds13_15 arg2 harg2 arg3 harg3 x0 x1
  unfold ac13
  exact acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d))
    (fun r c => stRead_apply hH (by norm_num) (by norm_num) r c) (fun r c => stRead_apply hH (by norm_num) (by norm_num) r c) hM
    (fun r d => vCol_at _ _ x2 1 0 _ lane0_apply 256 (by norm_num) (by norm_num) r d))
    (fun r c => stRead_apply hH (by norm_num) (by norm_num) r c) (fun r c => stRead_apply hH (by norm_num) (by norm_num) r c) hM
    (fun r d => vCol_at _ _ x2 1 0 _ lane0_apply 512 (by norm_num) (by norm_num) r d))
    (fun r c => stRead_apply hH (by norm_num) (by norm_num) r c) (fun r c => stRead_apply hH (by norm_num) (by norm_num) r c) hM
    (fun r d => vCol_at _ _ x2 1 0 _ lane0_apply 768 (by norm_num) (by norm_num) r d))
    (fun r c => stRead_apply hH (by norm_num) (by norm_num) r c) (fun r c => stRead_apply hH (by norm_num) (by norm_num) r c) hM
    (fun r d => vCol_at _ _ x2 1 0 _ lane0_apply 1024 (by norm_num) (by norm_num) r d))
    (fun r c => stRead_apply hH (by norm_num) (by norm_num) r c) (fun r c => stRead_apply hH (by norm_num) (by norm_num) r c) hM
    (fun r d => vCol_at _ _ x2 1 0 _ lane0_apply 1280 (by norm_num) (by norm_num) r d))
    (fun r c => stRead_apply hH (by norm_num) (by norm_num) r c) (fun r c => stRead_apply hH (by norm_num) (by norm_num) r c) hM
    (fun r d => vCol_at _ _ x2 1 0 _ lane0_apply 1536 (by norm_num) (by norm_num) r d)
include hl0 in
theorem ac14_is : ∃ M : Fin 256 → ℝ, AccIs (ac14 arg2 harg2 arg3 harg3 arg4 harg4 arg6 x0 x1 x2 (st15 (F := Ideal) arg2 harg2 arg3 harg3 x0 x1)) 2048 (sR x0 x1 0 1792) M (vCol 0 64 x2) := by
  obtain ⟨M, hM⟩ := mx14_real arg2 harg2 arg3 harg3 x0 x1 hl0
  refine ⟨M, ?_⟩
  have hH := holds14_15 arg2 harg2 arg3 harg3 x0 x1
  unfold ac14
  exact acc_step (acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 0 64 _ lane64_apply 0 (by norm_num) (by norm_num) r d))
    (fun r c => stRead_apply hH (by norm_num) (by norm_num) r c) (fun r c => stRead_apply hH (by norm_num) (by norm_num) r c) hM
    (fun r d => vCol_at _ _ x2 0 64 _ lane64_apply 256 (by norm_num) (by norm_num) r d))
    (fun r c => stRead_apply hH (by norm_num) (by norm_num) r c) (fun r c => stRead_apply hH (by norm_num) (by norm_num) r c) hM
    (fun r d => vCol_at _ _ x2 0 64 _ lane64_apply 512 (by norm_num) (by norm_num) r d))
    (fun r c => stRead_apply hH (by norm_num) (by norm_num) r c) (fun r c => stRead_apply hH (by norm_num) (by norm_num) r c) hM
    (fun r d => vCol_at _ _ x2 0 64 _ lane64_apply 768 (by norm_num) (by norm_num) r d))
    (fun r c => stRead_apply hH (by norm_num) (by norm_num) r c) (fun r c => stRead_apply hH (by norm_num) (by norm_num) r c) hM
    (fun r d => vCol_at _ _ x2 0 64 _ lane64_apply 1024 (by norm_num) (by norm_num) r d))
    (fun r c => stRead_apply hH (by norm_num) (by norm_num) r c) (fun r c => stRead_apply hH (by norm_num) (by norm_num) r c) hM
    (fun r d => vCol_at _ _ x2 0 64 _ lane64_apply 1280 (by norm_num) (by norm_num) r d))
    (fun r c => stRead_apply hH (by norm_num) (by norm_num) r c) (fun r c => stRead_apply hH (by norm_num) (by norm_num) r c) hM
    (fun r d => vCol_at _ _ x2 0 64 _ lane64_apply 1536 (by norm_num) (by norm_num) r d))
    (fun r c => stRead_apply hH (by norm_num) (by norm_num) r c) (fun r c => stRead_apply hH (by norm_num) (by norm_num) r c) hM
    (fun r d => vCol_at _ _ x2 0 64 _ lane64_apply 1792 (by norm_num) (by norm_num) r d)
include hl1 in
theorem ac15_is : ∃ M : Fin 256 → ℝ, AccIs (ac15 arg2 harg2 arg3 harg3 arg4 harg4 arg6 x0 x1 x2 (st15 (F := Ideal) arg2 harg2 arg3 harg3 x0 x1)) 2048 (sR x0 x1 1 1792) M (vCol 1 0 x2) := by
  obtain ⟨M, hM⟩ := mx15_real arg2 harg2 arg3 harg3 x0 x1 hl1
  refine ⟨M, ?_⟩
  have hH := holds15_15 arg2 harg2 arg3 harg3 x0 x1
  unfold ac15
  exact acc_step (acc_step (acc_step (acc_step (acc_step (acc_step (acc_step (acc_step (acc_init _ _ _)
    (fun r c => stRead_apply hH (by norm_num) (by norm_num) r c) (fun r c => stRead_apply hH (by norm_num) (by norm_num) r c) hM
    (fun r d => vCol_at _ _ x2 1 0 _ lane0_apply 0 (by norm_num) (by norm_num) r d))
    (fun r c => stRead_apply hH (by norm_num) (by norm_num) r c) (fun r c => stRead_apply hH (by norm_num) (by norm_num) r c) hM
    (fun r d => vCol_at _ _ x2 1 0 _ lane0_apply 256 (by norm_num) (by norm_num) r d))
    (fun r c => stRead_apply hH (by norm_num) (by norm_num) r c) (fun r c => stRead_apply hH (by norm_num) (by norm_num) r c) hM
    (fun r d => vCol_at _ _ x2 1 0 _ lane0_apply 512 (by norm_num) (by norm_num) r d))
    (fun r c => stRead_apply hH (by norm_num) (by norm_num) r c) (fun r c => stRead_apply hH (by norm_num) (by norm_num) r c) hM
    (fun r d => vCol_at _ _ x2 1 0 _ lane0_apply 768 (by norm_num) (by norm_num) r d))
    (fun r c => stRead_apply hH (by norm_num) (by norm_num) r c) (fun r c => stRead_apply hH (by norm_num) (by norm_num) r c) hM
    (fun r d => vCol_at _ _ x2 1 0 _ lane0_apply 1024 (by norm_num) (by norm_num) r d))
    (fun r c => stRead_apply hH (by norm_num) (by norm_num) r c) (fun r c => stRead_apply hH (by norm_num) (by norm_num) r c) hM
    (fun r d => vCol_at _ _ x2 1 0 _ lane0_apply 1280 (by norm_num) (by norm_num) r d))
    (fun r c => stRead_apply hH (by norm_num) (by norm_num) r c) (fun r c => stRead_apply hH (by norm_num) (by norm_num) r c) hM
    (fun r d => vCol_at _ _ x2 1 0 _ lane0_apply 1536 (by norm_num) (by norm_num) r d))
    (fun r c => stRead_apply hH (by norm_num) (by norm_num) r c) (fun r c => stRead_apply hH (by norm_num) (by norm_num) r c) hM
    (fun r d => vCol_at _ _ x2 1 0 _ lane0_apply 1792 (by norm_num) (by norm_num) r d)

/-- The row of the textbook form that lane `d` of the pair reads. -/
def softPair (A0 A1 : Fin 2048 → Fin 2048 → ℝ) (m0 m1 : Fin 2048 → ℝ) (x2 : Vec Ideal S1x2048x256 .bf16) (R : Fin 2048) (d : Fin 128) : EReal :=
  if d.val / 64 = 0 then soft 0 A0 m0 x2 R d else soft 1 A1 m1 x2 R d

theorem pair_at {a b : FVec Ideal S256x128 .f32} {o : ℕ} (ho : o + 256 ≤ 2048) {Ma Mb : Fin 256 → ℝ}
    (hl0 : LgIs 0 x0 x1 A0) (hl1 : LgIs 1 x0 x1 A1)
    (ha : AccIs a (o + 256) (sR x0 x1 0 o) Ma (vCol 0 64 x2)) (hb : AccIs b (o + 256) (sR x0 x1 1 o) Mb (vCol 1 0 x2))
    (hz0 : ∀ k : Fin 2048, (x2 (ix3 0 k (lane 0 (⟨64, by norm_num⟩ : Fin 128))) : EReal) = 0) (hz1 : ∀ k : Fin 2048, (x2 (ix3 0 k (lane 1 (⟨0, by norm_num⟩ : Fin 128))) : EReal) = 0)
    (m0 m1 : Fin 2048 → ℝ) (r : Fin 256) (d : Fin 128) :
    (pairOut (fin0 a) (fin1 b) (ix3 0 r d) : EReal) = softPair A0 A1 m0 m1 x2 ⟨o + r.val, by omega⟩ d := by
  rw [pairOut_apply, fin0_apply, fin1_apply, softPair]
  by_cases h : d.val / 64 = 0
  · rw [if_pos h, if_pos h, if_neg (by omega), add_zero]
    exact unit_quot hl0 ho (by norm_num) hz0 ha m0 r d (by omega)
  · rw [if_neg h, if_neg h, if_pos (by omega), zero_add]
    exact unit_quot hl1 ho (by norm_num) hz1 hb m1 r d (by omega)

theorem piece_emb {o : ℕ} (ho : o + 256 ≤ 2048) (x : S1x256x128.Idx) :
    (Rect.unit (s := S1x2048x128) ![0, o, 0] S1x256x128.size (inbRows ho)).emb x = ix3 0 (⟨o + (x 1).val, by have := (x 1).isLt; change (x 1).val < 256 at this; omega⟩ : Fin 2048) (x 2) := by
  funext a
  apply Fin.ext
  refine (Rect.emb_apply (Rect.unit (s := S1x2048x128) ![0, o, 0] S1x256x128.size (inbRows ho)) x a).trans ?_
  have h0 := (x 0).isLt
  change (x 0).val < 1 at h0
  match a with
  | ⟨0, _⟩ => show 0 + 1 * (x 0).val = 0; omega
  | ⟨1, _⟩ => show o + 1 * (x 1).val = o + (x 1).val; omega
  | ⟨2, _⟩ => show 0 + 1 * (x 2).val = (x 2).val; omega

theorem piece_at {a b : FVec Ideal S256x128 .f32} {o : ℕ} (ho : o + 256 ≤ 2048) {Ma Mb : Fin 256 → ℝ}
    (hl0 : LgIs 0 x0 x1 A0) (hl1 : LgIs 1 x0 x1 A1)
    (ha : AccIs a (o + 256) (sR x0 x1 0 o) Ma (vCol 0 64 x2)) (hb : AccIs b (o + 256) (sR x0 x1 1 o) Mb (vCol 1 0 x2))
    (hz0 : ∀ k : Fin 2048, (x2 (ix3 0 k (lane 0 (⟨64, by norm_num⟩ : Fin 128))) : EReal) = 0) (hz1 : ∀ k : Fin 2048, (x2 (ix3 0 k (lane 1 (⟨0, by norm_num⟩ : Fin 128))) : EReal) = 0)
    (m0 m1 : Fin 2048 → ℝ) (x : S1x256x128.Idx) :
    (pairOut (fin0 a) (fin1 b) x : EReal) = (fun y : S1x2048x128.Idx => softPair A0 A1 m0 m1 x2 (y 1) (y 2))
      ((Rect.unit (s := S1x2048x128) ![0, o, 0] S1x256x128.size (inbRows ho)).emb x) := by
  rw [piece_emb ho]
  have hx : x = (ix3 0 (x 1) (x 2) : S1x256x128.Idx) := by
    funext a
    apply Fin.ext
    have h0 := (x 0).isLt
    change (x 0).val < 1 at h0
    match a with
    | ⟨0, _⟩ => show (x 0).val = 0; omega
    | ⟨1, _⟩ => rfl
    | ⟨2, _⟩ => rfl
  refine (congrArg (pairOut (fin0 a) (fin1 b)) hx).trans ?_
  exact pair_at x0 x1 x2 ho hl0 hl1 ha hb hz0 hz1 m0 m1 (x 1) (x 2)

variable (c : Dev nD) (arg5 : Memref sig .tc .vmem S1x2048x128 .bf16) (harg5 : arg5.IsWhole) (harg6 : arg6.IsWhole)

include hl0 hl1 in
/-- What the body leaves in the output block: every row the textbook row. -/
theorem out_at (hz0 : ∀ k : Fin 2048, (x2 (ix3 0 k (lane 0 (⟨64, by norm_num⟩ : Fin 128))) : EReal) = 0) (hz1 : ∀ k : Fin 2048, (x2 (ix3 0 k (lane 1 (⟨0, by norm_num⟩ : Fin 128))) : EReal) = 0)
    (m0 m1 : Fin 2048 → ℝ) (y : S1x2048x128.Idx) :
    (View.canon (kernelRun0_A (F := Ideal) c i arg2 harg2 arg3 harg3 arg4 harg4 arg5 harg5 arg6 harg6 x0 x1 x2).1 y : EReal)
      = softPair A0 A1 m0 m1 x2 (y 1) (y 2) := by
  rw [run_pieces']
  obtain ⟨M0, h0⟩ := ac0_is arg2 harg2 arg3 harg3 arg4 harg4 arg6 x0 x1 x2 hl0
  obtain ⟨M1, h1⟩ := ac1_is arg2 harg2 arg3 harg3 arg4 harg4 arg6 x0 x1 x2 hl1
  obtain ⟨M2, h2⟩ := ac2_is arg2 harg2 arg3 harg3 arg4 harg4 arg6 x0 x1 x2 hl0
  obtain ⟨M3, h3⟩ := ac3_is arg2 harg2 arg3 harg3 arg4 harg4 arg6 x0 x1 x2 hl1
  obtain ⟨M4, h4⟩ := ac4_is arg2 harg2 arg3 harg3 arg4 harg4 arg6 x0 x1 x2 hl0
  obtain ⟨M5, h5⟩ := ac5_is arg2 harg2 arg3 harg3 arg4 harg4 arg6 x0 x1 x2 hl1
  obtain ⟨M6, h6⟩ := ac6_is arg2 harg2 arg3 harg3 arg4 harg4 arg6 x0 x1 x2 hl0
  obtain ⟨M7, h7⟩ := ac7_is arg2 harg2 arg3 harg3 arg4 harg4 arg6 x0 x1 x2 hl1
  obtain ⟨M8, h8⟩ := ac8_is arg2 harg2 arg3 harg3 arg4 harg4 arg6 x0 x1 x2 hl0
  obtain ⟨M9, h9⟩ := ac9_is arg2 harg2 arg3 harg3 arg4 harg4 arg6 x0 x1 x2 hl1
  obtain ⟨M10, h10⟩ := ac10_is arg2 harg2 arg3 harg3 arg4 harg4 arg6 x0 x1 x2 hl0
  obtain ⟨M11, h11⟩ := ac11_is arg2 harg2 arg3 harg3 arg4 harg4 arg6 x0 x1 x2 hl1
  obtain ⟨M12, h12⟩ := ac12_is arg2 harg2 arg3 harg3 arg4 harg4 arg6 x0 x1 x2 hl0
  obtain ⟨M13, h13⟩ := ac13_is arg2 harg2 arg3 harg3 arg4 harg4 arg6 x0 x1 x2 hl1
  obtain ⟨M14, h14⟩ := ac14_is arg2 harg2 arg3 harg3 arg4 harg4 arg6 x0 x1 x2 hl0
  obtain ⟨M15, h15⟩ := ac15_is arg2 harg2 arg3 harg3 arg4 harg4 arg6 x0 x1 x2 hl1
  refine View.canon_apply_of_pieces (Val := Elt Ideal) (S := S1x2048x128) (e := .bf16) (fun y : S1x2048x128.Idx => softPair A0 A1 m0 m1 x2 (y 1) (y 2)) _ ?_ y ?_
  · intro p hp
    simp only [List.mem_cons, List.not_mem_nil, or_false] at hp
    rcases hp with rfl | rfl | rfl | rfl | rfl | rfl | rfl | rfl
    · exact piece_at x0 x1 x2 (by norm_num) hl0 hl1 h14 h15 hz0 hz1 m0 m1
    · exact piece_at x0 x1 x2 (by norm_num) hl0 hl1 h12 h13 hz0 hz1 m0 m1
    · exact piece_at x0 x1 x2 (by norm_num) hl0 hl1 h10 h11 hz0 hz1 m0 m1
    · exact piece_at x0 x1 x2 (by norm_num) hl0 hl1 h8 h9 hz0 hz1 m0 m1
    · exact piece_at x0 x1 x2 (by norm_num) hl0 hl1 h6 h7 hz0 hz1 m0 m1
    · exact piece_at x0 x1 x2 (by norm_num) hl0 hl1 h4 h5 hz0 hz1 m0 m1
    · exact piece_at x0 x1 x2 (by norm_num) hl0 hl1 h2 h3 hz0 hz1 m0 m1
    · exact piece_at x0 x1 x2 (by norm_num) hl0 hl1 h0 h1 hz0 hz1 m0 m1
  · have h0 := (y 0).isLt
    have h1 := (y 1).isLt
    have h2 := (y 2).isLt
    change (y 0).val < 1 at h0
    change (y 1).val < 2048 at h1
    change (y 2).val < 128 at h2
    have hc : ∀ o : ℕ, ∀ ho : o + 256 ≤ 2048, o ≤ (y 1).val → (y 1).val < o + 256 →
        y ∈ (Rect.unit (s := S1x2048x128) ![0, o, 0] S1x256x128.size (inbRows ho)).set := fun o ho h h' => by
      rw [Rect.mem_set_unit]
      intro a
      match a with
      | ⟨0, _⟩ => show 0 ≤ (y 0).val ∧ (y 0).val < 0 + 1; omega
      | ⟨1, _⟩ => exact ⟨h, h'⟩
      | ⟨2, _⟩ => show 0 ≤ (y 2).val ∧ (y 2).val < 0 + 128; omega
    by_cases c7 : 1792 ≤ (y 1).val
    · exact ⟨_, .head _, hc 1792 (by norm_num) c7 (by omega)⟩
    by_cases c6 : 1536 ≤ (y 1).val
    · exact ⟨_, .tail _ (.head _), hc 1536 (by norm_num) c6 (by omega)⟩
    by_cases c5 : 1280 ≤ (y 1).val
    · exact ⟨_, .tail _ (.tail _ (.head _)), hc 1280 (by norm_num) c5 (by omega)⟩
    by_cases c4 : 1024 ≤ (y 1).val
    · exact ⟨_, .tail _ (.tail _ (.tail _ (.head _))), hc 1024 (by norm_num) c4 (by omega)⟩
    by_cases c3 : 768 ≤ (y 1).val
    · exact ⟨_, .tail _ (.tail _ (.tail _ (.tail _ (.head _)))), hc 768 (by norm_num) c3 (by omega)⟩
    by_cases c2 : 512 ≤ (y 1).val
    · exact ⟨_, .tail _ (.tail _ (.tail _ (.tail _ (.tail _ (.head _))))), hc 512 (by norm_num) c2 (by omega)⟩
    by_cases c1 : 256 ≤ (y 1).val
    · exact ⟨_, .tail _ (.tail _ (.tail _ (.tail _ (.tail _ (.tail _ (.head _)))))), hc 256 (by norm_num) c1 (by omega)⟩
    · exact ⟨_, .tail _ (.tail _ (.tail _ (.tail _ (.tail _ (.tail _ (.tail _ (.head _))))))), hc 0 (by norm_num) (by omega) (by omega)⟩

end Real

end Cert.MlaIdeal.Att

end
-- ==== Proof.MlaRef.lean ====
/- The reference's result, read at one element. -/
module

public import proofs.«01_k».proof.Proof.Gen.RefMlaIdeal.Run
public import proofs.«01_k».proof.Proof.FoxSoft
public import Idealize.ShloMosaic.Lib.Pointwise
public import Idealize.ShloMosaic.Lib.IdealHost

@[expose] public section

set_option maxRecDepth 16384

noncomputable section

namespace Cert.RefMlaIdeal.Att

open Cert.RefMlaIdeal Cert.RefMlaIdeal.Gen Idealize.ShloMosaic Idealize.ShloMosaic.TcCoe Cert.Soft

/-- Which keys a query may see. -/
def seen : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))
/-- The masked scores. -/
def scores (Q K : FVec Ideal S16x2048x4x96 .f32) : FVec Ideal S16x4x2048x2048 .f32 :=
  select (broadcastInDim S16x4x2048x2048 ![2, 3] bcast_S2048x2048_S16x4x2048x2048_2_3 seen)
    (mulf (Host.dotGeneral dot_S16x2048x4x96_S16x2048x4x96_S16x4x2048x2048_3_3_1_1_02_02 none Q K)
      (broadcastInDim S16x4x2048x2048 ![] bcast_S_S16x4x2048x2048 (constant S_ .f32 0x3DD105EC#32)))
    (broadcastInDim S16x4x2048x2048 ![] bcast_S_S16x4x2048x2048 (id (constant S_ .f32 0xFF800000#32)))
/-- The row maxima. -/
def tops (L : FVec Ideal S16x4x2048x2048 .f32) : FVec Ideal S16x4x2048 .f32 :=
  maximumf (broadcastInDim S16x4x2048 ![] bcast_S_S16x4x2048 (constant S_ .f32 0xFF800000#32)) (Host.reduce FloatOps.maximumf L (constant S_ .f32 0xFF800000#32) reducesTo_S16x4x2048x2048_S16x4x2048_d3 h_S_)
/-- A row statistic along the row. -/
def along (M : FVec Ideal S16x4x2048 .f32) : FVec Ideal S16x4x2048x2048 .f32 :=
  broadcastInDim S16x4x2048x2048 ![0, 1, 2, 3] bcast_S16x4x2048x1_S16x4x2048x2048_0_1_2_3 (broadcastInDim S16x4x2048x1 ![0, 1, 2] bcast_S16x4x2048_S16x4x2048x1_0_1_2 M)
/-- The unnormalized weights. -/
def raw (L : FVec Ideal S16x4x2048x2048 .f32) : FVec Ideal S16x4x2048x2048 .f32 := Host.exp (subf L (along (tops L)))
/-- The weights. -/
def weights (E : FVec Ideal S16x4x2048x2048 .f32) : FVec Ideal S16x4x2048x2048 .f32 :=
  Host.divf E (along (Host.reduceAdd E (constant S_ .f32 0x00000000#32) reducesTo_S16x4x2048x2048_S16x4x2048_d3 h_S_))
/-- The weighted values, heads side by side. -/
def result (V : FVec Ideal S16x2048x4x64 .f32) (P : FVec Ideal S16x4x2048x2048 .f32) : FVec Ideal S16x2048x256 .bf16 :=
  truncf .bf16 (shapeCast _ (transpose S16x2048x4x64 [0, 3, 1, 2] (Host.dotGeneral dot_S16x2048x4x64_S16x4x2048x2048_S16x4x64x2048_1_3_3_2_02_01 none V P) transposes_S16x4x64x2048_S16x2048x4x64_0_3_1_2) shapeCasts_S16x2048x4x64_S16x2048x256) bitsLt_bf16_f32

theorem res_eq (m : (ℓ : Loc nD τ sig) → Buf (Elt Ideal) ℓ) (c : Dev nD) : (Value.res_main_v24 m c : FVec Ideal S16x2048x256 .bf16)
    = result (m ((c.tc : Thread nD τ).loc main_arg2)) (weights (raw (scores (m ((c.tc : Thread nD τ).loc main_arg0)) (m ((c.tc : Thread nD τ).loc main_arg1))))) := rfl

variable (Q K : FVec Ideal S16x2048x4x96 .f32) (V : FVec Ideal S16x2048x4x64 .f32) (L E P : FVec Ideal S16x4x2048x2048 .f32)

theorem seen_apply (r k : Fin 2048) : seen (ix2 r k) = if k.val ≤ r.val then 1#1 else 0#1 := by
  pointwise [seen]
  have hr := r.isLt
  have hk := k.isLt
  have e : (BitVec.ofNat 32 k.val).sle (BitVec.ofNat 32 r.val) = decide (k.val ≤ r.val) := by
    simp only [BitVec.sle, BitVec.toInt_eq_toNat_of_lt (show 2 * (BitVec.ofNat 32 k.val).toNat < 2 ^ 32 by simp only [BitVec.toNat_ofNat]; omega), BitVec.toInt_eq_toNat_of_lt (show 2 * (BitVec.ofNat 32 r.val).toNat < 2 ^ 32 by simp only [BitVec.toNat_ofNat]; omega), BitVec.toNat_ofNat]
    congr 1
    apply propext
    omega
  show BitVec.ofBool ((BitVec.ofNat 32 k.val).sle (BitVec.ofNat 32 r.val)) = _
  rw [e]
  by_cases h : k.val ≤ r.val <;> simp [h]
theorem negTop : Ideal.ofBits .f32 0xFF800000#32 = (⊥ : EReal) := by
  simp [Ideal.ofBits, Ideal.ieee]
/-- The score scale that the program holds, 1/√96 to single precision. -/
def scl : ℝ := 13698540 / 134217728
theorem scl_eq : Ideal.ofBits .f32 0x3DD105EC#32 = (scl : EReal) := by
  simp [Ideal.ofBits, Ideal.ieee, scl, -EReal.coe_mul]; norm_num
theorem scores_apply (b : Fin 16) (h : Fin 4) (r k : Fin 2048) : (scores Q K (ix4 b h r k) : EReal)
    = if k.val ≤ r.val then (∑ d : Fin 96, (Q (ix4 b r h d) : EReal) * K (ix4 b k h d)) * (scl : EReal) else ⊥ := by
  pointwise [scores]
  rw [seen_apply, scl_eq]
  by_cases hk : k.val ≤ r.val
  · rw [if_pos hk, if_pos hk]; rfl
  · rw [if_neg hk, if_neg hk]; exact negTop
/-- A row maximum over numbers below the top, one of them above the bottom, is a real. -/
theorem fold_real {s t u : Shape} {a : Fin s.rank} (x : FVec Ideal s .f32) (init : FVec Ideal u .f32) (hi : ∀ i, (init i : EReal) = ⊥) (h' : s.ReducesTo [a] t) (h : s.Reduces [a] t)
    (hu : 0 < u.numel) (j : t.Idx) (hlt : ∀ i, (x i : EReal) < ⊤) (k : Fin (s.size a)) (hk : (⊥ : EReal) < x (h.lift j k)) :
    ∃ M : ℝ, (Host.reduce (FloatOps.maximumf (F := Ideal) (φ := .f32)) x init h' hu j : EReal) = (M : EReal) := by
  rw [Host.reduce_eq_fold_single (FloatOps.maximumf (F := Ideal) (φ := .f32)) x init h' h hu j, hi]
  have hT : Finset.univ.fold (FloatOps.maximumf (F := Ideal) (φ := .f32)) (⊥ : EReal) (x ∘ h.lift j) < (⊤ : EReal) :=
    (Finset.fold_max_lt _).2 ⟨bot_lt_top, fun y _ => hlt _⟩
  have hB : (⊥ : EReal) < Finset.univ.fold (FloatOps.maximumf (F := Ideal) (φ := .f32)) (⊥ : EReal) (x ∘ h.lift j) :=
    (Finset.lt_fold_max _).2 (Or.inr ⟨k, Finset.mem_univ _, hk⟩)
  exact ⟨EReal.toReal _, (EReal.coe_toReal hT.ne hB.ne').symm⟩
theorem floor_apply (R : FVec Ideal S16x4x2048 .f32) (b : Fin 16) (h : Fin 4) (r : Fin 2048) :
    (maximumf (broadcastInDim S16x4x2048 ![] bcast_S_S16x4x2048 (constant S_ .f32 0xFF800000#32)) R (ix3 b h r) : EReal) = R (ix3 b h r) := by
  pointwise
  rw [negTop]; exact max_eq_right bot_le
theorem lift_eq (hred : S16x4x2048x2048.Reduces [3] S16x4x2048) (b : Fin 16) (h : Fin 4) (r k : Fin 2048) : hred.lift (ix3 b h r) k = ix4 b h r k := by
  funext c
  apply Fin.ext
  refine (hred.lift_val (ix3 b h r) k c).trans ?_
  fin_cases c <;> rfl
theorem tops_real (hlt : ∀ i, (L i : EReal) < ⊤) (b : Fin 16) (h : Fin 4) (r : Fin 2048) (hex : ∃ k, (⊥ : EReal) < L (ix4 b h r k)) :
    ∃ M : ℝ, (tops L (ix3 b h r) : EReal) = (M : EReal) := by
  obtain ⟨k, hk⟩ := hex
  have hred : S16x4x2048x2048.Reduces [3] S16x4x2048 := by decide
  obtain ⟨M, hM⟩ := fold_real (s := S16x4x2048x2048) (a := 3) L (constant S_ .f32 0xFF800000#32) (fun _ => negTop) reducesTo_S16x4x2048x2048_S16x4x2048_d3 hred h_S_ (ix3 b h r) hlt k (by rw [lift_eq]; exact hk)
  exact ⟨M, (floor_apply _ b h r).trans hM⟩
theorem raw_apply (b : Fin 16) (h : Fin 4) (r k : Fin 2048) : (raw L (ix4 b h r k) : EReal) = Ideal.exp ((L (ix4 b h r k) : EReal) - tops L (ix3 b h r)) := by
  pointwise [raw, along]
theorem weights_apply (b : Fin 16) (h : Fin 4) (r k : Fin 2048) : (weights E (ix4 b h r k) : EReal) = Ideal.div (E (ix4 b h r k)) (∑ k : Fin 2048, (E (ix4 b h r k) : EReal)) := by
  pointwise [weights, along]
theorem result_apply (b : Fin 16) (r : Fin 2048) (n : Fin 256) : (result V P (ix3 b r n) : EReal)
    = ∑ k : Fin 2048, (V (ix4 b k (⟨n.val / 64, by omega⟩ : Fin 4) (⟨n.val % 64, by omega⟩ : Fin 64)) : EReal) * P (ix4 b (⟨n.val / 64, by omega⟩ : Fin 4) r k) := by
  pointwise [result]

end Cert.RefMlaIdeal.Att

end
-- ==== Proof.MlaHost.lean ====
/- The arrays that the host code hands the call, read at one element. -/
module

public import proofs.«01_k».proof.Proof.MlaRef
public import proofs.«01_k».proof.Proof.Gen.MlaIdeal.Frame
public import Idealize.ShloMosaic.Lib.Pipeline.ValueKit
public import Idealize.ShloMosaic.Lib.Claim
public import Idealize.ShloMosaic.Lib.Pointwise
public import Idealize.ShloMosaic.Lib.IdealHost

@[expose] public section

set_option maxRecDepth 16384

noncomputable section

namespace Cert.MlaIdeal.Att

open Cert.MlaIdeal Cert.MlaIdeal.Gen Idealize.ShloMosaic Idealize.ShloMosaic.TcCoe Idealize.SL.Sem
open Idealize.ShloMosaic.Pipeline (Dat)

/-- The padding: a float zero made from an integer zero. -/
abbrev zeroF : FVec Ideal S_ .f32 := sitofp (F := Ideal) .f32 (constantI S_ 32 0#32)
/-- The queries as the call takes them: scaled, each head padded to 128 lanes. -/
def hostQ (Q : FVec Ideal S16x2048x4x96 .f32) : FVec Ideal S16x2048x512 .bf16 :=
  truncf .bf16 (shapeCast S16x2048x512 (pad S16x2048x4x128 ![0, 0, 0, 0] ![0, 0, 0, 32] ![0, 0, 0, 0] (mulf Q
    (broadcastInDim S16x2048x4x96 ![] bcast_S_S16x2048x4x96 (id (Host.divf (constant (F := Ideal) S_ .f32 0x3DD105EC#32) (Host.log (constant (F := Ideal) S_ .f32 0x40000000#32))))))
    zeroF pads_S16x2048x4x96_S16x2048x4x128_000_000_000_0320 h_S_ : FVec Ideal S16x2048x4x128 .f32) shapeCasts_S16x2048x4x128_S16x2048x512 : FVec Ideal S16x2048x512 .f32) bitsLt_bf16_f32
/-- The keys as the call takes them: each head padded to 128 lanes, lanes before rows. -/
def hostK (K : FVec Ideal S16x2048x4x96 .f32) : FVec Ideal S16x512x2048 .bf16 :=
  truncf .bf16 (transpose S16x512x2048 [0, 2, 1] (shapeCast S16x2048x512 (pad S16x2048x4x128 ![0, 0, 0, 0] ![0, 0, 0, 32] ![0, 0, 0, 0] K
    zeroF pads_S16x2048x4x96_S16x2048x4x128_000_000_000_0320 h_S_ : FVec Ideal S16x2048x4x128 .f32) shapeCasts_S16x2048x4x128_S16x2048x512 : FVec Ideal S16x2048x512 .f32) transposes_S16x2048x512_S16x512x2048_0_2_1 : FVec Ideal S16x512x2048 .f32) bitsLt_bf16_f32
/-- Which heads stand first in their pair. -/
def firstOf : IVec S1x1x4x1 1 := broadcastInDim S1x1x4x1 ![2] bcast_S4_S1x1x4x1_2
  (cmpi .eq (andi (iotaInDim S4 32 0) (broadcastInDim S4 ![] bcast_S_S4 (constantI S_ 32 1#32))) (broadcastInDim S4 ![] bcast_S_S4 (constantI S_ 32 0#32)))
/-- The values as the call takes them: the first head of a pair in lanes 0 to 63 of its slot, the second in lanes 64 to 127. -/
def hostV (V : FVec Ideal S16x2048x4x64 .f32) : FVec Ideal S16x2048x512 .bf16 :=
  truncf .bf16 (shapeCast S16x2048x512 (select (broadcastInDim S16x2048x4x128 ![0, 1, 2, 3] bcast_S1x1x4x1_S16x2048x4x128_0_1_2_3 firstOf)
    (pad S16x2048x4x128 ![0, 0, 0, 0] ![0, 0, 0, 64] ![0, 0, 0, 0] V zeroF pads_S16x2048x4x64_S16x2048x4x128_000_000_000_0640 h_S_)
    (pad S16x2048x4x128 ![0, 0, 0, 64] ![0, 0, 0, 0] ![0, 0, 0, 0] V zeroF pads_S16x2048x4x64_S16x2048x4x128_000_000_000_6400 h_S_) : FVec Ideal S16x2048x4x128 .f32)
    shapeCasts_S16x2048x4x128_S16x2048x512 : FVec Ideal S16x2048x512 .f32) bitsLt_bf16_f32

section Host
variable (Q K : FVec Ideal S16x2048x4x96 .f32) (W : FVec Ideal S16x2048x4x64 .f32)
theorem zero_f : (FloatOps.sitofp (F := Ideal) .f32 0#32 : EReal) = 0 := by
  show (((0#32 : BitVec 32).toInt : ℝ) : EReal) = 0
  norm_num
theorem first_bit : ∀ h : Fin 4, IntOp.cmpi .eq (IntOp.andi (BitVec.ofNat 32 h.val) 1#32) 0#32 = if h.val % 2 = 0 then 1#1 else 0#1 := by decide
theorem host0 (b : Fin 16) (r : Fin 2048) (h : Fin 4) (l : Fin 128) : (hostQ Q (ix3 b r (⟨128 * h.val + l.val, by omega⟩ : Fin 512)) : EReal)
    = if hl : l.val < 96 then (Q (ix4 b r h (⟨l.val, hl⟩ : Fin 96)) : EReal) * ((Cert.RefMlaIdeal.Att.scl * (Real.log 2)⁻¹ : ℝ) : EReal) else 0 := by
  pointwise [hostQ]
  have e : (id (Host.divf (constant (F := Ideal) S_ .f32 0x3DD105EC#32) (Host.log (constant (F := Ideal) S_ .f32 0x40000000#32))) ix0 : EReal)
      = ((Cert.RefMlaIdeal.Att.scl * (Real.log 2)⁻¹ : ℝ) : EReal) := by
    show Ideal.div (Ideal.ofBits .f32 0x3DD105EC#32) (Ideal.log (Ideal.ofBits .f32 0x40000000#32)) = _
    have h2 : Ideal.ofBits .f32 0x40000000#32 = ((2 : ℝ) : EReal) := by
      simp [Ideal.ofBits, Ideal.ieee, -EReal.coe_mul]; norm_num
    rw [Cert.RefMlaIdeal.Att.scl_eq, h2, Ideal.log_coe, if_neg (by norm_num), Ideal.div_coe (Real.log_pos (by norm_num)).ne', ← EReal.coe_mul, one_div (Real.log 2)]
  rw [e, zero_f]
theorem host1 (b : Fin 16) (r : Fin 2048) (h : Fin 4) (l : Fin 128) : (hostK K (ix3 b (⟨128 * h.val + l.val, by omega⟩ : Fin 512) r) : EReal)
    = if hl : l.val < 96 then (K (ix4 b r h (⟨l.val, hl⟩ : Fin 96)) : EReal) else 0 := by
  pointwise [hostK]
  rw [zero_f]
theorem host2 (b : Fin 16) (r : Fin 2048) (h : Fin 4) (l : Fin 128) : (hostV W (ix3 b r (⟨128 * h.val + l.val, by omega⟩ : Fin 512)) : EReal)
    = if l.val / 64 = h.val % 2 then (W (ix4 b r h (⟨l.val % 64, by omega⟩ : Fin 64)) : EReal) else 0 := by
  pointwise [hostV, firstOf]
  rw [first_bit, zero_f]
  by_cases hh : h.val % 2 = 0
  · rw [if_pos hh]
    show (if h_1 : l.val < 64 then _ else _) = _
    by_cases hl : l.val < 64
    · rw [dif_pos hl, if_pos (by omega)]
      have e : (⟨l.val, hl⟩ : Fin 64) = ⟨l.val % 64, by omega⟩ := Fin.ext (by show l.val = l.val % 64; omega)
      rw [e]
    · rw [dif_neg hl, if_neg (by omega)]
  · rw [if_neg hh]
    show (if h_1 : 64 ≤ l.val ∧ l.val - 64 < 64 then _ else _) = _
    by_cases hl : 64 ≤ l.val ∧ l.val - 64 < 64
    · rw [dif_pos hl, if_pos (by omega)]
      have e : (⟨l.val - 64, by omega⟩ : Fin 64) = ⟨l.val % 64, by omega⟩ := Fin.ext (by show l.val - 64 = l.val % 64; omega)
      rw [e]
    · rw [dif_neg hl, if_neg (by omega)]
end Host

end Cert.MlaIdeal.Att

end
-- ==== Proof.MlaArr.lean ====
/- The blocks that a grid point reads, at the argument arrays' elements. -/
module

public import proofs.«01_k».proof.Proof.MlaUnit
public import proofs.«01_k».proof.Proof.MlaHost
public import proofs.«01_k».proof.Proof.Gen.MlaIdeal.Value
public import Idealize.ShloMosaic.Lib.Pipeline.ValueKit
public import Idealize.ShloMosaic.Lib.Claim

@[expose] public section

set_option maxRecDepth 16384

noncomputable section

namespace Cert.MlaIdeal.Att

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0, t.val % 2] ∧ win0_1.index t = ![t.val / 2, t.val % 2, 0]
    ∧ win0_2.index t = ![t.val / 2, 0, t.val % 2] ∧ win0_3.index t = ![t.val / 2, 0, t.val % 2] ∧ t.val / 2 < 16 :=
  (by decide +kernel : ∀ t : Fin grid0.N, _)

theorem V7 (c : Dev nD) : (V m c main_v7 : FVec Ideal S16x2048x512 .bf16) = hostQ (m ((c : Thread nD τ).loc main_arg0)) := by
  show StableHlo.after [hostOps0, hostOps0_1, hostOps0_2, hostOps0_3, hostOps0_4, hostOps0_5, hostOps0_6, hostOps0_7, hostOps0_8, hostOps0_9].flatten (fun b => m (c, b)) (Proc.tc.devRef main_v7) = _
  simp only [hostOps0, hostOps0_1, hostOps0_2, hostOps0_3, hostOps0_4, hostOps0_5, hostOps0_6, hostOps0_7, hostOps0_8, hostOps0_9, List.flatten_cons, List.flatten_nil, List.cons_append, List.nil_append, List.append_nil, StableHlo.TRef.unary, StableHlo.TRef.binary, StableHlo.TRef.ternary, StableHlo.TRef.toBuf, StableHlo.TRef.ofBuf, cast_eq]
  after_results_simp <;> rfl
theorem V11 (c : Dev nD) : (V m c main_v11 : FVec Ideal S16x512x2048 .bf16) = hostK (m ((c : Thread nD τ).loc main_arg1)) := by
  show StableHlo.after [hostOps0, hostOps0_1, hostOps0_2, hostOps0_3, hostOps0_4, hostOps0_5, hostOps0_6, hostOps0_7, hostOps0_8, hostOps0_9].flatten (fun b => m (c, b)) (Proc.tc.devRef main_v11) = _
  simp only [hostOps0, hostOps0_1, hostOps0_2, hostOps0_3, hostOps0_4, hostOps0_5, hostOps0_6, hostOps0_7, hostOps0_8, hostOps0_9, List.flatten_cons, List.flatten_nil, List.cons_append, List.nil_append, List.append_nil, StableHlo.TRef.unary, StableHlo.TRef.binary, StableHlo.TRef.ternary, StableHlo.TRef.toBuf, StableHlo.TRef.ofBuf, cast_eq]
  after_results_simp <;> rfl
theorem V22 (c : Dev nD) : (V m c main_v22 : FVec Ideal S16x2048x512 .bf16) = hostV (m ((c : Thread nD τ).loc main_arg2)) := by
  show StableHlo.after [hostOps0, hostOps0_1, hostOps0_2, hostOps0_3, hostOps0_4, hostOps0_5, hostOps0_6, hostOps0_7, hostOps0_8, hostOps0_9].flatten (fun b => m (c, b)) (Proc.tc.devRef main_v22) = _
  simp only [hostOps0, hostOps0_1, hostOps0_2, hostOps0_3, hostOps0_4, hostOps0_5, hostOps0_6, hostOps0_7, hostOps0_8, hostOps0_9, List.flatten_cons, List.flatten_nil, List.cons_append, List.nil_append, List.append_nil, StableHlo.TRef.unary, StableHlo.TRef.binary, StableHlo.TRef.ternary, StableHlo.TRef.toBuf, StableHlo.TRef.ofBuf, cast_eq]
  after_results_simp <;> rfl

theorem blk0 (c : Dev nD) (t : Fin cfg0.N) (r : Fin 2048) (n : Fin 256) :
    (iblk m c 0 t (ix3 0 r n) : EReal) = V m c main_v7 (ix3 (⟨t.val / 2, (idx t).2.2.2.2⟩ : Fin 16) r (⟨256 * (t.val % 2) + n.val, by omega⟩ : Fin 512)) := by
  blk_simp [iblk]
  blk_ext [idx t]
theorem blk1 (c : Dev nD) (t : Fin cfg0.N) (r : Fin 2048) (n : Fin 256) :
    (iblk m c 1 t (ix3 0 n r) : EReal) = V m c main_v11 (ix3 (⟨t.val / 2, (idx t).2.2.2.2⟩ : Fin 16) (⟨256 * (t.val % 2) + n.val, by omega⟩ : Fin 512) r) := by
  blk_simp [iblk]
  blk_ext [idx t]
theorem blk2 (c : Dev nD) (t : Fin cfg0.N) (r : Fin 2048) (n : Fin 256) :
    (iblk m c 2 t (ix3 0 r n) : EReal) = V m c main_v22 (ix3 (⟨t.val / 2, (idx t).2.2.2.2⟩ : Fin 16) r (⟨256 * (t.val % 2) + n.val, by omega⟩ : Fin 512)) := by
  blk_simp [iblk]
  blk_ext [idx t]

end Cert.MlaIdeal.Att

end
-- ==== Proof.MlaFinal.lean ====
/- The kernel's result array is the reference's result array, for finite queries and keys. -/
module

public import proofs.«01_k».proof.Proof.MlaArr
public import proofs.«01_k».proof.Proof.MlaRef

@[expose] public section

set_option maxRecDepth 16384

noncomputable section

namespace Cert.MlaIdeal.Att

open Cert.MlaIdeal Cert.MlaIdeal.Gen Idealize.ShloMosaic Idealize.ShloMosaic.TcCoe Idealize.SL.Sem Cert.Soft
open Idealize.ShloMosaic.Pipeline (Dat)

open Cert.RefMlaIdeal.Att (scl)

/-- A head's masked-in score of a query row and a key row, as a real. -/
def score (q k : S16x2048x4x96.Idx → ℝ) (b : Fin 16) (h : Fin 4) (R K : Fin 2048) : ℝ :=
  (∑ d : Fin 96, q (ix4 b R h d) * k (ix4 b K h d)) * scl

/-- A head's number, from its pair and its place in the pair. -/
def head (p : ℕ) (hp : p < 2) (hh : Fin 2) : Fin 4 := ⟨2 * p + hh.val, by omega⟩

section Blocks
variable {x0 : Vec Ideal S1x2048x256 .bf16} {x1 : Vec Ideal S1x256x2048 .bf16} {q k : S16x2048x4x96.Idx → ℝ}

theorem lgIs_of (b : Fin 16) (h : Fin 4) (hh : Fin 2)
    (h0 : ∀ (r : Fin 2048) (l : Fin 128), (x0 (ix3 0 r (lane hh l)) : EReal) = if hl : l.val < 96 then ((q (ix4 b r h (⟨l.val, hl⟩ : Fin 96)) : ℝ) : EReal) * ((scl * (Real.log 2)⁻¹ : ℝ) : EReal) else 0)
    (h1 : ∀ (r : Fin 2048) (l : Fin 128), (x1 (ix3 0 (lane hh l) r) : EReal) = if hl : l.val < 96 then ((k (ix4 b r h (⟨l.val, hl⟩ : Fin 96)) : ℝ) : EReal) else 0) :
    LgIs hh x0 x1 (score q k b h) := fun R K => by
  unfold lg
  have e : (∑ l : Fin 128, (x0 (ix3 0 R (lane hh l)) * x1 (ix3 0 (lane hh l) K) : EReal))
      = ∑ d : Fin 96, ((q (ix4 b R h d) * k (ix4 b K h d) * (scl * (Real.log 2)⁻¹) : ℝ) : EReal) := by
    rw [show (∑ l : Fin 128, (x0 (ix3 0 R (lane hh l)) * x1 (ix3 0 (lane hh l) K) : EReal)) = ∑ l : Fin (96 + 32), (x0 (ix3 0 R (lane hh l)) * x1 (ix3 0 (lane hh l) K) : EReal) from rfl,
      Fin.sum_univ_add, Finset.sum_eq_zero (s := Finset.univ) (f := fun i : Fin 32 => (x0 (ix3 0 R (lane hh (Fin.natAdd 96 i))) * x1 (ix3 0 (lane hh (Fin.natAdd 96 i)) K) : EReal)), add_zero]
    · refine Finset.sum_congr rfl fun d _ => ?_
      have hd : (Fin.castAdd 32 d : Fin (96 + 32)).val < 96 := d.isLt
      refine (congrArg₂ (fun x y : EReal => x * y) ((h0 R (Fin.castAdd 32 d)).trans (dif_pos hd)) ((h1 K (Fin.castAdd 32 d)).trans (dif_pos hd))).trans ?_
      show ((q (ix4 b R h d) : ℝ) : EReal) * ((scl * (Real.log 2)⁻¹ : ℝ) : EReal) * ((k (ix4 b K h d) : ℝ) : EReal) = _
      rw [← EReal.coe_mul, ← EReal.coe_mul]
      congr 1; ring
    · intro d _
      have hd : ¬ (Fin.natAdd 96 d : Fin (96 + 32)).val < 96 := by show ¬ 96 + d.val < 96; omega
      refine (congrArg₂ (fun x y : EReal => x * y) ((h0 R (Fin.natAdd 96 d)).trans (dif_neg hd)) ((h1 K (Fin.natAdd 96 d)).trans (dif_neg hd))).trans ?_
      exact mul_zero _
  rw [e, ← coe_sum, ← Finset.sum_mul]
  congr 1
  unfold score
  ring
end Blocks

variable (m : (ℓ : Loc nD τ sig) → Buf (Elt Ideal) ℓ)

/-- The kernel's arguments at their literal types. -/
abbrev argQ (c : Dev nD) : FVec Ideal S16x2048x4x96 .f32 := m ((c : Thread nD τ).loc main_arg0)
abbrev argK (c : Dev nD) : FVec Ideal S16x2048x4x96 .f32 := m ((c : Thread nD τ).loc main_arg1)
abbrev argV (c : Dev nD) : FVec Ideal S16x2048x4x64 .f32 := m ((c : Thread nD τ).loc main_arg2)

/-- The batch row of a grid point. -/
abbrev bat (t : Fin cfg0.N) : Fin 16 := ⟨t.val / 2, (idx t).2.2.2.2⟩
/-- The head of a grid point, by its place in the pair. -/
abbrev hd (t : Fin cfg0.N) (hh : Fin 2) : Fin 4 := head (t.val % 2) (by omega) hh

theorem slot (p : ℕ) (hp : p < 2) (hh : Fin 2) (l : Fin 128) :
    (⟨256 * p + (lane hh l).val, by omega⟩ : Fin 512) = ⟨128 * (head p hp hh).val + l.val, by omega⟩ :=
  Fin.ext (by show 256 * p + (128 * hh.val + l.val) = 128 * (2 * p + hh.val) + l.val; omega)

/-- The value block: the first head's values in its lanes 0 to 63, the second head's in its lanes 64 to 127, zero elsewhere. -/
theorem vals_at (c : Dev nD) (t : Fin cfg0.N) (hh : Fin 2) (K : Fin 2048) (l : Fin 128) : (iblk m c 2 t (ix3 0 K (lane hh l)) : EReal)
    = if l.val / 64 = hh.val then (argV m c (ix4 (bat t) K (hd t hh) (⟨l.val % 64, by omega⟩ : Fin 64)) : EReal) else 0 := by
  refine (blk2 m c t K (lane hh l)).trans ?_
  rw [V22, slot (t.val % 2) (by omega) hh l]
  refine (host2 (argV m c) _ _ _ _).trans ?_
  have e : (hd t hh).val % 2 = hh.val := by show (2 * (t.val % 2) + hh.val) % 2 = hh.val; omega
  rw [e]

section Fin
variable (c : Dev nD) {q k : S16x2048x4x96.Idx → ℝ}
  (hq : ∀ i, argQ m c i = ((q i : ℝ) : EReal)) (hk : ∀ i, argK m c i = ((k i : ℝ) : EReal))

include hq hk in
theorem lgIs_at (t : Fin cfg0.N) (hh : Fin 2) : LgIs hh (iblk m c 0 t) (iblk m c 1 t) (score q k (bat t) (hd t hh)) := by
  refine lgIs_of _ _ _ (fun r l => ?_) (fun r l => ?_)
  · refine (blk0 m c t r (lane hh l)).trans ?_
    rw [V7, slot (t.val % 2) (by omega) hh l]
    refine (host0 (argQ m c) _ _ _ _).trans ?_
    by_cases h : l.val < 96
    · rw [dif_pos h, dif_pos h, hq]
    · rw [dif_neg h, dif_neg h]
  · refine (blk1 m c t r (lane hh l)).trans ?_
    rw [V11, slot (t.val % 2) (by omega) hh l]
    refine (host1 (argK m c) _ _ _ _).trans ?_
    by_cases h : l.val < 96
    · rw [dif_pos h, dif_pos h, hk]
    · rw [dif_neg h, dif_neg h]

/-- The reference's masked scores. -/
abbrev refL : FVec Ideal Cert.RefMlaIdeal.S16x4x2048x2048 .f32 := Cert.RefMlaIdeal.Att.scores (argQ m c) (argK m c)

include hq hk in
theorem refL_apply (b : Fin 16) (h : Fin 4) (R K : Fin 2048) : (refL m c (ix4 b h R K) : EReal) = masked (K.val ≤ R.val) (score q k b h R K) := by
  refine (Cert.RefMlaIdeal.Att.scores_apply _ _ b h R K).trans ?_
  unfold masked
  by_cases hK : K.val ≤ R.val
  · rw [if_pos hK, if_pos hK]
    rw [Finset.sum_congr rfl fun d _ => (by rw [hq, hk, ← EReal.coe_mul] : (argQ m c (ix4 b R h d) : EReal) * argK m c (ix4 b K h d) = _),
      ← coe_sum, ← EReal.coe_mul]
    rfl
  · rw [if_neg hK, if_neg hK]

include hq hk in
theorem top_real (b : Fin 16) (h : Fin 4) (R : Fin 2048) : ∃ M : ℝ, (Cert.RefMlaIdeal.Att.tops (refL m c) (ix3 b h R) : EReal) = (M : EReal) := by
  refine Cert.RefMlaIdeal.Att.tops_real _ (fun i => ?_) b h R ⟨R, ?_⟩
  · have : i = ix4 (i 0) (i 1) (i 2) (i 3) := by funext a; fin_cases a <;> rfl
    rw [this]
    refine (refL_apply m c hq hk _ _ _ _).trans_lt ?_
    unfold masked
    split_ifs
    · exact EReal.coe_lt_top _
    · exact bot_lt_top
  · rw [refL_apply m c hq hk, masked, if_pos le_rfl]; exact EReal.bot_lt_coe _

/-- The reference's result over the kernel's arguments. -/
abbrev refR : FVec Ideal S16x2048x256 .bf16 := Cert.RefMlaIdeal.Att.result (argV m c) (Cert.RefMlaIdeal.Att.weights (Cert.RefMlaIdeal.Att.raw (refL m c)))

include hq hk in
theorem refR_apply (t : Fin cfg0.N) (mm : Fin 4 → Fin 2048 → ℝ) (hm : ∀ h R, (Cert.RefMlaIdeal.Att.tops (refL m c) (ix3 (bat t) h R) : EReal) = (mm h R : EReal))
    (R : Fin 2048) (d : Fin 128) (hh : Fin 2) (hd' : d.val / 64 = hh.val) :
    (refR m c (ix3 (bat t) R (⟨128 * (t.val % 2) + d.val, by omega⟩ : Fin 256)) : EReal)
      = soft hh (score q k (bat t) (hd t hh)) (mm (hd t hh)) (iblk m c 2 t) R d := by
  refine (Cert.RefMlaIdeal.Att.result_apply _ _ _ _ _).trans ?_
  unfold soft
  refine Finset.sum_congr rfl fun K _ => ?_
  have eh : (⟨(128 * (t.val % 2) + d.val) / 64, by omega⟩ : Fin 4) = hd t hh := Fin.ext (by show (128 * (t.val % 2) + d.val) / 64 = 2 * (t.val % 2) + hh.val; omega)
  have ed : (⟨(128 * (t.val % 2) + d.val) % 64, by omega⟩ : Fin 64) = ⟨d.val % 64, by omega⟩ := Fin.ext (by show (128 * (t.val % 2) + d.val) % 64 = d.val % 64; omega)
  have er : ∀ K, (Cert.RefMlaIdeal.Att.raw (refL m c) (ix4 (bat t) (hd t hh) R K) : EReal)
      = Ideal.exp (masked (K.val ≤ R.val) (score q k (bat t) (hd t hh) R K) - (mm (hd t hh) R : EReal)) := fun K => by
    rw [Cert.RefMlaIdeal.Att.raw_apply, refL_apply m c hq hk, hm]
  congr 1
  · refine Eq.trans ?_ ((vals_at m c t hh K d).trans (if_pos hd')).symm
    show argV m c (ix4 (bat t) K (⟨(128 * (t.val % 2) + d.val) / 64, by omega⟩ : Fin 4) (⟨(128 * (t.val % 2) + d.val) % 64, by omega⟩ : Fin 64)) = _
    rw [eh, ed]
  · refine (Cert.RefMlaIdeal.Att.weights_apply _ _ _ _ _).trans ?_
    show Ideal.div (Cert.RefMlaIdeal.Att.raw (refL m c) (ix4 _ (⟨(128 * (t.val % 2) + d.val) / 64, by omega⟩ : Fin 4) R K)) (∑ K : Fin 2048, Cert.RefMlaIdeal.Att.raw (refL m c) (ix4 _ (⟨(128 * (t.val % 2) + d.val) / 64, by omega⟩ : Fin 4) R K)) = _
    rw [eh, er, Finset.sum_congr rfl fun K _ => er K]

include hq hk in
theorem after_at (t : Fin cfg0.N) (y : S1x2048x128.Idx) :
    ((outsAt0 m c t : Vec Ideal S1x2048x128 .bf16) y : EReal) = refR m c (ix3 (bat t) (y 1) (⟨128 * (t.val % 2) + (y 2).val, by have := (y 2).isLt; change (y 2).val < 128 at this; omega⟩ : Fin 256)) := by
  choose mm hm using fun (h : Fin 4) (R : Fin 2048) => top_real m c hq hk (bat t) h R
  have hy : (y 2).val < 128 := (y 2).isLt
  unfold outsAt0 out0_A_3
  rw [View.read_writes_junk_apply_eq_canon]
  refine (out_at _ _ _ _ _ _ _ _ _ _ _ (lgIs_at m c hq hk t 0) (lgIs_at m c hq hk t 1) c _ _ _
    (fun K => (vals_at m c t 0 K ⟨64, by norm_num⟩).trans (if_neg (by decide))) (fun K => (vals_at m c t 1 K ⟨0, by norm_num⟩).trans (if_neg (by decide)))
    (mm (hd t 0)) (mm (hd t 1)) y).trans ?_
  unfold softPair
  by_cases h0 : (y 2).val / 64 = 0
  · rw [if_pos h0]
    exact (refR_apply m c hq hk t mm hm (y 1) (y 2) 0 h0).symm
  · rw [if_neg h0]
    exact (refR_apply m c hq hk t mm hm (y 1) (y 2) 1 (by show (y 2).val / 64 = 1; omega)).symm

include hq hk in
theorem final : (dats m 0 c).arrAt 3 (cfgs 0).N = refR m c := by
  refine (dats m 0 c).arrAt_eq_of_covers 3 _ (by decide +kernel) fun t _ y => ?_
  blk_simp
  rw [after0_3]
  refine (after_at m c hq hk t y).trans ?_
  blk_ext [idx t]
end Fin

end Cert.MlaIdeal.Att

end
-- ==== Proof.MlaPre.lean ====
/- What the precondition says of the arguments' elements. -/
module

public import proofs.«01_k».proof.Proof.Gen.Pre_finite_latents
public import Idealize.ShloMosaic.Lib.Pointwise
public import Idealize.ShloMosaic.Lib.IdealHost
public import Idealize.ShloMosaic.Lib.ReduceAll

@[expose] public section

set_option maxRecDepth 16384

noncomputable section

namespace Cert.Pre_finite_latents.Att

open Cert.Pre_finite_latents Cert.Pre_finite_latents.Gen Idealize.ShloMosaic

/-- An extended real whose absolute value lies below the top is a real. -/
theorem real_of_lt (x : EReal) (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

theorem and_one : ∀ a b : BitVec 1, IntOp.andi a b = 1#1 → a = 1#1 ∧ b = 1#1 := by decide

instance : Subsingleton S_.Idx := ⟨fun a b => funext fun x => x.elim0⟩

theorem fin_of (s : Shape) (hb : S_.BroadcastsInDim s (![] : Fin 0 → Fin s.rank)) (axes : List (Fin s.rank)) (hr : s.ReducesTo axes S_)
    (x : FVec Ideal s .f32) (j : S_.Idx)
    (h : Host.reduce IntOp.andi (cmpf .olt (Host.absf x) (broadcastInDim s ![] hb (constant (F := Ideal) S_ .f32 0x7F800000#32))) (constantI S_ 1 1#1) hr h_S_ j = 1#1)
    (i : s.Idx) : ∃ r : ℝ, x i = (r : EReal) := by
  have := Host.reduce_andi_all _ _ _ _ _ h i
  have ht : Ideal.ofBits .f32 0x7F800000#32 = ⊤ := by simp [Ideal.ofBits, Ideal.ieee]
  refine real_of_lt _ ?_
  rw [← ht]
  exact this

theorem fin_args (q k : FVec Ideal S16x2048x4x96 .f32) (v : FVec Ideal S16x2048x4x64 .f32) (h : fn (F := Ideal) q k v = fun _ => 1#1) :
    (∀ i, ∃ r : ℝ, q i = (r : EReal)) ∧ (∀ i, ∃ r : ℝ, k i = (r : EReal)) := by
  have h0 := congrFun h (fun x => x.elim0)
  obtain ⟨h1, h2⟩ := and_one _ _ h0
  exact ⟨fin_of _ _ _ _ q _ h1, fin_of _ _ _ _ k _ h2⟩

end Cert.Pre_finite_latents.Att

end
-- ==== Proof.ModulRef.lean ====
/- The reference modulation's array expression, named and read at an element. -/
module

public import proofs.«01_k».proof.Proof.Gen.RefModulIdeal.Run
public import proofs.«01_k».proof.Proof.FfnTiles

@[expose] public section

set_option maxRecDepth 16384

noncomputable section

namespace Cert.RefModulIdeal.Val

open Cert.RefModulIdeal Cert.RefModulIdeal.Gen Idealize.ShloMosaic Idealize.ShloMosaic.TcCoe Cert.Mlp

/-- The condition, gated. -/
def actS (C : FVec Ideal S16x1024 .f32) : FVec Ideal S16x1024 .f32 :=
  mulf C (Host.divf (broadcastInDim S16x1024 ![] bcast_S_S16x1024 (constant S_ .f32 0x3F800000#32)) (addf (broadcastInDim S16x1024 ![] bcast_S_S16x1024 (constant S_ .f32 0x3F800000#32)) (Host.exp (Host.negf C))))
/-- Layer `l`'s modulation, as one layer of the stack. -/
def layS (l : ℕ) (C : FVec Ideal S16x1024 .f32) (W : FVec Ideal S2x1024x9216 .f32) (B : FVec Ideal S2x9216 .f32) (hw : S2x1024x9216.Slices ![l, 0, 0] S1x1024x9216) (hb : S2x9216.Slices ![l, 0] S1x9216) : FVec Ideal S1x16x9216 .f32 :=
  broadcastInDim S1x16x9216 ![1, 2] bcast_S16x9216_S1x16x9216_1_2 (addf (Host.dotGeneral dot_S16x1024_S1024x9216_S16x9216_1_0_0_1_n_n none (actS C)
      (shapeCast S1024x9216 (extractStridedSlice S1x1024x9216 ![l, 0, 0] W hw) shapeCasts_S1x1024x9216_S1024x9216))
    (broadcastInDim S16x9216 ![0, 1] bcast_S1x9216_S16x9216_0_1 (broadcastInDim S1x9216 ![1] bcast_S9216_S1x9216_1 (shapeCast S9216 (extractStridedSlice S1x9216 ![l, 0] B hb) shapeCasts_S1x9216_S9216))))
/-- The modulation of one condition row at one column. -/
def modulR (C : Fin 1024 → EReal) (W : Fin 1024 → EReal) (b : EReal) : EReal := (∑ k, C k * Ideal.logistic (C k) * W k) + b

variable (C : FVec Ideal S16x1024 .f32) (W : FVec Ideal S2x1024x9216 .f32) (B : FVec Ideal S2x9216 .f32)

theorem actS_at (b : Fin 16) (k : Fin 1024) : (actS C (ix2 b k) : EReal) = C (ix2 b k) * Ideal.logistic (C (ix2 b k)) := by
  pointwise [actS]
  rfl
theorem layS_at (l : ℕ) (hl : l < 2) (hw : S2x1024x9216.Slices ![l, 0, 0] S1x1024x9216) (hb : S2x9216.Slices ![l, 0] S1x9216) (b : Fin 16) (j : Fin 9216) :
    (layS l C W B hw hb (ix3 0 b j) : EReal) = modulR (fun k => C (ix2 b k)) (fun k => W (ix3 (⟨l, hl⟩ : Fin 2) k j)) (B (ix2 (⟨l, hl⟩ : Fin 2) j)) := by
  pointwise [layS, modulR]
  simp only [actS_at]

/-- The reference's result over its arguments. -/
def result : FVec Ideal S2x16x9216 .f32 :=
  concatenate S2x16x9216 0 [⟨S1x16x9216, layS 0 C W B slices_S2x1024x9216_S1x1024x9216_0_0_0 slices_S2x9216_S1x9216_0_0⟩,
    ⟨S1x16x9216, layS 1 C W B slices_S2x1024x9216_S1x1024x9216_1_0_0 slices_S2x9216_S1x9216_1_0⟩] concatenates_S1x16x9216_S1x16x9216_S2x16x9216_d0

theorem result_at (l : Fin 2) (b : Fin 16) (j : Fin 9216) : (result C W B (ix3 l b j) : EReal)
    = modulR (fun k => C (ix2 b k)) (fun k => W (ix3 l k j)) (B (ix2 l j)) := by
  match l with
  | ⟨0, _⟩ => pointwise [result]; rw [layS_at _ _ _ 0 (by decide)]; rfl
  | ⟨1, _⟩ => pointwise [result]; rw [layS_at _ _ _ 1 (by decide)]; rfl

end Cert.RefModulIdeal.Val

end
-- ==== Proof.ModulFinal.lean ====
/- The modulation kernel's result array is the reference's. -/
module

public import proofs.«01_k».proof.Proof.ModulRef
public import proofs.«01_k».proof.Proof.Gen.ModulIdeal.Value
public import Idealize.ShloMosaic.Lib.Pipeline.ValueKit
public import Idealize.ShloMosaic.Lib.Claim

@[expose] public section

set_option maxRecDepth 16384

noncomputable section

namespace Cert.ModulIdeal.Val

open Cert.ModulIdeal Cert.ModulIdeal.Gen Idealize.ShloMosaic Idealize.ShloMosaic.TcCoe Idealize.SL.Sem Cert.Mlp
open Idealize.ShloMosaic.Pipeline (Dat)

variable (m : (ℓ : Loc nD τ sig) → Buf (Elt Ideal) ℓ)

theorem idx : ∀ t : Fin cfg0.N, win0_0.index t = ![0, 0] ∧ win0_1.index t = ![t.val / 8, 0, t.val % 8]
    ∧ win0_2.index t = ![t.val / 8, 0, t.val % 8] ∧ win0_3.index t = ![t.val / 8, 0, t.val % 8] ∧ t.val / 8 < 2 :=
  (by decide +kernel : ∀ t : Fin grid0.N, _)

/-- The kernel's arguments at their literal types. -/
abbrev argC (c : Dev nD) : FVec Ideal S16x1024 .f32 := m ((c : Thread nD τ).loc main_arg0)
abbrev argW (c : Dev nD) : FVec Ideal S2x1024x9216 .f32 := m ((c : Thread nD τ).loc main_arg1)
abbrev argB (c : Dev nD) : FVec Ideal S2x9216 .f32 := m ((c : Thread nD τ).loc main_arg2)

/-- The layer of a grid point. -/
abbrev lOf (t : Fin cfg0.N) : Fin 2 := ⟨t.val / 8, (idx t).2.2.2.2⟩
/-- The column that lane `j` of a grid point's tile is. -/
abbrev jOf (t : Fin cfg0.N) (j : Fin 1152) : Fin 9216 := ⟨1152 * (t.val % 8) + j.val, by omega⟩

theorem V0 (c : Dev nD) : (V m c main_v0 : FVec Ideal S2x1x9216 .f32) = shapeCast S2x1x9216 (argB m c) shapeCasts_S2x9216_S2x1x9216 := by
  show StableHlo.after [hostOps0].flatten (fun b => m (c, b)) (Proc.tc.devRef main_v0) = _
  simp only [hostOps0, List.flatten_cons, List.flatten_nil, List.cons_append, List.nil_append, List.append_nil, StableHlo.TRef.unary, StableHlo.TRef.binary, StableHlo.TRef.toBuf, StableHlo.TRef.ofBuf, cast_eq]
  after_results_simp <;> rfl
theorem blk0 (c : Dev nD) (t : Fin cfg0.N) (b : Fin 16) (k : Fin 1024) : (iblk m c 0 t (ix2 b k) : EReal) = argC m c (ix2 b k) := by
  blk_simp [iblk]; entry_read; pointwise; blk_ext [idx t]
theorem blk1 (c : Dev nD) (t : Fin cfg0.N) (k : Fin 1024) (j : Fin 1152) : (iblk m c 1 t (ix3 0 k j) : EReal) = argW m c (ix3 (lOf t) k (jOf t j)) := by
  blk_simp [iblk]; entry_read; pointwise; blk_ext [idx t]
theorem blk2 (c : Dev nD) (t : Fin cfg0.N) (j : Fin 1152) : (iblk m c 2 t (ix3 0 0 j) : EReal) = V m c main_v0 (ix3 (lOf t) (0 : Fin 1) (jOf t j)) := by
  blk_simp [iblk]
  blk_ext [idx t]

/-- The reference's result over the kernel's arguments. -/
abbrev refR (c : Dev nD) : FVec Ideal S2x16x9216 .f32 := Cert.RefModulIdeal.Val.result (argC m c) (argW m c) (argB m c)

theorem pay_at (x : Vec Ideal S16x1024 .f32) (w : Vec Ideal S1x1024x1152 .f32) (b : Vec Ideal S1x1x1152 .f32) (i : Fin 16) (j : Fin 1152) :
    (k0_pay1 x w b (ix3 0 i j) : EReal) = (∑ k : Fin 1024, (x (ix2 i k) : EReal) * Ideal.logistic (x (ix2 i k)) * w (ix3 0 k j)) + b (ix3 0 0 j) := by
  pointwise [k0_pay1]

theorem after_at (c : Dev nD) (t : Fin cfg0.N) (i : Fin 16) (j : Fin 1152) :
    ((out0_3 (iblk m c 0 t) (iblk m c 1 t) (iblk m c 2 t) : Vec Ideal S1x16x1152 .f32) (ix3 0 i j) : EReal) = refR m c (ix3 (lOf t) i (jOf t j)) := by
  unfold out0_3 r0_0 r0_1 r0_2 r0_3
  have z3 : (![0, 0, 0] : Fin 3 → ℕ) = fun _ => 0 := by decide
  have z2 : (![0, 0] : Fin 2 → ℕ) = fun _ => 0 := by decide
  rw [View.canon_unit_zero z3, View.ld_unit_zero z2, View.ld_unit_zero z3, View.ld_unit_zero z3]
  refine (pay_at _ _ _ i j).trans ?_
  refine Eq.trans ?_ (Cert.RefModulIdeal.Val.result_at _ _ _ _ _ _).symm
  unfold Cert.RefModulIdeal.Val.modulR
  have e2 : (iblk m c 2 t (ix3 0 0 j) : EReal) = argB m c (ix2 (lOf t) (jOf t j)) := (blk2 m c t j).trans (by rw [V0]; pointwise)
  simp only [blk0, blk1]
  exact congrArg (_ + ·) e2

theorem final (c : Dev nD) : (dats m 0 c).arrAt 3 (cfgs 0).N = refR m c := by
  refine (dats m 0 c).arrAt_eq_of_covers 3 _ (by decide +kernel) fun t _ y => ?_
  blk_simp
  rw [after0_3]
  refine (congrArg (out0_3 (iblk m c 0 t) (iblk m c 1 t) (iblk m c 2 t) : Vec Ideal S1x16x1152 .f32) (ix3_flat y)).trans ?_
  refine (after_at m c t (y 1) (y 2)).trans ?_
  blk_ext [idx t]

end Cert.ModulIdeal.Val

end
-- ==== Proof.lean ====
/- The proof of the claims: the frames of the kernels, of their ideal programs and of the references, the attentions' named
   constants, and the equality of each kernel's result with its reference's over the extended reals. -/
module

public import proofs.«01_k».proof.Defs
public import proofs.«01_k».proof.Proof.Gen.Fox.Frame
public import proofs.«01_k».proof.Proof.FoxFinal
public import proofs.«01_k».proof.Proof.Gen.Ffn.Frame
public import proofs.«01_k».proof.Proof.Gen.FfnIdeal.Value
public import proofs.«01_k».proof.Proof.Gen.RefFfnIdeal.Run
public import proofs.«01_k».proof.Proof.FfnFinal
public import proofs.«01_k».proof.Proof.Gen.MixFfn.Frame
public import proofs.«01_k».proof.Proof.Gen.MixFfnIdeal.Value
public import proofs.«01_k».proof.Proof.Gen.RefMixFfnIdeal.Run
public import proofs.«01_k».proof.Proof.MixFinal
public import proofs.«01_k».proof.Proof.FoxPre
public import proofs.«01_k».proof.Proof.Gen.Mla.Frame
public import proofs.«01_k».proof.Proof.MlaFinal
public import proofs.«01_k».proof.Proof.MlaPre
public import proofs.«01_k».proof.Proof.Gen.Modul.Frame
public import proofs.«01_k».proof.Proof.Gen.Hgrn.Frame
public import proofs.«01_k».proof.Proof.Gen.ModulIdeal.Value
public import proofs.«01_k».proof.Proof.Gen.RefModulIdeal.Run
public import proofs.«01_k».proof.Proof.ModulFinal
public import Idealize.ShloMosaic.Lib.Quiescent

@[expose] public section

noncomputable section

namespace Cert.Proof

open Idealize.ShloMosaic Idealize.SL.Sem

/-- The kernel terminates without fault and leaves its arguments and counters as they were. -/
theorem frame_fox : Cert.quiescent_Fox := fun m ρ _ => Cert.Fox.Gen.frame m ρ
/-- So does its ideal program. -/
theorem frame_foxIdeal : Cert.quiescent_FoxIdeal := fun m ρ _ => Cert.FoxIdeal.Gen.frame m ρ
/-- So does the reference. -/
theorem frame_ref : Cert.quiescent_RefFoxIdeal := fun m ρ _ =>
  (θ_run Cert.RefFoxIdeal.defs _ _).mono (fun r h => ⟨fun c => (h c).2, Idealize.ShloMosaic.sem_eq_zero_of_no_sems (by decide) r.2⟩)
    (Cert.RefFoxIdeal.Value.run (F := Ideal) m ρ)

/-- The kernel and the reference compute the same function over the extended reals, on finite queries, keys and forget sums. -/
theorem algebraic_fox : Cert.algebraic_FoxIdeal_RefFoxIdeal_pre_finite_scores := by
  intro m g m' g' hpre hag
  refine ⟨fun c => Cert.FoxIdeal.Att.refR m c, ?_, ?_⟩
  · refine (θ_run Cert.FoxIdeal.defs _ _).mono (fun r h c => ⟨(h c).1.trans ?_, (h c).2⟩) (Cert.FoxIdeal.Value.run_blocks (F := Ideal) m g)
    obtain ⟨hq, hk, hc⟩ := Cert.Pre_finite_scores.Att.fin_args _ _ _ _ (hpre c)
    choose q hq using hq
    choose k hk using hk
    choose cc hc using hc
    exact Cert.FoxIdeal.Att.final m c hq hk hc
  · refine (θ_run Cert.RefFoxIdeal.defs _ _).mono (fun r h c => ⟨(h c).1.trans ?_, (h c).2⟩) (Cert.RefFoxIdeal.Value.run (F := Ideal) m' g')
    refine (Cert.RefFoxIdeal.Att.res_eq m' c).trans ?_
    rw [(hag c).1, (hag c).2.1, (hag c).2.2.1, (hag c).2.2.2]

/-- The feed-forward kernel terminates without fault and leaves its arguments and counters as they were. -/
theorem frame_ffn : Cert.quiescent_Ffn := fun m ρ _ => Cert.Ffn.Gen.frame m ρ
/-- So does its ideal program. -/
theorem frame_ffnIdeal : Cert.quiescent_FfnIdeal := fun m ρ _ => Cert.FfnIdeal.Gen.frame m ρ
/-- So does its reference. -/
theorem frame_refFfn : Cert.quiescent_RefFfnIdeal := fun m ρ _ =>
  (θ_run Cert.RefFfnIdeal.defs _ _).mono (fun r h => ⟨fun c => (h c).2, Idealize.ShloMosaic.sem_eq_zero_of_no_sems (by decide) r.2⟩)
    (Cert.RefFfnIdeal.Value.run (F := Ideal) m ρ)

/-- The feed-forward kernel and its reference compute the same function over the extended reals. -/
theorem algebraic_ffn : Cert.algebraic_FfnIdeal_RefFfnIdeal := by
  intro m g m' g' _ hag
  refine ⟨fun c => Cert.FfnIdeal.Val.refR m c, ?_, ?_⟩
  · exact (θ_run Cert.FfnIdeal.defs _ _).mono (fun r h c => ⟨(h c).1.trans (Cert.FfnIdeal.Val.final m c), (h c).2⟩) (Cert.FfnIdeal.Value.run_blocks (F := Ideal) m g)
  · refine (θ_run Cert.RefFfnIdeal.defs _ _).mono (fun r h c => ⟨(h c).1.trans ?_, (h c).2⟩) (Cert.RefFfnIdeal.Value.run (F := Ideal) m' g')
    refine (Cert.RefFfnIdeal.Val.res_eq m' c).trans ?_
    rw [(hag c).1, (hag c).2.1, (hag c).2.2.1, (hag c).2.2.2.1, (hag c).2.2.2.2.1, (hag c).2.2.2.2.2]

/-- The projecting feed-forward kernel terminates without fault and leaves its arguments and counters as they were. -/
theorem frame_mixFfn : Cert.quiescent_MixFfn := fun m ρ _ => Cert.MixFfn.Gen.frame m ρ
/-- So does its ideal program. -/
theorem frame_mixFfnIdeal : Cert.quiescent_MixFfnIdeal := fun m ρ _ => Cert.MixFfnIdeal.Gen.frame m ρ
/-- So does its reference. -/
theorem frame_refMixFfn : Cert.quiescent_RefMixFfnIdeal := fun m ρ _ =>
  (θ_run Cert.RefMixFfnIdeal.defs _ _).mono (fun r h => ⟨fun c => (h c).2, Idealize.ShloMosaic.sem_eq_zero_of_no_sems (by decide) r.2⟩)
    (Cert.RefMixFfnIdeal.Value.run (F := Ideal) m ρ)

/-- The projecting feed-forward kernel and its reference compute the same function over the extended reals. -/
theorem algebraic_mixFfn : Cert.algebraic_MixFfnIdeal_RefMixFfnIdeal := by
  intro m g m' g' _ hag
  refine ⟨fun c => Cert.MixFfnIdeal.Val.refR m c, ?_, ?_⟩
  · exact (θ_run Cert.MixFfnIdeal.defs _ _).mono (fun r h c => ⟨(h c).1.trans (Cert.MixFfnIdeal.Val.final m c), (h c).2⟩) (Cert.MixFfnIdeal.Value.run_blocks (F := Ideal) m g)
  · refine (θ_run Cert.RefMixFfnIdeal.defs _ _).mono (fun r h c => ⟨(h c).1.trans ?_, (h c).2⟩) (Cert.RefMixFfnIdeal.Value.run (F := Ideal) m' g')
    refine ((Cert.RefMixFfnIdeal.Value.val2_main_v95 _).symm.trans (Cert.RefMixFfnIdeal.Val.res_eq m' c)).trans ?_
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]

/-- The latent attention kernel terminates without fault and leaves its arguments and counters as they were. -/
theorem frame_mla : Cert.quiescent_Mla := fun m ρ _ => Cert.Mla.Gen.frame m ρ
/-- So does its ideal program. -/
theorem frame_mlaIdeal : Cert.quiescent_MlaIdeal := fun m ρ _ => Cert.MlaIdeal.Gen.frame m ρ
/-- So does its reference. -/
theorem frame_refMla : Cert.quiescent_RefMlaIdeal := fun m ρ _ =>
  (θ_run Cert.RefMlaIdeal.defs _ _).mono (fun r h => ⟨fun c => (h c).2, Idealize.ShloMosaic.sem_eq_zero_of_no_sems (by decide) r.2⟩)
    (Cert.RefMlaIdeal.Value.run (F := Ideal) m ρ)

/-- The latent attention kernel and its reference compute the same function over the extended reals, on finite queries and keys. -/
theorem algebraic_mla : Cert.algebraic_MlaIdeal_RefMlaIdeal_pre_finite_latents := by
  intro m g m' g' hpre hag
  refine ⟨fun c => Cert.MlaIdeal.Att.refR m c, ?_, ?_⟩
  · refine (θ_run Cert.MlaIdeal.defs _ _).mono (fun r h c => ⟨(h c).1.trans ?_, (h c).2⟩) (Cert.MlaIdeal.Value.run_blocks (F := Ideal) m g)
    obtain ⟨hq, hk⟩ := Cert.Pre_finite_latents.Att.fin_args _ _ _ (hpre c)
    choose q hq using hq
    choose k hk using hk
    exact Cert.MlaIdeal.Att.final m c hq hk
  · refine (θ_run Cert.RefMlaIdeal.defs _ _).mono (fun r h c => ⟨(h c).1.trans ?_, (h c).2⟩) (Cert.RefMlaIdeal.Value.run (F := Ideal) m' g')
    refine (Cert.RefMlaIdeal.Att.res_eq m' c).trans ?_
    rw [(hag c).1, (hag c).2.1, (hag c).2.2]

/-- The modulation kernel terminates without fault and leaves its arguments and counters as they were. -/
theorem frame_modul : Cert.quiescent_Modul := fun m ρ _ => Cert.Modul.Gen.frame m ρ
/-- So does its ideal program. -/
theorem frame_modulIdeal : Cert.quiescent_ModulIdeal := fun m ρ _ => Cert.ModulIdeal.Gen.frame m ρ
/-- So does its reference. -/
theorem frame_refModul : Cert.quiescent_RefModulIdeal := fun m ρ _ =>
  (θ_run Cert.RefModulIdeal.defs _ _).mono (fun r h => ⟨fun c => (h c).2, Idealize.ShloMosaic.sem_eq_zero_of_no_sems (by decide) r.2⟩)
    (Cert.RefModulIdeal.Value.run (F := Ideal) m ρ)

/-- The HGRN2 kernel terminates without fault and leaves its arguments and counters as they were. -/
theorem frame_hgrn : Cert.quiescent_Hgrn := fun m ρ _ => Cert.Hgrn.Gen.frame m ρ

/-- The modulation kernel and its reference compute the same function over the extended reals. -/
theorem algebraic_modul : Cert.algebraic_ModulIdeal_RefModulIdeal := by
  intro m g m' g' _ hag
  refine ⟨fun c => Cert.ModulIdeal.Val.refR m c, ?_, ?_⟩
  · exact (θ_run Cert.ModulIdeal.defs _ _).mono (fun r h c => ⟨(h c).1.trans (Cert.ModulIdeal.Val.final m c), (h c).2⟩) (Cert.ModulIdeal.Value.run_blocks (F := Ideal) m g)
  · refine (θ_run Cert.RefModulIdeal.defs _ _).mono (fun r h c => ⟨(h c).1.trans ?_, (h c).2⟩) (Cert.RefModulIdeal.Value.run (F := Ideal) m' g')
    rw [(hag c).1, (hag c).2.1, (hag c).2.2]
    rfl

theorem claim : Cert.Claim := ⟨Cert.Fox.Gen.facts, Cert.FoxIdeal.Gen.facts, Cert.RefFoxIdeal.Gen.facts, Cert.Ffn.Gen.facts, Cert.FfnIdeal.Gen.facts, Cert.RefFfnIdeal.Gen.facts, Cert.MixFfn.Gen.facts, Cert.MixFfnIdeal.Gen.facts, Cert.RefMixFfnIdeal.Gen.facts,
  Cert.Mla.Gen.facts, Cert.MlaIdeal.Gen.facts, Cert.RefMlaIdeal.Gen.facts, Cert.Modul.Gen.facts, Cert.ModulIdeal.Gen.facts, Cert.RefModulIdeal.Gen.facts, Cert.Hgrn.Gen.facts, Cert.Pre_finite_scores.Gen.facts, Cert.Pre_finite_latents.Gen.facts,
  frame_fox, frame_foxIdeal, fun m ρ _ => frame_foxIdeal m ρ trivial, frame_ref, fun m ρ _ => frame_ref m ρ trivial,
  frame_ffn, frame_ffnIdeal, frame_refFfn, frame_mixFfn, frame_mixFfnIdeal, frame_refMixFfn,
  frame_mla, frame_mlaIdeal, fun m ρ _ => frame_mlaIdeal m ρ trivial, frame_refMla, fun m ρ _ => frame_refMla m ρ trivial, frame_modul, frame_modulIdeal, frame_refModul, frame_hgrn,
  ⟨IdealRules.named_const.statement _ _ _ _ _ rfl, IdealRules.named_const.statement _ _ _ _ _ rfl⟩, algebraic_fox, trivial, algebraic_ffn, trivial, algebraic_mixFfn,
  IdealRules.named_const.statement _ _ _ _ _ rfl, algebraic_mla, trivial, algebraic_modul⟩

end Cert.Proof

end
